-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 [hPre_causal12 : Cert.Pre_causal12.Facts] (m : (ℓ : Loc Cert.Kernel12.nD Cert.Kernel12.τ Cert.Kernel12.sig) → Buf (Elt Bits) ℓ) : Prop :=
  ∀ c : Dev Cert.Kernel12.nD,
    (Cert.Pre_causal12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4))).1 = (fun _ => 1#1)
    ∧ (Cert.Pre_causal12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4))).2.1 = (fun _ => 1#1)
    ∧ (Cert.Pre_causal12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4))).2.2.1 = (fun _ => 1#1)
    ∧ (Cert.Pre_causal12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4))).2.2.2.1 = (fun _ => 1#1)
    ∧ (Cert.Pre_causal12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4))).2.2.2.2.1 = (fun _ => 1#1)
    ∧ (Cert.Pre_causal12.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4))).2.2.2.2.2 = (fun _ => 1#1)

def Pre_Kernel12Ideal [hPre_causal12 : Cert.Pre_causal12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_causal12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).1 = (fun _ => 1#1)
    ∧ (Cert.Pre_causal12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.1 = (fun _ => 1#1)
    ∧ (Cert.Pre_causal12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.1 = (fun _ => 1#1)
    ∧ (Cert.Pre_causal12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2.1 = (fun _ => 1#1)
    ∧ (Cert.Pre_causal12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2.2.1 = (fun _ => 1#1)
    ∧ (Cert.Pre_causal12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))).2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_causal12 [hPre_causal12 : Cert.Pre_causal12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_causal12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).1 = (fun _ => 1#1)
    ∧ (Cert.Pre_causal12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.1 = (fun _ => 1#1)
    ∧ (Cert.Pre_causal12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.1 = (fun _ => 1#1)
    ∧ (Cert.Pre_causal12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2.1 = (fun _ => 1#1)
    ∧ (Cert.Pre_causal12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2.2.1 = (fun _ => 1#1)
    ∧ (Cert.Pre_causal12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))).2.2.2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] [hPre_causal12 : Cert.Pre_causal12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] [hPre_causal12 : Cert.Pre_causal12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_causal12 [hReference12Ideal : Cert.Reference12Ideal.Facts] [hPre_causal12 : Cert.Pre_causal12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_causal12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v99) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)) (v3 : (c : Dev Cert.Kernel4Ideal.nD) → Buf (Elt Ideal) ((c.tc : Thread Cert.Kernel4Ideal.nD Cert.Kernel4Ideal.τ).loc Cert.Kernel4Ideal.main_v14_3)) (v4 : (c : Dev Cert.Kernel4Ideal.nD) → Buf (Elt Ideal) ((c.tc : Thread Cert.Kernel4Ideal.nD Cert.Kernel4Ideal.τ).loc Cert.Kernel4Ideal.main_v14_4)) (v5 : (c : Dev Cert.Kernel4Ideal.nD) → Buf (Elt Ideal) ((c.tc : Thread Cert.Kernel4Ideal.nD Cert.Kernel4Ideal.τ).loc Cert.Kernel4Ideal.main_v14_5)) (v6 : (c : Dev Cert.Kernel4Ideal.nD) → Buf (Elt Ideal) ((c.tc : Thread Cert.Kernel4Ideal.nD Cert.Kernel4Ideal.τ).loc Cert.Kernel4Ideal.main_v14_6)) (v7 : (c : Dev Cert.Kernel4Ideal.nD) → Buf (Elt Ideal) ((c.tc : Thread Cert.Kernel4Ideal.nD Cert.Kernel4Ideal.τ).loc Cert.Kernel4Ideal.main_v14_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_v14_3) = v3 c
          ∧ r.2.mem ((c.tc : Thread Cert.Kernel4Ideal.nD Cert.Kernel4Ideal.τ).loc Cert.Kernel4Ideal.main_v14_4) = v4 c
          ∧ r.2.mem ((c.tc : Thread Cert.Kernel4Ideal.nD Cert.Kernel4Ideal.τ).loc Cert.Kernel4Ideal.main_v14_5) = v5 c
          ∧ r.2.mem ((c.tc : Thread Cert.Kernel4Ideal.nD Cert.Kernel4Ideal.τ).loc Cert.Kernel4Ideal.main_v14_6) = v6 c
          ∧ r.2.mem ((c.tc : Thread Cert.Kernel4Ideal.nD Cert.Kernel4Ideal.τ).loc Cert.Kernel4Ideal.main_v14_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v47) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_v40) = v5 c
          ∧ r.2.mem ((c.tc : Thread Cert.Reference4Ideal.nD Cert.Reference4Ideal.τ).loc Cert.Reference4Ideal.main_v48) = v6 c
          ∧ r.2.mem ((c.tc : Thread Cert.Reference4Ideal.nD Cert.Reference4Ideal.τ).loc Cert.Reference4Ideal.main_v49) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v22_0)) (v1 : (c : Dev Cert.Kernel6Ideal.nD) → Buf (Elt Ideal) ((c.tc : Thread Cert.Kernel6Ideal.nD Cert.Kernel6Ideal.τ).loc Cert.Kernel6Ideal.main_v22_1)) (v2 : (c : Dev Cert.Kernel6Ideal.nD) → Buf (Elt Ideal) ((c.tc : Thread Cert.Kernel6Ideal.nD Cert.Kernel6Ideal.τ).loc Cert.Kernel6Ideal.main_v22_2)) (v3 : (c : Dev Cert.Kernel6Ideal.nD) → Buf (Elt Ideal) ((c.tc : Thread Cert.Kernel6Ideal.nD Cert.Kernel6Ideal.τ).loc Cert.Kernel6Ideal.main_v22_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v22_0) = v0 c
          ∧ r.2.mem ((c.tc : Thread Cert.Kernel6Ideal.nD Cert.Kernel6Ideal.τ).loc Cert.Kernel6Ideal.main_v22_1) = v1 c
          ∧ r.2.mem ((c.tc : Thread Cert.Kernel6Ideal.nD Cert.Kernel6Ideal.τ).loc Cert.Kernel6Ideal.main_v22_2) = v2 c
          ∧ r.2.mem ((c.tc : Thread Cert.Kernel6Ideal.nD Cert.Kernel6Ideal.τ).loc Cert.Kernel6Ideal.main_v22_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v46) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v50) = v2 c
          ∧ r.2.mem ((c.tc : Thread Cert.Reference6Ideal.nD Cert.Reference6Ideal.τ).loc Cert.Reference6Ideal.main_v51) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel2_Kernel2Ideal : Prop :=
  IdealRules.named_const.Statement Cert.Kernel2Ideal.κ "sqrt_half" .f32 0x3F3504F3#32 ((Real.sqrt (1 / 2) : ℝ) : EReal)
  ∧ IdealRules.named_const.Statement Cert.Kernel2Ideal.κ "half_erf_slope" .f32 0x3ECC422A#32 (((1 / 2) * ((9465531 / 8388608) * (Real.sqrt (1 / 2))) : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v128) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_v130) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_v75) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v30) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v33) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)) (v2 : (c : Dev Cert.Kernel10Ideal.nD) → Buf (Elt Ideal) ((c.tc : Thread Cert.Kernel10Ideal.nD Cert.Kernel10Ideal.τ).loc Cert.Kernel10Ideal.main_v11_2)) (v3 : (c : Dev Cert.Kernel10Ideal.nD) → Buf (Elt Ideal) ((c.tc : Thread Cert.Kernel10Ideal.nD Cert.Kernel10Ideal.τ).loc Cert.Kernel10Ideal.main_v11_3)) (v4 : (c : Dev Cert.Kernel10Ideal.nD) → Buf (Elt Ideal) ((c.tc : Thread Cert.Kernel10Ideal.nD Cert.Kernel10Ideal.τ).loc Cert.Kernel10Ideal.main_v11_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_v11_2) = v2 c
          ∧ r.2.mem ((c.tc : Thread Cert.Kernel10Ideal.nD Cert.Kernel10Ideal.τ).loc Cert.Kernel10Ideal.main_v11_3) = v3 c
          ∧ r.2.mem ((c.tc : Thread Cert.Kernel10Ideal.nD Cert.Kernel10Ideal.τ).loc Cert.Kernel10Ideal.main_v11_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v25) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_v27) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  IdealRules.named_const.Statement Cert.Kernel11Ideal.κ "sqrt_half" .f32 0x3F3504F3#32 ((Real.sqrt (1 / 2) : ℝ) : EReal)

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v8)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v8) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  IdealRules.named_const.Statement Cert.Kernel12Ideal.κ "mask" .f32 0xF149F2CA#32 ⊥
  ∧ IdealRules.named_const.Statement Cert.Kernel12Ideal.κ "log2e" .f32 0x3FB8AA3B#32 (((Real.log 2)⁻¹ : ℝ) : EReal)

def algebraic_Kernel12Ideal_Reference12Ideal [hKernel12Ideal : Cert.Kernel12Ideal.Facts] [hReference12Ideal : Cert.Reference12Ideal.Facts] [hPre_causal12 : Cert.Pre_causal12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v31) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)) (v2 : (c : Dev Cert.Kernel13Ideal.nD) → Buf (Elt Ideal) ((c.tc : Thread Cert.Kernel13Ideal.nD Cert.Kernel13Ideal.τ).loc Cert.Kernel13Ideal.main_v5_2)) (v3 : (c : Dev Cert.Kernel13Ideal.nD) → Buf (Elt Ideal) ((c.tc : Thread Cert.Kernel13Ideal.nD Cert.Kernel13Ideal.τ).loc Cert.Kernel13Ideal.main_v5_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_v5_2) = v2 c
          ∧ r.2.mem ((c.tc : Thread Cert.Kernel13Ideal.nD Cert.Kernel13Ideal.τ).loc Cert.Kernel13Ideal.main_v5_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_v21) = v1 c
          ∧ r.2.mem ((c.tc : Thread Cert.Reference13Ideal.nD Cert.Reference13Ideal.τ).loc Cert.Reference13Ideal.main_v22) = v2 c
          ∧ r.2.mem ((c.tc : Thread Cert.Reference13Ideal.nD Cert.Reference13Ideal.τ).loc Cert.Reference13Ideal.main_v35) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)) (v2 : (c : Dev Cert.Kernel14Ideal.nD) → Buf (Elt Ideal) ((c.tc : Thread Cert.Kernel14Ideal.nD Cert.Kernel14Ideal.τ).loc Cert.Kernel14Ideal.main_v5_2)) (v3 : (c : Dev Cert.Kernel14Ideal.nD) → Buf (Elt Ideal) ((c.tc : Thread Cert.Kernel14Ideal.nD Cert.Kernel14Ideal.τ).loc Cert.Kernel14Ideal.main_v5_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_v5_2) = v2 c
          ∧ r.2.mem ((c.tc : Thread Cert.Kernel14Ideal.nD Cert.Kernel14Ideal.τ).loc Cert.Kernel14Ideal.main_v5_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v35) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_v37) = v2 c
          ∧ r.2.mem ((c.tc : Thread Cert.Reference14Ideal.nD Cert.Reference14Ideal.τ).loc Cert.Reference14Ideal.main_v38) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  IdealRules.named_const.Statement Cert.Kernel15Ideal.κ "inv384" .f32 0x3B2AAAAB#32 ((1 / 384 : ℝ) : EReal)
  ∧ IdealRules.named_const.Statement Cert.Kernel15Ideal.κ "inv96" .f32 0x3C2AAAAB#32 ((1 / 96 : ℝ) : EReal)
  ∧ IdealRules.named_const.Statement Cert.Kernel15Ideal.κ "scale" .f32 0x3E16C740#32 ((((Real.sqrt 96) * (Real.log 2))⁻¹ : ℝ) : EReal)

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v45_0)) (v1 : (c : Dev Cert.Kernel15Ideal.nD) → Buf (Elt Ideal) ((c.tc : Thread Cert.Kernel15Ideal.nD Cert.Kernel15Ideal.τ).loc Cert.Kernel15Ideal.main_v45_1)) (v2 : (c : Dev Cert.Kernel15Ideal.nD) → Buf (Elt Ideal) ((c.tc : Thread Cert.Kernel15Ideal.nD Cert.Kernel15Ideal.τ).loc Cert.Kernel15Ideal.main_v45_2)) (v3 : (c : Dev Cert.Kernel15Ideal.nD) → Buf (Elt Ideal) ((c.tc : Thread Cert.Kernel15Ideal.nD Cert.Kernel15Ideal.τ).loc Cert.Kernel15Ideal.main_v45_3)) (v4 : (c : Dev Cert.Kernel15Ideal.nD) → Buf (Elt Ideal) ((c.tc : Thread Cert.Kernel15Ideal.nD Cert.Kernel15Ideal.τ).loc Cert.Kernel15Ideal.main_v45_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v45_0) = v0 c
          ∧ r.2.mem ((c.tc : Thread Cert.Kernel15Ideal.nD Cert.Kernel15Ideal.τ).loc Cert.Kernel15Ideal.main_v45_1) = v1 c
          ∧ r.2.mem ((c.tc : Thread Cert.Kernel15Ideal.nD Cert.Kernel15Ideal.τ).loc Cert.Kernel15Ideal.main_v45_2) = v2 c
          ∧ r.2.mem ((c.tc : Thread Cert.Kernel15Ideal.nD Cert.Kernel15Ideal.τ).loc Cert.Kernel15Ideal.main_v45_3) = v3 c
          ∧ r.2.mem ((c.tc : Thread Cert.Kernel15Ideal.nD Cert.Kernel15Ideal.τ).loc Cert.Kernel15Ideal.main_v45_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v139) = v0 c
          ∧ r.2.mem ((c.tc : Thread Cert.Reference15Ideal.nD Cert.Reference15Ideal.τ).loc Cert.Reference15Ideal.main_v143) = v1 c
          ∧ r.2.mem ((c.tc : Thread Cert.Reference15Ideal.nD Cert.Reference15Ideal.τ).loc Cert.Reference15Ideal.main_v145) = v2 c
          ∧ r.2.mem ((c.tc : Thread Cert.Reference15Ideal.nD Cert.Reference15Ideal.τ).loc Cert.Reference15Ideal.main_v146) = v3 c
          ∧ r.2.mem ((c.tc : Thread Cert.Reference15Ideal.nD Cert.Reference15Ideal.τ).loc Cert.Reference15Ideal.main_v147) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel2 : Cert.Kernel2.Facts) (hKernel2Ideal : Cert.Kernel2Ideal.Facts) (hReference2Ideal : Cert.Reference2Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite2 : Cert.Pre_finite2.Facts) (hPre_finite8 : Cert.Pre_finite8.Facts) (hPre_finite9 : Cert.Pre_finite9.Facts) (hPre_finite10 : Cert.Pre_finite10.Facts) (hPre_finite11 : Cert.Pre_finite11.Facts) (hPre_causal12 : Cert.Pre_causal12.Facts) (hPre_finite13 : Cert.Pre_finite13.Facts) (hPre_finite14 : Cert.Pre_finite14.Facts) (hPre_finite15 : Cert.Pre_finite15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12) (hPre_causal12 := hPre_causal12)
    ∧ quiescent_Kernel12Ideal (hKernel12Ideal := hKernel12Ideal) (hPre_causal12 := hPre_causal12)
    ∧ quiescent_Reference12Ideal (hReference12Ideal := hReference12Ideal)
    ∧ quiescent_Reference12Ideal_pre_causal12 (hReference12Ideal := hReference12Ideal) (hPre_causal12 := hPre_causal12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal) (hPre_causal12 := hPre_causal12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal_pre_finite15 (hKernel15Ideal := hKernel15Ideal) (hReference15Ideal := hReference15Ideal) (hPre_finite15 := hPre_finite15)
-- ==== Pre_causal12.lean ====
abbrev S40 : Shape := ⟨1, ![40]⟩
abbrev S8192x1024 : Shape := ⟨2, ![8192, 1024]⟩
abbrev S_ : Shape := ⟨0, ![]⟩
abbrev S8192x8x128 : Shape := ⟨3, ![8192, 8, 128]⟩
abbrev S8192x8x1 : Shape := ⟨3, ![8192, 8, 1]⟩
abbrev S8192x8 : Shape := ⟨2, ![8192, 8]⟩

class Facts : Prop where
  bitsLt_bf16_f32 : FTy.bits .bf16 < FTy.bits .f32
  bcast_S_S8192x1024 : S_.BroadcastsInDim S8192x1024 (![] : Fin 0 → Fin S8192x1024.rank)
  shapeCasts_S8192x1024_S8192x8x128 : S8192x1024.ShapeCasts S8192x8x128
  slices_S8192x8x128_S8192x8x1_0_0_64 : S8192x8x128.Slices ![0, 0, 64] S8192x8x1
  shapeCasts_S8192x8x1_S8192x8 : S8192x8x1.ShapeCasts S8192x8
  bcast_S_S8192x8 : S_.BroadcastsInDim S8192x8 (![] : Fin 0 → Fin S8192x8.rank)

variable [Facts]

noncomputable abbrev lit0 : Fin 40 → BitVec 32 := fun
  | 0 => 0#32 | 1 => 1#32 | 2 => 2#32 | 3 => 3#32 | 4 => 4#32 | 5 => 4#32 | 6 => 5#32 | 7 => 5#32
  | 8 => 6#32 | 9 => 6#32 | 10 => 7#32 | 11 => 7#32 | 12 => 8#32 | 13 => 8#32 | 14 => 8#32 | 15 => 9#32
  | 16 => 9#32 | 17 => 9#32 | 18 => 10#32 | 19 => 10#32 | 20 => 10#32 | 21 => 11#32 | 22 => 11#32 | 23 => 11#32
  | 24 => 12#32 | 25 => 12#32 | 26 => 12#32 | 27 => 12#32 | 28 => 13#32 | 29 => 13#32 | 30 => 13#32 | 31 => 13#32
  | 32 => 14#32 | 33 => 14#32 | 34 => 14#32 | 35 => 14#32 | 36 => 15#32 | 37 => 15#32 | 38 => 15#32 | 39 => 15#32
  | _ => 0#32

noncomputable abbrev lit1 : Fin 40 → BitVec 32 := fun
  | 0 => 0#32 | 1 => 0#32 | 2 => 0#32 | 3 => 0#32 | 4 => 0#32 | 5 => 1#32 | 6 => 0#32 | 7 => 1#32
  | 8 => 0#32 | 9 => 1#32 | 10 => 0#32 | 11 => 1#32 | 12 => 0#32 | 13 => 1#32 | 14 => 2#32 | 15 => 0#32
  | 16 => 1#32 | 17 => 2#32 | 18 => 0#32 | 19 => 1#32 | 20 => 2#32 | 21 => 0#32 | 22 => 1#32 | 23 => 2#32
  | 24 => 0#32 | 25 => 1#32 | 26 => 2#32 | 27 => 3#32 | 28 => 0#32 | 29 => 1#32 | 30 => 2#32 | 31 => 3#32
  | 32 => 0#32 | 33 => 1#32 | 34 => 2#32 | 35 => 3#32 | 36 => 0#32 | 37 => 1#32 | 38 => 2#32 | 39 => 3#32
  | _ => 0#32

def fn_part1 {F : FTy → Type} [FloatOps F] (main_v3 : IVec S8192x1024 1) (main_v7 : IVec S8192x1024 1) (main_v11 : IVec S8192x1024 1) (main_v12 : IVec S40 1) (main_v13 : IVec S40 1) (main_v17 : FVec F S8192x8 .f32) (main_cst_3 : FVec F S_ .f32) : IVec S40 1 × IVec S40 1 × IVec S8192x1024 1 × IVec S8192x1024 1 × IVec S8192x1024 1 × IVec S8192x8 1 :=
  let main_v18 : FVec F S8192x8 .f32 := broadcastInDim S8192x8 ![] bcast_S_S8192x8 main_cst_3
  let main_v19 : IVec S8192x8 1 := cmpf .oeq main_v17 main_v18
  (main_v12, main_v13, main_v3, main_v7, main_v11, main_v19)

def fn {F : FTy → Type} [FloatOps F] (main_arg0 : IVec S40 32) (main_arg1 : IVec S40 32) (main_arg2 : FVec F S8192x1024 .bf16) (main_arg3 : FVec F S8192x1024 .bf16) (main_arg4 : FVec F S8192x1024 .bf16) : IVec S40 1 × IVec S40 1 × IVec S8192x1024 1 × IVec S8192x1024 1 × IVec S8192x1024 1 × IVec S8192x8 1 :=
  let main_c : IVec S40 32 := fun i => lit0 (S40.rowMajor i)
  let main_c_0 : IVec S40 32 := fun i => lit1 (S40.rowMajor i)
  let main_v0 : FVec F S8192x1024 .f32 := (extf .f32 · bitsLt_bf16_f32) main_arg2
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg3
  let main_v5 : FVec F S8192x1024 .f32 := Host.absf main_v4
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_v8 : FVec F S8192x1024 .f32 := (extf .f32 · bitsLt_bf16_f32) main_arg4
  let main_v9 : FVec F S8192x1024 .f32 := Host.absf main_v8
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : IVec S40 1 := cmpi .eq main_arg0 main_c
  let main_v13 : IVec S40 1 := cmpi .eq main_arg1 main_c_0
  let main_v14 : FVec F S8192x1024 .f32 := (extf .f32 · bitsLt_bf16_f32) main_arg4
  let main_v15 : FVec F S8192x8x128 .f32 := shapeCast S8192x8x128 main_v14 shapeCasts_S8192x1024_S8192x8x128
  let main_v16 : FVec F S8192x8x1 .f32 := (extractStridedSlice S8192x8x1 ![0, 0, 64] · slices_S8192x8x128_S8192x8x1_0_0_64) main_v15
  let main_v17 : FVec F S8192x8 .f32 := shapeCast S8192x8 main_v16 shapeCasts_S8192x8x1_S8192x8
  let main_cst_3 : FVec F S_ .f32 := constant S_ .f32 0x3F800000#32
  fn_part1 (F := F) main_v3 main_v7 main_v11 main_v12 main_v13 main_v17 main_cst_3
-- ==== Pre_finite.lean ====
abbrev S256x1024 : Shape := ⟨2, ![256, 1024]⟩
abbrev S1x1024 : Shape := ⟨2, ![1, 1024]⟩
abbrev S1024x1024 : Shape := ⟨2, ![1024, 1024]⟩
abbrev S1x128 : Shape := ⟨2, ![1, 128]⟩
abbrev S256x512 : Shape := ⟨2, ![256, 512]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x128 : S_.BroadcastsInDim S1x128 (![] : Fin 0 → Fin S1x128.rank)
  reducesTo_S1x128_S_d0_1 : S1x128.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_arg5 : FVec F S256x512 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  main_v28

def fn {F : FTy → Type} [FloatOps F] (main_arg0 : FVec F S256x1024 .f32) (main_arg1 : FVec F S1x1024 .f32) (main_arg2 : FVec F S1024x1024 .f32) (main_arg3 : FVec F S1x128 .f32) (main_arg4 : FVec F S256x512 .f32) (main_arg5 : FVec F S256x512 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_v13 main_v16
-- ==== Pre_finite10.lean ====
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x3072 : S_.BroadcastsInDim S8192x3072 (![] : Fin 0 → Fin S8192x3072.rank)
  reducesTo_S8192x3072_S_d0_1 : S8192x3072.ReducesTo [0, 1] S_
  bcast_S_S1x3072 : S_.BroadcastsInDim S1x3072 (![] : Fin 0 → Fin S1x3072.rank)
  reducesTo_S1x3072_S_d0_1 : S1x3072.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S512x1024 .f32) (main_arg8 : FVec F S512x1024 .f32) (main_arg9 : FVec F S1024x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  main_v48

def fn_part1 {F : FTy → Type} [FloatOps F] (main_arg4 : FVec F S8192x3072 .f32) (main_arg5 : FVec F S1x3072 .f32) (main_arg6 : FVec F S512x1024 .f32) (main_arg7 : FVec F S512x1024 .f32) (main_arg8 : FVec F S512x1024 .f32) (main_arg9 : FVec F S1024x1024 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x3072 .f32 := Host.absf main_arg4
  let main_cst_6 : FVec F S_ .f32 := constant S_ .f32 0x7F800000#32
  let main_v20 : FVec F S8192x3072 .f32 := broadcastInDim S8192x3072 ![] bcast_S_S8192x3072 main_cst_6
  let main_v21 : IVec S8192x3072 1 := cmpf .olt main_v19 main_v20
  let main_c_7 : IVec S_ 1 := constantI S_ 1 1#1
  let main_v22 : IVec S_ 1 := (fun x v => Host.reduce IntOp.andi x v reducesTo_S8192x3072_S_d0_1 h_S_) main_v21 main_c_7
  let main_v23 : IVec S_ 1 := andi main_v18 main_v22
  let main_v24 : FVec F S1x3072 .f32 := Host.absf main_arg5
  let main_cst_8 : FVec F S_ .f32 := constant S_ .f32 0x7F800000#32
  let main_v25 : FVec F S1x3072 .f32 := broadcastInDim S1x3072 ![] bcast_S_S1x3072 main_cst_8
  let main_v26 : IVec S1x3072 1 := cmpf .olt main_v24 main_v25
  let main_c_9 : IVec S_ 1 := constantI S_ 1 1#1
  let main_v27 : IVec S_ 1 := (fun x v => Host.reduce IntOp.andi x v reducesTo_S1x3072_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x512 .f32) (main_arg2 : FVec F S8192x1024 .f32) (main_arg3 : FVec F S8192x512 .f32) (main_arg4 : FVec F S8192x3072 .f32) (main_arg5 : FVec F S1x3072 .f32) (main_arg6 : FVec F S512x1024 .f32) (main_arg7 : FVec F S512x1024 .f32) (main_arg8 : FVec F S512x1024 .f32) (main_arg9 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_arg5 main_arg6 main_arg7 main_arg8 main_arg9 main_v13 main_v16
-- ==== Pre_finite11.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  main_v23

def fn {F : FTy → Type} [FloatOps F] (main_arg0 : FVec F S8192x1024 .f32) (main_arg1 : FVec F S1x512 .f32) (main_arg2 : FVec F S1x512 .f32) (main_arg3 : FVec F S8x128x128 .f32) (main_arg4 : FVec F S8x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_v13 main_v16
-- ==== Pre_finite13.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x5632 .f32) (main_arg3 : FVec F S2816x1024 .f32) (main_arg4 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite14.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x5632 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite15.lean ====
abbrev S8192x384 : Shape := ⟨2, ![8192, 384]⟩
abbrev S8192x256 : Shape := ⟨2, ![8192, 256]⟩
abbrev S8192x32 : Shape := ⟨2, ![8192, 32]⟩
abbrev S8192 : Shape := ⟨1, ![8192]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x96 : Shape := ⟨2, ![1, 96]⟩
abbrev S_ : Shape := ⟨0, ![]⟩

class Facts : Prop where
  bcast_S_S8192x384 : S_.BroadcastsInDim S8192x384 (![] : Fin 0 → Fin S8192x384.rank)
  reducesTo_S8192x384_S_d0_1 : S8192x384.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x32 : S_.BroadcastsInDim S8192x32 (![] : Fin 0 → Fin S8192x32.rank)
  reducesTo_S8192x32_S_d0_1 : S8192x32.ReducesTo [0, 1] S_
  bcast_S_S1x384 : S_.BroadcastsInDim S1x384 (![] : Fin 0 → Fin S1x384.rank)
  reducesTo_S1x384_S_d0_1 : S1x384.ReducesTo [0, 1] S_
  bcast_S_S384x768 : S_.BroadcastsInDim S384x768 (![] : Fin 0 → Fin S384x768.rank)
  reducesTo_S384x768_S_d0_1 : S384x768.ReducesTo [0, 1] S_
  bcast_S_S1x256 : S_.BroadcastsInDim S1x256 (![] : Fin 0 → Fin S1x256.rank)
  reducesTo_S1x256_S_d0_1 : S1x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1x96 : S_.BroadcastsInDim S1x96 (![] : Fin 0 → Fin S1x96.rank)
  reducesTo_S1x96_S_d0_1 : S1x96.ReducesTo [0, 1] S_

variable [Facts]

def fn_part2 {F : FTy → Type} [FloatOps F] (main_arg8 : FVec F S1x96 .f32) (main_arg9 : FVec F S1x96 .f32) (main_v33 : IVec S_ 1) : IVec S_ 1 :=
  let main_v34 : FVec F S1x96 .f32 := Host.absf main_arg8
  let main_cst_12 : FVec F S_ .f32 := constant S_ .f32 0x7F800000#32
  let main_v35 : FVec F S1x96 .f32 := broadcastInDim S1x96 ![] bcast_S_S1x96 main_cst_12
  let main_v36 : IVec S1x96 1 := cmpf .olt main_v34 main_v35
  let main_c_13 : IVec S_ 1 := constantI S_ 1 1#1
  let main_v37 : IVec S_ 1 := (fun x v => Host.reduce IntOp.andi x v reducesTo_S1x96_S_d0_1 h_S_) main_v36 main_c_13
  let main_v38 : IVec S_ 1 := andi main_v33 main_v37
  let main_v39 : FVec F S1x96 .f32 := Host.absf main_arg9
  let main_cst_14 : FVec F S_ .f32 := constant S_ .f32 0x7F800000#32
  let main_v40 : FVec F S1x96 .f32 := broadcastInDim S1x96 ![] bcast_S_S1x96 main_cst_14
  let main_v41 : IVec S1x96 1 := cmpf .olt main_v39 main_v40
  let main_c_15 : IVec S_ 1 := constantI S_ 1 1#1
  let main_v42 : IVec S_ 1 := (fun x v => Host.reduce IntOp.andi x v reducesTo_S1x96_S_d0_1 h_S_) main_v41 main_c_15
  let main_v43 : IVec S_ 1 := andi main_v38 main_v42
  main_v43

def fn_part1 {F : FTy → Type} [FloatOps F] (main_arg5 : FVec F S384x768 .f32) (main_arg6 : FVec F S1x256 .f32) (main_arg7 : FVec F S256x1024 .f32) (main_arg8 : FVec F S1x96 .f32) (main_arg9 : FVec F S1x96 .f32) (main_v13 : IVec S_ 1) (main_v16 : IVec S1x384 1) : IVec S_ 1 :=
  let main_c_5 : IVec S_ 1 := constantI S_ 1 1#1
  let main_v17 : IVec S_ 1 := (fun x v => Host.reduce IntOp.andi x v reducesTo_S1x384_S_d0_1 h_S_) main_v16 main_c_5
  let main_v18 : IVec S_ 1 := andi main_v13 main_v17
  let main_v19 : FVec F S384x768 .f32 := Host.absf main_arg5
  let main_cst_6 : FVec F S_ .f32 := constant S_ .f32 0x7F800000#32
  let main_v20 : FVec F S384x768 .f32 := broadcastInDim S384x768 ![] bcast_S_S384x768 main_cst_6
  let main_v21 : IVec S384x768 1 := cmpf .olt main_v19 main_v20
  let main_c_7 : IVec S_ 1 := constantI S_ 1 1#1
  let main_v22 : IVec S_ 1 := (fun x v => Host.reduce IntOp.andi x v reducesTo_S384x768_S_d0_1 h_S_) main_v21 main_c_7
  let main_v23 : IVec S_ 1 := andi main_v18 main_v22
  let main_v24 : FVec F S1x256 .f32 := Host.absf main_arg6
  let main_cst_8 : FVec F S_ .f32 := constant S_ .f32 0x7F800000#32
  let main_v25 : FVec F S1x256 .f32 := broadcastInDim S1x256 ![] bcast_S_S1x256 main_cst_8
  let main_v26 : IVec S1x256 1 := cmpf .olt main_v24 main_v25
  let main_c_9 : IVec S_ 1 := constantI S_ 1 1#1
  let main_v27 : IVec S_ 1 := (fun x v => Host.reduce IntOp.andi x v reducesTo_S1x256_S_d0_1 h_S_) main_v26 main_c_9
  let main_v28 : IVec S_ 1 := andi main_v23 main_v27
  let main_v29 : FVec F S256x1024 .f32 := Host.absf main_arg7
  let main_cst_10 : FVec F S_ .f32 := constant S_ .f32 0x7F800000#32
  let main_v30 : FVec F S256x1024 .f32 := broadcastInDim S256x1024 ![] bcast_S_S256x1024 main_cst_10
  let main_v31 : IVec S256x1024 1 := cmpf .olt main_v29 main_v30
  let main_c_11 : IVec S_ 1 := constantI S_ 1 1#1
  let main_v32 : IVec S_ 1 := (fun x v => Host.reduce IntOp.andi x v reducesTo_S256x1024_S_d0_1 h_S_) main_v31 main_c_11
  let main_v33 : IVec S_ 1 := andi main_v28 main_v32
  fn_part2 (F := F) main_arg8 main_arg9 main_v33

def fn {F : FTy → Type} [FloatOps F] (main_arg0 : FVec F S8192x384 .f32) (main_arg1 : FVec F S8192x256 .f32) (main_arg2 : FVec F S8192x32 .f32) (main_arg3 : IVec S8192 32) (main_arg4 : FVec F S1x384 .f32) (main_arg5 : FVec F S384x768 .f32) (main_arg6 : FVec F S1x256 .f32) (main_arg7 : FVec F S256x1024 .f32) (main_arg8 : FVec F S1x96 .f32) (main_arg9 : FVec F S1x96 .f32) : IVec S_ 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_c : IVec S_ 1 := constantI S_ 1 1#1
  let main_v3 : IVec S_ 1 := (fun x v => Host.reduce IntOp.andi x v reducesTo_S8192x384_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S1x384 .f32 := Host.absf main_arg4
  let main_cst_4 : FVec F S_ .f32 := constant S_ .f32 0x7F800000#32
  let main_v15 : FVec F S1x384 .f32 := broadcastInDim S1x384 ![] bcast_S_S1x384 main_cst_4
  let main_v16 : IVec S1x384 1 := cmpf .olt main_v14 main_v15
  fn_part1 (F := F) main_arg5 main_arg6 main_arg7 main_arg8 main_arg9 main_v13 main_v16
-- ==== Pre_finite2.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_arg4 : FVec F S8x128 .f32) (main_arg5 : FVec F S8192x512 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S8192x512 .f32 := Host.absf main_arg5
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  main_v28

def fn {F : FTy → Type} [FloatOps F] (main_arg0 : FVec F S8192x1024 .f32) (main_arg1 : FVec F S1x512 .f32) (main_arg2 : FVec F S1x512 .f32) (main_arg3 : FVec F S8x128x128 .f32) (main_arg4 : FVec F S8x128 .f32) (main_arg5 : FVec F S8192x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_v13 main_v16
-- ==== Pre_finite3.lean ====
abbrev S8192x512 : Shape := ⟨2, ![8192, 512]⟩
abbrev S1x128 : Shape := ⟨2, ![1, 128]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S8192x512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S8192x512 .f32 := Host.absf main_arg4
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  main_v23

def fn {F : FTy → Type} [FloatOps F] (main_arg0 : FVec F S8192x512 .f32) (main_arg1 : FVec F S1x128 .f32) (main_arg2 : FVec F S256x512 .f32) (main_arg3 : FVec F S256x512 .f32) (main_arg4 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Pre_finite4.lean ====
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x3072 : S_.BroadcastsInDim S8192x3072 (![] : Fin 0 → Fin S8192x3072.rank)
  reducesTo_S8192x3072_S_d0_1 : S8192x3072.ReducesTo [0, 1] S_
  bcast_S_S1x3072 : S_.BroadcastsInDim S1x3072 (![] : Fin 0 → Fin S1x3072.rank)
  reducesTo_S1x3072_S_d0_1 : S1x3072.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg7 : FVec F S512x1024 .f32) (main_arg8 : FVec F S1024x1024 .f32) (main_arg9 : FVec F S8192x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S8192x1024 .f32 := Host.absf main_arg9
  let main_cst_16 : FVec F S_ .f32 := constant S_ .f32 0x7F800000#32
  let main_v45 : FVec F S8192x1024 .f32 := broadcastInDim S8192x1024 ![] bcast_S_S8192x1024 main_cst_16
  let main_v46 : IVec S8192x1024 1 := cmpf .olt main_v44 main_v45
  let main_c_17 : IVec S_ 1 := constantI S_ 1 1#1
  let main_v47 : IVec S_ 1 := (fun x v => Host.reduce IntOp.andi x v reducesTo_S8192x1024_S_d0_1 h_S_) main_v46 main_c_17
  let main_v48 : IVec S_ 1 := andi main_v43 main_v47
  main_v48

def fn_part1 {F : FTy → Type} [FloatOps F] (main_arg4 : FVec F S1x3072 .f32) (main_arg5 : FVec F S512x1024 .f32) (main_arg6 : FVec F S512x1024 .f32) (main_arg7 : FVec F S512x1024 .f32) (main_arg8 : FVec F S1024x1024 .f32) (main_arg9 : FVec F S8192x1024 .f32) (main_v13 : IVec S_ 1) (main_v16 : IVec S8192x3072 1) : IVec S_ 1 :=
  let main_c_5 : IVec S_ 1 := constantI S_ 1 1#1
  let main_v17 : IVec S_ 1 := (fun x v => Host.reduce IntOp.andi x v reducesTo_S8192x3072_S_d0_1 h_S_) main_v16 main_c_5
  let main_v18 : IVec S_ 1 := andi main_v13 main_v17
  let main_v19 : FVec F S1x3072 .f32 := Host.absf main_arg4
  let main_cst_6 : FVec F S_ .f32 := constant S_ .f32 0x7F800000#32
  let main_v20 : FVec F S1x3072 .f32 := broadcastInDim S1x3072 ![] bcast_S_S1x3072 main_cst_6
  let main_v21 : IVec S1x3072 1 := cmpf .olt main_v19 main_v20
  let main_c_7 : IVec S_ 1 := constantI S_ 1 1#1
  let main_v22 : IVec S_ 1 := (fun x v => Host.reduce IntOp.andi x v reducesTo_S1x3072_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x512 .f32) (main_arg2 : FVec F S8192x512 .f32) (main_arg3 : FVec F S8192x3072 .f32) (main_arg4 : FVec F S1x3072 .f32) (main_arg5 : FVec F S512x1024 .f32) (main_arg6 : FVec F S512x1024 .f32) (main_arg7 : FVec F S512x1024 .f32) (main_arg8 : FVec F S1024x1024 .f32) (main_arg9 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x3072 .f32 := Host.absf main_arg3
  let main_cst_4 : FVec F S_ .f32 := constant S_ .f32 0x7F800000#32
  let main_v15 : FVec F S8192x3072 .f32 := broadcastInDim S8192x3072 ![] bcast_S_S8192x3072 main_cst_4
  let main_v16 : IVec S8192x3072 1 := cmpf .olt main_v14 main_v15
  fn_part1 (F := F) main_arg4 main_arg5 main_arg6 main_arg7 main_arg8 main_arg9 main_v13 main_v16
-- ==== Pre_finite5.lean ====
abbrev S8192x1024 : Shape := ⟨2, ![8192, 1024]⟩
abbrev S1x1024 : Shape := ⟨2, ![1, 1024]⟩
abbrev S1024x5280 : Shape := ⟨2, ![1024, 5280]⟩
abbrev S8192x5280 : Shape := ⟨2, ![8192, 5280]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5280 : S_.BroadcastsInDim S1024x5280 (![] : Fin 0 → Fin S1024x5280.rank)
  reducesTo_S1024x5280_S_d0_1 : S1024x5280.ReducesTo [0, 1] S_
  bcast_S_S8192x5280 : S_.BroadcastsInDim S8192x5280 (![] : Fin 0 → Fin S8192x5280.rank)
  reducesTo_S8192x5280_S_d0_1 : S8192x5280.ReducesTo [0, 1] S_

variable [Facts]

def fn_part1 {F : FTy → Type} [FloatOps F] (main_arg4 : FVec F S8192x1024 .f32) (main_v13 : IVec S_ 1) (main_v16 : IVec S8192x5280 1) : IVec S_ 1 :=
  let main_c_5 : IVec S_ 1 := constantI S_ 1 1#1
  let main_v17 : IVec S_ 1 := (fun x v => Host.reduce IntOp.andi x v reducesTo_S8192x5280_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x5280 .f32) (main_arg3 : FVec F S8192x5280 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5280 .f32 := Host.absf main_arg2
  let main_cst_2 : FVec F S_ .f32 := constant S_ .f32 0x7F800000#32
  let main_v10 : FVec F S1024x5280 .f32 := broadcastInDim S1024x5280 ![] bcast_S_S1024x5280 main_cst_2
  let main_v11 : IVec S1024x5280 1 := cmpf .olt main_v9 main_v10
  let main_c_3 : IVec S_ 1 := constantI S_ 1 1#1
  let main_v12 : IVec S_ 1 := (fun x v => Host.reduce IntOp.andi x v reducesTo_S1024x5280_S_d0_1 h_S_) main_v11 main_c_3
  let main_v13 : IVec S_ 1 := andi main_v8 main_v12
  let main_v14 : FVec F S8192x5280 .f32 := Host.absf main_arg3
  let main_cst_4 : FVec F S_ .f32 := constant S_ .f32 0x7F800000#32
  let main_v15 : FVec F S8192x5280 .f32 := broadcastInDim S8192x5280 ![] bcast_S_S8192x5280 main_cst_4
  let main_v16 : IVec S8192x5280 1 := cmpf .olt main_v14 main_v15
  fn_part1 (F := F) main_arg4 main_v13 main_v16
-- ==== Pre_finite6.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S1x1024 .f32) (main_arg2 : FVec F S1024x5632 .f32) (main_arg3 : FVec F S2816x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite7.lean ====
abbrev S8192x1024 : Shape := ⟨2, ![8192, 1024]⟩
abbrev S1x1024 : Shape := ⟨2, ![1, 1024]⟩
abbrev S2x8192x1024 : Shape := ⟨3, ![2, 8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S2x8192x1024 : S_.BroadcastsInDim S2x8192x1024 (![] : Fin 0 → Fin S2x8192x1024.rank)
  reducesTo_S2x8192x1024_S_d0_1_2 : S2x8192x1024.ReducesTo [0, 1, 2] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1x1024 .f32) (main_arg2 : FVec F S2x8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S2x8192x1024 .f32 := Host.absf main_arg2
  let main_cst_2 : FVec F S_ .f32 := constant S_ .f32 0x7F800000#32
  let main_v10 : FVec F S2x8192x1024 .f32 := broadcastInDim S2x8192x1024 ![] bcast_S_S2x8192x1024 main_cst_2
  let main_v11 : IVec S2x8192x1024 1 := cmpf .olt main_v9 main_v10
  let main_c_3 : IVec S_ 1 := constantI S_ 1 1#1
  let main_v12 : IVec S_ 1 := (fun x v => Host.reduce IntOp.andi x v reducesTo_S2x8192x1024_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite8.lean ====
abbrev S256x1024 : Shape := ⟨2, ![256, 1024]⟩
abbrev S1x1024 : Shape := ⟨2, ![1, 1024]⟩
abbrev S1024x1024 : Shape := ⟨2, ![1024, 1024]⟩
abbrev S1x128 : Shape := ⟨2, ![1, 128]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S256x1024 .f32) (main_arg1 : FVec F S1x1024 .f32) (main_arg2 : FVec F S1024x1024 .f32) (main_arg3 : FVec F S1x128 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Pre_finite9.lean ====
abbrev S8192x512 : Shape := ⟨2, ![8192, 512]⟩
abbrev S1x128 : Shape := ⟨2, ![1, 128]⟩
abbrev S256x512 : Shape := ⟨2, ![256, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S8192x512 .f32) (main_arg1 : FVec F S1x128 .f32) (main_arg2 : FVec F S256x512 .f32) (main_arg3 : FVec F S256x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_v13 main_v16
-- ==== Kernel.lean ====
abbrev S256x1024 : Shape := ⟨2, ![256, 1024]⟩
abbrev S1x1024 : Shape := ⟨2, ![1, 1024]⟩
abbrev S1024x1024 : Shape := ⟨2, ![1024, 1024]⟩
abbrev S1x128 : Shape := ⟨2, ![1, 128]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S128 : Shape := ⟨1, ![128]⟩
abbrev S1024 : Shape := ⟨1, ![1024]⟩

abbrev nBuf : Space → Nat
  | .hbm => 10
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S1024x1024, .bf16⟩
  | .hbm, ⟨7, _⟩ => ⟨S1024x1024, .f32⟩
  | .hbm, ⟨8, _⟩ => ⟨S1x128, .f32⟩
  | .hbm, ⟨9, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1x128, .f32⟩
  | .local _ .vmem, ⟨4, _⟩ => ⟨S256x512, .f32⟩
  | .local _ .vmem, ⟨5, _⟩ => ⟨S256x512, .f32⟩
  | .local _ .vmem, ⟨6, _⟩ => ⟨S1024x1024, .f32⟩
  | .local _ .vmem, ⟨7, _⟩ => ⟨S1x128, .f32⟩
  | .local _ .vmem, ⟨8, _⟩ => ⟨S1x1024, .f32⟩
  | .local _ .vmem, ⟨9, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S256x1024 : Shape := ⟨2, ![256, 1024]⟩
abbrev S1x1024 : Shape := ⟨2, ![1, 1024]⟩
abbrev S1024x1024 : Shape := ⟨2, ![1024, 1024]⟩
abbrev S1x128 : Shape := ⟨2, ![1, 128]⟩
abbrev S256x512 : Shape := ⟨2, ![256, 512]⟩
abbrev S_ : Shape := ⟨0, ![]⟩
abbrev S256 : Shape := ⟨1, ![256]⟩
abbrev S256x1 : Shape := ⟨2, ![256, 1]⟩
abbrev S256x4x128 : Shape := ⟨3, ![256, 4, 128]⟩
abbrev S128 : Shape := ⟨1, ![128]⟩
abbrev S256x4 : Shape := ⟨2, ![256, 4]⟩
abbrev S256x4x1 : Shape := ⟨3, ![256, 4, 1]⟩
abbrev S1x1x128 : Shape := ⟨3, ![1, 1, 128]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1x128, .f32⟩
  | .hbm, ⟨4, _⟩ => ⟨S256x512, .f32⟩
  | .hbm, ⟨5, _⟩ => ⟨S256x512, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x512, .f32⟩
  | .hbm, ⟨23, _⟩ => ⟨S256x4x128, .f32⟩
  | .hbm, ⟨24, _⟩ => ⟨S128, .f32⟩
  | .hbm, ⟨25, _⟩ => ⟨S256x4x128, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S_, .f32⟩
  | .hbm, ⟨38, _⟩ => ⟨S256x4x1, .f32⟩
  | .hbm, ⟨39, _⟩ => ⟨S256x4x1, .f32⟩
  | .hbm, ⟨40, _⟩ => ⟨S256x4x128, .f32⟩
  | .hbm, ⟨41, _⟩ => ⟨S256x4x128, .f32⟩
  | .hbm, ⟨42, _⟩ => ⟨S1x1x128, .f32⟩
  | .hbm, ⟨43, _⟩ => ⟨S256x4x128, .f32⟩
  | .hbm, ⟨44, _⟩ => ⟨S256x4x128, .f32⟩
  | .hbm, ⟨45, _⟩ => ⟨S256x512, .f32⟩
  | .hbm, ⟨46, _⟩ => ⟨S256x512, .f32⟩
  | .hbm, ⟨47, _⟩ => ⟨S_, .f32⟩
  | .hbm, ⟨48, _⟩ => ⟨S256x1024, .f32⟩
  | .hbm, ⟨49, _⟩ => ⟨S256x4x128, .f32⟩
  | .hbm, ⟨50, _⟩ => ⟨S256x4x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S256x4x128, .f32⟩
  | .hbm, ⟨55, _⟩ => ⟨S256x4x128, .f32⟩
  | .hbm, ⟨56, _⟩ => ⟨S_, .f32⟩
  | .hbm, ⟨57, _⟩ => ⟨S128, .f32⟩
  | .hbm, ⟨58, _⟩ => ⟨S256x4x128, .f32⟩
  | .hbm, ⟨59, _⟩ => ⟨S_, .f32⟩
  | .hbm, ⟨60, _⟩ => ⟨S256x4, .f32⟩
  | .hbm, ⟨61, _⟩ => ⟨S256x4x1, .f32⟩
  | .hbm, ⟨62, _⟩ => ⟨S256x4x128, .f32⟩
  | .hbm, ⟨63, _⟩ => ⟨S256x4x128, .f32⟩
  | .hbm, ⟨64, _⟩ => ⟨S256x4x1, .f32⟩
  | .hbm, ⟨65, _⟩ => ⟨S_, .f32⟩
  | .hbm, ⟨66, _⟩ => ⟨S256x4x1, .f32⟩
  | .hbm, ⟨67, _⟩ => ⟨S256x4x1, .f32⟩
  | .hbm, ⟨68, _⟩ => ⟨S_, .f32⟩
  | .hbm, ⟨69, _⟩ => ⟨S256x4, .f32⟩
  | .hbm, ⟨70, _⟩ => ⟨S256x4x128, .f32⟩
  | .hbm, ⟨71, _⟩ => ⟨S256x4x128, .f32⟩
  | .hbm, ⟨72, _⟩ => ⟨S256x4x128, .f32⟩
  | .hbm, ⟨73, _⟩ => ⟨S256x4x128, .f32⟩
  | .hbm, ⟨74, _⟩ => ⟨S256x4x128, .f32⟩
  | .hbm, ⟨75, _⟩ => ⟨S1x128, .f32⟩
  | .hbm, ⟨76, _⟩ => ⟨S256x512, .f32⟩
  | .hbm, ⟨77, _⟩ => ⟨S_, .f32⟩
  | .hbm, ⟨78, _⟩ => ⟨S256x1024, .f32⟩
  | .hbm, ⟨79, _⟩ => ⟨S256x1024, .f32⟩
  | .hbm, ⟨80, _⟩ => ⟨S1024x1024, .f32⟩
  | .hbm, ⟨81, _⟩ => ⟨S1024x1024, .f32⟩
  | .hbm, ⟨82, _⟩ => ⟨S256x1024, .f32⟩
  | .hbm, ⟨83, _⟩ => ⟨S256x1024, .f32⟩
  | .hbm, ⟨84, _⟩ => ⟨S_, .f32⟩
  | .hbm, ⟨85, _⟩ => ⟨S1024, .f32⟩
  | .hbm, ⟨86, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel3.lean ====
abbrev S8192x512 : Shape := ⟨2, ![8192, 512]⟩
abbrev S1x128 : Shape := ⟨2, ![1, 128]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128 : Shape := ⟨1, ![128]⟩

abbrev nBuf : Space → Nat
  | .hbm => 12
  | .vmem => 12
  | .smem => 0
  | _ => 0

abbrev bufTy : (tb : Table) → Fin (tcTables nBuf tb) → BufTy
  | .hbm, ⟨0, _⟩ => ⟨S8192x512, .f32⟩
  | .hbm, ⟨1, _⟩ => ⟨S1x128, .f32⟩
  | .hbm, ⟨2, _⟩ => ⟨S256x512, .f32⟩
  | .hbm, ⟨3, _⟩ => ⟨S256x512, .f32⟩
  | .hbm, ⟨4, _⟩ => ⟨S8192x512, .f32⟩
  | .hbm, ⟨5, _⟩ => ⟨S8192x512, .bf16⟩
  | .hbm, ⟨6, _⟩ => ⟨S256x512, .bf16⟩
  | .hbm, ⟨7, _⟩ => ⟨S256x512, .bf16⟩
  | .hbm, ⟨8, _⟩ => ⟨S8192x512, .bf16⟩
  | .hbm, ⟨9, _⟩ => ⟨S256x512, .f32⟩
  | .hbm, ⟨10, _⟩ => ⟨S256x512, .f32⟩
  | .hbm, ⟨11, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .bf16⟩
  | .local _ .vmem, ⟨3, _⟩ => ⟨S256x512, .bf16⟩
  | .local _ .vmem, ⟨4, _⟩ => ⟨S1x128, .f32⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x512 : Shape := ⟨2, ![8192, 512]⟩
abbrev S1x128 : Shape := ⟨2, ![1, 128]⟩
abbrev S256x512 : Shape := ⟨2, ![256, 512]⟩
abbrev S8192x4x128 : Shape := ⟨3, ![8192, 4, 128]⟩
abbrev S128 : Shape := ⟨1, ![128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 130
  | .vmem => 0
  | .smem => 0
  | _ => 0

abbrev hbmTy0_0 (i : Nat) : BufTy := match i % 128 with
  | 0 => ⟨S8192x512, .f32⟩
  | 1 => ⟨S1x128, .f32⟩
  | 2 => ⟨S256x512, .f32⟩
  | 3 => ⟨S256x512, .f32⟩
  | 4 => ⟨S8192x512, .f32⟩
  | 5 => ⟨S8192x4x128, .f32⟩
  | 6 => ⟨S128, .f32⟩
  | 7 => ⟨S8192x4x128, .f32⟩
  | 8 => ⟨S_, .f32⟩
  | 9 => ⟨S8192x4, .f32⟩
  | 10 => ⟨S8192x4x1, .f32⟩
  | 11 => ⟨S_, .f32⟩
  | 12 => ⟨S8192x4x1, .f32⟩
  | 13 => ⟨S8192x4x1, .f32⟩
  | 14 => ⟨S_, .f32⟩
  | 15 => ⟨S8192x4x1, .f32⟩
  | 16 => ⟨S8192x4x1, .f32⟩
  | 17 => ⟨S8192x4x1, .f32⟩
  | 18 => ⟨S8192x4x1, .f32⟩
  | 19 => ⟨S_, .f32⟩
  | 20 => ⟨S8192x4x1, .f32⟩
  | 21 => ⟨S8192x4x1, .f32⟩
  | 22 => ⟨S8192x4x128, .f32⟩
  | 23 => ⟨S8192x4x128, .f32⟩
  | 24 => ⟨S1x1x128, .f32⟩
  | 25 => ⟨S8192x4x128, .f32⟩
  | 26 => ⟨S8192x4x128, .f32⟩
  | 27 => ⟨S256x4x128, .f32⟩
  | 28 => ⟨S4x8192x256, .f32⟩
  | 29 => ⟨S_, .f32⟩
  | 30 => ⟨S4x8192x256, .f32⟩
  | 31 => ⟨S4x8192x256, .f32⟩
  | 32 => ⟨S_, .f32⟩
  | 33 => ⟨S4x8192, .f32⟩
  | 34 => ⟨S4x8192x1, .f32⟩
  | 35 => ⟨S4x8192x256, .f32⟩
  | 36 => ⟨S4x8192x256, .i1⟩
  | 37 => ⟨S4x8192x256, .f32⟩
  | 38 => ⟨S_, .f32⟩
  | 39 => ⟨S4x8192, .f32⟩
  | 40 => ⟨S_, .f32⟩
  | 41 => ⟨S4x8192, .f32⟩
  | 42 => ⟨S4x8192, .f32⟩
  | 43 => ⟨S_, .f32⟩
  | 44 => ⟨S4x8192, .f32⟩
  | 45 => ⟨S4x8192, .i1⟩
  | 46 => ⟨S_, .f32⟩
  | 47 => ⟨S4x8192, .f32⟩
  | 48 => ⟨S4x8192, .i1⟩
  | 49 => ⟨S_, .f32⟩
  | 50 => ⟨S4x8192, .f32⟩
  | 51 => ⟨S_, .f32⟩
  | 52 => ⟨S4x8192, .f32⟩
  | 53 => ⟨S_, .f32⟩
  | 54 => ⟨S4x8192, .f32⟩
  | 55 => ⟨S4x8192, .f32⟩
  | 56 => ⟨S4x8192, .f32⟩
  | 57 => ⟨S4x8192x1, .f32⟩
  | 58 => ⟨S4x8192x256, .f32⟩
  | 59 => ⟨S4x8192x256, .f32⟩
  | 60 => ⟨S4x8192x256, .f32⟩
  | 61 => ⟨S_, .f32⟩
  | 62 => ⟨S4x8192, .f32⟩
  | 63 => ⟨S4x8192x1, .f32⟩
  | 64 => ⟨S4x8192x256, .f32⟩
  | 65 => ⟨S4x8192x256, .f32⟩
  | 66 => ⟨S4x8192x1, .f32⟩
  | 67 => ⟨S_, .f32⟩
  | 68 => ⟨S4x8192x1, .f32⟩
  | 69 => ⟨S4x8192x1, .f32⟩
  | 70 => ⟨S256x4x128, .f32⟩
  | 71 => ⟨S4x128x8192, .f32⟩
  | 72 => ⟨S8192x4x128, .f32⟩
  | 73 => ⟨S8192x512, .f32⟩
  | 74 => ⟨S8192x4x128, .f32⟩
  | 75 => ⟨S4x128x8192, .f32⟩
  | 76 => ⟨S4x8192x256, .f32⟩
  | 77 => ⟨S4x128x256, .f32⟩
  | 78 => ⟨S256x4x128, .f32⟩
  | 79 => ⟨S256x512, .f32⟩
  | 80 => ⟨S4x8192x256, .f32⟩
  | 81 => ⟨S4x8192x256, .f32⟩
  | 82 => ⟨S4x8192x256, .f32⟩
  | 83 => ⟨S_, .f32⟩
  | 84 => ⟨S4x8192, .f32⟩
  | 85 => ⟨S4x8192x1, .f32⟩
  | 86 => ⟨S4x8192x1, .f32⟩
  | 87 => ⟨S4x8192x256, .f32⟩
  | 88 => ⟨S4x8192x256, .f32⟩
  | 89 => ⟨S_, .f32⟩
  | 90 => ⟨S4x8192, .f32⟩
  | 91 => ⟨S4x8192x256, .f32⟩
  | 92 => ⟨S4x8192x256, .f32⟩
  | 93 => ⟨S4x8192x256, .f32⟩
  | 94 => ⟨S_, .f32⟩
  | 95 => ⟨S4x8192x256, .f32⟩
  | 96 => ⟨S4x8192x256, .f32⟩
  | 97 => ⟨S4x256x128, .f32⟩
  | 98 => ⟨S256x4x128, .f32⟩
  | 99 => ⟨S4x8192x128, .f32⟩
  | 100 => ⟨S8192x4x128, .f32⟩
  | 101 => ⟨S256x512, .f32⟩
  | 102 => ⟨S8192x4x128, .f32⟩
  | 103 => ⟨S_, .f32⟩
  | 104 => ⟨S128, .f32⟩
  | 105 => ⟨S1x1x128, .f32⟩
  | 106 => ⟨S8192x4x128, .f32⟩
  | 107 => ⟨S8192x4x128, .f32⟩
  | 108 => ⟨S_, .f32⟩
  | 109 => ⟨S128, .f32⟩
  | 110 => ⟨S8192x4x128, .f32⟩
  | 111 => ⟨S_, .f32⟩
  | 112 => ⟨S8192x4, .f32⟩
  | 113 => ⟨S8192x4x1, .f32⟩
  | 114 => ⟨S8192x4x128, .f32⟩
  | 115 => ⟨S8192x4x128, .f32⟩
  | 116 => ⟨S8192x4x1, .f32⟩
  | 117 => ⟨S_, .f32⟩
  | 118 => ⟨S8192x4x1, .f32⟩
  | 119 => ⟨S8192x4x1, .f32⟩
  | 120 => ⟨S_, .f32⟩
  | 121 => ⟨S8192x4, .f32⟩
  | 122 => ⟨S8192x4x128, .f32⟩
  | 123 => ⟨S8192x4x128, .f32⟩
  | 124 => ⟨S8192x4x128, .f32⟩
  | 125 => ⟨S8192x4x128, .f32⟩
  | 126 => ⟨S8192x4x128, .f32⟩
  | 127 => ⟨S1x128, .f32⟩
  | _ => ⟨S8192x512, .f32⟩

abbrev hbmTy0_1 (i : Nat) : BufTy := match i % 128 with
  | 0 => ⟨S8192x512, .f32⟩
  | 1 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_17 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_18 : Ref sig .tc := ⟨.hbm, 108, rfl⟩
abbrev main_v84 : Ref sig .tc := ⟨.hbm, 109, rfl⟩
abbrev main_v85 : Ref sig .tc := ⟨.hbm, 110, rfl⟩
abbrev main_cst_19 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_20 : Ref sig .tc := ⟨.hbm, 117, rfl⟩
abbrev main_v91 : Ref sig .tc := ⟨.hbm, 118, rfl⟩
abbrev main_v92 : Ref sig .tc := ⟨.hbm, 119, rfl⟩
abbrev main_cst_21 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩

abbrev nD : Nat := 1
abbrev τ : Topo := Topo.v7x

variable {F : FTy → Type} [FloatOps F]
-- ==== Kernel4.lean ====
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S8192x1024 : Shape := ⟨2, ![8192, 1024]⟩
abbrev S8x64x1024 : Shape := ⟨3, ![8, 64, 1024]⟩
abbrev S_ : Shape := ⟨0, ![]⟩
abbrev S8x128x1024 : Shape := ⟨3, ![8, 128, 1024]⟩
abbrev S256x1024 : Shape := ⟨2, ![256, 1024]⟩
abbrev S256x3072 : Shape := ⟨2, ![256, 3072]⟩
abbrev S256x512 : Shape := ⟨2, ![256, 512]⟩
abbrev S1x1024 : Shape := ⟨2, ![1, 1024]⟩
abbrev S1024 : Shape := ⟨1, ![1024]⟩

abbrev nBuf : Space → Nat
  | .hbm => 34
  | .vmem => 30
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S1x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8x64x1024, .f32⟩
  | .hbm, ⟨11, _⟩ => ⟨S_, .i32⟩
  | .hbm, ⟨12, _⟩ => ⟨S_, .f32⟩
  | .hbm, ⟨13, _⟩ => ⟨S8x128x1024, .f32⟩
  | .hbm, ⟨14, _⟩ => ⟨S1024x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x3072, .bf16⟩
  | .hbm, ⟨22, _⟩ => ⟨S512x1024, .bf16⟩
  | .hbm, ⟨23, _⟩ => ⟨S1024x1024, .bf16⟩
  | .hbm, ⟨24, _⟩ => ⟨S512x1024, .bf16⟩
  | .hbm, ⟨25, _⟩ => ⟨S1024x1024, .bf16⟩
  | .hbm, ⟨26, _⟩ => ⟨S8192x1024, .bf16⟩
  | .hbm, ⟨27, _⟩ => ⟨S8192x1024, .bf16⟩
  | .hbm, ⟨28, _⟩ => ⟨S8192x1024, .bf16⟩
  | .hbm, ⟨29, _⟩ => ⟨S8192x3072, .bf16⟩
  | .hbm, ⟨30, _⟩ => ⟨S1x3072, .f32⟩
  | .hbm, ⟨31, _⟩ => ⟨S8192x512, .f32⟩
  | .hbm, ⟨32, _⟩ => ⟨S8192x1024, .bf16⟩
  | .hbm, ⟨33, _⟩ => ⟨S8192x512, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x3072, .bf16⟩
  | .local _ .vmem, ⟨9, _⟩ => ⟨S256x3072, .bf16⟩
  | .local _ .vmem, ⟨10, _⟩ => ⟨S1x3072, .f32⟩
  | .local _ .vmem, ⟨11, _⟩ => ⟨S512x1024, .bf16⟩
  | .local _ .vmem, ⟨12, _⟩ => ⟨S1024x1024, .bf16⟩
  | .local _ .vmem, ⟨13, _⟩ => ⟨S512x1024, .bf16⟩
  | .local _ .vmem, ⟨14, _⟩ => ⟨S1024x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x3072, .bf16⟩
  | .local _ .vmem, ⟨22, _⟩ => ⟨S256x3072, .bf16⟩
  | .local _ .vmem, ⟨23, _⟩ => ⟨S1x3072, .f32⟩
  | .local _ .vmem, ⟨24, _⟩ => ⟨S256x512, .f32⟩
  | .local _ .vmem, ⟨25, _⟩ => ⟨S256x512, .f32⟩
  | .local _ .vmem, ⟨26, _⟩ => ⟨S256x1024, .bf16⟩
  | .local _ .vmem, ⟨27, _⟩ => ⟨S256x1024, .bf16⟩
  | .local _ .vmem, ⟨28, _⟩ => ⟨S256x512, .bf16⟩
  | .local _ .vmem, ⟨29, _⟩ => ⟨S256x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S8192x1024 : Shape := ⟨2, ![8192, 1024]⟩
abbrev S_ : Shape := ⟨0, ![]⟩
abbrev S3072 : Shape := ⟨1, ![3072]⟩
abbrev S8192x8x64 : Shape := ⟨3, ![8192, 8, 64]⟩
abbrev S8192x8x128 : Shape := ⟨3, ![8192, 8, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x3072, .f32⟩
  | .hbm, ⟨4, _⟩ => ⟨S1x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x3072, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x3072, .f32⟩
  | .hbm, ⟨50, _⟩ => ⟨S8192x3072, .f32⟩
  | .hbm, ⟨51, _⟩ => ⟨S8192x3072, .f32⟩
  | .hbm, ⟨52, _⟩ => ⟨S_, .f32⟩
  | .hbm, ⟨53, _⟩ => ⟨S3072, .f32⟩
  | .hbm, ⟨54, _⟩ => ⟨S1x3072, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x8x64, .f32⟩
  | .hbm, ⟨59, _⟩ => ⟨S_, .i32⟩
  | .hbm, ⟨60, _⟩ => ⟨S_, .f32⟩
  | .hbm, ⟨61, _⟩ => ⟨S8192x8x128, .f32⟩
  | .hbm, ⟨62, _⟩ => ⟨S8192x1024, .f32⟩
  | .hbm, ⟨63, _⟩ => ⟨S8192x1024, .bf16⟩
  | .hbm, ⟨64, _⟩ => ⟨S8192x1024, .bf16⟩
  | .hbm, ⟨65, _⟩ => ⟨S8192x1024, .bf16⟩
  | .hbm, ⟨66, _⟩ => ⟨S8192x3072, .bf16⟩
  | .hbm, ⟨67, _⟩ => ⟨S8192x1024, .bf16⟩
  | .hbm, ⟨68, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c : Ref sig .tc := ⟨.hbm, 59, rfl⟩
abbrev main_call0_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x5280 : Shape := ⟨2, ![1024, 5280]⟩
abbrev S8192x5280 : Shape := ⟨2, ![8192, 5280]⟩
abbrev S8192x384 : Shape := ⟨2, ![8192, 384]⟩
abbrev S8192x256 : Shape := ⟨2, ![8192, 256]⟩
abbrev S8192x32 : Shape := ⟨2, ![8192, 32]⟩
abbrev S_ : Shape := ⟨0, ![]⟩
abbrev S8192x128 : Shape := ⟨2, ![8192, 128]⟩
abbrev S8192x512 : Shape := ⟨2, ![8192, 512]⟩
abbrev S8192x3072 : Shape := ⟨2, ![8192, 3072]⟩
abbrev S1024x1024 : Shape := ⟨2, ![1024, 1024]⟩
abbrev S1024x384 : Shape := ⟨2, ![1024, 384]⟩
abbrev S1024x256 : Shape := ⟨2, ![1024, 256]⟩
abbrev S1024x32 : Shape := ⟨2, ![1024, 32]⟩
abbrev S1024x128 : Shape := ⟨2, ![1024, 128]⟩
abbrev S1024x512 : Shape := ⟨2, ![1024, 512]⟩
abbrev S1024x3072 : Shape := ⟨2, ![1024, 3072]⟩
abbrev S384x1024 : Shape := ⟨2, ![384, 1024]⟩
abbrev S256x1024 : Shape := ⟨2, ![256, 1024]⟩
abbrev S128x1024 : Shape := ⟨2, ![128, 1024]⟩
abbrev S512x1024 : Shape := ⟨2, ![512, 1024]⟩
abbrev S3072x1024 : Shape := ⟨2, ![3072, 1024]⟩
abbrev S256x384 : Shape := ⟨2, ![256, 384]⟩
abbrev S256x256 : Shape := ⟨2, ![256, 256]⟩
abbrev S256x128 : Shape := ⟨2, ![256, 128]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S1024 : Shape := ⟨1, ![1024]⟩

abbrev nBuf : Space → Nat
  | .hbm => 38
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5280, .f32⟩
  | .hbm, ⟨3, _⟩ => ⟨S8192x5280, .f32⟩
  | .hbm, ⟨4, _⟩ => ⟨S8192x1024, .f32⟩
  | .hbm, ⟨5, _⟩ => ⟨S8192x1024, .f32⟩
  | .hbm, ⟨6, _⟩ => ⟨S8192x384, .f32⟩
  | .hbm, ⟨7, _⟩ => ⟨S8192x256, .f32⟩
  | .hbm, ⟨8, _⟩ => ⟨S8192x32, .f32⟩
  | .hbm, ⟨9, _⟩ => ⟨S_, .i32⟩
  | .hbm, ⟨10, _⟩ => ⟨S_, .f32⟩
  | .hbm, ⟨11, _⟩ => ⟨S8192x128, .f32⟩
  | .hbm, ⟨12, _⟩ => ⟨S8192x512, .f32⟩
  | .hbm, ⟨13, _⟩ => ⟨S8192x3072, .f32⟩
  | .hbm, ⟨14, _⟩ => ⟨S8192x1024, .bf16⟩
  | .hbm, ⟨15, _⟩ => ⟨S8192x384, .bf16⟩
  | .hbm, ⟨16, _⟩ => ⟨S8192x256, .bf16⟩
  | .hbm, ⟨17, _⟩ => ⟨S8192x128, .bf16⟩
  | .hbm, ⟨18, _⟩ => ⟨S8192x512, .bf16⟩
  | .hbm, ⟨19, _⟩ => ⟨S8192x3072, .bf16⟩
  | .hbm, ⟨20, _⟩ => ⟨S1024x5280, .bf16⟩
  | .hbm, ⟨21, _⟩ => ⟨S1024x1024, .bf16⟩
  | .hbm, ⟨22, _⟩ => ⟨S1024x384, .bf16⟩
  | .hbm, ⟨23, _⟩ => ⟨S1024x256, .bf16⟩
  | .hbm, ⟨24, _⟩ => ⟨S1024x32, .bf16⟩
  | .hbm, ⟨25, _⟩ => ⟨S_, .i32⟩
  | .hbm, ⟨26, _⟩ => ⟨S_, .bf16⟩
  | .hbm, ⟨27, _⟩ => ⟨S1024x128, .bf16⟩
  | .hbm, ⟨28, _⟩ => ⟨S1024x512, .bf16⟩
  | .hbm, ⟨29, _⟩ => ⟨S1024x3072, .bf16⟩
  | .hbm, ⟨30, _⟩ => ⟨S1024x1024, .bf16⟩
  | .hbm, ⟨31, _⟩ => ⟨S384x1024, .bf16⟩
  | .hbm, ⟨32, _⟩ => ⟨S256x1024, .bf16⟩
  | .hbm, ⟨33, _⟩ => ⟨S128x1024, .bf16⟩
  | .hbm, ⟨34, _⟩ => ⟨S512x1024, .bf16⟩
  | .hbm, ⟨35, _⟩ => ⟨S3072x1024, .bf16⟩
  | .hbm, ⟨36, _⟩ => ⟨S8192x1024, .f32⟩
  | .hbm, ⟨37, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x384, .bf16⟩
  | .local _ .vmem, ⟨3, _⟩ => ⟨S256x384, .bf16⟩
  | .local _ .vmem, ⟨4, _⟩ => ⟨S256x256, .bf16⟩
  | .local _ .vmem, ⟨5, _⟩ => ⟨S256x256, .bf16⟩
  | .local _ .vmem, ⟨6, _⟩ => ⟨S256x128, .bf16⟩
  | .local _ .vmem, ⟨7, _⟩ => ⟨S256x128, .bf16⟩
  | .local _ .vmem, ⟨8, _⟩ => ⟨S256x512, .bf16⟩
  | .local _ .vmem, ⟨9, _⟩ => ⟨S256x512, .bf16⟩
  | .local _ .vmem, ⟨10, _⟩ => ⟨S256x3072, .bf16⟩
  | .local _ .vmem, ⟨11, _⟩ => ⟨S256x3072, .bf16⟩
  | .local _ .vmem, ⟨12, _⟩ => ⟨S1024x1024, .bf16⟩
  | .local _ .vmem, ⟨13, _⟩ => ⟨S384x1024, .bf16⟩
  | .local _ .vmem, ⟨14, _⟩ => ⟨S256x1024, .bf16⟩
  | .local _ .vmem, ⟨15, _⟩ => ⟨S128x1024, .bf16⟩
  | .local _ .vmem, ⟨16, _⟩ => ⟨S512x1024, .bf16⟩
  | .local _ .vmem, ⟨17, _⟩ => ⟨S3072x1024, .bf16⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3072x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference5Ideal.lean ====
abbrev S8192x1024 : Shape := ⟨2, ![8192, 1024]⟩
abbrev S1x1024 : Shape := ⟨2, ![1, 1024]⟩
abbrev S1024x5280 : Shape := ⟨2, ![1024, 5280]⟩
abbrev S8192x5280 : Shape := ⟨2, ![8192, 5280]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5280, .f32⟩
  | .hbm, ⟨3, _⟩ => ⟨S8192x5280, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x5280, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2x8192x1024 : Shape := ⟨3, ![2, 8192, 1024]⟩
abbrev S512x1024 : Shape := ⟨2, ![512, 1024]⟩
abbrev S512x1408 : Shape := ⟨2, ![512, 1408]⟩
abbrev S1x512x1024 : Shape := ⟨3, ![1, 512, 1024]⟩
abbrev S1x1024x1408 : Shape := ⟨3, ![1, 1024, 1408]⟩
abbrev S1x1408x1024 : Shape := ⟨3, ![1, 1408, 1024]⟩
abbrev S1408x1024 : Shape := ⟨2, ![1408, 1024]⟩
abbrev S1024x1408 : Shape := ⟨2, ![1024, 1408]⟩

abbrev nBuf : Space → Nat
  | .hbm => 34
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .bf16⟩
  | .hbm, ⟨23, _⟩ => ⟨S8192x2816, .f32⟩
  | .hbm, ⟨24, _⟩ => ⟨S8192x2816, .bf16⟩
  | .hbm, ⟨25, _⟩ => ⟨S1024x5632, .bf16⟩
  | .hbm, ⟨26, _⟩ => ⟨S1024x4x1408, .bf16⟩
  | .hbm, ⟨27, _⟩ => ⟨S4x1024x1408, .bf16⟩
  | .hbm, ⟨28, _⟩ => ⟨S2816x1024, .bf16⟩
  | .hbm, ⟨29, _⟩ => ⟨S2x1408x1024, .bf16⟩
  | .hbm, ⟨30, _⟩ => ⟨S8192x2816, .bf16⟩
  | .hbm, ⟨31, _⟩ => ⟨S8192x2816, .bf16⟩
  | .hbm, ⟨32, _⟩ => ⟨S8192x2816, .bf16⟩
  | .hbm, ⟨33, _⟩ => ⟨S2x8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1408, .bf16⟩
  | .local _ .vmem, ⟨15, _⟩ => ⟨S1x1024x1408, .bf16⟩
  | .local _ .vmem, ⟨16, _⟩ => ⟨S1x1408x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_29_r0 : BitVec 32 := 0#32
  let c0_i32_30_r0 : BitVec 32 := 0#32
  ![arg0.toNat, 0, 0]
def k0_off2 (i : grid0.Coords) : Fin 3 → Nat :=
  let arg0 : BitVec 32 := BitVec.ofNat 32 (i 0).val
  let c2_i32 : BitVec 32 := 2#32
  let v45 : BitVec 32 := Scalar.addi arg0 c2_i32
  let c0_i32_29_r1 : BitVec 32 := 0#32
  let c0_i32_30_r1 : BitVec 32 := 0#32
  ![v45.toNat, 0, 0]
def k0_off3 (i : grid0.Coords) : Fin 3 → Nat :=
  let arg0 : BitVec 32 := BitVec.ofNat 32 (i 0).val
  let c0_i32_29_r2 : BitVec 32 := 0#32
  let c0_i32_30_r2 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x1408 : Shape := ⟨2, ![1024, 1408]⟩
abbrev S8192x1408 : Shape := ⟨2, ![8192, 1408]⟩
abbrev S8192x2816 : Shape := ⟨2, ![8192, 2816]⟩
abbrev S1x8192x1024 : Shape := ⟨3, ![1, 8192, 1024]⟩
abbrev S2x8192x1024 : Shape := ⟨3, ![2, 8192, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S1024x1408, .f32⟩
  | .hbm, ⟨21, _⟩ => ⟨S8192x1408, .f32⟩
  | .hbm, ⟨22, _⟩ => ⟨S1024x1408, .f32⟩
  | .hbm, ⟨23, _⟩ => ⟨S8192x1408, .f32⟩
  | .hbm, ⟨24, _⟩ => ⟨S8192x2816, .f32⟩
  | .hbm, ⟨25, _⟩ => ⟨S1024x1408, .f32⟩
  | .hbm, ⟨26, _⟩ => ⟨S8192x1408, .f32⟩
  | .hbm, ⟨27, _⟩ => ⟨S1024x1408, .f32⟩
  | .hbm, ⟨28, _⟩ => ⟨S8192x1408, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x1408, .f32⟩
  | .hbm, ⟨59, _⟩ => ⟨S8192x1408, .f32⟩
  | .hbm, ⟨60, _⟩ => ⟨S8192x1024, .f32⟩
  | .hbm, ⟨61, _⟩ => ⟨S8192x1024, .f32⟩
  | .hbm, ⟨62, _⟩ => ⟨S8192x1408, .f32⟩
  | .hbm, ⟨63, _⟩ => ⟨S8192x1408, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x8192x1024, .f32⟩
  | .hbm, ⟨69, _⟩ => ⟨S1x8192x1024, .f32⟩
  | .hbm, ⟨70, _⟩ => ⟨S2x8192x1024, .f32⟩
  | .hbm, ⟨71, _⟩ => ⟨S8192x2816, .bf16⟩
  | .hbm, ⟨72, _⟩ => ⟨S8192x2816, .bf16⟩
  | .hbm, ⟨73, _⟩ => ⟨S8192x2816, .f32⟩
  | .hbm, ⟨74, _⟩ => ⟨S8192x2816, .f32⟩
  | .hbm, ⟨75, _⟩ => ⟨S_, .f32⟩
  | .hbm, ⟨76, _⟩ => ⟨S8192x2816, .f32⟩
  | .hbm, ⟨77, _⟩ => ⟨S8192x2816, .f32⟩
  | .hbm, ⟨78, _⟩ => ⟨S_, .f32⟩
  | .hbm, ⟨79, _⟩ => ⟨S8192x2816, .f32⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S8192x2816, .bf16⟩
  | .hbm, ⟨84, _⟩ => ⟨S2x8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v22_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v22_1 : Ref sig .tc := ⟨.hbm, 41, rfl⟩
abbrev main_v22_0 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]
-- ==== Kernel7.lean ====
abbrev S8192x1024 : Shape := ⟨2, ![8192, 1024]⟩
abbrev S1x1024 : Shape := ⟨2, ![1, 1024]⟩
abbrev S2x8192x1024 : Shape := ⟨3, ![2, 8192, 1024]⟩
abbrev S256x1024 : Shape := ⟨2, ![256, 1024]⟩
abbrev S2x256x1024 : Shape := ⟨3, ![2, 256, 1024]⟩
abbrev S256 : Shape := ⟨1, ![256]⟩
abbrev S256x1 : Shape := ⟨2, ![256, 1]⟩
abbrev S1x256x1024 : Shape := ⟨3, ![1, 256, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x8192x1024, .f32⟩
  | .hbm, ⟨3, _⟩ => ⟨S8192x1024, .f32⟩
  | .hbm, ⟨4, _⟩ => ⟨S2x8192x1024, .bf16⟩
  | .hbm, ⟨5, _⟩ => ⟨S8192x1024, .f32⟩
  | .hbm, ⟨6, _⟩ => ⟨S1x1024, .f32⟩
  | .hbm, ⟨7, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2x256x1024, .bf16⟩
  | .local _ .vmem, ⟨4, _⟩ => ⟨S2x256x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8192x1024 : Shape := ⟨2, ![8192, 1024]⟩
abbrev S1x1024 : Shape := ⟨2, ![1, 1024]⟩
abbrev S2x8192x1024 : Shape := ⟨3, ![2, 8192, 1024]⟩
abbrev S_ : Shape := ⟨0, ![]⟩
abbrev S8192 : Shape := ⟨1, ![8192]⟩
abbrev S8192x1 : Shape := ⟨2, ![8192, 1]⟩
abbrev S1x8192x1024 : Shape := ⟨3, ![1, 8192, 1024]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x8192x1024, .f32⟩
  | .hbm, ⟨24, _⟩ => ⟨S8192x1024, .f32⟩
  | .hbm, ⟨25, _⟩ => ⟨S1x8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel2.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S512 : Shape := ⟨1, ![512]⟩
abbrev S512x128 : Shape := ⟨2, ![512, 128]⟩

abbrev nBuf : Space → Nat
  | .hbm => 34
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S8192x512, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S_, .f32⟩
  | .hbm, ⟨19, _⟩ => ⟨S_, .f32⟩
  | .hbm, ⟨20, _⟩ => ⟨S8x128x128, .i1⟩
  | .hbm, ⟨21, _⟩ => ⟨S8x128x128, .f32⟩
  | .hbm, ⟨22, _⟩ => ⟨S8x128x128, .f32⟩
  | .hbm, ⟨23, _⟩ => ⟨S8x128x128, .bf16⟩
  | .hbm, ⟨24, _⟩ => ⟨S8x128x128, .f32⟩
  | .hbm, ⟨25, _⟩ => ⟨S8x128x128, .bf16⟩
  | .hbm, ⟨26, _⟩ => ⟨S128x8, .f32⟩
  | .hbm, ⟨27, _⟩ => ⟨S128x8x64, .f32⟩
  | .hbm, ⟨28, _⟩ => ⟨S128x512, .f32⟩
  | .hbm, ⟨29, _⟩ => ⟨S8192x1024, .bf16⟩
  | .hbm, ⟨30, _⟩ => ⟨S8x128x128, .f32⟩
  | .hbm, ⟨31, _⟩ => ⟨S128x128, .f32⟩
  | .hbm, ⟨32, _⟩ => ⟨S1x512, .f32⟩
  | .hbm, ⟨33, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S8x128x128, .bf16⟩
  | .local _ .vmem, ⟨9, _⟩ => ⟨S8x128x128, .bf16⟩
  | .local _ .vmem, ⟨10, _⟩ => ⟨S128x512, .f32⟩
  | .local _ .vmem, ⟨11, _⟩ => ⟨S256x1024, .bf16⟩
  | .local _ .vmem, ⟨12, _⟩ => ⟨S256x1024, .bf16⟩
  | .local _ .vmem, ⟨13, _⟩ => ⟨S8x128x128, .f32⟩
  | .local _ .vmem, ⟨14, _⟩ => ⟨S128x128, .f32⟩
  | .local _ .vmem, ⟨15, _⟩ => ⟨S1x512, .f32⟩
  | .local _ .vmem, ⟨16, _⟩ => ⟨S1x512, .f32⟩
  | .local _ .vmem, ⟨17, _⟩ => ⟨S256x512, .bf16⟩
  | .local _ .vmem, ⟨18, _⟩ => ⟨S256x512, .f32⟩
  | .local _ .vmem, ⟨19, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v10_3 : Ref sig .tc := ⟨.hbm, 32, rfl⟩
abbrev main_v10_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v715 : BitVec 1 := Scalar.cmpi .eq arg0 c31_i32
  let v716 : BitVec 32 := Scalar.extui v715
  let c0_i32_507 : BitVec 32 := 0#32
  let v717 : BitVec 1 := Scalar.cmpi .ne v716 c0_i32_507
  v717

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel2Ideal.lean ====
variable {F : FTy → Type} [FloatOps F] [Named F]
def κ : String → Option EReal := fun
  | "half_erf_slope" => some (((1 / 2) * ((9465531 / 8388608) * (Real.sqrt (1 / 2))) : ℝ) : EReal)
  | "sqrt_half" => some ((Real.sqrt (1 / 2) : ℝ) : EReal)
  | _ => none
-- ==== Reference2Ideal.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S512 : Shape := ⟨1, ![512]⟩

abbrev nBuf : Space → Nat
  | .hbm => 180
  | .vmem => 0
  | .smem => 0
  | _ => 0

abbrev hbmTy0_0 (i : Nat) : BufTy := match i % 128 with
  | 0 => ⟨S8192x1024, .f32⟩
  | 1 => ⟨S1x512, .f32⟩
  | 2 => ⟨S1x512, .f32⟩
  | 3 => ⟨S8x128x128, .f32⟩
  | 4 => ⟨S8x128, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S8192x512, .f32⟩
  | 11 => ⟨S_, .f32⟩
  | 12 => ⟨S_, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S_, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x512, .f32⟩
  | 41 => ⟨S8192x512, .f32⟩
  | 42 => ⟨S8192x512, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S_, .f32⟩
  | 50 => ⟨S8192x1, .f32⟩
  | 51 => ⟨S8192x1, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S64x128x8x64, .f32⟩
  | 64 => ⟨S_, .i1⟩
  | 65 => ⟨S128x128, .i1⟩
  | 66 => ⟨S128x128, .i32⟩
  | 67 => ⟨S_, .i32⟩
  | 68 => ⟨S128x128, .i32⟩
  | 69 => ⟨S128x128, .i32⟩
  | 70 => ⟨S128x128, .i32⟩
  | 71 => ⟨S128x128, .i1⟩
  | 72 => ⟨S_, .i1⟩
  | 73 => ⟨S128x128, .i1⟩
  | 74 => ⟨S128x128, .i1⟩
  | 75 => ⟨S1x128x128, .i1⟩
  | 76 => ⟨S_, .f32⟩
  | 77 => ⟨S8x128x128, .f32⟩
  | 78 => ⟨S8x128x128, .i1⟩
  | 79 => ⟨S8x128x128, .f32⟩
  | 80 => ⟨S_, .f32⟩
  | 81 => ⟨S8x128x128, .f32⟩
  | 82 => ⟨S8x64x64x128, .f32⟩
  | 83 => ⟨S64x128x8x64, .f32⟩
  | 84 => ⟨S128x8, .f32⟩
  | 85 => ⟨S1x128x8x1, .f32⟩
  | 86 => ⟨S64x128x8x64, .f32⟩
  | 87 => ⟨S64x128x8x64, .f32⟩
  | 88 => ⟨S8192x512, .f32⟩
  | 89 => ⟨S8192x512, .f32⟩
  | 90 => ⟨S8192x512, .f32⟩
  | 91 => ⟨S8192x512, .f32⟩
  | 92 => ⟨S64x128x8x64, .f32⟩
  | 93 => ⟨S_, .f32⟩
  | 94 => ⟨S128x8, .f32⟩
  | 95 => ⟨S1x128x8x1, .f32⟩
  | 96 => ⟨S_, .f32⟩
  | 97 => ⟨S128x8, .f32⟩
  | 98 => ⟨S8x128, .f32⟩
  | 99 => ⟨S8x64x64x128, .f32⟩
  | 100 => ⟨S8x128x128, .f32⟩
  | 101 => ⟨S8x64x64x128, .f32⟩
  | 102 => ⟨S64x128x8x64, .f32⟩
  | 103 => ⟨S_, .f32⟩
  | 104 => ⟨S8x128x128, .f32⟩
  | 105 => ⟨S8x128x128, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S_, .f32⟩
  | 112 => ⟨S512, .f32⟩
  | 113 => ⟨S1x512, .f32⟩
  | 114 => ⟨S8192x512, .f32⟩
  | 115 => ⟨S8192x512, .f32⟩
  | 116 => ⟨S8192x512, .f32⟩
  | 117 => ⟨S_, .f32⟩
  | 118 => ⟨S8192, .f32⟩
  | 119 => ⟨S8192x1, .f32⟩
  | 120 => ⟨S8192x512, .f32⟩
  | 121 => ⟨S8192x512, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x512, .f32⟩
  | 15 => ⟨S8192x512, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S_, .f32⟩
  | 30 => ⟨S8192x1024, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S8192x512, .f32⟩
  | 44 => ⟨S_, .f32⟩
  | 45 => ⟨S8192x1024, .f32⟩
  | 46 => ⟨S8192x1024, .f32⟩
  | 47 => ⟨S8192x1024, .bf16⟩
  | 48 => ⟨S128x8, .f32⟩
  | 49 => ⟨S_, .i32⟩
  | 50 => ⟨S_, .f32⟩
  | 51 => ⟨S128x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_v48 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_0 : Ref sig .tc := ⟨.hbm, 72, rfl⟩
abbrev main_call0_v5 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52_1 : Ref sig .tc := ⟨.hbm, 78, rfl⟩
abbrev main_v52_0 : Ref sig .tc := ⟨.hbm, 79, rfl⟩
abbrev main_call1_cst : Ref sig .tc := ⟨.hbm, 80, rfl⟩
abbrev main_v52_2 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_10 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call2_cst : Ref sig .tc := ⟨.hbm, 103, rfl⟩
abbrev main_call2_v0 : Ref sig .tc := ⟨.hbm, 104, rfl⟩
abbrev main_v72 : Ref sig .tc := ⟨.hbm, 105, rfl⟩
abbrev main_v73 : Ref sig .tc := ⟨.hbm, 106, rfl⟩
abbrev main_cst_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_15 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_17 : Ref sig .tc := ⟨.hbm, 134, rfl⟩
abbrev main_v96 : Ref sig .tc := ⟨.hbm, 135, rfl⟩
abbrev main_v97 : Ref sig .tc := ⟨.hbm, 136, rfl⟩
abbrev main_cst_18 : Ref sig .tc := ⟨.hbm, 137, rfl⟩
abbrev main_v98 : Ref sig .tc := ⟨.hbm, 138, rfl⟩
abbrev main_v99 : Ref sig .tc := ⟨.hbm, 139, rfl⟩
abbrev main_cst_19 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_20 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_21 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_cst_22 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_23 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_24 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_25 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_c_26 : Ref sig .tc := ⟨.hbm, 177, rfl⟩
abbrev main_call3_v0 : Ref sig .tc := ⟨.hbm, 178, rfl⟩
abbrev main_v130 : Ref sig .tc := ⟨.hbm, 179, rfl⟩

abbrev nD : Nat := 1
abbrev τ : Topo := Topo.v7x

variable {F : FTy → Type} [FloatOps F]
-- ==== Kernel8.lean ====
abbrev S256x1024 : Shape := ⟨2, ![256, 1024]⟩
abbrev S1x1024 : Shape := ⟨2, ![1, 1024]⟩
abbrev S1024x1024 : Shape := ⟨2, ![1024, 1024]⟩
abbrev S1x128 : Shape := ⟨2, ![1, 128]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1x128, .f32⟩
  | .hbm, ⟨4, _⟩ => ⟨S1024x1024, .bf16⟩
  | .hbm, ⟨5, _⟩ => ⟨S256x512, .bf16⟩
  | .hbm, ⟨6, _⟩ => ⟨S256x512, .bf16⟩
  | .hbm, ⟨7, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1x128, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S256x1024 : Shape := ⟨2, ![256, 1024]⟩
abbrev S1x1024 : Shape := ⟨2, ![1, 1024]⟩
abbrev S1024x1024 : Shape := ⟨2, ![1024, 1024]⟩
abbrev S1x128 : Shape := ⟨2, ![1, 128]⟩
abbrev S_ : Shape := ⟨0, ![]⟩
abbrev S256 : Shape := ⟨1, ![256]⟩
abbrev S256x1 : Shape := ⟨2, ![256, 1]⟩
abbrev S256x512 : Shape := ⟨2, ![256, 512]⟩
abbrev S256x4x128 : Shape := ⟨3, ![256, 4, 128]⟩
abbrev S128 : Shape := ⟨1, ![128]⟩
abbrev S256x4 : Shape := ⟨2, ![256, 4]⟩
abbrev S256x4x1 : Shape := ⟨3, ![256, 4, 1]⟩
abbrev S1x1x128 : Shape := ⟨3, ![1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1x128, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x512, .f32⟩
  | .hbm, ⟨21, _⟩ => ⟨S256x4x128, .f32⟩
  | .hbm, ⟨22, _⟩ => ⟨S128, .f32⟩
  | .hbm, ⟨23, _⟩ => ⟨S256x4x128, .f32⟩
  | .hbm, ⟨24, _⟩ => ⟨S_, .f32⟩
  | .hbm, ⟨25, _⟩ => ⟨S256x4, .f32⟩
  | .hbm, ⟨26, _⟩ => ⟨S256x4x1, .f32⟩
  | .hbm, ⟨27, _⟩ => ⟨S_, .f32⟩
  | .hbm, ⟨28, _⟩ => ⟨S256x4x1, .f32⟩
  | .hbm, ⟨29, _⟩ => ⟨S256x4x1, .f32⟩
  | .hbm, ⟨30, _⟩ => ⟨S_, .f32⟩
  | .hbm, ⟨31, _⟩ => ⟨S256x4x1, .f32⟩
  | .hbm, ⟨32, _⟩ => ⟨S256x4x1, .f32⟩
  | .hbm, ⟨33, _⟩ => ⟨S256x4x1, .f32⟩
  | .hbm, ⟨34, _⟩ => ⟨S256x4x128, .f32⟩
  | .hbm, ⟨35, _⟩ => ⟨S256x4x128, .f32⟩
  | .hbm, ⟨36, _⟩ => ⟨S1x1x128, .f32⟩
  | .hbm, ⟨37, _⟩ => ⟨S256x4x128, .f32⟩
  | .hbm, ⟨38, _⟩ => ⟨S256x4x128, .f32⟩
  | .hbm, ⟨39, _⟩ => ⟨S256x512, .f32⟩
  | .hbm, ⟨40, _⟩ => ⟨S256x512, .bf16⟩
  | .hbm, ⟨41, _⟩ => ⟨S256x512, .f32⟩
  | .hbm, ⟨42, _⟩ => ⟨S256x512, .bf16⟩
  | .hbm, ⟨43, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel9.lean ====
abbrev S8192x512 : Shape := ⟨2, ![8192, 512]⟩
abbrev S1x128 : Shape := ⟨2, ![1, 128]⟩
abbrev S256x512 : Shape := ⟨2, ![256, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1x128, .f32⟩
  | .hbm, ⟨2, _⟩ => ⟨S256x512, .f32⟩
  | .hbm, ⟨3, _⟩ => ⟨S256x512, .f32⟩
  | .hbm, ⟨4, _⟩ => ⟨S256x512, .bf16⟩
  | .hbm, ⟨5, _⟩ => ⟨S256x512, .bf16⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x128, .f32⟩
  | .local _ .vmem, ⟨3, _⟩ => ⟨S256x512, .bf16⟩
  | .local _ .vmem, ⟨4, _⟩ => ⟨S256x512, .bf16⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x512 : Shape := ⟨2, ![8192, 512]⟩
abbrev S1x128 : Shape := ⟨2, ![1, 128]⟩
abbrev S256x512 : Shape := ⟨2, ![256, 512]⟩
abbrev S8192x4x128 : Shape := ⟨3, ![8192, 4, 128]⟩
abbrev S128 : Shape := ⟨1, ![128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 46
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x128, .f32⟩
  | .hbm, ⟨2, _⟩ => ⟨S256x512, .f32⟩
  | .hbm, ⟨3, _⟩ => ⟨S256x512, .f32⟩
  | .hbm, ⟨4, _⟩ => ⟨S8192x4x128, .f32⟩
  | .hbm, ⟨5, _⟩ => ⟨S128, .f32⟩
  | .hbm, ⟨6, _⟩ => ⟨S8192x4x128, .f32⟩
  | .hbm, ⟨7, _⟩ => ⟨S_, .f32⟩
  | .hbm, ⟨8, _⟩ => ⟨S8192x4, .f32⟩
  | .hbm, ⟨9, _⟩ => ⟨S8192x4x1, .f32⟩
  | .hbm, ⟨10, _⟩ => ⟨S_, .f32⟩
  | .hbm, ⟨11, _⟩ => ⟨S8192x4x1, .f32⟩
  | .hbm, ⟨12, _⟩ => ⟨S8192x4x1, .f32⟩
  | .hbm, ⟨13, _⟩ => ⟨S_, .f32⟩
  | .hbm, ⟨14, _⟩ => ⟨S8192x4x1, .f32⟩
  | .hbm, ⟨15, _⟩ => ⟨S8192x4x1, .f32⟩
  | .hbm, ⟨16, _⟩ => ⟨S8192x4x1, .f32⟩
  | .hbm, ⟨17, _⟩ => ⟨S8192x4x128, .f32⟩
  | .hbm, ⟨18, _⟩ => ⟨S8192x4x128, .f32⟩
  | .hbm, ⟨19, _⟩ => ⟨S1x1x128, .f32⟩
  | .hbm, ⟨20, _⟩ => ⟨S8192x4x128, .f32⟩
  | .hbm, ⟨21, _⟩ => ⟨S8192x4x128, .f32⟩
  | .hbm, ⟨22, _⟩ => ⟨S256x4x128, .f32⟩
  | .hbm, ⟨23, _⟩ => ⟨S4x8192x256, .f32⟩
  | .hbm, ⟨24, _⟩ => ⟨S_, .f32⟩
  | .hbm, ⟨25, _⟩ => ⟨S4x8192x256, .f32⟩
  | .hbm, ⟨26, _⟩ => ⟨S4x8192x256, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S4x8192x1, .f32⟩
  | .hbm, ⟨33, _⟩ => ⟨S4x8192x256, .f32⟩
  | .hbm, ⟨34, _⟩ => ⟨S4x8192x256, .f32⟩
  | .hbm, ⟨35, _⟩ => ⟨S4x8192x256, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S256x4x128, .f32⟩
  | .hbm, ⟨42, _⟩ => ⟨S4x128x8192, .f32⟩
  | .hbm, ⟨43, _⟩ => ⟨S8192x4x128, .f32⟩
  | .hbm, ⟨44, _⟩ => ⟨S8192x512, .f32⟩
  | .hbm, ⟨45, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel10.lean ====
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S8x64x1024 : Shape := ⟨3, ![8, 64, 1024]⟩
abbrev S_ : Shape := ⟨0, ![]⟩
abbrev S8x128x1024 : Shape := ⟨3, ![8, 128, 1024]⟩
abbrev S256x1024 : Shape := ⟨2, ![256, 1024]⟩
abbrev S256x512 : Shape := ⟨2, ![256, 512]⟩
abbrev S256x3072 : Shape := ⟨2, ![256, 3072]⟩
abbrev S1x1024 : Shape := ⟨2, ![1, 1024]⟩

abbrev nBuf : Space → Nat
  | .hbm => 28
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S8192x3072, .f32⟩
  | .hbm, ⟨5, _⟩ => ⟨S1x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x64x1024, .f32⟩
  | .hbm, ⟨11, _⟩ => ⟨S_, .i32⟩
  | .hbm, ⟨12, _⟩ => ⟨S_, .f32⟩
  | .hbm, ⟨13, _⟩ => ⟨S8x128x1024, .f32⟩
  | .hbm, ⟨14, _⟩ => ⟨S1024x1024, .f32⟩
  | .hbm, ⟨15, _⟩ => ⟨S8192x512, .bf16⟩
  | .hbm, ⟨16, _⟩ => ⟨S8192x1024, .bf16⟩
  | .hbm, ⟨17, _⟩ => ⟨S8192x512, .bf16⟩
  | .hbm, ⟨18, _⟩ => ⟨S8192x3072, .bf16⟩
  | .hbm, ⟨19, _⟩ => ⟨S512x1024, .bf16⟩
  | .hbm, ⟨20, _⟩ => ⟨S1024x1024, .bf16⟩
  | .hbm, ⟨21, _⟩ => ⟨S512x1024, .bf16⟩
  | .hbm, ⟨22, _⟩ => ⟨S1024x1024, .bf16⟩
  | .hbm, ⟨23, _⟩ => ⟨S8192x1024, .f32⟩
  | .hbm, ⟨24, _⟩ => ⟨S8192x1024, .bf16⟩
  | .hbm, ⟨25, _⟩ => ⟨S8192x1024, .bf16⟩
  | .hbm, ⟨26, _⟩ => ⟨S8192x1024, .bf16⟩
  | .hbm, ⟨27, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x3072, .bf16⟩
  | .local _ .vmem, ⟨9, _⟩ => ⟨S256x3072, .bf16⟩
  | .local _ .vmem, ⟨10, _⟩ => ⟨S1x3072, .f32⟩
  | .local _ .vmem, ⟨11, _⟩ => ⟨S512x1024, .bf16⟩
  | .local _ .vmem, ⟨12, _⟩ => ⟨S1024x1024, .bf16⟩
  | .local _ .vmem, ⟨13, _⟩ => ⟨S512x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference10Ideal.lean ====
abbrev S8192x1024 : Shape := ⟨2, ![8192, 1024]⟩
abbrev S8192x512 : Shape := ⟨2, ![8192, 512]⟩
abbrev S8192x3072 : Shape := ⟨2, ![8192, 3072]⟩
abbrev S1x3072 : Shape := ⟨2, ![1, 3072]⟩
abbrev S512x1024 : Shape := ⟨2, ![512, 1024]⟩
abbrev S1024x1024 : Shape := ⟨2, ![1024, 1024]⟩
abbrev S_ : Shape := ⟨0, ![]⟩
abbrev S8192x8x128 : Shape := ⟨3, ![8192, 8, 128]⟩
abbrev S8192x8x64 : Shape := ⟨3, ![8192, 8, 64]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x1024, .f32⟩
  | .hbm, ⟨3, _⟩ => ⟨S8192x512, .f32⟩
  | .hbm, ⟨4, _⟩ => ⟨S8192x3072, .f32⟩
  | .hbm, ⟨5, _⟩ => ⟨S1x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S8192x1024, .f32⟩
  | .hbm, ⟨21, _⟩ => ⟨S8192x8x128, .f32⟩
  | .hbm, ⟨22, _⟩ => ⟨S8192x8x64, .f32⟩
  | .hbm, ⟨23, _⟩ => ⟨S8192x512, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .bf16⟩
  | .hbm, ⟨38, _⟩ => ⟨S8192x1024, .bf16⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel11.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S8x128x128, .bf16⟩
  | .hbm, ⟨23, _⟩ => ⟨S128x8, .f32⟩
  | .hbm, ⟨24, _⟩ => ⟨S128x8x64, .f32⟩
  | .hbm, ⟨25, _⟩ => ⟨S128x512, .f32⟩
  | .hbm, ⟨26, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S8x128x128, .bf16⟩
  | .local _ .vmem, ⟨7, _⟩ => ⟨S128x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
variable {F : FTy → Type} [FloatOps F] [Named F]
def κ : String → Option EReal := fun
  | "sqrt_half" => some ((Real.sqrt (1 / 2) : ℝ) : EReal)
  | _ => none
-- ==== Reference11Ideal.lean ====
abbrev S8192x1024 : Shape := ⟨2, ![8192, 1024]⟩
abbrev S1x512 : Shape := ⟨2, ![1, 512]⟩
abbrev S8x128x128 : Shape := ⟨3, ![8, 128, 128]⟩
abbrev S8x128 : Shape := ⟨2, ![8, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x512, .f32⟩
  | .hbm, ⟨2, _⟩ => ⟨S1x512, .f32⟩
  | .hbm, ⟨3, _⟩ => ⟨S8x128x128, .f32⟩
  | .hbm, ⟨4, _⟩ => ⟨S8x128, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S64x128x8x64, .f32⟩
  | .hbm, ⟨53, _⟩ => ⟨S_, .i1⟩
  | .hbm, ⟨54, _⟩ => ⟨S128x128, .i1⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .i1⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S_, .f32⟩
  | .hbm, ⟨66, _⟩ => ⟨S8x128x128, .f32⟩
  | .hbm, ⟨67, _⟩ => ⟨S8x128x128, .i1⟩
  | .hbm, ⟨68, _⟩ => ⟨S8x128x128, .f32⟩
  | .hbm, ⟨69, _⟩ => ⟨S8x64x64x128, .f32⟩
  | .hbm, ⟨70, _⟩ => ⟨S64x128x8x64, .f32⟩
  | .hbm, ⟨71, _⟩ => ⟨S128x8, .f32⟩
  | .hbm, ⟨72, _⟩ => ⟨S1x128x8x1, .f32⟩
  | .hbm, ⟨73, _⟩ => ⟨S64x128x8x64, .f32⟩
  | .hbm, ⟨74, _⟩ => ⟨S64x128x8x64, .f32⟩
  | .hbm, ⟨75, _⟩ => ⟨S8192x512, .f32⟩
  | .hbm, ⟨76, _⟩ => ⟨S8192x512, .f32⟩
  | .hbm, ⟨77, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_call1_v0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Kernel12.lean ====
abbrev S40 : Shape := ⟨1, ![40]⟩
abbrev S8192x1024 : Shape := ⟨2, ![8192, 1024]⟩
abbrev S512x512 : Shape := ⟨2, ![512, 512]⟩
abbrev S1 : Shape := ⟨1, ![1]⟩
abbrev S2048x512 : Shape := ⟨2, ![2048, 512]⟩
abbrev S4x512x1 : Shape := ⟨3, ![4, 512, 1]⟩
abbrev S512x128 : Shape := ⟨2, ![512, 128]⟩
abbrev S2048x128 : Shape := ⟨2, ![2048, 128]⟩
abbrev S512x2048 : Shape := ⟨2, ![512, 2048]⟩
abbrev S1x512x1 : Shape := ⟨3, ![1, 512, 1]⟩
abbrev S512x1 : Shape := ⟨2, ![512, 1]⟩
abbrev S512 : Shape := ⟨1, ![512]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩

abbrev nBuf : Space → Nat
  | .hbm => 5
  | .vmem => 12
  | .smem => 2
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S4x512x1, .f32⟩
  | .local _ .vmem, ⟨11, _⟩ => ⟨S512x512, .f32⟩
  | .local _ .smem, ⟨0, _⟩ => ⟨S40, .i32⟩
  | .local _ .smem, ⟨1, _⟩ => ⟨S40, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let c1_i32 : BitVec 32 := 1#32
  let v4 : BitVec 32 := Scalar.addi v1 c1_i32
  let c512_i32 : BitVec 32 := 512#32
  let v5 : BitVec 32 := Scalar.muli v4 c512_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2048_i32 : BitVec 32 := 2048#32
  let c0_i32_2 : BitVec 32 := 0#32
  let v13 : BitVec 1 := Scalar.cmpi .sgt c2048_i32 c0_i32_2
  let v14 : BitVec 32 := Scalar.extui v13
  let c0_i32_3 : BitVec 32 := 0#32
  let v15 : BitVec 1 := Scalar.cmpi .slt c2048_i32 c0_i32_3
  let v16 : BitVec 32 := Scalar.extui v15
  let v17 : BitVec 32 := Scalar.subi v14 v16
  let v18 : BitVec 1 := Scalar.cmpi .ne v12 v17
  let v19 : BitVec 32 := Scalar.remsi v6 c2048_i32
  let c0_i32_4 : BitVec 32 := 0#32
  let v20 : BitVec 1 := Scalar.cmpi .ne v19 c0_i32_4
  let v21 : BitVec 1 := Scalar.andi v18 v20
  let v7 : BitVec 32 := Scalar.divsi v6 c2048_i32
  let c1_i32_5 : BitVec 32 := 1#32
  let v22 : BitVec 32 := Scalar.subi v7 c1_i32_5
  let v23 : BitVec 32 := Scalar.select v21 v22 v7
  let v24 : BitVec 1 := Scalar.cmpi .eq v3 v23
  let c1_i32_9 : BitVec 32 := 1#32
  let v34 : BitVec 32 := Scalar.addi v1 c1_i32_9
  let c512_i32_10 : BitVec 32 := 512#32
  let v35 : BitVec 32 := Scalar.muli v34 c512_i32_10
  let c1_i32_11 : BitVec 32 := 1#32
  let v36 : BitVec 32 := Scalar.subi v35 c1_i32_11
  let c2048_i32_12 : BitVec 32 := 2048#32
  let c0_i32_13 : BitVec 32 := 0#32
  let v37 : BitVec 1 := Scalar.cmpi .eq c2048_i32_12 c0_i32_13
  let c1_i32_14 : BitVec 32 := 1#32
  let v38 : BitVec 32 := Scalar.select v37 c1_i32_14 c2048_i32_12
  let v39 : BitVec 32 := Scalar.remsi v36 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c512_i32_18 : BitVec 32 := 512#32
  let c0_i32_21 : BitVec 32 := 0#32
  let v53 : BitVec 1 := Scalar.cmpi .sgt c512_i32_18 c0_i32_21
  let v54 : BitVec 32 := Scalar.extui v53
  let c0_i32_22 : BitVec 32 := 0#32
  let v55 : BitVec 1 := Scalar.cmpi .slt c512_i32_18 c0_i32_22
  let v56 : BitVec 32 := Scalar.extui v55
  let v57 : BitVec 32 := Scalar.subi v54 v56
  let v58 : BitVec 1 := Scalar.cmpi .ne v52 v57
  let v59 : BitVec 32 := Scalar.remsi v46 c512_i32_18
  let c0_i32_23 : BitVec 32 := 0#32
  let v60 : BitVec 1 := Scalar.cmpi .ne v59 c0_i32_23
  let v61 : BitVec 1 := Scalar.andi v58 v60
  let v47 : BitVec 32 := Scalar.divsi v46 c512_i32_18
  let c1_i32_24 : BitVec 32 := 1#32
  let v62 : BitVec 32 := Scalar.subi v47 c1_i32_24
  let v63 : BitVec 32 := Scalar.select v61 v62 v47
  let c0_i32_25 : BitVec 32 := 0#32
  let v64 : BitVec 1 := Scalar.cmpi .eq v63 c0_i32_25
  let v65 : BitVec 1 := Scalar.andi v24 v64
  let v66 : BitVec 32 := Scalar.extui v65
  let c0_i32_26 : BitVec 32 := 0#32
  let v67 : BitVec 1 := Scalar.cmpi .ne v66 c0_i32_26
  v67

def k0_cond4 (v1 : BitVec 32) (v3 : BitVec 32) : BitVec 1 :=
  let c1_i32 : BitVec 32 := 1#32
  let v4 : BitVec 32 := Scalar.addi v1 c1_i32
  let c512_i32 : BitVec 32 := 512#32
  let v5 : BitVec 32 := Scalar.muli v4 c512_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2048_i32 : BitVec 32 := 2048#32
  let c0_i32_2 : BitVec 32 := 0#32
  let v13 : BitVec 1 := Scalar.cmpi .sgt c2048_i32 c0_i32_2
  let v14 : BitVec 32 := Scalar.extui v13
  let c0_i32_3 : BitVec 32 := 0#32
  let v15 : BitVec 1 := Scalar.cmpi .slt c2048_i32 c0_i32_3
  let v16 : BitVec 32 := Scalar.extui v15
  let v17 : BitVec 32 := Scalar.subi v14 v16
  let v18 : BitVec 1 := Scalar.cmpi .ne v12 v17
  let v19 : BitVec 32 := Scalar.remsi v6 c2048_i32
  let c0_i32_4 : BitVec 32 := 0#32
  let v20 : BitVec 1 := Scalar.cmpi .ne v19 c0_i32_4
  let v21 : BitVec 1 := Scalar.andi v18 v20
  let v7 : BitVec 32 := Scalar.divsi v6 c2048_i32
  let c1_i32_5 : BitVec 32 := 1#32
  let v22 : BitVec 32 := Scalar.subi v7 c1_i32_5
  let v23 : BitVec 32 := Scalar.select v21 v22 v7
  let v24 : BitVec 1 := Scalar.cmpi .eq v3 v23
  let c1_i32_9 : BitVec 32 := 1#32
  let v34 : BitVec 32 := Scalar.addi v1 c1_i32_9
  let c512_i32_10 : BitVec 32 := 512#32
  let v35 : BitVec 32 := Scalar.muli v34 c512_i32_10
  let c1_i32_11 : BitVec 32 := 1#32
  let v36 : BitVec 32 := Scalar.subi v35 c1_i32_11
  let c2048_i32_12 : BitVec 32 := 2048#32
  let c0_i32_13 : BitVec 32 := 0#32
  let v37 : BitVec 1 := Scalar.cmpi .eq c2048_i32_12 c0_i32_13
  let c1_i32_14 : BitVec 32 := 1#32
  let v38 : BitVec 32 := Scalar.select v37 c1_i32_14 c2048_i32_12
  let v39 : BitVec 32 := Scalar.remsi v36 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c512_i32_18 : BitVec 32 := 512#32
  let c0_i32_21 : BitVec 32 := 0#32
  let v53 : BitVec 1 := Scalar.cmpi .sgt c512_i32_18 c0_i32_21
  let v54 : BitVec 32 := Scalar.extui v53
  let c0_i32_22 : BitVec 32 := 0#32
  let v55 : BitVec 1 := Scalar.cmpi .slt c512_i32_18 c0_i32_22
  let v56 : BitVec 32 := Scalar.extui v55
  let v57 : BitVec 32 := Scalar.subi v54 v56
  let v58 : BitVec 1 := Scalar.cmpi .ne v52 v57
  let v59 : BitVec 32 := Scalar.remsi v46 c512_i32_18
  let c0_i32_23 : BitVec 32 := 0#32
  let v60 : BitVec 1 := Scalar.cmpi .ne v59 c0_i32_23
  let v61 : BitVec 1 := Scalar.andi v58 v60
  let v47 : BitVec 32 := Scalar.divsi v46 c512_i32_18
  let c1_i32_24 : BitVec 32 := 1#32
  let v62 : BitVec 32 := Scalar.subi v47 c1_i32_24
  let v63 : BitVec 32 := Scalar.select v61 v62 v47
  let c1_i32_27 : BitVec 32 := 1#32
  let v68 : BitVec 1 := Scalar.cmpi .eq v63 c1_i32_27
  let v69 : BitVec 1 := Scalar.andi v24 v68
  let v70 : BitVec 32 := Scalar.extui v69
  let c0_i32_28 : BitVec 32 := 0#32
  let v71 : BitVec 1 := Scalar.cmpi .ne v70 c0_i32_28
  v71

def k0_cond5 (v1 : BitVec 32) (v3 : BitVec 32) : BitVec 1 :=
  let c1_i32 : BitVec 32 := 1#32
  let v4 : BitVec 32 := Scalar.addi v1 c1_i32
  let c512_i32 : BitVec 32 := 512#32
  let v5 : BitVec 32 := Scalar.muli v4 c512_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2048_i32 : BitVec 32 := 2048#32
  let c0_i32_2 : BitVec 32 := 0#32
  let v13 : BitVec 1 := Scalar.cmpi .sgt c2048_i32 c0_i32_2
  let v14 : BitVec 32 := Scalar.extui v13
  let c0_i32_3 : BitVec 32 := 0#32
  let v15 : BitVec 1 := Scalar.cmpi .slt c2048_i32 c0_i32_3
  let v16 : BitVec 32 := Scalar.extui v15
  let v17 : BitVec 32 := Scalar.subi v14 v16
  let v18 : BitVec 1 := Scalar.cmpi .ne v12 v17
  let v19 : BitVec 32 := Scalar.remsi v6 c2048_i32
  let c0_i32_4 : BitVec 32 := 0#32
  let v20 : BitVec 1 := Scalar.cmpi .ne v19 c0_i32_4
  let v21 : BitVec 1 := Scalar.andi v18 v20
  let v7 : BitVec 32 := Scalar.divsi v6 c2048_i32
  let c1_i32_5 : BitVec 32 := 1#32
  let v22 : BitVec 32 := Scalar.subi v7 c1_i32_5
  let v23 : BitVec 32 := Scalar.select v21 v22 v7
  let v24 : BitVec 1 := Scalar.cmpi .eq v3 v23
  let c1_i32_9 : BitVec 32 := 1#32
  let v34 : BitVec 32 := Scalar.addi v1 c1_i32_9
  let c512_i32_10 : BitVec 32 := 512#32
  let v35 : BitVec 32 := Scalar.muli v34 c512_i32_10
  let c1_i32_11 : BitVec 32 := 1#32
  let v36 : BitVec 32 := Scalar.subi v35 c1_i32_11
  let c2048_i32_12 : BitVec 32 := 2048#32
  let c0_i32_13 : BitVec 32 := 0#32
  let v37 : BitVec 1 := Scalar.cmpi .eq c2048_i32_12 c0_i32_13
  let c1_i32_14 : BitVec 32 := 1#32
  let v38 : BitVec 32 := Scalar.select v37 c1_i32_14 c2048_i32_12
  let v39 : BitVec 32 := Scalar.remsi v36 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c512_i32_18 : BitVec 32 := 512#32
  let c0_i32_21 : BitVec 32 := 0#32
  let v53 : BitVec 1 := Scalar.cmpi .sgt c512_i32_18 c0_i32_21
  let v54 : BitVec 32 := Scalar.extui v53
  let c0_i32_22 : BitVec 32 := 0#32
  let v55 : BitVec 1 := Scalar.cmpi .slt c512_i32_18 c0_i32_22
  let v56 : BitVec 32 := Scalar.extui v55
  let v57 : BitVec 32 := Scalar.subi v54 v56
  let v58 : BitVec 1 := Scalar.cmpi .ne v52 v57
  let v59 : BitVec 32 := Scalar.remsi v46 c512_i32_18
  let c0_i32_23 : BitVec 32 := 0#32
  let v60 : BitVec 1 := Scalar.cmpi .ne v59 c0_i32_23
  let v61 : BitVec 1 := Scalar.andi v58 v60
  let v47 : BitVec 32 := Scalar.divsi v46 c512_i32_18
  let c1_i32_24 : BitVec 32 := 1#32
  let v62 : BitVec 32 := Scalar.subi v47 c1_i32_24
  let v63 : BitVec 32 := Scalar.select v61 v62 v47
  let c2_i32 : BitVec 32 := 2#32
  let v72 : BitVec 1 := Scalar.cmpi .eq v63 c2_i32
  let v73 : BitVec 1 := Scalar.andi v24 v72
  let v74 : BitVec 32 := Scalar.extui v73
  let c0_i32_29 : BitVec 32 := 0#32
  let v75 : BitVec 1 := Scalar.cmpi .ne v74 c0_i32_29
  v75

def k0_cond6 (v1 : BitVec 32) (v3 : BitVec 32) : BitVec 1 :=
  let c1_i32 : BitVec 32 := 1#32
  let v4 : BitVec 32 := Scalar.addi v1 c1_i32
  let c512_i32 : BitVec 32 := 512#32
  let v5 : BitVec 32 := Scalar.muli v4 c512_i32
  let c1_i32_0 : BitVec 32 := 1#32
  let v6 : BitVec 32 := Scalar.subi v5 c1_i32_0
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c2048_i32 : BitVec 32 := 2048#32
  let c0_i32_2 : BitVec 32 := 0#32
  let v13 : BitVec 1 := Scalar.cmpi .sgt c2048_i32 c0_i32_2
  let v14 : BitVec 32 := Scalar.extui v13
  let c0_i32_3 : BitVec 32 := 0#32
  let v15 : BitVec 1 := Scalar.cmpi .slt c2048_i32 c0_i32_3
  let v16 : BitVec 32 := Scalar.extui v15
  let v17 : BitVec 32 := Scalar.subi v14 v16
  let v18 : BitVec 1 := Scalar.cmpi .ne v12 v17
  let v19 : BitVec 32 := Scalar.remsi v6 c2048_i32
  let c0_i32_4 : BitVec 32 := 0#32
  let v20 : BitVec 1 := Scalar.cmpi .ne v19 c0_i32_4
  let v21 : BitVec 1 := Scalar.andi v18 v20
  let v7 : BitVec 32 := Scalar.divsi v6 c2048_i32
  let c1_i32_5 : BitVec 32 := 1#32
  let v22 : BitVec 32 := Scalar.subi v7 c1_i32_5
  let v23 : BitVec 32 := Scalar.select v21 v22 v7
  let v24 : BitVec 1 := Scalar.cmpi .eq v3 v23
  let c1_i32_9 : BitVec 32 := 1#32
  let v34 : BitVec 32 := Scalar.addi v1 c1_i32_9
  let c512_i32_10 : BitVec 32 := 512#32
  let v35 : BitVec 32 := Scalar.muli v34 c512_i32_10
  let c1_i32_11 : BitVec 32 := 1#32
  let v36 : BitVec 32 := Scalar.subi v35 c1_i32_11
  let c2048_i32_12 : BitVec 32 := 2048#32
  let c0_i32_13 : BitVec 32 := 0#32
  let v37 : BitVec 1 := Scalar.cmpi .eq c2048_i32_12 c0_i32_13
  let c1_i32_14 : BitVec 32 := 1#32
  let v38 : BitVec 32 := Scalar.select v37 c1_i32_14 c2048_i32_12
  let v39 : BitVec 32 := Scalar.remsi v36 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c0_i32_19 : BitVec 32 := 0#32
  let v48 : BitVec 1 := Scalar.cmpi .sgt v46 c0_i32_19
  let v49 : BitVec 32 := Scalar.extui v48
  let c0_i32_20 : BitVec 32 := 0#32
  let v50 : BitVec 1 := Scalar.cmpi .slt v46 c0_i32_20
  let v51 : BitVec 32 := Scalar.extui v50
  let v52 : BitVec 32 := Scalar.subi v49 v51
  let c512_i32_18 : BitVec 32 := 512#32
  let c0_i32_21 : BitVec 32 := 0#32
  let v53 : BitVec 1 := Scalar.cmpi .sgt c512_i32_18 c0_i32_21
  let v54 : BitVec 32 := Scalar.extui v53
  let c0_i32_22 : BitVec 32 := 0#32
  let v55 : BitVec 1 := Scalar.cmpi .slt c512_i32_18 c0_i32_22
  let v56 : BitVec 32 := Scalar.extui v55
  let v57 : BitVec 32 := Scalar.subi v54 v56
  let v58 : BitVec 1 := Scalar.cmpi .ne v52 v57
  let v59 : BitVec 32 := Scalar.remsi v46 c512_i32_18
  let c0_i32_23 : BitVec 32 := 0#32
  let v60 : BitVec 1 := Scalar.cmpi .ne v59 c0_i32_23
  let v61 : BitVec 1 := Scalar.andi v58 v60
  let v47 : BitVec 32 := Scalar.divsi v46 c512_i32_18
  let c1_i32_24 : BitVec 32 := 1#32
  let v62 : BitVec 32 := Scalar.subi v47 c1_i32_24
  let v63 : BitVec 32 := Scalar.select v61 v62 v47
  let c3_i32 : BitVec 32 := 3#32
  let v76 : BitVec 1 := Scalar.cmpi .eq v63 c3_i32
  let v77 : BitVec 1 := Scalar.andi v24 v76
  let v78 : BitVec 32 := Scalar.extui v77
  let c0_i32_30 : BitVec 32 := 0#32
  let v79 : BitVec 1 := Scalar.cmpi .ne v78 c0_i32_30
  v79

def cc0_transform_0 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  ![v1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel12Ideal.lean ====
variable {F : FTy → Type} [FloatOps F] [Named F]
def κ : String → Option EReal := fun
  | "log2e" => some (((Real.log 2)⁻¹ : ℝ) : EReal)
  | "mask" => some ⊥
  | _ => none
-- ==== Reference12Ideal.lean ====
abbrev S40 : Shape := ⟨1, ![40]⟩
abbrev S8192x1024 : Shape := ⟨2, ![8192, 1024]⟩
abbrev S8192x8x128 : Shape := ⟨3, ![8192, 8, 128]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x128 : Shape := ⟨3, ![8, 8192, 128]⟩
abbrev S8x8192x1 : Shape := ⟨3, ![8, 8192, 1]⟩
abbrev S8192x8 : Shape := ⟨2, ![8192, 8]⟩
abbrev S8192x8x1 : Shape := ⟨3, ![8192, 8, 1]⟩

abbrev nBuf : Space → Nat
  | .hbm => 48
  | .vmem => 0
  | .smem => 0
  | _ => 0

abbrev bufTy : (tb : Table) → Fin (tcTables nBuf tb) → BufTy
  | .hbm, ⟨0, _⟩ => ⟨S40, .i32⟩
  | .hbm, ⟨1, _⟩ => ⟨S40, .i32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .f32⟩
  | .hbm, ⟨6, _⟩ => ⟨S8192x8x128, .f32⟩
  | .hbm, ⟨7, _⟩ => ⟨S8192x1024, .f32⟩
  | .hbm, ⟨8, _⟩ => ⟨S8192x8x128, .f32⟩
  | .hbm, ⟨9, _⟩ => ⟨S8192x1024, .f32⟩
  | .hbm, ⟨10, _⟩ => ⟨S8192x8x128, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S1x8192x8192, .i1⟩
  | .hbm, ⟨20, _⟩ => ⟨S_, .f32⟩
  | .hbm, ⟨21, _⟩ => ⟨S_, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x128, .f32⟩
  | .hbm, ⟨33, _⟩ => ⟨S8x8192x1, .f32⟩
  | .hbm, ⟨34, _⟩ => ⟨S8x8192x128, .f32⟩
  | .hbm, ⟨35, _⟩ => ⟨S8x8192x128, .f32⟩
  | .hbm, ⟨36, _⟩ => ⟨S8x8192, .f32⟩
  | .hbm, ⟨37, _⟩ => ⟨S_, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S8192x8x128, .f32⟩
  | .hbm, ⟨42, _⟩ => ⟨S8192x1024, .f32⟩
  | .hbm, ⟨43, _⟩ => ⟨S8192x1024, .bf16⟩
  | .hbm, ⟨44, _⟩ => ⟨S8192x8, .f32⟩
  | .hbm, ⟨45, _⟩ => ⟨S8192x8x1, .f32⟩
  | .hbm, ⟨46, _⟩ => ⟨S8192x8x128, .f32⟩
  | .hbm, ⟨47, _⟩ => ⟨S8192x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S8192x2816 : Shape := ⟨2, ![8192, 2816]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1408x1024 : Shape := ⟨2, ![1408, 1024]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2x1408x1024, .bf16⟩
  | .hbm, ⟨10, _⟩ => ⟨S8192x1024, .f32⟩
  | .hbm, ⟨11, _⟩ => ⟨S8192x2816, .bf16⟩
  | .hbm, ⟨12, _⟩ => ⟨S8192x2816, .bf16⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_21 : BitVec 32 := 0#32
  let v28 : BitVec 1 := Scalar.cmpi .ne v27 c0_i32_21
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference13Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x2816, .bf16⟩
  | .hbm, ⟨39, _⟩ => ⟨S8192x2816, .bf16⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x128 : Shape := ⟨2, ![1, 128]⟩
abbrev S8192x2816 : Shape := ⟨2, ![8192, 2816]⟩
abbrev S512x1024 : Shape := ⟨2, ![512, 1024]⟩
abbrev S1x1024x1408 : Shape := ⟨3, ![1, 1024, 1408]⟩
abbrev S1x1408x1024 : Shape := ⟨3, ![1, 1408, 1024]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1408x1024 : Shape := ⟨2, ![1408, 1024]⟩
abbrev S1 : Shape := ⟨1, ![1]⟩
abbrev S1x1 : Shape := ⟨2, ![1, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2x1408x1024, .bf16⟩
  | .hbm, ⟨10, _⟩ => ⟨S8192x1024, .f32⟩
  | .hbm, ⟨11, _⟩ => ⟨S1x128, .f32⟩
  | .hbm, ⟨12, _⟩ => ⟨S8192x2816, .bf16⟩
  | .hbm, ⟨13, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1408x1024, .bf16⟩
  | .local _ .vmem, ⟨8, _⟩ => ⟨S1x1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x128, .f32⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1024, .bf16⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_24 : BitVec 32 := 0#32
  let v33 : BitVec 1 := Scalar.cmpi .ne v32 c0_i32_24
  v33

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference14Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S1x128, .f32⟩
  | .hbm, ⟨62, _⟩ => ⟨S8192x2816, .bf16⟩
  | .hbm, ⟨63, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩

abbrev nD : Nat := 1
abbrev τ : Topo := Topo.v7x

variable {F : FTy → Type} [FloatOps F]
-- ==== Kernel15.lean ====
abbrev S8192x384 : Shape := ⟨2, ![8192, 384]⟩
abbrev S8192x256 : Shape := ⟨2, ![8192, 256]⟩
abbrev S8192x32 : Shape := ⟨2, ![8192, 32]⟩
abbrev S8192 : Shape := ⟨1, ![8192]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x96 : Shape := ⟨2, ![1, 96]⟩
abbrev S384x8x96 : Shape := ⟨3, ![384, 8, 96]⟩
abbrev S_ : Shape := ⟨0, ![]⟩
abbrev S384x8x128 : Shape := ⟨3, ![384, 8, 128]⟩
abbrev S384x1024 : Shape := ⟨2, ![384, 1024]⟩
abbrev S256x8x2x64 : Shape := ⟨4, ![256, 8, 2, 64]⟩
abbrev S256x8x1x64 : Shape := ⟨4, ![256, 8, 1, 64]⟩
abbrev S256x8x64 : Shape := ⟨3, ![256, 8, 64]⟩
abbrev S256x512 : Shape := ⟨2, ![256, 512]⟩
abbrev S256x8x128 : Shape := ⟨3, ![256, 8, 128]⟩
abbrev S1x128 : Shape := ⟨2, ![1, 128]⟩
abbrev S8192x128 : Shape := ⟨2, ![8192, 128]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x48 : Shape := ⟨2, ![8192, 48]⟩
abbrev S8192x80 : Shape := ⟨2, ![8192, 80]⟩
abbrev S8192x1024 : Shape := ⟨2, ![8192, 1024]⟩
abbrev S256x384 : Shape := ⟨2, ![256, 384]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 80
  | .vmem => 29
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S8192x32, .f32⟩
  | .hbm, ⟨3, _⟩ => ⟨S8192, .i32⟩
  | .hbm, ⟨4, _⟩ => ⟨S1x384, .f32⟩
  | .hbm, ⟨5, _⟩ => ⟨S384x768, .f32⟩
  | .hbm, ⟨6, _⟩ => ⟨S1x256, .f32⟩
  | .hbm, ⟨7, _⟩ => ⟨S256x1024, .f32⟩
  | .hbm, ⟨8, _⟩ => ⟨S1x96, .f32⟩
  | .hbm, ⟨9, _⟩ => ⟨S1x96, .f32⟩
  | .hbm, ⟨10, _⟩ => ⟨S384x768, .bf16⟩
  | .hbm, ⟨11, _⟩ => ⟨S384x8x96, .bf16⟩
  | .hbm, ⟨12, _⟩ => ⟨S_, .i32⟩
  | .hbm, ⟨13, _⟩ => ⟨S_, .bf16⟩
  | .hbm, ⟨14, _⟩ => ⟨S384x8x128, .bf16⟩
  | .hbm, ⟨15, _⟩ => ⟨S384x1024, .bf16⟩
  | .hbm, ⟨16, _⟩ => ⟨S256x1024, .bf16⟩
  | .hbm, ⟨17, _⟩ => ⟨S256x8x2x64, .bf16⟩
  | .hbm, ⟨18, _⟩ => ⟨S256x8x1x64, .bf16⟩
  | .hbm, ⟨19, _⟩ => ⟨S256x8x64, .bf16⟩
  | .hbm, ⟨20, _⟩ => ⟨S256x512, .bf16⟩
  | .hbm, ⟨21, _⟩ => ⟨S256x8x64, .bf16⟩
  | .hbm, ⟨22, _⟩ => ⟨S_, .i32⟩
  | .hbm, ⟨23, _⟩ => ⟨S_, .bf16⟩
  | .hbm, ⟨24, _⟩ => ⟨S256x8x128, .bf16⟩
  | .hbm, ⟨25, _⟩ => ⟨S256x1024, .bf16⟩
  | .hbm, ⟨26, _⟩ => ⟨S256x8x1x64, .bf16⟩
  | .hbm, ⟨27, _⟩ => ⟨S256x8x64, .bf16⟩
  | .hbm, ⟨28, _⟩ => ⟨S256x512, .bf16⟩
  | .hbm, ⟨29, _⟩ => ⟨S256x8x64, .bf16⟩
  | .hbm, ⟨30, _⟩ => ⟨S_, .i32⟩
  | .hbm, ⟨31, _⟩ => ⟨S_, .bf16⟩
  | .hbm, ⟨32, _⟩ => ⟨S256x8x128, .bf16⟩
  | .hbm, ⟨33, _⟩ => ⟨S256x1024, .bf16⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S_, .f32⟩
  | .hbm, ⟨39, _⟩ => ⟨S1x128, .f32⟩
  | .hbm, ⟨40, _⟩ => ⟨S_, .i32⟩
  | .hbm, ⟨41, _⟩ => ⟨S_, .f32⟩
  | .hbm, ⟨42, _⟩ => ⟨S8192x128, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S8192, .f32⟩
  | .hbm, ⟨52, _⟩ => ⟨S8192x1, .f32⟩
  | .hbm, ⟨53, _⟩ => ⟨S1x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S_, .f32⟩
  | .hbm, ⟨60, _⟩ => ⟨S8192x64, .f32⟩
  | .hbm, ⟨61, _⟩ => ⟨S_, .f32⟩
  | .hbm, ⟨62, _⟩ => ⟨S8192x32, .f32⟩
  | .hbm, ⟨63, _⟩ => ⟨S8192x128, .f32⟩
  | .hbm, ⟨64, _⟩ => ⟨S_, .f32⟩
  | .hbm, ⟨65, _⟩ => ⟨S8192x64, .f32⟩
  | .hbm, ⟨66, _⟩ => ⟨S8192x16, .f32⟩
  | .hbm, ⟨67, _⟩ => ⟨S_, .f32⟩
  | .hbm, ⟨68, _⟩ => ⟨S8192x48, .f32⟩
  | .hbm, ⟨69, _⟩ => ⟨S8192x128, .f32⟩
  | .hbm, ⟨70, _⟩ => ⟨S_, .f32⟩
  | .hbm, ⟨71, _⟩ => ⟨S8192x80, .f32⟩
  | .hbm, ⟨72, _⟩ => ⟨S_, .f32⟩
  | .hbm, ⟨73, _⟩ => ⟨S8192x32, .f32⟩
  | .hbm, ⟨74, _⟩ => ⟨S8192x128, .f32⟩
  | .hbm, ⟨75, _⟩ => ⟨S8192x1024, .bf16⟩
  | .hbm, ⟨76, _⟩ => ⟨S8192x1024, .bf16⟩
  | .hbm, ⟨77, _⟩ => ⟨S8192x1024, .bf16⟩
  | .hbm, ⟨78, _⟩ => ⟨S8192x384, .bf16⟩
  | .hbm, ⟨79, _⟩ => ⟨S8192x256, .bf16⟩
  | .local _ .vmem, ⟨0, _⟩ => ⟨S256x384, .f32⟩
  | .local _ .vmem, ⟨1, _⟩ => ⟨S256x384, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S1x384, .f32⟩
  | .local _ .vmem, ⟨7, _⟩ => ⟨S1x256, .f32⟩
  | .local _ .vmem, ⟨8, _⟩ => ⟨S1x128, .f32⟩
  | .local _ .vmem, ⟨9, _⟩ => ⟨S1x128, .f32⟩
  | .local _ .vmem, ⟨10, _⟩ => ⟨S384x1024, .bf16⟩
  | .local _ .vmem, ⟨11, _⟩ => ⟨S256x1024, .bf16⟩
  | .local _ .vmem, ⟨12, _⟩ => ⟨S256x1024, .bf16⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x384, .bf16⟩
  | .local _ .vmem, ⟨26, _⟩ => ⟨S256x384, .bf16⟩
  | .local _ .vmem, ⟨27, _⟩ => ⟨S256x256, .bf16⟩
  | .local _ .vmem, ⟨28, _⟩ => ⟨S256x256, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_call2_v0 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_call3_v0 : Ref sig .tc := ⟨.hbm, 35, rfl⟩
abbrev main_v18 : Ref sig .tc := ⟨.hbm, 36, rfl⟩
abbrev main_c_3 : Ref sig .tc := ⟨.hbm, 37, rfl⟩
abbrev main_call4_v0 : Ref sig .tc := ⟨.hbm, 38, rfl⟩
abbrev main_v19 : Ref sig .tc := ⟨.hbm, 39, rfl⟩
abbrev main_c_4 : Ref sig .tc := ⟨.hbm, 40, rfl⟩
abbrev main_call5_v0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_cst_11 : Ref sig .tc := ⟨.hbm, 72, rfl⟩
abbrev main_v43 : Ref sig .tc := ⟨.hbm, 73, rfl⟩
abbrev main_v44 : Ref sig .tc := ⟨.hbm, 74, rfl⟩
abbrev main_v45_0 : Ref sig .tc := ⟨.hbm, 75, rfl⟩
abbrev main_v45_1 : Ref sig .tc := ⟨.hbm, 76, rfl⟩
abbrev main_v45_2 : Ref sig .tc := ⟨.hbm, 77, rfl⟩
abbrev main_v45_3 : Ref sig .tc := ⟨.hbm, 78, rfl⟩
abbrev main_v45_4 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel15Ideal.lean ====
variable {F : FTy → Type} [FloatOps F] [Named F]
def κ : String → Option EReal := fun
  | "inv384" => some ((1 / 384 : ℝ) : EReal)
  | "inv96" => some ((1 / 96 : ℝ) : EReal)
  | "scale" => some ((((Real.sqrt 96) * (Real.log 2))⁻¹ : ℝ) : EReal)
  | _ => none
-- ==== Reference15Ideal.lean ====
abbrev S8192x384 : Shape := ⟨2, ![8192, 384]⟩
abbrev S8192x256 : Shape := ⟨2, ![8192, 256]⟩
abbrev S8192x32 : Shape := ⟨2, ![8192, 32]⟩
abbrev S8192 : Shape := ⟨1, ![8192]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S1x96 : Shape := ⟨2, ![1, 96]⟩
abbrev S_ : Shape := ⟨0, ![]⟩
abbrev S8192x1 : Shape := ⟨2, ![8192, 1]⟩
abbrev S8192x768 : Shape := ⟨2, ![8192, 768]⟩
abbrev S8192x8x96 : Shape := ⟨3, ![8192, 8, 96]⟩
abbrev S96 : Shape := ⟨1, ![96]⟩
abbrev S8192x8 : Shape := ⟨2, ![8192, 8]⟩
abbrev S8192x8x1 : Shape := ⟨3, ![8192, 8, 1]⟩
abbrev S1x1x96 : Shape := ⟨3, ![1, 1, 96]⟩
abbrev S8192x8x64 : Shape := ⟨3, ![8192, 8, 64]⟩
abbrev S8192x8x32 : Shape := ⟨3, ![8192, 8, 32]⟩
abbrev S16 : Shape := ⟨1, ![16]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩
abbrev S8192x1024 : Shape := ⟨2, ![8192, 1024]⟩
abbrev S8192x8x128 : Shape := ⟨3, ![8192, 8, 128]⟩
abbrev S8192x1x32 : Shape := ⟨3, ![8192, 1, 32]⟩
abbrev S8192x8x63 : Shape := ⟨3, ![8192, 8, 63]⟩

abbrev nBuf : Space → Nat
  | .hbm => 180
  | .vmem => 0
  | .smem => 0
  | _ => 0

abbrev hbmTy0_0 (i : Nat) : BufTy := match i % 128 with
  | 0 => ⟨S8192x384, .f32⟩
  | 1 => ⟨S8192x256, .f32⟩
  | 2 => ⟨S8192x32, .f32⟩
  | 3 => ⟨S8192, .i32⟩
  | 4 => ⟨S1x384, .f32⟩
  | 5 => ⟨S384x768, .f32⟩
  | 6 => ⟨S1x256, .f32⟩
  | 7 => ⟨S256x1024, .f32⟩
  | 8 => ⟨S1x96, .f32⟩
  | 9 => ⟨S1x96, .f32⟩
  | 10 => ⟨S8192x384, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x384, .f32⟩
  | 22 => ⟨S8192x384, .f32⟩
  | 23 => ⟨S8192x384, .f32⟩
  | 24 => ⟨S8192x384, .f32⟩
  | 25 => ⟨S8192x256, .f32⟩
  | 26 => ⟨S_, .f32⟩
  | 27 => ⟨S8192, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x1, .f32⟩
  | 36 => ⟨S8192x256, .f32⟩
  | 37 => ⟨S8192x256, .f32⟩
  | 38 => ⟨S8192x256, .f32⟩
  | 39 => ⟨S8192x256, .f32⟩
  | 40 => ⟨S8192x768, .f32⟩
  | 41 => ⟨S8192x8x96, .f32⟩
  | 42 => ⟨S96, .f32⟩
  | 43 => ⟨S8192x8x96, .f32⟩
  | 44 => ⟨S_, .f32⟩
  | 45 => ⟨S8192x8, .f32⟩
  | 46 => ⟨S8192x8x1, .f32⟩
  | 47 => ⟨S_, .f32⟩
  | 48 => ⟨S8192x8x1, .f32⟩
  | 49 => ⟨S8192x8x1, .f32⟩
  | 50 => ⟨S_, .f32⟩
  | 51 => ⟨S8192x8x1, .f32⟩
  | 52 => ⟨S8192x8x1, .f32⟩
  | 53 => ⟨S8192x8x1, .f32⟩
  | 54 => ⟨S8192x8x96, .f32⟩
  | 55 => ⟨S8192x8x96, .f32⟩
  | 56 => ⟨S1x1x96, .f32⟩
  | 57 => ⟨S8192x8x96, .f32⟩
  | 58 => ⟨S8192x8x96, .f32⟩
  | 59 => ⟨S8192x8x64, .f32⟩
  | 60 => ⟨S8192x8x32, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S8192, .f32⟩
  | 70 => ⟨S8192x1, .f32⟩
  | 71 => ⟨S1x16, .f32⟩
  | 72 => ⟨S8192x16, .f32⟩
  | 73 => ⟨S8192x16, .f32⟩
  | 74 => ⟨S8192x16, .f32⟩
  | 75 => ⟨S8192x16, .f32⟩
  | 76 => ⟨S8192x1x16, .f32⟩
  | 77 => ⟨S8192x16, .f32⟩
  | 78 => ⟨S8192x1x16, .f32⟩
  | 79 => ⟨S8192x8x16, .f32⟩
  | 80 => ⟨S8192x8x16, .f32⟩
  | 81 => ⟨S8192x8x16, .f32⟩
  | 82 => ⟨S8192x8x16, .f32⟩
  | 83 => ⟨S8192x8x16, .f32⟩
  | 84 => ⟨S8192x8x16, .f32⟩
  | 85 => ⟨S8192x8x16, .f32⟩
  | 86 => ⟨S8192x8x16, .f32⟩
  | 87 => ⟨S8192x8x16, .f32⟩
  | 88 => ⟨S8192x8x16, .f32⟩
  | 89 => ⟨S8192x8x16, .f32⟩
  | 90 => ⟨S8192x8x16, .f32⟩
  | 91 => ⟨S8192x8x32, .f32⟩
  | 92 => ⟨S8192x8x96, .f32⟩
  | 93 => ⟨S_, .f32⟩
  | 94 => ⟨S_, .f32⟩
  | 95 => ⟨S_, .f32⟩
  | 96 => ⟨S8192x8x96, .f32⟩
  | 97 => ⟨S8192x8x96, .f32⟩
  | 98 => ⟨S_, .f32⟩
  | 99 => ⟨S_, .f32⟩
  | 100 => ⟨S_, .f32⟩
  | 101 => ⟨S8192x8x96, .f32⟩
  | 102 => ⟨S8192x8x96, .f32⟩
  | 103 => ⟨S8192x1024, .f32⟩
  | 104 => ⟨S8192x8x128, .f32⟩
  | 105 => ⟨S8192x1x32, .f32⟩
  | 106 => ⟨S8192x8x32, .f32⟩
  | 107 => ⟨S8192x8x64, .f32⟩
  | 108 => ⟨S8192x8x96, .f32⟩
  | 109 => ⟨S96, .f32⟩
  | 110 => ⟨S8192x8x96, .f32⟩
  | 111 => ⟨S_, .f32⟩
  | 112 => ⟨S8192x8, .f32⟩
  | 113 => ⟨S8192x8x1, .f32⟩
  | 114 => ⟨S_, .f32⟩
  | 115 => ⟨S8192x8x1, .f32⟩
  | 116 => ⟨S8192x8x1, .f32⟩
  | 117 => ⟨S_, .f32⟩
  | 118 => ⟨S8192x8x1, .f32⟩
  | 119 => ⟨S8192x8x1, .f32⟩
  | 120 => ⟨S8192x8x1, .f32⟩
  | 121 => ⟨S8192x8x96, .f32⟩
  | 122 => ⟨S8192x8x96, .f32⟩
  | 123 => ⟨S1x1x96, .f32⟩
  | 124 => ⟨S8192x8x96, .f32⟩
  | 125 => ⟨S8192x8x96, .f32⟩
  | 126 => ⟨S8192x8x64, .f32⟩
  | 127 => ⟨S8192x8x32, .f32⟩
  | _ => ⟨S8192x384, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S_, .f32⟩
  | 6 => ⟨S16, .f32⟩
  | 7 => ⟨S16, .f32⟩
  | 8 => ⟨S8192, .f32⟩
  | 9 => ⟨S8192x1, .f32⟩
  | 10 => ⟨S1x16, .f32⟩
  | 11 => ⟨S8192x16, .f32⟩
  | 12 => ⟨S8192x16, .f32⟩
  | 13 => ⟨S8192x16, .f32⟩
  | 14 => ⟨S8192x16, .f32⟩
  | 15 => ⟨S8192x1x16, .f32⟩
  | 16 => ⟨S8192x16, .f32⟩
  | 17 => ⟨S8192x1x16, .f32⟩
  | 18 => ⟨S8192x8x16, .f32⟩
  | 19 => ⟨S8192x8x16, .f32⟩
  | 20 => ⟨S8192x8x16, .f32⟩
  | 21 => ⟨S8192x8x16, .f32⟩
  | 22 => ⟨S8192x8x16, .f32⟩
  | 23 => ⟨S8192x8x16, .f32⟩
  | 24 => ⟨S8192x8x16, .f32⟩
  | 25 => ⟨S8192x8x16, .f32⟩
  | 26 => ⟨S8192x8x16, .f32⟩
  | 27 => ⟨S8192x8x16, .f32⟩
  | 28 => ⟨S8192x8x16, .f32⟩
  | 29 => ⟨S8192x8x16, .f32⟩
  | 30 => ⟨S8192x8x32, .f32⟩
  | 31 => ⟨S8192x8x96, .f32⟩
  | 32 => ⟨S8192x8x64, .f32⟩
  | 33 => ⟨S_, .f32⟩
  | 34 => ⟨S8192x8x1, .f32⟩
  | 35 => ⟨S_, .f32⟩
  | 36 => ⟨S8192x8x63, .f32⟩
  | 37 => ⟨S8192x8x128, .f32⟩
  | 38 => ⟨S_, .f32⟩
  | 39 => ⟨S8192x8x32, .f32⟩
  | 40 => ⟨S8192x8x128, .f32⟩
  | 41 => ⟨S8192x1024, .f32⟩
  | 42 => ⟨S8192x1024, .bf16⟩
  | 43 => ⟨S_, .f32⟩
  | 44 => ⟨S8192x8x32, .f32⟩
  | 45 => ⟨S8192x8x128, .f32⟩
  | 46 => ⟨S8192x1024, .f32⟩
  | 47 => ⟨S8192x1024, .bf16⟩
  | 48 => ⟨S8192x1024, .f32⟩
  | 49 => ⟨S8192x1024, .bf16⟩
  | 50 => ⟨S8192x384, .bf16⟩
  | 51 => ⟨S8192x256, .bf16⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_11 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_12 : Ref sig .tc := ⟨.hbm, 111, rfl⟩
abbrev main_v88 : Ref sig .tc := ⟨.hbm, 112, rfl⟩
abbrev main_v89 : Ref sig .tc := ⟨.hbm, 113, rfl⟩
abbrev main_cst_13 : Ref sig .tc := ⟨.hbm, 114, rfl⟩
abbrev main_v90 : Ref sig .tc := ⟨.hbm, 115, rfl⟩
abbrev main_v91 : Ref sig .tc := ⟨.hbm, 116, rfl⟩
abbrev main_cst_14 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_15 : Ref sig .tc := ⟨.hbm, 130, rfl⟩
abbrev main_v104 : Ref sig .tc := ⟨.hbm, 131, rfl⟩
abbrev main_v105 : Ref sig .tc := ⟨.hbm, 132, rfl⟩
abbrev main_cst_16 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_17 : Ref sig .tc := ⟨.hbm, 161, rfl⟩
abbrev main_v133 : Ref sig .tc := ⟨.hbm, 162, rfl⟩
abbrev main_cst_18 : Ref sig .tc := ⟨.hbm, 163, rfl⟩
abbrev main_v134 : Ref sig .tc := ⟨.hbm, 164, rfl⟩
abbrev main_v135 : Ref sig .tc := ⟨.hbm, 165, rfl⟩
abbrev main_cst_19 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_20 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩

abbrev nD : Nat := 1
abbrev τ : Topo := Topo.v7x

variable {F : FTy → Type} [FloatOps F]
-- ==== Proof.Lift.lean ====
module

public import Idealize.ShloMosaic.Lib.Pipeline.ValueKit
public import Idealize.ShloMosaic.Lib.Pointwise
public import Idealize.ShloMosaic.Lib.Claim
public import Idealize.ShloMosaic.Lib.Tactic.CleanTypes

/-! Arrays of real numbers read at the ideal instance, and the arithmetic of the ideal instance on them: every
operation of finite arguments below is the operation of the real numbers. -/

@[expose] public section

noncomputable section

open Idealize.ShloMosaic Idealize.ShloMosaic.TcCoe

namespace Lift

/-- The ideal array of a real matrix. -/
def mat {a b : ℕ} (φ : FTy) (x : Fin a → Fin b → ℝ) : FVec Ideal ⟨2, ![a, b]⟩ φ := fun i => ((x (i 0) (i 1) : ℝ) : EReal)

theorem mat_at {a b : ℕ} (φ : FTy) (x : Fin a → Fin b → ℝ) (i : Fin a) (j : Fin b) :
    mat φ x (ix2 i j) = ((x i j : ℝ) : EReal) := rfl

/-- The ideal array of a real array of three axes. -/
def mat3 {a b n : ℕ} (φ : FTy) (x : Fin a → Fin b → Fin n → ℝ) : FVec Ideal ⟨3, ![a, b, n]⟩ φ := fun i => ((x (i 0) (i 1) (i 2) : ℝ) : EReal)

theorem mat3_at {a b n : ℕ} (φ : FTy) (x : Fin a → Fin b → Fin n → ℝ) (i : Fin a) (j : Fin b) (k : Fin n) :
    mat3 φ x (ix3 i j k) = ((x i j k : ℝ) : EReal) := rfl

/-- A finite sum of real numbers, summed in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem rsqrt_pos {r : ℝ} (h : 0 < r) : Ideal.rsqrt (r : EReal) = (((√r)⁻¹ : ℝ) : EReal) := by
  rw [Ideal.rsqrt_coe, if_neg (not_lt.2 h.le), if_neg h.ne']

theorem div_ne {a r : ℝ} (h : r ≠ 0) : Ideal.div (a : EReal) (r : EReal) = ((a / r : ℝ) : EReal) := by
  rw [Ideal.div_coe h, ← EReal.coe_mul, mul_one_div]

theorem coe_dite (p : Prop) [Decidable p] (f : p → ℝ) (g : ¬p → ℝ) :
    (if h : p then ((f h : ℝ) : EReal) else ((g h : ℝ) : EReal)) = ((if h : p then f h else g h : ℝ) : EReal) := by
  split <;> rfl

theorem coe_ite (p : Prop) [Decidable p] (f g : ℝ) :
    (if p then (f : EReal) else (g : EReal)) = ((if p then f else g : ℝ) : EReal) := by split <;> rfl

/-- The float word of the norms' epsilon, `1e-6` rounded to f32. -/
def eps : ℝ := 8796093 / 2 ^ 43

theorem eps_pos : 0 < eps := by norm_num [eps]

theorem w_eps : Ideal.ofBits .f32 0x358637BD#32 = (eps : EReal) := by
  simp [Ideal.ofBits, Ideal.ieee, eps, -EReal.coe_mul]; norm_num

theorem w_1024 : Ideal.ofBits .f32 0x44800000#32 = ((1024 : ℝ) : EReal) := by
  simp [Ideal.ofBits, Ideal.ieee, -EReal.coe_mul, -EReal.coe_neg]; norm_num
theorem w_128 : Ideal.ofBits .f32 0x43000000#32 = ((128 : ℝ) : EReal) := by
  simp [Ideal.ofBits, Ideal.ieee, -EReal.coe_mul, -EReal.coe_neg]; norm_num
theorem w_inv1024 : Ideal.ofBits .f32 0x3A800000#32 = ((1024⁻¹ : ℝ) : EReal) := by
  simp [Ideal.ofBits, Ideal.ieee, -EReal.coe_mul, -EReal.coe_neg]; norm_num
theorem w_inv128 : Ideal.ofBits .f32 0x3C000000#32 = ((128⁻¹ : ℝ) : EReal) := by
  simp [Ideal.ofBits, Ideal.ieee, -EReal.coe_mul, -EReal.coe_neg]; norm_num
theorem w_neghalf : Ideal.ofBits .f32 0xBF000000#32 = ((-(1 / 2) : ℝ) : EReal) := by
  simp [Ideal.ofBits, Ideal.ieee, -EReal.coe_mul, -EReal.coe_neg]; norm_num

/-! ### A sum over the first two of three axes -/

theorem drop_lead {a b n : ℕ} (h : (⟨3, ![a, b, n]⟩ : Shape).ReducesTo [0, 1] ⟨1, ![n]⟩) (l : Fin n) (i : (⟨3, ![a, b, n]⟩ : Shape).Idx) :
    h.drop i = ix1 l ↔ ∃ k : Fin a × Fin b, ix3 k.1 k.2 l = i := by
  constructor
  · intro e
    refine ⟨(i 0, i 1), ?_⟩
    funext k
    match k with
    | ⟨0, _⟩ => rfl
    | ⟨1, _⟩ => rfl
    | ⟨2, _⟩ => exact Fin.ext (congrArg Fin.val (congrFun e 0)).symm
  · rintro ⟨k, rfl⟩
    funext k
    match k with
    | ⟨0, _⟩ => rfl

theorem sum_lead {a b n : ℕ} (h : (⟨3, ![a, b, n]⟩ : Shape).ReducesTo [0, 1] ⟨1, ![n]⟩) (v : (⟨3, ![a, b, n]⟩ : Shape).Idx → EReal)
    (init : EReal) (l : Fin n) : Ideal.hostReduceAdd h v init (ix1 l) = init + ∑ p, ∑ q, v (ix3 p q l) := by
  refine congrArg (init + ·) ((Finset.sum_filter_eq_sum_of_fiber _ (fun k : Fin a × Fin b => ix3 k.1 k.2 l)
    (fun _ _ e => Prod.ext (congrFun e 0) (congrFun e 1)) (drop_lead h l) v).trans ?_)
  simp only [Fintype.sum_prod_type]

/-! ### Reading back columns stored one group at a time -/

/-- Of stores into whole columns the last one decides: inside its columns its payload stands, elsewhere the earlier
stores. -/
theorem canon_cols {Val : EltTy → Type} [∀ e, Nonempty (Val e)] {e : EltTy} {a b o n : ℕ}
    (inb : ∀ k, (![0, o] : Fin 2 → ℕ) k + (![a, n] : Fin 2 → ℕ) k ≤ (⟨2, ![a, b]⟩ : Shape).size k)
    (w : (⟨2, ![a, n]⟩ : Shape).Idx → Val e) (L : List (View.Piece Val ⟨2, ![a, b]⟩ e)) (i : Fin a) (j : Fin b) :
    View.canon ((⟨Rect.unit (s := ⟨2, ![a, b]⟩) ![0, o] ![a, n] inb, w⟩ : View.Piece Val ⟨2, ![a, b]⟩ e) :: L) (ix2 i j)
      = if h : o ≤ j.val ∧ j.val - o < n then w (ix2 i ⟨j.val - o, h.2⟩) else View.canon L (ix2 i j) := by
  split
  · next h =>
    have hj : (ix2 i j : (⟨2, ![a, b]⟩ : Shape).Idx)
        = (Rect.unit (s := ⟨2, ![a, b]⟩) ![0, o] ![a, n] inb).emb (ix2 i ⟨j.val - o, h.2⟩ : (⟨2, ![a, n]⟩ : Shape).Idx) := by
      funext k
      refine Fin.ext ?_
      match k with
      | ⟨0, _⟩ => show i.val = 0 + 1 * i.val; omega
      | ⟨1, _⟩ => show j.val = o + 1 * (j.val - o); omega
    rw [hj]
    exact View.canon_cons_emb (Rect.unit (s := ⟨2, ![a, b]⟩) ![0, o] ![a, n] inb) w L _
  · next h =>
    refine View.canon_cons_of_not_mem _ L fun hm => h ?_
    have h1 := (Rect.mem_set_unit (inb := inb)).1 hm 1
    have h2 : o ≤ j.val ∧ j.val < o + n := h1
    omega

/-- A load of whole columns. -/
theorem ld_cols {Val : EltTy → Type} {e : EltTy} {a b o n : ℕ} (w : (⟨2, ![a, b]⟩ : Shape).Idx → Val e)
    (inb : ∀ k, (![0, o] : Fin 2 → ℕ) k + (![a, n] : Fin 2 → ℕ) k ≤ (⟨2, ![a, b]⟩ : Shape).size k) (i : Fin a) (j : Fin n) (h : o + j.val < b) :
    View.ld w (Rect.unit (s := ⟨2, ![a, b]⟩) ![0, o] ![a, n] inb) (ix2 i j : (⟨2, ![a, n]⟩ : Shape).Idx) = w (ix2 i ⟨o + j.val, h⟩) := by
  refine congrArg w (funext fun k => Fin.ext ?_)
  match k with
  | ⟨0, _⟩ => show 0 + 1 * i.val = i.val; omega
  | ⟨1, _⟩ => show o + 1 * j.val = o + j.val; omega

/-- A load of whole columns after stores. -/
theorem readCov_cols {sig κ sp} {Val : EltTy → Type} [∀ e, Nonempty (Val e)] {e : EltTy} {a b o n : ℕ} (v : View sig κ sp ⟨2, ![a, b]⟩ e)
    (inb : ∀ k, (![0, o] : Fin 2 → ℕ) k + (![a, n] : Fin 2 → ℕ) k ≤ (⟨2, ![a, b]⟩ : Shape).size k) (L : List (View.Piece Val ⟨2, ![a, b]⟩ e))
    (i : Fin a) (j : Fin n) (h : o + j.val < b) :
    v.readCov L (Rect.unit (s := ⟨2, ![a, b]⟩) ![0, o] ![a, n] inb).toLoadRect (ix2 i j : (⟨2, ![a, n]⟩ : Shape).Idx) = View.canon L (ix2 i ⟨o + j.val, h⟩) := by
  rw [View.readCov_eq_canon']
  refine congrArg (View.canon L) (funext fun k => Fin.ext ?_)
  match k with
  | ⟨0, _⟩ => show 0 + 1 * i.val = i.val; omega
  | ⟨1, _⟩ => show o + 1 * j.val = o + j.val; omega

/-! ### The reciprocal root mean square of a row -/

/-- One over the root of the row's mean square plus epsilon, `c` the row's length. -/
def rstd {n : ℕ} (c : ℝ) (f : Fin n → ℝ) : ℝ := (√((∑ k, f k * f k) / c + eps))⁻¹

theorem ms_pos {n : ℕ} {c : ℝ} (hc : 0 < c) (f : Fin n → ℝ) : 0 < (∑ k, f k * f k) / c + eps :=
  add_pos_of_nonneg_of_pos (div_nonneg (Finset.sum_nonneg fun _ _ => mul_self_nonneg _) hc.le) eps_pos

theorem rsqrt_ms {n : ℕ} {c : ℝ} (hc : 0 < c) (f : Fin n → ℝ) :
    Ideal.rsqrt (((∑ k, f k * f k) / c + eps : ℝ) : EReal) = ((rstd c f : ℝ) : EReal) := rsqrt_pos (ms_pos hc f)

/-- Division by the mean square plus epsilon is multiplication by the square of its reciprocal root. -/
theorem div_ms {n : ℕ} {c : ℝ} (hc : 0 < c) (f : Fin n → ℝ) (a : ℝ) :
    Ideal.div (a : EReal) (((∑ k, f k * f k) / c + eps : ℝ) : EReal) = ((a * (rstd c f * rstd c f) : ℝ) : EReal) := by
  rw [div_ne (ms_pos hc f).ne', rstd, ← mul_inv, Real.mul_self_sqrt (ms_pos hc f).le, div_eq_mul_inv]

/-- The derivative of a row `x · rstd x` along `d`: `r · d − x · r³ · (mean of d · x)`, `r` the row's `rstd`. -/
def rmsBack {n : ℕ} (c : ℝ) (x d : Fin n → ℝ) (l : Fin n) : ℝ :=
  rstd c x * d l - x l * (rstd c x * rstd c x * rstd c x) * ((∑ k, d k * x k) / c)

/-- The derivative of the norm as differentiation writes it: the reciprocal root's derivative `−½ · r · r²` once for each
factor of the square. -/
theorem rms_ref {n : ℕ} (c : ℝ) (x d : Fin n → ℝ) (l : Fin n) :
    d l * rstd c x + x l * (∑ _ : Fin 1, (∑ k, x k * d k) * (-(1 / 2) * (rstd c x * (rstd c x * rstd c x))) / c)
      + (∑ _ : Fin 1, (∑ k, x k * d k) * (-(1 / 2) * (rstd c x * (rstd c x * rstd c x))) / c) * x l = rmsBack c x d l := by
  have e : ∑ k, d k * x k = ∑ k, x k * d k := Finset.sum_congr rfl fun k _ => mul_comm _ _
  rw [rmsBack, e, Fin.sum_univ_one]
  ring

/-! ### Blocks of columns -/

/-- `n` columns from column `o` on. -/
def cols {a b : ℕ} (o n : ℕ) (h : o + n ≤ b) (z : Fin a → Fin b → ℝ) (i : Fin a) (j : Fin n) : ℝ := z i ⟨o + j.val, by omega⟩

theorem slice_at {a b n o : ℕ} {φ : FTy} (z : Fin a → Fin b → ℝ) (h : (⟨2, ![a, b]⟩ : Shape).Slices ![0, o] ⟨2, ![a, n]⟩) (hb : o + n ≤ b) :
    extractStridedSlice ⟨2, ![a, n]⟩ ![0, o] (mat φ z) h = mat φ (cols o n hb z) := by
  funext i
  refine congrArg Real.toEReal (congrArg₂ z (Fin.ext (Nat.zero_add _)) (Fin.ext rfl))

theorem ld_at {a b n o : ℕ} (z : Fin a → Fin b → ℝ)
    (inb : ∀ k, (![0, o] : Fin 2 → ℕ) k + (![a, n] : Fin 2 → ℕ) k ≤ (⟨2, ![a, b]⟩ : Shape).size k) (hb : o + n ≤ b) :
    (View.ld (Val := Elt Ideal) (e' := .f32) (mat .f32 z) (Rect.unit (s := ⟨2, ![a, b]⟩) ![0, o] ![a, n] inb) = mat .f32 (cols o n hb z))
    ∧ View.ld (Val := Elt Ideal) (e' := .bf16) (mat .bf16 z) (Rect.unit (s := ⟨2, ![a, b]⟩) ![0, o] ![a, n] inb) = mat .bf16 (cols o n hb z) := by
  constructor
  all_goals
    funext i
    refine congrArg Real.toEReal (congrArg₂ z (Fin.ext ?_) (Fin.ext ?_))
    · show 0 + 1 * (i 0).val = (i 0).val; omega
    · show o + 1 * (i 1).val = o + (i 1).val; omega

theorem trunc_at {a b : ℕ} (z : Fin a → Fin b → ℝ) (h : FTy.bits .bf16 < FTy.bits .f32) : truncf .bf16 (mat .f32 z) h = mat .bf16 z := rfl

/-! ### Softmax of a row -/

/-- The largest of finitely many real numbers, as the fold from `−∞` has it. -/
def top {ι : Type*} [Fintype ι] (f : ι → ℝ) : ℝ := (Finset.univ.fold max ⊥ fun m => ((f m : ℝ) : EReal)).toReal

theorem fold_max {ι : Type*} [Fintype ι] [Nonempty ι] (f : ι → ℝ) : (Finset.univ.fold max ⊥ fun m => ((f m : ℝ) : EReal)) = ((top f : ℝ) : EReal) := by
  refine (EReal.coe_toReal (fun h => ?_) fun h => ?_).symm
  · have lt : (Finset.univ.fold max ⊥ fun m => ((f m : ℝ) : EReal)) < ⊤ := Finset.fold_max_lt _ |>.2 ⟨bot_lt_top, fun m _ => EReal.coe_lt_top _⟩
    exact lt.ne h
  · obtain ⟨m⟩ := ‹Nonempty ι›
    have le : ((f m : ℝ) : EReal) ≤ Finset.univ.fold max ⊥ fun m => ((f m : ℝ) : EReal) := Finset.le_fold_max _ |>.2 (Or.inr ⟨m, Finset.mem_univ m, le_rfl⟩)
    exact EReal.coe_ne_bot (f m) (le_bot_iff.1 (h ▸ le))

theorem w_neginf : Ideal.ofBits .f32 0xFF800000#32 = ⊥ := by simp [Ideal.ofBits, Ideal.ieee]

theorem sum_exp_ne {ι : Type*} [Fintype ι] [Nonempty ι] (f : ι → ℝ) : ∑ m, Real.exp (f m) ≠ 0 :=
  (Finset.sum_pos (fun m _ => Real.exp_pos (f m)) Finset.univ_nonempty).ne'

/-- The softmax does not see a common shift. -/
theorem soft_shift {ι : Type*} [Fintype ι] (f : ι → ℝ) (c : ℝ) (m : ι) :
    Real.exp (f m - c) / ∑ l, Real.exp (f l - c) = Real.exp (f m) / ∑ l, Real.exp (f l) := by
  simp only [Real.exp_sub, ← Finset.sum_div]
  exact div_div_div_cancel_right₀ (Real.exp_ne_zero c) _ _

/-! ### Heads side by side -/

/-- `N` matrices of 128 columns side by side. -/
def join {N a b : ℕ} (hN : b = N * 128) (f : Fin N → Fin a → Fin 128 → ℝ) (i : Fin a) (j : Fin b) : ℝ :=
  f ⟨j.val / 128, by omega⟩ i ⟨j.val % 128, by omega⟩

theorem join_at {N a b : ℕ} (hN : b = N * 128) (f : Fin N → Fin a → Fin 128 → ℝ) (h : Fin N) {o : ℕ} (ho : o = h.val * 128) (i : Fin a) (l : Fin 128)
    (hl : o + l.val < b) : join hN f i ⟨o + l.val, hl⟩ = f h i l := by
  have e : (o + l.val) / 128 = h.val := by omega
  have e' : (o + l.val) % 128 = l.val := by omega
  unfold join
  rw [show (⟨(⟨o + l.val, hl⟩ : Fin b).val / 128, _⟩ : Fin N) = h from Fin.ext e, show (⟨(⟨o + l.val, hl⟩ : Fin b).val % 128, _⟩ : Fin 128) = l from Fin.ext e']

/-! ### Blocks of rows -/

/-- Rows `t · S` to `t · S + S - 1`. -/
def tile (S : ℕ) {R b : ℕ} (x : Fin R → Fin b → ℝ) (t : ℕ) (i : Fin S) (j : Fin b) : ℝ :=
  if h : t * S + i.val < R then x ⟨t * S + i.val, h⟩ j else 0

theorem tile_row {S R b : ℕ} (x : Fin R → Fin b → ℝ) {t : ℕ} {i : Fin S} (h : t * S + i.val < R) : tile S x t i = x ⟨t * S + i.val, h⟩ :=
  funext fun _ => dif_pos h

theorem mat_tile {S R b : ℕ} {φ : FTy} (x : Fin R → Fin b → ℝ) (t : ℕ) (i : Fin S) (j : Fin b) (y : (⟨2, ![R, b]⟩ : Shape).Idx)
    (h0 : (y 0).val = t * S + i.val) (h1 : (y 1).val = j.val) : mat φ x y = ((tile S x t i j : ℝ) : EReal) := by
  have lt : (y 0).val < R := (y 0).isLt
  rw [tile, dif_pos (by omega)]
  exact congrArg Real.toEReal (congrArg₂ x (Fin.ext h0) (Fin.ext h1))

theorem mat_whole {a b : ℕ} {φ : FTy} (x : Fin a → Fin b → ℝ) (i : Fin a) (j : Fin b) (y : (⟨2, ![a, b]⟩ : Shape).Idx)
    (h0 : (y 0).val = i.val) (h1 : (y 1).val = j.val) : mat φ x y = ((x i j : ℝ) : EReal) :=
  congrArg Real.toEReal (congrArg₂ x (Fin.ext h0) (Fin.ext h1))

theorem mat3_whole {a b n : ℕ} {φ : FTy} (x : Fin a → Fin b → Fin n → ℝ) (i : Fin a) (j : Fin b) (k : Fin n) (y : (⟨3, ![a, b, n]⟩ : Shape).Idx)
    (h0 : (y 0).val = i.val) (h1 : (y 1).val = j.val) (h2 : (y 2).val = k.val) : mat3 φ x y = ((x i j k : ℝ) : EReal) := by
  rw [mat3, show y 0 = i from Fin.ext h0, show y 1 = j from Fin.ext h1, show y 2 = k from Fin.ext h2]

/-- A sum over all rows, block by block. -/
theorem sum_tile {N S R : ℕ} (f : Fin R → ℝ) (g : Fin N → Fin S → ℝ) (hR : R = N * S)
    (h : ∀ t i (hl : t.val * S + i.val < R), g t i = f ⟨t.val * S + i.val, hl⟩) : ∑ t, ∑ i, g t i = ∑ r, f r := by
  subst hR
  exact Fin.sum_mul_add_congr fun t i hl => h t i hl

end Lift

end
-- ==== Proof.Finite.lean ====
module

public import proofs.«01_k».proof.Proof.Lift
public import Idealize.ShloMosaic.Lib.ReduceAll
public import Idealize.ShloMosaic.Lib.WordCmp
public import Idealize.ShloMosaic.Lib.Affine

/-! An array whose absolute values are all below infinity is an array of real numbers. -/

@[expose] public section

noncomputable section

open Idealize.ShloMosaic Idealize.ShloMosaic.TcCoe

namespace Lift

theorem w_inf : Ideal.ofBits .f32 0x7F800000#32 = ⊤ := by
  simp [Ideal.ofBits, Ideal.ieee]

theorem coe_toReal_of_abs_lt {x : EReal} (h : max x (-x) < ⊤) : ((x.toReal : ℝ) : EReal) = x := by
  refine EReal.coe_toReal (fun e => ?_) (fun e => ?_)
  · rw [e] at h; simp at h
  · rw [e] at h; simp at h

theorem and_one {s : Shape} (x y : IVec s 1) (i : s.Idx) : andi x y i = 1#1 ↔ x i = 1#1 ∧ y i = 1#1 := by
  have key : ∀ p q : BitVec 1, IntOp.andi p q = 1#1 ↔ p = 1#1 ∧ q = 1#1 := by decide
  exact key (x i) (y i)

/-- The test "every absolute value is below infinity" makes the array one of real numbers. -/
theorem finite_at {s t : Shape} {axes : List (Fin s.rank)} [Subsingleton t.Idx] (x : FVec Ideal s .f32) {d : Fin t.rank → Fin s.rank}
    (hb : t.BroadcastsInDim s d) (hr : s.ReducesTo axes t) (hu : 0 < t.numel) (j : t.Idx)
    (h : Host.reduce IntOp.andi (cmpf .olt (Host.absf x) (broadcastInDim s d hb (constant t .f32 0x7F800000#32)))
      (constantI t 1 1#1) hr hu j = 1#1) (i : s.Idx) : (((x i).toReal : ℝ) : EReal) = x i := by
  have e := Host.reduce_andi_all _ _ _ _ j h i
  have e' : Ideal.cmp .olt (max (x i) (-(x i))) (Ideal.ofBits .f32 0x7F800000#32) = 1#1 := e
  rw [w_inf] at e'
  refine coe_toReal_of_abs_lt ?_
  by_contra hn
  simp [Ideal.cmp, hn] at e'

theorem mat_of_finite {a b : ℕ} {t : Shape} {axes : List (Fin 2)} [Subsingleton t.Idx] (x : FVec Ideal ⟨2, ![a, b]⟩ .f32)
    {d : Fin t.rank → Fin 2} (hb : t.BroadcastsInDim ⟨2, ![a, b]⟩ d) (hr : (⟨2, ![a, b]⟩ : Shape).ReducesTo axes t)
    (hu : 0 < t.numel) (j : t.Idx)
    (h : Host.reduce IntOp.andi (cmpf .olt (Host.absf x) (broadcastInDim ⟨2, ![a, b]⟩ d hb (constant t .f32 0x7F800000#32)))
      (constantI t 1 1#1) hr hu j = 1#1) : x = mat .f32 fun i k => (x (ix2 i k)).toReal := by
  funext i
  rw [eq_ix2 i]
  exact (finite_at x hb hr hu j h _).symm

theorem mat3_of_finite {a b n : ℕ} {t : Shape} {axes : List (Fin 3)} [Subsingleton t.Idx] (x : FVec Ideal ⟨3, ![a, b, n]⟩ .f32)
    {d : Fin t.rank → Fin 3} (hb : t.BroadcastsInDim ⟨3, ![a, b, n]⟩ d) (hr : (⟨3, ![a, b, n]⟩ : Shape).ReducesTo axes t)
    (hu : 0 < t.numel) (j : t.Idx)
    (h : Host.reduce IntOp.andi (cmpf .olt (Host.absf x) (broadcastInDim ⟨3, ![a, b, n]⟩ d hb (constant t .f32 0x7F800000#32)))
      (constantI t 1 1#1) hr hu j = 1#1) : x = mat3 .f32 fun i k l => (x (ix3 i k l)).toReal := by
  funext i
  rw [eq_ix3 i]
  exact (finite_at x hb hr hu j h _).symm

end Lift

end
-- ==== Proof.MemKvModel.lean ====
module

public import proofs.«01_k».proof.Proof.Lift

/-! The memory bank's keys and values, and their gradients, over the real numbers: `x` the memory rows, `g` their norm's gain,
`w` the projection, `kg` the key norm's gain, `dk` and `dv` the cotangents. -/

@[expose] public section

noncomputable section

open Idealize.ShloMosaic Idealize.ShloMosaic.TcCoe

namespace Model.MemKv

open Lift

variable (x : Fin 256 → Fin 1024 → ℝ) (g : Fin 1 → Fin 1024 → ℝ) (w : Fin 1024 → Fin 1024 → ℝ)
  (kg : Fin 1 → Fin 128 → ℝ) (dk dv : Fin 256 → Fin 512 → ℝ)

/-- The normalised memory rows. -/
def mn (i : Fin 256) (k : Fin 1024) : ℝ := x i k * rstd 1024 (x i) * g 0 k

/-- Keys (columns below 512) and values (the others) before the key norm. -/
def kv (i : Fin 256) (j : Fin 1024) : ℝ := ∑ k, mn x g i k * w k j

theorem mn_fold (i : Fin 256) (k : Fin 1024) : x i k * rstd 1024 (x i) * g 0 k = mn x g i k := rfl

theorem kv_fold (i : Fin 256) (j : Fin 1024) : ∑ k, mn x g i k * w k j = kv x g w i j := rfl

/-- Row `i` of head `h`'s keys. -/
def head (i : Fin 256) (h : ℕ) (hh : h < 4) (l : Fin 128) : ℝ := kv x g w i ⟨h * 128 + l, by omega⟩

/-- The normed keys, head by head. -/
def kn : Fin 256 → Fin 512 → ℝ :=
  join (N := 4) rfl fun h i l => head x g w i h.val h.isLt l * rstd 128 (head x g w i h.val h.isLt) * kg 0 l

theorem kn_at (h : Fin 4) {o : ℕ} (ho : o = h.val * 128) (i : Fin 256) (l : Fin 128) (hl : o + l.val < 512) :
    kn x g w kg i ⟨o + l.val, hl⟩ = head x g w i h.val h.isLt l * rstd 128 (head x g w i h.val h.isLt) * kg 0 l :=
  join_at (N := 4) rfl _ h ho i l hl

/-- The values. -/
def vals : Fin 256 → Fin 512 → ℝ := Lift.cols 512 512 (by omega) (kv x g w)

/-- The cotangent of head `h`'s normalised keys, times the gain. -/
def dhead (i : Fin 256) (h : ℕ) (hh : h < 4) (l : Fin 128) : ℝ := dk i ⟨h * 128 + l, by omega⟩ * kg 0 l

/-- The gradient of `kv`. -/
def dkv (i : Fin 256) (j : Fin 1024) : ℝ :=
  if h : j.val < 512 then
    rmsBack 128 (head x g w i (j.val / 128) (by omega)) (dhead kg dk i (j.val / 128) (by omega)) ⟨j.val % 128, by omega⟩
  else dv i ⟨j.val - 512, by omega⟩

theorem dkv_head (i : Fin 256) (h : ℕ) (hh : h < 4) (l : Fin 128) :
    dkv x g w kg dk dv i ⟨h * 128 + l, by omega⟩ = rmsBack 128 (head x g w i h hh) (dhead kg dk i h hh) l := by
  have e : (h * 128 + l.val) / 128 = h := by omega
  have e' : (h * 128 + l.val) % 128 = l.val := by omega
  rw [dkv, dif_pos (show h * 128 + l.val < 512 by omega)]
  have key : ∀ n (hn : n < 4) q (hq : q < 128), n = h → q = l.val →
      rmsBack 128 (head x g w i n hn) (dhead kg dk i n hn) ⟨q, hq⟩ = rmsBack 128 (head x g w i h hh) (dhead kg dk i h hh) l := by
    rintro _ _ _ _ rfl rfl
    rfl
  exact key _ _ _ _ e e'

/-- The gradient of the projection. -/
def dw (a b : Fin 1024) : ℝ := ∑ i, mn x g i a * dkv x g w kg dk dv i b

/-- The gradient of the key norm's gain. -/
def dkg (_ : Fin 1) (l : Fin 128) : ℝ :=
  ∑ i : Fin 256, ∑ h : Fin 4, dk i ⟨h.val * 128 + l.val, by omega⟩ * head x g w i h.val h.isLt l * rstd 128 (head x g w i h.val h.isLt)

/-- The gradient of the memory norm's gain. -/
def dg (_ : Fin 1) (k : Fin 1024) : ℝ := ∑ i, (∑ j, dkv x g w kg dk dv i j * w k j) * x i k * rstd 1024 (x i)

/-- The scratch of the key and value gradients, stored by heads, is `D` where every store is. -/
theorem cols (D : Fin 256 → Fin 1024 → ℝ) (i : Fin 256) (j : Fin 1024)
    (b3 b2 b1 b0 b4) (p3 p2 p1 p0 : FVec Ideal ⟨2, ![256, 128]⟩ .bf16) (p4 : FVec Ideal ⟨2, ![256, 512]⟩ .bf16)
    (h3 : ∀ i (l : Fin 128), p3 (ix2 i l) = ((D i ⟨3 * 128 + l, by omega⟩ : ℝ) : EReal))
    (h2 : ∀ i (l : Fin 128), p2 (ix2 i l) = ((D i ⟨2 * 128 + l, by omega⟩ : ℝ) : EReal))
    (h1 : ∀ i (l : Fin 128), p1 (ix2 i l) = ((D i ⟨1 * 128 + l, by omega⟩ : ℝ) : EReal))
    (h0 : ∀ i (l : Fin 128), p0 (ix2 i l) = ((D i ⟨0 * 128 + l, by omega⟩ : ℝ) : EReal))
    (h4 : ∀ i (l : Fin 512), p4 (ix2 i l) = ((D i ⟨512 + l, by omega⟩ : ℝ) : EReal)) :
    View.canon (Val := Elt Ideal) (e := .bf16) [⟨Rect.unit (s := ⟨2, ![256, 1024]⟩) ![0, 384] ![256, 128] b3, p3⟩,
      ⟨Rect.unit ![0, 256] ![256, 128] b2, p2⟩, ⟨Rect.unit ![0, 128] ![256, 128] b1, p1⟩,
      ⟨Rect.unit ![0, 0] ![256, 128] b0, p0⟩, ⟨Rect.unit ![0, 512] ![256, 512] b4, p4⟩] (ix2 i j) = ((D i j : ℝ) : EReal) := by
  simp only [canon_cols, h0, h1, h2, h3, h4]
  have lt := j.isLt
  split_ifs
  all_goals first | (exfalso; omega) | (congr 3; omega)

end Model.MemKv

end
-- ==== Proof.MemKv.lean ====
module

public import proofs.«01_k».proof.Proof.Gen.KernelIdeal.Value
public import proofs.«01_k».proof.Proof.MemKvModel

@[expose] public section

set_option maxRecDepth 16384

noncomputable section

open Idealize.ShloMosaic Idealize.ShloMosaic.TcCoe Idealize.SL.Sem
open Idealize.ShloMosaic.Pipeline (Dat)

namespace Cert.KernelIdeal.MemKv

open Cert.KernelIdeal Cert.KernelIdeal.Gen Lift
open Model.MemKv (mn kv head dhead dkv)

variable (x : Fin 256 → Fin 1024 → ℝ) (g : Fin 1 → Fin 1024 → ℝ) (w : Fin 1024 → Fin 1024 → ℝ)
  (kg : Fin 1 → Fin 128 → ℝ) (dk dv : Fin 256 → Fin 512 → ℝ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] := (by decide +kernel : ∀ t : Fin grid0.N, _)

theorem rstd_at : k0_pay3 (F := Ideal) (mat .f32 x) = mat .f32 fun i _ => rstd 1024 (x i) := by
  funext i
  idx_vars i
  pointwise [k0_pay3]
  simp (disch := norm_num) only [mat_at, ← EReal.coe_mul, ← EReal.coe_add, coe_sum, w_eps, w_inv1024, ← div_eq_mul_inv, rsqrt_ms]

theorem mn_at : k0_pay4 (F := Ideal) (mat .f32 x) (mat .f32 g) = mat .bf16 (mn x g) := by
  funext i
  idx_vars i
  unfold k0_pay4
  rw [rstd_at]
  pointwise []
  simp only [mat_at, ← EReal.coe_mul, mn]

theorem kv_at : k0_pay5 (F := Ideal) (mat .f32 x) (mat .f32 g) (mat .bf16 w) = mat .f32 (kv x g w) := by
  funext i
  idx_vars i
  unfold k0_pay5
  rw [mn_at]
  pointwise []
  simp only [mat_at, ← EReal.coe_mul, coe_sum, kv]

section
variable (m : (ℓ : Loc nD τ sig) → Buf (Elt Ideal) ℓ) (c : Dev nD)
  (h0 : iblk m c 0 t0_0 = mat .f32 x) (h1 : iblk m c 1 t0_0 = mat .f32 g)
  (h2 : iblk m c 2 t0_0 = mat .bf16 w) (h3 : iblk m c 3 t0_0 = mat .f32 kg)
  (h4 : iblk m c 4 t0_0 = mat .f32 dk) (h5 : iblk m c 5 t0_0 = mat .f32 dv)

include h0 h1 h2 h3 h4 h5

set_option maxHeartbeats 2000000 in
theorem outs : outsAt0 m c t0_0 = (mat .f32 (Model.MemKv.dw x g w kg dk dv), mat .f32 (Model.MemKv.dkg x g w dk),
    mat .f32 (Model.MemKv.dg x g w kg dk dv)) := by
  unfold outsAt0
  frame_out
  rw [h0, h1, h2, h3, h4, h5, mn_at]
  have key : ∀ (s t : FVec Ideal S256x1024 .bf16) (u), s = mat .bf16 (dkv x g w kg dk dv) → t = s → u = mat .f32 (Model.MemKv.dkg x g w dk) →
      (k0_pay1 (mat .bf16 (mn x g)) s (constant S1024x1024 .f32 0#32), u, k0_pay2 (mat .f32 x) (k0_pay3 (mat .f32 x)) t (mat .bf16 w))
        = (mat .f32 (Model.MemKv.dw x g w kg dk dv), mat .f32 (Model.MemKv.dkg x g w dk), mat .f32 (Model.MemKv.dg x g w kg dk dv)) := by
    rintro _ _ _ rfl rfl rfl
    refine Prod.ext ?_ (Prod.ext rfl ?_)
    · funext j
      dsimp only
      idx_vars j
      pointwise [k0_pay1]
      simp only [mat_at, ← EReal.coe_mul, coe_sum, Model.MemKv.dw]
    · funext j
      dsimp only
      rw [rstd_at]
      idx_vars j
      pointwise [k0_pay2]
      simp only [mat_at, ← EReal.coe_mul, coe_sum, Model.MemKv.dg]
  refine key _ _ _ ?_ rfl ?_
  · rw [View.readCov_eq_canon']
    unfold k0_pay8 k0_pay9 k0_pay8
    rw [kv_at]
    funext i
    idx_vars i
    pointwise []
    refine Model.MemKv.cols (dkv x g w kg dk dv) _ _ _ _ _ _ _ _ _ _ _ _ (fun i l => ?_) (fun i l => ?_) (fun i l => ?_) (fun i l => ?_) (fun i l => ?_)
    · rw [Model.MemKv.dkv_head (hh := by omega)]
      pointwise [k0_pay28, k0_pay26, k0_pay27]
      simp (disch := norm_num) only [mat_at, ← EReal.coe_mul, ← EReal.coe_add, ← EReal.coe_sub, coe_sum, w_eps, w_inv128, ← div_eq_mul_inv, rsqrt_ms]
      rfl
    · rw [Model.MemKv.dkv_head (hh := by omega)]
      pointwise [k0_pay25, k0_pay22, k0_pay23]
      simp (disch := norm_num) only [mat_at, ← EReal.coe_mul, ← EReal.coe_add, ← EReal.coe_sub, coe_sum, w_eps, w_inv128, ← div_eq_mul_inv, rsqrt_ms]
      rfl
    · rw [Model.MemKv.dkv_head (hh := by omega)]
      pointwise [k0_pay20, k0_pay16, k0_pay17, k0_pay18, k0_pay19, k0_pay13, k0_pay14, k0_pay15]
      simp (disch := norm_num) only [mat_at, ← EReal.coe_mul, ← EReal.coe_add, ← EReal.coe_sub, coe_sum, w_eps, w_inv128, ← div_eq_mul_inv, rsqrt_ms]
      rfl
    · rw [Model.MemKv.dkv_head (hh := by omega)]
      pointwise [k0_pay10, k0_pay11]
      simp (disch := norm_num) only [mat_at, ← EReal.coe_mul, ← EReal.coe_add, ← EReal.coe_sub, coe_sum, w_eps, w_inv128, ← div_eq_mul_inv, rsqrt_ms]
      simp only [rmsBack, head, dhead, zero_mul, zero_add]
      rfl
    · pointwise [k0_pay6]
      rw [dkv, dif_neg (by simp)]
      simp only [mat_at, Nat.add_sub_cancel_left]
  · unfold k0_pay8 k0_pay9 k0_pay8
    rw [kv_at]
    funext j
    idx_vars j
    pointwise [k0_pay29, k0_pay21, k0_pay12, k0_pay7, k0_pay13, k0_pay14, k0_pay24, k0_pay22, k0_pay23, k0_pay26, k0_pay27]
    simp (disch := norm_num) only [mat_at, ← EReal.coe_mul, ← EReal.coe_add, coe_sum, w_eps, w_inv128, ← div_eq_mul_inv, rsqrt_ms]
    simp only [Model.MemKv.dkg, Fin.sum_univ_four, head]
    simp
    rfl

end

/-- The kernel's three results are the model's, for finite arguments. -/
theorem run (m : (ℓ : Loc nD τ sig) → Buf (Elt Ideal) ℓ) (ρ : Dev nD → PrngReg)
    (x : Dev nD → Fin 256 → Fin 1024 → ℝ) (g : Dev nD → Fin 1 → Fin 1024 → ℝ) (w : Dev nD → Fin 1024 → Fin 1024 → ℝ)
    (kg : Dev nD → Fin 1 → Fin 128 → ℝ) (dk dv : Dev nD → Fin 256 → Fin 512 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (kg c))
    (h4 : ∀ c : Dev nD, m ((c : Thread nD τ).loc main_arg4) = mat .f32 (dk c)) (h5 : ∀ c : Dev nD, m ((c : Thread nD τ).loc main_arg5) = mat .f32 (dv c)) :
    θ_run defs (onTc (τ := τ) (main (F := Ideal))) ⟨m, fun _ => 0, ρ⟩ fun r => ∀ c : Dev nD,
      r.2.mem ((c : Thread nD τ).loc main_v1_0) = mat .f32 (Model.MemKv.dw (x c) (g c) (w c) (kg c) (dk c) (dv c))
      ∧ r.2.mem ((c : Thread nD τ).loc main_v1_1) = mat .f32 (Model.MemKv.dkg (x c) (g c) (w c) (dk c))
      ∧ r.2.mem ((c : Thread nD τ).loc main_v1_2) = mat .f32 (Model.MemKv.dg (x c) (g c) (w c) (kg c) (dk c) (dv c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  have out (c : Dev nD) := outs (x c) (g c) (w c) (kg c) (dk c) (dv c) m c
    ((by blk_ext! [iblk, V, idx t0_0] : iblk m c 0 t0_0 = m ((c : Thread nD τ).loc main_arg0)).trans (h0 c))
    ((by blk_ext! [iblk, V, idx t0_0] : iblk m c 1 t0_0 = m ((c : Thread nD τ).loc main_arg1)).trans (h1 c))
    (by
      have e : iblk m c 2 t0_0 = V m c main_v0 := by blk_ext! [iblk, V, idx t0_0]
      rw [e]
      entry_read
      rw [h2]
      funext i
      idx_vars i
      pointwise []
      rfl)
    ((by blk_ext! [iblk, V, idx t0_0] : iblk m c 3 t0_0 = m ((c : Thread nD τ).loc main_arg3)).trans (h3 c))
    ((by blk_ext! [iblk, V, idx t0_0] : iblk m c 4 t0_0 = m ((c : Thread nD τ).loc main_arg4)).trans (h4 c))
    ((by blk_ext! [iblk, V, idx t0_0] : iblk m c 5 t0_0 = m ((c : Thread nD τ).loc main_arg5)).trans (h5 c))
  refine (θ_run defs _ _).mono (fun r h c => ?_) (Cert.KernelIdeal.Value.run_blocks m ρ)
  obtain ⟨e0, e1, e2, hargs⟩ := h c
  refine ⟨e0.trans ?_, e1.trans ?_, e2.trans ?_, hargs⟩
  · refine (dats m 0 c).arrAt_eq_of_after_last 6 t0_0 (by decide +kernel) _ fun j => ?_
    blk_simp
    rw [after0_6, out]
  · refine (dats m 0 c).arrAt_eq_of_after_last 7 t0_0 (by decide +kernel) _ fun j => ?_
    blk_simp
    rw [after0_7, out]
  · refine (dats m 0 c).arrAt_eq_of_after_last 8 t0_0 (by decide +kernel) _ fun j => ?_
    blk_simp
    rw [after0_8, out]

end Cert.KernelIdeal.MemKv

end
-- ==== Proof.MemKvRef.lean ====
module

public import proofs.«01_k».proof.Proof.Gen.ReferenceIdeal.Run
public import proofs.«01_k».proof.Proof.MemKvModel

@[expose] public section

set_option maxRecDepth 16384

noncomputable section

open Idealize.ShloMosaic Idealize.ShloMosaic.TcCoe Idealize.SL.Sem

namespace Cert.ReferenceIdeal.MemKv

open Cert.ReferenceIdeal Cert.ReferenceIdeal.Gen Lift
open Model.MemKv (mn kv head dhead dkv)

variable (x : Fin 256 → Fin 1024 → ℝ) (g : Fin 1 → Fin 1024 → ℝ) (w : Fin 1024 → Fin 1024 → ℝ)
  (kg : Fin 1 → Fin 128 → ℝ) (dk dv : Fin 256 → Fin 512 → ℝ)

section
variable (m : (ℓ : Loc nD τ sig) → Buf (Elt Ideal) ℓ) (c : Dev nD)
  (h0 : m ((c : Thread nD τ).loc main_arg0) = mat .f32 x) (h1 : m ((c : Thread nD τ).loc main_arg1) = mat .f32 g)
  (h2 : m ((c : Thread nD τ).loc main_arg2) = mat .f32 w) (h3 : m ((c : Thread nD τ).loc main_arg3) = mat .f32 kg)
  (h4 : m ((c : Thread nD τ).loc main_arg4) = mat .f32 dk) (h5 : m ((c : Thread nD τ).loc main_arg5) = mat .f32 dv)

include h0 h1 h2 h3 h4 h5

set_option maxHeartbeats 4000000 in
theorem dw : Value.res_main_v61 m c = mat .f32 (Model.MemKv.dw x g w kg dk dv) := by
  unfold Value.res_main_v61
  rw [h0, h1, h2, h3, h4, h5]
  clean_types
  funext i
  idx_vars i
  pointwise []
  simp (disch := norm_num) only [mat_at, ← EReal.coe_mul, ← EReal.coe_add, ← EReal.coe_neg, ← EReal.coe_sub, coe_sum, w_eps, w_1024, w_128, w_neghalf, div_ne, rsqrt_ms, div_ms,
    ← EReal.coe_zero, coe_dite]
  simp only [Model.MemKv.mn_fold, Model.MemKv.kv_fold]
  refine congrArg Real.toEReal (Finset.sum_congr rfl fun i _ => ?_)
  refine (congrArg₂ (· * ·) (?_ : _ = dkv x g w kg dk dv i i1) rfl).trans (mul_comm _ _)
  rw [dkv]
  split_ifs
  · omega
  · rw [add_zero]
  · rw [zero_add]
    exact rms_ref 128 (head x g w i (i1.val / 128) (by omega)) (dhead kg dk i (i1.val / 128) (by omega)) ⟨i1.val % 128, by omega⟩
  · omega

set_option maxHeartbeats 4000000 in
theorem dg : Value.res_main_v65 m c = mat .f32 (Model.MemKv.dg x g w kg dk dv) := by
  unfold Value.res_main_v65
  rw [h0, h1, h2, h3, h4, h5]
  clean_types
  funext i
  idx_vars i
  pointwise []
  simp (disch := norm_num) only [mat_at, ← EReal.coe_mul, ← EReal.coe_add, ← EReal.coe_neg, ← EReal.coe_sub, coe_sum, w_eps, w_1024, w_128, w_neghalf, div_ne, rsqrt_ms, div_ms,
    ← EReal.coe_zero, coe_dite]
  simp only [Model.MemKv.mn_fold, Model.MemKv.kv_fold]
  refine congrArg Real.toEReal (Finset.sum_congr rfl fun i _ => ?_)
  refine (congrArg₂ (· * ·) rfl (Finset.sum_congr rfl fun j _ =>
    congrArg₂ (· * ·) (?_ : _ = dkv x g w kg dk dv i j) rfl)).trans (by rw [mul_comm, ← mul_assoc])
  rw [dkv]
  split_ifs
  · omega
  · rw [add_zero]
  · rw [zero_add]
    exact rms_ref 128 (head x g w i (j.val / 128) (by omega)) (dhead kg dk i (j.val / 128) (by omega)) ⟨j.val % 128, by omega⟩
  · omega

end

set_option maxHeartbeats 4000000 in
/-- The reference's three results are the model's, for finite arguments. -/
theorem run (m : (ℓ : Loc nD τ sig) → Buf (Elt Ideal) ℓ) (ρ : Dev nD → PrngReg)
    (x : Dev nD → Fin 256 → Fin 1024 → ℝ) (g : Dev nD → Fin 1 → Fin 1024 → ℝ) (w : Dev nD → Fin 1024 → Fin 1024 → ℝ)
    (kg : Dev nD → Fin 1 → Fin 128 → ℝ) (dk dv : Dev nD → Fin 256 → Fin 512 → ℝ)
    (h0 : ∀ c : Dev nD, m ((c : Thread nD τ).loc main_arg0) = mat .f32 (x c))
    (h1 : ∀ c : Dev nD, m ((c : Thread nD τ).loc main_arg1) = mat .f32 (g c))
    (h2 : ∀ c : Dev nD, m ((c : Thread nD τ).loc main_arg2) = mat .f32 (w c))
    (h3 : ∀ c : Dev nD, m ((c : Thread nD τ).loc main_arg3) = mat .f32 (kg c))
    (h4 : ∀ c : Dev nD, m ((c : Thread nD τ).loc main_arg4) = mat .f32 (dk c))
    (h5 : ∀ c : Dev nD, m ((c : Thread nD τ).loc main_arg5) = mat .f32 (dv c)) :
    θ_run defs (onTc (τ := τ) (main (F := Ideal))) ⟨m, fun _ => 0, ρ⟩ fun r => ∀ c : Dev nD,
      r.2.mem ((c : Thread nD τ).loc main_v61) = mat .f32 (Model.MemKv.dw (x c) (g c) (w c) (kg c) (dk c) (dv c))
      ∧ r.2.mem ((c : Thread nD τ).loc main_v56) = mat .f32 (Model.MemKv.dkg (x c) (g c) (w c) (dk c))
      ∧ r.2.mem ((c : Thread nD τ).loc main_v65) = mat .f32 (Model.MemKv.dg (x c) (g c) (w c) (kg c) (dk c) (dv c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Value.run m ρ)
  refine ⟨(h c).1.trans (dw _ _ _ _ _ _ m c (h0 c) (h1 c) (h2 c) (h3 c) (h4 c) (h5 c)), (h c).2.1.trans ?_,
    (h c).2.2.1.trans (dg _ _ _ _ _ _ m c (h0 c) (h1 c) (h2 c) (h3 c) (h4 c) (h5 c)), (h c).2.2.2⟩
  rw [h0, h1, h2, h4]
  clean_types
  funext i
  idx_vars i
  pointwise [sum_lead]
  simp (disch := norm_num) only [mat_at, ← EReal.coe_mul, ← EReal.coe_add, ← EReal.coe_neg, ← EReal.coe_sub, coe_sum, w_eps, w_1024, w_128,
    w_neghalf, div_ne, rsqrt_ms, div_ms, ← EReal.coe_zero, coe_dite]
  simp only [Model.MemKv.mn_fold, Model.MemKv.kv_fold]
  simp only [Finset.univ_unique, Finset.sum_singleton]
  refine congrArg Real.toEReal (Finset.sum_congr rfl fun i _ => Finset.sum_congr rfl fun h _ => ?_)
  rw [mul_comm, ← mul_assoc]
  rfl

end Cert.ReferenceIdeal.MemKv

end
-- ==== Proof.MemKvClaim.lean ====
module

public import proofs.«01_k».proof.Defs
public import proofs.«01_k».proof.Proof.Gen.Pre_finite
public import proofs.«01_k».proof.Proof.Finite
public import proofs.«01_k».proof.Proof.MemKv
public import proofs.«01_k».proof.Proof.MemKvRef

/-! The gradients of the memory bank: the kernel's three results are the reference's at finite arguments. -/

@[expose] public section

set_option maxRecDepth 16384

noncomputable section

open Idealize.ShloMosaic Idealize.ShloMosaic.TcCoe Idealize.SL.Sem

namespace Cert.MemKv

open Lift

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Finite arguments are arrays of real numbers. -/
theorem real (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ x g w kg dk dv, m ((c.tc : Thread Cert.KernelIdeal.nD Cert.KernelIdeal.τ).loc Cert.KernelIdeal.main_arg0) = mat .f32 x
      ∧ m ((c.tc : Thread Cert.KernelIdeal.nD Cert.KernelIdeal.τ).loc Cert.KernelIdeal.main_arg1) = mat .f32 g
      ∧ m ((c.tc : Thread Cert.KernelIdeal.nD Cert.KernelIdeal.τ).loc Cert.KernelIdeal.main_arg2) = mat .f32 w
      ∧ m ((c.tc : Thread Cert.KernelIdeal.nD Cert.KernelIdeal.τ).loc Cert.KernelIdeal.main_arg3) = mat .f32 kg
      ∧ m ((c.tc : Thread Cert.KernelIdeal.nD Cert.KernelIdeal.τ).loc Cert.KernelIdeal.main_arg4) = mat .f32 dk
      ∧ m ((c.tc : Thread Cert.KernelIdeal.nD Cert.KernelIdeal.τ).loc Cert.KernelIdeal.main_arg5) = mat .f32 dv := by
  have e := congrFun (h c) ix0
  unfold Cert.Pre_finite.fn Cert.Pre_finite.fn_part1 at e
  simp only [and_one] at e
  obtain ⟨⟨⟨⟨⟨e0, e1⟩, e2⟩, e3⟩, e4⟩, e5⟩ := e
  exact ⟨_, _, _, _, _, _, mat_of_finite _ _ _ _ _ e0, mat_of_finite _ _ _ _ _ e1, mat_of_finite _ _ _ _ _ e2, mat_of_finite _ _ _ _ _ e3,
    mat_of_finite _ _ _ _ _ e4, mat_of_finite _ _ _ _ _ e5⟩

theorem algebraic : Cert.algebraic_KernelIdeal_ReferenceIdeal_pre_finite := by
  intro m ρ m' ρ' hpre hag
  choose x g w kg dk dv h0 h1 h2 h3 h4 h5 using real m hpre
  refine ⟨_, _, _, Cert.KernelIdeal.MemKv.run m ρ x g w kg dk dv h0 h1 h2 h3 h4 h5, ?_⟩
  exact Cert.ReferenceIdeal.MemKv.run m' ρ' x g w kg dk dv (fun c => (hag c).1.trans (h0 c)) (fun c => (hag c).2.1.trans (h1 c))
    (fun c => (hag c).2.2.1.trans (h2 c)) (fun c => (hag c).2.2.2.1.trans (h3 c)) (fun c => (hag c).2.2.2.2.1.trans (h4 c))
    (fun c => (hag c).2.2.2.2.2.trans (h5 c))

end Cert.MemKv

end
-- ==== Proof.Heads.lean ====
module

public import proofs.«01_k».proof.Proof.Lift

/-! Four heads of 128 columns, stored one at a time. -/

@[expose] public section

noncomputable section

open Idealize.ShloMosaic Idealize.ShloMosaic.TcCoe

namespace Lift

/-- Four stores of one head's columns each, read back. -/
theorem canon_heads {Val : EltTy → Type} [∀ e, Nonempty (Val e)] {e : EltTy} {a : ℕ} (D : Fin a → Fin 512 → Val e)
    (w0 w1 w2 w3 : (⟨2, ![a, 128]⟩ : Shape).Idx → Val e) (L : List (View.Piece Val ⟨2, ![a, 512]⟩ e)) (b0 b1 b2 b3)
    (e0 : ∀ i l h, w0 (ix2 i l) = D i ⟨0 + l.val, h⟩) (e1 : ∀ i l h, w1 (ix2 i l) = D i ⟨128 + l.val, h⟩)
    (e2 : ∀ i l h, w2 (ix2 i l) = D i ⟨256 + l.val, h⟩) (e3 : ∀ i l h, w3 (ix2 i l) = D i ⟨384 + l.val, h⟩) (i : Fin a) (j : Fin 512) :
    View.canon (s := ⟨2, ![a, 512]⟩) (⟨Rect.unit ![0, 384] ![a, 128] b3, w3⟩ :: ⟨Rect.unit ![0, 256] ![a, 128] b2, w2⟩
      :: ⟨Rect.unit ![0, 128] ![a, 128] b1, w1⟩ :: ⟨Rect.unit ![0, 0] ![a, 128] b0, w0⟩ :: L) (ix2 i j) = D i j := by
  have lt := j.isLt
  simp only [canon_cols]
  split_ifs
  · rw [e3 _ _ (by dsimp only; omega)]
    exact congrArg (D i) (Fin.ext (by dsimp only; omega))
  · rw [e2 _ _ (by dsimp only; omega)]
    exact congrArg (D i) (Fin.ext (by dsimp only; omega))
  · rw [e1 _ _ (by dsimp only; omega)]
    exact congrArg (D i) (Fin.ext (by dsimp only; omega))
  · rw [e0 _ _ (by dsimp only; omega)]
    exact congrArg (D i) (Fin.ext (by dsimp only; omega))
  · omega

end Lift

end
-- ==== Proof.MemAttnModel.lean ====
module

public import proofs.«01_k».proof.Proof.Lift

/-! Attention of normed query rows over a small memory of keys and values, four heads of 128 columns, softmax over the
memory's 256 slots. The gradients of the query rows before their norm, of the norm's gain, of the keys and of the values. -/

@[expose] public section

noncomputable section

open Idealize.ShloMosaic Idealize.ShloMosaic.TcCoe

namespace Model.MemAttn

open Lift

/-- The scores' scale, `128 ^ (-1/2)` rounded to f32. -/
def sc : ℝ := 11863283 / 2 ^ 27

theorem w_sc : Ideal.ofBits .f32 0x3DB504F3#32 = (sc : EReal) := by
  simp [Ideal.ofBits, Ideal.ieee, sc, -EReal.coe_mul]; norm_num

section head

variable {R : ℕ} (g : Fin 1 → Fin 128 → ℝ) (q : Fin R → Fin 128 → ℝ) (x : Fin R → Fin 128 → ℝ) (k v : Fin 256 → Fin 128 → ℝ) (dy : Fin R → Fin 128 → ℝ)
  (d : Fin R → Fin 256 → ℝ)

/-- The normed query rows. -/
def qn (i : Fin R) (j : Fin 128) : ℝ := q i j * rstd 128 (q i) * g 0 j

/-- The scaled scores. -/
def score (i : Fin R) (m : Fin 256) : ℝ := (∑ j, x i j * k m j) * sc

/-- The attention weights. -/
def p (i : Fin R) (m : Fin 256) : ℝ := Real.exp (score x k i m) / ∑ l, Real.exp (score x k i l)

/-- The weights' cotangent. -/
def dp (i : Fin R) (m : Fin 256) : ℝ := ∑ j, dy i j * v m j

/-- The products' cotangent, from the weights' cotangent `d`. -/
def ds (i : Fin R) (m : Fin 256) : ℝ := p x k i m * (d i m - ∑ l, d i l * p x k i l) * sc

def dqn (i : Fin R) (j : Fin 128) : ℝ := ∑ m, ds x k d i m * k m j

def dv (m : Fin 256) (j : Fin 128) : ℝ := ∑ i, p x k i m * dy i j

def dk (m : Fin 256) (j : Fin 128) : ℝ := ∑ i, ds x k d i m * x i j

/-- The gradient of the query rows before their norm. -/
def dz (i : Fin R) (j : Fin 128) : ℝ := rmsBack 128 (q i) (fun l => dqn x k d i l * g 0 l) j

/-- What one row adds to the gain's gradient. -/
def dgain (i : Fin R) (j : Fin 128) : ℝ := dqn x k d i j * q i j * rstd 128 (q i)

/-- The attended values. -/
def o (i : Fin R) (j : Fin 128) : ℝ := ∑ m, p x k i m * v m j

end head

variable {R : ℕ} (q : Fin R → Fin 512 → ℝ) (g : Fin 1 → Fin 128 → ℝ) (k v : Fin 256 → Fin 512 → ℝ) (dy : Fin R → Fin 512 → ℝ)

/-- One head's columns. -/
abbrev hd {a : ℕ} (z : Fin a → Fin 512 → ℝ) (h : Fin 4) : Fin a → Fin 128 → ℝ := cols (h.val * 128) 128 (by omega) z

def dzAll : Fin R → Fin 512 → ℝ := join (N := 4) rfl fun h => dz g (hd q h) (qn g (hd q h)) (hd k h) (dp (hd v h) (hd dy h))

def dkAll : Fin 256 → Fin 512 → ℝ := join (N := 4) rfl fun h => dk (qn g (hd q h)) (hd k h) (dp (hd v h) (hd dy h))

def dvAll : Fin 256 → Fin 512 → ℝ := join (N := 4) rfl fun h => dv (qn g (hd q h)) (hd k h) (hd dy h)

theorem dzAll_at (h : Fin 4) {o : ℕ} (ho : o = h.val * 128) (i : Fin R) (l : Fin 128) (hl : o + l.val < 512) :
    dzAll q g k v dy i ⟨o + l.val, hl⟩ = dz g (hd q h) (qn g (hd q h)) (hd k h) (dp (hd v h) (hd dy h)) i l := join_at (N := 4) rfl _ h ho i l hl

theorem dkAll_at (h : Fin 4) {o : ℕ} (ho : o = h.val * 128) (i : Fin 256) (l : Fin 128) (hl : o + l.val < 512) :
    dkAll q g k v dy i ⟨o + l.val, hl⟩ = dk (qn g (hd q h)) (hd k h) (dp (hd v h) (hd dy h)) i l := join_at (N := 4) rfl _ h ho i l hl

theorem dvAll_at (h : Fin 4) {o : ℕ} (ho : o = h.val * 128) (i : Fin 256) (l : Fin 128) (hl : o + l.val < 512) :
    dvAll q g k dy i ⟨o + l.val, hl⟩ = dv (qn g (hd q h)) (hd k h) (hd dy h) i l := join_at (N := 4) rfl _ h ho i l hl

/-- The attended values of all heads. -/
def oAll : Fin R → Fin 512 → ℝ := join (N := 4) rfl fun h => o (qn g (hd q h)) (hd k h) (hd v h)

theorem oAll_at (h : Fin 4) {o : ℕ} (ho : o = h.val * 128) (i : Fin R) (l : Fin 128) (hl : o + l.val < 512) :
    oAll q g k v i ⟨o + l.val, hl⟩ = Model.MemAttn.o (qn g (hd q h)) (hd k h) (hd v h) i l := join_at (N := 4) rfl _ h ho i l hl

def dgAll (_ : Fin 1) (j : Fin 128) : ℝ := ∑ i, ∑ h, dgain (hd q h) (qn g (hd q h)) (hd k h) (dp (hd v h) (hd dy h)) i j

end Model.MemAttn

end
-- ==== Proof.MemAttn.lean ====
module

public import proofs.«01_k».proof.Proof.Gen.Kernel3Ideal.Value
public import proofs.«01_k».proof.Proof.Heads
public import proofs.«01_k».proof.Proof.MemAttnModel

@[expose] public section

set_option maxRecDepth 16384

noncomputable section

open Idealize.ShloMosaic Idealize.ShloMosaic.TcCoe Idealize.SL.Sem
open Idealize.ShloMosaic.Pipeline (Dat)

namespace Cert.Kernel3Ideal.MemAttn

open Cert.Kernel3Ideal Cert.Kernel3Ideal.Gen Lift
open Model.MemAttn

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0]
    ∧ win0_7.index t = ![0, 0] ∧ win0_8.index t = ![0, 0] := (by decide +kernel : ∀ t : Fin grid0.N, _)

section
variable (g : Fin 1 → Fin 128 → ℝ) (q x : Fin 256 → Fin 128 → ℝ) (k v dy : Fin 256 → Fin 128 → ℝ) (d s : Fin 256 → Fin 256 → ℝ)

theorem dp_at : k0_pay6 (F := Ideal) (mat .bf16 dy) (mat .bf16 v) = mat .f32 (dp v dy) := by
  funext i
  idx_vars i
  pointwise [k0_pay6]
  simp only [mat_at, ← EReal.coe_mul, coe_sum, dp]

theorem r_at : k0_pay21 (F := Ideal) (mat .f32 q) = mat .f32 fun i (_ : Fin 1) => rstd 128 (q i) := by
  funext i
  idx_vars i
  pointwise [k0_pay21]
  simp (disch := norm_num) only [mat_at, ← EReal.coe_mul, ← EReal.coe_add, coe_sum, w_eps, w_inv128, ← div_eq_mul_inv, rsqrt_ms]

theorem qn_at : k0_pay22 (F := Ideal) (mat .f32 g) (mat .f32 q) = mat .bf16 (qn g q) := by
  funext i
  idx_vars i
  unfold k0_pay22
  rw [r_at]
  pointwise []
  simp only [mat_at, ← EReal.coe_mul, qn]

theorem p_at : k0_pay24 (F := Ideal) (mat .bf16 x) (mat .bf16 k) = mat .f32 (p x k) := by
  funext i
  idx_vars i
  pointwise [k0_pay24, k0_pay23]
  simp only [mat_at, ← EReal.coe_mul, coe_sum, w_sc, w_neginf, fold_max, ← EReal.coe_sub, Ideal.exp_coe]
  rw [div_ne (sum_exp_ne _)]
  exact congrArg Real.toEReal (soft_shift (score x k i0) _ i1)

theorem ds_at : k0_pay26 (F := Ideal) (mat .f32 d) (mat .bf16 x) (mat .bf16 k) = mat .bf16 (ds x k d) := by
  funext i
  idx_vars i
  unfold k0_pay26
  rw [p_at]
  pointwise []
  simp only [mat_at, ← EReal.coe_mul, coe_sum, w_sc, ← EReal.coe_sub, ds]

theorem dv_at (acc : FVec Ideal S256x128 .f32) (i j) :
    k0_pay25 (F := Ideal) (mat .bf16 x) (mat .bf16 k) (mat .bf16 dy) acc (ix2 i j) = acc (ix2 i j) + ((dv x k dy i j : ℝ) : EReal) := by
  unfold k0_pay25
  rw [p_at]
  pointwise []
  simp only [mat_at, ← EReal.coe_mul, coe_sum, dv]

theorem dk_at (acc : FVec Ideal S256x128 .f32) (i j) :
    k0_pay27 (F := Ideal) (mat .f32 d) (mat .bf16 x) (mat .bf16 k) acc (ix2 i j) = acc (ix2 i j) + ((dk x k d i j : ℝ) : EReal) := by
  unfold k0_pay27
  rw [ds_at]
  pointwise []
  simp only [mat_at, ← EReal.coe_mul, coe_sum, dk]

theorem dqn_at : k0_pay28 (F := Ideal) (mat .f32 d) (mat .bf16 x) (mat .bf16 k) = mat .f32 (dqn x k d) := by
  funext i
  idx_vars i
  unfold k0_pay28
  rw [ds_at]
  pointwise [k0_pay23]
  simp only [mat_at, ← EReal.coe_mul, coe_sum, dqn]

theorem dz_at : k0_pay31 (F := Ideal) (mat .f32 q) (k0_pay21 (mat .f32 q)) (k0_pay29 (mat .f32 g) (mat .f32 d) (mat .bf16 x) (mat .bf16 k)) (k0_pay30 (k0_pay21 (mat .f32 q)))
    = mat .bf16 (dz g q x k d) := by
  funext i
  idx_vars i
  unfold k0_pay29
  rw [r_at, dqn_at]
  pointwise [k0_pay31, k0_pay30]
  simp only [mat_at, ← EReal.coe_mul, coe_sum, w_inv128, ← div_eq_mul_inv, ← EReal.coe_sub]
  rfl

theorem dgain_at (a : Fin 256 → Fin 128 → ℝ) : k0_pay32 (F := Ideal) (mat .f32 a) (mat .f32 q) (k0_pay21 (mat .f32 q)) (k0_pay28 (mat .f32 d) (mat .bf16 x) (mat .bf16 k))
    = mat .f32 fun i j => a i j + dgain q x k d i j := by
  funext i
  idx_vars i
  rw [r_at, dqn_at]
  pointwise [k0_pay32]
  simp only [mat_at, ← EReal.coe_mul, ← EReal.coe_add, dgain]

theorem zero_at (j) : k0_pay2 (F := Ideal) j = 0 := by pointwise [k0_pay2]

/-- One head's gradient of the query rows, from the columns it loads. -/
theorem dz_at' : k0_pay31 (F := Ideal) (mat .f32 q) (k0_pay21 (mat .f32 q)) (k0_pay29 (mat .f32 g) (k0_pay6 (mat .bf16 dy) (mat .bf16 v)) (k0_pay22 (mat .f32 g) (mat .f32 q)) (mat .bf16 k))
    (k0_pay30 (k0_pay21 (mat .f32 q))) = mat .bf16 (dz g q (qn g q) k (dp v dy)) := by
  rw [dp_at, qn_at, dz_at]

theorem dgain_at' (a : Fin 256 → Fin 128 → ℝ) : k0_pay32 (F := Ideal) (mat .f32 a) (mat .f32 q) (k0_pay21 (mat .f32 q))
    (k0_pay28 (k0_pay6 (mat .bf16 dy) (mat .bf16 v)) (k0_pay22 (mat .f32 g) (mat .f32 q)) (mat .bf16 k)) = mat .f32 fun i j => a i j + dgain q (qn g q) k (dp v dy) i j := by
  rw [dp_at, qn_at, dgain_at]

theorem dv_at' (acc : FVec Ideal S256x128 .f32) (i j) :
    k0_pay25 (F := Ideal) (k0_pay22 (mat .f32 g) (mat .f32 q)) (mat .bf16 k) (mat .bf16 dy) acc (ix2 i j) = acc (ix2 i j) + ((dv (qn g q) k dy i j : ℝ) : EReal) := by
  rw [qn_at, dv_at]

theorem dk_at' (acc : FVec Ideal S256x128 .f32) (i j) :
    k0_pay27 (F := Ideal) (k0_pay6 (mat .bf16 dy) (mat .bf16 v)) (k0_pay22 (mat .f32 g) (mat .f32 q)) (mat .bf16 k) acc (ix2 i j) = acc (ix2 i j) + ((dk (qn g q) k (dp v dy) i j : ℝ) : EReal) := by
  rw [dp_at, qn_at, dk_at]

end

section
variable (m : (ℓ : Loc nD τ sig) → Buf (Elt Ideal) ℓ) (c : Dev nD)
  (q : Fin 8192 → Fin 512 → ℝ) (g : Fin 1 → Fin 128 → ℝ) (k v : Fin 256 → Fin 512 → ℝ) (dy : Fin 8192 → Fin 512 → ℝ)
  (h0 : m ((c : Thread nD τ).loc main_arg0) = mat .f32 q) (h1 : m ((c : Thread nD τ).loc main_arg1) = mat .f32 g)
  (h2 : m ((c : Thread nD τ).loc main_arg2) = mat .f32 k) (h3 : m ((c : Thread nD τ).loc main_arg3) = mat .f32 v)
  (h4 : m ((c : Thread nD τ).loc main_arg4) = mat .f32 dy)

include h2 h3 h4 in
theorem V_in : V m c main_v0 = mat .bf16 dy ∧ V m c main_v1 = mat .bf16 k ∧ V m c main_v2 = mat .bf16 v := by
  unfold V hostOps0
  refine ⟨?_, ?_, ?_⟩
  all_goals after_results
  · rw [h4]; rfl
  · rw [h2]; rfl
  · rw [h3]; rfl

variable (t : Fin cfg0.N)

/-- Every block the body loads, as the model's. -/
abbrev Blocks : Prop := iblk m c 0 t = mat .f32 (tile 256 q t.val) ∧ iblk m c 1 t = mat .bf16 (tile 256 dy t.val) ∧ iblk m c 2 t = mat .f32 g
    ∧ iblk m c 3 t = mat .bf16 k ∧ iblk m c 4 t = mat .bf16 v

include h0 h1 h2 h3 h4 in
theorem blocks : Blocks m c q g k v dy t := by
  obtain ⟨v0, v1, v2⟩ := V_in m c k v dy h2 h3 h4
  refine ⟨?_, ?_, ?_, ?_, ?_⟩
  all_goals
    funext i
    idx_vars i
    blk_simp [iblk, idx t]
  · rw [V_main_arg0, h0]; exact mat_tile _ _ _ _ _ (by blk_simp [idx t]) (by blk_simp [idx t])
  · rw [v0]; exact mat_tile _ _ _ _ _ (by blk_simp [idx t]) (by blk_simp [idx t])
  · rw [V_main_arg1, h1]; exact mat_whole _ _ _ _ (by blk_simp [idx t]) (by blk_simp [idx t])
  · rw [v1]; exact mat_whole _ _ _ _ (by blk_simp [idx t]) (by blk_simp [idx t])
  · rw [v2]; exact mat_whole _ _ _ _ (by blk_simp [idx t]) (by blk_simp [idx t])

/-- A load of one head's columns. -/
theorem ld_f (z : Fin 256 → Fin 512 → ℝ) : View.ld (Val := Elt Ideal) (e' := .f32) (mat .f32 z) (Rect.unit (s := S256x512) ![0, 0] ![256, 128] inb_S256x512_S256x128_0_0) = mat .f32 (hd z 0)
    ∧ View.ld (Val := Elt Ideal) (e' := .f32) (mat .f32 z) (Rect.unit (s := S256x512) ![0, 128] ![256, 128] inb_S256x512_S256x128_0_128) = mat .f32 (hd z 1)
    ∧ View.ld (Val := Elt Ideal) (e' := .f32) (mat .f32 z) (Rect.unit (s := S256x512) ![0, 256] ![256, 128] inb_S256x512_S256x128_0_256) = mat .f32 (hd z 2)
    ∧ View.ld (Val := Elt Ideal) (e' := .f32) (mat .f32 z) (Rect.unit (s := S256x512) ![0, 384] ![256, 128] inb_S256x512_S256x128_0_384) = mat .f32 (hd z 3) :=
  ⟨(ld_at z _ _).1, (ld_at z _ _).1, (ld_at z _ _).1, (ld_at z _ _).1⟩

theorem ld_b (z : Fin 256 → Fin 512 → ℝ) : View.ld (Val := Elt Ideal) (e' := .bf16) (mat .bf16 z) (Rect.unit (s := S256x512) ![0, 0] ![256, 128] inb_S256x512_S256x128_0_0) = mat .bf16 (hd z 0)
    ∧ View.ld (Val := Elt Ideal) (e' := .bf16) (mat .bf16 z) (Rect.unit (s := S256x512) ![0, 128] ![256, 128] inb_S256x512_S256x128_0_128) = mat .bf16 (hd z 1)
    ∧ View.ld (Val := Elt Ideal) (e' := .bf16) (mat .bf16 z) (Rect.unit (s := S256x512) ![0, 256] ![256, 128] inb_S256x512_S256x128_0_256) = mat .bf16 (hd z 2)
    ∧ View.ld (Val := Elt Ideal) (e' := .bf16) (mat .bf16 z) (Rect.unit (s := S256x512) ![0, 384] ![256, 128] inb_S256x512_S256x128_0_384) = mat .bf16 (hd z 3) :=
  ⟨(ld_at z _ _).2, (ld_at z _ _).2, (ld_at z _ _).2, (ld_at z _ _).2⟩

/-- The gain's gradient from one block of rows, head after head. -/
theorem gain_at (q dy : Fin 256 → Fin 512 → ℝ) (acc : FVec Ideal S1x128 .f32) (j : Fin 128) :
    k0_pay1 (F := Ideal) (k0_pay32 (k0_pay32 (k0_pay32 (k0_pay32 k0_pay5 (mat .f32 (hd q 0)) (k0_pay21 (mat .f32 (hd q 0))) (k0_pay28 (k0_pay6 (mat .bf16 (hd dy 0)) (mat .bf16 (hd v 0))) (k0_pay22 (mat .f32 g) (mat .f32 (hd q 0))) (mat .bf16 (hd k 0)))) (mat .f32 (hd q 1)) (k0_pay21 (mat .f32 (hd q 1))) (k0_pay28 (k0_pay6 (mat .bf16 (hd dy 1)) (mat .bf16 (hd v 1))) (k0_pay22 (mat .f32 g) (mat .f32 (hd q 1))) (mat .bf16 (hd k 1)))) (mat .f32 (hd q 2)) (k0_pay21 (mat .f32 (hd q 2))) (k0_pay28 (k0_pay6 (mat .bf16 (hd dy 2)) (mat .bf16 (hd v 2))) (k0_pay22 (mat .f32 g) (mat .f32 (hd q 2))) (mat .bf16 (hd k 2)))) (mat .f32 (hd q 3)) (k0_pay21 (mat .f32 (hd q 3))) (k0_pay28 (k0_pay6 (mat .bf16 (hd dy 3)) (mat .bf16 (hd v 3))) (k0_pay22 (mat .f32 g) (mat .f32 (hd q 3))) (mat .bf16 (hd k 3))))
      (k0_pay60 acc) (ix2 0 j) = acc (ix2 0 j) + ((dgAll q g k v dy 0 j : ℝ) : EReal) := by
  rw [show k0_pay5 (F := Ideal) = mat .f32 fun _ _ => (0 : ℝ) from funext fun i => by idx_vars i; pointwise [k0_pay5]; simp only [mat_at, EReal.coe_zero],
    dgain_at', dgain_at', dgain_at', dgain_at']
  pointwise [k0_pay1, k0_pay60]
  simp only [mat_at, coe_sum, zero_add, dgAll, Fin.sum_univ_four]

variable (hb : Blocks m c q g k v dy t)

include hb in
theorem dz_out : (outsAt0 m c t.val t.isLt).1 = mat .bf16 (dzAll (tile 256 q t.val) g k v (tile 256 dy t.val)) := by
  obtain ⟨e0, e1, e2, e3, e4⟩ := hb
  by_cases h : t.val % 32 = 0
  all_goals
    first | rw [outsAt0_A m c t h] | rw [outsAt0_B m c t h]
    frame_out
    rw [e0, e1, e2, e3, e4]
    obtain ⟨q0, q1, q2, q3⟩ := ld_f (tile 256 q t.val)
    obtain ⟨d0, d1, d2, d3⟩ := ld_b (tile 256 dy t.val)
    obtain ⟨k0, k1, k2, k3⟩ := ld_b k
    obtain ⟨v0, v1, v2, v3⟩ := ld_b v
    rw [q0, q1, q2, q3, d0, d1, d2, d3, k0, k1, k2, k3, v0, v1, v2, v3]
    funext i
    idx_vars i
    refine canon_heads (Val := Elt Ideal) (e := .bf16) (fun i j => ((dzAll (tile 256 q t.val) g k v (tile 256 dy t.val) i j : ℝ) : EReal)) _ _ _ _ _ _ _ _ _
      (fun i l h => ?_) (fun i l h => ?_) (fun i l h => ?_) (fun i l h => ?_) i0 i1
    · exact (congrFun (dz_at' g (hd (tile 256 q t.val) 0) (hd k 0) (hd v 0) (hd (tile 256 dy t.val) 0)) (ix2 i l)).trans (congrArg Real.toEReal (dzAll_at _ _ _ _ _ 0 rfl i l h).symm)
    · exact (congrFun (dz_at' g (hd (tile 256 q t.val) 1) (hd k 1) (hd v 1) (hd (tile 256 dy t.val) 1)) (ix2 i l)).trans (congrArg Real.toEReal (dzAll_at _ _ _ _ _ 1 rfl i l h).symm)
    · exact (congrFun (dz_at' g (hd (tile 256 q t.val) 2) (hd k 2) (hd v 2) (hd (tile 256 dy t.val) 2)) (ix2 i l)).trans (congrArg Real.toEReal (dzAll_at _ _ _ _ _ 2 rfl i l h).symm)
    · exact (congrFun (dz_at' g (hd (tile 256 q t.val) 3) (hd k 3) (hd v 3) (hd (tile 256 dy t.val) 3)) (ix2 i l)).trans (congrArg Real.toEReal (dzAll_at _ _ _ _ _ 3 rfl i l h).symm)

include hb in
theorem dk_first (h : t.val % 32 = 0) (i : Fin 256) (j : Fin 512) : (outsAt0 m c t.val t.isLt).2.1 (ix2 i j)
    = 0 + ((dkAll (tile 256 q t.val) g k v (tile 256 dy t.val) i j : ℝ) : EReal) := by
  obtain ⟨e0, e1, e2, e3, e4⟩ := hb
  rw [outsAt0_A m c t h]
  frame_out
  rw [e0, e1, e2, e3, e4]
  obtain ⟨q0, q1, q2, q3⟩ := ld_f (tile 256 q t.val)
  obtain ⟨d0, d1, d2, d3⟩ := ld_b (tile 256 dy t.val)
  obtain ⟨k0, k1, k2, k3⟩ := ld_b k
  obtain ⟨v0, v1, v2, v3⟩ := ld_b v
  rw [q0, q1, q2, q3, d0, d1, d2, d3, k0, k1, k2, k3, v0, v1, v2, v3]
  refine canon_heads (Val := Elt Ideal) (e := .f32) (fun i j => 0 + ((dkAll (tile 256 q t.val) g k v (tile 256 dy t.val) i j : ℝ) : EReal)) _ _ _ _ _ _ _ _ _
    (fun i l h => ?_) (fun i l h => ?_) (fun i l h => ?_) (fun i l h => ?_) i j
  · refine (dk_at' g (hd (tile 256 q t.val) 0) (hd k 0) (hd v 0) (hd (tile 256 dy t.val) 0) _ i l).trans (congrArg₂ (· + ·) ?_ (congrArg Real.toEReal (dkAll_at _ _ _ _ _ 0 rfl i l h).symm))
    rw [readCov_cols _ _ _ _ _ h, canon_cols, dif_pos (by dsimp only; omega)]
    exact zero_at _
  · refine (dk_at' g (hd (tile 256 q t.val) 1) (hd k 1) (hd v 1) (hd (tile 256 dy t.val) 1) _ i l).trans (congrArg₂ (· + ·) ?_ (congrArg Real.toEReal (dkAll_at _ _ _ _ _ 1 rfl i l h).symm))
    rw [readCov_cols _ _ _ _ _ h, canon_cols, dif_neg (by dsimp only; omega), canon_cols, dif_pos (by dsimp only; omega)]
    exact zero_at _
  · refine (dk_at' g (hd (tile 256 q t.val) 2) (hd k 2) (hd v 2) (hd (tile 256 dy t.val) 2) _ i l).trans (congrArg₂ (· + ·) ?_ (congrArg Real.toEReal (dkAll_at _ _ _ _ _ 2 rfl i l h).symm))
    rw [readCov_cols _ _ _ _ _ h, canon_cols, dif_neg (by dsimp only; omega), canon_cols, dif_neg (by dsimp only; omega), canon_cols, dif_pos (by dsimp only; omega)]
    exact zero_at _
  · refine (dk_at' g (hd (tile 256 q t.val) 3) (hd k 3) (hd v 3) (hd (tile 256 dy t.val) 3) _ i l).trans (congrArg₂ (· + ·) ?_ (congrArg Real.toEReal (dkAll_at _ _ _ _ _ 3 rfl i l h).symm))
    rw [readCov_cols _ _ _ _ _ h, canon_cols, dif_neg (by dsimp only; omega), canon_cols, dif_neg (by dsimp only; omega), canon_cols, dif_neg (by dsimp only; omega), canon_cols, dif_pos (by dsimp only; omega)]
    exact zero_at _

include hb in
theorem dk_next (h : ¬t.val % 32 = 0) (i : Fin 256) (j : Fin 512) : (outsAt0 m c t.val t.isLt).2.1 (ix2 i j)
    = (outsAt0 m c (t.val - 1) (Nat.lt_of_le_of_lt (Nat.sub_le _ _) t.isLt)).2.1 (ix2 i j) + ((dkAll (tile 256 q t.val) g k v (tile 256 dy t.val) i j : ℝ) : EReal) := by
  obtain ⟨e0, e1, e2, e3, e4⟩ := hb
  rw [outsAt0_B m c t h]
  frame_out
  rw [e0, e1, e2, e3, e4]
  obtain ⟨q0, q1, q2, q3⟩ := ld_f (tile 256 q t.val)
  obtain ⟨d0, d1, d2, d3⟩ := ld_b (tile 256 dy t.val)
  obtain ⟨k0, k1, k2, k3⟩ := ld_b k
  obtain ⟨v0, v1, v2, v3⟩ := ld_b v
  rw [q0, q1, q2, q3, d0, d1, d2, d3, k0, k1, k2, k3, v0, v1, v2, v3]
  refine canon_heads (Val := Elt Ideal) (e := .f32) (fun i j => (outsAt0 m c (t.val - 1) (Nat.lt_of_le_of_lt (Nat.sub_le _ _) t.isLt)).2.1 (ix2 i j) + ((dkAll (tile 256 q t.val) g k v (tile 256 dy t.val) i j : ℝ) : EReal)) _ _ _ _ _ _ _ _ _
    (fun i l h => ?_) (fun i l h => ?_) (fun i l h => ?_) (fun i l h => ?_) i j
  · refine (dk_at' g (hd (tile 256 q t.val) 0) (hd k 0) (hd v 0) (hd (tile 256 dy t.val) 0) _ i l).trans (congrArg₂ (· + ·) ?_ (congrArg Real.toEReal (dkAll_at _ _ _ _ _ 0 rfl i l h).symm))
    exact ld_cols _ _ _ _ h
  · refine (dk_at' g (hd (tile 256 q t.val) 1) (hd k 1) (hd v 1) (hd (tile 256 dy t.val) 1) _ i l).trans (congrArg₂ (· + ·) ?_ (congrArg Real.toEReal (dkAll_at _ _ _ _ _ 1 rfl i l h).symm))
    exact ld_cols _ _ _ _ h
  · refine (dk_at' g (hd (tile 256 q t.val) 2) (hd k 2) (hd v 2) (hd (tile 256 dy t.val) 2) _ i l).trans (congrArg₂ (· + ·) ?_ (congrArg Real.toEReal (dkAll_at _ _ _ _ _ 2 rfl i l h).symm))
    exact ld_cols _ _ _ _ h
  · refine (dk_at' g (hd (tile 256 q t.val) 3) (hd k 3) (hd v 3) (hd (tile 256 dy t.val) 3) _ i l).trans (congrArg₂ (· + ·) ?_ (congrArg Real.toEReal (dkAll_at _ _ _ _ _ 3 rfl i l h).symm))
    exact ld_cols _ _ _ _ h

include hb in
theorem dv_first (h : t.val % 32 = 0) (i : Fin 256) (j : Fin 512) : (outsAt0 m c t.val t.isLt).2.2.1 (ix2 i j)
    = 0 + ((dvAll (tile 256 q t.val) g k (tile 256 dy t.val) i j : ℝ) : EReal) := by
  obtain ⟨e0, e1, e2, e3, e4⟩ := hb
  rw [outsAt0_A m c t h]
  frame_out
  rw [e0, e1, e2, e3]
  obtain ⟨q0, q1, q2, q3⟩ := ld_f (tile 256 q t.val)
  obtain ⟨d0, d1, d2, d3⟩ := ld_b (tile 256 dy t.val)
  obtain ⟨k0, k1, k2, k3⟩ := ld_b k
  rw [q0, q1, q2, q3, d0, d1, d2, d3, k0, k1, k2, k3]
  refine canon_heads (Val := Elt Ideal) (e := .f32) (fun i j => 0 + ((dvAll (tile 256 q t.val) g k (tile 256 dy t.val) i j : ℝ) : EReal)) _ _ _ _ _ _ _ _ _
    (fun i l h => ?_) (fun i l h => ?_) (fun i l h => ?_) (fun i l h => ?_) i j
  · refine (dv_at' g (hd (tile 256 q t.val) 0) (hd k 0) (hd (tile 256 dy t.val) 0) _ i l).trans (congrArg₂ (· + ·) ?_ (congrArg Real.toEReal (dvAll_at _ _ _ _ 0 rfl i l h).symm))
    rw [readCov_cols _ _ _ _ _ h, canon_cols, dif_pos (by dsimp only; omega)]
    exact zero_at _
  · refine (dv_at' g (hd (tile 256 q t.val) 1) (hd k 1) (hd (tile 256 dy t.val) 1) _ i l).trans (congrArg₂ (· + ·) ?_ (congrArg Real.toEReal (dvAll_at _ _ _ _ 1 rfl i l h).symm))
    rw [readCov_cols _ _ _ _ _ h, canon_cols, dif_neg (by dsimp only; omega), canon_cols, dif_pos (by dsimp only; omega)]
    exact zero_at _
  · refine (dv_at' g (hd (tile 256 q t.val) 2) (hd k 2) (hd (tile 256 dy t.val) 2) _ i l).trans (congrArg₂ (· + ·) ?_ (congrArg Real.toEReal (dvAll_at _ _ _ _ 2 rfl i l h).symm))
    rw [readCov_cols _ _ _ _ _ h, canon_cols, dif_neg (by dsimp only; omega), canon_cols, dif_neg (by dsimp only; omega), canon_cols, dif_pos (by dsimp only; omega)]
    exact zero_at _
  · refine (dv_at' g (hd (tile 256 q t.val) 3) (hd k 3) (hd (tile 256 dy t.val) 3) _ i l).trans (congrArg₂ (· + ·) ?_ (congrArg Real.toEReal (dvAll_at _ _ _ _ 3 rfl i l h).symm))
    rw [readCov_cols _ _ _ _ _ h, canon_cols, dif_neg (by dsimp only; omega), canon_cols, dif_neg (by dsimp only; omega), canon_cols, dif_neg (by dsimp only; omega), canon_cols, dif_pos (by dsimp only; omega)]
    exact zero_at _

include hb in
theorem dv_next (h : ¬t.val % 32 = 0) (i : Fin 256) (j : Fin 512) : (outsAt0 m c t.val t.isLt).2.2.1 (ix2 i j)
    = (outsAt0 m c (t.val - 1) (Nat.lt_of_le_of_lt (Nat.sub_le _ _) t.isLt)).2.2.1 (ix2 i j) + ((dvAll (tile 256 q t.val) g k (tile 256 dy t.val) i j : ℝ) : EReal) := by
  obtain ⟨e0, e1, e2, e3, e4⟩ := hb
  rw [outsAt0_B m c t h]
  frame_out
  rw [e0, e1, e2, e3]
  obtain ⟨q0, q1, q2, q3⟩ := ld_f (tile 256 q t.val)
  obtain ⟨d0, d1, d2, d3⟩ := ld_b (tile 256 dy t.val)
  obtain ⟨k0, k1, k2, k3⟩ := ld_b k
  rw [q0, q1, q2, q3, d0, d1, d2, d3, k0, k1, k2, k3]
  refine canon_heads (Val := Elt Ideal) (e := .f32) (fun i j => (outsAt0 m c (t.val - 1) (Nat.lt_of_le_of_lt (Nat.sub_le _ _) t.isLt)).2.2.1 (ix2 i j) + ((dvAll (tile 256 q t.val) g k (tile 256 dy t.val) i j : ℝ) : EReal)) _ _ _ _ _ _ _ _ _
    (fun i l h => ?_) (fun i l h => ?_) (fun i l h => ?_) (fun i l h => ?_) i j
  · refine (dv_at' g (hd (tile 256 q t.val) 0) (hd k 0) (hd (tile 256 dy t.val) 0) _ i l).trans (congrArg₂ (· + ·) ?_ (congrArg Real.toEReal (dvAll_at _ _ _ _ 0 rfl i l h).symm))
    exact ld_cols _ _ _ _ h
  · refine (dv_at' g (hd (tile 256 q t.val) 1) (hd k 1) (hd (tile 256 dy t.val) 1) _ i l).trans (congrArg₂ (· + ·) ?_ (congrArg Real.toEReal (dvAll_at _ _ _ _ 1 rfl i l h).symm))
    exact ld_cols _ _ _ _ h
  · refine (dv_at' g (hd (tile 256 q t.val) 2) (hd k 2) (hd (tile 256 dy t.val) 2) _ i l).trans (congrArg₂ (· + ·) ?_ (congrArg Real.toEReal (dvAll_at _ _ _ _ 2 rfl i l h).symm))
    exact ld_cols _ _ _ _ h
  · refine (dv_at' g (hd (tile 256 q t.val) 3) (hd k 3) (hd (tile 256 dy t.val) 3) _ i l).trans (congrArg₂ (· + ·) ?_ (congrArg Real.toEReal (dvAll_at _ _ _ _ 3 rfl i l h).symm))
    exact ld_cols _ _ _ _ h

include hb in
theorem dg_first (h : t.val % 32 = 0) (j : Fin 128) : (outsAt0 m c t.val t.isLt).2.2.2 (ix2 0 j) = 0 + ((dgAll (tile 256 q t.val) g k v (tile 256 dy t.val) 0 j : ℝ) : EReal) := by
  obtain ⟨e0, e1, e2, e3, e4⟩ := hb
  rw [outsAt0_A m c t h]
  frame_out
  rw [e0, e1, e2, e3, e4]
  obtain ⟨q0, q1, q2, q3⟩ := ld_f (tile 256 q t.val)
  obtain ⟨d0, d1, d2, d3⟩ := ld_b (tile 256 dy t.val)
  obtain ⟨k0, k1, k2, k3⟩ := ld_b k
  obtain ⟨v0, v1, v2, v3⟩ := ld_b v
  rw [q0, q1, q2, q3, d0, d1, d2, d3, k0, k1, k2, k3, v0, v1, v2, v3]
  refine (gain_at g k v (tile 256 q t.val) (tile 256 dy t.val) _ j).trans (congrArg (· + _) ?_)
  pointwise [k0_pay4]

include hb in
theorem dg_next (h : ¬t.val % 32 = 0) (j : Fin 128) : (outsAt0 m c t.val t.isLt).2.2.2 (ix2 0 j)
    = (outsAt0 m c (t.val - 1) (Nat.lt_of_le_of_lt (Nat.sub_le _ _) t.isLt)).2.2.2 (ix2 0 j) + ((dgAll (tile 256 q t.val) g k v (tile 256 dy t.val) 0 j : ℝ) : EReal) := by
  obtain ⟨e0, e1, e2, e3, e4⟩ := hb
  rw [outsAt0_B m c t h]
  frame_out
  rw [e0, e1, e2, e3, e4]
  obtain ⟨q0, q1, q2, q3⟩ := ld_f (tile 256 q t.val)
  obtain ⟨d0, d1, d2, d3⟩ := ld_b (tile 256 dy t.val)
  obtain ⟨k0, k1, k2, k3⟩ := ld_b k
  obtain ⟨v0, v1, v2, v3⟩ := ld_b v
  rw [q0, q1, q2, q3, d0, d1, d2, d3, k0, k1, k2, k3, v0, v1, v2, v3]
  refine (gain_at g k v (tile 256 q t.val) (tile 256 dy t.val) _ j).trans (congrArg (· + _) ?_)
  rfl

omit t in
/-- One head's columns of a block of rows, row by row. -/
theorem hd_tile {z : Fin 8192 → Fin 512 → ℝ} {t : ℕ} {i : Fin 256} (h : t * 256 + i.val < 8192) (n : Fin 4) : hd (tile 256 z t) n i = hd z n ⟨t * 256 + i.val, h⟩ := by
  funext l
  exact congrFun (tile_row z h) _

omit t in
theorem p_tile {t : ℕ} {i : Fin 256} (h : t * 256 + i.val < 8192) (n : Fin 4) (l : Fin 256) :
    p (qn g (hd (tile 256 q t) n)) (hd k n) i l = p (qn g (hd q n)) (hd k n) ⟨t * 256 + i.val, h⟩ l := by
  simp only [p, score, qn, hd_tile h]

omit t in
theorem ds_tile {t : ℕ} {i : Fin 256} (h : t * 256 + i.val < 8192) (n : Fin 4) (l : Fin 256) :
    ds (qn g (hd (tile 256 q t) n)) (hd k n) (dp (hd v n) (hd (tile 256 dy t) n)) i l = ds (qn g (hd q n)) (hd k n) (dp (hd v n) (hd dy n)) ⟨t * 256 + i.val, h⟩ l := by
  simp only [ds, dp, p_tile q g k h, hd_tile h]

omit t in
theorem dqn_tile {t : ℕ} {i : Fin 256} (h : t * 256 + i.val < 8192) (n : Fin 4) (l : Fin 128) :
    dqn (qn g (hd (tile 256 q t) n)) (hd k n) (dp (hd v n) (hd (tile 256 dy t) n)) i l = dqn (qn g (hd q n)) (hd k n) (dp (hd v n) (hd dy n)) ⟨t * 256 + i.val, h⟩ l := by
  simp only [dqn, ds_tile q g k v dy h]

omit t in
theorem dz_tile {t : ℕ} {i : Fin 256} (h : t * 256 + i.val < 8192) (l : Fin 512) :
    dzAll (tile 256 q t) g k v (tile 256 dy t) i l = dzAll q g k v dy ⟨t * 256 + i.val, h⟩ l := by
  simp only [dzAll, join, dz, dqn_tile q g k v dy h, hd_tile h]

include h0 h1 h2 h3 h4

theorem dz_final : (dats m 0 c).arrAt 5 cfg0.N = mat .bf16 (dzAll q g k v dy) := by
  refine (dats m 0 c).arrAt_eq_of_covers 5 _ (by decide +kernel) fun t hf y => ?_
  blk_simp
  rw [after0_5, dz_out m c q g k v dy t (blocks m c q g k v dy h0 h1 h2 h3 h4 t)]
  idx_vars y
  have lt : t.val < 32 := lt_of_lt_of_eq t.isLt N_0
  rw [mat_at, dz_tile q g k v dy (by omega)]
  exact (mat_whole _ ⟨t.val * 256 + y0.val, by omega⟩ y1 _ (by blk_simp [idx t]) (by blk_simp [idx t])).symm

theorem dk_final : (dats m 0 c).arrAt 6 cfg0.N = mat .f32 (dkAll q g k v dy) := by
  refine (dats m 0 c).arrAt_eq_of_covers 6 _ (by decide +kernel) fun t hf y => ?_
  have hb := fun t => blocks m c q g k v dy h0 h1 h2 h3 h4 t
  blk_simp
  rw [after0_6, Pipeline.eq_sum_fin_of_reset_step_apply_of_flush (fun n h => (outsAt0 m c n h).2.1) 32 (fun _ => 0)
    (fun n j => ((dkAll (tile 256 q n) g k v (tile 256 dy n) (j 0) (j 1) : ℝ) : EReal))
    (fun t h j => by idx_vars j; exact dk_first m c q g k v dy t (hb t) h j0 j1) (fun t h j => by idx_vars j; exact dk_next m c q g k v dy t (hb t) h j0 j1)
    t ((flush0_6 t).mp hf) _, zero_add]
  have lt : t.val < 32 := lt_of_lt_of_eq t.isLt N_0
  idx_vars y
  show (∑ s : Fin 32, _ : EReal) = _
  rw [coe_sum]
  have e : ∀ s : Fin 32, 32 * (t.val / 32) + s.val = s.val := by omega
  simp only [e]
  refine (congrArg Real.toEReal (sum_tile (fun r => ds (qn g (hd q ⟨y1.val / 128, by omega⟩)) (hd k ⟨y1.val / 128, by omega⟩) (dp (hd v ⟨y1.val / 128, by omega⟩) (hd dy ⟨y1.val / 128, by omega⟩)) r y0
    * qn g (hd q ⟨y1.val / 128, by omega⟩) r ⟨y1.val % 128, by omega⟩) _ rfl fun s i hl => ?_)).trans
    (mat_whole (dkAll q g k v dy) y0 y1 _ (by blk_simp [idx t]) (by blk_simp [idx t])).symm
  rw [ds_tile q g k v dy hl]
  simp only [qn, hd_tile hl]

theorem dv_final : (dats m 0 c).arrAt 7 cfg0.N = mat .f32 (dvAll q g k dy) := by
  refine (dats m 0 c).arrAt_eq_of_covers 7 _ (by decide +kernel) fun t hf y => ?_
  have hb := fun t => blocks m c q g k v dy h0 h1 h2 h3 h4 t
  blk_simp
  rw [after0_7, Pipeline.eq_sum_fin_of_reset_step_apply_of_flush (fun n h => (outsAt0 m c n h).2.2.1) 32 (fun _ => 0)
    (fun n j => ((dvAll (tile 256 q n) g k (tile 256 dy n) (j 0) (j 1) : ℝ) : EReal))
    (fun t h j => by idx_vars j; exact dv_first m c q g k v dy t (hb t) h j0 j1) (fun t h j => by idx_vars j; exact dv_next m c q g k v dy t (hb t) h j0 j1)
    t ((flush0_7 t).mp hf) _, zero_add]
  have lt : t.val < 32 := lt_of_lt_of_eq t.isLt N_0
  idx_vars y
  show (∑ s : Fin 32, _ : EReal) = _
  rw [coe_sum]
  have e : ∀ s : Fin 32, 32 * (t.val / 32) + s.val = s.val := by omega
  simp only [e]
  refine (congrArg Real.toEReal (sum_tile (fun r => p (qn g (hd q ⟨y1.val / 128, by omega⟩)) (hd k ⟨y1.val / 128, by omega⟩) r y0
    * hd dy ⟨y1.val / 128, by omega⟩ r ⟨y1.val % 128, by omega⟩) _ rfl fun s i hl => ?_)).trans
    (mat_whole (dvAll q g k dy) y0 y1 _ (by blk_simp [idx t]) (by blk_simp [idx t])).symm
  rw [p_tile q g k hl, hd_tile hl]

theorem dg_final : (dats m 0 c).arrAt 8 cfg0.N = mat .f32 (dgAll q g k v dy) := by
  refine (dats m 0 c).arrAt_eq_of_covers 8 _ (by decide +kernel) fun t hf y => ?_
  have hb := fun t => blocks m c q g k v dy h0 h1 h2 h3 h4 t
  blk_simp
  rw [after0_8, Pipeline.eq_sum_fin_of_reset_step_apply_of_flush (fun n h => (outsAt0 m c n h).2.2.2) 32 (fun _ => 0)
    (fun n j => ((dgAll (tile 256 q n) g k v (tile 256 dy n) 0 (j 1) : ℝ) : EReal))
    (fun t h j => by idx_vars j; obtain rfl : j0 = 0 := Subsingleton.elim _ _; exact dg_first m c q g k v dy t (hb t) h j1)
    (fun t h j => by idx_vars j; obtain rfl : j0 = 0 := Subsingleton.elim _ _; exact dg_next m c q g k v dy t (hb t) h j1)
    t ((flush0_8 t).mp hf) _, zero_add]
  have lt : t.val < 32 := lt_of_lt_of_eq t.isLt N_0
  idx_vars y
  show (∑ s : Fin 32, _ : EReal) = _
  rw [coe_sum]
  have e : ∀ s : Fin 32, 32 * (t.val / 32) + s.val = s.val := by omega
  simp only [e]
  refine (congrArg Real.toEReal (sum_tile (fun r => ∑ h, dgain (hd q h) (qn g (hd q h)) (hd k h) (dp (hd v h) (hd dy h)) r y1) _ rfl fun s i hl => ?_)).trans
    (mat_whole (dgAll q g k v dy) y0 y1 _ (by blk_simp [idx t]) (by blk_simp [idx t])).symm
  simp only [dgain, dqn_tile q g k v dy hl, hd_tile hl]

end

/-- The kernel's four results are the model's, for finite arguments. -/
theorem run (m : (ℓ : Loc nD τ sig) → Buf (Elt Ideal) ℓ) (ρ : Dev nD → PrngReg)
    (q : Dev nD → Fin 8192 → Fin 512 → ℝ) (g : Dev nD → Fin 1 → Fin 128 → ℝ) (k : Dev nD → Fin 256 → Fin 512 → ℝ) (v : Dev nD → Fin 256 → Fin 512 → ℝ) (dy : Dev nD → Fin 8192 → Fin 512 → ℝ)
    (h0 : ∀ c : Dev nD, m ((c : Thread nD τ).loc main_arg0) = mat .f32 (q c))
    (h1 : ∀ c : Dev nD, m ((c : Thread nD τ).loc main_arg1) = mat .f32 (g c))
    (h2 : ∀ c : Dev nD, m ((c : Thread nD τ).loc main_arg2) = mat .f32 (k c))
    (h3 : ∀ c : Dev nD, m ((c : Thread nD τ).loc main_arg3) = mat .f32 (v c))
    (h4 : ∀ c : Dev nD, m ((c : Thread nD τ).loc main_arg4) = mat .f32 (dy c)) :
    θ_run defs (onTc (τ := τ) (main (F := Ideal))) ⟨m, fun _ => 0, ρ⟩ fun r => ∀ c : Dev nD,
      r.2.mem ((c : Thread nD τ).loc main_v3_0) = mat .bf16 (dzAll (q c) (g c) (k c) (v c) (dy c))
      ∧ r.2.mem ((c : Thread nD τ).loc main_v3_1) = mat .f32 (dkAll (q c) (g c) (k c) (v c) (dy c))
      ∧ r.2.mem ((c : Thread nD τ).loc main_v3_2) = mat .f32 (dvAll (q c) (g c) (k c) (dy c))
      ∧ r.2.mem ((c : Thread nD τ).loc main_v3_3) = mat .f32 (dgAll (q c) (g c) (k c) (v c) (dy c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Kernel3Ideal.Value.run_blocks m ρ)
  obtain ⟨e0, e1, e2, e3, hargs⟩ := h c
  exact ⟨e0.trans (dz_final m c _ _ _ _ _ (h0 c) (h1 c) (h2 c) (h3 c) (h4 c)), e1.trans (dk_final m c _ _ _ _ _ (h0 c) (h1 c) (h2 c) (h3 c) (h4 c)),
    e2.trans (dv_final m c _ _ _ _ _ (h0 c) (h1 c) (h2 c) (h3 c) (h4 c)), e3.trans (dg_final m c _ _ _ _ _ (h0 c) (h1 c) (h2 c) (h3 c) (h4 c)), hargs⟩

end Cert.Kernel3Ideal.MemAttn

end
-- ==== Proof.MemAttnRef.lean ====
module

public import proofs.«01_k».proof.Proof.Gen.Reference3Ideal.Run
public import proofs.«01_k».proof.Proof.MemAttnModel

@[expose] public section

set_option maxRecDepth 16384

noncomputable section

open Idealize.ShloMosaic Idealize.ShloMosaic.TcCoe Idealize.SL.Sem

namespace Cert.Reference3Ideal.MemAttn

open Cert.Reference3Ideal Cert.Reference3Ideal.Gen Lift
open Model.MemAttn

section
variable (q : Fin 8192 → Fin 512 → ℝ) (g : Fin 1 → Fin 128 → ℝ) (k v : Fin 256 → Fin 512 → ℝ) (dy : Fin 8192 → Fin 512 → ℝ)

/-- A matrix, its columns split into the four heads'. -/
abbrev split {a : ℕ} (z : Fin a → Fin 512 → ℝ) : Fin a → Fin 4 → Fin 128 → ℝ := fun i h => hd z h i

theorem splitR_at : shapeCast S8192x4x128 (mat .f32 q) shapeCasts_S8192x512_S8192x4x128 = mat3 .f32 (split q) := by
  funext i
  idx_vars i
  pointwise []
  exact mat_whole _ _ _ _ rfl rfl

theorem split_at : shapeCast S256x4x128 (mat .f32 k) shapeCasts_S256x512_S256x4x128 = mat3 .f32 (split k) := by
  funext i
  idx_vars i
  pointwise []
  exact mat_whole _ _ _ _ rfl rfl

theorem gain_at : broadcastInDim S1x1x128 ![2] bcast_S128_S1x1x128_2 (shapeCast S128 (mat .f32 g) shapeCasts_S1x128_S128) = mat3 .f32 (fun (_ _ : Fin 1) l => g 0 l) := by
  funext i
  idx_vars i
  pointwise []
  exact mat_whole _ _ _ _ rfl rfl

theorem ms_at : addf (F := Ideal) (Host.divf (broadcastInDim S8192x4x1 ![0, 1] bcast_S8192x4_S8192x4x1_0_1
      (Host.reduceAdd (mulf (mat3 .f32 (split q)) (mat3 .f32 (split q))) (constant S_ .f32 0x00000000#32) reducesTo_S8192x4x128_S8192x4_d2 h_S_))
      (broadcastInDim S8192x4x1 ![] bcast_S_S8192x4x1 (constant S_ .f32 0x43000000#32))) (broadcastInDim S8192x4x1 ![] bcast_S_S8192x4x1 (constant S_ .f32 0x358637BD#32))
    = mat3 .f32 fun i h (_ : Fin 1) => (∑ l, split q i h l * split q i h l) / 128 + eps := by
  funext i
  idx_vars i
  pointwise []
  simp (disch := norm_num) only [mat3_at, ← EReal.coe_mul, ← EReal.coe_add, coe_sum, w_eps, w_128, div_ne]

theorem r_at : Host.rsqrt (F := Ideal) (mat3 .f32 fun i h (_ : Fin 1) => (∑ l, split q i h l * split q i h l) / 128 + eps) = mat3 .f32 fun i h (_ : Fin 1) => rstd 128 (split q i h) := by
  funext i
  idx_vars i
  pointwise []
  rw [mat3_at, rsqrt_ms (by norm_num)]
  rfl

/-- The reciprocal root's derivative. -/
theorem r3_at : mulf (F := Ideal) (broadcastInDim S8192x4x1 ![] bcast_S_S8192x4x1 (constant S_ .f32 0xBF000000#32))
      (Host.divf (mat3 .f32 fun i h (_ : Fin 1) => rstd 128 (split q i h)) (mat3 .f32 fun i h (_ : Fin 1) => (∑ l, split q i h l * split q i h l) / 128 + eps))
    = mat3 .f32 fun i h (_ : Fin 1) => -(1 / 2) * (rstd 128 (split q i h) * (rstd 128 (split q i h) * rstd 128 (split q i h))) := by
  funext i
  idx_vars i
  pointwise []
  simp (disch := norm_num) only [mat3_at, div_ms, w_neghalf, ← EReal.coe_mul]

theorem qr_at : mulf (F := Ideal) (mat3 .f32 (split q)) (broadcastInDim S8192x4x128 ![0, 1, 2] bcast_S8192x4x1_S8192x4x128_0_1_2 (mat3 .f32 fun i h (_ : Fin 1) => rstd 128 (split q i h)))
    = mat3 .f32 fun i h l => split q i h l * rstd 128 (split q i h) := by
  funext i
  idx_vars i
  pointwise []
  simp only [mat3_at, ← EReal.coe_mul]

theorem qn_at : mulf (F := Ideal) (mat3 .f32 fun i h l => split q i h l * rstd 128 (split q i h))
      (broadcastInDim S8192x4x128 ![0, 1, 2] bcast_S1x1x128_S8192x4x128_0_1_2 (mat3 .f32 (fun (_ _ : Fin 1) l => g 0 l)))
    = mat3 .f32 fun i h l => qn g (hd q h) i l := by
  funext i
  idx_vars i
  pointwise []
  simp only [mat3_at, ← EReal.coe_mul, qn]

theorem score_at : mulf (F := Ideal) (Host.dotGeneral dot_S8192x4x128_S256x4x128_S4x8192x256_2_2_0_0_1_1 none (mat3 .f32 fun i h l => qn g (hd q h) i l) (mat3 .f32 (split k)))
      (broadcastInDim S4x8192x256 ![] bcast_S_S4x8192x256 (constant S_ .f32 0x3DB504F3#32)) = mat3 .f32 fun h i m => score (qn g (hd q h)) (hd k h) i m := by
  funext i
  idx_vars i
  pointwise []
  simp only [mat3_at, ← EReal.coe_mul, coe_sum, w_sc, score]

variable (s : Fin 4 → Fin 8192 → Fin 256 → ℝ)

theorem mx_at (i0 : Fin 4) (i1 : Fin 8192) : Host.reduce (FloatOps.maximumf (F := Ideal) (φ := .f32)) (mat3 .f32 s) (constant S_ .f32 0xFF800000#32) reducesTo_S4x8192x256_S4x8192_d2 h_S_ (ix2 i0 i1) = ((top (s i0 i1) : ℝ) : EReal) := by
  pointwise []
  simp only [mat3_at, w_neginf, fold_max]

theorem top_at : maximumf (broadcastInDim S4x8192 ![] bcast_S_S4x8192 (constant S_ .f32 0xFF800000#32))
        (Host.reduce FloatOps.maximumf (mat3 .f32 s) (constant S_ .f32 0xFF800000#32) reducesTo_S4x8192x256_S4x8192_d2 h_S_) = mat .f32 fun h i => top (s h i) := by
  funext i
  idx_vars i
  rw [maximumf_apply, mx_at]
  pointwise []
  rw [w_neginf]
  exact max_bot_left _

theorem e_at : Host.exp (F := Ideal) (subf (mat3 .f32 s) (broadcastInDim S4x8192x256 ![0, 1, 2] bcast_S4x8192x1_S4x8192x256_0_1_2 (broadcastInDim S4x8192x1 ![0, 1] bcast_S4x8192_S4x8192x1_0_1
      (mat .f32 fun h i => top (s h i)))))
    = mat3 .f32 fun h i m => Real.exp (s h i m - top (s h i)) := by
  funext i
  idx_vars i
  pointwise []
  simp only [mat3_at, mat_at, ← EReal.coe_sub, Ideal.exp_coe]

/-- The weights' sums. -/
theorem sum_at : broadcastInDim S4x8192x1 ![0, 1] bcast_S4x8192_S4x8192x1_0_1 (Host.reduceAdd (mat3 .f32 s) (constant S_ .f32 0x00000000#32) reducesTo_S4x8192x256_S4x8192_d2 h_S_)
    = mat3 .f32 fun h i (_ : Fin 1) => ∑ m, s h i m := by
  funext i
  idx_vars i
  pointwise []
  simp only [mat3_at, coe_sum]

variable (t : Fin 4 → Fin 8192 → ℝ) (ht : ∀ h i, t h i ≠ 0)

include ht in
theorem div_at : Host.divf (F := Ideal) (mat3 .f32 s) (broadcastInDim S4x8192x256 ![0, 1, 2] bcast_S4x8192x1_S4x8192x256_0_1_2 (mat3 .f32 fun h i (_ : Fin 1) => t h i))
    = mat3 .f32 fun h i m => s h i m / t h i := by
  funext i
  idx_vars i
  pointwise []
  simp only [mat3_at, div_ne (ht _ _)]

include ht in
theorem inv_sq_at : Host.divf (F := Ideal) (broadcastInDim S4x8192x1 ![] bcast_S_S4x8192x1 (constant S_ .f32 0x3F800000#32)) (mulf (mat3 .f32 fun h i (_ : Fin 1) => t h i) (mat3 .f32 fun h i (_ : Fin 1) => t h i))
    = mat3 .f32 fun h i (_ : Fin 1) => 1 / (t h i * t h i) := by
  funext i
  idx_vars i
  pointwise []
  simp only [mat3_at, ← EReal.coe_mul, ← EReal.coe_one, div_ne (mul_ne_zero (ht _ _) (ht _ _))]

theorem dp_at : Host.dotGeneral (F := Ideal) dot_S4x128x8192_S256x4x128_S4x8192x256_1_2_2_0_0_1 none (transpose S4x128x8192 [1, 2, 0] (mat3 .f32 (split dy)) transposes_S8192x4x128_S4x128x8192_1_2_0)
      (mat3 .f32 (split v)) = mat3 .f32 fun h i m => dp (hd v h) (hd dy h) i m := by
  funext i
  idx_vars i
  pointwise []
  simp only [mat3_at, ← EReal.coe_mul, coe_sum, dp]

theorem dv_at : shapeCast S256x512 (transpose S256x4x128 [2, 0, 1] (Host.dotGeneral (F := Ideal) dot_S4x128x8192_S4x8192x256_S4x128x256_2_1_1_2_0_0 none
      (transpose S4x128x8192 [1, 2, 0] (mat3 .f32 (split dy)) transposes_S8192x4x128_S4x128x8192_1_2_0)
      (mat3 .f32 fun h i m => p (qn g (hd q h)) (hd k h) i m)) transposes_S4x128x256_S256x4x128_2_0_1) shapeCasts_S256x4x128_S256x512
    = mat .f32 (dvAll q g k dy) := by
  funext i
  idx_vars i
  pointwise []
  simp only [mat3_at, ← EReal.coe_mul, coe_sum]
  exact congrArg Real.toEReal (Finset.sum_congr rfl fun _ _ => mul_comm _ _)

/-- The exponentials' cotangent, in differentiation's words, from the weights' cotangent `d`. -/
theorem de_at (d e : Fin 4 → Fin 8192 → Fin 256 → ℝ) (w : Fin 4 → Fin 8192 → ℝ) : addf (F := Ideal) (mat3 .f32 d) (broadcastInDim S4x8192x256 ![0, 1] bcast_S4x8192_S4x8192x256_0_1 (Host.reduceAdd (Host.negf (shapeCast S4x8192x1
      (Host.reduceAdd (mulf (mulf (mat3 .f32 s) (broadcastInDim S4x8192x256 ![0, 1, 2] bcast_S4x8192x1_S4x8192x256_0_1_2 (mat3 .f32 fun h i (_ : Fin 1) => w h i))) (mat3 .f32 e))
        (constant S_ .f32 0x00000000#32) reducesTo_S4x8192x256_S4x8192_d2 h_S_) shapeCasts_S4x8192_S4x8192x1)) (constant S_ .f32 0x00000000#32) reducesTo_S4x8192x1_S4x8192_d2 h_S_))
    = mat3 .f32 fun h i m => d h i m + -∑ l, s h i l * w h i * e h i l := by
  funext i
  idx_vars i
  pointwise []
  simp only [mat3_at, ← EReal.coe_mul, coe_sum, ← EReal.coe_neg, ← EReal.coe_add, Finset.univ_unique, Finset.sum_singleton]

theorem scaled_at (d e : Fin 4 → Fin 8192 → Fin 256 → ℝ) : mulf (F := Ideal) (mulf (mat3 .f32 d) (mat3 .f32 e)) (broadcastInDim S4x8192x256 ![] bcast_S_S4x8192x256 (constant S_ .f32 0x3DB504F3#32))
    = mat3 .f32 fun h i m => d h i m * e h i m * sc := by
  funext i
  idx_vars i
  pointwise []
  simp only [mat3_at, ← EReal.coe_mul, w_sc]

/-- The softmax's derivative, in differentiation's words, is the weights times the centred cotangent. -/
theorem soft_back {ι : Type*} [Fintype ι] [Nonempty ι] (d f : ι → ℝ) (c : ℝ) (m : ι) :
    (d m / (∑ l, Real.exp (f l - c)) + -∑ l, d l * (1 / ((∑ l, Real.exp (f l - c)) * ∑ l, Real.exp (f l - c))) * Real.exp (f l - c)) * Real.exp (f m - c)
      = Real.exp (f m) / (∑ l, Real.exp (f l)) * (d m - ∑ l, d l * (Real.exp (f l) / ∑ l, Real.exp (f l))) := by
  simp only [← soft_shift f c]
  have hS := sum_exp_ne fun l => f l - c
  generalize (∑ l, Real.exp (f l - c)) = S at *
  have e : ∑ l, d l * (1 / (S * S)) * Real.exp (f l - c) = (∑ l, d l * (Real.exp (f l - c) / S)) / S := by
    rw [Finset.sum_div]
    refine Finset.sum_congr rfl fun l _ => ?_
    field_simp
  rw [e]
  field_simp
  ring

theorem dk_at (z : Fin 4 → Fin 8192 → Fin 256 → ℝ) (x : Fin 8192 → Fin 4 → Fin 128 → ℝ) : shapeCast S256x512 (transpose S256x4x128 [1, 0, 2] (Host.dotGeneral (F := Ideal) dot_S4x8192x256_S8192x4x128_S4x256x128_1_0_2_2_0_1 none
      (mat3 .f32 z) (mat3 .f32 x)) transposes_S4x256x128_S256x4x128_1_0_2) shapeCasts_S256x4x128_S256x512
    = mat .f32 (join (N := 4) rfl fun h m l => ∑ i, z h i m * x i h l) := by
  funext i
  idx_vars i
  pointwise []
  simp only [mat3_at, ← EReal.coe_mul, coe_sum]
  rfl

theorem dqn_at (z : Fin 4 → Fin 8192 → Fin 256 → ℝ) : transpose S8192x4x128 [1, 0, 2] (Host.dotGeneral (F := Ideal) dot_S4x8192x256_S256x4x128_S4x8192x128_2_0_1_2_0_1 none (mat3 .f32 z) (mat3 .f32 (split k)))
      transposes_S4x8192x128_S8192x4x128_1_0_2 = mat3 .f32 fun i h l => ∑ m, z h i m * hd k h m l := by
  funext i
  idx_vars i
  pointwise []
  simp only [mat3_at, ← EReal.coe_mul, coe_sum]

theorem dg_at (a d : Fin 8192 → Fin 4 → Fin 128 → ℝ) : shapeCast S1x128 (Host.reduceAdd (F := Ideal) (shapeCast S1x1x128 (Host.reduceAdd (mulf (mat3 .f32 a) (mat3 .f32 d)) (constant S_ .f32 0x00000000#32)
      reducesTo_S8192x4x128_S128_d0_1 h_S_) shapeCasts_S128_S1x1x128) (constant S_ .f32 0x00000000#32) reducesTo_S1x1x128_S128_d0_1 h_S_) shapeCasts_S128_S1x128
    = mat .f32 fun _ l => ∑ i, ∑ h, a i h l * d i h l := by
  funext i
  idx_vars i
  pointwise [sum_lead]
  simp only [Finset.univ_unique, Finset.sum_singleton]
  pointwise [sum_lead]
  simp only [mat3_at, mat_at, ← EReal.coe_mul, coe_sum]

theorem times_gain_at (d : Fin 8192 → Fin 4 → Fin 128 → ℝ) : mulf (F := Ideal) (mat3 .f32 d) (broadcastInDim S8192x4x128 ![0, 1, 2] bcast_S1x1x128_S8192x4x128_0_1_2 (mat3 .f32 (fun (_ _ : Fin 1) l => g 0 l)))
    = mat3 .f32 fun i h l => d i h l * g 0 l := by
  funext i
  idx_vars i
  pointwise []
  simp only [mat3_at, ← EReal.coe_mul]

theorem mean_at (x d : Fin 8192 → Fin 4 → Fin 128 → ℝ) (w : Fin 8192 → Fin 4 → ℝ) : broadcastInDim S8192x4x128 ![0, 1] bcast_S8192x4_S8192x4x128_0_1 (Host.reduceAdd (F := Ideal) (Host.divf (mulf
      (shapeCast S8192x4x1 (Host.reduceAdd (mulf (mat3 .f32 x) (mat3 .f32 d)) (constant S_ .f32 0x00000000#32) reducesTo_S8192x4x128_S8192x4_d2 h_S_) shapeCasts_S8192x4_S8192x4x1)
      (mat3 .f32 fun i h (_ : Fin 1) => w i h)) (broadcastInDim S8192x4x1 ![] bcast_S_S8192x4x1 (constant S_ .f32 0x43000000#32))) (constant S_ .f32 0x00000000#32) reducesTo_S8192x4x1_S8192x4_d2 h_S_)
    = mat3 .f32 fun i h (_ : Fin 128) => ∑ _ : Fin 1, (∑ k, x i h k * d i h k) * w i h / 128 := by
  funext i
  idx_vars i
  pointwise []
  simp (disch := norm_num) only [mat3_at, ← EReal.coe_mul, coe_sum, w_128, div_ne]

theorem rows_at (b x d : Fin 8192 → Fin 4 → Fin 128 → ℝ) (r : Fin 8192 → Fin 4 → ℝ) : shapeCast S8192x512 (addf (F := Ideal) (addf
      (mulf (mat3 .f32 d) (broadcastInDim S8192x4x128 ![0, 1, 2] bcast_S8192x4x1_S8192x4x128_0_1_2 (mat3 .f32 fun i h (_ : Fin 1) => r i h))) (mulf (mat3 .f32 x) (mat3 .f32 b)))
      (mulf (mat3 .f32 b) (mat3 .f32 x))) shapeCasts_S8192x4x128_S8192x512
    = mat .f32 (join (N := 4) rfl fun h i l => d i h l * r i h + x i h l * b i h l + b i h l * x i h l) := by
  funext i
  idx_vars i
  pointwise []
  simp only [mat3_at, ← EReal.coe_mul, ← EReal.coe_add]
  rfl

/-- The weights from the shifted exponentials. -/
theorem p_eq : (fun h i m => Real.exp (score (qn g (hd q h)) (hd k h) i m - top (score (qn g (hd q h)) (hd k h) i)) / ∑ l, Real.exp (score (qn g (hd q h)) (hd k h) i l - top (score (qn g (hd q h)) (hd k h) i)))
    = fun (h : Fin 4) (i : Fin 8192) m => p (qn g (hd q h)) (hd k h) i m := by
  funext h i m
  exact soft_shift _ _ _

/-- The products' cotangent from the shifted exponentials. -/
theorem ds_eq : (fun h i m => (dp (hd v h) (hd dy h) i m / (∑ l, Real.exp (score (qn g (hd q h)) (hd k h) i l - top (score (qn g (hd q h)) (hd k h) i)))
      + -∑ n, dp (hd v h) (hd dy h) i n * (1 / ((∑ l, Real.exp (score (qn g (hd q h)) (hd k h) i l - top (score (qn g (hd q h)) (hd k h) i))) * ∑ l, Real.exp (score (qn g (hd q h)) (hd k h) i l - top (score (qn g (hd q h)) (hd k h) i))))
        * Real.exp (score (qn g (hd q h)) (hd k h) i n - top (score (qn g (hd q h)) (hd k h) i)))
      * Real.exp (score (qn g (hd q h)) (hd k h) i m - top (score (qn g (hd q h)) (hd k h) i)) * sc)
    = fun (h : Fin 4) (i : Fin 8192) m => ds (qn g (hd q h)) (hd k h) (dp (hd v h) (hd dy h)) i m := by
  funext h i m
  exact congrArg (· * sc) (soft_back _ _ _ _)

end

/-- The reference's four results are the model's, for finite arguments. -/
theorem run (m : (ℓ : Loc nD τ sig) → Buf (Elt Ideal) ℓ) (ρ : Dev nD → PrngReg)
    (q : Dev nD → Fin 8192 → Fin 512 → ℝ) (g : Dev nD → Fin 1 → Fin 128 → ℝ) (k : Dev nD → Fin 256 → Fin 512 → ℝ) (v : Dev nD → Fin 256 → Fin 512 → ℝ) (dy : Dev nD → Fin 8192 → Fin 512 → ℝ)
    (h0 : ∀ c : Dev nD, m ((c : Thread nD τ).loc main_arg0) = mat .f32 (q c))
    (h1 : ∀ c : Dev nD, m ((c : Thread nD τ).loc main_arg1) = mat .f32 (g c))
    (h2 : ∀ c : Dev nD, m ((c : Thread nD τ).loc main_arg2) = mat .f32 (k c))
    (h3 : ∀ c : Dev nD, m ((c : Thread nD τ).loc main_arg3) = mat .f32 (v c))
    (h4 : ∀ c : Dev nD, m ((c : Thread nD τ).loc main_arg4) = mat .f32 (dy c)) :
    θ_run defs (onTc (τ := τ) (main (F := Ideal))) ⟨m, fun _ => 0, ρ⟩ fun r => ∀ c : Dev nD,
      r.2.mem ((c : Thread nD τ).loc main_v101) = mat .bf16 (dzAll (q c) (g c) (k c) (v c) (dy c))
      ∧ r.2.mem ((c : Thread nD τ).loc main_v78) = mat .f32 (dkAll (q c) (g c) (k c) (v c) (dy c))
      ∧ r.2.mem ((c : Thread nD τ).loc main_v59) = mat .f32 (dvAll (q c) (g c) (k c) (dy c))
      ∧ r.2.mem ((c : Thread nD τ).loc main_v99) = mat .f32 (dgAll (q c) (g c) (k c) (v c) (dy c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run m ρ)
  obtain ⟨e0, e1, e2, e3, hargs⟩ := h c
  have hS := fun (h : Fin 4) (i : Fin 8192) => sum_exp_ne fun l => score (qn (g c) (hd (q c) h)) (hd (k c) h) i l - top (score (qn (g c) (hd (q c) h)) (hd (k c) h) i)
  refine ⟨e0.trans ?_, e1.trans ?_, e2.trans ?_, e3.trans ?_, hargs⟩
  · unfold Value.res_main_v101
    rw [h0, h1, h2, h3, h4]
    clean_types
    rw [splitR_at, splitR_at, split_at, split_at, gain_at, ms_at, r_at, r3_at, qr_at, qn_at, score_at, top_at, e_at, sum_at, dp_at, div_at _ _ hS, inv_sq_at _ hS, de_at, scaled_at, ds_eq, dqn_at, times_gain_at, mean_at, rows_at, trunc_at]
    refine congrArg (mat .bf16) (congrArg (join (N := 4) rfl) ?_)
    funext h i l
    exact rms_ref 128 (hd (q c) h i) (fun l => dqn (qn (g c) (hd (q c) h)) (hd (k c) h) (dp (hd (v c) h) (hd (dy c) h)) i l * g c 0 l) l
  · unfold Value.res_main_v78
    rw [h0, h1, h2, h3, h4]
    clean_types
    rw [splitR_at, splitR_at, split_at, split_at, gain_at, ms_at, r_at, qr_at, qn_at, score_at, top_at, e_at, sum_at, dp_at, div_at _ _ hS, inv_sq_at _ hS, de_at, scaled_at, ds_eq, dk_at]
    rfl
  · unfold Value.res_main_v59
    rw [h0, h1, h2, h4]
    clean_types
    rw [splitR_at, splitR_at, split_at, gain_at, ms_at, r_at, qr_at, qn_at, score_at, top_at, e_at, sum_at, div_at _ _ hS, p_eq, dv_at]
  · unfold Value.res_main_v99
    rw [h0, h1, h2, h3, h4]
    clean_types
    rw [splitR_at, splitR_at, split_at, split_at, gain_at, ms_at, r_at, qr_at, qn_at, score_at, top_at, e_at, sum_at, dp_at, div_at _ _ hS, inv_sq_at _ hS, de_at, scaled_at, ds_eq, dqn_at, dg_at]
    refine congrArg (mat .f32) ?_
    funext a l
    refine Finset.sum_congr rfl fun i _ => Finset.sum_congr rfl fun h _ => ?_
    show _ = dqn _ _ _ i l * hd (q c) h i l * rstd 128 (hd (q c) h i)
    rw [mul_comm, mul_assoc]
    rfl

end Cert.Reference3Ideal.MemAttn

end
-- ==== Proof.MemAttnClaim.lean ====
module

public import proofs.«01_k».proof.Defs
public import proofs.«01_k».proof.Proof.Gen.Pre_finite3
public import proofs.«01_k».proof.Proof.Finite
public import proofs.«01_k».proof.Proof.MemAttn
public import proofs.«01_k».proof.Proof.MemAttnRef

/-! The memory attention's claim: the reference's frame, and equal values for finite arguments. -/

@[expose] public section

set_option maxRecDepth 16384

noncomputable section

open Idealize.ShloMosaic Idealize.ShloMosaic.TcCoe Idealize.SL.Sem

namespace Cert.MemAttn

open Lift

theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- Finite arguments are arrays of real numbers. -/
theorem real (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) :
    ∃ q g k v dy, m ((c.tc : Thread Cert.Kernel3Ideal.nD Cert.Kernel3Ideal.τ).loc Cert.Kernel3Ideal.main_arg0) = mat .f32 q
      ∧ m ((c.tc : Thread Cert.Kernel3Ideal.nD Cert.Kernel3Ideal.τ).loc Cert.Kernel3Ideal.main_arg1) = mat .f32 g
      ∧ m ((c.tc : Thread Cert.Kernel3Ideal.nD Cert.Kernel3Ideal.τ).loc Cert.Kernel3Ideal.main_arg2) = mat .f32 k
      ∧ m ((c.tc : Thread Cert.Kernel3Ideal.nD Cert.Kernel3Ideal.τ).loc Cert.Kernel3Ideal.main_arg3) = mat .f32 v
      ∧ m ((c.tc : Thread Cert.Kernel3Ideal.nD Cert.Kernel3Ideal.τ).loc Cert.Kernel3Ideal.main_arg4) = mat .f32 dy := by
  have e := congrFun (h c) ix0
  unfold Cert.Pre_finite3.fn Cert.Pre_finite3.fn_part1 at e
  simp only [and_one] at e
  obtain ⟨⟨⟨⟨e0, e1⟩, e2⟩, e3⟩, e4⟩ := e
  exact ⟨_, _, _, _, _, mat_of_finite _ _ _ _ _ e0, mat_of_finite _ _ _ _ _ e1, mat_of_finite _ _ _ _ _ e2, mat_of_finite _ _ _ _ _ e3,
    mat_of_finite _ _ _ _ _ e4⟩

theorem algebraic : Cert.algebraic_Kernel3Ideal_Reference3Ideal_pre_finite3 := by
  intro m ρ m' ρ' hpre hag
  choose q g k v dy h0 h1 h2 h3 h4 using real m hpre
  refine ⟨_, _, _, _, Cert.Kernel3Ideal.MemAttn.run m ρ q g k v dy h0 h1 h2 h3 h4, ?_⟩
  exact Cert.Reference3Ideal.MemAttn.run m' ρ' q g k v dy (fun c => (hag c).1.trans (h0 c)) (fun c => (hag c).2.1.trans (h1 c)) (fun c => (hag c).2.2.1.trans (h2 c))
    (fun c => (hag c).2.2.2.1.trans (h3 c)) (fun c => (hag c).2.2.2.2.trans (h4 c))

end Cert.MemAttn

end
-- ==== Proof.MergeModel.lean ====
module

public import proofs.«01_k».proof.Proof.Lift

/-! The gated merge of three branches: rows `p_a, p_b, p_c`, each scaled by its own third of the gate
`1 / (1 + exp (-(z + b)))`, summed, multiplied by the output projection and added to the rows. Its gradients, and the branches'. -/

@[expose] public section

noncomputable section

open Idealize.ShloMosaic Idealize.ShloMosaic.TcCoe

namespace Model.Merge

open Lift

variable {R : ℕ} (dx : Fin R → Fin 1024 → ℝ) (wo : Fin 1024 → Fin 1024 → ℝ) (z : Fin R → Fin 3072 → ℝ) (b : Fin 1 → Fin 3072 → ℝ)

/-- A branch's product with its projection. -/
def prod (y : Fin R → Fin 512 → ℝ) (w : Fin 512 → Fin 1024 → ℝ) (i : Fin R) (k : Fin 1024) : ℝ := ∑ j, y i j * w j k

/-- The cotangent of the merged rows. -/
def dm (i : Fin R) (k : Fin 1024) : ℝ := ∑ n, dx i n * wo k n

/-- The gate of `n` columns, from their logits and biases. -/
def gate {n : ℕ} (z : Fin R → Fin n → ℝ) (b : Fin 1 → Fin n → ℝ) (i : Fin R) (k : Fin n) : ℝ := (1 + Real.exp (-(z i k + b 0 k)))⁻¹

/-- The gradient of a branch's product, from its columns of the gate. -/
def dp (z : Fin R → Fin 1024 → ℝ) (b : Fin 1 → Fin 1024 → ℝ) (i : Fin R) (k : Fin 1024) : ℝ := dm dx wo i k * gate z b i k

/-- The gradient of a branch's logits. -/
def dlogit (z : Fin R → Fin 1024 → ℝ) (b : Fin 1 → Fin 1024 → ℝ) (p : Fin R → Fin 1024 → ℝ) (i : Fin R) (k : Fin 1024) : ℝ :=
  dm dx wo i k * p i k * gate z b i k * (1 - gate z b i k)

/-- The gradient of all three branches' logits, from the branches' products. -/
def dz (pa pb pc : Fin R → Fin 1024 → ℝ) (i : Fin R) (j : Fin 3072) : ℝ :=
  if h2 : 2048 ≤ j.val then dlogit dx wo (cols 2048 1024 (by omega) z) (cols 2048 1024 (by omega) b) pc i ⟨j.val - 2048, by omega⟩
  else if h1 : 1024 ≤ j.val then dlogit dx wo (cols 1024 1024 (by omega) z) (cols 1024 1024 (by omega) b) pb i ⟨j.val - 1024, by omega⟩
  else dlogit dx wo (cols 0 1024 (by omega) z) (cols 0 1024 (by omega) b) pa i ⟨j.val, by omega⟩

/-- The gradient of the biases. -/
def db (pa pb pc : Fin R → Fin 1024 → ℝ) (_ : Fin 1) (j : Fin 3072) : ℝ := ∑ i, dz dx wo z b pa pb pc i j

/-- The gradient of a branch, from that of its product. -/
def dy {n : ℕ} (d : Fin R → Fin 1024 → ℝ) (w : Fin n → Fin 1024 → ℝ) (i : Fin R) (j : Fin n) : ℝ := ∑ k, d i k * w j k

/-- Rows in eight groups of 64, each with 64 zero rows after it. -/
def spread (w : Fin 512 → Fin 1024 → ℝ) (j : Fin 1024) (k : Fin 1024) : ℝ :=
  if h : j.val % 128 < 64 then w ⟨j.val / 128 * 64 + j.val % 128, by omega⟩ k else 0

/-- Zero rows put after each group of 64. -/
theorem spread_at (w : Fin 512 → Fin 1024 → ℝ) (i0 i1 : Fin 1024) (h : Shape.Pads ⟨3, ![8, 64, 1024]⟩ ![0, 0, 0] ![0, 64, 0] ![0, 0, 0] ⟨3, ![8, 128, 1024]⟩)
    (hu : 0 < (⟨0, ![]⟩ : Shape).numel) (l0 l1) (l2 : ∀ i : (⟨3, ![8, 64, 1024]⟩ : Shape).Idx, (i 0).val * 64 + (i 1).val < 512) :
    pad ⟨3, ![8, 128, 1024]⟩ ![0, 0, 0] ![0, 64, 0] ![0, 0, 0] (fun i : (⟨3, ![8, 64, 1024]⟩ : Shape).Idx => mat .f32 w (ix2 ⟨(i 0).val * 64 + (i 1).val, l2 i⟩ (i 2)))
      (sitofp (F := Ideal) .f32 (constantI ⟨0, ![]⟩ 32 0#32)) h hu (ix3 ⟨i0.val / 128, l0⟩ ⟨i0.val % 128, l1⟩ i1) = ((spread w i0 i1 : ℝ) : EReal) := by
  have e : (sitofp (F := Ideal) .f32 (constantI ⟨0, ![]⟩ 32 0#32)) (Shape.Idx.first hu) = ((0 : ℝ) : EReal) := by
    show (((0#32 : BitVec 32).toInt : ℝ) : EReal) = _
    simp
  rw [pad_apply, e]
  pointwise []
  simp only [spread]
  by_cases h : i0.val % 128 < 64
  · rw [dif_pos h, dif_pos ⟨l0, h⟩, mat_at]
  · rw [dif_neg h, dif_neg fun g => h g.2]

/-- The first 64 columns of each of eight groups of 128. -/
def packed (y : Fin R → Fin 1024 → ℝ) (i : Fin R) (j : Fin 512) : ℝ := y i ⟨j.val / 64 * 128 + j.val % 64, by omega⟩

/-- A product with spread rows meets the packed columns alone. -/
theorem sum_spread (y : Fin R → Fin 1024 → ℝ) (w : Fin 512 → Fin 1024 → ℝ) (i : Fin R) (k : Fin 1024) :
    ∑ j, y i j * spread w j k = prod (packed y) w i k := by
  symm
  refine Fintype.sum_of_injective (fun j : Fin 512 => (⟨j.val / 64 * 128 + j.val % 64, by omega⟩ : Fin 1024)) (fun a b h => ?_) _ _ (fun j h => ?_) (fun j => ?_)
  · have e := congrArg Fin.val h
    dsimp only at e
    exact Fin.ext (by omega)
  · have e : ¬j.val % 128 < 64 := fun g => h ⟨⟨j.val / 128 * 64 + j.val % 128, by omega⟩, Fin.ext (by dsimp only; omega)⟩
    rw [spread, dif_neg e, mul_zero]
  · have e : (j.val / 64 * 128 + j.val % 64) % 128 < 64 := by omega
    have a : (⟨(j.val / 64 * 128 + j.val % 64) / 128 * 64 + (j.val / 64 * 128 + j.val % 64) % 128, by omega⟩ : Fin 512) = j := Fin.ext (by dsimp only; omega)
    simp only [packed, spread, dif_pos e, a]

/-- The gated sum of the three products. -/
def merged (pa pb pc : Fin R → Fin 1024 → ℝ) (i : Fin R) (k : Fin 1024) : ℝ :=
  gate (cols 0 1024 (by omega) z) (cols 0 1024 (by omega) b) i k * pa i k + gate (cols 1024 1024 (by omega) z) (cols 1024 1024 (by omega) b) i k * pb i k
    + gate (cols 2048 1024 (by omega) z) (cols 2048 1024 (by omega) b) i k * pc i k

/-- The rows with their merged branches' projection added. -/
def added (x mg : Fin R → Fin 1024 → ℝ) (i : Fin R) (n : Fin 1024) : ℝ := x i n + ∑ k, mg i k * wo k n

end Model.Merge

end
-- ==== Proof.Merge.lean ====
module

public import proofs.«01_k».proof.Proof.Gen.Kernel4Ideal.Value
public import proofs.«01_k».proof.Proof.MergeModel

@[expose] public section

set_option maxRecDepth 16384

noncomputable section

open Idealize.ShloMosaic Idealize.ShloMosaic.TcCoe Idealize.SL.Sem
open Idealize.ShloMosaic.Pipeline (Dat)

namespace Cert.Kernel4Ideal.Merge

open Cert.Kernel4Ideal Cert.Kernel4Ideal.Gen Lift
open Model.Merge (prod dm gate dp dlogit dy spread)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![0, 0] ∧ win0_15.index t = ![t.val, 0]
    ∧ win0_16.index t = ![t.val, 0] ∧ win0_17.index t = ![t.val, 0] := (by decide +kernel : ∀ t : Fin grid0.N, _)

section
variable (dx : Fin 256 → Fin 1024 → ℝ) (wo : Fin 1024 → Fin 1024 → ℝ) (z : Fin 256 → Fin 1024 → ℝ) (b : Fin 1 → Fin 1024 → ℝ)
  (p : Fin 256 → Fin 1024 → ℝ)

theorem dm_at : k0_pay2 (F := Ideal) (mat .f32 dx) (mat .bf16 wo) = mat .f32 (dm dx wo) := by
  funext i
  idx_vars i
  pointwise [k0_pay2]
  simp only [mat_at, ← EReal.coe_mul, coe_sum, dm]

theorem gate_at : k0_pay3 (F := Ideal) (mat .bf16 z) (mat .f32 b) = mat .f32 (gate z b) := by
  funext i
  idx_vars i
  pointwise [k0_pay3]
  simp only [mat_at, ← EReal.coe_add, Ideal.logistic_coe, gate]

theorem dp_at : k0_pay10 (F := Ideal) (mat .f32 (dm dx wo)) (mat .bf16 z) (mat .f32 b) = mat .bf16 (dp dx wo z b) := by
  funext i
  idx_vars i
  unfold k0_pay10
  rw [show k0_pay9 (F := Ideal) = k0_pay3 from rfl, gate_at]
  pointwise []
  simp only [mat_at, ← EReal.coe_mul, dp]

theorem dlogit_at : k0_pay11 (F := Ideal) (mat .f32 (dm dx wo)) (mat .bf16 z) (mat .f32 b) (mat .bf16 p) = mat .f32 (dlogit dx wo z b p) := by
  funext i
  idx_vars i
  unfold k0_pay11
  rw [show k0_pay9 (F := Ideal) = k0_pay3 from rfl, gate_at]
  pointwise []
  simp only [mat_at, ← EReal.coe_mul, ← EReal.coe_sub, ← EReal.coe_one, dlogit]

theorem dy512_at (d : Fin 256 → Fin 1024 → ℝ) (w : Fin 512 → Fin 1024 → ℝ) : k0_pay8 (F := Ideal) (mat .bf16 d) (mat .bf16 w) = mat .f32 (dy d w) := by
  funext i
  idx_vars i
  pointwise [k0_pay8]
  simp only [mat_at, ← EReal.coe_mul, coe_sum, dy]

theorem dy1024_at (d : Fin 256 → Fin 1024 → ℝ) (w : Fin 1024 → Fin 1024 → ℝ) : k0_pay14 (F := Ideal) (mat .bf16 d) (mat .bf16 w) = mat .bf16 (dy d w) := by
  funext i
  idx_vars i
  pointwise [k0_pay14]
  simp only [mat_at, ← EReal.coe_mul, coe_sum, dy]

theorem dpA_at : k0_pay4 (F := Ideal) (mat .f32 dx) (mat .bf16 wo) (mat .bf16 z) (mat .f32 b) = mat .bf16 (dp dx wo z b) := by
  show k0_pay10 (F := Ideal) (k0_pay2 (mat .f32 dx) (mat .bf16 wo)) _ _ = _
  rw [dm_at, dp_at]

theorem dpC_at : k0_pay16 (F := Ideal) (mat .f32 (dm dx wo)) (mat .bf16 z) (mat .f32 b) = mat .bf16 (dp dx wo z b) := dp_at dx wo z b

theorem dzA_at : k0_pay6 (F := Ideal) (mat .f32 dx) (mat .bf16 wo) (mat .bf16 z) (mat .f32 b) (mat .bf16 p) = mat .bf16 (dlogit dx wo z b p) := by
  show truncf .bf16 (k0_pay11 (F := Ideal) (k0_pay2 (mat .f32 dx) (mat .bf16 wo)) (mat .bf16 z) (mat .f32 b) (mat .bf16 p)) _ = _
  rw [dm_at, dlogit_at, trunc_at]

theorem dzB_at : k0_pay12 (F := Ideal) (mat .f32 (dm dx wo)) (mat .bf16 z) (mat .f32 b) (mat .bf16 p) = mat .bf16 (dlogit dx wo z b p) := by
  unfold k0_pay12
  rw [dlogit_at, trunc_at]

theorem dzC_at : k0_pay18 (F := Ideal) (mat .f32 (dm dx wo)) (mat .bf16 z) (mat .f32 b) (mat .bf16 p) = mat .bf16 (dlogit dx wo z b p) := dzB_at dx wo z b p

theorem dyC_at (w : Fin 512 → Fin 1024 → ℝ) : k0_pay20 (F := Ideal) (mat .f32 (dm dx wo)) (mat .bf16 z) (mat .f32 b) (mat .bf16 w) = mat .bf16 (dy (dp dx wo z b) w) := by
  show truncf .bf16 (k0_pay8 (F := Ideal) (k0_pay10 (mat .f32 (dm dx wo)) (mat .bf16 z) (mat .f32 b)) (mat .bf16 w)) _ = _
  rw [dp_at, dy512_at, trunc_at]

theorem zero_at (j) : k0_pay1 (F := Ideal) j = 0 := by pointwise [k0_pay1]

theorem acc_at (acc : FVec Ideal S1x1024 .f32) (j0 : Fin 1) (j1 : Fin 1024) :
    k0_pay13 (F := Ideal) (mat .f32 (dm dx wo)) (mat .bf16 z) (mat .f32 b) (mat .bf16 p) acc (ix2 j0 j1) = acc (ix2 j0 j1) + ((∑ i, dlogit dx wo z b p i j1 : ℝ) : EReal) := by
  unfold k0_pay13
  rw [dlogit_at]
  pointwise []
  simp only [mat_at, coe_sum]

theorem accA_at (acc : FVec Ideal S1x1024 .f32) (j0 : Fin 1) (j1 : Fin 1024) :
    k0_pay7 (F := Ideal) (mat .f32 dx) (mat .bf16 wo) (mat .bf16 z) (mat .f32 b) (mat .bf16 p) acc (ix2 j0 j1) = acc (ix2 j0 j1) + ((∑ i, dlogit dx wo z b p i j1 : ℝ) : EReal) := by
  show k0_pay13 (F := Ideal) (k0_pay2 (mat .f32 dx) (mat .bf16 wo)) (mat .bf16 z) (mat .f32 b) (mat .bf16 p) acc _ = _
  rw [dm_at, acc_at]

end

section
variable (m : (ℓ : Loc nD τ sig) → Buf (Elt Ideal) ℓ) (c : Dev nD)
  (ya yb yc : Fin 8192 → Fin 512 → ℝ) (z : Fin 8192 → Fin 3072 → ℝ) (b : Fin 1 → Fin 3072 → ℝ)
  (wa wb wc : Fin 512 → Fin 1024 → ℝ) (wo : Fin 1024 → Fin 1024 → ℝ) (dx : Fin 8192 → Fin 1024 → ℝ)
  (h0 : m ((c : Thread nD τ).loc main_arg0) = mat .f32 ya) (h1 : m ((c : Thread nD τ).loc main_arg1) = mat .f32 yb)
  (h2 : m ((c : Thread nD τ).loc main_arg2) = mat .f32 yc) (h3 : m ((c : Thread nD τ).loc main_arg3) = mat .f32 z)
  (h4 : m ((c : Thread nD τ).loc main_arg4) = mat .f32 b) (h5 : m ((c : Thread nD τ).loc main_arg5) = mat .f32 wa)
  (h6 : m ((c : Thread nD τ).loc main_arg6) = mat .f32 wb) (h7 : m ((c : Thread nD τ).loc main_arg7) = mat .f32 wc)
  (h8 : m ((c : Thread nD τ).loc main_arg8) = mat .f32 wo) (h9 : m ((c : Thread nD τ).loc main_arg9) = mat .f32 dx)

include h0 h1 h2 h5 h6 h7 in
theorem V_p : V m c main_v6 = mat .bf16 (prod ya wa) ∧ V m c main_v7 = mat .bf16 (prod yb wb) ∧ V m c main_v8 = mat .bf16 (prod yc wc) := by
  unfold V hostOps0 hostOps0_1 hostOps0_2
  simp only [List.flatten_cons, List.flatten_nil, List.cons_append, List.nil_append]
  refine ⟨?_, ?_, ?_⟩
  all_goals after_results
  · rw [h0, h5]; clean_types; funext i; idx_vars i; pointwise []; simp only [mat_at, ← EReal.coe_mul, coe_sum, prod]
  · rw [h1, h6]; clean_types; funext i; idx_vars i; pointwise []; simp only [mat_at, ← EReal.coe_mul, coe_sum, prod]
  · rw [h2, h7]; clean_types; funext i; idx_vars i; pointwise []; simp only [mat_at, ← EReal.coe_mul, coe_sum, prod]

include h3 h5 h6 h7 h8 in
theorem V_w : V m c main_v9 = mat .bf16 z ∧ V m c main_v10 = mat .bf16 wa ∧ V m c main_v11 = mat .bf16 (spread wb)
    ∧ V m c main_v12 = mat .bf16 wc ∧ V m c main_v13 = mat .bf16 wo := by
  unfold V hostOps0 hostOps0_1 hostOps0_2
  simp only [List.flatten_cons, List.flatten_nil, List.cons_append, List.nil_append]
  refine ⟨?_, ?_, ?_, ?_, ?_⟩
  all_goals after_results
  · rw [h3]; rfl
  · rw [h5]; rfl
  · rw [h6]
    try simp only [StableHlo.TRef.toBuf, StableHlo.TRef.ofBuf]
    clean_types
    funext i
    idx_vars i
    pointwise []
    exact Model.Merge.spread_at wb i0 i1 pads_S8x64x1024_S8x128x1024_000_0640_000 h_S_ (by omega) (by omega)
      fun i => by have a : (i 0).val < 8 := (i 0).isLt; have b : (i 1).val < 64 := (i 1).isLt; omega
  · rw [h7]; rfl
  · rw [h8]; rfl

theorem pieces (f0 f1 f2 : Fin 256 → Fin 1024 → ℝ) (w0 w1 w2 : S256x1024.Idx → Elt Ideal .bf16) (e0 : w0 = mat .bf16 f0) (e1 : w1 = mat .bf16 f1) (e2 : w2 = mat .bf16 f2) (i : Fin 256) (j : Fin 3072) :
    View.canon (s := S256x3072) [⟨Rect.unit ![0, 2048] ![256, 1024] inb_S256x3072_S256x1024_0_2048, w2⟩, ⟨Rect.unit ![0, 1024] ![256, 1024] inb_S256x3072_S256x1024_0_1024, w1⟩,
      ⟨Rect.unit ![0, 0] ![256, 1024] inb_S256x3072_S256x1024_0_0, w0⟩] (ix2 i j)
    = (((if h2 : 2048 ≤ j.val then f2 i ⟨j.val - 2048, by omega⟩ else if h1 : 1024 ≤ j.val then f1 i ⟨j.val - 1024, by omega⟩ else f0 i ⟨j.val, by omega⟩ : ℝ)) : EReal) := by
  subst e0 e1 e2
  rw [canon_cols, canon_cols, canon_cols]
  by_cases h2 : 2048 ≤ j.val
  · rw [dif_pos (by omega), dif_pos h2, mat_at]
  · rw [dif_neg (by omega), dif_neg h2]
    by_cases h1 : 1024 ≤ j.val
    · rw [dif_pos (by omega), dif_pos h1, mat_at]
    · rw [dif_neg (by omega), dif_neg h1, dif_pos (by omega), mat_at]
      rfl

variable (t : Fin cfg0.N)

include h9 in
theorem b_dx : iblk m c 0 t = mat .f32 (tile 256 dx t.val) := by
  funext i
  idx_vars i
  blk_simp [iblk, idx t]
  rw [V_main_arg9, h9]; exact mat_tile _ _ _ _ _ (by blk_simp [idx t]) (by blk_simp [idx t])

include h0 h1 h2 h5 h6 h7 in
theorem b_p : iblk m c 1 t = mat .bf16 (prod (tile 256 ya t.val) wa) ∧ iblk m c 2 t = mat .bf16 (prod (tile 256 yb t.val) wb)
    ∧ iblk m c 3 t = mat .bf16 (prod (tile 256 yc t.val) wc) := by
  have e {y : Fin 8192 → Fin 512 → ℝ} {w : Fin 512 → Fin 1024 → ℝ} : tile 256 (prod y w) t.val = prod (tile 256 y t.val) w := by
    funext i j
    by_cases h : t.val * 256 + i.val < 8192 <;> simp [tile, prod, h]
  obtain ⟨v0, v1, v2⟩ := V_p m c ya yb yc wa wb wc h0 h1 h2 h5 h6 h7
  rw [← e, ← e, ← e]
  refine ⟨?_, ?_, ?_⟩
  all_goals
    funext i
    idx_vars i
    blk_simp [iblk, idx t]
  · rw [v0]; exact mat_tile _ _ _ _ _ (by blk_simp [idx t]) (by blk_simp [idx t])
  · rw [v1]; exact mat_tile _ _ _ _ _ (by blk_simp [idx t]) (by blk_simp [idx t])
  · rw [v2]; exact mat_tile _ _ _ _ _ (by blk_simp [idx t]) (by blk_simp [idx t])

include h3 h4 h5 h6 h7 h8 in
theorem b_w : iblk m c 4 t = mat .bf16 (tile 256 z t.val) ∧ iblk m c 5 t = mat .f32 b ∧ iblk m c 6 t = mat .bf16 wa ∧ iblk m c 7 t = mat .bf16 (spread wb)
    ∧ iblk m c 8 t = mat .bf16 wc ∧ iblk m c 9 t = mat .bf16 wo := by
  obtain ⟨v0, v1, v2, v3, v4⟩ := V_w m c z wa wb wc wo h3 h5 h6 h7 h8
  refine ⟨?_, ?_, ?_, ?_, ?_, ?_⟩
  all_goals
    funext i
    idx_vars i
    blk_simp [iblk, idx t]
  · rw [v0]; exact mat_tile _ _ _ _ _ (by blk_simp [idx t]) (by blk_simp [idx t])
  · rw [V_main_arg4, h4]; exact mat_whole _ _ _ _ (by blk_simp [idx t]) (by blk_simp [idx t])
  · rw [v1]; exact mat_whole _ _ _ _ (by blk_simp [idx t]) (by blk_simp [idx t])
  · rw [v2]; exact mat_whole _ _ _ _ (by blk_simp [idx t]) (by blk_simp [idx t])
  · rw [v3]; exact mat_whole _ _ _ _ (by blk_simp [idx t]) (by blk_simp [idx t])
  · rw [v4]; exact mat_whole _ _ _ _ (by blk_simp [idx t]) (by blk_simp [idx t])

/-- Every block the body loads, as the model's. -/
abbrev Blocks : Prop := iblk m c 0 t = mat .f32 (tile 256 dx t.val) ∧ (iblk m c 1 t = mat .bf16 (prod (tile 256 ya t.val) wa) ∧ iblk m c 2 t = mat .bf16 (prod (tile 256 yb t.val) wb)
    ∧ iblk m c 3 t = mat .bf16 (prod (tile 256 yc t.val) wc)) ∧ iblk m c 4 t = mat .bf16 (tile 256 z t.val) ∧ iblk m c 5 t = mat .f32 b ∧ iblk m c 6 t = mat .bf16 wa
    ∧ iblk m c 7 t = mat .bf16 (spread wb) ∧ iblk m c 8 t = mat .bf16 wc ∧ iblk m c 9 t = mat .bf16 wo

include h0 h1 h2 h3 h4 h5 h6 h7 h8 h9 in
theorem blocks : Blocks m c ya yb yc z b wa wb wc wo dx t :=
  ⟨b_dx m c dx h9 t, b_p m c ya yb yc wa wb wc h0 h1 h2 h5 h6 h7 t, b_w m c z b wa wb wc wo h3 h4 h5 h6 h7 h8 t⟩

variable (hb : Blocks m c ya yb yc z b wa wb wc wo dx t)

/-- The gradient of one branch's product at one block of rows. -/
abbrev dpT (o : ℕ) (ho : o + 1024 ≤ 3072) : Fin 256 → Fin 1024 → ℝ := dp (tile 256 dx t.val) wo (cols o 1024 ho (tile 256 z t.val)) (cols o 1024 ho b)

include hb in
theorem tiled_out : (outsAt0 m c t.val t.isLt).1 = mat .bf16 (dpT z b wo dx t 0 (by omega))
    ∧ (outsAt0 m c t.val t.isLt).2.1 = mat .bf16 (dpT z b wo dx t 1024 (by omega))
    ∧ (outsAt0 m c t.val t.isLt).2.2.1 = mat .bf16 (dpT z b wo dx t 2048 (by omega))
    ∧ (outsAt0 m c t.val t.isLt).2.2.2.1 = mat .bf16 (Model.Merge.dz (tile 256 dx t.val) wo (tile 256 z t.val) b (prod (tile 256 ya t.val) wa) (prod (tile 256 yb t.val) wb) (prod (tile 256 yc t.val) wc))
    ∧ (outsAt0 m c t.val t.isLt).2.2.2.2.2.1 = mat .f32 (dy (dpT z b wo dx t 0 (by omega)) wa)
    ∧ (outsAt0 m c t.val t.isLt).2.2.2.2.2.2.1 = mat .bf16 (dy (dpT z b wo dx t 1024 (by omega)) (spread wb))
    ∧ (outsAt0 m c t.val t.isLt).2.2.2.2.2.2.2 = mat .bf16 (dy (dpT z b wo dx t 2048 (by omega)) wc) := by
  obtain ⟨e0, ⟨e1, e2, e3⟩, e4, e5, e6, e7, e8, e9⟩ := hb
  by_cases h : t.val % 32 = 0
  all_goals
    first | rw [outsAt0_A m c t h] | rw [outsAt0_B m c t h]
    frame_out
    rw [e0, e1, e2, e3, e4, e5, e6, e7, e8, e9]
    rw [(ld_at (tile 256 z t.val) inb_S256x3072_S256x1024_0_0 (by omega)).2, (ld_at (tile 256 z t.val) inb_S256x3072_S256x1024_0_1024 (by omega)).2,
      (ld_at (tile 256 z t.val) inb_S256x3072_S256x1024_0_2048 (by omega)).2, (ld_at b inb_S1x3072_S1x1024_0_0 (by omega)).1,
      (ld_at b inb_S1x3072_S1x1024_0_1024 (by omega)).1, (ld_at b inb_S1x3072_S1x1024_0_2048 (by omega)).1, dm_at, dp_at, dpA_at, dpC_at, dzA_at, dzB_at, dzC_at,
      dy512_at, dy1024_at, dyC_at]
    refine ⟨rfl, rfl, rfl, ?_, rfl, rfl, rfl⟩
    funext i
    idx_vars i
    exact pieces _ _ _ _ _ _ rfl rfl rfl i0 i1

/-- The biases' gradient after one more block of rows, from what the accumulator held. -/
theorem acc_step (acc : Fin 3072 → EReal) (w0 w1 w2 : S1x1024.Idx → Elt Ideal .f32) (L : List (View.Piece (Elt Ideal) S1x3072 .f32)) (f0 f1 f2 : Fin 1024 → ℝ)
    (e0 : ∀ j (h : j.val < 1024), w0 (ix2 0 ⟨j.val, h⟩) = acc j + ((f0 ⟨j.val, h⟩ : ℝ) : EReal))
    (e1 : ∀ j (h : 1024 ≤ j.val ∧ j.val - 1024 < 1024), w1 (ix2 0 ⟨j.val - 1024, h.2⟩) = acc j + ((f1 ⟨j.val - 1024, h.2⟩ : ℝ) : EReal))
    (e2 : ∀ j (h : 2048 ≤ j.val ∧ j.val - 2048 < 1024), w2 (ix2 0 ⟨j.val - 2048, h.2⟩) = acc j + ((f2 ⟨j.val - 2048, h.2⟩ : ℝ) : EReal)) (j : Fin 3072) :
    View.canon (s := S1x3072) (⟨Rect.unit ![0, 2048] ![1, 1024] inb_S1x3072_S1x1024_0_2048, w2⟩ :: ⟨Rect.unit ![0, 1024] ![1, 1024] inb_S1x3072_S1x1024_0_1024, w1⟩
      :: ⟨Rect.unit ![0, 0] ![1, 1024] inb_S1x3072_S1x1024_0_0, w0⟩ :: L) (ix2 0 j)
    = acc j + (((if h2 : 2048 ≤ j.val then f2 ⟨j.val - 2048, by omega⟩ else if h1 : 1024 ≤ j.val then f1 ⟨j.val - 1024, by omega⟩ else f0 ⟨j.val, by omega⟩ : ℝ)) : EReal) := by
  rw [canon_cols, canon_cols, canon_cols]
  by_cases h2 : 2048 ≤ j.val
  · rw [dif_pos (by omega), dif_pos h2, e2 j ⟨h2, by omega⟩]
  · rw [dif_neg (by omega), dif_neg h2]
    by_cases h1 : 1024 ≤ j.val
    · rw [dif_pos (by omega), dif_pos h1, e1 j ⟨h1, by omega⟩]
    · rw [dif_neg (by omega), dif_neg h1, dif_pos (by omega)]
      exact e0 j (by omega)

/-- What one block of rows adds to the biases' gradient. -/
abbrev part (j : Fin 3072) : ℝ := Model.Merge.db (tile 256 dx t.val) wo (tile 256 z t.val) b (prod (tile 256 ya t.val) wa) (prod (tile 256 yb t.val) wb) (prod (tile 256 yc t.val) wc) 0 j

theorem part_eq (j : Fin 3072) : part ya yb yc z b wa wb wc wo dx t j
    = if h2 : 2048 ≤ j.val then ∑ i, dlogit (tile 256 dx t.val) wo (cols 2048 1024 (by omega) (tile 256 z t.val)) (cols 2048 1024 (by omega) b) (prod (tile 256 yc t.val) wc) i ⟨j.val - 2048, by omega⟩
      else if h1 : 1024 ≤ j.val then ∑ i, dlogit (tile 256 dx t.val) wo (cols 1024 1024 (by omega) (tile 256 z t.val)) (cols 1024 1024 (by omega) b) (prod (tile 256 yb t.val) wb) i ⟨j.val - 1024, by omega⟩
      else ∑ i, dlogit (tile 256 dx t.val) wo (cols 0 1024 (by omega) (tile 256 z t.val)) (cols 0 1024 (by omega) b) (prod (tile 256 ya t.val) wa) i ⟨j.val, by omega⟩ := by
  unfold part Model.Merge.db Model.Merge.dz
  split
  · rfl
  · split <;> rfl

include hb in
theorem db_first (h : t.val % 32 = 0) (j : Fin 3072) : (outsAt0 m c t.val t.isLt).2.2.2.2.1 (ix2 0 j) = 0 + ((part ya yb yc z b wa wb wc wo dx t j : ℝ) : EReal) := by
  obtain ⟨e0, ⟨e1, e2, e3⟩, e4, e5, e6, e7, e8, e9⟩ := hb
  rw [outsAt0_A m c t h]
  frame_out
  rw [e0, e1, e2, e3, e4, e5, e9]
  rw [(ld_at (tile 256 z t.val) inb_S256x3072_S256x1024_0_0 (by omega)).2, (ld_at (tile 256 z t.val) inb_S256x3072_S256x1024_0_1024 (by omega)).2,
    (ld_at (tile 256 z t.val) inb_S256x3072_S256x1024_0_2048 (by omega)).2, (ld_at b inb_S1x3072_S1x1024_0_0 (by omega)).1,
    (ld_at b inb_S1x3072_S1x1024_0_1024 (by omega)).1, (ld_at b inb_S1x3072_S1x1024_0_2048 (by omega)).1, dm_at, part_eq]
  refine acc_step (fun _ => 0) _ _ _ _ (fun k => ∑ i, dlogit (tile 256 dx t.val) wo (cols 0 1024 (by omega) (tile 256 z t.val)) (cols 0 1024 (by omega) b) (prod (tile 256 ya t.val) wa) i k)
    (fun k => ∑ i, dlogit (tile 256 dx t.val) wo (cols 1024 1024 (by omega) (tile 256 z t.val)) (cols 1024 1024 (by omega) b) (prod (tile 256 yb t.val) wb) i k)
    (fun k => ∑ i, dlogit (tile 256 dx t.val) wo (cols 2048 1024 (by omega) (tile 256 z t.val)) (cols 2048 1024 (by omega) b) (prod (tile 256 yc t.val) wc) i k)
    (fun j h => ?_) (fun j h => ?_) (fun j h => ?_) j
  · refine (accA_at _ _ _ _ _ _ 0 _).trans (congrArg (· + _) ?_)
    rw [readCov_cols _ _ _ _ _ (by omega), canon_cols, dif_pos (by omega)]
    exact zero_at _
  · refine (acc_at _ _ _ _ _ _ 0 _).trans (congrArg (· + _) ?_)
    rw [readCov_cols _ _ _ _ _ (by omega), canon_cols, dif_neg (by dsimp only; omega), canon_cols, dif_pos (by omega)]
    exact zero_at _
  · refine (acc_at _ _ _ _ _ _ 0 _).trans (congrArg (· + _) ?_)
    rw [readCov_cols _ _ _ _ _ (by omega), canon_cols, dif_neg (by dsimp only; omega), canon_cols, dif_neg (by dsimp only; omega), canon_cols, dif_pos (by omega)]
    exact zero_at _

include hb in
theorem db_next (h : ¬t.val % 32 = 0) (j : Fin 3072) : (outsAt0 m c t.val t.isLt).2.2.2.2.1 (ix2 0 j)
    = (outsAt0 m c (t.val - 1) (Nat.lt_of_le_of_lt (Nat.sub_le _ _) t.isLt)).2.2.2.2.1 (ix2 0 j) + ((part ya yb yc z b wa wb wc wo dx t j : ℝ) : EReal) := by
  obtain ⟨e0, ⟨e1, e2, e3⟩, e4, e5, e6, e7, e8, e9⟩ := hb
  rw [outsAt0_B m c t h]
  frame_out
  rw [e0, e1, e2, e3, e4, e5, e9]
  rw [(ld_at (tile 256 z t.val) inb_S256x3072_S256x1024_0_0 (by omega)).2, (ld_at (tile 256 z t.val) inb_S256x3072_S256x1024_0_1024 (by omega)).2,
    (ld_at (tile 256 z t.val) inb_S256x3072_S256x1024_0_2048 (by omega)).2, (ld_at b inb_S1x3072_S1x1024_0_0 (by omega)).1,
    (ld_at b inb_S1x3072_S1x1024_0_1024 (by omega)).1, (ld_at b inb_S1x3072_S1x1024_0_2048 (by omega)).1, dm_at, part_eq]
  refine acc_step (fun j => (outsAt0 m c (t.val - 1) (Nat.lt_of_le_of_lt (Nat.sub_le _ _) t.isLt)).2.2.2.2.1 (ix2 0 j)) _ _ _ _ (fun k => ∑ i, dlogit (tile 256 dx t.val) wo (cols 0 1024 (by omega) (tile 256 z t.val)) (cols 0 1024 (by omega) b) (prod (tile 256 ya t.val) wa) i k)
    (fun k => ∑ i, dlogit (tile 256 dx t.val) wo (cols 1024 1024 (by omega) (tile 256 z t.val)) (cols 1024 1024 (by omega) b) (prod (tile 256 yb t.val) wb) i k)
    (fun k => ∑ i, dlogit (tile 256 dx t.val) wo (cols 2048 1024 (by omega) (tile 256 z t.val)) (cols 2048 1024 (by omega) b) (prod (tile 256 yc t.val) wc) i k)
    (fun j h => ?_) (fun j h => ?_) (fun j h => ?_) j
  · refine (accA_at _ _ _ _ _ _ 0 _).trans (congrArg (· + _) ?_)
    rw [ld_cols _ _ _ _ (by omega)]
    exact congrArg (fun k => (outsAt0 m c (t.val - 1) _).2.2.2.2.1 (ix2 0 k)) (Fin.ext (Nat.zero_add _))
  · refine (acc_at _ _ _ _ _ _ 0 _).trans (congrArg (· + _) ?_)
    rw [ld_cols _ _ _ _ (by omega)]
    exact congrArg (fun k => (outsAt0 m c (t.val - 1) _).2.2.2.2.1 (ix2 0 k)) (Fin.ext (Nat.add_sub_of_le h.1))
  · refine (acc_at _ _ _ _ _ _ 0 _).trans (congrArg (· + _) ?_)
    rw [ld_cols _ _ _ _ (by omega)]
    exact congrArg (fun k => (outsAt0 m c (t.val - 1) _).2.2.2.2.1 (ix2 0 k)) (Fin.ext (Nat.add_sub_of_le h.1))

/-- The gradient of one branch's product. -/
abbrev dpF (o : ℕ) (ho : o + 1024 ≤ 3072) : Fin 8192 → Fin 1024 → ℝ := dp dx wo (cols o 1024 ho z) (cols o 1024 ho b)

omit t in
theorem dp_tile {t : ℕ} {i : Fin 256} (h : t * 256 + i.val < 8192) (o : ℕ) (ho : o + 1024 ≤ 3072) (k : Fin 1024) :
    dp (tile 256 dx t) wo (cols o 1024 ho (tile 256 z t)) (cols o 1024 ho b) i k = dpF z b wo dx o ho ⟨t * 256 + i.val, h⟩ k := by
  simp only [dpF, dp, dm, gate, cols, tile_row _ h]

omit t in
theorem dy_tile {n t : ℕ} {i : Fin 256} (h : t * 256 + i.val < 8192) (o : ℕ) (ho : o + 1024 ≤ 3072) (w : Fin n → Fin 1024 → ℝ) (k : Fin n) :
    dy (dp (tile 256 dx t) wo (cols o 1024 ho (tile 256 z t)) (cols o 1024 ho b)) w i k = dy (dpF z b wo dx o ho) w ⟨t * 256 + i.val, h⟩ k := by
  simp only [dy, dp_tile z b wo dx h]

omit t in
theorem dz_tile {t : ℕ} {i : Fin 256} (h : t * 256 + i.val < 8192) (k : Fin 3072) :
    Model.Merge.dz (tile 256 dx t) wo (tile 256 z t) b (prod (tile 256 ya t) wa) (prod (tile 256 yb t) wb) (prod (tile 256 yc t) wc) i k
      = Model.Merge.dz dx wo z b (prod ya wa) (prod yb wb) (prod yc wc) ⟨t * 256 + i.val, h⟩ k := by
  simp only [Model.Merge.dz, dlogit, dm, gate, cols, prod, tile_row _ h]

include h0 h1 h2 h3 h4 h5 h6 h7 h8 h9

theorem dpa_final : (dats m 0 c).arrAt 10 cfg0.N = mat .bf16 (dpF z b wo dx 0 (by omega)) := by
  refine (dats m 0 c).arrAt_eq_of_covers 10 _ (by decide +kernel) fun t hf y => ?_
  blk_simp
  rw [after0_10, (tiled_out m c ya yb yc z b wa wb wc wo dx t (blocks m c ya yb yc z b wa wb wc wo dx h0 h1 h2 h3 h4 h5 h6 h7 h8 h9 t)).1]
  idx_vars y
  have lt : t.val < 32 := lt_of_lt_of_eq t.isLt N_0
  rw [mat_at, dpT, dp_tile z b wo dx (by omega) 0 (by omega)]
  exact (mat_whole _ ⟨t.val * 256 + y0.val, by omega⟩ y1 _ (by blk_simp [idx t]) (by blk_simp [idx t])).symm

theorem dpb_final : (dats m 0 c).arrAt 11 cfg0.N = mat .bf16 (dpF z b wo dx 1024 (by omega)) := by
  refine (dats m 0 c).arrAt_eq_of_covers 11 _ (by decide +kernel) fun t hf y => ?_
  blk_simp
  rw [after0_11, (tiled_out m c ya yb yc z b wa wb wc wo dx t (blocks m c ya yb yc z b wa wb wc wo dx h0 h1 h2 h3 h4 h5 h6 h7 h8 h9 t)).2.1]
  idx_vars y
  have lt : t.val < 32 := lt_of_lt_of_eq t.isLt N_0
  rw [mat_at, dpT, dp_tile z b wo dx (by omega) 1024 (by omega)]
  exact (mat_whole _ ⟨t.val * 256 + y0.val, by omega⟩ y1 _ (by blk_simp [idx t]) (by blk_simp [idx t])).symm

theorem dpc_final : (dats m 0 c).arrAt 12 cfg0.N = mat .bf16 (dpF z b wo dx 2048 (by omega)) := by
  refine (dats m 0 c).arrAt_eq_of_covers 12 _ (by decide +kernel) fun t hf y => ?_
  blk_simp
  rw [after0_12, (tiled_out m c ya yb yc z b wa wb wc wo dx t (blocks m c ya yb yc z b wa wb wc wo dx h0 h1 h2 h3 h4 h5 h6 h7 h8 h9 t)).2.2.1]
  idx_vars y
  have lt : t.val < 32 := lt_of_lt_of_eq t.isLt N_0
  rw [mat_at, dpT, dp_tile z b wo dx (by omega) 2048 (by omega)]
  exact (mat_whole _ ⟨t.val * 256 + y0.val, by omega⟩ y1 _ (by blk_simp [idx t]) (by blk_simp [idx t])).symm

theorem dz_final : (dats m 0 c).arrAt 13 cfg0.N = mat .bf16 (Model.Merge.dz dx wo z b (prod ya wa) (prod yb wb) (prod yc wc)) := by
  refine (dats m 0 c).arrAt_eq_of_covers 13 _ (by decide +kernel) fun t hf y => ?_
  blk_simp
  rw [after0_13, (tiled_out m c ya yb yc z b wa wb wc wo dx t (blocks m c ya yb yc z b wa wb wc wo dx h0 h1 h2 h3 h4 h5 h6 h7 h8 h9 t)).2.2.2.1]
  idx_vars y
  have lt : t.val < 32 := lt_of_lt_of_eq t.isLt N_0
  rw [mat_at, dz_tile ya yb yc z b wa wb wc wo dx (by omega)]
  exact (mat_whole _ ⟨t.val * 256 + y0.val, by omega⟩ y1 _ (by blk_simp [idx t]) (by blk_simp [idx t])).symm

theorem dya_final : (dats m 0 c).arrAt 15 cfg0.N = mat .f32 (dy (dpF z b wo dx 0 (by omega)) wa) := by
  refine (dats m 0 c).arrAt_eq_of_covers 15 _ (by decide +kernel) fun t hf y => ?_
  blk_simp
  rw [after0_15, (tiled_out m c ya yb yc z b wa wb wc wo dx t (blocks m c ya yb yc z b wa wb wc wo dx h0 h1 h2 h3 h4 h5 h6 h7 h8 h9 t)).2.2.2.2.1]
  idx_vars y
  have lt : t.val < 32 := lt_of_lt_of_eq t.isLt N_0
  rw [mat_at, dy_tile z b wo dx (by omega) 0 (by omega)]
  exact (mat_whole _ ⟨t.val * 256 + y0.val, by omega⟩ y1 _ (by blk_simp [idx t]) (by blk_simp [idx t])).symm

theorem dyb_final : (dats m 0 c).arrAt 16 cfg0.N = mat .bf16 (dy (dpF z b wo dx 1024 (by omega)) (spread wb)) := by
  refine (dats m 0 c).arrAt_eq_of_covers 16 _ (by decide +kernel) fun t hf y => ?_
  blk_simp
  rw [after0_16, (tiled_out m c ya yb yc z b wa wb wc wo dx t (blocks m c ya yb yc z b wa wb wc wo dx h0 h1 h2 h3 h4 h5 h6 h7 h8 h9 t)).2.2.2.2.2.1]
  idx_vars y
  have lt : t.val < 32 := lt_of_lt_of_eq t.isLt N_0
  rw [mat_at, dy_tile z b wo dx (by omega) 1024 (by omega)]
  exact (mat_whole _ ⟨t.val * 256 + y0.val, by omega⟩ y1 _ (by blk_simp [idx t]) (by blk_simp [idx t])).symm

theorem dyc_final : (dats m 0 c).arrAt 17 cfg0.N = mat .bf16 (dy (dpF z b wo dx 2048 (by omega)) wc) := by
  refine (dats m 0 c).arrAt_eq_of_covers 17 _ (by decide +kernel) fun t hf y => ?_
  blk_simp
  rw [after0_17, (tiled_out m c ya yb yc z b wa wb wc wo dx t (blocks m c ya yb yc z b wa wb wc wo dx h0 h1 h2 h3 h4 h5 h6 h7 h8 h9 t)).2.2.2.2.2.2]
  idx_vars y
  have lt : t.val < 32 := lt_of_lt_of_eq t.isLt N_0
  rw [mat_at, dy_tile z b wo dx (by omega) 2048 (by omega)]
  exact (mat_whole _ ⟨t.val * 256 + y0.val, by omega⟩ y1 _ (by blk_simp [idx t]) (by blk_simp [idx t])).symm

theorem db_final : (dats m 0 c).arrAt 14 cfg0.N = mat .f32 (Model.Merge.db dx wo z b (prod ya wa) (prod yb wb) (prod yc wc)) := by
  refine (dats m 0 c).arrAt_eq_of_covers 14 _ (by decide +kernel) fun t hf y => ?_
  have hb := fun t => blocks m c ya yb yc z b wa wb wc wo dx h0 h1 h2 h3 h4 h5 h6 h7 h8 h9 t
  blk_simp
  rw [after0_14, Pipeline.eq_sum_fin_of_reset_step_apply_of_flush (fun n h => (outsAt0 m c n h).2.2.2.2.1) 32 (fun _ => 0)
    (fun n j => ((part ya yb yc z b wa wb wc wo dx n (j 1) : ℝ) : EReal))
    (fun t h j => by idx_vars j; obtain rfl : j0 = 0 := Subsingleton.elim _ _; exact db_first m c ya yb yc z b wa wb wc wo dx t (hb t) h j1)
    (fun t h j => by idx_vars j; obtain rfl : j0 = 0 := Subsingleton.elim _ _; exact db_next m c ya yb yc z b wa wb wc wo dx t (hb t) h j1)
    t ((flush0_14 t).mp hf) _, zero_add]
  have lt : t.val < 32 := lt_of_lt_of_eq t.isLt N_0
  idx_vars y
  show (∑ s : Fin 32, _ : EReal) = _
  rw [coe_sum]
  refine (congrArg Real.toEReal (sum_tile (fun r => Model.Merge.dz dx wo z b (prod ya wa) (prod yb wb) (prod yc wc) r y1) _ rfl fun s i hl => ?_)).trans
    (mat_whole (Model.Merge.db dx wo z b (prod ya wa) (prod yb wb) (prod yc wc)) y0 y1 _ (by blk_simp [idx t]) (by blk_simp [idx t])).symm
  have e : 32 * (t.val / 32) + s.val = s.val := by omega
  simp only [e]
  exact dz_tile ya yb yc z b wa wb wc wo dx hl y1

end

/-- The kernel's eight results are the model's, for finite arguments. -/
theorem run (m : (ℓ : Loc nD τ sig) → Buf (Elt Ideal) ℓ) (ρ : Dev nD → PrngReg)
    (ya : Dev nD → Fin 8192 → Fin 512 → ℝ) (yb : Dev nD → Fin 8192 → Fin 512 → ℝ) (yc : Dev nD → Fin 8192 → Fin 512 → ℝ) (z : Dev nD → Fin 8192 → Fin 3072 → ℝ) (b : Dev nD → Fin 1 → Fin 3072 → ℝ) (wa : Dev nD → Fin 512 → Fin 1024 → ℝ) (wb : Dev nD → Fin 512 → Fin 1024 → ℝ) (wc : Dev nD → Fin 512 → Fin 1024 → ℝ) (wo : Dev nD → Fin 1024 → Fin 1024 → ℝ) (dx : Dev nD → Fin 8192 → Fin 1024 → ℝ)
    (h0 : ∀ c : Dev nD, m ((c : Thread nD τ).loc main_arg0) = mat .f32 (ya c))
    (h1 : ∀ c : Dev nD, m ((c : Thread nD τ).loc main_arg1) = mat .f32 (yb c))
    (h2 : ∀ c : Dev nD, m ((c : Thread nD τ).loc main_arg2) = mat .f32 (yc c))
    (h3 : ∀ c : Dev nD, m ((c : Thread nD τ).loc main_arg3) = mat .f32 (z c))
    (h4 : ∀ c : Dev nD, m ((c : Thread nD τ).loc main_arg4) = mat .f32 (b c))
    (h5 : ∀ c : Dev nD, m ((c : Thread nD τ).loc main_arg5) = mat .f32 (wa c))
    (h6 : ∀ c : Dev nD, m ((c : Thread nD τ).loc main_arg6) = mat .f32 (wb c))
    (h7 : ∀ c : Dev nD, m ((c : Thread nD τ).loc main_arg7) = mat .f32 (wc c))
    (h8 : ∀ c : Dev nD, m ((c : Thread nD τ).loc main_arg8) = mat .f32 (wo c))
    (h9 : ∀ c : Dev nD, m ((c : Thread nD τ).loc main_arg9) = mat .f32 (dx c)) :
    θ_run defs (onTc (τ := τ) (main (F := Ideal))) ⟨m, fun _ => 0, ρ⟩ fun r => ∀ c : Dev nD,
      r.2.mem ((c : Thread nD τ).loc main_v14_0) = mat .bf16 (dpF (z c) (b c) (wo c) (dx c) 0 (by omega))
      ∧ r.2.mem ((c : Thread nD τ).loc main_v14_1) = mat .bf16 (dpF (z c) (b c) (wo c) (dx c) 1024 (by omega))
      ∧ r.2.mem ((c : Thread nD τ).loc main_v14_2) = mat .bf16 (dpF (z c) (b c) (wo c) (dx c) 2048 (by omega))
      ∧ r.2.mem ((c : Thread nD τ).loc main_v14_3) = mat .bf16 (Model.Merge.dz (dx c) (wo c) (z c) (b c) (prod (ya c) (wa c)) (prod (yb c) (wb c)) (prod (yc c) (wc c)))
      ∧ r.2.mem ((c : Thread nD τ).loc main_v14_4) = mat .f32 (Model.Merge.db (dx c) (wo c) (z c) (b c) (prod (ya c) (wa c)) (prod (yb c) (wb c)) (prod (yc c) (wc c)))
      ∧ r.2.mem ((c : Thread nD τ).loc main_v14_5) = mat .f32 (dy (dpF (z c) (b c) (wo c) (dx c) 0 (by omega)) (wa c))
      ∧ r.2.mem ((c : Thread nD τ).loc main_v14_6) = mat .bf16 (dy (dpF (z c) (b c) (wo c) (dx c) 1024 (by omega)) (spread (wb c)))
      ∧ r.2.mem ((c : Thread nD τ).loc main_v14_7) = mat .bf16 (dy (dpF (z c) (b c) (wo c) (dx c) 2048 (by omega)) (wc c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (Cert.Kernel4Ideal.Value.run_blocks m ρ)
  obtain ⟨e0, e1, e2, e3, e4, e5, e6, e7, hargs⟩ := h c
  exact ⟨e0.trans (dpa_final m c (ya c) (yb c) (yc c) (z c) (b c) (wa c) (wb c) (wc c) (wo c) (dx c) (h0 c) (h1 c) (h2 c) (h3 c) (h4 c) (h5 c) (h6 c) (h7 c) (h8 c) (h9 c)), e1.trans (dpb_final m c (ya c) (yb c) (yc c) (z c) (b c) (wa c) (wb c) (wc c) (wo c) (dx c) (h0 c) (h1 c) (h2 c) (h3 c) (h4 c) (h5 c) (h6 c) (h7 c) (h8 c) (h9 c)), e2.trans (dpc_final m c (ya c) (yb c) (yc c) (z c) (b c) (wa c) (wb c) (wc c) (wo c) (dx c) (h0 c) (h1 c) (h2 c) (h3 c) (h4 c) (h5 c) (h6 c) (h7 c) (h8 c) (h9 c)), e3.trans (dz_final m c (ya c) (yb c) (yc c) (z c) (b c) (wa c) (wb c) (wc c) (wo c) (dx c) (h0 c) (h1 c) (h2 c) (h3 c) (h4 c) (h5 c) (h6 c) (h7 c) (h8 c) (h9 c)), e4.trans (db_final m c (ya c) (yb c) (yc c) (z c) (b c) (wa c) (wb c) (wc c) (wo c) (dx c) (h0 c) (h1 c) (h2 c) (h3 c) (h4 c) (h5 c) (h6 c) (h7 c) (h8 c) (h9 c)), e5.trans (dya_final m c (ya c) (yb c) (yc c) (z c) (b c) (wa c) (wb c) (wc c) (wo c) (dx c) (h0 c) (h1 c) (h2 c) (h3 c) (h4 c) (h5 c) (h6 c) (h7 c) (h8 c) (h9 c)), e6.trans (dyb_final m c (ya c) (yb c) (yc c) (z c) (b c) (wa c) (wb c) (wc c) (wo c) (dx c) (h0 c) (h1 c) (h2 c) (h3 c) (h4 c) (h5 c) (h6 c) (h7 c) (h8 c) (h9 c)), e7.trans (dyc_final m c (ya c) (yb c) (yc c) (z c) (b c) (wa c) (wb c) (wc c) (wo c) (dx c) (h0 c) (h1 c) (h2 c) (h3 c) (h4 c) (h5 c) (h6 c) (h7 c) (h8 c) (h9 c)), hargs⟩

end Cert.Kernel4Ideal.Merge

end
-- ==== Proof.MergeRef.lean ====
module

public import proofs.«01_k».proof.Proof.Gen.Reference4Ideal.Run
public import proofs.«01_k».proof.Proof.MergeModel

@[expose] public section

set_option maxRecDepth 16384

noncomputable section

open Idealize.ShloMosaic Idealize.ShloMosaic.TcCoe Idealize.SL.Sem

namespace Cert.Reference4Ideal.Merge

open Cert.Reference4Ideal Cert.Reference4Ideal.Gen Lift
open Model.Merge (prod dm gate dp dlogit dy spread)

section
variable (z : Fin 8192 → Fin 3072 → ℝ) (b : Fin 1 → Fin 3072 → ℝ) (wo : Fin 1024 → Fin 1024 → ℝ) (dx : Fin 8192 → Fin 1024 → ℝ)

theorem gate_at : Host.divf (F := Ideal) (broadcastInDim S8192x3072 ![] bcast_S_S8192x3072 (constant S_ .f32 0x3F800000#32)) (addf (broadcastInDim S8192x3072 ![] bcast_S_S8192x3072 (constant S_ .f32 0x3F800000#32))
    (Host.exp (Host.negf (addf (mat .f32 z) (broadcastInDim S8192x3072 ![0, 1] bcast_S1x3072_S8192x3072_0_1 (mat .f32 b)))))) = mat .f32 (gate z b) := by
  funext i
  idx_vars i
  pointwise []
  have h : 1 + Real.exp (-(z i0 i1 + b 0 i1)) ≠ 0 := by positivity
  simp only [mat_at, ← EReal.coe_add, ← EReal.coe_neg, Ideal.exp_coe, ← EReal.coe_one]
  rw [div_ne h, gate, one_div]

theorem dm_at : Host.dotGeneral (F := Ideal) dot_S8192x1024_S1024x1024_S8192x1024_1_1_0_0_n_n none (mat .f32 dx) (mat .f32 wo) = mat .f32 (dm dx wo) := by
  funext i
  idx_vars i
  pointwise []
  simp only [mat_at, ← EReal.coe_mul, coe_sum, dm]

theorem prod_at (y : Fin 8192 → Fin 512 → ℝ) (w : Fin 512 → Fin 1024 → ℝ) :
    Host.dotGeneral (F := Ideal) dot_S8192x512_S512x1024_S8192x1024_1_0_0_1_n_n none (mat .f32 y) (mat .f32 w) = mat .f32 (prod y w) := by
  funext i
  idx_vars i
  pointwise []
  simp only [mat_at, ← EReal.coe_mul, coe_sum, prod]

theorem dp_at (o : ℕ) (ho : o + 1024 ≤ 3072) (h : S8192x3072.Slices ![0, o] S8192x1024) :
    mulf (F := Ideal) (extractStridedSlice S8192x1024 ![0, o] (mat .f32 (gate z b)) h) (mat .f32 (dm dx wo))
      = mat .f32 (dp dx wo (cols o 1024 ho z) (cols o 1024 ho b)) := by
  rw [slice_at _ _ ho]
  funext i
  idx_vars i
  pointwise []
  simp only [mat_at, ← EReal.coe_mul, dp]
  exact congrArg Real.toEReal (mul_comm _ _)

theorem dy_at (d : Fin 8192 → Fin 1024 → ℝ) (w : Fin 512 → Fin 1024 → ℝ) :
    Host.dotGeneral (F := Ideal) dot_S8192x1024_S512x1024_S8192x512_1_1_0_0_n_n none (mat .f32 d) (mat .f32 w) = mat .f32 (dy d w) := by
  funext i
  idx_vars i
  pointwise []
  simp only [mat_at, ← EReal.coe_mul, coe_sum, dy]

theorem dz_at (pa pb pc : Fin 8192 → Fin 1024 → ℝ) : mulf (F := Ideal) (addf (addf
      (pad S8192x3072 ![0, 2048] ![0, 0] ![0, 0] (mulf (mat .f32 (dm dx wo)) (mat .f32 pc)) (constant S_ .f32 0x00000000#32) pads_S8192x1024_S8192x3072_000_204800 h_S_)
      (pad S8192x3072 ![0, 1024] ![0, 1024] ![0, 0] (mulf (mat .f32 (dm dx wo)) (mat .f32 pb)) (constant S_ .f32 0x00000000#32) pads_S8192x1024_S8192x3072_000_102410240 h_S_))
      (pad S8192x3072 ![0, 0] ![0, 2048] ![0, 0] (mulf (mat .f32 (dm dx wo)) (mat .f32 pa)) (constant S_ .f32 0x00000000#32) pads_S8192x1024_S8192x3072_000_020480 h_S_))
      (mulf (mat .f32 (gate z b)) (subf (broadcastInDim S8192x3072 ![] bcast_S_S8192x3072 (constant S_ .f32 0x3F800000#32)) (mat .f32 (gate z b))))
    = mat .f32 (Model.Merge.dz dx wo z b pa pb pc) := by
  funext i
  idx_vars i
  have e : ∀ o (ho : o + 1024 ≤ 3072) (k : Fin 1024), o + k.val = i1.val → gate (cols o 1024 ho z) (cols o 1024 ho b) i0 k = gate z b i0 i1 := fun o ho k h => by
    rw [show i1 = ⟨o + k.val, by omega⟩ from Fin.ext h.symm]
    rfl
  pointwise []
  simp only [mat_at, Model.Merge.dz, ← EReal.coe_one, ← EReal.coe_mul, ← EReal.coe_sub]
  by_cases h2 : 2048 ≤ i1.val
  · rw [dif_pos (by omega), dif_neg (by omega), dif_neg (by omega), dif_pos h2, add_zero, add_zero, ← EReal.coe_mul, dlogit, e _ _ _ (Nat.add_sub_of_le h2), ← mul_assoc]
  · rw [dif_neg (by omega), dif_neg h2, zero_add]
    by_cases h1 : 1024 ≤ i1.val
    · rw [dif_pos (by omega), dif_neg (by omega), dif_pos h1, add_zero, ← EReal.coe_mul, dlogit, e _ _ _ (Nat.add_sub_of_le h1), ← mul_assoc]
    · rw [dif_neg (by omega), dif_pos (by omega), dif_neg h1, zero_add, ← EReal.coe_mul, dlogit, e 0 (by omega) _ (Nat.zero_add _), ← mul_assoc]

theorem spread_at (d : Fin 8192 → Fin 1024 → ℝ) (w : Fin 512 → Fin 1024 → ℝ) :
    shapeCast S8192x1024 (pad S8192x8x128 ![0, 0, 0] ![0, 0, 64] ![0, 0, 0] (shapeCast S8192x8x64 (mat .f32 (dy d w)) shapeCasts_S8192x512_S8192x8x64)
      (sitofp (F := Ideal) .f32 (constantI S_ 32 0#32)) pads_S8192x8x64_S8192x8x128_000_000_0640 h_S_) shapeCasts_S8192x8x128_S8192x1024
    = mat .f32 (dy d (spread w)) := by
  funext i
  idx_vars i
  pointwise []
  by_cases h : i1.val % 128 < 64
  · rw [dif_pos ⟨by omega, h⟩, mat_at, mat_at]
    simp only [dy, spread, dif_pos h]
  · rw [dif_neg fun g => h g.2]
    show (((0#32 : BitVec 32).toInt : ℝ) : EReal) = _
    simp [mat_at, dy, spread, h]

end

/-- The reference's eight results are the model's, for finite arguments. -/
theorem run (m : (ℓ : Loc nD τ sig) → Buf (Elt Ideal) ℓ) (ρ : Dev nD → PrngReg)
    (ya : Dev nD → Fin 8192 → Fin 512 → ℝ) (yb : Dev nD → Fin 8192 → Fin 512 → ℝ) (yc : Dev nD → Fin 8192 → Fin 512 → ℝ) (z : Dev nD → Fin 8192 → Fin 3072 → ℝ) (b : Dev nD → Fin 1 → Fin 3072 → ℝ) (wa : Dev nD → Fin 512 → Fin 1024 → ℝ) (wb : Dev nD → Fin 512 → Fin 1024 → ℝ) (wc : Dev nD → Fin 512 → Fin 1024 → ℝ) (wo : Dev nD → Fin 1024 → Fin 1024 → ℝ) (dx : Dev nD → Fin 8192 → Fin 1024 → ℝ)
    (h0 : ∀ c : Dev nD, m ((c : Thread nD τ).loc main_arg0) = mat .f32 (ya c))
    (h1 : ∀ c : Dev nD, m ((c : Thread nD τ).loc main_arg1) = mat .f32 (yb c))
    (h2 : ∀ c : Dev nD, m ((c : Thread nD τ).loc main_arg2) = mat .f32 (yc c))
    (h3 : ∀ c : Dev nD, m ((c : Thread nD τ).loc main_arg3) = mat .f32 (z c))
    (h4 : ∀ c : Dev nD, m ((c : Thread nD τ).loc main_arg4) = mat .f32 (b c))
    (h5 : ∀ c : Dev nD, m ((c : Thread nD τ).loc main_arg5) = mat .f32 (wa c))
    (h6 : ∀ c : Dev nD, m ((c : Thread nD τ).loc main_arg6) = mat .f32 (wb c))
    (h7 : ∀ c : Dev nD, m ((c : Thread nD τ).loc main_arg7) = mat .f32 (wc c))
    (h8 : ∀ c : Dev nD, m ((c : Thread nD τ).loc main_arg8) = mat .f32 (wo c))
    (h9 : ∀ c : Dev nD, m ((c : Thread nD τ).loc main_arg9) = mat .f32 (dx c)) :
    θ_run defs (onTc (τ := τ) (main (F := Ideal))) ⟨m, fun _ => 0, ρ⟩ fun r => ∀ c : Dev nD,
      r.2.mem ((c : Thread nD τ).loc main_v44) = mat .bf16 (dp (dx c) (wo c) (cols 0 1024 (by omega) (z c)) (cols 0 1024 (by omega) (b c)))
      ∧ r.2.mem ((c : Thread nD τ).loc main_v45) = mat .bf16 (dp (dx c) (wo c) (cols 1024 1024 (by omega) (z c)) (cols 1024 1024 (by omega) (b c)))
      ∧ r.2.mem ((c : Thread nD τ).loc main_v46) = mat .bf16 (dp (dx c) (wo c) (cols 2048 1024 (by omega) (z c)) (cols 2048 1024 (by omega) (b c)))
      ∧ r.2.mem ((c : Thread nD τ).loc main_v47) = mat .bf16 (Model.Merge.dz (dx c) (wo c) (z c) (b c) (prod (ya c) (wa c)) (prod (yb c) (wb c)) (prod (yc c) (wc c)))
      ∧ r.2.mem ((c : Thread nD τ).loc main_v37) = mat .f32 (Model.Merge.db (dx c) (wo c) (z c) (b c) (prod (ya c) (wa c)) (prod (yb c) (wb c)) (prod (yc c) (wc c)))
      ∧ r.2.mem ((c : Thread nD τ).loc main_v40) = mat .f32 (dy (dp (dx c) (wo c) (cols 0 1024 (by omega) (z c)) (cols 0 1024 (by omega) (b c))) (wa c))
      ∧ r.2.mem ((c : Thread nD τ).loc main_v48) = mat .bf16 (dy (dp (dx c) (wo c) (cols 1024 1024 (by omega) (z c)) (cols 1024 1024 (by omega) (b c))) (spread (wb c)))
      ∧ r.2.mem ((c : Thread nD τ).loc main_v49) = mat .bf16 (dy (dp (dx c) (wo c) (cols 2048 1024 (by omega) (z c)) (cols 2048 1024 (by omega) (b c))) (wc c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (Value.run m ρ)
  obtain ⟨e0, e1, e2, e3, e4, e5, e6, e7, hargs⟩ := h c
  refine ⟨e0.trans ?_, e1.trans ?_, e2.trans ?_, e3.trans ?_, e4.trans ?_, e5.trans ?_, e6.trans ?_, e7.trans ?_, hargs⟩
  · rw [h3, h4, h8, h9]
    clean_types
    rw [gate_at, dm_at, dp_at _ _ _ _ 0 (by omega), trunc_at]
  · rw [h3, h4, h8, h9]
    clean_types
    rw [gate_at, dm_at, dp_at _ _ _ _ 1024 (by omega), trunc_at]
  · rw [h3, h4, h8, h9]
    clean_types
    rw [gate_at, dm_at, dp_at _ _ _ _ 2048 (by omega), trunc_at]
  · rw [h0, h1, h2, h3, h4, h5, h6, h7, h8, h9]
    clean_types
    rw [gate_at, dm_at, prod_at, prod_at, prod_at, dz_at, trunc_at]
  · rw [h0, h1, h2, h3, h4, h5, h6, h7, h8, h9]
    clean_types
    rw [gate_at, dm_at, prod_at, prod_at, prod_at, dz_at]
    funext i
    idx_vars i
    pointwise [sum_lead]
    simp only [mat_at, coe_sum, Model.Merge.db]
  · rw [h3, h4, h5, h8, h9]
    clean_types
    rw [gate_at, dm_at, dp_at _ _ _ _ 0 (by omega), dy_at]
  · rw [h3, h4, h6, h8, h9]
    clean_types
    rw [gate_at, dm_at, dp_at _ _ _ _ 1024 (by omega), dy_at, spread_at, trunc_at]
  · rw [h3, h4, h7, h8, h9]
    clean_types
    rw [gate_at, dm_at, dp_at _ _ _ _ 2048 (by omega), dy_at, trunc_at]

end Cert.Reference4Ideal.Merge

end
-- ==== Proof.MergeClaim.lean ====
module

public import proofs.«01_k».proof.Defs
public import proofs.«01_k».proof.Proof.Gen.Pre_finite4
public import proofs.«01_k».proof.Proof.Finite
public import proofs.«01_k».proof.Proof.Merge
public import proofs.«01_k».proof.Proof.MergeRef

/-! The gated merge's claim: the reference's frame, and equal values for finite arguments. -/

@[expose] public section

set_option maxRecDepth 16384

noncomputable section

open Idealize.ShloMosaic Idealize.ShloMosaic.TcCoe Idealize.SL.Sem

namespace Cert.Merge

open Lift

theorem frame_reference : Cert.quiescent_Reference4Ideal := fun m ρ _ =>
  (θ_run Cert.Reference4Ideal.defs _ _).mono (fun r h => ⟨fun c => (h c).2.2.2.2.2.2.2.2, sem_eq_zero_of_no_sems (by decide) r.2⟩)
    (Cert.Reference4Ideal.Value.run (F := Ideal) m ρ)

/-- Finite arguments are arrays of real numbers. -/
theorem real (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) :
    ∃ ya yb yc z b wa wb wc wo dx, m ((c.tc : Thread Cert.Kernel4Ideal.nD Cert.Kernel4Ideal.τ).loc Cert.Kernel4Ideal.main_arg0) = mat .f32 ya
      ∧ m ((c.tc : Thread Cert.Kernel4Ideal.nD Cert.Kernel4Ideal.τ).loc Cert.Kernel4Ideal.main_arg1) = mat .f32 yb
      ∧ m ((c.tc : Thread Cert.Kernel4Ideal.nD Cert.Kernel4Ideal.τ).loc Cert.Kernel4Ideal.main_arg2) = mat .f32 yc
      ∧ m ((c.tc : Thread Cert.Kernel4Ideal.nD Cert.Kernel4Ideal.τ).loc Cert.Kernel4Ideal.main_arg3) = mat .f32 z
      ∧ m ((c.tc : Thread Cert.Kernel4Ideal.nD Cert.Kernel4Ideal.τ).loc Cert.Kernel4Ideal.main_arg4) = mat .f32 b
      ∧ m ((c.tc : Thread Cert.Kernel4Ideal.nD Cert.Kernel4Ideal.τ).loc Cert.Kernel4Ideal.main_arg5) = mat .f32 wa
      ∧ m ((c.tc : Thread Cert.Kernel4Ideal.nD Cert.Kernel4Ideal.τ).loc Cert.Kernel4Ideal.main_arg6) = mat .f32 wb
      ∧ m ((c.tc : Thread Cert.Kernel4Ideal.nD Cert.Kernel4Ideal.τ).loc Cert.Kernel4Ideal.main_arg7) = mat .f32 wc
      ∧ m ((c.tc : Thread Cert.Kernel4Ideal.nD Cert.Kernel4Ideal.τ).loc Cert.Kernel4Ideal.main_arg8) = mat .f32 wo
      ∧ m ((c.tc : Thread Cert.Kernel4Ideal.nD Cert.Kernel4Ideal.τ).loc Cert.Kernel4Ideal.main_arg9) = mat .f32 dx := by
  have e := congrFun (h c) ix0
  unfold Cert.Pre_finite4.fn Cert.Pre_finite4.fn_part1 Cert.Pre_finite4.fn_part2 at e
  simp only [and_one] at e
  obtain ⟨⟨⟨⟨⟨⟨⟨⟨⟨e0, e1⟩, e2⟩, e3⟩, e4⟩, e5⟩, e6⟩, e7⟩, e8⟩, e9⟩ := e
  exact ⟨_, _, _, _, _, _, _, _, _, _, mat_of_finite _ _ _ _ _ e0, mat_of_finite _ _ _ _ _ e1, mat_of_finite _ _ _ _ _ e2, mat_of_finite _ _ _ _ _ e3,
    mat_of_finite _ _ _ _ _ e4, mat_of_finite _ _ _ _ _ e5, mat_of_finite _ _ _ _ _ e6, mat_of_finite _ _ _ _ _ e7,
    mat_of_finite _ _ _ _ _ e8, mat_of_finite _ _ _ _ _ e9⟩

theorem algebraic : Cert.algebraic_Kernel4Ideal_Reference4Ideal_pre_finite4 := by
  intro m ρ m' ρ' hpre hag
  choose ya yb yc z b wa wb wc wo dx h0 h1 h2 h3 h4 h5 h6 h7 h8 h9 using real m hpre
  refine ⟨_, _, _, _, _, _, _, _, Cert.Kernel4Ideal.Merge.run m ρ ya yb yc z b wa wb wc wo dx h0 h1 h2 h3 h4 h5 h6 h7 h8 h9, ?_⟩
  exact Cert.Reference4Ideal.Merge.run m' ρ' ya yb yc z b wa wb wc wo dx (fun c => (hag c).1.trans (h0 c)) (fun c => (hag c).2.1.trans (h1 c)) (fun c => (hag c).2.2.1.trans (h2 c))
    (fun c => (hag c).2.2.2.1.trans (h3 c)) (fun c => (hag c).2.2.2.2.1.trans (h4 c)) (fun c => (hag c).2.2.2.2.2.1.trans (h5 c))
    (fun c => (hag c).2.2.2.2.2.2.1.trans (h6 c)) (fun c => (hag c).2.2.2.2.2.2.2.1.trans (h7 c)) (fun c => (hag c).2.2.2.2.2.2.2.2.1.trans (h8 c))
    (fun c => (hag c).2.2.2.2.2.2.2.2.2.trans (h9 c))

end Cert.Merge

end
-- ==== Proof.ProjNormModel.lean ====
module

public import proofs.«01_k».proof.Proof.Lift

/-! The gradient of the input projection and the norm before it over the real numbers: `x` the rows, `g` the norm's gain,
`w` the projection, `dz` its cotangent, `dres` the cotangent of the residual. -/

@[expose] public section

noncomputable section

open Idealize.ShloMosaic Idealize.ShloMosaic.TcCoe

namespace Model.ProjNorm

open Lift

variable {R : ℕ} (x : Fin R → Fin 1024 → ℝ) (g : Fin 1 → Fin 1024 → ℝ) (w : Fin 1024 → Fin 5280 → ℝ)
  (dz : Fin R → Fin 5280 → ℝ) (dres : Fin R → Fin 1024 → ℝ)

/-- The cotangent of the normalised rows. -/
def dh (i : Fin R) (k : Fin 1024) : ℝ := ∑ j, dz i j * w k j

/-- The gradient of the rows. -/
def dx (i : Fin R) (k : Fin 1024) : ℝ := dres i k + rmsBack 1024 (x i) (fun k => dh w dz i k * g 0 k) k

/-- What row `i` adds to the gradient of the gain. -/
def dgRow (i : Fin R) (k : Fin 1024) : ℝ := dh w dz i k * x i k * rstd 1024 (x i)

/-- The gradient of the gain. -/
def dg (_ : Fin 1) (k : Fin 1024) : ℝ := ∑ i, dgRow x w dz i k

/-- The rotary key's 32 columns, with 64 zero columns before and 32 after. -/
def padded {a : ℕ} (z : Fin a → Fin 5280 → ℝ) (i : Fin a) (j : Fin 128) : ℝ :=
  if h : 64 ≤ j.val ∧ j.val < 96 then z i ⟨1600 + j.val, by omega⟩ else 0

theorem sum_padded (f : Fin 32 → ℝ) : (∑ j : Fin 128, if h : 64 ≤ j.val ∧ j.val < 96 then f ⟨j.val - 64, by omega⟩ else 0) = ∑ j, f j := by
  rw [Fin.sum_univ_add (a := 64) (b := 64) (fun j : Fin 128 => if h : 64 ≤ j.val ∧ j.val < 96 then f ⟨j.val - 64, by omega⟩ else 0)]
  rw [Finset.sum_eq_zero (fun i _ => dif_neg (by simp)), zero_add]
  refine (Fin.sum_univ_add (a := 32) (b := 32) fun j : Fin 64 => if h : 64 ≤ (Fin.natAdd 64 j : Fin 128).val ∧ (Fin.natAdd 64 j : Fin 128).val < 96
    then f ⟨(Fin.natAdd 64 j : Fin 128).val - 64, by omega⟩ else 0).trans ?_
  refine (congrArg₂ (· + ·) (Finset.sum_congr rfl fun i _ => ?_) (Finset.sum_eq_zero fun i _ => dif_neg ?_)).trans (add_zero _)
  · have lt := i.isLt
    rw [dif_pos (by simp only [Fin.val_natAdd, Fin.val_castAdd]; omega)]
    exact congrArg f (Fin.ext (by simp only [Fin.val_natAdd, Fin.val_castAdd]; omega))
  · simp only [Fin.val_natAdd]
    omega

/-- The contraction over all columns is the sum of the six cuts' contractions. -/
theorem dh_cuts (i : Fin R) (k : Fin 1024) :
    (∑ j, cols 0 1024 (by omega) dz i j * cols 0 1024 (by omega) w k j) + (∑ j, cols 1024 384 (by omega) dz i j * cols 1024 384 (by omega) w k j)
      + (∑ j, cols 1408 256 (by omega) dz i j * cols 1408 256 (by omega) w k j) + (∑ j, padded dz i j * padded w k j)
      + (∑ j, cols 1696 512 (by omega) dz i j * cols 1696 512 (by omega) w k j) + (∑ j, cols 2208 3072 (by omega) dz i j * cols 2208 3072 (by omega) w k j)
      = dh w dz i k := by
  have e : ∑ j, padded dz i j * padded w k j = ∑ j, cols 1664 32 (by omega) dz i j * cols 1664 32 (by omega) w k j := by
    rw [← sum_padded]
    refine Finset.sum_congr rfl fun j _ => ?_
    rw [padded, padded]
    split_ifs with h
    · have e : ∀ n (hn : n < 5280), n = 1600 + j.val → dz i ⟨n, hn⟩ * w k ⟨n, hn⟩ = dz i ⟨1600 + j.val, by omega⟩ * w k ⟨1600 + j.val, by omega⟩ := by
        rintro _ _ rfl
        rfl
      exact (e _ _ (show 1664 + (j.val - 64) = _ by omega)).symm
    · exact zero_mul _
  rw [e, dh]
  have s (a b : ℕ) (f : Fin (a + b) → ℝ) := Fin.sum_univ_add f
  rw [s 2208 3072 fun j => dz i j * w k j, s 1696 512 fun j => dz i _ * w k _, s 1664 32 fun j => dz i _ * w k _, s 1408 256 fun j => dz i _ * w k _,
    s 1024 384 fun j => dz i _ * w k _]
  refine congrArg₂ (· + ·) (congrArg₂ (· + ·) (congrArg₂ (· + ·) (congrArg₂ (· + ·) (congrArg₂ (· + ·) ?_ rfl) rfl) rfl) rfl) rfl
  exact Finset.sum_congr rfl fun j _ => congrArg₂ (· * ·) (congrArg (dz i) (Fin.ext (Nat.zero_add _))) (congrArg (w k) (Fin.ext (Nat.zero_add _)))

end Model.ProjNorm

end
-- ==== Proof.ProjNorm.lean ====
module

public import proofs.«01_k».proof.Proof.Gen.Kernel5Ideal.Value
public import proofs.«01_k».proof.Proof.ProjNormModel

@[expose] public section

set_option maxRecDepth 16384

noncomputable section

open Idealize.ShloMosaic Idealize.ShloMosaic.TcCoe Idealize.SL.Sem
open Idealize.ShloMosaic.Pipeline (Dat)

namespace Cert.Kernel5Ideal.ProjNorm

open Cert.Kernel5Ideal Cert.Kernel5Ideal.Gen Lift
open Model.ProjNorm (padded dh dh_cuts)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0] ∧ win0_13.index t = ![0, 0] ∧ win0_14.index t = ![t.val, 0] ∧ win0_15.index t = ![t.val, 0]
    ∧ win0_16.index t = ![0, 0] := (by decide +kernel : ∀ t : Fin grid0.N, _)

section
variable (x : Fin 256 → Fin 1024 → ℝ) (g : Fin 1 → Fin 1024 → ℝ) (w : Fin 1024 → Fin 5280 → ℝ)
  (dz : Fin 256 → Fin 5280 → ℝ) (dres : Fin 256 → Fin 1024 → ℝ)

/-- The transpose of a cut of the projection. -/
abbrev cut {n : ℕ} (z : Fin 1024 → Fin n → ℝ) : Fin n → Fin 1024 → ℝ := fun j k => z k j

theorem dh_at : k0_pay5 (F := Ideal)
      (k0_pay3 (mat .bf16 (cols 0 1024 (by omega) dz)) (mat .bf16 (cut (cols 0 1024 (by omega) w)))
        (mat .bf16 (cols 1024 384 (by omega) dz)) (mat .bf16 (cut (cols 1024 384 (by omega) w)))
        (mat .bf16 (cols 1408 256 (by omega) dz)) (mat .bf16 (cut (cols 1408 256 (by omega) w)))
        (mat .bf16 (padded dz)) (mat .bf16 (cut (padded w))))
      (k0_pay4 (mat .bf16 (cols 1696 512 (by omega) dz)) (mat .bf16 (cut (cols 1696 512 (by omega) w))))
      (mat .bf16 (cols 2208 3072 (by omega) dz)) (mat .bf16 (cut (cols 2208 3072 (by omega) w)))
    = mat .f32 (dh w dz) := by
  funext i
  idx_vars i
  pointwise [k0_pay5, k0_pay3, k0_pay4]
  simp only [mat_at, ← EReal.coe_mul, ← EReal.coe_add, coe_sum, cut, dh_cuts]

theorem rstd_at : k0_pay6 (F := Ideal) (mat .f32 x) = mat .f32 fun i _ => rstd 1024 (x i) := by
  funext i
  idx_vars i
  pointwise [k0_pay6]
  simp (disch := norm_num) only [mat_at, ← EReal.coe_mul, ← EReal.coe_add, coe_sum, w_eps, w_inv1024, ← div_eq_mul_inv, rsqrt_ms]

variable (a b : FVec Ideal S256x1024 .f32) (c : FVec Ideal S256x3072 .bf16) (e : FVec Ideal S3072x1024 .bf16)
  (hd : k0_pay5 (F := Ideal) a b c e = mat .f32 (dh w dz))

include hd

theorem dgRow_at : k0_pay7 (F := Ideal) a b c e (mat .f32 x) = mat .f32 (Model.ProjNorm.dgRow x w dz) := by
  funext i
  idx_vars i
  unfold k0_pay7
  rw [hd, rstd_at]
  pointwise []
  simp only [mat_at, ← EReal.coe_mul, Model.ProjNorm.dgRow]

theorem dx_at : k0_pay8 (F := Ideal) a b c e (mat .f32 x) (mat .f32 g) (mat .f32 dres) = mat .f32 (Model.ProjNorm.dx x g w dz dres) := by
  funext i
  idx_vars i
  unfold k0_pay8
  rw [hd, rstd_at]
  pointwise []
  simp (disch := norm_num) only [mat_at, ← EReal.coe_mul, ← EReal.coe_add, ← EReal.coe_sub, coe_sum, w_inv1024, ← div_eq_mul_inv]
  rfl

omit hd in
theorem zero_at (j) : k0_pay2 (F := Ideal) j = 0 := by pointwise [k0_pay2]

omit hd in
theorem acc_at (r : Fin 256 → Fin 1024 → ℝ) (acc : FVec Ideal S1x1024 .f32) (j : S1x1024.Idx) :
    k0_pay1 (F := Ideal) (mat .f32 r) acc j = acc j + ((∑ i, r i (j 1) : ℝ) : EReal) := by
  idx_vars j
  pointwise [k0_pay1]
  simp only [mat_at, coe_sum]

end

section
variable (m : (ℓ : Loc nD τ sig) → Buf (Elt Ideal) ℓ) (c : Dev nD)
  (x : Fin 8192 → Fin 1024 → ℝ) (g : Fin 1 → Fin 1024 → ℝ) (w : Fin 1024 → Fin 5280 → ℝ)
  (dz : Fin 8192 → Fin 5280 → ℝ) (dres : Fin 8192 → Fin 1024 → ℝ)
  (h0 : m ((c : Thread nD τ).loc main_arg0) = mat .f32 x) (h1 : m ((c : Thread nD τ).loc main_arg1) = mat .f32 g)
  (h2 : m ((c : Thread nD τ).loc main_arg2) = mat .f32 w) (h3 : m ((c : Thread nD τ).loc main_arg3) = mat .f32 dz)
  (h4 : m ((c : Thread nD τ).loc main_arg4) = mat .f32 dres)

theorem pad_at {a : ℕ} (ha : a = 8192 ∨ a = 1024) (z : Fin a → Fin 5280 → ℝ) (h : (⟨2, ![a, 32]⟩ : Shape).Pads ![0, 64] ![0, 32] ![0, 0] ⟨2, ![a, 128]⟩) (hu : 0 < S_.numel) :
    pad ⟨2, ![a, 128]⟩ ![0, 64] ![0, 32] ![0, 0] (mat .bf16 (cols 1664 32 (by omega) z)) (sitofp (F := Ideal) .bf16 (constantI S_ 32 0#32)) h hu
      = mat .bf16 (padded z) := by
  have e : (sitofp (F := Ideal) .bf16 (constantI S_ 32 0#32)) (Shape.Idx.first hu) = ((0 : ℝ) : EReal) := by
    show (((0#32 : BitVec 32).toInt : ℝ) : EReal) = _
    simp
  obtain rfl | rfl := ha
  all_goals
    funext i
    idx_vars i
    rw [pad_apply, e]
    simp only [mat_at, padded]
    pointwise []
    by_cases h : 64 ≤ i1.val ∧ i1.val < 96
    · rw [dif_pos h, dif_pos (by omega), mat_at]
      exact congrArg (fun j => ((z i0 j : ℝ) : EReal)) (Fin.ext (show 1664 + (i1.val - 64) = 1600 + i1.val by omega))
    · rw [dif_neg h, dif_neg (by omega)]

theorem tile_padded (z : Fin 8192 → Fin 5280 → ℝ) (t : ℕ) : tile 256 (padded z) t = padded (tile 256 z t) := by
  funext i j
  by_cases h : t * 256 + i.val < 8192 <;> by_cases g : 64 ≤ j.val ∧ j.val < 96 <;> simp [tile, padded, h, g]

include h3 in
theorem V_dz : V m c main_v7 = mat .bf16 (cols 0 1024 (by omega) dz) ∧ V m c main_v8 = mat .bf16 (cols 1024 384 (by omega) dz)
    ∧ V m c main_v9 = mat .bf16 (cols 1408 256 (by omega) dz) ∧ V m c main_v10 = mat .bf16 (padded dz)
    ∧ V m c main_v11 = mat .bf16 (cols 1696 512 (by omega) dz) ∧ V m c main_v12 = mat .bf16 (cols 2208 3072 (by omega) dz) := by
  unfold V hostOps0 hostOps0_1 hostOps0_2 hostOps0_3 hostOps0_4
  simp only [List.flatten_cons, List.flatten_nil, List.cons_append, List.nil_append]
  refine ⟨?_, ?_, ?_, ?_, ?_, ?_⟩
  all_goals after_results
  all_goals rw [h3]
  all_goals try simp only [StableHlo.TRef.toBuf, StableHlo.TRef.ofBuf]
  all_goals clean_types
  · rw [slice_at _ _ (by omega)]; rfl
  · rw [slice_at _ _ (by omega)]; rfl
  · rw [slice_at _ _ (by omega)]; rfl
  · rw [slice_at _ _ (by omega)]
    exact pad_at (.inl rfl) dz pads_S8192x32_S8192x128_000_64320 h_S_
  · rw [slice_at _ _ (by omega)]; rfl
  · rw [slice_at _ _ (by omega)]; rfl

include h2 in
theorem V_w : V m c main_v21 = mat .bf16 (cut (cols 0 1024 (by omega) w)) ∧ V m c main_v22 = mat .bf16 (cut (cols 1024 384 (by omega) w))
    ∧ V m c main_v23 = mat .bf16 (cut (cols 1408 256 (by omega) w)) ∧ V m c main_v24 = mat .bf16 (cut (padded w))
    ∧ V m c main_v25 = mat .bf16 (cut (cols 1696 512 (by omega) w)) ∧ V m c main_v26 = mat .bf16 (cut (cols 2208 3072 (by omega) w)) := by
  unfold V hostOps0 hostOps0_1 hostOps0_2 hostOps0_3 hostOps0_4
  simp only [List.flatten_cons, List.flatten_nil, List.cons_append, List.nil_append]
  refine ⟨?_, ?_, ?_, ?_, ?_, ?_⟩
  all_goals after_results
  all_goals rw [h2]
  all_goals try simp only [StableHlo.TRef.toBuf, StableHlo.TRef.ofBuf]
  all_goals clean_types
  all_goals rw [trunc_at, slice_at _ _ (by omega)]
  · rfl
  · rfl
  · rfl
  · exact congrArg (fun x => transpose S128x1024 _ x _) (pad_at (.inr rfl) w pads_S1024x32_S1024x128_000_64320 h_S_)
  · rfl
  · rfl

variable (t : Fin cfg0.N)

include h3 in
theorem b_dz : iblk m c 0 t = mat .bf16 (cols 0 1024 (by omega) (tile 256 dz t.val)) ∧ iblk m c 1 t = mat .bf16 (cols 1024 384 (by omega) (tile 256 dz t.val))
    ∧ iblk m c 2 t = mat .bf16 (cols 1408 256 (by omega) (tile 256 dz t.val)) ∧ iblk m c 3 t = mat .bf16 (padded (tile 256 dz t.val))
    ∧ iblk m c 4 t = mat .bf16 (cols 1696 512 (by omega) (tile 256 dz t.val)) ∧ iblk m c 5 t = mat .bf16 (cols 2208 3072 (by omega) (tile 256 dz t.val)) := by
  obtain ⟨v0, v1, v2, v3, v4, v5⟩ := V_dz m c dz h3
  refine ⟨?_, ?_, ?_, ?_, ?_, ?_⟩
  all_goals
    funext i
    idx_vars i
    blk_simp [iblk, idx t]
  · rw [v0]; exact mat_tile _ _ _ _ _ (by blk_simp [idx t]) (by blk_simp [idx t])
  · rw [v1]; exact mat_tile _ _ _ _ _ (by blk_simp [idx t]) (by blk_simp [idx t])
  · rw [v2]; exact mat_tile _ _ _ _ _ (by blk_simp [idx t]) (by blk_simp [idx t])
  · rw [v3]
    refine (mat_tile _ t.val i0 i1 _ (by blk_simp [idx t]) (by blk_simp [idx t])).trans (congrArg Real.toEReal ?_)
    exact congrFun (congrFun (tile_padded dz t.val) i0) i1
  · rw [v4]; exact mat_tile _ _ _ _ _ (by blk_simp [idx t]) (by blk_simp [idx t])
  · rw [v5]; exact mat_tile _ _ _ _ _ (by blk_simp [idx t]) (by blk_simp [idx t])

include h2 in
theorem b_w : iblk m c 6 t = mat .bf16 (cut (cols 0 1024 (by omega) w)) ∧ iblk m c 7 t = mat .bf16 (cut (cols 1024 384 (by omega) w))
    ∧ iblk m c 8 t = mat .bf16 (cut (cols 1408 256 (by omega) w)) ∧ iblk m c 9 t = mat .bf16 (cut (padded w))
    ∧ iblk m c 10 t = mat .bf16 (cut (cols 1696 512 (by omega) w)) ∧ iblk m c 11 t = mat .bf16 (cut (cols 2208 3072 (by omega) w)) := by
  obtain ⟨v0, v1, v2, v3, v4, v5⟩ := V_w m c w h2
  refine ⟨?_, ?_, ?_, ?_, ?_, ?_⟩
  all_goals
    funext i
    idx_vars i
    blk_simp [iblk, idx t]
  · rw [v0]; exact mat_whole _ _ _ _ (by blk_simp [idx t]) (by blk_simp [idx t])
  · rw [v1]; exact mat_whole _ _ _ _ (by blk_simp [idx t]) (by blk_simp [idx t])
  · rw [v2]; exact mat_whole _ _ _ _ (by blk_simp [idx t]) (by blk_simp [idx t])
  · rw [v3]; exact mat_whole _ _ _ _ (by blk_simp [idx t]) (by blk_simp [idx t])
  · rw [v4]; exact mat_whole _ _ _ _ (by blk_simp [idx t]) (by blk_simp [idx t])
  · rw [v5]; exact mat_whole _ _ _ _ (by blk_simp [idx t]) (by blk_simp [idx t])

include h0 in
theorem b_x : iblk m c 12 t = mat .f32 (tile 256 x t.val) := by
  funext i
  idx_vars i
  blk_simp [iblk, idx t]
  rw [V_main_arg0, h0]; exact mat_tile _ _ _ _ _ (by blk_simp [idx t]) (by blk_simp [idx t])

include h1 h4 in
theorem b_rows : iblk m c 13 t = mat .f32 g ∧ iblk m c 14 t = mat .f32 (tile 256 dres t.val) := by
  refine ⟨?_, ?_⟩
  all_goals
    funext i
    idx_vars i
    blk_simp [iblk, idx t]
  · rw [V_main_arg1, h1]; exact mat_whole _ _ _ _ (by blk_simp [idx t]) (by blk_simp [idx t])
  · rw [V_main_arg4, h4]; exact mat_tile _ _ _ _ _ (by blk_simp [idx t]) (by blk_simp [idx t])

include h0 h1 h2 h3 h4 in
theorem dx_out (t : Fin cfg0.N) : (outsAt0 m c t.val t.isLt).1 = mat .f32 (Model.ProjNorm.dx (tile 256 x t.val) g w (tile 256 dz t.val) (tile 256 dres t.val)) := by
  obtain ⟨d0, d1, d2, d3, d4, d5⟩ := b_dz m c dz h3 t
  obtain ⟨w0, w1, w2, w3, w4, w5⟩ := b_w m c w h2 t
  obtain ⟨r1, r2⟩ := b_rows m c g dres h1 h4 t
  by_cases h : t.val % 32 = 0
  · rw [outsAt0_A m c t h]
    frame_out
    rw [d0, d1, d2, d3, d4, d5, w0, w1, w2, w3, w4, w5, b_x m c x h0 t, r1, r2]
    exact dx_at _ _ _ _ _ _ _ _ _ (dh_at _ _)
  · rw [outsAt0_B m c t h]
    frame_out
    rw [d0, d1, d2, d3, d4, d5, w0, w1, w2, w3, w4, w5, b_x m c x h0 t, r1, r2]
    exact dx_at _ _ _ _ _ _ _ _ _ (dh_at _ _)

include h0 h2 h3 in
theorem part_at (t : Fin cfg0.N) : k0_pay7 (F := Ideal)
      (k0_pay3 (iblk m c 0 t) (iblk m c 6 t) (iblk m c 1 t) (iblk m c 7 t) (iblk m c 2 t) (iblk m c 8 t) (iblk m c 3 t) (iblk m c 9 t))
      (k0_pay4 (iblk m c 4 t) (iblk m c 10 t)) (iblk m c 5 t) (iblk m c 11 t) (iblk m c 12 t)
    = mat .f32 (Model.ProjNorm.dgRow (tile 256 x t.val) w (tile 256 dz t.val)) := by
  obtain ⟨d0, d1, d2, d3, d4, d5⟩ := b_dz m c dz h3 t
  obtain ⟨w0, w1, w2, w3, w4, w5⟩ := b_w m c w h2 t
  rw [d0, d1, d2, d3, d4, d5, w0, w1, w2, w3, w4, w5, b_x m c x h0 t]
  exact dgRow_at _ _ _ _ _ _ _ (dh_at _ _)

theorem dx_tile {t : ℕ} {i : Fin 256} (h : t * 256 + i.val < 8192) (k : Fin 1024) :
    Model.ProjNorm.dx (tile 256 x t) g w (tile 256 dz t) (tile 256 dres t) i k = Model.ProjNorm.dx x g w dz dres ⟨t * 256 + i.val, h⟩ k := by
  simp only [Model.ProjNorm.dx, dh, tile_row _ h]

theorem dgRow_tile {t : ℕ} {i : Fin 256} (h : t * 256 + i.val < 8192) (k : Fin 1024) :
    Model.ProjNorm.dgRow (tile 256 x t) w (tile 256 dz t) i k = Model.ProjNorm.dgRow x w dz ⟨t * 256 + i.val, h⟩ k := by
  simp only [Model.ProjNorm.dgRow, dh, tile_row _ h]

include h0 h1 h2 h3 h4 in
theorem dx_final : (dats m 0 c).arrAt 15 cfg0.N = mat .f32 (Model.ProjNorm.dx x g w dz dres) := by
  refine (dats m 0 c).arrAt_eq_of_covers 15 _ (by decide +kernel) fun t hf y => ?_
  blk_simp
  rw [after0_15, dx_out m c x g w dz dres h0 h1 h2 h3 h4]
  idx_vars y
  have lt : t.val < 32 := lt_of_lt_of_eq t.isLt N_0
  rw [mat_at, dx_tile x g w dz dres (by omega)]
  exact (mat_whole _ ⟨t.val * 256 + y0.val, by omega⟩ y1 _ (by blk_simp [idx t]) (by blk_simp [idx t])).symm

include h0 h2 h3 in
theorem dg_final : (dats m 0 c).arrAt 16 cfg0.N = mat .f32 (Model.ProjNorm.dg x w dz) := by
  refine (dats m 0 c).arrAt_eq_of_covers 16 _ (by decide +kernel) fun t hf y => ?_
  blk_simp
  rw [after0_16, Pipeline.eq_sum_fin_of_reset_step_apply_of_flush (fun n h => (outsAt0 m c n h).2) 32 (fun _ => 0)
    (fun n j => ((∑ i, Model.ProjNorm.dgRow (tile 256 x n.val) w (tile 256 dz n.val) i (j 1) : ℝ) : EReal))
    (fun t h j => by rw [outsAt0_A m c t h]; frame_out; rw [part_at m c x w dz h0 h2 h3, acc_at, zero_at])
    (fun t h j => by rw [outsAt0_B m c t h]; frame_out; rw [part_at m c x w dz h0 h2 h3, acc_at])
    t ((flush0_16 t).mp hf) _, zero_add]
  have lt : t.val < 32 := lt_of_lt_of_eq t.isLt N_0
  idx_vars y
  show (∑ s : Fin 32, _ : EReal) = _
  rw [coe_sum]
  refine (congrArg Real.toEReal (sum_tile (fun r => Model.ProjNorm.dgRow x w dz r y1) _ rfl fun s i hl => ?_)).trans
    (mat_whole (Model.ProjNorm.dg x w dz) y0 y1 _ (by blk_simp [idx t]) (by blk_simp [idx t])).symm
  have e : 32 * (t.val / 32) + s.val = s.val := by omega
  simp only [e]
  exact dgRow_tile x w dz hl y1

end

/-- The kernel's two results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5280 → ℝ)
    (dz : Dev nD → Fin 8192 → Fin 5280 → ℝ) (dres : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (dz c))
    (h4 : ∀ c : Dev nD, m ((c : Thread nD τ).loc main_arg4) = mat .f32 (dres c)) :
    θ_run defs (onTc (τ := τ) (main (F := Ideal))) ⟨m, fun _ => 0, ρ⟩ fun r => ∀ c : Dev nD,
      r.2.mem ((c : Thread nD τ).loc main_v27_0) = mat .f32 (Model.ProjNorm.dx (x c) (g c) (w c) (dz c) (dres c))
      ∧ r.2.mem ((c : Thread nD τ).loc main_v27_1) = mat .f32 (Model.ProjNorm.dg (x c) (w c) (dz c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Kernel5Ideal.Value.run_blocks m ρ)
  obtain ⟨e0, e1, hargs⟩ := h c
  exact ⟨e0.trans (dx_final m c _ _ _ _ _ (h0 c) (h1 c) (h2 c) (h3 c) (h4 c)), e1.trans (dg_final m c _ _ _ (h0 c) (h2 c) (h3 c)), hargs⟩

end Cert.Kernel5Ideal.ProjNorm

end
-- ==== Proof.ProjNormRef.lean ====
module

public import proofs.«01_k».proof.Proof.Gen.Reference5Ideal.Run
public import proofs.«01_k».proof.Proof.ProjNormModel

@[expose] public section

set_option maxRecDepth 16384

noncomputable section

open Idealize.ShloMosaic Idealize.ShloMosaic.TcCoe Idealize.SL.Sem

namespace Cert.Reference5Ideal.ProjNorm

open Cert.Reference5Ideal Cert.Reference5Ideal.Gen Lift
open Model.ProjNorm (dh)

/-- The reference's two results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5280 → ℝ)
    (dz : Dev nD → Fin 8192 → Fin 5280 → ℝ) (dres : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (dz c))
    (h4 : ∀ c : Dev nD, m ((c : Thread nD τ).loc main_arg4) = mat .f32 (dres c)) :
    θ_run defs (onTc (τ := τ) (main (F := Ideal))) ⟨m, fun _ => 0, ρ⟩ fun r => ∀ c : Dev nD,
      r.2.mem ((c : Thread nD τ).loc main_v36) = mat .f32 (Model.ProjNorm.dx (x c) (g c) (w c) (dz c) (dres c))
      ∧ r.2.mem ((c : Thread nD τ).loc main_v19) = mat .f32 (Model.ProjNorm.dg (x c) (w c) (dz c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run m ρ)
  refine ⟨(h c).1.trans ?_, (h c).2.1.trans ?_, (h c).2.2⟩
  · unfold Value.res_main_v36
    rw [h0, h1, h2, h3, h4]
    clean_types
    funext i
    idx_vars i
    pointwise []
    simp (disch := norm_num) only [mat_at, ← EReal.coe_mul, ← EReal.coe_add, ← EReal.coe_neg, ← EReal.coe_sub, coe_sum, w_eps, w_1024, w_neghalf, div_ne, rsqrt_ms, div_ms]
    refine congrArg Real.toEReal (?_ : _ = Model.ProjNorm.dx (x c) (g c) (w c) (dz c) (dres c) i0 i1)
    rw [Model.ProjNorm.dx, ← rms_ref, add_assoc, add_assoc]
    exact congrArg₂ (· + ·) rfl (add_assoc _ _ _).symm
  · rw [h0, h2, h3]
    clean_types
    funext i
    idx_vars i
    pointwise []
    simp (disch := norm_num) only [mat_at, ← EReal.coe_mul, ← EReal.coe_add, ← EReal.coe_neg, ← EReal.coe_sub, coe_sum, w_eps, w_1024, w_neghalf, div_ne, rsqrt_ms, div_ms]
    refine congrArg Real.toEReal (?_ : _ = Model.ProjNorm.dg (x c) (w c) (dz c) i0 i1)
    refine Finset.sum_congr rfl fun i _ => ?_
    rw [mul_comm, ← mul_assoc]
    rfl

end Cert.Reference5Ideal.ProjNorm

end
-- ==== Proof.ProjNormClaim.lean ====
module

public import proofs.«01_k».proof.Defs
public import proofs.«01_k».proof.Proof.Gen.Pre_finite5
public import proofs.«01_k».proof.Proof.Finite
public import proofs.«01_k».proof.Proof.ProjNorm
public import proofs.«01_k».proof.Proof.ProjNormRef

/-! The gradients through the projection and its norm: the kernel's two results are the reference's at finite arguments. -/

@[expose] public section

set_option maxRecDepth 16384

noncomputable section

open Idealize.ShloMosaic Idealize.ShloMosaic.TcCoe Idealize.SL.Sem

namespace Cert.ProjNorm

open Lift

theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Finite arguments are arrays of real numbers. -/
theorem real (m : (ℓ : Loc Cert.Kernel5Ideal.nD Cert.Kernel5Ideal.τ Cert.Kernel5Ideal.sig) → Buf (Elt Ideal) ℓ)
    (h : Cert.Pre_Kernel5Ideal_finite5 m) (c : Dev Cert.Kernel5Ideal.nD) :
    ∃ x g w dz dres, m ((c.tc : Thread Cert.Kernel5Ideal.nD Cert.Kernel5Ideal.τ).loc Cert.Kernel5Ideal.main_arg0) = mat .f32 x
      ∧ m ((c.tc : Thread Cert.Kernel5Ideal.nD Cert.Kernel5Ideal.τ).loc Cert.Kernel5Ideal.main_arg1) = mat .f32 g
      ∧ m ((c.tc : Thread Cert.Kernel5Ideal.nD Cert.Kernel5Ideal.τ).loc Cert.Kernel5Ideal.main_arg2) = mat .f32 w
      ∧ m ((c.tc : Thread Cert.Kernel5Ideal.nD Cert.Kernel5Ideal.τ).loc Cert.Kernel5Ideal.main_arg3) = mat .f32 dz
      ∧ m ((c.tc : Thread Cert.Kernel5Ideal.nD Cert.Kernel5Ideal.τ).loc Cert.Kernel5Ideal.main_arg4) = mat .f32 dres := by
  have e := congrFun (h c) ix0
  unfold Cert.Pre_finite5.fn Cert.Pre_finite5.fn_part1 at e
  simp only [and_one] at e
  obtain ⟨⟨⟨⟨e0, e1⟩, e2⟩, e3⟩, e4⟩ := e
  exact ⟨_, _, _, _, _, mat_of_finite _ _ _ _ _ e0, mat_of_finite _ _ _ _ _ e1, mat_of_finite _ _ _ _ _ e2, mat_of_finite _ _ _ _ _ e3,
    mat_of_finite _ _ _ _ _ e4⟩

theorem algebraic : Cert.algebraic_Kernel5Ideal_Reference5Ideal_pre_finite5 := by
  intro m ρ m' ρ' hpre hag
  choose x g w dz dres h0 h1 h2 h3 h4 using real m hpre
  refine ⟨_, _, Cert.Kernel5Ideal.ProjNorm.run m ρ x g w dz dres h0 h1 h2 h3 h4, ?_⟩
  exact Cert.Reference5Ideal.ProjNorm.run m' ρ' x g w dz dres (fun c => (hag c).1.trans (h0 c)) (fun c => (hag c).2.1.trans (h1 c)) (fun c => (hag c).2.2.1.trans (h2 c))
    (fun c => (hag c).2.2.2.1.trans (h3 c)) (fun c => (hag c).2.2.2.2.trans (h4 c))

end Cert.ProjNorm

end
-- ==== Proof.FfnGateModel.lean ====
module

public import proofs.«01_k».proof.Proof.Lift

/-! The gradient of the gated feed-forward over the real numbers: `x` the rows, `g` the norm's gain, `w` the up
projection (the gate's 2816 columns, then the other branch's), `wd` the down projection, `dy` the cotangent. -/

@[expose] public section

noncomputable section

open Idealize.ShloMosaic Idealize.ShloMosaic.TcCoe

namespace Model.FfnGate

open Lift

/-- The logistic function. -/
def sig (h : ℝ) : ℝ := (1 + Real.exp (-h))⁻¹

theorem sig_ne (h : ℝ) : 1 + Real.exp (-h) ≠ 0 := (add_pos one_pos (Real.exp_pos _)).ne'

variable (x : Fin 8192 → Fin 1024 → ℝ) (g : Fin 1 → Fin 1024 → ℝ) (w : Fin 1024 → Fin 5632 → ℝ) (wd : Fin 2816 → Fin 1024 → ℝ)
  (dy : Fin 8192 → Fin 1024 → ℝ)

/-- The normalised rows. -/
def xn (i : Fin 8192) (k : Fin 1024) : ℝ := x i k * rstd 1024 (x i) * g 0 k

/-- The up projection. -/
def z (i : Fin 8192) (j : Fin 5632) : ℝ := ∑ k, xn x g i k * w k j

/-- Its gate. -/
abbrev h : Fin 8192 → Fin 2816 → ℝ := cols 0 2816 (by omega) (z x g w)

/-- Its other branch. -/
abbrev u : Fin 8192 → Fin 2816 → ℝ := cols 2816 2816 (by omega) (z x g w)

/-- The cotangent of the gated product. -/
def dact (i : Fin 8192) (j : Fin 2816) : ℝ := ∑ k, 1 / 2 * dy i k * wd j k

/-- The gated product. -/
def act (i : Fin 8192) (j : Fin 2816) : ℝ := h x g w i j * sig (h x g w i j) * u x g w i j

/-- The gradient of the branch beside the gate. -/
def du (i : Fin 8192) (j : Fin 2816) : ℝ := dact wd dy i j * (h x g w i j * sig (h x g w i j))

/-- The gradient of the gate. -/
def dh (i : Fin 8192) (j : Fin 2816) : ℝ :=
  dact wd dy i j * u x g w i j * (sig (h x g w i j) * (1 + h x g w i j * (1 - sig (h x g w i j))))

/-- Column `l` of half `s`. -/
abbrev half (s : Fin 2) (l : Fin 1408) : Fin 2816 := ⟨s.val * 1408 + l.val, by omega⟩

/-- What half `s` of the gate's columns and of the other branch's adds to the gradient of the normalised rows. -/
def part (s : Fin 2) (i : Fin 8192) (k : Fin 1024) : ℝ :=
  (∑ l, dh x g w wd dy i (half s l) * cols 0 2816 (by omega) w k (half s l))
    + ∑ l, du x g w wd dy i (half s l) * cols 2816 2816 (by omega) w k (half s l)

end Model.FfnGate

end
-- ==== Proof.FfnGate.lean ====
module

public import proofs.«01_k».proof.Proof.Gen.Kernel6Ideal.Value
public import proofs.«01_k».proof.Proof.FfnGateModel
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.FfnGate

open Cert.Kernel6Ideal Cert.Kernel6Ideal.Gen Lift

theorem idx : ∀ t : Fin cfg0.N, win0_0.index t = ![t.val % 16, 0] ∧ win0_1.index t = ![t.val % 16, t.val / 16] ∧ win0_2.index t = ![t.val % 16, t.val / 16]
    ∧ win0_3.index t = ![t.val % 16, t.val / 16] ∧ win0_4.index t = ![t.val % 16, t.val / 16] ∧ win0_5.index t = ![t.val % 16, t.val / 16]
    ∧ win0_6.index t = ![t.val / 16, t.val % 16, 0] := (by decide +kernel : ∀ t : Fin grid0.N, _)

/-- Row `i` of point `t`'s block of rows. -/
abbrev row (t : ℕ) (i : Fin 512) : Fin 8192 := ⟨t % 16 * 512 + i.val, by omega⟩

/-- Column `l` of point `t`'s half of the columns. -/
abbrev col (t : ℕ) (l : Fin 1408) : Fin 2816 := Model.FfnGate.half ⟨t / 16 % 2, by omega⟩ l

/-- The points of one half have the same columns. -/
theorem col_succ {t : ℕ} (h : ¬(t + 1) % 16 = 0) : col (t + 1) = col t := by
  have e : (t + 1) / 16 % 2 = t / 16 % 2 := by omega
  funext l
  refine Fin.ext ?_
  show (t + 1) / 16 % 2 * 1408 + l.val = t / 16 % 2 * 1408 + l.val
  rw [e]

section
variable (x : Fin 8192 → Fin 1024 → ℝ) (g : Fin 1 → Fin 1024 → ℝ) (w : Fin 1024 → Fin 5632 → ℝ) (wd : Fin 2816 → Fin 1024 → ℝ)
  (dy : Fin 8192 → Fin 1024 → ℝ) (t : ℕ)

/-- The point's block of the gate. -/
abbrev hB : FVec Ideal S512x1408 .bf16 := mat .bf16 fun i l => Model.FfnGate.h x g w (row t i) (col t l)

/-- The point's block of the other branch. -/
abbrev uB : FVec Ideal S512x1408 .bf16 := mat .bf16 fun i l => Model.FfnGate.u x g w (row t i) (col t l)

/-- The point's rows of the cotangent. -/
abbrev dyB : FVec Ideal S512x1024 .f32 := mat .f32 fun i k => dy (row t i) k

/-- The gate's weights in the point's half. -/
abbrev wgB : FVec Ideal S1x1024x1408 .bf16 := mat3 .bf16 fun (_ : Fin 1) k l => cols 0 2816 (by omega) w k (col t l)

/-- The other branch's weights in the point's half. -/
abbrev wuB : FVec Ideal S1x1024x1408 .bf16 := mat3 .bf16 fun (_ : Fin 1) k l => cols 2816 2816 (by omega) w k (col t l)

/-- The down projection's weights in the point's half. -/
abbrev wdB : FVec Ideal S1x1408x1024 .bf16 := mat3 .bf16 fun (_ : Fin 1) l k => wd (col t l) k

theorem sig_at : k0_pay4 (F := Ideal) (hB x g w t) = mat .f32 fun i l => Model.FfnGate.sig (Model.FfnGate.h x g w (row t i) (col t l)) := by
  funext i
  idx_vars i
  pointwise [k0_pay4, k0_pay2]
  exact Ideal.logistic_coe _

theorem silu_at : k0_pay5 (F := Ideal) (hB x g w t)
    = mat .f32 fun i l => Model.FfnGate.h x g w (row t i) (col t l) * Model.FfnGate.sig (Model.FfnGate.h x g w (row t i) (col t l)) := by
  funext i
  idx_vars i
  unfold k0_pay5
  rw [sig_at]
  pointwise [k0_pay2]
  simp only [mat_at, ← EReal.coe_mul]

theorem act_at : k0_pay6 (F := Ideal) (hB x g w t) (uB x g w t) = mat .bf16 fun i l => Model.FfnGate.act x g w (row t i) (col t l) := by
  funext i
  idx_vars i
  unfold k0_pay6
  rw [silu_at]
  pointwise [k0_pay3]
  simp only [mat_at, ← EReal.coe_mul, Model.FfnGate.act]

theorem w_half : Ideal.ofBits .f32 0x3F000000#32 = ((1 / 2 : ℝ) : EReal) := by
  simp [Ideal.ofBits, Ideal.ieee, -EReal.coe_mul, -EReal.coe_neg]; norm_num

theorem dact_at : k0_pay7 (F := Ideal) (dyB dy t) (wdB wd t) = mat .f32 fun i l => Model.FfnGate.dact wd dy (row t i) (col t l) := by
  funext i
  idx_vars i
  pointwise [k0_pay7]
  simp only [mat_at, mat3_at, w_half, ← EReal.coe_mul, coe_sum, Model.FfnGate.dact]

theorem du_at : k0_pay8 (F := Ideal) (hB x g w t) (dyB dy t) (wdB wd t) = mat .bf16 fun i l => Model.FfnGate.du x g w wd dy (row t i) (col t l) := by
  funext i
  idx_vars i
  unfold k0_pay8
  rw [silu_at, dact_at]
  pointwise []
  simp only [mat_at, ← EReal.coe_mul, Model.FfnGate.du]

theorem dh_at : k0_pay9 (F := Ideal) (hB x g w t) (uB x g w t) (dyB dy t) (wdB wd t)
    = mat .bf16 fun i l => Model.FfnGate.dh x g w wd dy (row t i) (col t l) := by
  funext i
  idx_vars i
  unfold k0_pay9
  rw [sig_at, dact_at]
  pointwise [k0_pay3, k0_pay2]
  simp only [mat_at, ← EReal.coe_mul, ← EReal.coe_one, ← EReal.coe_add, ← EReal.coe_sub, Model.FfnGate.dh]

theorem part_at : k0_pay1 (F := Ideal) (k0_pay8 (hB x g w t) (dyB dy t) (wdB wd t)) (k0_pay9 (hB x g w t) (uB x g w t) (dyB dy t) (wdB wd t)) (wgB w t) (wuB w t)
    = mat3 .bf16 fun (_ : Fin 1) i k => Model.FfnGate.part x g w wd dy ⟨t / 16 % 2, by omega⟩ (row t i) k := by
  funext i
  idx_vars i
  rw [du_at, dh_at]
  pointwise [k0_pay1]
  simp only [mat_at, mat3_at, ← EReal.coe_mul, ← EReal.coe_add, coe_sum, Model.FfnGate.part]

end

section
variable (m : (ℓ : Loc nD τ sig) → Buf (Elt Ideal) ℓ) (c : Dev nD)
  (x : Fin 8192 → Fin 1024 → ℝ) (g : Fin 1 → Fin 1024 → ℝ) (w : Fin 1024 → Fin 5632 → ℝ) (wd : Fin 2816 → Fin 1024 → ℝ)
  (dy : Fin 8192 → Fin 1024 → ℝ)
  (h0 : m ((c : Thread nD τ).loc main_arg0) = mat .f32 x) (h1 : m ((c : Thread nD τ).loc main_arg1) = mat .f32 g)
  (h2 : m ((c : Thread nD τ).loc main_arg2) = mat .f32 w) (h3 : m ((c : Thread nD τ).loc main_arg3) = mat .f32 wd)
  (h4 : m ((c : Thread nD τ).loc main_arg4) = mat .f32 dy)

theorem norm_at : mulf (F := Ideal) (mulf (mat .f32 x) (broadcastInDim S8192x1024 ![0, 1] bcast_S8192x1_S8192x1024_0_1 (Host.rsqrt (addf
        (Host.divf (broadcastInDim S8192x1 ![0] bcast_S8192_S8192x1_0 (Host.reduceAdd (mulf (mat .f32 x) (mat .f32 x)) (constant S_ .f32 0x00000000#32) reducesTo_S8192x1024_S8192_d1 h_S_))
          (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (mat .f32 g))
    = mat .f32 (Model.FfnGate.xn x g) := by
  funext i
  idx_vars i
  pointwise []
  simp (disch := norm_num) only [mat_at, ← EReal.coe_mul, ← EReal.coe_add, coe_sum, w_eps, w_1024, div_ne, rsqrt_ms, Model.FfnGate.xn]

theorem z_at : Host.dotGeneral (F := Ideal) dot_S8192x1024_S1024x5632_S8192x5632_1_0_0_1_n_n none (mat .f32 (Model.FfnGate.xn x g)) (mat .f32 w)
    = mat .f32 (Model.FfnGate.z x g w) := by
  funext i
  idx_vars i
  pointwise []
  simp only [mat_at, ← EReal.coe_mul, coe_sum, Model.FfnGate.z]

include h0 h1 h2 in
theorem V_up : V m c main_v14 = mat .bf16 (Model.FfnGate.h x g w) ∧ V m c main_v16 = mat .bf16 (Model.FfnGate.u x g w) := by
  unfold V hostOps0
  constructor
  all_goals
    after_results
    rw [h0, h1, h2, norm_at, z_at, slice_at (hb := by omega)]
    rfl

include h2 in
theorem V_wgu : V m c main_v19 = mat3 .bf16 fun (q : Fin 4) k (l : Fin 1408) => w k ⟨q.val * 1408 + l.val, by omega⟩ := by
  unfold V hostOps0
  after_results
  rw [h2]
  clean_types
  funext i
  idx_vars i
  pointwise []
  exact mat_whole _ _ _ _ rfl rfl

theorem wd_halves : shapeCast S2x1408x1024 (mat .bf16 wd) shapeCasts_S2816x1024_S2x1408x1024
    = mat3 .bf16 fun (q : Fin 2) (l : Fin 1408) k => wd ⟨q.val * 1408 + l.val, by omega⟩ k := by
  funext i
  idx_vars i
  pointwise []
  exact mat_whole _ _ _ _ rfl rfl

include h3 in
theorem V_wd : V m c main_v21 = mat3 .bf16 fun (q : Fin 2) (l : Fin 1408) k => wd ⟨q.val * 1408 + l.val, by omega⟩ k := by
  refine Eq.trans ?_ (wd_halves wd)
  unfold V hostOps0
  after_results
  rw [h3]
  rfl

/-- The input blocks of point `t`. -/
abbrev Blocks (t : Fin cfg0.N) : Prop := iblk m c 0 t = dyB dy t.val ∧ iblk m c 1 t = hB x g w t.val ∧ iblk m c 2 t = uB x g w t.val

include h0 h1 h2 h4 in
theorem blocks (t : Fin cfg0.N) : Blocks m c x g w dy t := by
  obtain ⟨vh, vu⟩ := V_up m c x g w h0 h1 h2
  have lt : t.val < 32 := lt_of_lt_of_eq t.isLt N_0
  refine ⟨?_, ?_, ?_⟩
  all_goals
    funext i
    idx_vars i
    blk_simp [iblk, idx t]
  · rw [V_main_arg4, h4]; exact mat_whole _ (row t.val i0) i1 _ (by blk_simp [idx t]) (by blk_simp [idx t])
  · rw [vh]; exact mat_whole _ (row t.val i0) (col t.val i1) _ (by blk_simp [idx t]) (by blk_simp [idx t]; dsimp only [col, Model.FfnGate.half]; omega)
  · rw [vu]; exact mat_whole _ (row t.val i0) (col t.val i1) _ (by blk_simp [idx t]) (by blk_simp [idx t]; dsimp only [col, Model.FfnGate.half]; omega)

theorem offs : ∀ t : Fin cfg0.N, k0_off1 (grid0.coords t) = ![t.val / 16, 0, 0] ∧ k0_off2 (grid0.coords t) = ![t.val / 16 + 2, 0, 0]
    ∧ k0_off3 (grid0.coords t) = ![t.val / 16, 0, 0] := (by decide +kernel : ∀ t : Fin grid0.N, _)

/-- A part of an array of three axes, one entry of the first. -/
theorem part_read {a b n : ℕ} {φ : FTy} (z : Fin a → Fin b → Fin n → ℝ) {off : Fin 3 → ℕ} {q : ℕ} (e : off = ![q, 0, 0]) (hq : q < a)
    (inb : ∀ k, off k + (![1, b, n] : Fin 3 → ℕ) k ≤ (⟨3, ![a, b, n]⟩ : Shape).size k) (i : (⟨3, ![1, b, n]⟩ : Shape).Idx) :
    mat3 φ z ((Rect.unit (s := ⟨3, ![a, b, n]⟩) off ![1, b, n] inb).emb i) = mat3 φ (fun _ : Fin 1 => z ⟨q, hq⟩) i := by
  subst e
  have lt : (i 0).val < 1 := (i 0).isLt
  exact mat3_whole z ⟨q, hq⟩ (i 1) (i 2) _ (by show q + 1 * (i 0).val = q; omega) (by show 0 + 1 * (i 1).val = (i 1).val; omega)
    (by show 0 + 1 * (i 2).val = (i 2).val; omega)

theorem zero3 : (![0, 0, 0] : Fin 3 → ℕ) = fun _ => 0 := by decide

/-- A load of the whole of what one copy of the whole left. -/
theorem readCov_whole {κ sp} {S : Shape} {e : EltTy} (v : View sig κ sp S e) {off : Fin S.rank → ℕ} (h : off = fun _ => 0)
    (inb : ∀ a, off a + S.size a ≤ S.size a) (z : S.Idx → Elt Ideal e) :
    v.readCov [(⟨Rect.whole S, z⟩ : View.Piece (Elt Ideal) S e)] (Rect.unit off S.size inb).toLoadRect = z := by
  subst h
  exact View.readCov_unit_zero v rfl _ z

variable (t : Fin cfg0.N)

include h2 in
/-- What the first point of a half copies in of the gate's weights. -/
theorem wg_copy (inb) : ReadAs.same.apply (View.read (Elt Ideal) ((View.whole main_v19).slice (Rect.unit (s := S4x1024x1408) (k0_off1 (grid0.coords t)) ![1, 1024, 1408] inb))
    (V m c main_v19)) = wgB w t.val := by
  have lt : t.val < 32 := lt_of_lt_of_eq t.isLt N_0
  funext i
  show V m c main_v19 ((Rect.unit (s := S4x1024x1408) _ ![1, 1024, 1408] _).emb i) = _
  rw [V_wgu m c w h2]
  refine (part_read _ (offs t).1 (by omega) _ i).trans ?_
  idx_vars i
  exact congrArg Real.toEReal (congrArg (w i1) (Fin.ext (by dsimp only; omega)))

include h2 in
/-- What it copies in of the other branch's. -/
theorem wu_copy (inb) : ReadAs.same.apply (View.read (Elt Ideal) ((View.whole main_v19).slice (Rect.unit (s := S4x1024x1408) (k0_off2 (grid0.coords t)) ![1, 1024, 1408] inb))
    (V m c main_v19)) = wuB w t.val := by
  have lt : t.val < 32 := lt_of_lt_of_eq t.isLt N_0
  funext i
  show V m c main_v19 ((Rect.unit (s := S4x1024x1408) _ ![1, 1024, 1408] _).emb i) = _
  rw [V_wgu m c w h2]
  refine (part_read _ (offs t).2.1 (by omega) _ i).trans ?_
  idx_vars i
  exact congrArg Real.toEReal (congrArg (w i1) (Fin.ext (by dsimp only; omega)))

include h3 in
/-- What it copies in of the down projection's. -/
theorem wd_copy (inb) : ReadAs.same.apply (View.read (Elt Ideal) ((View.whole main_v21).slice (Rect.unit (s := S2x1408x1024) (k0_off3 (grid0.coords t)) ![1, 1408, 1024] inb))
    (V m c main_v21)) = wdB wd t.val := by
  have lt : t.val < 32 := lt_of_lt_of_eq t.isLt N_0
  funext i
  show V m c main_v21 ((Rect.unit (s := S2x1408x1024) _ ![1, 1408, 1024] _).emb i) = _
  rw [V_wd m c wd h3]
  refine (part_read _ (offs t).2.2 (by omega) _ i).trans ?_
  idx_vars i
  exact congrArg Real.toEReal (congrArg (wd · i2) (Fin.ext (by dsimp only; omega)))

/-- The weights in the scratch buffers after point `n`. -/
abbrev Scr (n : ℕ) (h : n < cfg0.N) (k : ℕ) : Prop := (outsAt0 m c n h).2.2.2.2.1 = wgB w k
  ∧ (outsAt0 m c n h).2.2.2.2.2.1 = wuB w k ∧ (outsAt0 m c n h).2.2.2.2.2.2 = wdB wd k

include h2 h3 in
theorem scr_A (h : t.val % 16 = 0) : Scr m c w wd t.val t.isLt t.val := by
  unfold Scr
  rw [outsAt0_A m c t h]
  refine ⟨?_, ?_, ?_⟩
  all_goals frame_out
  · exact (View.canon_unit_zero rfl _ _).trans (wg_copy m c w h2 t _)
  · exact (View.canon_unit_zero rfl _ _).trans (wu_copy m c w h2 t _)
  · exact (View.canon_unit_zero rfl _ _).trans (wd_copy m c wd h3 t _)

/-- Two points of one half need the same weights. -/
theorem scr_succ {n k : ℕ} {h : n < cfg0.N} (e : ¬(k + 1) % 16 = 0) (s : Scr m c w wd n h k) : Scr m c w wd n h (k + 1) := by
  unfold Scr wgB wuB wdB
  rw [col_succ e]
  exact s

include h2 h3 in
/-- Every point of a half leaves the half's weights. -/
theorem scr (n : ℕ) (h : n < cfg0.N) : Scr m c w wd n h n := by
  induction n with
  | zero => exact scr_A m c w wd h2 h3 ⟨0, h⟩ rfl
  | succ n ih =>
    by_cases e : (n + 1) % 16 = 0
    · exact scr_A m c w wd h2 h3 ⟨n + 1, h⟩ e
    · obtain ⟨e1, e2, e3⟩ := scr_succ m c w wd e (ih (by omega))
      unfold Scr
      rw [outsAt0_B m c ⟨n + 1, h⟩ e]
      dsimp only
      unfold sout0_B_0 sout0_B_1 sout0_B_2
      exact ⟨e1, e2, e3⟩

include h0 h1 h2 h3 h4 in
theorem outs :
    (outsAt0 m c t.val t.isLt).1 = mat .bf16 (fun i l => Model.FfnGate.dh x g w wd dy (row t.val i) (col t.val l))
    ∧ (outsAt0 m c t.val t.isLt).2.1 = mat .bf16 (fun i l => Model.FfnGate.du x g w wd dy (row t.val i) (col t.val l))
    ∧ (outsAt0 m c t.val t.isLt).2.2.1 = mat .bf16 (fun i l => Model.FfnGate.act x g w (row t.val i) (col t.val l))
    ∧ (outsAt0 m c t.val t.isLt).2.2.2.1 = mat3 .bf16 (fun (_ : Fin 1) i k => Model.FfnGate.part x g w wd dy ⟨t.val / 16 % 2, by omega⟩ (row t.val i) k) := by
  obtain ⟨b0, b1, b2⟩ := blocks m c x g w dy h0 h1 h2 h4 t
  by_cases h : t.val % 16 = 0
  · rw [outsAt0_A m c t h]
    refine ⟨?_, ?_, ?_, ?_⟩
    all_goals frame_out
    · rw [readCov_whole _ zero3, wd_copy m c wd h3, b0, b1, b2]
      exact dh_at _ _ _ _ _ _
    · rw [readCov_whole _ zero3, wd_copy m c wd h3, b0, b1]
      exact du_at _ _ _ _ _ _
    · rw [b1, b2]
      exact act_at _ _ _ _
    · rw [readCov_whole _ zero3, readCov_whole _ zero3, readCov_whole _ zero3, wd_copy m c wd h3, wg_copy m c w h2, wu_copy m c w h2, b0, b1, b2]
      exact part_at _ _ _ _ _ _
  · have ht : t.val - 1 + 1 = t.val := by omega
    obtain ⟨e1, e2, e3⟩ := scr_succ m c w wd (by omega) (scr m c w wd h2 h3 (t.val - 1) (by omega))
    rw [ht] at e1 e2 e3
    rw [outsAt0_B m c t h]
    refine ⟨?_, ?_, ?_, ?_⟩
    all_goals frame_out
    · rw [e3, read_unread_whole, b0, b1, b2]
      exact dh_at _ _ _ _ _ _
    · rw [e3, read_unread_whole, b0, b1]
      exact du_at _ _ _ _ _ _
    · rw [b1, b2]
      exact act_at _ _ _ _
    · rw [e1, e2, e3, read_unread_whole, read_unread_whole, read_unread_whole, b0, b1, b2]
      exact part_at _ _ _ _ _ _

include h0 h1 h2 h3 h4 in
theorem dh_final : (dats m 0 c).arrAt 3 cfg0.N = mat .bf16 (Model.FfnGate.dh x g w wd dy) := by
  refine (dats m 0 c).arrAt_eq_of_covers 3 _ (by decide +kernel) fun t hf y => ?_
  blk_simp
  rw [after0_3, (outs m c x g w wd dy h0 h1 h2 h3 h4 t).1]
  idx_vars y
  have lt : t.val < 32 := lt_of_lt_of_eq t.isLt N_0
  exact (mat_whole _ (row t.val y0) (col t.val y1) _ (by blk_simp [idx t]) (by blk_simp [idx t]; dsimp only [col, Model.FfnGate.half]; omega)).symm

include h0 h1 h2 h3 h4 in
theorem du_final : (dats m 0 c).arrAt 4 cfg0.N = mat .bf16 (Model.FfnGate.du x g w wd dy) := by
  refine (dats m 0 c).arrAt_eq_of_covers 4 _ (by decide +kernel) fun t hf y => ?_
  blk_simp
  rw [after0_4, (outs m c x g w wd dy h0 h1 h2 h3 h4 t).2.1]
  idx_vars y
  have lt : t.val < 32 := lt_of_lt_of_eq t.isLt N_0
  exact (mat_whole _ (row t.val y0) (col t.val y1) _ (by blk_simp [idx t]) (by blk_simp [idx t]; dsimp only [col, Model.FfnGate.half]; omega)).symm

include h0 h1 h2 h3 h4 in
theorem act_final : (dats m 0 c).arrAt 5 cfg0.N = mat .bf16 (Model.FfnGate.act x g w) := by
  refine (dats m 0 c).arrAt_eq_of_covers 5 _ (by decide +kernel) fun t hf y => ?_
  blk_simp
  rw [after0_5, (outs m c x g w wd dy h0 h1 h2 h3 h4 t).2.2.1]
  idx_vars y
  have lt : t.val < 32 := lt_of_lt_of_eq t.isLt N_0
  exact (mat_whole _ (row t.val y0) (col t.val y1) _ (by blk_simp [idx t]) (by blk_simp [idx t]; dsimp only [col, Model.FfnGate.half]; omega)).symm

include h0 h1 h2 h3 h4 in
theorem part_final : (dats m 0 c).arrAt 6 cfg0.N = mat3 .bf16 (Model.FfnGate.part x g w wd dy) := by
  refine (dats m 0 c).arrAt_eq_of_covers 6 _ (by decide +kernel) fun t hf y => ?_
  blk_simp
  rw [after0_6, (outs m c x g w wd dy h0 h1 h2 h3 h4 t).2.2.2]
  idx_vars y
  have lt : t.val < 32 := lt_of_lt_of_eq t.isLt N_0
  exact (mat3_whole _ ⟨t.val / 16 % 2, by omega⟩ (row t.val y1) y2 _ (by blk_simp [idx t]; dsimp only; omega) (by blk_simp [idx t]) (by blk_simp [idx t])).symm

end

/-- The kernel's four results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5632 → ℝ)
    (wd : Dev nD → Fin 2816 → Fin 1024 → ℝ) (dy : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (wd c))
    (h4 : ∀ c : Dev nD, m ((c : Thread nD τ).loc main_arg4) = mat .f32 (dy c)) :
    θ_run defs (onTc (τ := τ) (main (F := Ideal))) ⟨m, fun _ => 0, ρ⟩ fun r => ∀ c : Dev nD,
      r.2.mem ((c : Thread nD τ).loc main_v22_0) = mat .bf16 (Model.FfnGate.dh (x c) (g c) (w c) (wd c) (dy c))
      ∧ r.2.mem ((c : Thread nD τ).loc main_v22_1) = mat .bf16 (Model.FfnGate.du (x c) (g c) (w c) (wd c) (dy c))
      ∧ r.2.mem ((c : Thread nD τ).loc main_v22_2) = mat .bf16 (Model.FfnGate.act (x c) (g c) (w c))
      ∧ r.2.mem ((c : Thread nD τ).loc main_v22_3) = mat3 .bf16 (Model.FfnGate.part (x c) (g c) (w c) (wd c) (dy c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Kernel6Ideal.Value.run_blocks m ρ)
  obtain ⟨e0, e1, e2, e3, hargs⟩ := h c
  exact ⟨e0.trans (dh_final m c _ _ _ _ _ (h0 c) (h1 c) (h2 c) (h3 c) (h4 c)), e1.trans (du_final m c _ _ _ _ _ (h0 c) (h1 c) (h2 c) (h3 c) (h4 c)),
    e2.trans (act_final m c _ _ _ _ _ (h0 c) (h1 c) (h2 c) (h3 c) (h4 c)), e3.trans (part_final m c _ _ _ _ _ (h0 c) (h1 c) (h2 c) (h3 c) (h4 c)), hargs⟩

end Cert.Kernel6Ideal.FfnGate

end
-- ==== Proof.FfnGateRef.lean ====
module

public import proofs.«01_k».proof.Proof.Gen.Reference6Ideal.Run
public import proofs.«01_k».proof.Proof.FfnGateModel

@[expose] public section

set_option maxRecDepth 16384

noncomputable section

open Idealize.ShloMosaic Idealize.ShloMosaic.TcCoe Idealize.SL.Sem

namespace Cert.Reference6Ideal.FfnGate

open Cert.Reference6Ideal Cert.Reference6Ideal.Gen Lift
open Model.FfnGate

section
variable (x : Fin 8192 → Fin 1024 → ℝ) (g : Fin 1 → Fin 1024 → ℝ) (w : Fin 1024 → Fin 5632 → ℝ) (wd : Fin 2816 → Fin 1024 → ℝ)
  (dy : Fin 8192 → Fin 1024 → ℝ)

theorem norm_at : mulf (F := Ideal) (mulf (mat .f32 x) (broadcastInDim S8192x1024 ![0, 1] bcast_S8192x1_S8192x1024_0_1 (Host.rsqrt (addf
        (Host.divf (broadcastInDim S8192x1 ![0] bcast_S8192_S8192x1_0 (Host.reduceAdd (mulf (mat .f32 x) (mat .f32 x)) (constant S_ .f32 0x00000000#32) reducesTo_S8192x1024_S8192_d1 h_S_))
          (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (mat .f32 g))
    = mat .f32 (xn x g) := by
  funext i
  idx_vars i
  pointwise []
  simp (disch := norm_num) only [mat_at, ← EReal.coe_mul, ← EReal.coe_add, coe_sum, w_eps, w_1024, div_ne, rsqrt_ms, xn]

/-- A quarter of the up projection. -/
theorem quarter_at (o : ℕ) (h : o + 1408 ≤ 5632) : Host.dotGeneral (F := Ideal) dot_S8192x1024_S1024x1408_S8192x1408_1_0_0_1_n_n none (mat .f32 (xn x g)) (mat .f32 (cols o 1408 h w))
    = mat .f32 (cols o 1408 h (z x g w)) := by
  funext i
  idx_vars i
  pointwise []
  simp only [mat_at, ← EReal.coe_mul, coe_sum, cols, z]

/-- Two quarters side by side. -/
theorem halves_at (v : Fin 8192 → Fin 5632 → ℝ) (o o' : ℕ) (e : o' = o + 1408) (h : o + 1408 ≤ 5632) (h' : o' + 1408 ≤ 5632) : concatenate S8192x2816 1 [⟨S8192x1408, mat .f32 (cols o 1408 h v)⟩, ⟨S8192x1408, mat .f32 (cols o' 1408 h' v)⟩]
      concatenates_S8192x1408_S8192x1408_S8192x2816_d1 = mat .f32 (cols o 2816 (by omega) v) := by
  subst e
  funext i
  idx_vars i
  pointwise []
  simp only [mat_at, coe_dite, cols]
  refine congrArg Real.toEReal ?_
  split
  · rfl
  · exact congrArg (v i0) (Fin.ext (by dsimp only; omega))

variable (a : Fin 8192 → Fin 2816 → ℝ)

theorem sig_at : Host.divf (F := Ideal) (broadcastInDim S8192x2816 ![] bcast_S_S8192x2816 (constant S_ .f32 0x3F800000#32)) (addf (broadcastInDim S8192x2816 ![] bcast_S_S8192x2816 (constant S_ .f32 0x3F800000#32))
      (Host.exp (Host.negf (mat .f32 a)))) = mat .f32 fun i j => Model.FfnGate.sig (a i j) := by
  funext i
  idx_vars i
  pointwise []
  simp only [mat_at, ← EReal.coe_neg, Ideal.exp_coe, ← EReal.coe_one, ← EReal.coe_add, div_ne (sig_ne _), one_div, Model.FfnGate.sig]

theorem w_half : Ideal.ofBits .f32 0x3F000000#32 = ((1 / 2 : ℝ) : EReal) := by
  simp [Ideal.ofBits, Ideal.ieee, -EReal.coe_mul, -EReal.coe_neg]; norm_num

theorem dact_at : Host.dotGeneral (F := Ideal) dot_S8192x1024_S2816x1024_S8192x2816_1_1_0_0_n_n none (mulf (broadcastInDim S8192x1024 ![] bcast_S_S8192x1024 (constant S_ .f32 0x3F000000#32)) (mat .f32 dy)) (mat .f32 wd)
    = mat .f32 (dact wd dy) := by
  funext i
  idx_vars i
  pointwise []
  simp only [mat_at, w_half, ← EReal.coe_mul, coe_sum, dact]

variable (b d : Fin 8192 → Fin 2816 → ℝ)

theorem act_at : mulf (F := Ideal) (mulf (mat .f32 a) (mat .f32 fun i j => Model.FfnGate.sig (a i j))) (mat .f32 b) = mat .f32 fun i j => a i j * Model.FfnGate.sig (a i j) * b i j := by
  funext i
  idx_vars i
  pointwise []
  simp only [mat_at, ← EReal.coe_mul]

/-- The gate's gradient, in differentiation's words. -/
theorem dh_at : addf (F := Ideal) (mulf (mulf (mat .f32 d) (mat .f32 b)) (mat .f32 fun i j => Model.FfnGate.sig (a i j)))
      (mulf (mulf (mat .f32 a) (mulf (mat .f32 d) (mat .f32 b))) (mulf (mat .f32 fun i j => Model.FfnGate.sig (a i j))
        (subf (broadcastInDim S8192x2816 ![] bcast_S_S8192x2816 (constant S_ .f32 0x3F800000#32)) (mat .f32 fun i j => Model.FfnGate.sig (a i j)))))
    = mat .f32 fun i j => d i j * b i j * (Model.FfnGate.sig (a i j) * (1 + a i j * (1 - Model.FfnGate.sig (a i j)))) := by
  funext i
  idx_vars i
  pointwise []
  simp only [mat_at, ← EReal.coe_mul, ← EReal.coe_one, ← EReal.coe_add, ← EReal.coe_sub]
  exact congrArg Real.toEReal (by ring)

/-- A half of a gradient times the transpose of its weights. -/
theorem back_at (s : Fin 8192 → Fin 1408 → ℝ) (v : Fin 1024 → Fin 1408 → ℝ) : Host.dotGeneral (F := Ideal) dot_S8192x1408_S1024x1408_S8192x1024_1_1_0_0_n_n none (mat .f32 s) (mat .f32 v)
    = mat .f32 fun i k => ∑ l, s i l * v k l := by
  funext i
  idx_vars i
  pointwise []
  simp only [mat_at, ← EReal.coe_mul, coe_sum]

theorem sum_at (r s : Fin 8192 → Fin 1024 → ℝ) : addf (F := Ideal) (mat .f32 r) (mat .f32 s) = mat .f32 fun i k => s i k + r i k := by
  funext i
  idx_vars i
  pointwise []
  rw [mat_at, mat_at, mat_at, ← EReal.coe_add, add_comm]

/-- The halves' terms, one after the other. -/
theorem parts_at (r s : Fin 8192 → Fin 1024 → ℝ) : concatenate S2x8192x1024 0 [⟨S1x8192x1024, broadcastInDim S1x8192x1024 ![1, 2] bcast_S8192x1024_S1x8192x1024_1_2 (mat .f32 r)⟩,
      ⟨S1x8192x1024, broadcastInDim S1x8192x1024 ![1, 2] bcast_S8192x1024_S1x8192x1024_1_2 (mat .f32 s)⟩] concatenates_S1x8192x1024_S1x8192x1024_S2x8192x1024_d0
    = mat3 .f32 ![r, s] := by
  funext i
  idx_vars i
  pointwise []
  simp only [mat_at, mat3_at]
  match i0 with
  | ⟨0, _⟩ => exact dif_pos one_pos
  | ⟨1, _⟩ => exact dif_neg (lt_irrefl 1)

/-- Half `s`'s term, its slices taken one by one. -/
theorem part_half (s : Fin 2) (o o' : ℕ) (h : o + 1408 ≤ 2816) (h' : o' + 1408 ≤ 5632) (h'' : o + 1408 ≤ 5632) (eo : o = s.val * 1408) (eo' : o' = 2816 + o) :
    (fun i k => (∑ l, cols o 1408 h (dh x g w wd dy) i l * cols o 1408 h'' w k l) + ∑ l, cols o 1408 h (du x g w wd dy) i l * cols o' 1408 h' w k l) = part x g w wd dy s := by
  subst eo eo'
  funext i k
  unfold part cols
  refine congrArg₂ (· + ·) (Finset.sum_congr rfl fun l _ => ?_) (Finset.sum_congr rfl fun l _ => ?_)
  · exact congrArg (dh x g w wd dy i (half s l) * w k ·) (Fin.ext (by dsimp only; omega))
  · exact congrArg (du x g w wd dy i (half s l) * w k ·) (Fin.ext (by dsimp only; omega))

end

/-- The reference's four results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5632 → ℝ)
    (wd : Dev nD → Fin 2816 → Fin 1024 → ℝ) (dy : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (wd c))
    (h4 : ∀ c : Dev nD, m ((c : Thread nD τ).loc main_arg4) = mat .f32 (dy c)) :
    θ_run defs (onTc (τ := τ) (main (F := Ideal))) ⟨m, fun _ => 0, ρ⟩ fun r => ∀ c : Dev nD,
      r.2.mem ((c : Thread nD τ).loc main_v46) = mat .bf16 (dh (x c) (g c) (w c) (wd c) (dy c))
      ∧ r.2.mem ((c : Thread nD τ).loc main_v47) = mat .bf16 (du (x c) (g c) (w c) (wd c) (dy c))
      ∧ r.2.mem ((c : Thread nD τ).loc main_v50) = mat .bf16 (act (x c) (g c) (w c))
      ∧ r.2.mem ((c : Thread nD τ).loc main_v51) = mat3 .bf16 (part (x c) (g c) (w c) (wd c) (dy c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Reference6Ideal.Value.run (F := Ideal) m ρ)
  obtain ⟨e0, e1, e2, e3, hargs⟩ := h c
  refine ⟨e0.trans ?_, e1.trans ?_, e2.trans ?_, e3.trans ?_, hargs⟩
  · unfold Value.res_main_v46
    rw [h0, h1, h2, h3, h4]
    clean_types
    rw [norm_at, slice_at (hb := by omega), slice_at (hb := by omega), slice_at (hb := by omega), slice_at (hb := by omega), quarter_at, quarter_at,
      quarter_at, quarter_at, halves_at (e := rfl), halves_at (e := rfl), sig_at, dact_at, dh_at]
    rfl
  · unfold Value.res_main_v47
    rw [h0, h1, h2, h3, h4]
    clean_types
    rw [norm_at, slice_at (hb := by omega), slice_at (hb := by omega), quarter_at, quarter_at, halves_at (e := rfl), sig_at, dact_at, act_at, trunc_at]
    refine congrArg (mat .bf16) (funext fun i => funext fun j => ?_)
    exact mul_comm _ (dact (wd c) (dy c) i j)
  · unfold Value.res_main_v50
    rw [h0, h1, h2]
    clean_types
    rw [norm_at, slice_at (hb := by omega), slice_at (hb := by omega), slice_at (hb := by omega), slice_at (hb := by omega), quarter_at, quarter_at,
      quarter_at, quarter_at, halves_at (e := rfl), halves_at (e := rfl), sig_at, act_at]
    rfl
  · unfold Value.res_main_v51
    rw [h0, h1, h2, h3, h4]
    clean_types
    rw [norm_at, slice_at (hb := by omega), slice_at (hb := by omega), slice_at (hb := by omega), slice_at (hb := by omega), quarter_at, quarter_at,
      quarter_at, quarter_at, halves_at (e := rfl), halves_at (e := rfl), sig_at, dact_at, dh_at, act_at]
    rw [show (fun i j => cols 0 2816 (by omega) (z (x c) (g c) (w c)) i j * Model.FfnGate.sig (cols 0 2816 (by omega) (z (x c) (g c) (w c)) i j) * dact (wd c) (dy c) i j) = du (x c) (g c) (w c) (wd c) (dy c)
      from funext fun i => funext fun j => mul_comm _ _]
    change truncf (F := Ideal) .bf16 (concatenate S2x8192x1024 0 [⟨_, broadcastInDim _ _ _ (addf (Host.dotGeneral _ none (extractStridedSlice _ _ (mat .f32 (du (x c) (g c) (w c) (wd c) (dy c))) _) _)
      (Host.dotGeneral _ none (extractStridedSlice _ _ (mat .f32 (dh (x c) (g c) (w c) (wd c) (dy c))) _) _))⟩, ⟨_, broadcastInDim _ _ _ (addf (Host.dotGeneral _ none (extractStridedSlice _ _ (mat .f32 (du (x c) (g c) (w c) (wd c) (dy c))) _) _)
      (Host.dotGeneral _ none (extractStridedSlice _ _ (mat .f32 (dh (x c) (g c) (w c) (wd c) (dy c))) _) _))⟩] _) _ = _
    rw [slice_at (hb := by omega), slice_at (hb := by omega), slice_at (hb := by omega), slice_at (hb := by omega), back_at, back_at, back_at, back_at, sum_at, sum_at, parts_at]
    refine congrArg (mat3 .bf16) (funext fun s => ?_)
    match s with
    | ⟨0, _⟩ => exact part_half _ _ _ _ _ 0 0 2816 _ _ _ rfl rfl
    | ⟨1, _⟩ => exact part_half _ _ _ _ _ 1 1408 4224 _ _ _ rfl rfl

end Cert.Reference6Ideal.FfnGate

end
-- ==== Proof.FfnGateClaim.lean ====
module

public import proofs.«01_k».proof.Defs
public import proofs.«01_k».proof.Proof.Gen.Pre_finite6
public import proofs.«01_k».proof.Proof.Finite
public import proofs.«01_k».proof.Proof.FfnGate
public import proofs.«01_k».proof.Proof.FfnGateRef

/-! The gated feed-forward's claim: the reference's frame, and equal values for finite arguments. -/

@[expose] public section

set_option maxRecDepth 16384

noncomputable section

open Idealize.ShloMosaic Idealize.ShloMosaic.TcCoe Idealize.SL.Sem

namespace Cert.FfnGate

open Lift

theorem frame_reference : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- Finite arguments are arrays of real numbers. -/
theorem real (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) :
    ∃ x g w wd dy, m ((c.tc : Thread Cert.Kernel6Ideal.nD Cert.Kernel6Ideal.τ).loc Cert.Kernel6Ideal.main_arg0) = mat .f32 x
      ∧ m ((c.tc : Thread Cert.Kernel6Ideal.nD Cert.Kernel6Ideal.τ).loc Cert.Kernel6Ideal.main_arg1) = mat .f32 g
      ∧ m ((c.tc : Thread Cert.Kernel6Ideal.nD Cert.Kernel6Ideal.τ).loc Cert.Kernel6Ideal.main_arg2) = mat .f32 w
      ∧ m ((c.tc : Thread Cert.Kernel6Ideal.nD Cert.Kernel6Ideal.τ).loc Cert.Kernel6Ideal.main_arg3) = mat .f32 wd
      ∧ m ((c.tc : Thread Cert.Kernel6Ideal.nD Cert.Kernel6Ideal.τ).loc Cert.Kernel6Ideal.main_arg4) = mat .f32 dy := by
  have e := congrFun (h c) ix0
  unfold Cert.Pre_finite6.fn Cert.Pre_finite6.fn_part1 at e
  simp only [and_one] at e
  obtain ⟨⟨⟨⟨e0, e1⟩, e2⟩, e3⟩, e4⟩ := e
  exact ⟨_, _, _, _, _, mat_of_finite _ _ _ _ _ e0, mat_of_finite _ _ _ _ _ e1, mat_of_finite _ _ _ _ _ e2, mat_of_finite _ _ _ _ _ e3,
    mat_of_finite _ _ _ _ _ e4⟩

theorem algebraic : Cert.algebraic_Kernel6Ideal_Reference6Ideal_pre_finite6 := by
  intro m ρ m' ρ' hpre hag
  choose x g w wd dy h0 h1 h2 h3 h4 using real m hpre
  refine ⟨_, _, _, _, Cert.Kernel6Ideal.FfnGate.run m ρ x g w wd dy h0 h1 h2 h3 h4, ?_⟩
  exact Cert.Reference6Ideal.FfnGate.run m' ρ' x g w wd dy (fun c => (hag c).1.trans (h0 c)) (fun c => (hag c).2.1.trans (h1 c)) (fun c => (hag c).2.2.1.trans (h2 c))
    (fun c => (hag c).2.2.2.1.trans (h3 c)) (fun c => (hag c).2.2.2.2.trans (h4 c))

end Cert.FfnGate

end
-- ==== Proof.FfnNormModel.lean ====
module

public import proofs.«01_k».proof.Proof.Lift

/-! The gradient of the feed-forward's norm over the real numbers: `x` the rows, `g` the norm's gain, `p` the two parts
of the normalised rows' cotangent, `dy` the cotangent of the residual. -/

@[expose] public section

noncomputable section

open Idealize.ShloMosaic Idealize.ShloMosaic.TcCoe

namespace Model.FfnNorm

open Lift

variable {R : ℕ} (x : Fin R → Fin 1024 → ℝ) (g : Fin 1 → Fin 1024 → ℝ) (p : Fin 2 → Fin R → Fin 1024 → ℝ) (dy : Fin R → Fin 1024 → ℝ)

/-- The normalised rows. -/
def xn (i : Fin R) (k : Fin 1024) : ℝ := x i k * rstd 1024 (x i) * g 0 k

/-- The gradient of the rows. -/
def dx (i : Fin R) (k : Fin 1024) : ℝ := dy i k + rmsBack 1024 (x i) (fun k => (p 0 i k + p 1 i k) * g 0 k) k

/-- What row `i` adds to the gradient of the gain. -/
def dgRow (i : Fin R) (k : Fin 1024) : ℝ := (p 0 i k + p 1 i k) * x i k * rstd 1024 (x i)

/-- The gradient of the gain. -/
def dg (_ : Fin 1) (k : Fin 1024) : ℝ := ∑ i, dgRow x p i k

end Model.FfnNorm

end
-- ==== Proof.FfnNorm.lean ====
module

public import proofs.«01_k».proof.Proof.Gen.Kernel7Ideal.Value
public import proofs.«01_k».proof.Proof.FfnNormModel

@[expose] public section

set_option maxRecDepth 16384

noncomputable section

open Idealize.ShloMosaic Idealize.ShloMosaic.TcCoe Idealize.SL.Sem
open Idealize.ShloMosaic.Pipeline (Dat)

namespace Cert.Kernel7Ideal.FfnNorm

open Cert.Kernel7Ideal Cert.Kernel7Ideal.Gen Lift

theorem idx : ∀ t : Fin cfg0.N, win0_0.index t = ![t.val, 0] ∧ win0_1.index t = ![0, 0] ∧ win0_2.index t = ![0, t.val, 0]
    ∧ win0_3.index t = ![t.val, 0] ∧ win0_4.index t = ![t.val, 0] ∧ win0_5.index t = ![0, 0] ∧ win0_6.index t = ![t.val, 0] :=
  (by decide +kernel : ∀ t : Fin grid0.N, _)

section
variable (x : Fin 256 → Fin 1024 → ℝ) (g : Fin 1 → Fin 1024 → ℝ) (p : Fin 2 → Fin 256 → Fin 1024 → ℝ) (dy : Fin 256 → Fin 1024 → ℝ)

theorem rstd_at : k0_pay4 (F := Ideal) (mat .f32 x) = mat .f32 fun i _ => rstd 1024 (x i) := by
  funext i
  idx_vars i
  pointwise [k0_pay4]
  simp (disch := norm_num) only [mat_at, ← EReal.coe_mul, ← EReal.coe_add, coe_sum, w_eps, w_inv1024, ← div_eq_mul_inv, rsqrt_ms]

theorem xn_at : k0_pay5 (F := Ideal) (mat .f32 x) (mat .f32 g) = mat .bf16 (Model.FfnNorm.xn x g) := by
  funext i
  idx_vars i
  unfold k0_pay5
  rw [rstd_at]
  pointwise []
  simp only [mat_at, ← EReal.coe_mul, Model.FfnNorm.xn]

/-- One of the two parts, read by itself. -/
abbrev part (q : Fin 256 → Fin 1024 → ℝ) : FVec Ideal S1x256x1024 .bf16 := mat3 .bf16 fun _ => q

theorem ld_part : View.ld (Val := Elt Ideal) (e' := .bf16) (mat3 .bf16 p) (Rect.unit (s := S2x256x1024) ![0, 0, 0] S1x256x1024.size inb_S2x256x1024_S1x256x1024_0_0_0) = part (p 0)
    ∧ View.ld (Val := Elt Ideal) (e' := .bf16) (mat3 .bf16 p) (Rect.unit (s := S2x256x1024) ![1, 0, 0] S1x256x1024.size inb_S2x256x1024_S1x256x1024_1_0_0) = part (p 1) := by
  constructor
  all_goals
    funext i
    idx_vars i
    obtain rfl := Subsingleton.elim i0 0
    refine (congrArg (mat3 .bf16 p) (funext fun k => Fin.ext ?_)).trans (mat3_at .bf16 p _ i1 i2)
    match k with
    | ⟨0, _⟩ => rfl
    | ⟨1, _⟩ => show 0 + 1 * i1.val = i1.val; omega
    | ⟨2, _⟩ => show 0 + 1 * i2.val = i2.val; omega

theorem sum_at : k0_pay6 (F := Ideal) (part (p 0)) (part (p 1)) = mat .f32 fun i k => p 0 i k + p 1 i k := by
  funext i
  idx_vars i
  pointwise [k0_pay6]
  simp only [mat3_at, mat_at, ← EReal.coe_add]

theorem dx_at : k0_pay1 (F := Ideal) (k0_pay8 (mat .f32 x) (mat .f32 g) (part (p 0)) (part (p 1))) (k0_pay9 (mat .f32 x))
      (k0_pay10 (mat .f32 x) (mat .f32 g) (part (p 0)) (part (p 1))) (mat .f32 dy) = mat .f32 (Model.FfnNorm.dx x g p dy) := by
  funext i
  idx_vars i
  unfold k0_pay8 k0_pay9 k0_pay10 k0_pay7
  rw [sum_at, rstd_at]
  pointwise [k0_pay1]
  simp (disch := norm_num) only [mat_at, ← EReal.coe_mul, ← EReal.coe_add, ← EReal.coe_sub, coe_sum, w_inv1024, ← div_eq_mul_inv]
  rfl

theorem zero_at (j) : k0_pay3 (F := Ideal) j = 0 := by pointwise [k0_pay3]

theorem acc_at (acc : FVec Ideal S1x1024 .f32) (j : S1x1024.Idx) :
    k0_pay2 (F := Ideal) (mat .f32 x) (k0_pay4 (mat .f32 x)) (k0_pay6 (part (p 0)) (part (p 1))) acc j
      = acc j + ((∑ i, Model.FfnNorm.dgRow x p i (j 1) : ℝ) : EReal) := by
  idx_vars j
  rw [sum_at, rstd_at]
  pointwise [k0_pay2]
  simp only [mat_at, ← EReal.coe_mul, coe_sum, Model.FfnNorm.dgRow]

end

section
variable (m : (ℓ : Loc nD τ sig) → Buf (Elt Ideal) ℓ) (c : Dev nD)
  (x : Fin 8192 → Fin 1024 → ℝ) (g : Fin 1 → Fin 1024 → ℝ) (p : Fin 2 → Fin 8192 → Fin 1024 → ℝ) (dy : Fin 8192 → Fin 1024 → ℝ)
  (h0 : m ((c : Thread nD τ).loc main_arg0) = mat .f32 x) (h1 : m ((c : Thread nD τ).loc main_arg1) = mat .f32 g)
  (h2 : m ((c : Thread nD τ).loc main_arg2) = mat3 .f32 p) (h3 : m ((c : Thread nD τ).loc main_arg3) = mat .f32 dy)

/-- The point's rows of both parts. -/
abbrev tiles (t : ℕ) : Fin 2 → Fin 256 → Fin 1024 → ℝ := fun s => tile 256 (p s) t

include h2 in
theorem V_p : V m c main_v0 = mat3 .bf16 p := by
  unfold V hostOps0
  after_results
  rw [h2]
  rfl

/-- The input blocks of point `t`. -/
abbrev Blocks (t : Fin cfg0.N) : Prop := iblk m c 0 t = mat .f32 (tile 256 x t.val) ∧ iblk m c 1 t = mat .f32 g
  ∧ iblk m c 2 t = mat3 .bf16 (tiles p t.val) ∧ iblk m c 3 t = mat .f32 (tile 256 dy t.val)

include h0 h1 h2 h3 in
theorem blocks (t : Fin cfg0.N) : Blocks m c x g p dy t := by
  refine ⟨?_, ?_, ?_, ?_⟩
  all_goals
    have lt : t.val < 32 := lt_of_lt_of_eq t.isLt N_0
    funext i
    idx_vars i
    blk_simp [iblk, idx t]
  · rw [V_main_arg0, h0]; exact mat_tile _ _ _ _ _ (by blk_simp [idx t]) (by blk_simp [idx t])
  · rw [V_main_arg1, h1]; exact mat_whole _ _ _ _ (by blk_simp [idx t]) (by blk_simp [idx t])
  · rw [V_p m c p h2]
    refine (mat3_whole p i0 ⟨t.val * 256 + i1.val, by omega⟩ i2 _ (by blk_simp [idx t]) (by blk_simp [idx t]) (by blk_simp [idx t])).trans ?_
    exact congrArg Real.toEReal (congrFun (tile_row (p i0) (show t.val * 256 + i1.val < 8192 by omega)) i2).symm
  · rw [V_main_arg3, h3]; exact mat_tile _ _ _ _ _ (by blk_simp [idx t]) (by blk_simp [idx t])

include h0 h1 h2 h3 in
theorem rows_out (t : Fin cfg0.N) :
    (outsAt0 m c t.val t.isLt).1 = mat .f32 (Model.FfnNorm.dx (tile 256 x t.val) g (tiles p t.val) (tile 256 dy t.val))
    ∧ (outsAt0 m c t.val t.isLt).2.2 = mat .bf16 (Model.FfnNorm.xn (tile 256 x t.val) g) := by
  obtain ⟨b0, b1, b2, b3⟩ := blocks m c x g p dy h0 h1 h2 h3 t
  obtain ⟨l0, l1⟩ := ld_part (tiles p t.val)
  by_cases h : t.val % 32 = 0
  · rw [outsAt0_A m c t h]
    constructor
    · frame_out
      rw [b0, b1, b2, b3, l0, l1]
      exact dx_at _ _ _ _
    · frame_out
      rw [b0, b1]
      exact xn_at _ _
  · rw [outsAt0_B m c t h]
    constructor
    · frame_out
      rw [b0, b1, b2, b3, l0, l1]
      exact dx_at _ _ _ _
    · frame_out
      rw [b0, b1]
      exact xn_at _ _

theorem dx_tile {t : ℕ} {i : Fin 256} (h : t * 256 + i.val < 8192) (k : Fin 1024) :
    Model.FfnNorm.dx (tile 256 x t) g (tiles p t) (tile 256 dy t) i k = Model.FfnNorm.dx x g p dy ⟨t * 256 + i.val, h⟩ k := by
  simp only [Model.FfnNorm.dx, tile_row _ h]

theorem xn_tile {t : ℕ} {i : Fin 256} (h : t * 256 + i.val < 8192) (k : Fin 1024) :
    Model.FfnNorm.xn (tile 256 x t) g i k = Model.FfnNorm.xn x g ⟨t * 256 + i.val, h⟩ k := by
  simp only [Model.FfnNorm.xn, tile_row _ h]

theorem dgRow_tile {t : ℕ} {i : Fin 256} (h : t * 256 + i.val < 8192) (k : Fin 1024) :
    Model.FfnNorm.dgRow (tile 256 x t) (tiles p t) i k = Model.FfnNorm.dgRow x p ⟨t * 256 + i.val, h⟩ k := by
  simp only [Model.FfnNorm.dgRow, tile_row _ h]

include h0 h1 h2 h3 in
theorem dx_final : (dats m 0 c).arrAt 4 cfg0.N = mat .f32 (Model.FfnNorm.dx x g p dy) := by
  refine (dats m 0 c).arrAt_eq_of_covers 4 _ (by decide +kernel) fun t hf y => ?_
  blk_simp
  rw [after0_4, (rows_out m c x g p dy h0 h1 h2 h3 t).1]
  idx_vars y
  have lt : t.val < 32 := lt_of_lt_of_eq t.isLt N_0
  rw [mat_at, dx_tile x g p dy (by omega)]
  exact (mat_whole _ ⟨t.val * 256 + y0.val, by omega⟩ y1 _ (by blk_simp [idx t]) (by blk_simp [idx t])).symm

include h0 h1 h2 h3 in
theorem xn_final : (dats m 0 c).arrAt 6 cfg0.N = mat .bf16 (Model.FfnNorm.xn x g) := by
  refine (dats m 0 c).arrAt_eq_of_covers 6 _ (by decide +kernel) fun t hf y => ?_
  blk_simp
  rw [after0_6, (rows_out m c x g p dy h0 h1 h2 h3 t).2]
  idx_vars y
  have lt : t.val < 32 := lt_of_lt_of_eq t.isLt N_0
  rw [mat_at, xn_tile x g (by omega)]
  exact (mat_whole _ ⟨t.val * 256 + y0.val, by omega⟩ y1 _ (by blk_simp [idx t]) (by blk_simp [idx t])).symm

include h0 h1 h2 h3 in
theorem dg_final : (dats m 0 c).arrAt 5 cfg0.N = mat .f32 (Model.FfnNorm.dg x p) := by
  refine (dats m 0 c).arrAt_eq_of_covers 5 _ (by decide +kernel) fun t hf y => ?_
  blk_simp
  rw [after0_5, Pipeline.eq_sum_fin_of_reset_step_apply_of_flush (fun n h => (outsAt0 m c n h).2.1) 32 (fun _ => 0)
    (fun n j => ((∑ i, Model.FfnNorm.dgRow (tile 256 x n.val) (tiles p n.val) i (j 1) : ℝ) : EReal))
    (fun t h j => by
      obtain ⟨b0, b1, b2, b3⟩ := blocks m c x g p dy h0 h1 h2 h3 t
      obtain ⟨l0, l1⟩ := ld_part (tiles p t.val)
      rw [outsAt0_A m c t h]; frame_out; rw [b0, b2, l0, l1, acc_at, zero_at])
    (fun t h j => by
      obtain ⟨b0, b1, b2, b3⟩ := blocks m c x g p dy h0 h1 h2 h3 t
      obtain ⟨l0, l1⟩ := ld_part (tiles p t.val)
      rw [outsAt0_B m c t h]; frame_out; rw [b0, b2, l0, l1, acc_at])
    t ((flush0_5 t).mp hf) _, zero_add]
  have lt : t.val < 32 := lt_of_lt_of_eq t.isLt N_0
  idx_vars y
  show (∑ s : Fin 32, _ : EReal) = _
  rw [coe_sum]
  refine (congrArg Real.toEReal (sum_tile (fun r => Model.FfnNorm.dgRow x p r y1) _ rfl fun s i hl => ?_)).trans
    (mat_whole (Model.FfnNorm.dg x p) y0 y1 _ (by blk_simp [idx t]) (by blk_simp [idx t])).symm
  have e : 32 * (t.val / 32) + s.val = s.val := by omega
  simp only [e]
  exact dgRow_tile x p hl y1

end

/-- The kernel's three results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (p : Dev nD → Fin 2 → Fin 8192 → Fin 1024 → ℝ)
    (dy : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat3 .f32 (p c)) (h3 : ∀ c : Dev nD, m ((c : Thread nD τ).loc main_arg3) = mat .f32 (dy c)) :
    θ_run defs (onTc (τ := τ) (main (F := Ideal))) ⟨m, fun _ => 0, ρ⟩ fun r => ∀ c : Dev nD,
      r.2.mem ((c : Thread nD τ).loc main_v1_0) = mat .f32 (Model.FfnNorm.dx (x c) (g c) (p c) (dy c))
      ∧ r.2.mem ((c : Thread nD τ).loc main_v1_1) = mat .f32 (Model.FfnNorm.dg (x c) (p c))
      ∧ r.2.mem ((c : Thread nD τ).loc main_v1_2) = mat .bf16 (Model.FfnNorm.xn (x c) (g c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.Kernel7Ideal.Value.run_blocks m ρ)
  obtain ⟨e0, e1, e2, hargs⟩ := h c
  exact ⟨e0.trans (dx_final m c _ _ _ _ (h0 c) (h1 c) (h2 c) (h3 c)), e1.trans (dg_final m c _ _ _ _ (h0 c) (h1 c) (h2 c) (h3 c)),
    e2.trans (xn_final m c _ _ _ _ (h0 c) (h1 c) (h2 c) (h3 c)), hargs⟩

end Cert.Kernel7Ideal.FfnNorm

end
-- ==== Proof.FfnNormRef.lean ====
module

public import proofs.«01_k».proof.Proof.Gen.Reference7Ideal.Run
public import proofs.«01_k».proof.Proof.FfnNormModel

@[expose] public section

set_option maxRecDepth 16384

noncomputable section

open Idealize.ShloMosaic Idealize.ShloMosaic.TcCoe Idealize.SL.Sem

namespace Cert.Reference7Ideal.FfnNorm

open Cert.Reference7Ideal Cert.Reference7Ideal.Gen Lift

/-- The reference's three results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (p : Dev nD → Fin 2 → Fin 8192 → Fin 1024 → ℝ)
    (dy : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat3 .f32 (p c)) (h3 : ∀ c : Dev nD, m ((c : Thread nD τ).loc main_arg3) = mat .f32 (dy c)) :
    θ_run defs (onTc (τ := τ) (main (F := Ideal))) ⟨m, fun _ => 0, ρ⟩ fun r => ∀ c : Dev nD,
      r.2.mem ((c : Thread nD τ).loc main_v39) = mat .f32 (Model.FfnNorm.dx (x c) (g c) (p c) (dy c))
      ∧ r.2.mem ((c : Thread nD τ).loc main_v22) = mat .f32 (Model.FfnNorm.dg (x c) (p c))
      ∧ r.2.mem ((c : Thread nD τ).loc main_v40) = mat .bf16 (Model.FfnNorm.xn (x c) (g c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  refine ⟨(h c).1.trans ?_, (h c).2.1.trans ?_, (h c).2.2.1.trans ?_, (h c).2.2.2⟩
  · unfold Value.res_main_v39
    rw [h0, h1, h2, h3]
    clean_types
    funext i
    idx_vars i
    pointwise []
    simp (disch := norm_num) only [mat_at, mat3_at, ← EReal.coe_mul, ← EReal.coe_add, ← EReal.coe_neg, ← EReal.coe_sub, coe_sum, w_eps, w_1024, w_neghalf, div_ne, rsqrt_ms, div_ms]
    refine congrArg Real.toEReal (?_ : _ = Model.FfnNorm.dx (x c) (g c) (p c) (dy c) i0 i1)
    rw [Model.FfnNorm.dx, ← rms_ref]
  · rw [h0, h2]
    clean_types
    funext i
    idx_vars i
    pointwise []
    simp (disch := norm_num) only [mat_at, mat3_at, ← EReal.coe_mul, ← EReal.coe_add, ← EReal.coe_neg, ← EReal.coe_sub, coe_sum, w_eps, w_1024, w_neghalf, div_ne, rsqrt_ms, div_ms]
    refine congrArg Real.toEReal (?_ : _ = Model.FfnNorm.dg (x c) (p c) i0 i1)
    refine Finset.sum_congr rfl fun i _ => ?_
    rw [mul_comm, ← mul_assoc]
    rfl
  · rw [h0, h1]
    clean_types
    funext i
    idx_vars i
    pointwise []
    simp (disch := norm_num) only [mat_at, ← EReal.coe_mul, ← EReal.coe_add, coe_sum, w_eps, w_1024, div_ne, rsqrt_ms]
    rfl

end Cert.Reference7Ideal.FfnNorm

end
-- ==== Proof.FfnNormClaim.lean ====
module

public import proofs.«01_k».proof.Defs
public import proofs.«01_k».proof.Proof.Gen.Pre_finite7
public import proofs.«01_k».proof.Proof.Finite
public import proofs.«01_k».proof.Proof.FfnNorm
public import proofs.«01_k».proof.Proof.FfnNormRef

/-! The feed-forward norm's claim: the reference's frame, and equal values for finite arguments. -/

@[expose] public section

set_option maxRecDepth 16384

noncomputable section

open Idealize.ShloMosaic Idealize.ShloMosaic.TcCoe Idealize.SL.Sem

namespace Cert.FfnNorm

open Lift

theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- Finite arguments are arrays of real numbers. -/
theorem real (m : (ℓ : Loc Cert.Kernel7Ideal.nD Cert.Kernel7Ideal.τ Cert.Kernel7Ideal.sig) → Buf (Elt Ideal) ℓ)
    (h : Cert.Pre_Kernel7Ideal_finite7 m) (c : Dev Cert.Kernel7Ideal.nD) :
    ∃ x g p dy, m ((c.tc : Thread Cert.Kernel7Ideal.nD Cert.Kernel7Ideal.τ).loc Cert.Kernel7Ideal.main_arg0) = mat .f32 x
      ∧ m ((c.tc : Thread Cert.Kernel7Ideal.nD Cert.Kernel7Ideal.τ).loc Cert.Kernel7Ideal.main_arg1) = mat .f32 g
      ∧ m ((c.tc : Thread Cert.Kernel7Ideal.nD Cert.Kernel7Ideal.τ).loc Cert.Kernel7Ideal.main_arg2) = mat3 .f32 p
      ∧ m ((c.tc : Thread Cert.Kernel7Ideal.nD Cert.Kernel7Ideal.τ).loc Cert.Kernel7Ideal.main_arg3) = mat .f32 dy := by
  have e := congrFun (h c) ix0
  unfold Cert.Pre_finite7.fn Cert.Pre_finite7.fn_part1 at e
  simp only [and_one] at e
  obtain ⟨⟨⟨e0, e1⟩, e2⟩, e3⟩ := e
  exact ⟨_, _, _, _, mat_of_finite _ _ _ _ _ e0, mat_of_finite _ _ _ _ _ e1, mat3_of_finite _ _ _ _ _ e2, mat_of_finite _ _ _ _ _ e3⟩

theorem algebraic : Cert.algebraic_Kernel7Ideal_Reference7Ideal_pre_finite7 := by
  intro m ρ m' ρ' hpre hag
  choose x g p dy h0 h1 h2 h3 using real m hpre
  refine ⟨_, _, _, Cert.Kernel7Ideal.FfnNorm.run m ρ x g p dy h0 h1 h2 h3, ?_⟩
  exact Cert.Reference7Ideal.FfnNorm.run m' ρ' x g p dy (fun c => (hag c).1.trans (h0 c)) (fun c => (hag c).2.1.trans (h1 c)) (fun c => (hag c).2.2.1.trans (h2 c))
    (fun c => (hag c).2.2.2.trans (h3 c))

end Cert.FfnNorm

end
-- ==== Proof.SguModel.lean ====
module

public import proofs.«01_k».proof.Proof.Lift
public import Mathlib.MeasureTheory.Integral.IntervalIntegral.Basic

/-! The spatial gating unit: of rows of 1024 columns the first half is a gate, the second half, after gelu and a layer norm, is
mixed over the positions of each chunk of 128 rows by a causal weight, one for each group of 64 columns, and gated. The gated rows, and the
gradients of the rows, of the weights, of their bias and of the layer norm's gain and shift. -/

@[expose] public section

noncomputable section

open Idealize.ShloMosaic Idealize.ShloMosaic.TcCoe

namespace Model.Sgu

open Lift

/-- The lower triangle, as comparing positions marks it. -/
theorem ind_sge : ∀ a b : Fin 128, Scalar.select (IntOp.cmpi .sge (IntOp.addi (BitVec.ofNat 32 a.val) 0#32) (BitVec.ofNat 32 b.val)) 1#1 0#1 = if b.val ≤ a.val then 1#1 else 0#1 := by
  decide +kernel

theorem sel_ite (p : Prop) [Decidable p] (x y : Ideal .f32) : Scalar.select (if p then 1#1 else 0#1) x y = if p then x else y := by
  split <;> rfl

/-- The error function. -/
def erf (x : ℝ) : ℝ := 2 / √Real.pi * ∫ t in (0 : ℝ)..x, Real.exp (-(t ^ 2))

theorem erf_coe (x : ℝ) : Ideal.erf (x : EReal) = ((erf x : ℝ) : EReal) := rfl

/-- The exact gelu. -/
def gelu (x : ℝ) : ℝ := 1 / 2 * x * (1 + erf (x * √(1 / 2)))

/-- The gelu's derivative, with the error function's slope at zero as a float holds it. -/
def geluD (x : ℝ) : ℝ := 1 / 2 * (1 + erf (x * √(1 / 2))) + x * Real.exp (-(1 / 2) * x * x) * (1 / 2 * (9465531 / 8388608 * √(1 / 2)))

section row

variable (x d g b : Fin 512 → ℝ)

def mean : ℝ := (∑ k, x k) / 512

def centred (j : Fin 512) : ℝ := x j - mean x

/-- The normed row. -/
def xhat (j : Fin 512) : ℝ := centred x j * rstd 512 (centred x)

/-- The layer norm of a row. -/
def ln (j : Fin 512) : ℝ := xhat x j * g j + b j

/-- The layer norm's derivative along `d`. -/
def lnBack (j : Fin 512) : ℝ := rstd 512 (centred x) * (d j * g j - (∑ k, d k * g k) / 512 - xhat x j * ((∑ k, d k * g k * xhat x k) / 512))

end row

section chunk

variable (w : Fin 8 → Fin 128 → Fin 128 → ℝ) (b : Fin 8 → Fin 128 → ℝ) (x y : Fin 128 → Fin 512 → ℝ)

/-- The group of a column. -/
def grp (j : Fin 512) : Fin 8 := ⟨j.val / 64, by omega⟩

/-- The causal weights. -/
def wm (g : Fin 8) (t s : Fin 128) : ℝ := if s.val ≤ t.val then w g t s else 0

/-- A chunk's rows, mixed. -/
def mixed (t : Fin 128) (j : Fin 512) : ℝ := ∑ s, wm w (grp j) t s * x s j + b (grp j) t

/-- The mixing's derivative along `y`. -/
def mixBack (s : Fin 128) (j : Fin 512) : ℝ := ∑ t, wm w (grp j) t s * y t j

end chunk

section rows

variable {R : ℕ} (z : Fin R → Fin 1024 → ℝ) (lg lb : Fin 1 → Fin 512 → ℝ) (w : Fin 8 → Fin 128 → Fin 128 → ℝ) (b : Fin 8 → Fin 128 → ℝ) (dy : Fin R → Fin 512 → ℝ)

/-- The row's half that gates. -/
def u (i : Fin R) (j : Fin 512) : ℝ := z i ⟨j.val, by omega⟩

/-- The row's half that is gated, before its gelu. -/
def v (i : Fin R) (j : Fin 512) : ℝ := z i ⟨512 + j.val, by omega⟩

def gv (i : Fin R) (j : Fin 512) : ℝ := gelu (v z i j)

def vln (i : Fin R) (j : Fin 512) : ℝ := ln (gv z i) (lg 0) (lb 0) j

/-- The mixed rows' cotangent. -/
def dm (i : Fin R) (j : Fin 512) : ℝ := dy i j * gelu (u z i j)

/-- The chunk that holds a row, and the row's place in it. -/
def chunk (x : Fin R → Fin 512 → ℝ) (i : Fin R) : Fin 128 → Fin 512 → ℝ := tile 128 x (i.val / 128)

def pos (i : Fin R) : Fin 128 := ⟨i.val % 128, by omega⟩

def dzu (i : Fin R) (j : Fin 512) : ℝ := dy i j * mixed w b (chunk (vln z lg lb) i) (pos i) j * geluD (u z i j)

/-- The normed rows' cotangent. -/
def dvln (i : Fin R) (j : Fin 512) : ℝ := mixBack w (chunk (dm z dy) i) (pos i) j

def dzv (i : Fin R) (j : Fin 512) : ℝ := lnBack (gv z i) (dvln z w dy i) (lg 0) j * geluD (v z i j)

/-- The gated rows. -/
def out (i : Fin R) (j : Fin 512) : ℝ := gelu (u z i j) * mixed w b (chunk (vln z lg lb) i) (pos i) j

/-- The gradient of the rows. -/
def dz (i : Fin R) (j : Fin 1024) : ℝ := if h : j.val < 512 then dzu z lg lb w b dy i ⟨j.val, h⟩ else dzv z lg w dy i ⟨j.val - 512, by omega⟩

/-- The gradient of the layer norm's gain. -/
def dlg (_ : Fin 1) (j : Fin 512) : ℝ := ∑ i, dvln z w dy i j * xhat (gv z i) j

/-- The gradient of the layer norm's shift. -/
def dlb (_ : Fin 1) (j : Fin 512) : ℝ := ∑ i, dvln z w dy i j

/-- What one chunk adds to the weights' gradient. -/
def dwC (c : ℕ) (g : Fin 8) (t s : Fin 128) : ℝ :=
  ∑ l : Fin 64, tile 128 (dm z dy) c t ⟨g.val * 64 + l.val, by omega⟩ * tile 128 (vln z lg lb) c s ⟨g.val * 64 + l.val, by omega⟩

/-- The gradient of the weights over a number of chunks, before the causal mask. -/
def dwFull (N : ℕ) (g : Fin 8) (t s : Fin 128) : ℝ := ∑ c : Fin N, dwC z lg lb dy c.val g t s

/-- The gradient of the weights. -/
def dw (N : ℕ) (g : Fin 8) (t s : Fin 128) : ℝ := if s.val ≤ t.val then dwFull z lg lb dy N g t s else 0

/-- The cotangents of the mixed rows, summed over the chunks. -/
def dmSum (N : ℕ) (t : Fin 128) (j : Fin 512) : ℝ := ∑ c : Fin N, tile 128 (dm z dy) c.val t j

/-- The gradient of the weights' bias, with columns of zeros behind the eight groups. -/
def db (N : ℕ) (t : Fin 128) (g : Fin 128) : ℝ := ∑ j : Fin 512, if j.val / 64 = g.val then dmSum z dy N t j else 0

end rows

end Model.Sgu

end
-- ==== Proof.SguLanes.lean ====
module

public import proofs.«01_k».proof.Proof.SguModel

/-! The spatial gating unit in tiles of 128 rows and columns, two groups of 64 columns to a tile. -/

@[expose] public section

noncomputable section

open Idealize.ShloMosaic Idealize.ShloMosaic.TcCoe

namespace Model.Sgu

open Lift

theorem w_half : Ideal.ofBits .f32 0x3F000000#32 = ((1 / 2 : ℝ) : EReal) := by
  simp [Ideal.ofBits, Ideal.ieee, -EReal.coe_mul, -EReal.coe_neg]; norm_num

theorem w_one : Ideal.ofBits .f32 0x3F800000#32 = ((1 : ℝ) : EReal) := by
  simp [Ideal.ofBits, Ideal.ieee, -EReal.coe_mul, -EReal.coe_neg]; norm_num

theorem w_512 : Ideal.ofBits .f32 0x44000000#32 = ((512 : ℝ) : EReal) := by
  simp [Ideal.ofBits, Ideal.ieee, -EReal.coe_mul, -EReal.coe_neg]; norm_num

theorem erf_ms (r : ℝ) : FloatOps.erf (F := Ideal) (φ := .f32) (r : EReal) = (erf r : EReal) := erf_coe r

theorem wm_at (w : Fin 8 → Fin 128 → Fin 128 → ℝ) (g : Fin 8) (t s : Fin 128) :
    (if s.val ≤ t.val then mat3 .f32 w (ix3 g t s) else id (constant (F := Ideal) ⟨0, ![]⟩ .f32 0#32) ix0 : Ideal .f32) = ((wm w g t s : ℝ) : EReal) := by
  rw [wm]
  split
  · rfl
  · show Ideal.ofBits .f32 0#32 = _
    simp [Ideal.ofBits, Ideal.ieee]

/-- A lane's half. -/
theorem slt_64 : ∀ j : Fin 128, IntOp.cmpi CmpIPredicate.slt (BitVec.ofNat 32 j.val) 64#32 = if j.val < 64 then 1#1 else 0#1 := by
  decide +kernel

theorem pick (p : Prop) [Decidable p] (a b : ℝ) : Scalar.select (if p then 1#1 else 0#1) (a : EReal) (b : EReal) = ((if p then a else b : ℝ) : EReal) := by
  split <;> rfl

/-- The tile whose first row is `o` and whose first column is `p`. -/
def sub {a b : ℕ} (o p : ℕ) (ho : o + 128 ≤ a) (hp : p + 128 ≤ b) (z : Fin a → Fin b → ℝ) (i j : Fin 128) : ℝ :=
  z ⟨o + i.val, by omega⟩ ⟨p + j.val, by omega⟩

theorem mat_sub {a b o p : ℕ} {φ : FTy} (z : Fin a → Fin b → ℝ)
    (inb : ∀ k, (![o, p] : Fin 2 → ℕ) k + (![128, 128] : Fin 2 → ℕ) k ≤ (⟨2, ![a, b]⟩ : Shape).size k) (ho : o + 128 ≤ a) (hp : p + 128 ≤ b)
    (x : (⟨2, ![128, 128]⟩ : Shape).Idx) : mat φ (sub o p ho hp z) x = mat φ z ((Rect.unit (s := ⟨2, ![a, b]⟩) ![o, p] ![128, 128] inb).emb x) := by
  refine congrArg Real.toEReal (congrArg₂ z (Fin.ext ?_) (Fin.ext ?_))
  · show o + (x 0).val = o + 1 * (x 0).val; omega
  · show p + (x 1).val = p + 1 * (x 1).val; omega

theorem ld_sub {a b o p : ℕ} (z : Fin a → Fin b → ℝ)
    (inb : ∀ k, (![o, p] : Fin 2 → ℕ) k + (![128, 128] : Fin 2 → ℕ) k ≤ (⟨2, ![a, b]⟩ : Shape).size k) (ho : o + 128 ≤ a) (hp : p + 128 ≤ b) :
    (View.ld (Val := Elt Ideal) (e' := .f32) (mat .f32 z) (Rect.unit (s := ⟨2, ![a, b]⟩) ![o, p] ![128, 128] inb) = mat .f32 (sub o p ho hp z))
    ∧ View.ld (Val := Elt Ideal) (e' := .bf16) (mat .bf16 z) (Rect.unit (s := ⟨2, ![a, b]⟩) ![o, p] ![128, 128] inb) = mat .bf16 (sub o p ho hp z) :=
  ⟨funext fun x => (mat_sub z inb ho hp x).symm, funext fun x => (mat_sub z inb ho hp x).symm⟩

/-- The plane of one group. -/
def plane (g : ℕ) (hg : g < 8) (w : Fin 8 → Fin 128 → Fin 128 → ℝ) (_ : Fin 1) (t s : Fin 128) : ℝ := w ⟨g, hg⟩ t s

theorem mat_plane {g : ℕ} {φ : FTy} (w : Fin 8 → Fin 128 → Fin 128 → ℝ)
    (inb : ∀ k, (![g, 0, 0] : Fin 3 → ℕ) k + (![1, 128, 128] : Fin 3 → ℕ) k ≤ (⟨3, ![8, 128, 128]⟩ : Shape).size k) (hg : g < 8)
    (x : (⟨3, ![1, 128, 128]⟩ : Shape).Idx) : mat3 φ (plane g hg w) x = mat3 φ w ((Rect.unit (s := ⟨3, ![8, 128, 128]⟩) ![g, 0, 0] ![1, 128, 128] inb).emb x) := by
  have h0 : (x 0).val < 1 := (x 0).isLt
  refine (mat3_whole w _ _ _ _ ?_ ?_ ?_).symm
  · show g + 1 * (x 0).val = g; omega
  · show 0 + 1 * (x 1).val = (x 1).val; omega
  · show 0 + 1 * (x 2).val = (x 2).val; omega

theorem ld_plane {g : ℕ} (w : Fin 8 → Fin 128 → Fin 128 → ℝ)
    (inb : ∀ k, (![g, 0, 0] : Fin 3 → ℕ) k + (![1, 128, 128] : Fin 3 → ℕ) k ≤ (⟨3, ![8, 128, 128]⟩ : Shape).size k) (hg : g < 8) :
    (View.ld (Val := Elt Ideal) (e' := .f32) (mat3 .f32 w) (Rect.unit (s := ⟨3, ![8, 128, 128]⟩) ![g, 0, 0] ![1, 128, 128] inb) = mat3 .f32 (plane g hg w))
    ∧ View.ld (Val := Elt Ideal) (e' := .bf16) (mat3 .bf16 w) (Rect.unit (s := ⟨3, ![8, 128, 128]⟩) ![g, 0, 0] ![1, 128, 128] inb) = mat3 .bf16 (plane g hg w) :=
  ⟨funext fun x => (mat_plane w inb hg x).symm, funext fun x => (mat_plane w inb hg x).symm⟩

section block

variable {R : ℕ}

theorem chunk_sub {o p : ℕ} {ho : o + 128 ≤ R} {hp : p + 128 ≤ 512} (h : o % 128 = 0) (x : Fin R → Fin 512 → ℝ) (i s j : Fin 128) :
    chunk x ⟨o + i.val, by omega⟩ s ⟨p + j.val, by omega⟩ = sub o p ho hp x s j := by
  unfold chunk
  rw [tile_row x (show (o + i.val) / 128 * 128 + s.val < R by omega)]
  exact congrFun (congrArg x (Fin.ext (show (o + i.val) / 128 * 128 + s.val = o + s.val by omega))) _

theorem pos_sub {o : ℕ} {ho : o + 128 ≤ R} (h : o % 128 = 0) (i : Fin 128) : pos (R := R) ⟨o + i.val, by omega⟩ = i :=
  Fin.ext (show (o + i.val) % 128 = i.val by omega)

theorem grp_lo {p g : ℕ} (h : p = g * 64) {hp : p + 128 ≤ 512} {hg : g < 8} (j : Fin 128) (hj : j.val < 64) : grp ⟨p + j.val, by omega⟩ = ⟨g, hg⟩ :=
  Fin.ext (show (p + j.val) / 64 = g by omega)

theorem grp_hi {p g : ℕ} (h : p + 64 = g * 64) {hp : p + 128 ≤ 512} {hg : g < 8} (j : Fin 128) (hj : ¬j.val < 64) : grp ⟨p + j.val, by omega⟩ = ⟨g, hg⟩ :=
  Fin.ext (show (p + j.val) / 64 = g by omega)

end block

/-- The layer norm of a block's rows. -/
theorem vln_block {S N : ℕ} (z : Fin N → Fin 1024 → ℝ) (lg lb : Fin 1 → Fin 512 → ℝ) (n : ℕ) (h : ∀ i : Fin S, n * S + i.val < N) :
    vln (tile S z n) lg lb = tile S (vln z lg lb) n := by
  funext i j
  rw [tile_row _ (h i)]
  simp only [vln]
  refine congrFun (congrArg (fun f => ln f (lg 0) (lb 0)) (funext fun k => ?_)) j
  simp only [gv, v, tile_row _ (h i)]

end Model.Sgu

end
-- ==== Proof.SguTiles.lean ====
module

public import proofs.«01_k».proof.Proof.Gen.Kernel2Ideal.Value
public import Idealize.ShloMosaic.Lib.Pipeline.ReadBack
public import Idealize.ShloMosaic.Lib.Pipeline.FrameBody
public import proofs.«01_k».proof.Proof.SguLanes

@[expose] public section

set_option maxRecDepth 16384

noncomputable section

open Idealize.ShloMosaic Idealize.ShloMosaic.TcCoe Idealize.SL.Sem
open Idealize.ShloMosaic.Pipeline (Dat)

namespace Cert.Kernel2Ideal.Sgu

open Cert.Kernel2Ideal Cert.Kernel2Ideal.Gen Lift
open Model.Sgu

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_6.index t = ![0, 0, 0] ∧ win0_7.index t = ![0, 0]
    ∧ win0_8.index t = ![t.val, 0] ∧ win0_9.index t = ![0, 0, 0] ∧ win0_10.index t = ![0, 0] ∧ win0_11.index t = ![0, 0]
    ∧ win0_12.index t = ![0, 0] := (by decide +kernel : ∀ t : Fin grid0.N, _)

theorem exp_ms (r : ℝ) : FloatOps.exp (F := Ideal) (φ := .f32) (r : EReal) = (Real.exp r : EReal) := Ideal.exp_coe r
theorem n_half : Named.named (F := Ideal) κ "sqrt_half" (φ := .f32) 0x3F3504F3#32 = ((√(1 / 2) : ℝ) : EReal) := rfl
theorem n_slope : Named.named (F := Ideal) κ "half_erf_slope" (φ := .f32) 0x3ECC422A#32 = ((1 / 2 * (9465531 / 8388608 * √(1 / 2)) : ℝ) : EReal) := rfl

section rows

variable (x d : Fin 256 → Fin 512 → ℝ) (g b : Fin 1 → Fin 512 → ℝ)

theorem centred_at : k0_pay20 (F := Ideal) (mat .f32 x) = mat .f32 fun i => centred fun j => gelu (x i j) := by
  funext i
  idx_vars i
  pointwise [k0_pay20]
  simp (disch := norm_num) only [mat_at, n_half, w_half, w_one, w_512, ← EReal.coe_mul, erf_ms, ← EReal.coe_one, ← EReal.coe_add, coe_sum, div_ne, ← EReal.coe_sub]
  rfl

theorem rstd_at : k0_pay21 (F := Ideal) (mat .f32 x) = mat .f32 fun i (_ : Fin 1) => rstd 512 (centred fun j => gelu (x i j)) := by
  funext i
  idx_vars i
  unfold k0_pay21
  rw [centred_at]
  pointwise []
  simp (disch := norm_num) only [mat_at, w_eps, w_512, ← EReal.coe_mul, ← EReal.coe_add, coe_sum, div_ne, rsqrt_ms]

theorem xhat_at : k0_pay22 (F := Ideal) (mat .f32 x) = mat .f32 fun i => xhat fun j => gelu (x i j) := by
  funext i
  idx_vars i
  unfold k0_pay22
  rw [centred_at, rstd_at]
  pointwise []
  simp only [mat_at, ← EReal.coe_mul, xhat]

theorem vln_at : k0_pay23 (F := Ideal) (mat .f32 x) (mat .f32 g) (mat .f32 b) = mat .bf16 fun i => ln (fun j => gelu (x i j)) (g 0) (b 0) := by
  funext i
  idx_vars i
  unfold k0_pay23
  rw [xhat_at]
  pointwise []
  simp only [mat_at, ← EReal.coe_mul, ← EReal.coe_add, ln]

theorem dlg_at (a : Fin 1 → Fin 512 → ℝ) : k0_pay119 (F := Ideal) (mat .f32 x) (mat .f32 d) (mat .f32 a) = mat .f32 fun i j => a i j + ∑ k, d k j * x k j := by
  funext i
  idx_vars i
  pointwise [k0_pay119]
  simp only [mat_at, ← EReal.coe_mul, ← EReal.coe_add, coe_sum]

theorem dlb_at (a : Fin 1 → Fin 512 → ℝ) : k0_pay120 (F := Ideal) (mat .f32 d) (mat .f32 a) = mat .f32 fun i j => a i j + ∑ k, d k j := by
  funext i
  idx_vars i
  pointwise [k0_pay120]
  simp only [mat_at, ← EReal.coe_add, coe_sum]

theorem dvn_at : k0_pay121 (F := Ideal) (mat .f32 g) (k0_pay21 (mat .f32 x)) (k0_pay22 (mat .f32 x)) (mat .f32 d)
    = mat .f32 fun i => lnBack (fun j => gelu (x i j)) (d i) (g 0) := by
  funext i
  idx_vars i
  rw [rstd_at, xhat_at]
  pointwise [k0_pay121]
  simp (disch := norm_num) only [mat_at, w_512, ← EReal.coe_mul, ← EReal.coe_sub, coe_sum, div_ne, lnBack]

theorem dzv_at : k0_pay1 (F := Ideal) (mat .f32 x) (k0_pay121 (mat .f32 g) (k0_pay21 (mat .f32 x)) (k0_pay22 (mat .f32 x)) (mat .f32 d)) (k0_pay122 (mat .f32 x))
    = mat .bf16 fun i j => lnBack (fun j => gelu (x i j)) (d i) (g 0) j * geluD (x i j) := by
  funext i
  idx_vars i
  rw [dvn_at]
  pointwise [k0_pay1, k0_pay122]
  simp only [mat_at, n_half, n_slope, w_half, w_one, w_neghalf, ← EReal.coe_mul, erf_ms, ← EReal.coe_one, ← EReal.coe_add, exp_ms, Ideal.exp_coe]
  rfl

end rows

/-! ### Tiles of 128 rows and columns -/

/-- The mask of a tile's first 64 columns. -/
abbrev lo : IVec S128x128 1 := k0_pay24 (iota Kind.tc S128x128 32 [1] iota_S128x128_d1_w32)

theorem lo_at (i j : Fin 128) : lo (ix2 i j) = if j.val < 64 then 1#1 else 0#1 := by
  pointwise [k0_pay24]
  exact slt_64 j

section tiles

variable (u y v b : Fin 128 → Fin 128 → ℝ) (w0 w1 : Fin 1 → Fin 128 → Fin 128 → ℝ)

theorem mix_at : k0_pay25 (F := Ideal) (mat3 .bf16 w0) (mat .bf16 v) = mat .f32 fun t j => ∑ s, w0 0 t s * v s j := by
  funext i
  idx_vars i
  pointwise [k0_pay25]
  simp only [mat_at, mat3_at, ← EReal.coe_mul, coe_sum]

theorem dzu_at (m0 m1 : Fin 128 → Fin 128 → ℝ) :
    k0_pay44 (F := Ideal) (mat .f32 u) (k0_pay43 lo (mat .f32 m0) (mat .f32 m1) (mat .f32 b) (mat .f32 y)) (Named.named κ "sqrt_half" 0x3F3504F3#32)
    = mat .bf16 fun i j => y i j * ((if j.val < 64 then m0 i j else m1 i j) + b i j) * geluD (u i j) := by
  funext i
  idx_vars i
  pointwise [k0_pay44, k0_pay43]
  rw [lo_at]
  simp only [mat_at, pick, n_half, n_slope, w_half, w_one, w_neghalf, ← EReal.coe_mul, erf_ms, ← EReal.coe_one, ← EReal.coe_add, exp_ms, Ideal.exp_coe]
  rfl

theorem dm_at : k0_pay45 (F := Ideal) (mat .f32 u) (mat .f32 y) = mat .f32 fun i j => y i j * gelu (u i j) := by
  funext i
  idx_vars i
  pointwise [k0_pay45]
  simp only [mat_at, n_half, w_half, w_one, ← EReal.coe_mul, erf_ms, ← EReal.coe_one, ← EReal.coe_add]
  rfl

theorem dlo_at : k0_pay47 (F := Ideal) lo (mat .f32 u) (mat .f32 y) = mat .bf16 fun i j => if j.val < 64 then y i j * gelu (u i j) else 0 := by
  funext i
  idx_vars i
  unfold k0_pay47
  rw [dm_at]
  pointwise []
  rw [lo_at]
  simp only [mat_at, ← EReal.coe_zero, pick]

theorem dhi_at : k0_pay48 (F := Ideal) lo (mat .f32 u) (mat .f32 y) = mat .bf16 fun i j => if j.val < 64 then 0 else y i j * gelu (u i j) := by
  funext i
  idx_vars i
  unfold k0_pay48
  rw [dm_at]
  pointwise []
  rw [lo_at]
  simp only [mat_at, ← EReal.coe_zero, pick]

theorem dv_at (d0 d1 : Fin 128 → Fin 128 → ℝ) : k0_pay50 (F := Ideal) (mat .bf16 d0) (mat .bf16 d1) (k0_pay49 (mat3 .bf16 w0)) (mat3 .bf16 w1)
    = mat .f32 fun s j => ∑ t, w0 0 s t * d0 t j + ∑ t, w1 0 s t * d1 t j := by
  funext i
  idx_vars i
  pointwise [k0_pay50, k0_pay49]
  simp only [mat_at, mat3_at, ← EReal.coe_mul, ← EReal.coe_add, coe_sum]

theorem dw_at (d : Fin 128 → Fin 128 → ℝ) : k0_pay51 (F := Ideal) (mat .bf16 v) (mat .bf16 d) (mat3 .f32 w0)
    = mat3 .f32 fun _ t s => w0 0 t s + ∑ j, d t j * v s j := by
  funext i
  idx_vars i
  pointwise [k0_pay51]
  simp only [mat_at, mat3_at, ← EReal.coe_mul, ← EReal.coe_add, coe_sum]

theorem db_at : k0_pay46 (F := Ideal) (mat .f32 u) (mat .f32 y) (mat .f32 b) = mat .f32 fun i j => b i j + y i j * gelu (u i j) := by
  funext i
  idx_vars i
  unfold k0_pay46
  rw [dm_at]
  pointwise []
  simp only [mat_at, ← EReal.coe_add]

end tiles

theorem sum_lo (f : Fin 128 → ℝ) : ∑ j : Fin 128, (if j.val < 64 then f j else 0) = ∑ l : Fin 64, f ⟨l.val, by omega⟩ := by
  rw [Fin.sum_univ_add (a := 64) (b := 64) (fun j : Fin (64 + 64) => if j.val < 64 then f j else 0)]
  rw [Finset.sum_congr rfl (fun l _ => if_pos (show (Fin.castAdd 64 l).val < 64 from l.isLt)),
    Finset.sum_congr (s₁ := Finset.univ (α := Fin 64)) rfl (fun l _ => if_neg (show ¬(Fin.natAdd 64 l).val < 64 from fun h => absurd h (Nat.not_lt.2 (Nat.le_add_right _ _)))),
    Finset.sum_const_zero, add_zero]
  rfl

theorem sum_hi (f : Fin 128 → ℝ) : ∑ j : Fin 128, (if j.val < 64 then 0 else f j) = ∑ l : Fin 64, f ⟨64 + l.val, by omega⟩ := by
  rw [Fin.sum_univ_add (a := 64) (b := 64) (fun j : Fin (64 + 64) => if j.val < 64 then 0 else f j)]
  rw [Finset.sum_congr rfl (fun l _ => if_pos (show (Fin.castAdd 64 l).val < 64 from l.isLt)),
    Finset.sum_congr (s₁ := Finset.univ (α := Fin 64)) (g := fun l => f (Fin.natAdd 64 l)) rfl (fun l _ => if_neg (show ¬(Fin.natAdd 64 l).val < 64 from fun h => absurd h (Nat.not_lt.2 (Nat.le_add_right _ _)))),
    Finset.sum_const_zero, zero_add]
  rfl

/-! ### The tiles of a block of 256 rows -/

section block

variable (z : Fin 256 → Fin 1024 → ℝ) (lg lb : Fin 1 → Fin 512 → ℝ) (w : Fin 8 → Fin 128 → Fin 128 → ℝ) (b : Fin 8 → Fin 128 → ℝ) (dy : Fin 256 → Fin 512 → ℝ)

theorem tile_sub {o p : ℕ} (ho : o + 128 ≤ 256) (hp : p + 128 ≤ 512) (c : ℕ) (hc : o = c * 128) (x : Fin 256 → Fin 512 → ℝ) (i j : Fin 128) :
    sub o p ho hp x i j = tile 128 x c i ⟨p + j.val, by omega⟩ := by
  rw [tile_row x (show c * 128 + i.val < 256 by omega)]
  exact congrFun (congrArg x (Fin.ext (show o + i.val = c * 128 + i.val by omega))) _

variable {o p g g' : ℕ} (ho : o + 128 ≤ 256) (hp : p + 128 ≤ 512) (hg : g < 8) (hg' : g' < 8) (h : o % 128 = 0) (h0 : p = g * 64) (h1 : p + 64 = g' * 64)

include h h0 h1 in
theorem dzu_tile : k0_pay44 (F := Ideal) (mat .f32 (sub o p ho hp (u z)))
      (k0_pay43 lo (k0_pay25 (mat3 .bf16 (plane g hg (wm w))) (mat .bf16 (sub o p ho hp (vln z lg lb))))
        (k0_pay26 (mat3 .bf16 (plane g' hg' (wm w))) (mat .bf16 (sub o p ho hp (vln z lg lb))))
        (mat .f32 (sub 0 p (Nat.le_refl _) hp fun t j => b (grp j) t)) (mat .f32 (sub o p ho hp dy))) (Named.named κ "sqrt_half" 0x3F3504F3#32)
    = mat .bf16 (sub o p ho hp (dzu z lg lb w b dy)) := by
  rw [mix_at, show k0_pay26 (F := Ideal) _ _ = _ from mix_at _ _, dzu_at]
  refine congrArg (mat .bf16) (funext fun i => funext fun j => ?_)
  simp only [sub, dzu, mixed]
  rw [pos_sub (ho := ho) h]
  simp only [chunk_sub (ho := ho) (hp := hp) h, sub, plane]
  have e : (⟨0 + i.val, by omega⟩ : Fin 128) = i := Fin.ext (Nat.zero_add _)
  split
  · next hj => rw [grp_lo h0 (hp := hp) (hg := hg) j hj, e]
  · next hj => rw [grp_hi h1 (hp := hp) (hg := hg') j hj, e]

theorem dm_sub (i j : Fin 128) : sub o p ho hp dy i j * gelu (sub o p ho hp (u z) i j) = sub o p ho hp (dm z dy) i j := rfl

include h h0 h1 in
theorem dvln_tile : k0_pay50 (F := Ideal) (k0_pay47 lo (mat .f32 (sub o p ho hp (u z))) (mat .f32 (sub o p ho hp dy)))
      (k0_pay48 lo (mat .f32 (sub o p ho hp (u z))) (mat .f32 (sub o p ho hp dy)))
      (k0_pay49 (mat3 .bf16 (plane g hg fun g s t => wm w g t s))) (mat3 .bf16 (plane g' hg' fun g s t => wm w g t s))
    = mat .f32 (sub o p ho hp (dvln z w dy)) := by
  rw [dlo_at, dhi_at, dv_at]
  refine congrArg (mat .f32) (funext fun i => funext fun j => ?_)
  simp only [sub, dvln, mixBack, plane]
  rw [pos_sub (ho := ho) h]
  simp only [chunk_sub (ho := ho) (hp := hp) h]
  by_cases hj : j.val < 64
  · simp only [if_pos hj, mul_zero, Finset.sum_const_zero, add_zero]
    rw [grp_lo h0 (hp := hp) (hg := hg) j hj]
    rfl
  · simp only [if_neg hj, mul_zero, Finset.sum_const_zero, zero_add]
    rw [grp_hi h1 (hp := hp) (hg := hg') j hj]
    rfl

include h0 in
theorem dw_lo {c : ℕ} (hc : o = c * 128) (a : Fin 8 → Fin 128 → Fin 128 → ℝ) :
    k0_pay51 (F := Ideal) (mat .bf16 (sub o p ho hp (vln z lg lb))) (k0_pay47 lo (mat .f32 (sub o p ho hp (u z))) (mat .f32 (sub o p ho hp dy)))
      (mat3 .f32 (plane g hg a))
    = mat3 .f32 (plane g hg fun g t s => a g t s + dwC z lg lb dy c g t s) := by
  rw [dlo_at, dw_at]
  refine congrArg (mat3 .f32) (funext fun i => funext fun t => funext fun s => ?_)
  show a ⟨g, hg⟩ t s + _ = a ⟨g, hg⟩ t s + dwC z lg lb dy c ⟨g, hg⟩ t s
  refine congrArg (a ⟨g, hg⟩ t s + ·) ?_
  subst h0
  simp only [ite_mul, zero_mul, dm_sub]
  rw [sum_lo]
  exact Finset.sum_congr rfl fun l _ => congrArg₂ (· * ·) (tile_sub ho hp c hc _ _ _) (tile_sub ho hp c hc _ _ _)

include h1 in
theorem dw_hi {c : ℕ} (hc : o = c * 128) (a : Fin 8 → Fin 128 → Fin 128 → ℝ) :
    k0_pay51 (F := Ideal) (mat .bf16 (sub o p ho hp (vln z lg lb))) (k0_pay48 lo (mat .f32 (sub o p ho hp (u z))) (mat .f32 (sub o p ho hp dy)))
      (mat3 .f32 (plane g' hg' a))
    = mat3 .f32 (plane g' hg' fun g t s => a g t s + dwC z lg lb dy c g t s) := by
  rw [dhi_at, dw_at]
  refine congrArg (mat3 .f32) (funext fun i => funext fun t => funext fun s => ?_)
  show a ⟨g', hg'⟩ t s + _ = a ⟨g', hg'⟩ t s + dwC z lg lb dy c ⟨g', hg'⟩ t s
  refine congrArg (a ⟨g', hg'⟩ t s + ·) ?_
  simp only [ite_mul, zero_mul, dm_sub]
  rw [sum_hi]
  exact Finset.sum_congr rfl fun l _ => congrArg₂ (· * ·) ((tile_sub ho hp c hc _ _ _).trans (congrArg _ (Fin.ext (show p + (64 + l.val) = g' * 64 + l.val by omega))))
    ((tile_sub ho hp c hc _ _ _).trans (congrArg _ (Fin.ext (show p + (64 + l.val) = g' * 64 + l.val by omega))))

theorem db_tile {c : ℕ} (hc : o = c * 128) (a : Fin 128 → Fin 512 → ℝ) :
    k0_pay46 (F := Ideal) (mat .f32 (sub o p ho hp (u z))) (mat .f32 (sub o p ho hp dy)) (mat .f32 (sub 0 p (Nat.le_refl _) hp a))
    = mat .f32 (sub 0 p (Nat.le_refl _) hp fun t j => a t j + tile 128 (dm z dy) c t j) := by
  rw [db_at]
  refine congrArg (mat .f32) (funext fun i => funext fun j => ?_)
  show sub 0 p (Nat.le_refl _) hp a i j + _ = sub 0 p (Nat.le_refl _) hp a i j + sub 0 p (Nat.le_refl _) hp (tile 128 (dm z dy) c) i j
  refine congrArg (sub 0 p (Nat.le_refl _) hp a i j + ·) ?_
  refine (dm_sub z dy ho hp i j).trans ((tile_sub ho hp c hc _ _ _).trans ?_)
  exact congrFun (congrArg (tile 128 (dm z dy) c) (Fin.ext (show i.val = 0 + i.val by omega))) _

end block

/-! ### The stores of a block -/

section stores

variable (x0 x2 : Vec Ideal S256x512 .f32) (x5 x6 : Vec Ideal S8x128x128 .bf16) (xn : Vec Ideal S256x512 .bf16) (x7 ad : Vec Ideal S128x512 .f32) (aw : Vec Ideal S8x128x128 .f32)

abbrev In {a b : ℕ} (o p : ℕ) : Prop := ∀ k, (![o, p] : Fin 2 → ℕ) k + (![128, 128] : Fin 2 → ℕ) k ≤ (⟨2, ![a, b]⟩ : Shape).size k

abbrev In3 (g : ℕ) : Prop := ∀ k, (![g, 0, 0] : Fin 3 → ℕ) k + (![1, 128, 128] : Fin 3 → ℕ) k ≤ S8x128x128.size k

abbrev ld2 (x : Vec Ideal S256x512 .f32) (o p : ℕ) (i : In (a := 256) (b := 512) o p) : Vec Ideal S128x128 .f32 :=
  View.ld (Val := Elt Ideal) (e' := .f32) x (Rect.unit (s := S256x512) ![o, p] ![128, 128] i)

abbrev ldn (x : Vec Ideal S256x512 .bf16) (o p : ℕ) (i : In (a := 256) (b := 512) o p) : Vec Ideal S128x128 .bf16 :=
  View.ld (Val := Elt Ideal) (e' := .bf16) x (Rect.unit (s := S256x512) ![o, p] ![128, 128] i)

abbrev ldb (x : Vec Ideal S128x512 .f32) (p : ℕ) (i : In (a := 128) (b := 512) 0 p) : Vec Ideal S128x128 .f32 :=
  View.ld (Val := Elt Ideal) (e' := .f32) x (Rect.unit (s := S128x512) ![0, p] ![128, 128] i)

abbrev ld3 (x : Vec Ideal S8x128x128 .bf16) (g : ℕ) (i : In3 g) : Vec Ideal S1x128x128 .bf16 :=
  View.ld (Val := Elt Ideal) (e' := .bf16) x (Rect.unit (s := S8x128x128) ![g, 0, 0] ![1, 128, 128] i)

abbrev lda (x : Vec Ideal S8x128x128 .f32) (g : ℕ) (i : In3 g) : Vec Ideal S1x128x128 .f32 :=
  View.ld (Val := Elt Ideal) (e' := .f32) x (Rect.unit (s := S8x128x128) ![g, 0, 0] ![1, 128, 128] i)

def dvTile (o p g g' : ℕ) (i : In (a := 256) (b := 512) o p := by decide) (j : In3 g := by decide) (j' : In3 g' := by decide) : View.Piece (Elt Ideal) S256x512 .f32 :=
  ⟨Rect.unit ![o, p] ![128, 128] i, k0_pay50 (k0_pay47 lo (ld2 x0 o p i) (ld2 x2 o p i)) (k0_pay48 lo (ld2 x0 o p i) (ld2 x2 o p i)) (k0_pay49 (ld3 x6 g j)) (ld3 x6 g' j')⟩

def dvTiles : List (View.Piece (Elt Ideal) S256x512 .f32) :=
  [dvTile x0 x2 x6 128 384 6 7, dvTile x0 x2 x6 128 256 4 5, dvTile x0 x2 x6 128 128 2 3, dvTile x0 x2 x6 128 0 0 1,
    dvTile x0 x2 x6 0 384 6 7, dvTile x0 x2 x6 0 256 4 5, dvTile x0 x2 x6 0 128 2 3, dvTile x0 x2 x6 0 0 0 1]

/-- The normed rows' cotangents, read back. -/
abbrev dvn {sig κ sp} (s1 : View sig κ sp S256x512 .f32) (inb : ∀ k, (![0, 0] : Fin 2 → ℕ) k + (![256, 512] : Fin 2 → ℕ) k ≤ S256x512.size k) : Vec Ideal S256x512 .f32 :=
  s1.readCov (dvTiles x0 x2 x6) (Rect.unit (s := S256x512) ![0, 0] ![256, 512] inb).toLoadRect

def dzTile (o p g g' : ℕ) (i : In (a := 256) (b := 512) o p := by decide) (i' : In (a := 256) (b := 1024) o p := by decide) (k : In (a := 128) (b := 512) 0 p := by decide)
    (j : In3 g := by decide) (j' : In3 g' := by decide) : View.Piece (Elt Ideal) S256x1024 .bf16 :=
  ⟨Rect.unit ![o, p] ![128, 128] i', k0_pay44 (ld2 x0 o p i) (k0_pay43 lo (k0_pay25 (ld3 x5 g j) (ldn xn o p i)) (k0_pay26 (ld3 x5 g' j') (ldn xn o p i)) (ldb x7 p k) (ld2 x2 o p i))
    (Named.named κ "sqrt_half" 0x3F3504F3#32)⟩

def dzTiles : List (View.Piece (Elt Ideal) S256x1024 .bf16) :=
  [dzTile x0 x2 x5 xn x7 128 384 6 7, dzTile x0 x2 x5 xn x7 128 256 4 5, dzTile x0 x2 x5 xn x7 128 128 2 3, dzTile x0 x2 x5 xn x7 128 0 0 1,
    dzTile x0 x2 x5 xn x7 0 384 6 7, dzTile x0 x2 x5 xn x7 0 256 4 5, dzTile x0 x2 x5 xn x7 0 128 2 3, dzTile x0 x2 x5 xn x7 0 0 0 1]

def dwLo (p g : ℕ) (i0 : In (a := 256) (b := 512) 0 p := by decide) (i1 : In (a := 256) (b := 512) 128 p := by decide) (j : In3 g := by decide) : Vec Ideal S1x128x128 .f32 :=
  k0_pay51 (ldn xn 128 p i1) (k0_pay47 lo (ld2 x0 128 p i1) (ld2 x2 128 p i1)) (k0_pay51 (ldn xn 0 p i0) (k0_pay47 lo (ld2 x0 0 p i0) (ld2 x2 0 p i0)) (lda aw g j))

def dwHi (p g : ℕ) (i0 : In (a := 256) (b := 512) 0 p := by decide) (i1 : In (a := 256) (b := 512) 128 p := by decide) (j : In3 g := by decide) : Vec Ideal S1x128x128 .f32 :=
  k0_pay51 (ldn xn 128 p i1) (k0_pay48 lo (ld2 x0 128 p i1) (ld2 x2 128 p i1)) (k0_pay51 (ldn xn 0 p i0) (k0_pay48 lo (ld2 x0 0 p i0) (ld2 x2 0 p i0)) (lda aw g j))

/-- A store of one group's plane. -/
def row3 (g : ℕ) (x : Vec Ideal S1x128x128 .f32) (j : In3 g := by decide) : View.Piece (Elt Ideal) S8x128x128 .f32 := ⟨Rect.unit ![g, 0, 0] ![1, 128, 128] j, x⟩

def dwTiles (f : Vec Ideal S1x128x128 .f32 → Vec Ideal S1x128x128 .f32) : List (View.Piece (Elt Ideal) S8x128x128 .f32) :=
  [row3 7 (f (dwHi x0 x2 xn aw 384 7)), row3 6 (f (dwLo x0 x2 xn aw 384 6)), row3 5 (f (dwHi x0 x2 xn aw 256 5)), row3 4 (f (dwLo x0 x2 xn aw 256 4)),
    row3 3 (f (dwHi x0 x2 xn aw 128 3)), row3 2 (f (dwLo x0 x2 xn aw 128 2)), row3 1 (f (dwHi x0 x2 xn aw 0 1)), row3 0 (f (dwLo x0 x2 xn aw 0 0))]

def dbTile (p : ℕ) (i0 : In (a := 256) (b := 512) 0 p := by decide) (i1 : In (a := 256) (b := 512) 128 p := by decide) (j : In (a := 128) (b := 512) 0 p := by decide) :
    View.Piece (Elt Ideal) S128x512 .f32 :=
  ⟨Rect.unit ![0, p] ![128, 128] j, k0_pay46 (ld2 x0 128 p i1) (ld2 x2 128 p i1) (k0_pay46 (ld2 x0 0 p i0) (ld2 x2 0 p i0) (ldb ad p j))⟩

def dbTiles : List (View.Piece (Elt Ideal) S128x512 .f32) := [dbTile x0 x2 ad 384, dbTile x0 x2 ad 256, dbTile x0 x2 ad 128, dbTile x0 x2 ad 0]

end stores

section blockOut

variable (z : Fin 256 → Fin 1024 → ℝ) (lg lb : Fin 1 → Fin 512 → ℝ) (w : Fin 8 → Fin 128 → Fin 128 → ℝ) (b : Fin 8 → Fin 128 → ℝ) (dy : Fin 256 → Fin 512 → ℝ)

/-- The causal weights with their two positions exchanged. -/
abbrev wmT (g : Fin 8) (s t : Fin 128) : ℝ := wm w g t s

theorem dv_piece (o p g g' : ℕ) (i j j') (ho : o + 128 ≤ 256) (hp : p + 128 ≤ 512) (hg : g < 8) (hg' : g' < 8) (h : o % 128 = 0) (h0 : p = g * 64) (h1 : p + 64 = g' * 64)
    (x : S128x128.Idx) : (dvTile (mat .f32 (u z)) (mat .f32 dy) (mat3 .bf16 (wmT w)) o p g g' i j j').2 x = mat .f32 (dvln z w dy) ((Rect.unit (s := S256x512) ![o, p] ![128, 128] i).emb x) := by
  unfold dvTile
  rw [← mat_sub (φ := .f32) (dvln z w dy) i ho hp, ← dvln_tile z w dy ho hp hg hg' h h0 h1]
  show k0_pay50 _ _ _ _ x = _
  rw [ld2, ld2, (ld_sub (u z) i ho hp).1, (ld_sub dy i ho hp).1, ld3, ld3, (ld_plane (wmT w) j hg).2, (ld_plane (wmT w) j' hg').2]

theorem dv_whole {sig κ sp} (v : View sig κ sp S256x512 .f32) (inb) :
    v.readCov (dvTiles (mat .f32 (u z)) (mat .f32 dy) (mat3 .bf16 (wmT w))) (Rect.unit (s := S256x512) ![0, 0] ![256, 512] inb).toLoadRect = mat .f32 (dvln z w dy) := by
  rw [View.readCov_eq_canon']
  funext x
  refine (View.canon_apply_of_pieces (mat .f32 (dvln z w dy)) _ (View.PiecesOf.mem ?_) _ (View.cover_of_tiledBy _ ![128, 128] (by sl_kernel_rfl) _)).trans ?_
  · refine ⟨?_, ?_, ?_, ?_, ?_, ?_, ?_, ?_, trivial⟩
    all_goals exact dv_piece z w dy _ _ _ _ _ _ _ (by decide) (by decide) (by decide) (by decide) (by decide) (by decide) (by decide)
  · refine congrArg (mat .f32 (dvln z w dy)) (funext fun k => Fin.ext ?_)
    match k with
    | ⟨0, _⟩ => show 0 + 1 * (x 0).val = (x 0).val; omega
    | ⟨1, _⟩ => show 0 + 1 * (x 1).val = (x 1).val; omega

theorem dz_piece (o p g g' : ℕ) (i i' k j j') (ho : o + 128 ≤ 256) (hp : p + 128 ≤ 512) (hg : g < 8) (hg' : g' < 8) (h : o % 128 = 0) (h0 : p = g * 64) (h1 : p + 64 = g' * 64)
    (x : S128x128.Idx) : (dzTile (mat .f32 (u z)) (mat .f32 dy) (mat3 .bf16 (wm w)) (mat .bf16 (vln z lg lb)) (mat .f32 fun t j => b (grp j) t) o p g g' i i' k j j').2 x
      = mat .bf16 (dz z lg lb w b dy) ((Rect.unit (s := S256x1024) ![o, p] ![128, 128] i').emb x) := by
  unfold dzTile
  rw [← mat_sub (φ := .bf16) (dz z lg lb w b dy) i' ho (by omega)]
  have e : sub o p ho (by omega) (dz z lg lb w b dy) = sub o p ho hp (dzu z lg lb w b dy) :=
    funext fun r => funext fun s => dif_pos (show p + s.val < 512 by omega)
  rw [e, ← dzu_tile z lg lb w b dy ho hp hg hg' h h0 h1]
  show k0_pay44 _ _ _ x = _
  rw [ld2, ld2, ldn, ldb, (ld_sub (u z) i ho hp).1, (ld_sub dy i ho hp).1, (ld_sub (vln z lg lb) i ho hp).2, (ld_sub _ k (Nat.le_refl _) hp).1, ld3, ld3,
    (ld_plane (wm w) j hg).2, (ld_plane (wm w) j' hg').2]

theorem dz_block {sig κ sp} (s1 : View sig κ sp S256x512 .f32) (inb i1) :
    View.canon ((⟨Rect.unit (s := S256x1024) ![0, 512] ![256, 512] i1, k0_pay1 (F := Ideal) (mat .f32 (v z)) (k0_pay121 (mat .f32 lg) (k0_pay21 (mat .f32 (v z))) (k0_pay22 (mat .f32 (v z)))
        (dvn (mat .f32 (u z)) (mat .f32 dy) (mat3 .bf16 (wmT w)) s1 inb)) (k0_pay122 (mat .f32 (v z)))⟩ : View.Piece (Elt Ideal) S256x1024 .bf16)
      :: dzTiles (mat .f32 (u z)) (mat .f32 dy) (mat3 .bf16 (wm w)) (k0_pay23 (F := Ideal) (mat .f32 (v z)) (mat .f32 lg) (mat .f32 lb)) (mat .f32 fun t j => b (grp j) t))
    = mat .bf16 (dz z lg lb w b dy) := by
  rw [show dvn _ _ _ s1 inb = _ from dv_whole z w dy s1 inb, dzv_at, vln_at]
  funext x
  refine View.canon_apply_of_pieces (Val := Elt Ideal) (e := .bf16) (mat .bf16 (dz z lg lb w b dy)) _ (View.PiecesOf.mem ?_) _ (View.cover_of_tiledBy (s := S256x1024) _ ![128, 128] (by sl_kernel_rfl) _)
  refine ⟨fun y => ?_, ?_, ?_, ?_, ?_, ?_, ?_, ?_, ?_, trivial⟩
  · have hy : (y 1).val < 512 := (y 1).isLt
    refine Eq.trans ?_ (mat_whole (dz z lg lb w b dy) (y 0) ⟨512 + (y 1).val, by omega⟩ _ ?_ ?_).symm
    · refine congrArg Real.toEReal ?_
      refine Eq.trans ?_ (dif_neg (show ¬512 + (y 1).val < 512 by omega)).symm
      exact congrArg (dzv z lg w dy (y 0)) (Fin.ext (show (y 1).val = 512 + (y 1).val - 512 by omega))
    · show 0 + 1 * (y 0).val = (y 0).val; omega
    · show 512 + 1 * (y 1).val = 512 + (y 1).val; omega
  all_goals exact dz_piece z lg lb w b dy _ _ _ _ _ _ _ _ _ (by decide) (by decide) (by decide) (by decide) (by decide) (by decide) (by decide)

theorem dlg_block {sig κ sp} (s1 : View sig κ sp S256x512 .f32) (inb) (a : Fin 1 → Fin 512 → ℝ) :
    k0_pay119 (F := Ideal) (k0_pay22 (mat .f32 (v z))) (dvn (mat .f32 (u z)) (mat .f32 dy) (mat3 .bf16 (wmT w)) s1 inb) (mat .f32 a)
    = mat .f32 fun i j => a i j + dlg z w dy i j := by
  rw [show dvn _ _ _ s1 inb = _ from dv_whole z w dy s1 inb, xhat_at, dlg_at]
  rfl

theorem dlb_block {sig κ sp} (s1 : View sig κ sp S256x512 .f32) (inb) (a : Fin 1 → Fin 512 → ℝ) :
    k0_pay120 (F := Ideal) (dvn (mat .f32 (u z)) (mat .f32 dy) (mat3 .bf16 (wmT w)) s1 inb) (mat .f32 a)
    = mat .f32 fun i j => a i j + dlb z w dy i j := by
  rw [show dvn _ _ _ s1 inb = _ from dv_whole z w dy s1 inb, dlb_at]
  rfl

/-- What the block's two chunks add to the weights' gradient. -/
def dwAdd (a : Fin 8 → Fin 128 → Fin 128 → ℝ) (g : Fin 8) (t s : Fin 128) : ℝ := a g t s + dwC z lg lb dy 0 g t s + dwC z lg lb dy 1 g t s

theorem dwLo_at (a : Fin 8 → Fin 128 → Fin 128 → ℝ) (p g : ℕ) (i0 i1 j) (hp : p + 128 ≤ 512) (hg : g < 8) (h0 : p = g * 64) :
    dwLo (mat .f32 (u z)) (mat .f32 dy) (mat .bf16 (vln z lg lb)) (mat3 .f32 a) p g i0 i1 j = mat3 .f32 (plane g hg (dwAdd z lg lb dy a)) := by
  unfold dwLo
  rw [ldn, ldn, ld2, ld2, ld2, ld2, lda, (ld_sub (u z) i0 (by decide) hp).1, (ld_sub dy i0 (by decide) hp).1, (ld_sub (vln z lg lb) i0 (by decide) hp).2,
    (ld_sub (u z) i1 (by decide) hp).1, (ld_sub dy i1 (by decide) hp).1, (ld_sub (vln z lg lb) i1 (by decide) hp).2, (ld_plane a j hg).1,
    dw_lo z lg lb dy (by decide) hp hg h0 (c := 0) rfl, dw_lo z lg lb dy (by decide) hp hg h0 (c := 1) rfl]
  rfl

theorem dwHi_at (a : Fin 8 → Fin 128 → Fin 128 → ℝ) (p g : ℕ) (i0 i1 j) (hp : p + 128 ≤ 512) (hg : g < 8) (h1 : p + 64 = g * 64) :
    dwHi (mat .f32 (u z)) (mat .f32 dy) (mat .bf16 (vln z lg lb)) (mat3 .f32 a) p g i0 i1 j = mat3 .f32 (plane g hg (dwAdd z lg lb dy a)) := by
  unfold dwHi
  rw [ldn, ldn, ld2, ld2, ld2, ld2, lda, (ld_sub (u z) i0 (by decide) hp).1, (ld_sub dy i0 (by decide) hp).1, (ld_sub (vln z lg lb) i0 (by decide) hp).2,
    (ld_sub (u z) i1 (by decide) hp).1, (ld_sub dy i1 (by decide) hp).1, (ld_sub (vln z lg lb) i1 (by decide) hp).2, (ld_plane a j hg).1,
    dw_hi z lg lb dy (by decide) hp hg h1 (c := 0) rfl, dw_hi z lg lb dy (by decide) hp hg h1 (c := 1) rfl]
  rfl

theorem dw_block (a : Fin 8 → Fin 128 → Fin 128 → ℝ) (f : Vec Ideal S1x128x128 .f32 → Vec Ideal S1x128x128 .f32) (q : (Fin 8 → Fin 128 → Fin 128 → ℝ) → Fin 8 → Fin 128 → Fin 128 → ℝ)
    (hf : ∀ g hg a, f (mat3 .f32 (plane g hg a)) = mat3 .f32 (plane g hg (q a))) (L : List (View.Piece (Elt Ideal) S8x128x128 .f32)) :
    View.canon (dwTiles (mat .f32 (u z)) (mat .f32 dy) (k0_pay23 (F := Ideal) (mat .f32 (v z)) (mat .f32 lg) (mat .f32 lb)) (mat3 .f32 a) f ++ L) = mat3 .f32 (q (dwAdd z lg lb dy a)) := by
  rw [vln_at]
  change View.canon (dwTiles (mat .f32 (u z)) (mat .f32 dy) (mat .bf16 (vln z lg lb)) (mat3 .f32 a) f ++ L) = _
  funext x
  refine View.canon_append_of_piecesOf (mat3 .f32 (q (dwAdd z lg lb dy a))) L _ ?_ _ (View.cover_of_tiledBy _ ![1, 128, 128] (by sl_kernel_rfl) _)
  have e : ∀ (g : ℕ) (y : Vec Ideal S1x128x128 .f32) (j : In3 g) (hg : g < 8), y = mat3 .f32 (plane g hg (dwAdd z lg lb dy a)) →
      ∀ x, (row3 g (f y) j).2 x = mat3 .f32 (q (dwAdd z lg lb dy a)) ((Rect.unit (s := S8x128x128) ![g, 0, 0] ![1, 128, 128] j).emb x) := fun g y j hg hy x => by
    subst hy
    exact (congrFun (hf g hg _) x).trans (mat_plane _ j hg x)
  refine ⟨?_, ?_, ?_, ?_, ?_, ?_, ?_, ?_, trivial⟩
  · exact e _ _ _ (by decide) (dwHi_at z lg lb dy a 384 7 _ _ _ (by decide) (by decide) (by decide))
  · exact e _ _ _ (by decide) (dwLo_at z lg lb dy a 384 6 _ _ _ (by decide) (by decide) (by decide))
  · exact e _ _ _ (by decide) (dwHi_at z lg lb dy a 256 5 _ _ _ (by decide) (by decide) (by decide))
  · exact e _ _ _ (by decide) (dwLo_at z lg lb dy a 256 4 _ _ _ (by decide) (by decide) (by decide))
  · exact e _ _ _ (by decide) (dwHi_at z lg lb dy a 128 3 _ _ _ (by decide) (by decide) (by decide))
  · exact e _ _ _ (by decide) (dwLo_at z lg lb dy a 128 2 _ _ _ (by decide) (by decide) (by decide))
  · exact e _ _ _ (by decide) (dwHi_at z lg lb dy a 0 1 _ _ _ (by decide) (by decide) (by decide))
  · exact e _ _ _ (by decide) (dwLo_at z lg lb dy a 0 0 _ _ _ (by decide) (by decide) (by decide))

/-- What the block's two chunks add to the sum of the mixed rows' cotangents. -/
def dbAdd (a : Fin 128 → Fin 512 → ℝ) (t : Fin 128) (j : Fin 512) : ℝ := a t j + tile 128 (dm z dy) 0 t j + tile 128 (dm z dy) 1 t j

theorem db_piece (a : Fin 128 → Fin 512 → ℝ) (p : ℕ) (i0 i1 j) (hp : p + 128 ≤ 512) (x : S128x128.Idx) :
    (dbTile (mat .f32 (u z)) (mat .f32 dy) (mat .f32 a) p i0 i1 j).2 x = mat .f32 (dbAdd z dy a) ((Rect.unit (s := S128x512) ![0, p] ![128, 128] j).emb x) := by
  unfold dbTile
  show k0_pay46 _ _ _ x = _
  rw [ld2, ld2, ld2, ld2, ldb, (ld_sub (u z) i0 (by decide) hp).1, (ld_sub dy i0 (by decide) hp).1, (ld_sub (u z) i1 (by decide) hp).1, (ld_sub dy i1 (by decide) hp).1,
    (ld_sub a j (by decide) hp).1, db_tile z dy (by decide) hp (c := 0) rfl, db_tile z dy (by decide) hp (c := 1) rfl]
  exact mat_sub (dbAdd z dy a) j (by decide) hp x

theorem db_block (a : Fin 128 → Fin 512 → ℝ) (L : List (View.Piece (Elt Ideal) S128x512 .f32)) :
    View.canon (dbTiles (mat .f32 (u z)) (mat .f32 dy) (mat .f32 a) ++ L) = mat .f32 (dbAdd z dy a) := by
  funext x
  refine View.canon_append_of_piecesOf (mat .f32 (dbAdd z dy a)) L _ ?_ _ (View.cover_of_tiledBy _ ![128, 128] (by sl_kernel_rfl) _)
  refine ⟨?_, ?_, ?_, ?_, trivial⟩
  all_goals exact db_piece z dy a _ _ _ _ (by decide)

end blockOut

end Cert.Kernel2Ideal.Sgu

end
-- ==== Proof.SguEnd.lean ====
module

public import proofs.«01_k».proof.Proof.SguTiles

/-! What the spatial gating unit does once: the zeros its sums start from, and at the last block the causal mask and the lanes' sums. -/

@[expose] public section

set_option maxRecDepth 16384
noncomputable section

open Idealize.ShloMosaic Idealize.ShloMosaic.TcCoe Idealize.SL.Sem
open Idealize.ShloMosaic.Pipeline (Dat)

namespace Cert.Kernel2Ideal.Sgu

open Cert.Kernel2Ideal Cert.Kernel2Ideal.Gen Lift
open Model.Sgu

theorem ind_sle : ∀ a b : Fin 128, BitVec.setWidth 32 (IntOp.cmpi .sle (BitVec.ofNat 32 a.val) (BitVec.ofNat 32 b.val)) = if a.val ≤ b.val then 1#32 else 0#32 := by
  decide +kernel

theorem ind_eq : ∀ a b : Fin 128, BitVec.setWidth 32 (IntOp.cmpi .eq (BitVec.ofNat 32 a.val) (BitVec.ofNat 32 b.val)) = if a.val = b.val then 1#32 else 0#32 := by
  decide +kernel

/-- The group of a row of the lanes' indicator, which the kernel divides out towards minus infinity. -/
theorem div_64 : ∀ x : Fin 512, Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 x.val) 64#32) 0#32))
      (IntOp.subi (IntOp.divsi ArithUnit.vector (BitVec.ofNat 32 x.val) 64#32) 1#32)
      (IntOp.divsi ArithUnit.vector (BitVec.ofNat 32 x.val) 64#32) = BitVec.ofNat 32 (x.val / 64) := by
  decide +kernel

theorem sitofp_ite (p : Prop) [Decidable p] : FloatOps.sitofp (F := Ideal) .f32 (if p then 1#32 else 0#32) = (((if p then 1 else 0 : ℝ)) : EReal) := by
  split
  · show (((1#32 : BitVec 32).toInt : ℝ) : EReal) = _
    norm_num
  · show (((0#32 : BitVec 32).toInt : ℝ) : EReal) = _
    norm_num

theorem tri_at : k0_pay3 (F := Ideal) = mat .f32 fun t s : Fin 128 => if s.val ≤ t.val then 1 else 0 := by
  funext i
  idx_vars i
  pointwise [k0_pay3]
  rw [ind_sle, sitofp_ite]
  rfl

/-- The causal mask on one group's plane. -/
theorem mask_at (g : ℕ) (hg : g < 8) (a : Fin 8 → Fin 128 → Fin 128 → ℝ) :
    k0_pay4 (F := Ideal) (mat3 .f32 (plane g hg a)) = mat3 .f32 (plane g hg fun g t s => if s.val ≤ t.val then a g t s else 0) := by
  funext i
  idx_vars i
  unfold k0_pay4
  rw [tri_at]
  pointwise []
  rw [mat3_at, mat_at, mat3_at, ← EReal.coe_mul]
  refine congrArg Real.toEReal ?_
  rw [mul_ite, mul_one, mul_zero]
  rfl

theorem bias_at (S : Fin 128 → Fin 512 → ℝ) :
    k0_pay2 (F := Ideal) (iota .tc S512x128 32 [0] iota_S512x128_d0_w32) (iota .tc S512x128 32 [1] iota_S512x128_d1_w32) 64#32 k0_pay12 k0_pay13 k0_pay14 (mat .f32 S)
      = mat .f32 fun t g => ∑ j : Fin 512, if j.val / 64 = g.val then S t j else 0 := by
  funext i
  idx_vars i
  pointwise [k0_pay2, k0_pay12, k0_pay13, k0_pay14]
  simp only [div_64, fun x : Fin 512 => ind_eq ⟨x.val / 64, by omega⟩ i1, sitofp_ite, mat_at, ← EReal.coe_mul, coe_sum, mul_ite, mul_one, mul_zero]

theorem zero_dw : k0_pay15 (F := Ideal) = mat3 .f32 fun _ _ _ => 0 := by
  funext i
  idx_vars i
  pointwise [k0_pay15]
  rfl

theorem zero_dlg : k0_pay16 (F := Ideal) = mat .f32 fun _ _ => 0 := by
  funext i
  idx_vars i
  pointwise [k0_pay16]
  rfl

theorem zero_db : k0_pay19 (F := Ideal) = mat .f32 fun _ _ => 0 := by
  funext i
  idx_vars i
  pointwise [k0_pay19]
  rfl

variable (z : Fin 256 → Fin 1024 → ℝ) (dy : Fin 256 → Fin 512 → ℝ)

theorem db_read {sig κ sp} (v : View sig κ sp S128x512 .f32) (inb) (a : Fin 128 → Fin 512 → ℝ) (L : List (View.Piece (Elt Ideal) S128x512 .f32)) :
    v.readCov (dbTiles (mat .f32 (u z)) (mat .f32 dy) (mat .f32 a) ++ L) (Rect.unit (s := S128x512) ![0, 0] ![128, 512] inb).toLoadRect = mat .f32 (dbAdd z dy a) := by
  rw [View.readCov_eq_canon', db_block]
  funext x
  refine congrArg (mat .f32 (dbAdd z dy a)) (funext fun k => Fin.ext ?_)
  match k with
  | ⟨0, _⟩ => show 0 + 1 * (x 0).val = (x 0).val; omega
  | ⟨1, _⟩ => show 0 + 1 * (x 1).val = (x 1).val; omega

end Cert.Kernel2Ideal.Sgu

end
-- ==== Proof.Sgu.lean ====
module

public import proofs.«01_k».proof.Proof.SguEnd

@[expose] public section

set_option maxRecDepth 16384

noncomputable section

open Idealize.ShloMosaic Idealize.ShloMosaic.TcCoe Idealize.SL.Sem
open Idealize.ShloMosaic.Pipeline (Dat)

namespace Cert.Kernel2Ideal.Sgu

open Cert.Kernel2Ideal Cert.Kernel2Ideal.Gen Lift
open Model.Sgu

section
variable (m : (ℓ : Loc nD τ sig) → Buf (Elt Ideal) ℓ) (c : Dev nD)
  (z : Fin 8192 → Fin 1024 → ℝ) (lg lb : Fin 1 → Fin 512 → ℝ) (w : Fin 8 → Fin 128 → Fin 128 → ℝ) (b : Fin 8 → Fin 128 → ℝ) (dy : Fin 8192 → Fin 512 → ℝ)
  (h0 : m ((c : Thread nD τ).loc main_arg0) = mat .f32 z) (h1 : m ((c : Thread nD τ).loc main_arg1) = mat .f32 lg)
  (h2 : m ((c : Thread nD τ).loc main_arg2) = mat .f32 lb) (h3 : m ((c : Thread nD τ).loc main_arg3) = mat3 .f32 w)
  (h4 : m ((c : Thread nD τ).loc main_arg4) = mat .f32 b) (h5 : m ((c : Thread nD τ).loc main_arg5) = mat .f32 dy)

include h3 in
theorem V_w : V m c main_v4 = mat3 .bf16 (wm w) ∧ V m c main_v6 = mat3 .bf16 (wmT w) := by
  unfold V hostOps0 hostOps0_1 hostOps0_2 hostOps0_3 hostOps0_4
  simp only [List.flatten_cons, List.flatten_nil, List.cons_append, List.nil_append, List.append_nil]
  refine ⟨?_, ?_⟩
  all_goals after_results
  all_goals rw [h3]
  all_goals simp -implicitDefEqProofs only [StableHlo.TRef.toBuf, StableHlo.TRef.ofBuf, cast_cast, cast_eq]
  all_goals clean_types
  all_goals funext i
  all_goals idx_vars i
  all_goals pointwise []
  all_goals rw [ind_sge, sel_ite]
  · exact wm_at w i0 i1 i2
  · exact wm_at w i0 i2 i1

include h4 in
theorem V_b : V m c main_v9 = mat .f32 fun t j => b (grp j) t := by
  unfold V hostOps0 hostOps0_1 hostOps0_2 hostOps0_3 hostOps0_4
  simp only [List.flatten_cons, List.flatten_nil, List.cons_append, List.nil_append, List.append_nil]
  after_results
  rw [h4]
  clean_types
  funext i
  idx_vars i
  pointwise []
  rfl

variable (t : Fin cfg0.N)

include h0 in
theorem b_z : iblk m c 0 t = mat .f32 (u (tile 256 z t.val)) ∧ iblk m c 1 t = mat .f32 (v (tile 256 z t.val)) := by
  refine ⟨?_, ?_⟩
  all_goals
    funext i
    idx_vars i
    blk_simp [iblk, idx t]
    rw [V_main_arg0, h0]
  · exact mat_tile z t.val i0 ⟨i1.val, by omega⟩ _ (by blk_simp [idx t]) (by blk_simp [idx t])
  · exact mat_tile z t.val i0 ⟨512 + i1.val, by omega⟩ _ (by blk_simp [idx t]) (by blk_simp [idx t])

include h1 h2 h3 h4 h5 in
theorem b_rest : iblk m c 2 t = mat .f32 (tile 256 dy t.val) ∧ iblk m c 3 t = mat .f32 lg ∧ iblk m c 4 t = mat .f32 lb
    ∧ iblk m c 5 t = mat3 .bf16 (wm w) ∧ iblk m c 6 t = mat3 .bf16 (wmT w) ∧ iblk m c 7 t = mat .f32 fun t j => b (grp j) t := by
  refine ⟨?_, ?_, ?_, ?_, ?_, ?_⟩
  all_goals
    funext i
    idx_vars i
    blk_simp [iblk, idx t]
  · rw [V_main_arg5, h5]; exact mat_tile _ _ _ _ _ (by blk_simp [idx t]) (by blk_simp [idx t])
  · rw [V_main_arg1, h1]; exact mat_whole _ _ _ _ (by blk_simp [idx t]) (by blk_simp [idx t])
  · rw [V_main_arg2, h2]; exact mat_whole _ _ _ _ (by blk_simp [idx t]) (by blk_simp [idx t])
  · rw [(V_w m c w h3).1]; exact mat3_whole _ _ _ _ _ (by blk_simp [idx t]) (by blk_simp [idx t]) (by blk_simp [idx t])
  · rw [(V_w m c w h3).2]; exact mat3_whole _ _ _ _ _ (by blk_simp [idx t]) (by blk_simp [idx t]) (by blk_simp [idx t])
  · rw [V_b m c b h4]; exact mat_whole _ _ _ _ (by blk_simp [idx t]) (by blk_simp [idx t])

include h0 h1 h2 h3 h4 h5 in
theorem dz_out : (outsAt0 m c t.val t.isLt).1 = mat .bf16 (dz (tile 256 z t.val) lg lb w b (tile 256 dy t.val)) := by
  obtain ⟨e0, e1⟩ := b_z m c z h0 t
  obtain ⟨e2, e3, e4, e5, e6, e7⟩ := b_rest m c lg lb w b dy h1 h2 h3 h4 h5 t
  by_cases h : t.val % 32 = 0
  · rw [outsAt0_A m c t h (by omega)]
    frame_open
    simp (disch := decide) only [↓ View.readCov_skip, ↓ View.readCov_cons_toLoadRect, ↓ View.readCov_fill]
    frame_out
    rw [e0, e1, e2, e3, e4, e5, e6, e7]
    exact dz_block _ _ _ _ _ _ _ _ _
  · by_cases h' : t.val % 32 = 31
    · rw [outsAt0_C m c t h h']
      frame_open
      simp (disch := decide) only [↓ View.readCov_skip, ↓ View.readCov_cons_toLoadRect, ↓ View.readCov_fill]
      frame_out
      rw [e0, e1, e2, e3, e4, e5, e6, e7]
      exact dz_block _ _ _ _ _ _ _ _ _
    · rw [outsAt0_B m c t h h']
      frame_open
      simp (disch := decide) only [↓ View.readCov_skip, ↓ View.readCov_cons_toLoadRect, ↓ View.readCov_fill]
      frame_out
      rw [e0, e1, e2, e3, e4, e5, e6, e7]
      exact dz_block _ _ _ _ _ _ _ _ _

include h0 h1 h2 h3 h4 h5 in
theorem dw_first (h : t.val % 32 = 0) : (outsAt0 m c t.val t.isLt).2.1 = mat3 .f32 (dwAdd (tile 256 z t.val) lg lb (tile 256 dy t.val) fun _ _ _ => 0) := by
  obtain ⟨e0, e1⟩ := b_z m c z h0 t
  obtain ⟨e2, e3, e4, e5, e6, e7⟩ := b_rest m c lg lb w b dy h1 h2 h3 h4 h5 t
  rw [outsAt0_A m c t h (by omega)]
  frame_open
  simp (disch := decide) only [↓ View.readCov_skip, ↓ View.readCov_cons_toLoadRect, ↓ View.readCov_fill]
  frame_out
  simp only [e0, e1, e2, e3, e4, e5, e6, e7]
  rw [zero_dw]
  exact dw_block _ lg lb _ _ (fun x => x) (fun a => a) (fun _ _ _ => rfl) _

include h0 h1 h2 h3 h4 h5 in
theorem dlg_first (h : t.val % 32 = 0) : (outsAt0 m c t.val t.isLt).2.2.2.1 = mat .f32 fun i j => 0 + dlg (tile 256 z t.val) w (tile 256 dy t.val) i j := by
  obtain ⟨e0, e1⟩ := b_z m c z h0 t
  obtain ⟨e2, e3, e4, e5, e6, e7⟩ := b_rest m c lg lb w b dy h1 h2 h3 h4 h5 t
  rw [outsAt0_A m c t h (by omega)]
  frame_open
  simp (disch := decide) only [↓ View.readCov_skip, ↓ View.readCov_cons_toLoadRect, ↓ View.readCov_fill]
  frame_out
  simp only [e0, e1, e2, e3, e4, e5, e6, e7]
  rw [zero_dlg]
  exact dlg_block _ _ _ _ _ _

include h0 h1 h2 h3 h4 h5 in
theorem dlb_first (h : t.val % 32 = 0) : (outsAt0 m c t.val t.isLt).2.2.2.2.1 = mat .f32 fun i j => 0 + dlb (tile 256 z t.val) w (tile 256 dy t.val) i j := by
  obtain ⟨e0, e1⟩ := b_z m c z h0 t
  obtain ⟨e2, e3, e4, e5, e6, e7⟩ := b_rest m c lg lb w b dy h1 h2 h3 h4 h5 t
  rw [outsAt0_A m c t h (by omega)]
  frame_open
  simp (disch := decide) only [↓ View.readCov_skip, ↓ View.readCov_cons_toLoadRect, ↓ View.readCov_fill]
  frame_out
  simp only [e0, e1, e2, e3, e4, e5, e6, e7]
  rw [show k0_pay17 (F := Ideal) = k0_pay16 from rfl, zero_dlg]
  exact dlb_block _ _ _ _ _ _

include h0 h1 h2 h3 h4 h5 in
theorem db_first (h : t.val % 32 = 0) : (outsAt0 m c t.val t.isLt).2.2.2.2.2 = mat .f32 (dbAdd (tile 256 z t.val) (tile 256 dy t.val) fun _ _ => 0) := by
  obtain ⟨e0, e1⟩ := b_z m c z h0 t
  obtain ⟨e2, e3, e4, e5, e6, e7⟩ := b_rest m c lg lb w b dy h1 h2 h3 h4 h5 t
  rw [outsAt0_A m c t h (by omega)]
  frame_open
  simp (disch := decide) only [↓ View.readCov_skip, ↓ View.readCov_cons_toLoadRect, ↓ View.readCov_fill]
  frame_out
  simp only [e0, e1, e2, e3, e4, e5, e6, e7]
  rw [zero_db]
  exact db_block _ _ _ _

include h0 h1 h2 h3 h4 h5 in
theorem dw_next (h : ¬t.val % 32 = 0) (h' : ¬t.val % 32 = 31) (a : Fin 8 → Fin 128 → Fin 128 → ℝ) (hn : t.val - 1 < cfg0.N) (i : (outsAt0 m c (t.val - 1) hn).2.1 = mat3 .f32 a) :
    (outsAt0 m c t.val t.isLt).2.1 = mat3 .f32 (dwAdd (tile 256 z t.val) lg lb (tile 256 dy t.val) a) := by
  obtain ⟨e0, e1⟩ := b_z m c z h0 t
  obtain ⟨e2, e3, e4, e5, e6, e7⟩ := b_rest m c lg lb w b dy h1 h2 h3 h4 h5 t
  rw [outsAt0_B m c t h h']
  frame_open
  simp (disch := decide) only [↓ View.readCov_skip, ↓ View.readCov_cons_toLoadRect, ↓ View.readCov_fill]
  frame_out
  simp only [e0, e1, e2, e3, e4, e5, e6, e7, i]
  exact dw_block _ lg lb _ _ (fun x => x) (fun a => a) (fun _ _ _ => rfl) _

include h0 h1 h2 h3 h4 h5 in
theorem dlg_next (h : ¬t.val % 32 = 0) (h' : ¬t.val % 32 = 31) (a : Fin 1 → Fin 512 → ℝ) (hn : t.val - 1 < cfg0.N) (i : (outsAt0 m c (t.val - 1) hn).2.2.2.1 = mat .f32 a) :
    (outsAt0 m c t.val t.isLt).2.2.2.1 = mat .f32 fun i j => a i j + dlg (tile 256 z t.val) w (tile 256 dy t.val) i j := by
  obtain ⟨e0, e1⟩ := b_z m c z h0 t
  obtain ⟨e2, e3, e4, e5, e6, e7⟩ := b_rest m c lg lb w b dy h1 h2 h3 h4 h5 t
  rw [outsAt0_B m c t h h']
  frame_open
  simp (disch := decide) only [↓ View.readCov_skip, ↓ View.readCov_cons_toLoadRect, ↓ View.readCov_fill]
  frame_out
  simp only [e0, e1, e2, e3, e4, e5, e6, e7, i]
  exact dlg_block _ _ _ _ _ _

include h0 h1 h2 h3 h4 h5 in
theorem dlb_next (h : ¬t.val % 32 = 0) (h' : ¬t.val % 32 = 31) (a : Fin 1 → Fin 512 → ℝ) (hn : t.val - 1 < cfg0.N) (i : (outsAt0 m c (t.val - 1) hn).2.2.2.2.1 = mat .f32 a) :
    (outsAt0 m c t.val t.isLt).2.2.2.2.1 = mat .f32 fun i j => a i j + dlb (tile 256 z t.val) w (tile 256 dy t.val) i j := by
  obtain ⟨e0, e1⟩ := b_z m c z h0 t
  obtain ⟨e2, e3, e4, e5, e6, e7⟩ := b_rest m c lg lb w b dy h1 h2 h3 h4 h5 t
  rw [outsAt0_B m c t h h']
  frame_open
  simp (disch := decide) only [↓ View.readCov_skip, ↓ View.readCov_cons_toLoadRect, ↓ View.readCov_fill]
  frame_out
  simp only [e0, e1, e2, e3, e4, e5, e6, e7, i]
  exact dlb_block _ _ _ _ _ _

include h0 h1 h2 h3 h4 h5 in
theorem db_next (h : ¬t.val % 32 = 0) (h' : ¬t.val % 32 = 31) (a : Fin 128 → Fin 512 → ℝ) (hn : t.val - 1 < cfg0.N) (i : (outsAt0 m c (t.val - 1) hn).2.2.2.2.2 = mat .f32 a) :
    (outsAt0 m c t.val t.isLt).2.2.2.2.2 = mat .f32 (dbAdd (tile 256 z t.val) (tile 256 dy t.val) a) := by
  obtain ⟨e0, e1⟩ := b_z m c z h0 t
  obtain ⟨e2, e3, e4, e5, e6, e7⟩ := b_rest m c lg lb w b dy h1 h2 h3 h4 h5 t
  rw [outsAt0_B m c t h h']
  frame_open
  simp (disch := decide) only [↓ View.readCov_skip, ↓ View.readCov_cons_toLoadRect, ↓ View.readCov_fill]
  frame_out
  simp only [e0, e1, e2, e3, e4, e5, e6, e7, i]
  simp only [read_unread_whole, i]
  exact db_block _ _ _ _

include h0 h1 h2 h3 h4 h5 in
theorem dw_last (h : ¬t.val % 32 = 0) (h' : t.val % 32 = 31) (a : Fin 8 → Fin 128 → Fin 128 → ℝ) (hn : t.val - 1 < cfg0.N) (i : (outsAt0 m c (t.val - 1) hn).2.1 = mat3 .f32 a) :
    (outsAt0 m c t.val t.isLt).2.1 = mat3 .f32 fun g t' s => if s.val ≤ t'.val then dwAdd (tile 256 z t.val) lg lb (tile 256 dy t.val) a g t' s else 0 := by
  obtain ⟨e0, e1⟩ := b_z m c z h0 t
  obtain ⟨e2, e3, e4, e5, e6, e7⟩ := b_rest m c lg lb w b dy h1 h2 h3 h4 h5 t
  rw [outsAt0_C m c t h h']
  frame_open
  simp (disch := decide) only [↓ View.readCov_skip, ↓ View.readCov_cons_toLoadRect, ↓ View.readCov_fill]
  frame_out
  simp only [e0, e1, e2, e3, e4, e5, e6, e7, i]
  exact dw_block _ lg lb _ _ k0_pay4 (fun a g t s => if s.val ≤ t.val then a g t s else 0) (fun g hg a => mask_at g hg a) _

include h0 h1 h2 h3 h4 h5 in
theorem dlg_last (h : ¬t.val % 32 = 0) (h' : t.val % 32 = 31) (a : Fin 1 → Fin 512 → ℝ) (hn : t.val - 1 < cfg0.N) (i : (outsAt0 m c (t.val - 1) hn).2.2.2.1 = mat .f32 a) :
    (outsAt0 m c t.val t.isLt).2.2.2.1 = mat .f32 fun i j => a i j + dlg (tile 256 z t.val) w (tile 256 dy t.val) i j := by
  obtain ⟨e0, e1⟩ := b_z m c z h0 t
  obtain ⟨e2, e3, e4, e5, e6, e7⟩ := b_rest m c lg lb w b dy h1 h2 h3 h4 h5 t
  rw [outsAt0_C m c t h h']
  frame_open
  simp (disch := decide) only [↓ View.readCov_skip, ↓ View.readCov_cons_toLoadRect, ↓ View.readCov_fill]
  frame_out
  simp only [e0, e1, e2, e3, e4, e5, e6, e7, i]
  exact dlg_block _ _ _ _ _ _

include h0 h1 h2 h3 h4 h5 in
theorem dlb_last (h : ¬t.val % 32 = 0) (h' : t.val % 32 = 31) (a : Fin 1 → Fin 512 → ℝ) (hn : t.val - 1 < cfg0.N) (i : (outsAt0 m c (t.val - 1) hn).2.2.2.2.1 = mat .f32 a) :
    (outsAt0 m c t.val t.isLt).2.2.2.2.1 = mat .f32 fun i j => a i j + dlb (tile 256 z t.val) w (tile 256 dy t.val) i j := by
  obtain ⟨e0, e1⟩ := b_z m c z h0 t
  obtain ⟨e2, e3, e4, e5, e6, e7⟩ := b_rest m c lg lb w b dy h1 h2 h3 h4 h5 t
  rw [outsAt0_C m c t h h']
  frame_open
  simp (disch := decide) only [↓ View.readCov_skip, ↓ View.readCov_cons_toLoadRect, ↓ View.readCov_fill]
  frame_out
  simp only [e0, e1, e2, e3, e4, e5, e6, e7, i]
  exact dlb_block _ _ _ _ _ _

include h0 h1 h2 h3 h4 h5 in
theorem db_last (h : ¬t.val % 32 = 0) (h' : t.val % 32 = 31) (a : Fin 128 → Fin 512 → ℝ) (hn : t.val - 1 < cfg0.N) (i : (outsAt0 m c (t.val - 1) hn).2.2.2.2.2 = mat .f32 a) :
    (outsAt0 m c t.val t.isLt).2.2.1 = mat .f32 fun t' g => ∑ j : Fin 512, if j.val / 64 = g.val then dbAdd (tile 256 z t.val) (tile 256 dy t.val) a t' j else 0 := by
  obtain ⟨e0, e1⟩ := b_z m c z h0 t
  obtain ⟨e2, e3, e4, e5, e6, e7⟩ := b_rest m c lg lb w b dy h1 h2 h3 h4 h5 t
  rw [outsAt0_C m c t h h']
  frame_open
  simp (disch := decide) only [↓ View.readCov_skip, ↓ View.readCov_cons_toLoadRect, ↓ View.readCov_fill]
  frame_out
  simp only [e0, e1, e2, e3, e4, e5, e6, e7, i]
  simp only [read_unread_whole, i]
  refine Eq.trans (congrArg (k0_pay2 (F := Ideal) _ _ _ _ _ _) ?_) (bias_at (dbAdd (tile 256 z t.val) (tile 256 dy t.val) a))
  exact db_read _ _ _ _ _ _

/-! ### A block's rows among all -/

theorem dm_tile (n : ℕ) (hn : n < 32) : dm (tile 256 z n) (tile 256 dy n) = tile 256 (dm z dy) n := by
  funext i j
  have l : n * 256 + i.val < 8192 := by omega
  simp only [dm, u, tile_row _ l]

theorem vln_tile (n : ℕ) (hn : n < 32) : vln (tile 256 z n) lg lb = tile 256 (vln z lg lb) n := vln_block z lg lb n fun i => by omega

theorem tile_tile (x : Fin 8192 → Fin 512 → ℝ) (n a : ℕ) (hn : n < 32) (ha : a < 2) : tile 128 (tile 256 x n) a = tile 128 x (2 * n + a) := by
  funext i j
  rw [tile_row (tile 256 x n) (show a * 128 + i.val < 256 by omega), tile_row x (show n * 256 + (a * 128 + i.val) < 8192 by omega), tile_row x (show (2 * n + a) * 128 + i.val < 8192 by omega)]
  exact congrFun (congrArg x (Fin.ext (show n * 256 + (a * 128 + i.val) = (2 * n + a) * 128 + i.val by omega))) j

theorem dwC_tile (n a : ℕ) (hn : n < 32) (ha : a < 2) : dwC (tile 256 z n) lg lb (tile 256 dy n) a = dwC z lg lb dy (2 * n + a) := by
  funext g t s
  simp only [dwC, dm_tile z dy n hn, vln_tile z lg lb n hn, tile_tile _ n a hn ha]

theorem dw_grow (n : ℕ) (hn : n < 32) : dwAdd (tile 256 z n) lg lb (tile 256 dy n) (dwFull z lg lb dy (2 * n)) = dwFull z lg lb dy (2 * (n + 1)) := by
  funext g t s
  rw [dwAdd, dwC_tile z lg lb dy n 0 hn (by omega), dwC_tile z lg lb dy n 1 hn (by omega)]
  simp only [dwFull]
  rw [show 2 * (n + 1) = 2 * n + 1 + 1 by omega, Fin.sum_univ_castSucc, Fin.sum_univ_castSucc]
  rfl

theorem db_grow (n : ℕ) (hn : n < 32) : dbAdd (tile 256 z n) (tile 256 dy n) (dmSum z dy (2 * n)) = dmSum z dy (2 * (n + 1)) := by
  funext t j
  simp only [dbAdd, dm_tile z dy n hn, tile_tile _ n _ hn (show 0 < 2 by omega), tile_tile _ n _ hn (show 1 < 2 by omega), dmSum]
  rw [show 2 * (n + 1) = 2 * n + 1 + 1 by omega, Fin.sum_univ_castSucc, Fin.sum_univ_castSucc]
  rfl

theorem dvln_rows (n : ℕ) (i : Fin 256) (l : n * 256 + i.val < 8192) : dvln (tile 256 z n) w (tile 256 dy n) i = dvln z w dy ⟨n * 256 + i.val, l⟩ := by
  funext j
  have hn : n < 32 := by omega
  have e : chunk (tile 256 (dm z dy) n) i = chunk (dm z dy) ⟨n * 256 + i.val, l⟩ := by
    rw [chunk, tile_tile _ n _ hn (by omega), chunk]
    exact congrArg (tile 128 (dm z dy)) (show 2 * n + i.val / 128 = (n * 256 + i.val) / 128 by omega)
  have p : pos i = pos ⟨n * 256 + i.val, l⟩ := Fin.ext (show i.val % 128 = (n * 256 + i.val) % 128 by omega)
  simp only [dvln, dm_tile z dy n hn, e, p]

theorem gv_rows (n : ℕ) (i : Fin 256) (l : n * 256 + i.val < 8192) : gv (tile 256 z n) i = gv z ⟨n * 256 + i.val, l⟩ := by
  funext j
  simp only [gv, v, tile_row _ l]

theorem dz_rows (n : ℕ) (i : Fin 256) (l : n * 256 + i.val < 8192) : dz (tile 256 z n) lg lb w b (tile 256 dy n) i = dz z lg lb w b dy ⟨n * 256 + i.val, l⟩ := by
  funext j
  have hn : n < 32 := by omega
  have e : chunk (tile 256 (vln z lg lb) n) i = chunk (vln z lg lb) ⟨n * 256 + i.val, l⟩ := by
    rw [chunk, tile_tile _ n _ hn (by omega), chunk]
    exact congrArg (tile 128 (vln z lg lb)) (show 2 * n + i.val / 128 = (n * 256 + i.val) / 128 by omega)
  have p : pos i = pos ⟨n * 256 + i.val, l⟩ := Fin.ext (show i.val % 128 = (n * 256 + i.val) % 128 by omega)
  simp only [dz, dzu, dzv, gv_rows z n i l, dvln_rows z w dy n i l, vln_tile z lg lb n hn, e, p, u, v, tile_row _ l]

/-! ### The sums over the blocks -/

def gSum (n : ℕ) (_ : Fin 1) (j : Fin 512) : ℝ := ∑ k ∈ Finset.range n, dlg (tile 256 z k) w (tile 256 dy k) 0 j

def bSum (n : ℕ) (_ : Fin 1) (j : Fin 512) : ℝ := ∑ k ∈ Finset.range n, dlb (tile 256 z k) w (tile 256 dy k) 0 j

theorem gSum_grow (n : ℕ) : (fun i j => gSum z w dy n i j + dlg (tile 256 z n) w (tile 256 dy n) i j) = gSum z w dy (n + 1) :=
  funext fun _ => funext fun _ => (Finset.sum_range_succ _ n).symm

theorem bSum_grow (n : ℕ) : (fun i j => bSum z w dy n i j + dlb (tile 256 z n) w (tile 256 dy n) i j) = bSum z w dy (n + 1) :=
  funext fun _ => funext fun _ => (Finset.sum_range_succ _ n).symm

theorem gSum_all : gSum z w dy 32 = dlg z w dy := by
  funext i j
  rw [gSum, Finset.sum_range]
  refine sum_tile (fun r => dvln z w dy r j * xhat (gv z r) j) _ rfl fun k r hl => ?_
  rw [dvln_rows z w dy k.val r hl, gv_rows z k.val r hl]

theorem bSum_all : bSum z w dy 32 = dlb z w dy := by
  funext i j
  rw [bSum, Finset.sum_range]
  refine sum_tile (fun r => dvln z w dy r j) _ rfl fun k r hl => ?_
  rw [dvln_rows z w dy k.val r hl]

include h0 h1 h2 h3 h4 h5 in
theorem sums : ∀ (n : ℕ) (hn : n < cfg0.N), n < 31 → (outsAt0 m c n hn).2.1 = mat3 .f32 (dwFull z lg lb dy (2 * (n + 1)))
    ∧ (outsAt0 m c n hn).2.2.2.1 = mat .f32 (gSum z w dy (n + 1)) ∧ (outsAt0 m c n hn).2.2.2.2.1 = mat .f32 (bSum z w dy (n + 1))
    ∧ (outsAt0 m c n hn).2.2.2.2.2 = mat .f32 (dmSum z dy (2 * (n + 1)))
  | 0, hn, _ => by
    refine ⟨(dw_first m c z lg lb w b dy h0 h1 h2 h3 h4 h5 ⟨0, hn⟩ rfl).trans (congrArg (mat3 .f32) ?_), (dlg_first m c z lg lb w b dy h0 h1 h2 h3 h4 h5 ⟨0, hn⟩ rfl).trans (congrArg (mat .f32) ?_),
      (dlb_first m c z lg lb w b dy h0 h1 h2 h3 h4 h5 ⟨0, hn⟩ rfl).trans (congrArg (mat .f32) ?_), (db_first m c z lg lb w b dy h0 h1 h2 h3 h4 h5 ⟨0, hn⟩ rfl).trans (congrArg (mat .f32) ?_)⟩
    · rw [← dw_grow z lg lb dy 0 (by omega)]
      rfl
    · rw [← gSum_grow z w dy 0]
      rfl
    · rw [← bSum_grow z w dy 0]
      rfl
    · rw [← db_grow z dy 0 (by omega)]
      rfl
  | n + 1, hn, h => by
    obtain ⟨iw, ig, il, ib⟩ := sums n (by omega) (by omega)
    have a : ¬(n + 1) % 32 = 0 := by omega
    have a' : ¬(n + 1) % 32 = 31 := by omega
    have l : n + 1 < 32 := by omega
    refine ⟨?_, ?_, ?_, ?_⟩
    · rw [dw_next m c z lg lb w b dy h0 h1 h2 h3 h4 h5 ⟨n + 1, hn⟩ a a' _ _ iw]
      exact congrArg (mat3 .f32) (dw_grow z lg lb dy (n + 1) l)
    · rw [dlg_next m c z lg lb w b dy h0 h1 h2 h3 h4 h5 ⟨n + 1, hn⟩ a a' _ _ ig]
      exact congrArg (mat .f32) (gSum_grow z w dy (n + 1))
    · rw [dlb_next m c z lg lb w b dy h0 h1 h2 h3 h4 h5 ⟨n + 1, hn⟩ a a' _ _ il]
      exact congrArg (mat .f32) (bSum_grow z w dy (n + 1))
    · rw [db_next m c z lg lb w b dy h0 h1 h2 h3 h4 h5 ⟨n + 1, hn⟩ a a' _ _ ib]
      exact congrArg (mat .f32) (db_grow z dy (n + 1) l)

include h0 h1 h2 h3 h4 h5 in
theorem dz_final : (dats m 0 c).arrAt 8 cfg0.N = mat .bf16 (dz z lg lb w b dy) := by
  refine (dats m 0 c).arrAt_eq_of_covers 8 _ (by decide +kernel) fun t hf y => ?_
  blk_simp
  rw [after0_8, dz_out m c z lg lb w b dy h0 h1 h2 h3 h4 h5]
  idx_vars y
  have lt : t.val < 32 := lt_of_lt_of_eq t.isLt N_0
  rw [mat_at, dz_rows z lg lb w b dy t.val y0 (by omega)]
  exact (mat_whole _ ⟨t.val * 256 + y0.val, by omega⟩ y1 _ (by blk_simp [idx t]) (by blk_simp [idx t])).symm

include h0 h1 h2 h3 h4 h5 in
theorem dw_final : (dats m 0 c).arrAt 9 cfg0.N = mat3 .f32 (dw z lg lb dy 64) := by
  refine (dats m 0 c).arrAt_eq_of_covers 9 _ (by decide +kernel) fun t hf y => ?_
  have lt : t.val < 32 := lt_of_lt_of_eq t.isLt N_0
  have h31 : t.val % 32 = 31 := (flush0_9 t).mp hf
  have e31 : t.val = 31 := by omega
  have e30 : t.val - 1 = 30 := by omega
  have l30 : 30 < cfg0.N := lt_of_lt_of_eq (by omega) N_0.symm
  obtain ⟨iw, ig, il, ib⟩ := sums m c z lg lb w b dy h0 h1 h2 h3 h4 h5 (t.val - 1) (by omega) (by omega)
  blk_simp
  rw [after0_9, dw_last m c z lg lb w b dy h0 h1 h2 h3 h4 h5 t (by omega) h31 _ _ iw]
  simp only [e31]
  rw [dw_grow z lg lb dy 31 (by omega)]
  idx_vars y
  exact (mat3_whole (dw z lg lb dy 64) y0 y1 y2 _ (by blk_simp [idx t]) (by blk_simp [idx t]) (by blk_simp [idx t])).symm

include h0 h1 h2 h3 h4 h5 in
theorem db_final : (dats m 0 c).arrAt 10 cfg0.N = mat .f32 (db z dy 64) := by
  refine (dats m 0 c).arrAt_eq_of_covers 10 _ (by decide +kernel) fun t hf y => ?_
  have lt : t.val < 32 := lt_of_lt_of_eq t.isLt N_0
  have h31 : t.val % 32 = 31 := (flush0_10 t).mp hf
  have e31 : t.val = 31 := by omega
  have e30 : t.val - 1 = 30 := by omega
  have l30 : 30 < cfg0.N := lt_of_lt_of_eq (by omega) N_0.symm
  obtain ⟨iw, ig, il, ib⟩ := sums m c z lg lb w b dy h0 h1 h2 h3 h4 h5 (t.val - 1) (by omega) (by omega)
  blk_simp
  rw [after0_10, db_last m c z lg lb w b dy h0 h1 h2 h3 h4 h5 t (by omega) h31 _ _ ib]
  simp only [e31]
  rw [db_grow z dy 31 (by omega)]
  idx_vars y
  exact (mat_whole (db z dy 64) y0 y1 _ (by blk_simp [idx t]) (by blk_simp [idx t])).symm

include h0 h1 h2 h3 h4 h5 in
theorem dlg_final : (dats m 0 c).arrAt 11 cfg0.N = mat .f32 (dlg z w dy) := by
  refine (dats m 0 c).arrAt_eq_of_covers 11 _ (by decide +kernel) fun t hf y => ?_
  have lt : t.val < 32 := lt_of_lt_of_eq t.isLt N_0
  have h31 : t.val % 32 = 31 := (flush0_11 t).mp hf
  have e31 : t.val = 31 := by omega
  have e30 : t.val - 1 = 30 := by omega
  have l30 : 30 < cfg0.N := lt_of_lt_of_eq (by omega) N_0.symm
  obtain ⟨iw, ig, il, ib⟩ := sums m c z lg lb w b dy h0 h1 h2 h3 h4 h5 (t.val - 1) (by omega) (by omega)
  blk_simp
  rw [after0_11, dlg_last m c z lg lb w b dy h0 h1 h2 h3 h4 h5 t (by omega) h31 _ _ ig]
  simp only [e31]
  rw [gSum_grow z w dy 31, gSum_all]
  idx_vars y
  exact (mat_whole _ y0 y1 _ (by blk_simp [idx t]) (by blk_simp [idx t])).symm

include h0 h1 h2 h3 h4 h5 in
theorem dlb_final : (dats m 0 c).arrAt 12 cfg0.N = mat .f32 (dlb z w dy) := by
  refine (dats m 0 c).arrAt_eq_of_covers 12 _ (by decide +kernel) fun t hf y => ?_
  have lt : t.val < 32 := lt_of_lt_of_eq t.isLt N_0
  have h31 : t.val % 32 = 31 := (flush0_12 t).mp hf
  have e31 : t.val = 31 := by omega
  have e30 : t.val - 1 = 30 := by omega
  have l30 : 30 < cfg0.N := lt_of_lt_of_eq (by omega) N_0.symm
  obtain ⟨iw, ig, il, ib⟩ := sums m c z lg lb w b dy h0 h1 h2 h3 h4 h5 (t.val - 1) (by omega) (by omega)
  blk_simp
  rw [after0_12, dlb_last m c z lg lb w b dy h0 h1 h2 h3 h4 h5 t (by omega) h31 _ _ il]
  simp only [e31]
  rw [bSum_grow z w dy 31, bSum_all]
  idx_vars y
  exact (mat_whole _ y0 y1 _ (by blk_simp [idx t]) (by blk_simp [idx t])).symm

end

/-- The kernel's five results are the model's, for finite arguments. -/
theorem run (m : (ℓ : Loc nD τ sig) → Buf (Elt Ideal) ℓ) (ρ : Dev nD → PrngReg)
    (z : Dev nD → Fin 8192 → Fin 1024 → ℝ) (lg lb : Dev nD → Fin 1 → Fin 512 → ℝ) (w : Dev nD → Fin 8 → Fin 128 → Fin 128 → ℝ)
    (b : Dev nD → Fin 8 → Fin 128 → ℝ) (dy : Dev nD → Fin 8192 → Fin 512 → ℝ)
    (h0 : ∀ c : Dev nD, m ((c : Thread nD τ).loc main_arg0) = mat .f32 (z c)) (h1 : ∀ c : Dev nD, m ((c : Thread nD τ).loc main_arg1) = mat .f32 (lg c))
    (h2 : ∀ c : Dev nD, m ((c : Thread nD τ).loc main_arg2) = mat .f32 (lb c)) (h3 : ∀ c : Dev nD, m ((c : Thread nD τ).loc main_arg3) = mat3 .f32 (w c))
    (h4 : ∀ c : Dev nD, m ((c : Thread nD τ).loc main_arg4) = mat .f32 (b c)) (h5 : ∀ c : Dev nD, m ((c : Thread nD τ).loc main_arg5) = mat .f32 (dy c)) :
    θ_run defs (onTc (τ := τ) (main (F := Ideal))) ⟨m, fun _ => 0, ρ⟩ fun r => ∀ c : Dev nD,
      r.2.mem ((c : Thread nD τ).loc main_v10_0) = mat .bf16 (dz (z c) (lg c) (lb c) (w c) (b c) (dy c))
      ∧ r.2.mem ((c : Thread nD τ).loc main_v10_1) = mat3 .f32 (dw (z c) (lg c) (lb c) (dy c) 64)
      ∧ r.2.mem ((c : Thread nD τ).loc main_v10_2) = mat .f32 (db (z c) (dy c) 64)
      ∧ r.2.mem ((c : Thread nD τ).loc main_v10_3) = mat .f32 (dlg (z c) (w c) (dy c))
      ∧ r.2.mem ((c : Thread nD τ).loc main_v10_4) = mat .f32 (dlb (z c) (w c) (dy c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.Kernel2Ideal.Value.run_blocks m ρ)
  obtain ⟨e0, e1, e2, e3, e4, hargs⟩ := h c
  exact ⟨e0.trans (dz_final m c _ _ _ _ _ _ (h0 c) (h1 c) (h2 c) (h3 c) (h4 c) (h5 c)), e1.trans (dw_final m c _ _ _ _ _ _ (h0 c) (h1 c) (h2 c) (h3 c) (h4 c) (h5 c)),
    e2.trans (db_final m c _ _ _ _ _ _ (h0 c) (h1 c) (h2 c) (h3 c) (h4 c) (h5 c)), e3.trans (dlg_final m c _ _ _ _ _ _ (h0 c) (h1 c) (h2 c) (h3 c) (h4 c) (h5 c)),
    e4.trans (dlb_final m c _ _ _ _ _ _ (h0 c) (h1 c) (h2 c) (h3 c) (h4 c) (h5 c)), hargs⟩

end Cert.Kernel2Ideal.Sgu

end
-- ==== Proof.SguRef.lean ====
module

public import proofs.«01_k».proof.Proof.Gen.Reference2Ideal.Run
public import proofs.«01_k».proof.Proof.SguModel

@[expose] public section

set_option maxRecDepth 16384

noncomputable section

open Idealize.ShloMosaic Idealize.ShloMosaic.TcCoe Idealize.SL.Sem

namespace Cert.Reference2Ideal.Sgu

open Cert.Reference2Ideal Cert.Reference2Ideal.Gen Lift
open Model.Sgu

/-- The ideal array of a real array of four axes. -/
def mat4 {a b n k : ℕ} (φ : FTy) (x : Fin a → Fin b → Fin n → Fin k → ℝ) : FVec Ideal ⟨4, ![a, b, n, k]⟩ φ := fun i => ((x (i 0) (i 1) (i 2) (i 3) : ℝ) : EReal)

theorem mat4_at {a b n k : ℕ} (φ : FTy) (x : Fin a → Fin b → Fin n → Fin k → ℝ) (i : Fin a) (j : Fin b) (l : Fin n) (m : Fin k) :
    mat4 φ x (ix4 i j l m) = ((x i j l m : ℝ) : EReal) := rfl

/-- Rows by chunk and place, columns by group and place. -/
def split4 (x : Fin 8192 → Fin 512 → ℝ) (c : Fin 64) (t : Fin 128) (g : Fin 8) (l : Fin 64) : ℝ := tile 128 x c.val t ⟨g.val * 64 + l.val, by omega⟩

/-- Rows and columns, from chunks and groups. -/
def join4 (x : Fin 64 → Fin 128 → Fin 8 → Fin 64 → ℝ) (i : Fin 8192) (j : Fin 512) : ℝ := x ⟨i.val / 128, by omega⟩ (pos i) (grp j) ⟨j.val % 64, by omega⟩

theorem drop_outer {a b n k : ℕ} (h : (⟨4, ![a, b, n, k]⟩ : Shape).ReducesTo [0, 3] ⟨2, ![b, n]⟩) (p : Fin b) (q : Fin n) (i : (⟨4, ![a, b, n, k]⟩ : Shape).Idx) :
    h.drop i = ix2 p q ↔ ∃ r : Fin a × Fin k, ix4 r.1 p q r.2 = i := by
  constructor
  · intro e
    refine ⟨(i 0, i 3), ?_⟩
    funext r
    match r with
    | ⟨0, _⟩ => rfl
    | ⟨1, _⟩ => exact Fin.ext (congrArg Fin.val (congrFun e 0)).symm
    | ⟨2, _⟩ => exact Fin.ext (congrArg Fin.val (congrFun e 1)).symm
    | ⟨3, _⟩ => rfl
  · rintro ⟨r, rfl⟩
    funext r
    match r with
    | ⟨0, _⟩ => rfl
    | ⟨1, _⟩ => rfl

/-- A sum over the first and the last of four axes. -/
theorem sum_outer {a b n k : ℕ} (h : (⟨4, ![a, b, n, k]⟩ : Shape).ReducesTo [0, 3] ⟨2, ![b, n]⟩) (v : (⟨4, ![a, b, n, k]⟩ : Shape).Idx → EReal)
    (init : EReal) (p : Fin b) (q : Fin n) : Ideal.hostReduceAdd h v init (ix2 p q) = init + ∑ c, ∑ l, v (ix4 c p q l) := by
  refine congrArg (init + ·) ((Finset.sum_filter_eq_sum_of_fiber _ (fun r : Fin a × Fin k => ix4 r.1 p q r.2)
    (fun _ _ e => Prod.ext (congrFun e 0) (congrFun e 3)) (drop_outer h p q) v).trans ?_)
  simp only [Fintype.sum_prod_type]

theorem w_half : Ideal.ofBits .f32 0x3F000000#32 = ((1 / 2 : ℝ) : EReal) := by
  simp [Ideal.ofBits, Ideal.ieee, -EReal.coe_mul, -EReal.coe_neg]; norm_num

theorem w_512 : Ideal.ofBits .f32 0x44000000#32 = ((512 : ℝ) : EReal) := by
  simp [Ideal.ofBits, Ideal.ieee, -EReal.coe_mul, -EReal.coe_neg]; norm_num

theorem w_slope : Ideal.ofBits .f32 0xBF906EBB#32 = ((-(9465531 / 8388608) : ℝ) : EReal) := by
  simp [Ideal.ofBits, Ideal.ieee, -EReal.coe_mul, -EReal.coe_neg]; norm_num

theorem sqrt_half : Ideal.sqrt ((1 / 2 : ℝ) : EReal) = ((√(1 / 2) : ℝ) : EReal) := by
  rw [Ideal.sqrt_coe, if_neg (by norm_num)]

/-- The complementary error function of `-x · s`. -/
theorem erfc_ms (x s : ℝ) : Ideal.erfc ((-x * s : ℝ) : EReal) = ((1 + Model.Sgu.erf (x * s) : ℝ) : EReal) := by
  rw [neg_mul, EReal.coe_neg, Ideal.erfc_neg, erf_coe, ← EReal.coe_one, ← EReal.coe_add]

section
variable (x d : Fin 8192 → Fin 512 → ℝ) (z : Fin 8192 → Fin 1024 → ℝ)

theorem u_at : extractStridedSlice S8192x512 ![0, 0] (mat .f32 z) slices_S8192x1024_S8192x512_0_0 = mat .f32 (u z) := by
  funext i
  idx_vars i
  pointwise []
  exact mat_whole z _ _ _ rfl rfl

theorem v_at : extractStridedSlice S8192x512 ![0, 512] (mat .f32 z) slices_S8192x1024_S8192x512_0_512 = mat .f32 (v z) := by
  funext i
  idx_vars i
  pointwise []
  exact mat_whole z _ _ _ rfl rfl

theorem gelu_at : mulf (F := Ideal) (mulf (broadcastInDim S8192x512 ![] bcast_S_S8192x512 (constant S_ .f32 0x3F000000#32)) (mat .f32 x))
      (Host.erfc (mulf (Host.negf (mat .f32 x)) (broadcastInDim S8192x512 ![] bcast_S_S8192x512 (Host.sqrt (constant S_ .f32 0x3F000000#32)))))
    = mat .f32 fun i j => gelu (x i j) := by
  funext i
  idx_vars i
  pointwise []
  simp only [mat_at, w_half, sqrt_half, ← EReal.coe_neg, ← EReal.coe_mul, erfc_ms, gelu]

/-- The gelu's derivative, in differentiation's words. -/
theorem geluD_at : addf (F := Ideal) (Host.negf (mulf (mulf (mulf (broadcastInDim S8192x512 ![] bcast_S_S8192x512 (constant S_ .f32 0xBF906EBB#32))
        (mulf (mulf (broadcastInDim S8192x512 ![] bcast_S_S8192x512 (constant S_ .f32 0x3F000000#32)) (mat .f32 x)) (mat .f32 d)))
        (Host.exp (Host.negf (mulf (mulf (Host.negf (mat .f32 x)) (broadcastInDim S8192x512 ![] bcast_S_S8192x512 (Host.sqrt (constant S_ .f32 0x3F000000#32))))
          (mulf (Host.negf (mat .f32 x)) (broadcastInDim S8192x512 ![] bcast_S_S8192x512 (Host.sqrt (constant S_ .f32 0x3F000000#32))))))))
        (broadcastInDim S8192x512 ![] bcast_S_S8192x512 (Host.sqrt (constant S_ .f32 0x3F000000#32)))))
      (mulf (broadcastInDim S8192x512 ![] bcast_S_S8192x512 (constant S_ .f32 0x3F000000#32))
        (mulf (mat .f32 d) (Host.erfc (mulf (Host.negf (mat .f32 x)) (broadcastInDim S8192x512 ![] bcast_S_S8192x512 (Host.sqrt (constant S_ .f32 0x3F000000#32)))))))
    = mat .f32 fun i j => d i j * geluD (x i j) := by
  funext i
  idx_vars i
  pointwise []
  simp only [mat_at, w_half, w_slope, sqrt_half, ← EReal.coe_neg, ← EReal.coe_mul, erfc_ms, Ideal.exp_coe, ← EReal.coe_add, geluD]
  have e : -(-x i0 i1 * √(1 / 2) * (-x i0 i1 * √(1 / 2))) = -(1 / 2) * x i0 i1 * x i0 i1 := by
    have := Real.mul_self_sqrt (show (0 : ℝ) ≤ 1 / 2 by norm_num)
    linear_combination -(x i0 i1 * x i0 i1) * this
  rw [e]
  exact congrArg Real.toEReal (by ring)

theorem centred_at : subf (F := Ideal) (mat .f32 x) (broadcastInDim S8192x512 ![0, 1] bcast_S8192x1_S8192x512_0_1 (Host.divf (broadcastInDim S8192x1 ![0] bcast_S8192_S8192x1_0
      (Host.reduceAdd (mat .f32 x) (constant S_ .f32 0x00000000#32) reducesTo_S8192x512_S8192_d1 h_S_)) (broadcastInDim S8192x1 ![] bcast_S_S8192x1 (constant S_ .f32 0x44000000#32))))
    = mat .f32 fun i => centred (x i) := by
  funext i
  idx_vars i
  pointwise []
  simp (disch := norm_num) only [mat_at, coe_sum, w_512, div_ne, ← EReal.coe_sub, centred, mean]

theorem var_at : addf (F := Ideal) (Host.divf (broadcastInDim S8192x1 ![0] bcast_S8192_S8192x1_0 (Host.reduceAdd (mulf (mat .f32 x) (mat .f32 x)) (constant S_ .f32 0x00000000#32) reducesTo_S8192x512_S8192_d1 h_S_))
      (broadcastInDim S8192x1 ![] bcast_S_S8192x1 (constant S_ .f32 0x44000000#32))) (broadcastInDim S8192x1 ![] bcast_S_S8192x1 (constant S_ .f32 0x358637BD#32))
    = mat .f32 fun i (_ : Fin 1) => (∑ k, x i k * x i k) / 512 + eps := by
  funext i
  idx_vars i
  pointwise []
  simp (disch := norm_num) only [mat_at, ← EReal.coe_mul, ← EReal.coe_add, coe_sum, w_eps, w_512, div_ne]

theorem r_at : Host.rsqrt (F := Ideal) (mat .f32 fun i (_ : Fin 1) => (∑ k, x i k * x i k) / 512 + eps) = mat .f32 fun i (_ : Fin 1) => rstd 512 (x i) := by
  funext i
  idx_vars i
  pointwise []
  rw [mat_at, rsqrt_ms (by norm_num)]
  rfl

theorem xhat_at : mulf (F := Ideal) (mat .f32 x) (broadcastInDim S8192x512 ![0, 1] bcast_S8192x1_S8192x512_0_1 (mat .f32 fun i (_ : Fin 1) => rstd 512 (x i)))
    = mat .f32 fun i j => x i j * rstd 512 (x i) := by
  funext i
  idx_vars i
  pointwise []
  simp only [mat_at, ← EReal.coe_mul]

theorem mul_at : mulf (F := Ideal) (mat .f32 x) (mat .f32 d) = mat .f32 fun i j => x i j * d i j := by
  funext i
  idx_vars i
  pointwise []
  simp only [mat_at, ← EReal.coe_mul]

theorem split_at : shapeCast S64x128x8x64 (mat .f32 x) shapeCasts_S8192x512_S64x128x8x64 = mat4 .f32 (split4 x) := by
  funext i
  idx_vars i
  pointwise []
  exact mat_tile _ _ _ _ _ rfl rfl

theorem ln_at (lg lb : Fin 1 → Fin 512 → ℝ) : addf (F := Ideal) (mulf (mat .f32 x) (broadcastInDim S8192x512 ![0, 1] bcast_S1x512_S8192x512_0_1 (mat .f32 lg)))
      (broadcastInDim S8192x512 ![0, 1] bcast_S1x512_S8192x512_0_1 (mat .f32 lb))
    = mat .f32 fun i j => x i j * lg 0 j + lb 0 j := by
  funext i
  idx_vars i
  pointwise []
  simp only [mat_at, ← EReal.coe_mul, ← EReal.coe_add]

theorem gain_at (lg : Fin 1 → Fin 512 → ℝ) : mulf (F := Ideal) (mat .f32 x) (broadcastInDim S8192x512 ![0, 1] bcast_S1x512_S8192x512_0_1 (mat .f32 lg))
    = mat .f32 fun i j => x i j * lg 0 j := by
  funext i
  idx_vars i
  pointwise []
  simp only [mat_at, ← EReal.coe_mul]

theorem mixed_at (w : Fin 8 → Fin 128 → Fin 128 → ℝ) (b : Fin 8 → Fin 128 → ℝ) : shapeCast S8192x512 (addf (F := Ideal) (transpose S64x128x8x64 [1, 3, 0, 2]
        (Host.dotGeneral dot_S64x128x8x64_S8x128x128_S8x64x64x128_1_2_03_1_2_0 none (mat4 .f32 (split4 x)) (mat3 .f32 w)) transposes_S8x64x64x128_S64x128x8x64_1_3_0_2)
      (broadcastInDim S64x128x8x64 ![0, 1, 2, 3] bcast_S1x128x8x1_S64x128x8x64_0_1_2_3 (broadcastInDim S1x128x8x1 ![1, 2] bcast_S128x8_S1x128x8x1_1_2
        (transpose S128x8 [1, 0] (mat .f32 b) transposes_S8x128_S128x8_1_0)))) shapeCasts_S64x128x8x64_S8192x512
    = mat .f32 (join4 fun c t g l => ∑ s, split4 x c s g l * w g t s + b g t) := by
  funext i
  idx_vars i
  pointwise []
  simp only [mat_at, mat3_at, mat4_at, ← EReal.coe_mul, coe_sum, ← EReal.coe_add]
  rfl

theorem back_at (w : Fin 8 → Fin 128 → Fin 128 → ℝ) : shapeCast S8192x512 (transpose S64x128x8x64 [1, 3, 0, 2]
        (Host.dotGeneral (F := Ideal) dot_S8x64x64x128_S8x128x128_S8x64x64x128_3_1_12_2_0_0 none
          (transpose S8x64x64x128 [2, 0, 3, 1] (mat4 .f32 (split4 x)) transposes_S64x128x8x64_S8x64x64x128_2_0_3_1) (mat3 .f32 w)) transposes_S8x64x64x128_S64x128x8x64_1_3_0_2)
      shapeCasts_S64x128x8x64_S8192x512
    = mat .f32 (join4 fun c s g l => ∑ t, split4 x c t g l * w g t s) := by
  funext i
  idx_vars i
  pointwise []
  simp only [mat_at, mat3_at, mat4_at, ← EReal.coe_mul, coe_sum]
  rfl

theorem outer_at : Host.dotGeneral (F := Ideal) dot_S8x64x64x128_S64x128x8x64_S8x128x128_12_03_3_1_0_2 none
      (transpose S8x64x64x128 [2, 0, 3, 1] (mat4 .f32 (split4 x)) transposes_S64x128x8x64_S8x64x64x128_2_0_3_1) (mat4 .f32 (split4 d))
    = mat3 .f32 fun g t s => ∑ c, ∑ l, split4 x c t g l * split4 d c s g l := by
  funext i
  idx_vars i
  pointwise []
  simp only [mat3_at, mat4_at, ← EReal.coe_mul, coe_sum]

/-- The layer norm's derivative before its mean is taken off, in differentiation's words. -/
theorem rms_at : addf (F := Ideal) (addf (mulf (mat .f32 d) (broadcastInDim S8192x512 ![0, 1] bcast_S8192x1_S8192x512_0_1 (mat .f32 fun i (_ : Fin 1) => rstd 512 (x i))))
        (mulf (mat .f32 x) (mat .f32 fun i (_ : Fin 512) => (∑ k, x i k * d i k) * (-(1 / 2) * (rstd 512 (x i) * (rstd 512 (x i) * rstd 512 (x i)))) / 512)))
      (mulf (mat .f32 fun i (_ : Fin 512) => (∑ k, x i k * d i k) * (-(1 / 2) * (rstd 512 (x i) * (rstd 512 (x i) * rstd 512 (x i)))) / 512) (mat .f32 x))
    = mat .f32 fun i => rmsBack 512 (x i) (d i) := by
  funext i
  idx_vars i
  pointwise []
  simp only [mat_at, ← EReal.coe_mul, ← EReal.coe_add]
  refine congrArg Real.toEReal ?_
  have e := rms_ref 512 (x i0) (d i0) i1
  rwa [Fin.sum_univ_one] at e

theorem r3_at : broadcastInDim S8192x512 ![0] bcast_S8192_S8192x512_0 (Host.reduceAdd (F := Ideal) (Host.divf (mulf (shapeCast S8192x1
        (Host.reduceAdd (mulf (mat .f32 x) (mat .f32 d)) (constant S_ .f32 0x00000000#32) reducesTo_S8192x512_S8192_d1 h_S_) shapeCasts_S8192_S8192x1)
        (mulf (broadcastInDim S8192x1 ![] bcast_S_S8192x1 (constant S_ .f32 0xBF000000#32))
          (Host.divf (mat .f32 fun i (_ : Fin 1) => rstd 512 (x i)) (mat .f32 fun i (_ : Fin 1) => (∑ k, x i k * x i k) / 512 + eps))))
        (broadcastInDim S8192x1 ![] bcast_S_S8192x1 (constant S_ .f32 0x44000000#32))) (constant S_ .f32 0x00000000#32) reducesTo_S8192x1_S8192_d1 h_S_)
    = mat .f32 fun i (_ : Fin 512) => (∑ k, x i k * d i k) * (-(1 / 2) * (rstd 512 (x i) * (rstd 512 (x i) * rstd 512 (x i)))) / 512 := by
  funext i
  idx_vars i
  pointwise []
  simp (disch := norm_num) only [mat_at, ← EReal.coe_mul, coe_sum, div_ms, w_neghalf, w_512, div_ne, Finset.univ_unique, Finset.sum_singleton]

theorem demean_at : addf (F := Ideal) (mat .f32 x) (broadcastInDim S8192x512 ![0] bcast_S8192_S8192x512_0 (Host.reduceAdd (Host.divf (shapeCast S8192x1
        (Host.reduceAdd (Host.negf (mat .f32 x)) (constant S_ .f32 0x00000000#32) reducesTo_S8192x512_S8192_d1 h_S_) shapeCasts_S8192_S8192x1)
        (broadcastInDim S8192x1 ![] bcast_S_S8192x1 (constant S_ .f32 0x44000000#32))) (constant S_ .f32 0x00000000#32) reducesTo_S8192x1_S8192_d1 h_S_))
    = mat .f32 fun i j => x i j + (∑ k, -x i k) / 512 := by
  funext i
  idx_vars i
  pointwise []
  simp (disch := norm_num) only [mat_at, ← EReal.coe_neg, ← EReal.coe_add, coe_sum, w_512, div_ne, Finset.univ_unique, Finset.sum_singleton]

theorem col_at (j : Fin 512) : (⟨(grp j).val * 64 + j.val % 64, by have := (grp j).isLt; omega⟩ : Fin 512) = j :=
  Fin.ext (show j.val / 64 * 64 + j.val % 64 = j.val by omega)

theorem join_mixed (w : Fin 8 → Fin 128 → Fin 128 → ℝ) (b : Fin 8 → Fin 128 → ℝ) :
    join4 (fun c t g l => ∑ s, split4 x c s g l * wm w g t s + b g t) = fun i j => mixed w b (chunk x i) (pos i) j := by
  funext i j
  unfold join4 split4 mixed chunk
  dsimp only
  rw [col_at]
  exact congrArg (· + b (grp j) (pos i)) (Finset.sum_congr rfl fun s _ => mul_comm _ _)

theorem join_back (w : Fin 8 → Fin 128 → Fin 128 → ℝ) :
    join4 (fun c s g l => ∑ t, split4 x c t g l * wm w g t s) = fun i j => mixBack w (chunk x i) (pos i) j := by
  funext i j
  unfold join4 split4 mixBack chunk
  dsimp only
  rw [col_at]
  exact Finset.sum_congr rfl fun t _ => mul_comm _ _

theorem ln_back (y a g : Fin 512 → ℝ) (j : Fin 512) :
    rmsBack 512 (centred y) (fun j => a j * g j) j + (∑ k, -rmsBack 512 (centred y) (fun j => a j * g j) k) / 512 = lnBack y a g j := by
  have c0 : ∑ k, centred y k = 0 := by
    simp only [centred, mean, Finset.sum_sub_distrib, Finset.sum_const, Finset.card_univ, Fintype.card_fin, nsmul_eq_mul]
    push_cast
    ring
  have e : ∑ k, a k * g k * xhat y k = rstd 512 (centred y) * ∑ k, a k * g k * centred y k := by
    rw [Finset.mul_sum]
    exact Finset.sum_congr rfl fun k _ => by rw [xhat]; ring
  have s : ∑ k, rmsBack 512 (centred y) (fun j => a j * g j) k = rstd 512 (centred y) * ∑ k, a k * g k := by
    simp only [rmsBack, Finset.sum_sub_distrib, ← Finset.mul_sum, ← Finset.sum_mul, c0]
    ring
  rw [Finset.sum_neg_distrib, s, lnBack, e, xhat, rmsBack]
  ring

theorem sum_at : shapeCast S1x512 (Host.reduceAdd (F := Ideal) (mat .f32 x) (constant S_ .f32 0x00000000#32) reducesTo_S8192x512_S512_d0 h_S_) shapeCasts_S512_S1x512
    = mat .f32 fun (_ : Fin 1) j => ∑ i, x i j := by
  funext i
  idx_vars i
  pointwise []
  simp only [mat_at, coe_sum]

theorem trunc_pads_at : truncf (F := Ideal) .bf16 (addf (pad S8192x1024 ![0, 512] ![0, 0] ![0, 0] (mat .f32 x) (constant S_ .f32 0x00000000#32) pads_S8192x512_S8192x1024_000_51200 h_S_)
      (pad S8192x1024 ![0, 0] ![0, 512] ![0, 0] (mat .f32 d) (constant S_ .f32 0x00000000#32) pads_S8192x512_S8192x1024_000_05120 h_S_)) bitsLt_bf16_f32
    = mat .bf16 fun i j => if h : j.val < 512 then d i ⟨j.val, h⟩ else x i ⟨j.val - 512, by omega⟩ := by
  funext i
  idx_vars i
  pointwise []
  rw [mat_at]
  by_cases h : i1.val < 512
  · rw [dif_pos h, dif_pos h, dif_neg (by omega), zero_add]
    rfl
  · rw [dif_neg h, dif_neg h, dif_pos (by omega), add_zero]
    rfl

theorem mask_at (w : Fin 8 → Fin 128 → Fin 128 → ℝ) : select (broadcastInDim S8x128x128 ![0, 1, 2] bcast_S1x128x128_S8x128x128_0_1_2 (broadcastInDim S1x128x128 ![1, 2] bcast_S128x128_S1x128x128_1_2
        (select (cmpi .sge (addi (iotaInDim S128x128 32 0) (broadcastInDim S128x128 ![] bcast_S_S128x128 (constantI S_ 32 0#32))) (iotaInDim S128x128 32 1))
          (broadcastInDim S128x128 ![] bcast_S_S128x128 (constantI S_ 1 1#1)) (broadcastInDim S128x128 ![] bcast_S_S128x128 (constantI S_ 1 0#1)))))
      (mat3 .f32 w) (broadcastInDim S8x128x128 ![] bcast_S_S8x128x128 (constant (F := Ideal) S_ .f32 0x00000000#32))
    = mat3 .f32 (wm w) := by
  funext i
  idx_vars i
  pointwise []
  rw [ind_sge, sel_ite]
  simp only [mat3_at, ← EReal.coe_zero, coe_ite, wm]

theorem db_at : pad S128x128 ![0, 0] ![0, 120] ![0, 0] (transpose S128x8 [1, 0] (transpose S8x128 [1, 0] (Host.reduceAdd (F := Ideal) (shapeCast S1x128x8x1
        (Host.reduceAdd (mat4 .f32 (split4 x)) (constant S_ .f32 0x00000000#32) reducesTo_S64x128x8x64_S128x8_d0_3 h_S_) shapeCasts_S128x8_S1x128x8x1)
        (constant S_ .f32 0x00000000#32) reducesTo_S1x128x8x1_S128x8_d0_3 h_S_) transposes_S128x8_S8x128_1_0) transposes_S8x128_S128x8_1_0)
      (sitofp .f32 (constantI S_ 32 0#32)) pads_S128x8_S128x128_000_01200 h_S_
    = mat .f32 fun t g => if h : g.val < 8 then ∑ c, ∑ l, split4 x c t ⟨g.val, h⟩ l else 0 := by
  funext i
  idx_vars i
  pointwise []
  rw [mat_at]
  split
  · rw [sum_outer, Fin.sum_univ_one, Fin.sum_univ_one, zero_add]
    pointwise []
    rw [sum_outer]
    simp only [mat4_at, coe_sum]
    exact zero_add _
  · show (((0#32 : BitVec 32).toInt : ℝ) : EReal) = _
    norm_num

/-- A sum over a group's columns, taken over all columns. -/
theorem sum_group (y : Fin 512 → ℝ) (g : Fin 8) : ∑ l : Fin 64, y ⟨g.val * 64 + l.val, by omega⟩ = ∑ j : Fin 512, if j.val / 64 = g.val then y j else 0 := by
  rw [← sum_tile (N := 8) (S := 64) (fun j : Fin 512 => if j.val / 64 = g.val then y j else 0) (fun c l => if c = g then y ⟨c.val * 64 + l.val, by omega⟩ else 0) rfl
    fun c l hl => if_congr (by rw [Fin.ext_iff]; dsimp only; omega) rfl rfl, Finset.sum_comm]
  exact Finset.sum_congr rfl fun l _ => by rw [Finset.sum_ite_eq' Finset.univ g, if_pos (Finset.mem_univ g)]

theorem db_eq (z : Fin 8192 → Fin 1024 → ℝ) :
    (fun t (g : Fin 128) => if h : g.val < 8 then ∑ c, ∑ l, split4 (dm z d) c t ⟨g.val, h⟩ l else 0) = db z d 64 := by
  funext t g
  unfold db dmSum
  split
  · next h =>
    rw [Finset.sum_comm, ← sum_group (fun j => ∑ c : Fin 64, tile 128 (dm z d) c.val t j) ⟨g.val, h⟩]
    rfl
  · exact (Finset.sum_eq_zero fun j _ => if_neg (by omega)).symm

end

section
variable (V : Valuation τ sig (Elt Ideal)) (z : Fin 8192 → Fin 1024 → ℝ) (lg lb : Fin 1 → Fin 512 → ℝ) (w : Fin 8 → Fin 128 → Fin 128 → ℝ) (b : Fin 8 → Fin 128 → ℝ)
  (dy : Fin 8192 → Fin 512 → ℝ) (h0 : V (Proc.devRef .tc main_arg0) = mat .f32 z) (h1 : V (Proc.devRef .tc main_arg1) = mat .f32 lg)
  (h2 : V (Proc.devRef .tc main_arg2) = mat .f32 lb) (h3 : V (Proc.devRef .tc main_arg3) = mat3 .f32 w)
  (h4 : V (Proc.devRef .tc main_arg4) = mat .f32 b) (h5 : V (Proc.devRef .tc main_arg5) = mat .f32 dy)

include h0 in
theorem v0_eq : Value.res_main_v0 V = mat .f32 (u z) := by
  unfold Value.res_main_v0
  rw [h0]
  exact u_at z

include h0 in
theorem v12_eq : Value.res_main_v12 V = mat .f32 (v z) := by
  unfold Value.res_main_v12
  rw [h0]
  exact v_at z

include h0 in
theorem v11_eq : Value.res_main_v11 V = mat .f32 fun i j => gelu (u z i j) := by
  unfold Value.res_main_v11 Value.res_main_v2 Value.res_main_v7 Value.res_main_v6 Value.res_main_v4
  rw [v0_eq V z h0]
  exact gelu_at _

include h0 in
theorem v29_eq : Value.res_main_v29 V = mat .f32 fun i => centred (gv z i) := by
  unfold Value.res_main_v29 Value.res_main_v23 Value.res_main_v14 Value.res_main_v19 Value.res_main_v18 Value.res_main_v16
  rw [v12_eq V z h0]
  clean_types
  rw [gelu_at]
  exact centred_at _

include h0 in
theorem v36_eq : Value.res_main_v36 V = mat .f32 fun i (_ : Fin 1) => (∑ k, centred (gv z i) k * centred (gv z i) k) / 512 + eps := by
  unfold Value.res_main_v36
  rw [v29_eq V z h0]
  exact var_at _

include h0 in
theorem v37_eq : Value.res_main_v37 V = mat .f32 fun i (_ : Fin 1) => rstd 512 (centred (gv z i)) := by
  unfold Value.res_main_v37
  rw [v36_eq V z h0]
  exact r_at _

include h0 in
theorem v42_eq : Value.res_main_v42 V = mat .f32 fun i => xhat (gv z i) := by
  unfold Value.res_main_v42
  rw [v29_eq V z h0, v37_eq V z h0]
  exact xhat_at _

include h0 h1 h2 in
theorem v47_eq : Value.res_main_v47 V = mat4 .f32 (split4 (vln z lg lb)) := by
  unfold Value.res_main_v47
  rw [v42_eq V z h0, h1, h2]
  clean_types
  rw [ln_at]
  exact split_at _

include h3 in
theorem v52_eq : Value.res_main_v52_0 V = mat3 .f32 (wm w) := by
  unfold Value.res_main_v52_0 Value.res_main_v52_1
  rw [h3]
  exact mask_at w

include h0 h1 h2 h3 h4 h5 in
theorem v62_eq : Value.res_main_v62 V = mat .f32 fun i j => dy i j * mixed w b (chunk (vln z lg lb) i) (pos i) j := by
  unfold Value.res_main_v62 Value.res_main_v59
  rw [v47_eq V z lg lb h0 h1 h2, v52_eq V w h3, h4, h5]
  clean_types
  rw [mixed_at, join_mixed]
  exact mul_at _ _

include h0 h5 in
theorem v63_eq : Value.res_main_v63 V = mat4 .f32 (split4 (dm z dy)) := by
  unfold Value.res_main_v63
  rw [v11_eq V z h0, h5]
  clean_types
  rw [mul_at, split_at]
  exact congrArg (fun x => mat4 .f32 (split4 x)) (funext fun i => funext fun j => mul_comm _ _)

include h0 h3 h5 in
theorem v73_eq : Value.res_main_v73 V = mat .f32 (dvln z w dy) := by
  unfold Value.res_main_v73 Value.res_main_v68
  rw [v63_eq V z dy h0 h5, v52_eq V w h3]
  clean_types
  rw [back_at, join_back]
  rfl

include h0 h1 h3 h5 in
theorem v102_eq : Value.res_main_v102 V = mat .f32 fun i => lnBack (gv z i) (dvln z w dy i) (lg 0) := by
  unfold Value.res_main_v102 Value.res_main_v94 Value.res_main_v90 Value.res_main_v80
  rw [v29_eq V z h0, v36_eq V z h0, v37_eq V z h0, v73_eq V z w dy h0 h3 h5, h1]
  clean_types
  rw [gain_at, r3_at, rms_at, demean_at]
  exact congrArg (mat .f32) (funext fun i => funext fun j => ln_back _ _ _ _)

end

/-- The reference's five results are the model's, for finite arguments. -/
theorem run (m : (ℓ : Loc nD τ sig) → Buf (Elt Ideal) ℓ) (ρ : Dev nD → PrngReg)
    (z : Dev nD → Fin 8192 → Fin 1024 → ℝ) (lg lb : Dev nD → Fin 1 → Fin 512 → ℝ) (w : Dev nD → Fin 8 → Fin 128 → Fin 128 → ℝ)
    (b : Dev nD → Fin 8 → Fin 128 → ℝ) (dy : Dev nD → Fin 8192 → Fin 512 → ℝ)
    (h0 : ∀ c : Dev nD, m ((c : Thread nD τ).loc main_arg0) = mat .f32 (z c)) (h1 : ∀ c : Dev nD, m ((c : Thread nD τ).loc main_arg1) = mat .f32 (lg c))
    (h2 : ∀ c : Dev nD, m ((c : Thread nD τ).loc main_arg2) = mat .f32 (lb c)) (h3 : ∀ c : Dev nD, m ((c : Thread nD τ).loc main_arg3) = mat3 .f32 (w c))
    (h4 : ∀ c : Dev nD, m ((c : Thread nD τ).loc main_arg4) = mat .f32 (b c)) (h5 : ∀ c : Dev nD, m ((c : Thread nD τ).loc main_arg5) = mat .f32 (dy c)) :
    θ_run defs (onTc (τ := τ) (main (F := Ideal))) ⟨m, fun _ => 0, ρ⟩ fun r => ∀ c : Dev nD,
      r.2.mem ((c : Thread nD τ).loc main_v128) = mat .bf16 (dz (z c) (lg c) (lb c) (w c) (b c) (dy c))
      ∧ r.2.mem ((c : Thread nD τ).loc main_v72) = mat3 .f32 (dw (z c) (lg c) (lb c) (dy c) 64)
      ∧ r.2.mem ((c : Thread nD τ).loc main_v130) = mat .f32 (db (z c) (dy c) 64)
      ∧ r.2.mem ((c : Thread nD τ).loc main_v78) = mat .f32 (dlg (z c) (w c) (dy c))
      ∧ r.2.mem ((c : Thread nD τ).loc main_v75) = mat .f32 (dlb (z c) (w c) (dy c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.Reference2Ideal.Value.run (F := Ideal) m ρ)
  obtain ⟨e0, e1, e2, e3, e4, hargs⟩ := h c
  have k0 : StableHlo.launchContents m c (Proc.devRef .tc main_arg0) = mat .f32 (z c) := h0 c
  have k1 : StableHlo.launchContents m c (Proc.devRef .tc main_arg1) = mat .f32 (lg c) := h1 c
  have k2 : StableHlo.launchContents m c (Proc.devRef .tc main_arg2) = mat .f32 (lb c) := h2 c
  have k3 : StableHlo.launchContents m c (Proc.devRef .tc main_arg3) = mat3 .f32 (w c) := h3 c
  have k4 : StableHlo.launchContents m c (Proc.devRef .tc main_arg4) = mat .f32 (b c) := h4 c
  have k5 : StableHlo.launchContents m c (Proc.devRef .tc main_arg5) = mat .f32 (dy c) := h5 c
  refine ⟨e0.trans ?_, e1.trans ?_, e2.trans ?_, e3.trans ?_, e4.trans ?_, hargs⟩
  · unfold Value.res_main_v2 Value.res_main_v7 Value.res_main_v6 Value.res_main_v4 Value.res_main_v14 Value.res_main_v19 Value.res_main_v18 Value.res_main_v16
    rw [v102_eq _ _ _ _ _ k0 k1 k3 k5, v62_eq _ _ _ _ _ _ _ k0 k1 k2 k3 k4 k5, v0_eq _ _ k0, v12_eq _ _ k0]
    clean_types
    rw [geluD_at, geluD_at]
    exact trunc_pads_at _ _
  · unfold Value.res_main_v68 Value.res_main_v52_1
    rw [v63_eq _ _ _ k0 k5, v47_eq _ _ _ _ k0 k1 k2]
    clean_types
    rw [outer_at, mask_at]
    rfl
  · rw [v63_eq _ _ _ k0 k5]
    clean_types
    rw [db_at, db_eq]
  · rw [v42_eq _ _ k0, v73_eq _ _ _ _ k0 k3 k5]
    clean_types
    rw [mul_at, sum_at]
    exact congrArg (mat .f32) (funext fun _ => funext fun j => Finset.sum_congr rfl fun i _ => mul_comm _ _)
  · rw [v73_eq _ _ _ _ k0 k3 k5]
    clean_types
    exact sum_at _

end Cert.Reference2Ideal.Sgu

end
-- ==== Proof.SguClaim.lean ====
module

public import proofs.«01_k».proof.Defs
public import proofs.«01_k».proof.Proof.Gen.Pre_finite2
public import proofs.«01_k».proof.Proof.Finite
public import proofs.«01_k».proof.Proof.Sgu
public import proofs.«01_k».proof.Proof.SguRef

/-! The spatial gating unit's claim: the reference's frame, the named constants, and equal values for finite arguments. -/

@[expose] public section

set_option maxRecDepth 16384

noncomputable section

open Idealize.ShloMosaic Idealize.ShloMosaic.TcCoe Idealize.SL.Sem

namespace Cert.Sgu

open Lift

theorem frame_reference : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The constants that the kernel's two literals round. -/
theorem preserves : Cert.preserves_Kernel2_Kernel2Ideal :=
  ⟨⟨rfl, fun _ => rfl, rfl⟩, rfl, fun _ => rfl, rfl⟩

/-- Finite arguments are arrays of real numbers. -/
theorem real (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    ∃ z lg lb w b dy, m ((c.tc : Thread Cert.Kernel2Ideal.nD Cert.Kernel2Ideal.τ).loc Cert.Kernel2Ideal.main_arg0) = mat .f32 z
      ∧ m ((c.tc : Thread Cert.Kernel2Ideal.nD Cert.Kernel2Ideal.τ).loc Cert.Kernel2Ideal.main_arg1) = mat .f32 lg
      ∧ m ((c.tc : Thread Cert.Kernel2Ideal.nD Cert.Kernel2Ideal.τ).loc Cert.Kernel2Ideal.main_arg2) = mat .f32 lb
      ∧ m ((c.tc : Thread Cert.Kernel2Ideal.nD Cert.Kernel2Ideal.τ).loc Cert.Kernel2Ideal.main_arg3) = mat3 .f32 w
      ∧ m ((c.tc : Thread Cert.Kernel2Ideal.nD Cert.Kernel2Ideal.τ).loc Cert.Kernel2Ideal.main_arg4) = mat .f32 b
      ∧ m ((c.tc : Thread Cert.Kernel2Ideal.nD Cert.Kernel2Ideal.τ).loc Cert.Kernel2Ideal.main_arg5) = mat .f32 dy := by
  have e := congrFun (h c) ix0
  unfold Cert.Pre_finite2.fn Cert.Pre_finite2.fn_part1 at e
  simp only [and_one] at e
  obtain ⟨⟨⟨⟨⟨e0, e1⟩, e2⟩, e3⟩, e4⟩, e5⟩ := e
  exact ⟨_, _, _, _, _, _, mat_of_finite _ _ _ _ _ e0, mat_of_finite _ _ _ _ _ e1, mat_of_finite _ _ _ _ _ e2, mat3_of_finite _ _ _ _ _ e3,
    mat_of_finite _ _ _ _ _ e4, mat_of_finite _ _ _ _ _ e5⟩

theorem algebraic : Cert.algebraic_Kernel2Ideal_Reference2Ideal_pre_finite2 := by
  intro m ρ m' ρ' hpre hag
  choose z lg lb w b dy h0 h1 h2 h3 h4 h5 using real m hpre
  refine ⟨_, _, _, _, _, Cert.Kernel2Ideal.Sgu.run m ρ z lg lb w b dy h0 h1 h2 h3 h4 h5, ?_⟩
  exact Cert.Reference2Ideal.Sgu.run m' ρ' z lg lb w b dy (fun c => (hag c).1.trans (h0 c)) (fun c => (hag c).2.1.trans (h1 c)) (fun c => (hag c).2.2.1.trans (h2 c))
    (fun c => (hag c).2.2.2.1.trans (h3 c)) (fun c => (hag c).2.2.2.2.1.trans (h4 c)) (fun c => (hag c).2.2.2.2.2.trans (h5 c))

end Cert.Sgu

end
-- ==== Proof.MemKvFwd.lean ====
module

public import proofs.«01_k».proof.Proof.Gen.Kernel8Ideal.Value
public import proofs.«01_k».proof.Proof.MemKvModel
public import proofs.«01_k».proof.Proof.Heads

@[expose] public section

set_option maxRecDepth 16384

noncomputable section

open Idealize.ShloMosaic Idealize.ShloMosaic.TcCoe Idealize.SL.Sem
open Idealize.ShloMosaic.Pipeline (Dat)

namespace Cert.Kernel8Ideal.MemKvFwd

open Cert.Kernel8Ideal Cert.Kernel8Ideal.Gen Lift
open Model.MemKv (mn kv head kn vals)

variable (x : Fin 256 → Fin 1024 → ℝ) (g : Fin 1 → Fin 1024 → ℝ) (w : Fin 1024 → Fin 1024 → ℝ) (kg : Fin 1 → Fin 128 → ℝ)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem mn_at : k0_pay2 (F := Ideal) (mat .f32 x) (mat .f32 g) = mat .bf16 (mn x g) := by
  funext i
  idx_vars i
  pointwise [k0_pay2]
  simp (disch := norm_num) only [mat_at, ← EReal.coe_mul, ← EReal.coe_add, coe_sum, w_eps, w_inv1024, ← div_eq_mul_inv, rsqrt_ms, mn]

theorem kv_at : k0_pay3 (F := Ideal) (mat .f32 x) (mat .f32 g) (mat .bf16 w) = mat .f32 (kv x g w) := by
  funext i
  idx_vars i
  unfold k0_pay3
  rw [mn_at]
  pointwise []
  simp only [mat_at, ← EReal.coe_mul, coe_sum, kv]

theorem mn_out : out0_6 (F := Ideal) (mat .f32 x) (mat .f32 g) (mat .bf16 w) (mat .f32 kg) = mat .bf16 (mn x g) := by
  unfold out0_6
  frame_out
  rw [mn_at]

theorem vals_out : out0_5 (F := Ideal) (mat .f32 x) (mat .f32 g) (mat .bf16 w) (mat .f32 kg) = mat .bf16 (vals x g w) := by
  unfold out0_5
  frame_out
  unfold k0_pay4
  rw [kv_at, slice_at _ _ (by omega)]
  rfl

theorem kn_out : out0_4 (F := Ideal) (mat .f32 x) (mat .f32 g) (mat .bf16 w) (mat .f32 kg) = mat .bf16 (kn x g w kg) := by
  unfold_out out0_4
  frame_out
  unfold k0_pay5
  rw [kv_at]
  funext i
  idx_vars i
  refine canon_heads (Val := Elt Ideal) (e := .bf16) (fun i j => ((kn x g w kg i j : ℝ) : EReal)) _ _ _ _ _ _ _ _ _
    (fun i l h => ?_) (fun i l h => ?_) (fun i l h => ?_) (fun i l h => ?_) i0 i1
  · rw [Model.MemKv.kn_at x g w kg 0 (o := 0) rfl i l h]
    pointwise []
    simp (disch := norm_num) only [mat_at, ← EReal.coe_mul, ← EReal.coe_add, coe_sum, w_eps, w_inv128, ← div_eq_mul_inv, rsqrt_ms]
    have e (h) : head x g w i 0 h = fun k => kv x g w i ⟨k.val, by omega⟩ := funext fun k => by simp only [head, Nat.zero_mul, Nat.zero_add]
    simp only [e, Nat.zero_add]
  · rw [Model.MemKv.kn_at x g w kg 1 (o := 128) rfl i l h]
    pointwise [k0_pay6]
    simp (disch := norm_num) only [mat_at, ← EReal.coe_mul, ← EReal.coe_add, coe_sum, w_eps, w_inv128, ← div_eq_mul_inv, rsqrt_ms]
    rfl
  · rw [Model.MemKv.kn_at x g w kg 2 (o := 256) rfl i l h]
    pointwise [k0_pay7]
    simp (disch := norm_num) only [mat_at, ← EReal.coe_mul, ← EReal.coe_add, coe_sum, w_eps, w_inv128, ← div_eq_mul_inv, rsqrt_ms]
    rfl
  · rw [Model.MemKv.kn_at x g w kg 3 (o := 384) rfl i l h]
    pointwise [k0_pay1, k0_pay8, k0_pay9]
    simp (disch := norm_num) only [mat_at, ← EReal.coe_mul, ← EReal.coe_add, coe_sum, w_eps, w_inv128, ← div_eq_mul_inv, rsqrt_ms]
    rfl

/-- The kernel's three results are the model's, for finite arguments. -/
theorem run (m : (ℓ : Loc nD τ sig) → Buf (Elt Ideal) ℓ) (ρ : Dev nD → PrngReg)
    (x : Dev nD → Fin 256 → Fin 1024 → ℝ) (g : Dev nD → Fin 1 → Fin 1024 → ℝ) (w : Dev nD → Fin 1024 → Fin 1024 → ℝ) (kg : Dev nD → Fin 1 → Fin 128 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (kg c)) :
    θ_run defs (onTc (τ := τ) (main (F := Ideal))) ⟨m, fun _ => 0, ρ⟩ fun r => ∀ c : Dev nD,
      r.2.mem ((c : Thread nD τ).loc main_v1_0) = mat .bf16 (kn (x c) (g c) (w c) (kg c))
      ∧ r.2.mem ((c : Thread nD τ).loc main_v1_1) = mat .bf16 (vals (x c) (g c) (w c))
      ∧ r.2.mem ((c : Thread nD τ).loc main_v1_2) = mat .bf16 (mn (x c) (g c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have b0 (c : Dev nD) := ((by blk_ext! [iblk, V, idx t0_0] : iblk m c 0 t0_0 = m ((c : Thread nD τ).loc main_arg0)).trans (h0 c))
  have b1 (c : Dev nD) := ((by blk_ext! [iblk, V, idx t0_0] : iblk m c 1 t0_0 = m ((c : Thread nD τ).loc main_arg1)).trans (h1 c))
  have b2 (c : Dev nD) : iblk m c 2 t0_0 = mat .bf16 (w c) := by
    have e : iblk m c 2 t0_0 = V m c main_v0 := by blk_ext! [iblk, V, idx t0_0]
    rw [e]
    entry_read
    rw [h2]
    rfl
  have b3 (c : Dev nD) := ((by blk_ext! [iblk, V, idx t0_0] : iblk m c 3 t0_0 = m ((c : Thread nD τ).loc main_arg3)).trans (h3 c))
  refine (θ_run defs _ _).mono (fun r h c => ?_) (Cert.Kernel8Ideal.Value.run_blocks m ρ)
  obtain ⟨e0, e1, e2, hargs⟩ := h c
  refine ⟨e0.trans ?_, e1.trans ?_, e2.trans ?_, hargs⟩
  · refine (dats m 0 c).arrAt_eq_of_after_last 4 t0_0 (by decide +kernel) _ fun j => ?_
    blk_simp
    rw [after0_4, b0, b1, b2, b3, kn_out]
  · refine (dats m 0 c).arrAt_eq_of_after_last 5 t0_0 (by decide +kernel) _ fun j => ?_
    blk_simp
    rw [after0_5, b0, b1, b2, b3, vals_out]
  · refine (dats m 0 c).arrAt_eq_of_after_last 6 t0_0 (by decide +kernel) _ fun j => ?_
    blk_simp
    rw [after0_6, b0, b1, b2, b3, mn_out]

end Cert.Kernel8Ideal.MemKvFwd

end
-- ==== Proof.MemKvFwdRef.lean ====
module

public import proofs.«01_k».proof.Proof.Gen.Reference8Ideal.Run
public import proofs.«01_k».proof.Proof.MemKvModel

@[expose] public section

set_option maxRecDepth 16384

noncomputable section

open Idealize.ShloMosaic Idealize.ShloMosaic.TcCoe Idealize.SL.Sem

namespace Cert.Reference8Ideal.MemKvFwd

open Cert.Reference8Ideal Cert.Reference8Ideal.Gen Lift
open Model.MemKv (mn kv head kn vals)

set_option maxHeartbeats 1000000 in
/-- The reference's three results are the model's, for finite arguments. -/
theorem run (m : (ℓ : Loc nD τ sig) → Buf (Elt Ideal) ℓ) (ρ : Dev nD → PrngReg)
    (x : Dev nD → Fin 256 → Fin 1024 → ℝ) (g : Dev nD → Fin 1 → Fin 1024 → ℝ) (w : Dev nD → Fin 1024 → Fin 1024 → ℝ) (kg : Dev nD → Fin 1 → Fin 128 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (kg c)) :
    θ_run defs (onTc (τ := τ) (main (F := Ideal))) ⟨m, fun _ => 0, ρ⟩ fun r => ∀ c : Dev nD,
      r.2.mem ((c : Thread nD τ).loc main_v30) = mat .bf16 (kn (x c) (g c) (w c) (kg c))
      ∧ r.2.mem ((c : Thread nD τ).loc main_v32) = mat .bf16 (vals (x c) (g c) (w c))
      ∧ r.2.mem ((c : Thread nD τ).loc main_v33) = mat .bf16 (mn (x c) (g c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨e0, e1, e2, hargs⟩ := h c
  refine ⟨e0.trans ?_, e1.trans ?_, e2.trans ?_, hargs⟩
  · rw [h0, h1, h2, h3]
    clean_types
    funext i
    idx_vars i
    pointwise []
    simp (disch := norm_num) only [mat_at, ← EReal.coe_mul, ← EReal.coe_add, coe_sum, w_eps, w_1024, w_128, div_ne, rsqrt_ms]
    simp only [Model.MemKv.mn_fold, Model.MemKv.kv_fold]
    have e : (⟨i1.val / 128 * 128 + i1.val % 128, by omega⟩ : Fin 1024) = ⟨i1.val, by omega⟩ := Fin.ext (by dsimp only; omega)
    simp only [kn, join, head, e]
    rfl
  · rw [h0, h1, h2]
    clean_types
    funext i
    idx_vars i
    pointwise []
    simp (disch := norm_num) only [mat_at, ← EReal.coe_mul, ← EReal.coe_add, coe_sum, w_eps, w_1024, div_ne, rsqrt_ms]
    rfl
  · rw [h0, h1]
    clean_types
    funext i
    idx_vars i
    pointwise []
    simp (disch := norm_num) only [mat_at, ← EReal.coe_mul, ← EReal.coe_add, coe_sum, w_eps, w_1024, div_ne, rsqrt_ms]
    rfl

end Cert.Reference8Ideal.MemKvFwd

end
-- ==== Proof.MemKvFwdClaim.lean ====
module

public import proofs.«01_k».proof.Defs
public import proofs.«01_k».proof.Proof.Gen.Pre_finite8
public import proofs.«01_k».proof.Proof.Finite
public import proofs.«01_k».proof.Proof.MemKvFwd
public import proofs.«01_k».proof.Proof.MemKvFwdRef

/-! The memory bank's forward call: the reference's frame, and equal values for finite arguments. -/

@[expose] public section

set_option maxRecDepth 16384

noncomputable section

open Idealize.ShloMosaic Idealize.ShloMosaic.TcCoe Idealize.SL.Sem

namespace Cert.MemKvFwd

open Lift

theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- Finite arguments are arrays of real numbers. -/
theorem real (m : (ℓ : Loc Cert.Kernel8Ideal.nD Cert.Kernel8Ideal.τ Cert.Kernel8Ideal.sig) → Buf (Elt Ideal) ℓ)
    (h : Cert.Pre_Kernel8Ideal_finite8 m) (c : Dev Cert.Kernel8Ideal.nD) :
    ∃ x g w kg, m ((c.tc : Thread Cert.Kernel8Ideal.nD Cert.Kernel8Ideal.τ).loc Cert.Kernel8Ideal.main_arg0) = mat .f32 x
      ∧ m ((c.tc : Thread Cert.Kernel8Ideal.nD Cert.Kernel8Ideal.τ).loc Cert.Kernel8Ideal.main_arg1) = mat .f32 g
      ∧ m ((c.tc : Thread Cert.Kernel8Ideal.nD Cert.Kernel8Ideal.τ).loc Cert.Kernel8Ideal.main_arg2) = mat .f32 w
      ∧ m ((c.tc : Thread Cert.Kernel8Ideal.nD Cert.Kernel8Ideal.τ).loc Cert.Kernel8Ideal.main_arg3) = mat .f32 kg := by
  have e := congrFun (h c) ix0
  unfold Cert.Pre_finite8.fn Cert.Pre_finite8.fn_part1 at e
  simp only [and_one] at e
  obtain ⟨⟨⟨e0, e1⟩, e2⟩, e3⟩ := e
  exact ⟨_, _, _, _, mat_of_finite _ _ _ _ _ e0, mat_of_finite _ _ _ _ _ e1, mat_of_finite _ _ _ _ _ e2, mat_of_finite _ _ _ _ _ e3⟩

theorem algebraic : Cert.algebraic_Kernel8Ideal_Reference8Ideal_pre_finite8 := by
  intro m ρ m' ρ' hpre hag
  choose x g w kg h0 h1 h2 h3 using real m hpre
  refine ⟨_, _, _, Cert.Kernel8Ideal.MemKvFwd.run m ρ x g w kg h0 h1 h2 h3, ?_⟩
  exact Cert.Reference8Ideal.MemKvFwd.run m' ρ' x g w kg (fun c => (hag c).1.trans (h0 c)) (fun c => (hag c).2.1.trans (h1 c)) (fun c => (hag c).2.2.1.trans (h2 c))
    (fun c => (hag c).2.2.2.trans (h3 c))

end Cert.MemKvFwd

end
-- ==== Proof.MemAttnFwd.lean ====
module

public import proofs.«01_k».proof.Proof.Gen.Kernel9Ideal.Value
public import proofs.«01_k».proof.Proof.Heads
public import proofs.«01_k».proof.Proof.MemAttnModel

/-! The memory attention's forward call computes the model's values. -/

@[expose] public section

set_option maxRecDepth 16384

noncomputable section

open Idealize.ShloMosaic Idealize.ShloMosaic.TcCoe Idealize.SL.Sem
open Idealize.ShloMosaic.Pipeline (Dat)

namespace Cert.Kernel9Ideal.MemAttnFwd

open Cert.Kernel9Ideal Cert.Kernel9Ideal.Gen Lift
open Model.MemAttn

theorem idx : ∀ t : Fin cfg0.N, win0_0.index t = ![t.val, 0] ∧ win0_1.index t = ![0, 0] ∧ win0_2.index t = ![0, 0]
    ∧ win0_3.index t = ![0, 0] ∧ win0_4.index t = ![t.val, 0] := (by decide +kernel : ∀ t : Fin grid0.N, _)

section
variable (g : Fin 1 → Fin 128 → ℝ) (q : Fin 512 → Fin 128 → ℝ) (k v : Fin 256 → Fin 128 → ℝ)

/-- One head's values: the norm, the scores, the softmax and the weighted sum. -/
theorem head_at : k0_pay2 (F := Ideal) (mat .f32 q) (mat .f32 g) (mat .bf16 k) (mat .bf16 v) = mat .bf16 (o (qn g q) k v) := by
  funext i
  idx_vars i
  pointwise [k0_pay2]
  simp (disch := norm_num) only [mat_at, ← EReal.coe_mul, ← EReal.coe_add, coe_sum, w_eps, w_inv128, ← div_eq_mul_inv, rsqrt_ms]
  change ∑ x, Ideal.div (Ideal.exp _) (∑ l, Ideal.exp _) * _ = ((∑ m, p (qn g q) k i0 m * v m i1 : ℝ) : EReal)
  simp only [w_sc, ← EReal.coe_mul, w_neginf, fold_max, ← EReal.coe_sub, Ideal.exp_coe, coe_sum]
  simp only [div_ne (sum_exp_ne _), ← EReal.coe_mul, coe_sum]
  refine congrArg Real.toEReal (Finset.sum_congr rfl fun m _ => congrArg (· * v m i1) ?_)
  exact soft_shift (score (qn g q) k i0) _ m

theorem head1_at : k0_pay4 (F := Ideal) (mat .f32 q) (k0_pay3 (mat .f32 q)) (mat .f32 g) (mat .bf16 k) (mat .bf16 v) = mat .bf16 (o (qn g q) k v) := head_at g q k v

theorem head2_at : k0_pay6 (F := Ideal) (mat .f32 q) (k0_pay5 (mat .f32 q)) (Scalar.ofBits .f32 0x358637BD#32) (mat .f32 g) (mat .bf16 k) (mat .bf16 v)
    = mat .bf16 (o (qn g q) k v) := head_at g q k v

theorem head3_at : k0_pay1 (F := Ideal) (k0_pay7 (mat .f32 q)) (mat .f32 g) (mat .bf16 k) (mat .bf16 v) = mat .bf16 (o (qn g q) k v) := head_at g q k v

end

/-- A block's four heads, side by side. -/
theorem out (q : Fin 512 → Fin 512 → ℝ) (g : Fin 1 → Fin 128 → ℝ) (k v : Fin 256 → Fin 512 → ℝ) :
    out0_4 (F := Ideal) (mat .f32 q) (mat .f32 g) (mat .bf16 k) (mat .bf16 v) = mat .bf16 (oAll q g k v) := by
  unfold out0_4
  frame_out
  rw [(ld_at q inb_S512x512_S512x128_0_0 (by omega)).1, (ld_at q inb_S512x512_S512x128_0_128 (by omega)).1, (ld_at q inb_S512x512_S512x128_0_256 (by omega)).1, (ld_at q inb_S512x512_S512x128_0_384 (by omega)).1,
    (ld_at k inb_S256x512_S256x128_0_0 (by omega)).2, (ld_at k inb_S256x512_S256x128_0_128 (by omega)).2, (ld_at k inb_S256x512_S256x128_0_256 (by omega)).2, (ld_at k inb_S256x512_S256x128_0_384 (by omega)).2,
    (ld_at v inb_S256x512_S256x128_0_0 (by omega)).2, (ld_at v inb_S256x512_S256x128_0_128 (by omega)).2, (ld_at v inb_S256x512_S256x128_0_256 (by omega)).2, (ld_at v inb_S256x512_S256x128_0_384 (by omega)).2]
  funext i
  idx_vars i
  refine canon_heads (Val := Elt Ideal) (e := .bf16) (fun i j => ((oAll q g k v i j : ℝ) : EReal)) _ _ _ _ _ _ _ _ _
    (fun i l h => ?_) (fun i l h => ?_) (fun i l h => ?_) (fun i l h => ?_) i0 i1
  · exact (congrFun (head_at g (hd q 0) (hd k 0) (hd v 0)) (ix2 i l)).trans (congrArg Real.toEReal (oAll_at _ _ _ _ 0 rfl i l h).symm)
  · exact (congrFun (head1_at g (hd q 1) (hd k 1) (hd v 1)) (ix2 i l)).trans (congrArg Real.toEReal (oAll_at _ _ _ _ 1 rfl i l h).symm)
  · exact (congrFun (head2_at g (hd q 2) (hd k 2) (hd v 2)) (ix2 i l)).trans (congrArg Real.toEReal (oAll_at _ _ _ _ 2 rfl i l h).symm)
  · exact (congrFun (head3_at g (hd q 3) (hd k 3) (hd v 3)) (ix2 i l)).trans (congrArg Real.toEReal (oAll_at _ _ _ _ 3 rfl i l h).symm)

section
variable (m : (ℓ : Loc nD τ sig) → Buf (Elt Ideal) ℓ) (c : Dev nD)
  (q : Fin 8192 → Fin 512 → ℝ) (g : Fin 1 → Fin 128 → ℝ) (k v : Fin 256 → Fin 512 → ℝ)
  (h0 : m ((c : Thread nD τ).loc main_arg0) = mat .f32 q) (h1 : m ((c : Thread nD τ).loc main_arg1) = mat .f32 g)
  (h2 : m ((c : Thread nD τ).loc main_arg2) = mat .f32 k) (h3 : m ((c : Thread nD τ).loc main_arg3) = mat .f32 v)

include h2 h3 in
theorem V_in : V m c main_v0 = mat .bf16 k ∧ V m c main_v1 = mat .bf16 v := by
  unfold V hostOps0
  refine ⟨?_, ?_⟩
  all_goals after_results
  · rw [h2]; rfl
  · rw [h3]; rfl

include h0 h1 h2 h3 in
/-- Every block the body loads, as the model's. -/
theorem blocks (t : Fin cfg0.N) : iblk m c 0 t = mat .f32 (tile 512 q t.val) ∧ iblk m c 1 t = mat .f32 g
    ∧ iblk m c 2 t = mat .bf16 k ∧ iblk m c 3 t = mat .bf16 v := by
  obtain ⟨v0, v1⟩ := V_in m c k v h2 h3
  refine ⟨?_, ?_, ?_, ?_⟩
  all_goals
    funext i
    idx_vars i
    blk_simp [iblk, idx t]
  · rw [V_main_arg0, h0]; exact mat_tile _ _ _ _ _ (by blk_simp [idx t]) (by blk_simp [idx t])
  · rw [V_main_arg1, h1]; exact mat_whole _ _ _ _ (by blk_simp [idx t]) (by blk_simp [idx t])
  · rw [v0]; exact mat_whole _ _ _ _ (by blk_simp [idx t]) (by blk_simp [idx t])
  · rw [v1]; exact mat_whole _ _ _ _ (by blk_simp [idx t]) (by blk_simp [idx t])

theorem o_tile (t : ℕ) (i : Fin 512) (j : Fin 512) (h : t * 512 + i.val < 8192) : oAll (tile 512 q t) g k v i j = oAll q g k v ⟨t * 512 + i.val, h⟩ j := by
  have e (b : Fin 4) : hd (tile 512 q t) b i = hd q b ⟨t * 512 + i.val, h⟩ := by
    funext l
    simp only [cols, tile, dif_pos h]
  simp only [oAll, join, o, p, score, qn, e]

end

/-- The kernel's result is the model's, for finite arguments. -/
theorem run (m : (ℓ : Loc nD τ sig) → Buf (Elt Ideal) ℓ) (ρ : Dev nD → PrngReg)
    (q : Dev nD → Fin 8192 → Fin 512 → ℝ) (g : Dev nD → Fin 1 → Fin 128 → ℝ) (k v : Dev nD → Fin 256 → Fin 512 → ℝ)
    (h0 : ∀ c : Dev nD, m ((c : Thread nD τ).loc main_arg0) = mat .f32 (q c)) (h1 : ∀ c : Dev nD, m ((c : Thread nD τ).loc main_arg1) = mat .f32 (g c))
    (h2 : ∀ c : Dev nD, m ((c : Thread nD τ).loc main_arg2) = mat .f32 (k c)) (h3 : ∀ c : Dev nD, m ((c : Thread nD τ).loc main_arg3) = mat .f32 (v c)) :
    θ_run defs (onTc (τ := τ) (main (F := Ideal))) ⟨m, fun _ => 0, ρ⟩ fun r => ∀ c : Dev nD,
      r.2.mem ((c : Thread nD τ).loc main_v2) = mat .bf16 (oAll (q c) (g c) (k c) (v c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.Kernel9Ideal.Value.run_blocks m ρ)
  obtain ⟨e0, hargs⟩ := h c
  refine ⟨e0.trans ?_, hargs⟩
  refine (dats m 0 c).arrAt_eq_of_covers 4 _ (by decide +kernel) fun t hf y => ?_
  obtain ⟨b0, b1, b2, b3⟩ := blocks m c (q c) (g c) (k c) (v c) (h0 c) (h1 c) (h2 c) (h3 c) t
  blk_simp
  rw [after0_4, b0, b1, b2, b3, out]
  idx_vars y
  have lt : t.val < 16 := lt_of_lt_of_eq t.isLt N_0
  rw [mat_at, o_tile _ _ _ _ _ _ _ (by omega)]
  exact (mat_whole _ ⟨t.val * 512 + y0.val, by omega⟩ y1 _ (by blk_simp [idx t]) (by blk_simp [idx t])).symm

end Cert.Kernel9Ideal.MemAttnFwd

end
-- ==== Proof.MemAttnFwdRef.lean ====
module

public import proofs.«01_k».proof.Proof.Gen.Reference9Ideal.Run
public import proofs.«01_k».proof.Proof.MemAttnRef

/-! The memory attention's plain forward computes the model's values. Its lines up to the weights are those that the
gradient's reference differentiates. -/

@[expose] public section

set_option maxRecDepth 16384

noncomputable section

open Idealize.ShloMosaic Idealize.ShloMosaic.TcCoe Idealize.SL.Sem

namespace Cert.Reference9Ideal.MemAttnFwd

open Cert.Reference9Ideal Cert.Reference9Ideal.Gen Lift
open Model.MemAttn
open Cert.Reference3Ideal.MemAttn (split splitR_at split_at gain_at ms_at r_at qr_at qn_at score_at top_at e_at sum_at div_at p_eq)

/-- The values, weighted and put back side by side. -/
theorem out_at (v : Fin 256 → Fin 512 → ℝ) (w : Fin 4 → Fin 8192 → Fin 256 → ℝ) : shapeCast S8192x512 (transpose S8192x4x128 [2, 0, 1] (Host.dotGeneral (F := Ideal) dot_S256x4x128_S4x8192x256_S4x128x8192_0_2_2_1_1_0 none
      (mat3 .f32 (split v)) (mat3 .f32 w)) transposes_S4x128x8192_S8192x4x128_2_0_1) shapeCasts_S8192x4x128_S8192x512
    = mat .f32 (join (N := 4) rfl fun h i l => ∑ m, w h i m * hd v h m l) := by
  funext i
  idx_vars i
  pointwise []
  simp only [mat3_at, ← EReal.coe_mul, coe_sum]
  exact congrArg Real.toEReal (Finset.sum_congr rfl fun _ _ => mul_comm _ _)

/-- The reference's result is the model's, for finite arguments. -/
theorem run (m : (ℓ : Loc nD τ sig) → Buf (Elt Ideal) ℓ) (ρ : Dev nD → PrngReg)
    (q : Dev nD → Fin 8192 → Fin 512 → ℝ) (g : Dev nD → Fin 1 → Fin 128 → ℝ) (k v : Dev nD → Fin 256 → Fin 512 → ℝ)
    (h0 : ∀ c : Dev nD, m ((c : Thread nD τ).loc main_arg0) = mat .f32 (q c)) (h1 : ∀ c : Dev nD, m ((c : Thread nD τ).loc main_arg1) = mat .f32 (g c))
    (h2 : ∀ c : Dev nD, m ((c : Thread nD τ).loc main_arg2) = mat .f32 (k c)) (h3 : ∀ c : Dev nD, m ((c : Thread nD τ).loc main_arg3) = mat .f32 (v c)) :
    θ_run defs (onTc (τ := τ) (main (F := Ideal))) ⟨m, fun _ => 0, ρ⟩ fun r => ∀ c : Dev nD,
      r.2.mem ((c : Thread nD τ).loc main_v34) = mat .bf16 (oAll (q c) (g c) (k c) (v c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Value.run m ρ)
  obtain ⟨e0, hargs⟩ := h c
  have hS := fun (h : Fin 4) (i : Fin 8192) => sum_exp_ne fun l => score (qn (g c) (hd (q c) h)) (hd (k c) h) i l - top (score (qn (g c) (hd (q c) h)) (hd (k c) h) i)
  refine ⟨e0.trans ?_, hargs⟩
  unfold Value.res_main_v34
  rw [h0, h1, h2, h3]
  clean_types
  rw [splitR_at, split_at, split_at, gain_at, ms_at, r_at, qr_at, qn_at]
  erw [score_at]
  rw [top_at, e_at, sum_at, div_at _ _ hS, p_eq, out_at]
  rfl

end Cert.Reference9Ideal.MemAttnFwd

end
-- ==== Proof.MemAttnFwdClaim.lean ====
module

public import proofs.«01_k».proof.Defs
public import proofs.«01_k».proof.Proof.Gen.Pre_finite9
public import proofs.«01_k».proof.Proof.Finite
public import proofs.«01_k».proof.Proof.MemAttnFwd
public import proofs.«01_k».proof.Proof.MemAttnFwdRef

/-! The memory attention's forward call: the reference's frame, and equal values for finite arguments. -/

@[expose] public section

set_option maxRecDepth 16384

noncomputable section

open Idealize.ShloMosaic Idealize.ShloMosaic.TcCoe Idealize.SL.Sem

namespace Cert.MemAttnFwd

open Lift

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Finite arguments are arrays of real numbers. -/
theorem real (m : (ℓ : Loc Cert.Kernel9Ideal.nD Cert.Kernel9Ideal.τ Cert.Kernel9Ideal.sig) → Buf (Elt Ideal) ℓ)
    (h : Cert.Pre_Kernel9Ideal_finite9 m) (c : Dev Cert.Kernel9Ideal.nD) :
    ∃ q g k v, m ((c.tc : Thread Cert.Kernel9Ideal.nD Cert.Kernel9Ideal.τ).loc Cert.Kernel9Ideal.main_arg0) = mat .f32 q
      ∧ m ((c.tc : Thread Cert.Kernel9Ideal.nD Cert.Kernel9Ideal.τ).loc Cert.Kernel9Ideal.main_arg1) = mat .f32 g
      ∧ m ((c.tc : Thread Cert.Kernel9Ideal.nD Cert.Kernel9Ideal.τ).loc Cert.Kernel9Ideal.main_arg2) = mat .f32 k
      ∧ m ((c.tc : Thread Cert.Kernel9Ideal.nD Cert.Kernel9Ideal.τ).loc Cert.Kernel9Ideal.main_arg3) = mat .f32 v := by
  have e := congrFun (h c) ix0
  unfold Cert.Pre_finite9.fn Cert.Pre_finite9.fn_part1 at e
  simp only [and_one] at e
  obtain ⟨⟨⟨e0, e1⟩, e2⟩, e3⟩ := e
  exact ⟨_, _, _, _, mat_of_finite _ _ _ _ _ e0, mat_of_finite _ _ _ _ _ e1, mat_of_finite _ _ _ _ _ e2, mat_of_finite _ _ _ _ _ e3⟩

theorem algebraic : Cert.algebraic_Kernel9Ideal_Reference9Ideal_pre_finite9 := by
  intro m ρ m' ρ' hpre hag
  choose q g k v h0 h1 h2 h3 using real m hpre
  refine ⟨_, Cert.Kernel9Ideal.MemAttnFwd.run m ρ q g k v h0 h1 h2 h3, ?_⟩
  exact Cert.Reference9Ideal.MemAttnFwd.run m' ρ' q g k v (fun c => (hag c).1.trans (h0 c)) (fun c => (hag c).2.1.trans (h1 c)) (fun c => (hag c).2.2.1.trans (h2 c))
    (fun c => (hag c).2.2.2.trans (h3 c))

end Cert.MemAttnFwd

end
-- ==== Proof.MergeFwd.lean ====
module

public import proofs.«01_k».proof.Proof.Gen.Kernel10Ideal.Value
public import proofs.«01_k».proof.Proof.MergeModel

/-! The merge's forward call computes the model's values. -/

@[expose] public section

set_option maxRecDepth 16384

noncomputable section

open Idealize.ShloMosaic Idealize.ShloMosaic.TcCoe Idealize.SL.Sem
open Idealize.ShloMosaic.Pipeline (Dat)

namespace Cert.Kernel10Ideal.MergeFwd

open Cert.Kernel10Ideal Cert.Kernel10Ideal.Gen Lift
open Model.Merge (prod gate spread packed merged added)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] ∧ win0_11.index t = ![t.val, 0]
    ∧ win0_12.index t = ![t.val, 0] ∧ win0_13.index t = ![t.val, 0] ∧ win0_14.index t = ![t.val, 0] := (by decide +kernel : ∀ t : Fin grid0.N, _)

section
variable (ya yc : Fin 256 → Fin 512 → ℝ) (yb : Fin 256 → Fin 1024 → ℝ) (z0 z1 z2 : Fin 256 → Fin 1024 → ℝ) (b0 b1 b2 : Fin 1 → Fin 1024 → ℝ)
  (wa wb wc : Fin 512 → Fin 1024 → ℝ) (wo : Fin 1024 → Fin 1024 → ℝ)

theorem prod_at : k0_pay5 (F := Ideal) (mat .bf16 ya) (mat .bf16 wa) = mat .f32 (prod ya wa) := by
  funext i
  idx_vars i
  pointwise [k0_pay5]
  simp only [mat_at, ← EReal.coe_mul, coe_sum, prod]

theorem prodC_at : k0_pay1 (F := Ideal) (k0_pay10 (mat .bf16 yc)) (mat .bf16 wc) = mat .f32 (prod yc wc) := prod_at yc wc

theorem prodB_at : k0_pay7 (F := Ideal) (mat .bf16 yb) (mat .bf16 (spread wb)) = mat .f32 (prod (packed yb) wb) := by
  funext i
  idx_vars i
  pointwise [k0_pay7]
  simp only [mat_at, ← EReal.coe_mul, coe_sum, Model.Merge.sum_spread]

theorem ab_at : k0_pay9 (F := Ideal) (mat .bf16 ya) (mat .bf16 wa) (mat .bf16 z0) (mat .f32 b0) (mat .bf16 yb) (mat .bf16 (spread wb)) (mat .bf16 z1) (mat .f32 b1)
    = mat .f32 fun i k => gate z0 b0 i k * prod ya wa i k + gate z1 b1 i k * prod (packed yb) wb i k := by
  funext i
  idx_vars i
  unfold k0_pay9
  rw [prod_at, prodB_at]
  pointwise []
  simp only [mat_at, ← EReal.coe_add, ← EReal.coe_mul, Ideal.logistic_coe, gate]

theorem abc_at (s : Fin 256 → Fin 1024 → ℝ) : k0_pay3 (F := Ideal) (mat .f32 s) (k0_pay10 (mat .bf16 yc)) (mat .bf16 wc) (mat .bf16 z2) (mat .f32 b2)
    = mat .bf16 fun i k => s i k + gate z2 b2 i k * prod yc wc i k := by
  funext i
  idx_vars i
  unfold k0_pay3
  rw [prodC_at]
  pointwise []
  simp only [mat_at, ← EReal.coe_add, ← EReal.coe_mul, Ideal.logistic_coe, gate]

theorem added_at (x s : Fin 256 → Fin 1024 → ℝ) : k0_pay4 (F := Ideal) (mat .f32 s) (k0_pay10 (mat .bf16 yc)) (mat .bf16 wc) (mat .bf16 z2) (mat .f32 b2) (mat .f32 x) (mat .bf16 wo)
    = mat .f32 (added wo x fun i k => s i k + gate z2 b2 i k * prod yc wc i k) := by
  funext i
  idx_vars i
  unfold k0_pay4
  rw [abc_at]
  pointwise []
  simp only [mat_at, ← EReal.coe_add, ← EReal.coe_mul, coe_sum, added]

end

section
variable (x : Fin 256 → Fin 1024 → ℝ) (ya yc : Fin 256 → Fin 512 → ℝ) (yb : Fin 256 → Fin 1024 → ℝ) (z : Fin 256 → Fin 3072 → ℝ) (b : Fin 1 → Fin 3072 → ℝ)
  (wa wb wc : Fin 512 → Fin 1024 → ℝ) (wo : Fin 1024 → Fin 1024 → ℝ)

theorem outs : out0_10 (F := Ideal) (mat .f32 x) (mat .bf16 ya) (mat .bf16 yb) (mat .bf16 yc) (mat .bf16 z) (mat .f32 b) (mat .bf16 wa) (mat .bf16 (spread wb)) (mat .bf16 wc) (mat .bf16 wo)
      = mat .f32 (added wo x (merged z b (prod ya wa) (prod (packed yb) wb) (prod yc wc)))
    ∧ out0_11 (F := Ideal) (mat .f32 x) (mat .bf16 ya) (mat .bf16 yb) (mat .bf16 yc) (mat .bf16 z) (mat .f32 b) (mat .bf16 wa) (mat .bf16 (spread wb)) (mat .bf16 wc) (mat .bf16 wo)
      = mat .bf16 (merged z b (prod ya wa) (prod (packed yb) wb) (prod yc wc)) := by
  constructor
  · unfold_out out0_10
    frame_out
    rw [(ld_at z inb_S256x3072_S256x1024_0_0 (by omega)).2, (ld_at z inb_S256x3072_S256x1024_0_1024 (by omega)).2, (ld_at z inb_S256x3072_S256x1024_0_2048 (by omega)).2,
      (ld_at b inb_S1x3072_S1x1024_0_0 (by omega)).1, (ld_at b inb_S1x3072_S1x1024_0_1024 (by omega)).1, (ld_at b inb_S1x3072_S1x1024_0_2048 (by omega)).1, ab_at, added_at]
    rfl
  · unfold_out out0_11
    frame_out
    rw [(ld_at z inb_S256x3072_S256x1024_0_0 (by omega)).2, (ld_at z inb_S256x3072_S256x1024_0_1024 (by omega)).2, (ld_at z inb_S256x3072_S256x1024_0_2048 (by omega)).2,
      (ld_at b inb_S1x3072_S1x1024_0_0 (by omega)).1, (ld_at b inb_S1x3072_S1x1024_0_1024 (by omega)).1, (ld_at b inb_S1x3072_S1x1024_0_2048 (by omega)).1, ab_at, abc_at]
    rfl

theorem prods : out0_12 (F := Ideal) (mat .f32 x) (mat .bf16 ya) (mat .bf16 yb) (mat .bf16 yc) (mat .bf16 z) (mat .f32 b) (mat .bf16 wa) (mat .bf16 (spread wb)) (mat .bf16 wc) (mat .bf16 wo)
      = mat .bf16 (prod ya wa)
    ∧ out0_13 (F := Ideal) (mat .f32 x) (mat .bf16 ya) (mat .bf16 yb) (mat .bf16 yc) (mat .bf16 z) (mat .f32 b) (mat .bf16 wa) (mat .bf16 (spread wb)) (mat .bf16 wc) (mat .bf16 wo)
      = mat .bf16 (prod (packed yb) wb)
    ∧ out0_14 (F := Ideal) (mat .f32 x) (mat .bf16 ya) (mat .bf16 yb) (mat .bf16 yc) (mat .bf16 z) (mat .f32 b) (mat .bf16 wa) (mat .bf16 (spread wb)) (mat .bf16 wc) (mat .bf16 wo)
      = mat .bf16 (prod yc wc) := by
  refine ⟨?_, ?_, ?_⟩
  · unfold_out out0_12
    frame_out
    unfold k0_pay6
    rw [prod_at]
    rfl
  · unfold_out out0_13
    frame_out
    unfold k0_pay8
    rw [prodB_at]
    rfl
  · unfold_out out0_14
    frame_out
    unfold k0_pay2
    rw [prodC_at]
    rfl

end

section
variable (m : (ℓ : Loc nD τ sig) → Buf (Elt Ideal) ℓ) (c : Dev nD)
  (x : Fin 8192 → Fin 1024 → ℝ) (ya : Fin 8192 → Fin 512 → ℝ) (yb : Fin 8192 → Fin 1024 → ℝ) (yc : Fin 8192 → Fin 512 → ℝ) (z : Fin 8192 → Fin 3072 → ℝ) (b : Fin 1 → Fin 3072 → ℝ)
  (wa wb wc : Fin 512 → Fin 1024 → ℝ) (wo : Fin 1024 → Fin 1024 → ℝ)
  (h0 : m ((c : Thread nD τ).loc main_arg0) = mat .f32 x) (h1 : m ((c : Thread nD τ).loc main_arg1) = mat .f32 ya)
  (h2 : m ((c : Thread nD τ).loc main_arg2) = mat .f32 yb) (h3 : m ((c : Thread nD τ).loc main_arg3) = mat .f32 yc)
  (h4 : m ((c : Thread nD τ).loc main_arg4) = mat .f32 z) (h5 : m ((c : Thread nD τ).loc main_arg5) = mat .f32 b)
  (h6 : m ((c : Thread nD τ).loc main_arg6) = mat .f32 wa) (h7 : m ((c : Thread nD τ).loc main_arg7) = mat .f32 wb)
  (h8 : m ((c : Thread nD τ).loc main_arg8) = mat .f32 wc) (h9 : m ((c : Thread nD τ).loc main_arg9) = mat .f32 wo)

include h1 h2 h3 h4 in
theorem V_rows : V m c main_v3 = mat .bf16 ya ∧ V m c main_v4 = mat .bf16 yb ∧ V m c main_v5 = mat .bf16 yc ∧ V m c main_v6 = mat .bf16 z := by
  unfold V hostOps0 hostOps0_1 hostOps0_2
  simp only [List.flatten_cons, List.flatten_nil, List.cons_append, List.nil_append]
  refine ⟨?_, ?_, ?_, ?_⟩
  all_goals after_results
  · rw [h1]; rfl
  · rw [h2]; rfl
  · rw [h3]; rfl
  · rw [h4]; rfl

include h6 h7 h8 h9 in
theorem V_w : V m c main_v7 = mat .bf16 wa ∧ V m c main_v8 = mat .bf16 (spread wb) ∧ V m c main_v9 = mat .bf16 wc ∧ V m c main_v10 = mat .bf16 wo := by
  unfold V hostOps0 hostOps0_1 hostOps0_2
  simp only [List.flatten_cons, List.flatten_nil, List.cons_append, List.nil_append]
  refine ⟨?_, ?_, ?_, ?_⟩
  all_goals after_results
  · rw [h6]; rfl
  · rw [h7]
    try simp only [StableHlo.TRef.toBuf, StableHlo.TRef.ofBuf]
    clean_types
    funext i
    idx_vars i
    pointwise []
    exact Model.Merge.spread_at wb i0 i1 pads_S8x64x1024_S8x128x1024_000_0640_000 h_S_ (by omega) (by omega)
      fun i => by have a : (i 0).val < 8 := (i 0).isLt; have b : (i 1).val < 64 := (i 1).isLt; omega
  · rw [h8]; rfl
  · rw [h9]; rfl

variable (t : Fin cfg0.N)

include h0 h1 h2 h3 h4 in
theorem b_rows : iblk m c 0 t = mat .f32 (tile 256 x t.val) ∧ iblk m c 1 t = mat .bf16 (tile 256 ya t.val) ∧ iblk m c 2 t = mat .bf16 (tile 256 yb t.val)
    ∧ iblk m c 3 t = mat .bf16 (tile 256 yc t.val) ∧ iblk m c 4 t = mat .bf16 (tile 256 z t.val) := by
  obtain ⟨v0, v1, v2, v3⟩ := V_rows m c ya yb yc z h1 h2 h3 h4
  refine ⟨?_, ?_, ?_, ?_, ?_⟩
  all_goals
    funext i
    idx_vars i
    blk_simp [iblk, idx t]
  · rw [V_main_arg0, h0]; exact mat_tile _ _ _ _ _ (by blk_simp [idx t]) (by blk_simp [idx t])
  · rw [v0]; exact mat_tile _ _ _ _ _ (by blk_simp [idx t]) (by blk_simp [idx t])
  · rw [v1]; exact mat_tile _ _ _ _ _ (by blk_simp [idx t]) (by blk_simp [idx t])
  · rw [v2]; exact mat_tile _ _ _ _ _ (by blk_simp [idx t]) (by blk_simp [idx t])
  · rw [v3]; exact mat_tile _ _ _ _ _ (by blk_simp [idx t]) (by blk_simp [idx t])

include h5 h6 h7 h8 h9 in
theorem b_w : iblk m c 5 t = mat .f32 b ∧ iblk m c 6 t = mat .bf16 wa ∧ iblk m c 7 t = mat .bf16 (spread wb)
    ∧ iblk m c 8 t = mat .bf16 wc ∧ iblk m c 9 t = mat .bf16 wo := by
  obtain ⟨v0, v1, v2, v3⟩ := V_w m c wa wb wc wo h6 h7 h8 h9
  refine ⟨?_, ?_, ?_, ?_, ?_⟩
  all_goals
    funext i
    idx_vars i
    blk_simp [iblk, idx t]
  · rw [V_main_arg5, h5]; exact mat_whole _ _ _ _ (by blk_simp [idx t]) (by blk_simp [idx t])
  · rw [v0]; exact mat_whole _ _ _ _ (by blk_simp [idx t]) (by blk_simp [idx t])
  · rw [v1]; exact mat_whole _ _ _ _ (by blk_simp [idx t]) (by blk_simp [idx t])
  · rw [v2]; exact mat_whole _ _ _ _ (by blk_simp [idx t]) (by blk_simp [idx t])
  · rw [v3]; exact mat_whole _ _ _ _ (by blk_simp [idx t]) (by blk_simp [idx t])

omit t in
theorem rows_tile {t : ℕ} {i : Fin 256} (h : t * 256 + i.val < 8192) (k : Fin 1024) :
    prod (tile 256 ya t) wa i k = prod ya wa ⟨t * 256 + i.val, h⟩ k ∧ prod (packed (tile 256 yb t)) wb i k = prod (packed yb) wb ⟨t * 256 + i.val, h⟩ k
    ∧ merged (tile 256 z t) b (prod (tile 256 ya t) wa) (prod (packed (tile 256 yb t)) wb) (prod (tile 256 yc t) wc) i k
      = merged z b (prod ya wa) (prod (packed yb) wb) (prod yc wc) ⟨t * 256 + i.val, h⟩ k
    ∧ added wo (tile 256 x t) (merged (tile 256 z t) b (prod (tile 256 ya t) wa) (prod (packed (tile 256 yb t)) wb) (prod (tile 256 yc t) wc)) i k
      = added wo x (merged z b (prod ya wa) (prod (packed yb) wb) (prod yc wc)) ⟨t * 256 + i.val, h⟩ k := by
  simp only [prod, packed, merged, added, gate, cols, tile_row _ h, and_self]

include h0 h1 h2 h3 h4 h5 h6 h7 h8 h9

theorem x2_final : (dats m 0 c).arrAt 10 cfg0.N = mat .f32 (added wo x (merged z b (prod ya wa) (prod (packed yb) wb) (prod yc wc))) := by
  refine (dats m 0 c).arrAt_eq_of_covers 10 _ (by decide +kernel) fun t hf y => ?_
  obtain ⟨r0, r1, r2, r3, r4⟩ := b_rows m c x ya yb yc z h0 h1 h2 h3 h4 t
  obtain ⟨w0, w1, w2, w3, w4⟩ := b_w m c b wa wb wc wo h5 h6 h7 h8 h9 t
  blk_simp
  rw [after0_10, r0, r1, r2, r3, r4, w0, w1, w2, w3, w4, (outs _ _ _ _ _ _ _ _ _ _).1]
  idx_vars y
  have lt : t.val < 32 := lt_of_lt_of_eq t.isLt N_0
  rw [mat_at, (rows_tile x ya yb yc z b wa wb wc wo (by omega) _).2.2.2]
  exact (mat_whole _ ⟨t.val * 256 + y0.val, by omega⟩ y1 _ (by blk_simp [idx t]) (by blk_simp [idx t])).symm

theorem merged_final : (dats m 0 c).arrAt 11 cfg0.N = mat .bf16 (merged z b (prod ya wa) (prod (packed yb) wb) (prod yc wc)) := by
  refine (dats m 0 c).arrAt_eq_of_covers 11 _ (by decide +kernel) fun t hf y => ?_
  obtain ⟨r0, r1, r2, r3, r4⟩ := b_rows m c x ya yb yc z h0 h1 h2 h3 h4 t
  obtain ⟨w0, w1, w2, w3, w4⟩ := b_w m c b wa wb wc wo h5 h6 h7 h8 h9 t
  blk_simp
  rw [after0_11, r0, r1, r2, r3, r4, w0, w1, w2, w3, w4, (outs _ _ _ _ _ _ _ _ _ _).2]
  idx_vars y
  have lt : t.val < 32 := lt_of_lt_of_eq t.isLt N_0
  rw [mat_at, (rows_tile x ya yb yc z b wa wb wc wo (by omega) _).2.2.1]
  exact (mat_whole _ ⟨t.val * 256 + y0.val, by omega⟩ y1 _ (by blk_simp [idx t]) (by blk_simp [idx t])).symm

theorem pa_final : (dats m 0 c).arrAt 12 cfg0.N = mat .bf16 (prod ya wa) := by
  refine (dats m 0 c).arrAt_eq_of_covers 12 _ (by decide +kernel) fun t hf y => ?_
  obtain ⟨r0, r1, r2, r3, r4⟩ := b_rows m c x ya yb yc z h0 h1 h2 h3 h4 t
  obtain ⟨w0, w1, w2, w3, w4⟩ := b_w m c b wa wb wc wo h5 h6 h7 h8 h9 t
  blk_simp
  rw [after0_12, r0, r1, r2, r3, r4, w0, w1, w2, w3, w4, (prods _ _ _ _ _ _ _ _ _ _).1]
  idx_vars y
  have lt : t.val < 32 := lt_of_lt_of_eq t.isLt N_0
  rw [mat_at, (rows_tile x ya yb yc z b wa wb wc wo (by omega) _).1]
  exact (mat_whole _ ⟨t.val * 256 + y0.val, by omega⟩ y1 _ (by blk_simp [idx t]) (by blk_simp [idx t])).symm

theorem pb_final : (dats m 0 c).arrAt 13 cfg0.N = mat .bf16 (prod (packed yb) wb) := by
  refine (dats m 0 c).arrAt_eq_of_covers 13 _ (by decide +kernel) fun t hf y => ?_
  obtain ⟨r0, r1, r2, r3, r4⟩ := b_rows m c x ya yb yc z h0 h1 h2 h3 h4 t
  obtain ⟨w0, w1, w2, w3, w4⟩ := b_w m c b wa wb wc wo h5 h6 h7 h8 h9 t
  blk_simp
  rw [after0_13, r0, r1, r2, r3, r4, w0, w1, w2, w3, w4, (prods _ _ _ _ _ _ _ _ _ _).2.1]
  idx_vars y
  have lt : t.val < 32 := lt_of_lt_of_eq t.isLt N_0
  rw [mat_at, (rows_tile x ya yb yc z b wa wb wc wo (by omega) _).2.1]
  exact (mat_whole _ ⟨t.val * 256 + y0.val, by omega⟩ y1 _ (by blk_simp [idx t]) (by blk_simp [idx t])).symm

theorem pc_final : (dats m 0 c).arrAt 14 cfg0.N = mat .bf16 (prod yc wc) := by
  refine (dats m 0 c).arrAt_eq_of_covers 14 _ (by decide +kernel) fun t hf y => ?_
  obtain ⟨r0, r1, r2, r3, r4⟩ := b_rows m c x ya yb yc z h0 h1 h2 h3 h4 t
  obtain ⟨w0, w1, w2, w3, w4⟩ := b_w m c b wa wb wc wo h5 h6 h7 h8 h9 t
  blk_simp
  rw [after0_14, r0, r1, r2, r3, r4, w0, w1, w2, w3, w4, (prods _ _ _ _ _ _ _ _ _ _).2.2]
  idx_vars y
  have lt : t.val < 32 := lt_of_lt_of_eq t.isLt N_0
  rw [mat_at, (rows_tile x yc yb yc z b wc wb wc wo (by omega) _).1]
  exact (mat_whole _ ⟨t.val * 256 + y0.val, by omega⟩ y1 _ (by blk_simp [idx t]) (by blk_simp [idx t])).symm

end

/-- The kernel's five results are the model's, for finite arguments. -/
theorem run (m : (ℓ : Loc nD τ sig) → Buf (Elt Ideal) ℓ) (ρ : Dev nD → PrngReg)
    (x : Dev nD → Fin 8192 → Fin 1024 → ℝ) (ya : Dev nD → Fin 8192 → Fin 512 → ℝ) (yb : Dev nD → Fin 8192 → Fin 1024 → ℝ) (yc : Dev nD → Fin 8192 → Fin 512 → ℝ)
    (z : Dev nD → Fin 8192 → Fin 3072 → ℝ) (b : Dev nD → Fin 1 → Fin 3072 → ℝ) (wa wb wc : Dev nD → Fin 512 → Fin 1024 → ℝ) (wo : Dev nD → Fin 1024 → Fin 1024 → ℝ)
    (h0 : ∀ c : Dev nD, m ((c : Thread nD τ).loc main_arg0) = mat .f32 (x c)) (h1 : ∀ c : Dev nD, m ((c : Thread nD τ).loc main_arg1) = mat .f32 (ya c))
    (h2 : ∀ c : Dev nD, m ((c : Thread nD τ).loc main_arg2) = mat .f32 (yb c)) (h3 : ∀ c : Dev nD, m ((c : Thread nD τ).loc main_arg3) = mat .f32 (yc c))
    (h4 : ∀ c : Dev nD, m ((c : Thread nD τ).loc main_arg4) = mat .f32 (z c)) (h5 : ∀ c : Dev nD, m ((c : Thread nD τ).loc main_arg5) = mat .f32 (b c))
    (h6 : ∀ c : Dev nD, m ((c : Thread nD τ).loc main_arg6) = mat .f32 (wa c)) (h7 : ∀ c : Dev nD, m ((c : Thread nD τ).loc main_arg7) = mat .f32 (wb c))
    (h8 : ∀ c : Dev nD, m ((c : Thread nD τ).loc main_arg8) = mat .f32 (wc c)) (h9 : ∀ c : Dev nD, m ((c : Thread nD τ).loc main_arg9) = mat .f32 (wo c)) :
    θ_run defs (onTc (τ := τ) (main (F := Ideal))) ⟨m, fun _ => 0, ρ⟩ fun r => ∀ c : Dev nD,
      r.2.mem ((c : Thread nD τ).loc main_v11_0) = mat .f32 (added (wo c) (x c) (merged (z c) (b c) (prod (ya c) (wa c)) (prod (packed (yb c)) (wb c)) (prod (yc c) (wc c))))
      ∧ r.2.mem ((c : Thread nD τ).loc main_v11_1) = mat .bf16 (merged (z c) (b c) (prod (ya c) (wa c)) (prod (packed (yb c)) (wb c)) (prod (yc c) (wc c)))
      ∧ r.2.mem ((c : Thread nD τ).loc main_v11_2) = mat .bf16 (prod (ya c) (wa c))
      ∧ r.2.mem ((c : Thread nD τ).loc main_v11_3) = mat .bf16 (prod (packed (yb c)) (wb c))
      ∧ r.2.mem ((c : Thread nD τ).loc main_v11_4) = mat .bf16 (prod (yc c) (wc c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (Cert.Kernel10Ideal.Value.run_blocks m ρ)
  obtain ⟨e0, e1, e2, e3, e4, hargs⟩ := h c
  exact ⟨e0.trans (x2_final m c (x c) (ya c) (yb c) (yc c) (z c) (b c) (wa c) (wb c) (wc c) (wo c) (h0 c) (h1 c) (h2 c) (h3 c) (h4 c) (h5 c) (h6 c) (h7 c) (h8 c) (h9 c)),
    e1.trans (merged_final m c (x c) (ya c) (yb c) (yc c) (z c) (b c) (wa c) (wb c) (wc c) (wo c) (h0 c) (h1 c) (h2 c) (h3 c) (h4 c) (h5 c) (h6 c) (h7 c) (h8 c) (h9 c)),
    e2.trans (pa_final m c (x c) (ya c) (yb c) (yc c) (z c) (b c) (wa c) (wb c) (wc c) (wo c) (h0 c) (h1 c) (h2 c) (h3 c) (h4 c) (h5 c) (h6 c) (h7 c) (h8 c) (h9 c)),
    e3.trans (pb_final m c (x c) (ya c) (yb c) (yc c) (z c) (b c) (wa c) (wb c) (wc c) (wo c) (h0 c) (h1 c) (h2 c) (h3 c) (h4 c) (h5 c) (h6 c) (h7 c) (h8 c) (h9 c)),
    e4.trans (pc_final m c (x c) (ya c) (yb c) (yc c) (z c) (b c) (wa c) (wb c) (wc c) (wo c) (h0 c) (h1 c) (h2 c) (h3 c) (h4 c) (h5 c) (h6 c) (h7 c) (h8 c) (h9 c)), hargs⟩

end Cert.Kernel10Ideal.MergeFwd

end
-- ==== Proof.MergeFwdRef.lean ====
module

public import proofs.«01_k».proof.Proof.Gen.Reference10Ideal.Run
public import proofs.«01_k».proof.Proof.MergeModel

/-! The merge's plain forward computes the model's values. -/

@[expose] public section

set_option maxRecDepth 16384

noncomputable section

open Idealize.ShloMosaic Idealize.ShloMosaic.TcCoe Idealize.SL.Sem

namespace Cert.Reference10Ideal.MergeFwd

open Cert.Reference10Ideal Cert.Reference10Ideal.Gen Lift
open Model.Merge (prod gate packed merged added)

section
variable (z : Fin 8192 → Fin 3072 → ℝ) (b : Fin 1 → Fin 3072 → ℝ)

theorem gate_at : Host.divf (F := Ideal) (broadcastInDim S8192x3072 ![] bcast_S_S8192x3072 (constant S_ .f32 0x3F800000#32)) (addf (broadcastInDim S8192x3072 ![] bcast_S_S8192x3072 (constant S_ .f32 0x3F800000#32))
    (Host.exp (Host.negf (addf (mat .f32 z) (broadcastInDim S8192x3072 ![0, 1] bcast_S1x3072_S8192x3072_0_1 (mat .f32 b)))))) = mat .f32 (gate z b) := by
  funext i
  idx_vars i
  pointwise []
  have h : 1 + Real.exp (-(z i0 i1 + b 0 i1)) ≠ 0 := by positivity
  simp only [mat_at, ← EReal.coe_add, ← EReal.coe_neg, Ideal.exp_coe, ← EReal.coe_one, div_ne h, gate, one_div]

theorem prod_at (y : Fin 8192 → Fin 512 → ℝ) (w : Fin 512 → Fin 1024 → ℝ) :
    Host.dotGeneral (F := Ideal) dot_S8192x512_S512x1024_S8192x1024_1_0_0_1_n_n none (mat .f32 y) (mat .f32 w) = mat .f32 (prod y w) := by
  funext i
  idx_vars i
  pointwise []
  simp only [mat_at, ← EReal.coe_mul, coe_sum, prod]

theorem packed_at (y : Fin 8192 → Fin 1024 → ℝ) : shapeCast S8192x512 (extractStridedSlice S8192x8x64 ![0, 0, 0]
      (shapeCast S8192x8x128 (mat .f32 y) shapeCasts_S8192x1024_S8192x8x128) slices_S8192x8x128_S8192x8x64_0_0_0) shapeCasts_S8192x8x64_S8192x512 = mat .f32 (packed y) := by
  funext i
  idx_vars i
  pointwise []
  exact mat_whole _ _ _ _ rfl rfl

theorem merged_at (pa pb pc : Fin 8192 → Fin 1024 → ℝ) : addf (F := Ideal) (addf
      (mulf (extractStridedSlice S8192x1024 ![0, 0] (mat .f32 (gate z b)) slices_S8192x3072_S8192x1024_0_0) (mat .f32 pa))
      (mulf (extractStridedSlice S8192x1024 ![0, 1024] (mat .f32 (gate z b)) slices_S8192x3072_S8192x1024_0_1024) (mat .f32 pb)))
      (mulf (extractStridedSlice S8192x1024 ![0, 2048] (mat .f32 (gate z b)) slices_S8192x3072_S8192x1024_0_2048) (mat .f32 pc))
    = mat .f32 (merged z b pa pb pc) := by
  rw [slice_at _ _ (by omega), slice_at _ _ (by omega), slice_at _ _ (by omega)]
  funext i
  idx_vars i
  pointwise []
  simp only [mat_at, ← EReal.coe_mul, ← EReal.coe_add]
  rfl

theorem added_at (x s : Fin 8192 → Fin 1024 → ℝ) (wo : Fin 1024 → Fin 1024 → ℝ) :
    addf (F := Ideal) (mat .f32 x) (Host.dotGeneral dot_S8192x1024_S1024x1024_S8192x1024_1_0_0_1_n_n none (mat .f32 s) (mat .f32 wo)) = mat .f32 (added wo x s) := by
  funext i
  idx_vars i
  pointwise []
  simp only [mat_at, ← EReal.coe_mul, ← EReal.coe_add, coe_sum, added]

end

/-- The reference's five results are the model's, for finite arguments. -/
theorem run (m : (ℓ : Loc nD τ sig) → Buf (Elt Ideal) ℓ) (ρ : Dev nD → PrngReg)
    (x : Dev nD → Fin 8192 → Fin 1024 → ℝ) (ya : Dev nD → Fin 8192 → Fin 512 → ℝ) (yb : Dev nD → Fin 8192 → Fin 1024 → ℝ) (yc : Dev nD → Fin 8192 → Fin 512 → ℝ)
    (z : Dev nD → Fin 8192 → Fin 3072 → ℝ) (b : Dev nD → Fin 1 → Fin 3072 → ℝ) (wa wb wc : Dev nD → Fin 512 → Fin 1024 → ℝ) (wo : Dev nD → Fin 1024 → Fin 1024 → ℝ)
    (h0 : ∀ c : Dev nD, m ((c : Thread nD τ).loc main_arg0) = mat .f32 (x c)) (h1 : ∀ c : Dev nD, m ((c : Thread nD τ).loc main_arg1) = mat .f32 (ya c))
    (h2 : ∀ c : Dev nD, m ((c : Thread nD τ).loc main_arg2) = mat .f32 (yb c)) (h3 : ∀ c : Dev nD, m ((c : Thread nD τ).loc main_arg3) = mat .f32 (yc c))
    (h4 : ∀ c : Dev nD, m ((c : Thread nD τ).loc main_arg4) = mat .f32 (z c)) (h5 : ∀ c : Dev nD, m ((c : Thread nD τ).loc main_arg5) = mat .f32 (b c))
    (h6 : ∀ c : Dev nD, m ((c : Thread nD τ).loc main_arg6) = mat .f32 (wa c)) (h7 : ∀ c : Dev nD, m ((c : Thread nD τ).loc main_arg7) = mat .f32 (wb c))
    (h8 : ∀ c : Dev nD, m ((c : Thread nD τ).loc main_arg8) = mat .f32 (wc c)) (h9 : ∀ c : Dev nD, m ((c : Thread nD τ).loc main_arg9) = mat .f32 (wo c)) :
    θ_run defs (onTc (τ := τ) (main (F := Ideal))) ⟨m, fun _ => 0, ρ⟩ fun r => ∀ c : Dev nD,
      r.2.mem ((c : Thread nD τ).loc main_v23) = mat .f32 (added (wo c) (x c) (merged (z c) (b c) (prod (ya c) (wa c)) (prod (packed (yb c)) (wb c)) (prod (yc c) (wc c))))
      ∧ r.2.mem ((c : Thread nD τ).loc main_v24) = mat .bf16 (merged (z c) (b c) (prod (ya c) (wa c)) (prod (packed (yb c)) (wb c)) (prod (yc c) (wc c)))
      ∧ r.2.mem ((c : Thread nD τ).loc main_v25) = mat .bf16 (prod (ya c) (wa c))
      ∧ r.2.mem ((c : Thread nD τ).loc main_v26) = mat .bf16 (prod (packed (yb c)) (wb c))
      ∧ r.2.mem ((c : Thread nD τ).loc main_v27) = mat .bf16 (prod (yc c) (wc c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  refine (θ_run defs _ _).mono (fun r h c => ?_) (Value.run m ρ)
  obtain ⟨e0, e1, e2, e3, e4, hargs⟩ := h c
  refine ⟨e0.trans ?_, e1.trans ?_, e2.trans ?_, e3.trans ?_, e4.trans ?_, hargs⟩
  · rw [h0, h1, h2, h3, h4, h5, h6, h7, h8, h9]
    clean_types
    rw [gate_at, packed_at, prod_at, prod_at, prod_at, merged_at, added_at]
  · rw [h1, h2, h3, h4, h5, h6, h7, h8]
    clean_types
    rw [gate_at, packed_at, prod_at, prod_at, prod_at, merged_at, trunc_at]
  · rw [h1, h6]
    clean_types
    rw [prod_at, trunc_at]
  · rw [h2, h7]
    clean_types
    rw [packed_at, prod_at, trunc_at]
  · rw [h3, h8]
    clean_types
    rw [prod_at, trunc_at]

end Cert.Reference10Ideal.MergeFwd

end
-- ==== Proof.MergeFwdClaim.lean ====
module

public import proofs.«01_k».proof.Defs
public import proofs.«01_k».proof.Proof.Gen.Pre_finite10
public import proofs.«01_k».proof.Proof.Finite
public import proofs.«01_k».proof.Proof.MergeFwd
public import proofs.«01_k».proof.Proof.MergeFwdRef

/-! The merge's forward call: the reference's frame, and equal values for finite arguments. -/

@[expose] public section

set_option maxRecDepth 16384

noncomputable section

open Idealize.ShloMosaic Idealize.ShloMosaic.TcCoe Idealize.SL.Sem

namespace Cert.MergeFwd

open Lift

theorem frame_reference : Cert.quiescent_Reference10Ideal := fun m ρ _ =>
  (θ_run Cert.Reference10Ideal.defs _ _).mono (fun r h => ⟨fun c => (h c).2.2.2.2.2, sem_eq_zero_of_no_sems (by decide) r.2⟩)
    (Cert.Reference10Ideal.Value.run (F := Ideal) m ρ)

/-- Finite arguments are arrays of real numbers. -/
theorem real (m : (ℓ : Loc Cert.Kernel10Ideal.nD Cert.Kernel10Ideal.τ Cert.Kernel10Ideal.sig) → Buf (Elt Ideal) ℓ)
    (h : Cert.Pre_Kernel10Ideal_finite10 m) (c : Dev Cert.Kernel10Ideal.nD) :
    ∃ x ya yb yc z b wa wb wc wo, m ((c.tc : Thread Cert.Kernel10Ideal.nD Cert.Kernel10Ideal.τ).loc Cert.Kernel10Ideal.main_arg0) = mat .f32 x
      ∧ m ((c.tc : Thread Cert.Kernel10Ideal.nD Cert.Kernel10Ideal.τ).loc Cert.Kernel10Ideal.main_arg1) = mat .f32 ya
      ∧ m ((c.tc : Thread Cert.Kernel10Ideal.nD Cert.Kernel10Ideal.τ).loc Cert.Kernel10Ideal.main_arg2) = mat .f32 yb
      ∧ m ((c.tc : Thread Cert.Kernel10Ideal.nD Cert.Kernel10Ideal.τ).loc Cert.Kernel10Ideal.main_arg3) = mat .f32 yc
      ∧ m ((c.tc : Thread Cert.Kernel10Ideal.nD Cert.Kernel10Ideal.τ).loc Cert.Kernel10Ideal.main_arg4) = mat .f32 z
      ∧ m ((c.tc : Thread Cert.Kernel10Ideal.nD Cert.Kernel10Ideal.τ).loc Cert.Kernel10Ideal.main_arg5) = mat .f32 b
      ∧ m ((c.tc : Thread Cert.Kernel10Ideal.nD Cert.Kernel10Ideal.τ).loc Cert.Kernel10Ideal.main_arg6) = mat .f32 wa
      ∧ m ((c.tc : Thread Cert.Kernel10Ideal.nD Cert.Kernel10Ideal.τ).loc Cert.Kernel10Ideal.main_arg7) = mat .f32 wb
      ∧ m ((c.tc : Thread Cert.Kernel10Ideal.nD Cert.Kernel10Ideal.τ).loc Cert.Kernel10Ideal.main_arg8) = mat .f32 wc
      ∧ m ((c.tc : Thread Cert.Kernel10Ideal.nD Cert.Kernel10Ideal.τ).loc Cert.Kernel10Ideal.main_arg9) = mat .f32 wo := by
  have e := congrFun (h c) ix0
  unfold Cert.Pre_finite10.fn Cert.Pre_finite10.fn_part1 Cert.Pre_finite10.fn_part2 at e
  simp only [and_one] at e
  obtain ⟨⟨⟨⟨⟨⟨⟨⟨⟨e0, e1⟩, e2⟩, e3⟩, e4⟩, e5⟩, e6⟩, e7⟩, e8⟩, e9⟩ := e
  exact ⟨_, _, _, _, _, _, _, _, _, _, mat_of_finite _ _ _ _ _ e0, mat_of_finite _ _ _ _ _ e1, mat_of_finite _ _ _ _ _ e2, mat_of_finite _ _ _ _ _ e3,
    mat_of_finite _ _ _ _ _ e4, mat_of_finite _ _ _ _ _ e5, mat_of_finite _ _ _ _ _ e6, mat_of_finite _ _ _ _ _ e7,
    mat_of_finite _ _ _ _ _ e8, mat_of_finite _ _ _ _ _ e9⟩

theorem algebraic : Cert.algebraic_Kernel10Ideal_Reference10Ideal_pre_finite10 := by
  intro m ρ m' ρ' hpre hag
  choose x ya yb yc z b wa wb wc wo h0 h1 h2 h3 h4 h5 h6 h7 h8 h9 using real m hpre
  refine ⟨_, _, _, _, _, Cert.Kernel10Ideal.MergeFwd.run m ρ x ya yb yc z b wa wb wc wo h0 h1 h2 h3 h4 h5 h6 h7 h8 h9, ?_⟩
  exact Cert.Reference10Ideal.MergeFwd.run m' ρ' x ya yb yc z b wa wb wc wo (fun c => (hag c).1.trans (h0 c)) (fun c => (hag c).2.1.trans (h1 c)) (fun c => (hag c).2.2.1.trans (h2 c))
    (fun c => (hag c).2.2.2.1.trans (h3 c)) (fun c => (hag c).2.2.2.2.1.trans (h4 c)) (fun c => (hag c).2.2.2.2.2.1.trans (h5 c))
    (fun c => (hag c).2.2.2.2.2.2.1.trans (h6 c)) (fun c => (hag c).2.2.2.2.2.2.2.1.trans (h7 c)) (fun c => (hag c).2.2.2.2.2.2.2.2.1.trans (h8 c))
    (fun c => (hag c).2.2.2.2.2.2.2.2.2.trans (h9 c))

end Cert.MergeFwd

end
-- ==== Proof.SguFwd.lean ====
module

public import proofs.«01_k».proof.Proof.Gen.Kernel11Ideal.Value
public import Idealize.ShloMosaic.Lib.Pipeline.ReadBack
public import Idealize.ShloMosaic.Lib.Pipeline.FrameBody
public import proofs.«01_k».proof.Proof.SguLanes

@[expose] public section

set_option maxRecDepth 16384

noncomputable section

open Idealize.ShloMosaic Idealize.ShloMosaic.TcCoe Idealize.SL.Sem
open Idealize.ShloMosaic.Pipeline (Dat)

namespace Cert.Kernel11Ideal.SguFwd

open Cert.Kernel11Ideal Cert.Kernel11Ideal.Gen Lift
open Model.Sgu

theorem idx : ∀ t : Fin cfg0.N, win0_0.index t = ![t.val, 0] ∧ win0_1.index t = ![t.val, 1] ∧ win0_2.index t = ![0, 0] ∧ win0_3.index t = ![0, 0]
    ∧ win0_4.index t = ![0, 0, 0] ∧ win0_5.index t = ![0, 0] ∧ win0_6.index t = ![t.val, 0] := (by decide +kernel : ∀ t : Fin grid0.N, _)

theorem n_half : Named.named (F := Ideal) κ "sqrt_half" (φ := .f32) 0x3F3504F3#32 = ((√(1 / 2) : ℝ) : EReal) := rfl

theorem vln_at (x : Fin 512 → Fin 512 → ℝ) (g b : Fin 1 → Fin 512 → ℝ) :
    k0_pay2 (F := Ideal) (mat .f32 x) (mat .f32 g) (mat .f32 b) = mat .bf16 fun i => ln (fun j => gelu (x i j)) (g 0) (b 0) := by
  funext i
  idx_vars i
  pointwise [k0_pay2]
  simp (disch := norm_num) only [mat_at, n_half, w_half, w_one, w_512, w_eps, ← EReal.coe_mul, erf_ms, ← EReal.coe_one, ← EReal.coe_add, coe_sum, div_ne, ← EReal.coe_sub, rsqrt_ms]
  rfl

theorem lo_at (i j : Fin 128) : k0_pay3 (ix2 i j) = if j.val < 64 then 1#1 else 0#1 := by
  pointwise [k0_pay3]
  exact slt_64 j

theorem y_at (v b u : Fin 128 → Fin 128 → ℝ) (w0 w1 : Fin 1 → Fin 128 → Fin 128 → ℝ) :
    k0_pay4 (F := Ideal) k0_pay3 (mat .bf16 v) (mat3 .bf16 w0) (mat3 .bf16 w1) (mat .f32 b) (mat .f32 u)
    = mat .bf16 fun t j => gelu (u t j) * ((if j.val < 64 then ∑ s, w0 0 t s * v s j else ∑ s, w1 0 t s * v s j) + b t j) := by
  funext i
  idx_vars i
  pointwise [k0_pay4]
  rw [lo_at]
  simp only [mat_at, mat3_at, n_half, w_half, w_one, ← EReal.coe_mul, erf_ms, ← EReal.coe_one, coe_sum, pick, ← EReal.coe_add]
  rfl

/-! ### The stores of a block -/

section stores

variable (x0 : Vec Ideal S512x512 .f32) (xn : Vec Ideal S512x512 .bf16) (x4 : Vec Ideal S8x128x128 .bf16) (x5 : Vec Ideal S128x512 .f32)

abbrev In {a : ℕ} (o p : ℕ) : Prop := ∀ k, (![o, p] : Fin 2 → ℕ) k + (![128, 128] : Fin 2 → ℕ) k ≤ (⟨2, ![a, 512]⟩ : Shape).size k

abbrev In3 (g : ℕ) : Prop := ∀ k, (![g, 0, 0] : Fin 3 → ℕ) k + (![1, 128, 128] : Fin 3 → ℕ) k ≤ S8x128x128.size k

def yTile (o p g g' : ℕ) (i : In (a := 512) o p := by decide) (k : In (a := 128) 0 p := by decide) (j : In3 g := by decide) (j' : In3 g' := by decide) :
    View.Piece (Elt Ideal) S512x512 .bf16 :=
  ⟨Rect.unit ![o, p] ![128, 128] i, k0_pay4 k0_pay3 (View.ld (Val := Elt Ideal) (e' := .bf16) xn (Rect.unit (s := S512x512) ![o, p] ![128, 128] i))
    (View.ld (Val := Elt Ideal) (e' := .bf16) x4 (Rect.unit (s := S8x128x128) ![g, 0, 0] ![1, 128, 128] j))
    (View.ld (Val := Elt Ideal) (e' := .bf16) x4 (Rect.unit (s := S8x128x128) ![g', 0, 0] ![1, 128, 128] j'))
    (View.ld (Val := Elt Ideal) (e' := .f32) x5 (Rect.unit (s := S128x512) ![0, p] ![128, 128] k))
    (View.ld (Val := Elt Ideal) (e' := .f32) x0 (Rect.unit (s := S512x512) ![o, p] ![128, 128] i))⟩

def yTiles : List (View.Piece (Elt Ideal) S512x512 .bf16) :=
  [yTile x0 xn x4 x5 384 384 6 7, yTile x0 xn x4 x5 384 256 4 5, yTile x0 xn x4 x5 384 128 2 3, yTile x0 xn x4 x5 384 0 0 1,
    yTile x0 xn x4 x5 256 384 6 7, yTile x0 xn x4 x5 256 256 4 5, yTile x0 xn x4 x5 256 128 2 3, yTile x0 xn x4 x5 256 0 0 1,
    yTile x0 xn x4 x5 128 384 6 7, yTile x0 xn x4 x5 128 256 4 5, yTile x0 xn x4 x5 128 128 2 3, yTile x0 xn x4 x5 128 0 0 1,
    yTile x0 xn x4 x5 0 384 6 7, yTile x0 xn x4 x5 0 256 4 5, yTile x0 xn x4 x5 0 128 2 3, yTile x0 xn x4 x5 0 0 0 1]

end stores

section block

variable (z : Fin 512 → Fin 1024 → ℝ) (lg lb : Fin 1 → Fin 512 → ℝ) (w : Fin 8 → Fin 128 → Fin 128 → ℝ) (b : Fin 8 → Fin 128 → ℝ)

theorem y_piece (o p g g' : ℕ) (i k j j') (ho : o + 128 ≤ 512) (hp : p + 128 ≤ 512) (hg : g < 8) (hg' : g' < 8) (h : o % 128 = 0) (h0 : p = g * 64) (h1 : p + 64 = g' * 64)
    (x : S128x128.Idx) : (yTile (mat .f32 (u z)) (mat .bf16 (vln z lg lb)) (mat3 .bf16 (wm w)) (mat .f32 fun t j => b (grp j) t) o p g g' i k j j').2 x
      = mat .bf16 (out z lg lb w b) ((Rect.unit (s := S512x512) ![o, p] ![128, 128] i).emb x) := by
  unfold yTile
  rw [← mat_sub (φ := .bf16) (out z lg lb w b) i ho hp]
  show k0_pay4 _ _ _ _ _ _ x = _
  rw [(ld_sub (u z) i ho hp).1, (ld_sub (vln z lg lb) i ho hp).2, (ld_sub _ k (Nat.le_refl _) hp).1, (ld_plane (wm w) j hg).2, (ld_plane (wm w) j' hg').2, y_at]
  refine congrFun (congrArg (mat .bf16) (funext fun r => funext fun s => ?_)) x
  simp only [sub, out, mixed]
  rw [pos_sub (ho := ho) h]
  simp only [chunk_sub (ho := ho) (hp := hp) h, sub, plane]
  have e : (⟨0 + r.val, by omega⟩ : Fin 128) = r := Fin.ext (Nat.zero_add _)
  split
  · next hj => rw [grp_lo h0 (hp := hp) (hg := hg) s hj, e]
  · next hj => rw [grp_hi h1 (hp := hp) (hg := hg') s hj, e]

theorem y_block : View.canon (yTiles (mat .f32 (u z)) (k0_pay2 (F := Ideal) (mat .f32 (v z)) (mat .f32 lg) (mat .f32 lb)) (mat3 .bf16 (wm w)) (mat .f32 fun t j => b (grp j) t))
    = mat .bf16 (out z lg lb w b) := by
  rw [vln_at]
  funext x
  refine View.canon_apply_of_pieces (Val := Elt Ideal) (e := .bf16) (mat .bf16 (out z lg lb w b)) _ (View.PiecesOf.mem ?_) _ (View.cover_of_tiledBy (s := S512x512) _ ![128, 128] (by sl_kernel_rfl) _)
  refine ⟨?_, ?_, ?_, ?_, ?_, ?_, ?_, ?_, ?_, ?_, ?_, ?_, ?_, ?_, ?_, ?_, trivial⟩
  all_goals exact y_piece z lg lb w b _ _ _ _ _ _ _ _ (by decide) (by decide) (by decide) (by decide) (by decide) (by decide) (by decide)

end block

section
variable (m : (ℓ : Loc nD τ sig) → Buf (Elt Ideal) ℓ) (c : Dev nD)
  (z : Fin 8192 → Fin 1024 → ℝ) (lg lb : Fin 1 → Fin 512 → ℝ) (w : Fin 8 → Fin 128 → Fin 128 → ℝ) (b : Fin 8 → Fin 128 → ℝ)
  (h0 : m ((c : Thread nD τ).loc main_arg0) = mat .f32 z) (h1 : m ((c : Thread nD τ).loc main_arg1) = mat .f32 lg)
  (h2 : m ((c : Thread nD τ).loc main_arg2) = mat .f32 lb) (h3 : m ((c : Thread nD τ).loc main_arg3) = mat3 .f32 w)
  (h4 : m ((c : Thread nD τ).loc main_arg4) = mat .f32 b)

include h3 in
theorem V_w : V m c main_v4 = mat3 .bf16 (wm w) := by
  unfold V hostOps0 hostOps0_1 hostOps0_2 hostOps0_3 hostOps0_4
  simp only [List.flatten_cons, List.flatten_nil, List.cons_append, List.nil_append, List.append_nil]
  after_results
  rw [h3]
  simp -implicitDefEqProofs only [StableHlo.TRef.toBuf, StableHlo.TRef.ofBuf, cast_cast, cast_eq]
  clean_types
  funext i
  idx_vars i
  pointwise []
  rw [ind_sge, sel_ite]
  exact wm_at w i0 i1 i2

include h4 in
theorem V_b : V m c main_v7 = mat .f32 fun t j => b (grp j) t := by
  unfold V hostOps0 hostOps0_1 hostOps0_2 hostOps0_3 hostOps0_4
  simp only [List.flatten_cons, List.flatten_nil, List.cons_append, List.nil_append, List.append_nil]
  after_results
  rw [h4]
  clean_types
  funext i
  idx_vars i
  pointwise []
  rfl

variable (t : Fin cfg0.N)

include h0 h1 h2 h3 h4 in
theorem blocks : iblk m c 0 t = mat .f32 (u (tile 512 z t.val)) ∧ iblk m c 1 t = mat .f32 (v (tile 512 z t.val)) ∧ iblk m c 2 t = mat .f32 lg
    ∧ iblk m c 3 t = mat .f32 lb ∧ iblk m c 4 t = mat3 .bf16 (wm w) ∧ iblk m c 5 t = mat .f32 fun t j => b (grp j) t := by
  refine ⟨?_, ?_, ?_, ?_, ?_, ?_⟩
  all_goals
    funext i
    idx_vars i
    blk_simp [iblk, idx t]
  · rw [V_main_arg0, h0]; exact mat_tile z t.val i0 ⟨i1.val, by omega⟩ _ (by blk_simp [idx t]) (by blk_simp [idx t])
  · rw [V_main_arg0, h0]; exact mat_tile z t.val i0 ⟨512 + i1.val, by omega⟩ _ (by blk_simp [idx t]) (by blk_simp [idx t])
  · rw [V_main_arg1, h1]; exact mat_whole _ _ _ _ (by blk_simp [idx t]) (by blk_simp [idx t])
  · rw [V_main_arg2, h2]; exact mat_whole _ _ _ _ (by blk_simp [idx t]) (by blk_simp [idx t])
  · rw [V_w m c w h3]; exact mat3_whole _ _ _ _ _ (by blk_simp [idx t]) (by blk_simp [idx t]) (by blk_simp [idx t])
  · rw [V_b m c b h4]; exact mat_whole _ _ _ _ (by blk_simp [idx t]) (by blk_simp [idx t])

include h0 h1 h2 h3 h4 in
theorem y_out : outsAt0 m c t = mat .bf16 (out (tile 512 z t.val) lg lb w b) := by
  obtain ⟨e0, e1, e2, e3, e4, e5⟩ := blocks m c z lg lb w b h0 h1 h2 h3 h4 t
  unfold outsAt0
  frame_open
  simp (disch := decide) only [↓ View.readCov_skip, ↓ View.readCov_cons_toLoadRect, ↓ View.readCov_fill]
  frame_out
  rw [e0, e1, e2, e3, e4, e5]
  exact y_block _ _ _ _ _

/-! ### A block's rows among all -/

theorem chunk_rows (x : Fin 8192 → Fin 512 → ℝ) (n : ℕ) (i : Fin 512) (l : n * 512 + i.val < 8192) : chunk (tile 512 x n) i = chunk x ⟨n * 512 + i.val, l⟩ := by
  funext s j
  unfold chunk
  rw [tile_row (tile 512 x n) (show i.val / 128 * 128 + s.val < 512 by omega), tile_row x (show n * 512 + (i.val / 128 * 128 + s.val) < 8192 by omega),
    tile_row x (show (n * 512 + i.val) / 128 * 128 + s.val < 8192 by omega)]
  exact congrFun (congrArg x (Fin.ext (show n * 512 + (i.val / 128 * 128 + s.val) = (n * 512 + i.val) / 128 * 128 + s.val by omega))) j

theorem out_rows (n : ℕ) (hn : n < 16) (i : Fin 512) (l : n * 512 + i.val < 8192) : out (tile 512 z n) lg lb w b i = out z lg lb w b ⟨n * 512 + i.val, l⟩ := by
  funext j
  have p : pos i = pos ⟨n * 512 + i.val, l⟩ := Fin.ext (show i.val % 128 = (n * 512 + i.val) % 128 by omega)
  simp only [out, vln_block z lg lb n fun i => (by omega : n * 512 + i.val < 8192), chunk_rows _ n i l, p, u, tile_row _ l]

include h0 h1 h2 h3 h4 in
theorem y_final : (dats m 0 c).arrAt 6 cfg0.N = mat .bf16 (out z lg lb w b) := by
  refine (dats m 0 c).arrAt_eq_of_covers 6 _ (by decide +kernel) fun t hf y => ?_
  blk_simp
  rw [after0_6, y_out m c z lg lb w b h0 h1 h2 h3 h4]
  idx_vars y
  have lt : t.val < 16 := lt_of_lt_of_eq t.isLt N_0
  rw [mat_at, out_rows z lg lb w b t.val lt y0 (by omega)]
  exact (mat_whole _ ⟨t.val * 512 + y0.val, by omega⟩ y1 _ (by blk_simp [idx t]) (by blk_simp [idx t])).symm

end

/-- The kernel's result is the model's, for finite arguments. -/
theorem run (m : (ℓ : Loc nD τ sig) → Buf (Elt Ideal) ℓ) (ρ : Dev nD → PrngReg)
    (z : Dev nD → Fin 8192 → Fin 1024 → ℝ) (lg lb : Dev nD → Fin 1 → Fin 512 → ℝ) (w : Dev nD → Fin 8 → Fin 128 → Fin 128 → ℝ)
    (b : Dev nD → Fin 8 → Fin 128 → ℝ)
    (h0 : ∀ c : Dev nD, m ((c : Thread nD τ).loc main_arg0) = mat .f32 (z c)) (h1 : ∀ c : Dev nD, m ((c : Thread nD τ).loc main_arg1) = mat .f32 (lg c))
    (h2 : ∀ c : Dev nD, m ((c : Thread nD τ).loc main_arg2) = mat .f32 (lb c)) (h3 : ∀ c : Dev nD, m ((c : Thread nD τ).loc main_arg3) = mat3 .f32 (w c))
    (h4 : ∀ c : Dev nD, m ((c : Thread nD τ).loc main_arg4) = mat .f32 (b c)) :
    θ_run defs (onTc (τ := τ) (main (F := Ideal))) ⟨m, fun _ => 0, ρ⟩ fun r => ∀ c : Dev nD,
      r.2.mem ((c : Thread nD τ).loc main_v8) = mat .bf16 (out (z c) (lg c) (lb c) (w c) (b c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Kernel11Ideal.Value.run_blocks m ρ)
  obtain ⟨e0, hargs⟩ := h c
  exact ⟨e0.trans (y_final m c _ _ _ _ _ (h0 c) (h1 c) (h2 c) (h3 c) (h4 c)), hargs⟩

end Cert.Kernel11Ideal.SguFwd

end
-- ==== Proof.SguFwdRef.lean ====
module

public import proofs.«01_k».proof.Proof.Gen.Reference11Ideal.Run
public import proofs.«01_k».proof.Proof.SguRef

@[expose] public section

set_option maxRecDepth 16384

noncomputable section

open Idealize.ShloMosaic Idealize.ShloMosaic.TcCoe Idealize.SL.Sem

namespace Cert.Reference11Ideal.SguFwd

open Cert.Reference11Ideal Cert.Reference11Ideal.Gen Lift
open Model.Sgu
open Cert.Reference2Ideal.Sgu (u_at v_at gelu_at centred_at var_at r_at xhat_at ln_at split_at mask_at mixed_at join_mixed mul_at)

/-- The reference's result is the model's, for finite arguments. -/
theorem run (m : (ℓ : Loc nD τ sig) → Buf (Elt Ideal) ℓ) (ρ : Dev nD → PrngReg)
    (z : Dev nD → Fin 8192 → Fin 1024 → ℝ) (lg lb : Dev nD → Fin 1 → Fin 512 → ℝ) (w : Dev nD → Fin 8 → Fin 128 → Fin 128 → ℝ)
    (b : Dev nD → Fin 8 → Fin 128 → ℝ)
    (h0 : ∀ c : Dev nD, m ((c : Thread nD τ).loc main_arg0) = mat .f32 (z c)) (h1 : ∀ c : Dev nD, m ((c : Thread nD τ).loc main_arg1) = mat .f32 (lg c))
    (h2 : ∀ c : Dev nD, m ((c : Thread nD τ).loc main_arg2) = mat .f32 (lb c)) (h3 : ∀ c : Dev nD, m ((c : Thread nD τ).loc main_arg3) = mat3 .f32 (w c))
    (h4 : ∀ c : Dev nD, m ((c : Thread nD τ).loc main_arg4) = mat .f32 (b c)) :
    θ_run defs (onTc (τ := τ) (main (F := Ideal))) ⟨m, fun _ => 0, ρ⟩ fun r => ∀ c : Dev nD,
      r.2.mem ((c : Thread nD τ).loc main_v52) = mat .bf16 (out (z c) (lg c) (lb c) (w c) (b c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Reference11Ideal.Value.run (F := Ideal) m ρ)
  obtain ⟨e0, hargs⟩ := h c
  refine ⟨e0.trans ?_, hargs⟩
  unfold Value.res_main_v52
  rw [h0, h1, h2, h3, h4]
  clean_types
  rw [u_at, v_at, gelu_at, gelu_at, centred_at, var_at, r_at, xhat_at, ln_at, split_at, mask_at]
  erw [mixed_at]
  rw [join_mixed, mul_at]
  rfl

end Cert.Reference11Ideal.SguFwd

end
-- ==== Proof.SguFwdClaim.lean ====
module

public import proofs.«01_k».proof.Defs
public import proofs.«01_k».proof.Proof.Gen.Pre_finite11
public import proofs.«01_k».proof.Proof.Finite
public import proofs.«01_k».proof.Proof.SguFwd
public import proofs.«01_k».proof.Proof.SguFwdRef

/-! The spatial gating unit: its frame, and that kernel and reference compute the same function. -/

@[expose] public section

set_option maxRecDepth 16384

noncomputable section

open Idealize.ShloMosaic Idealize.ShloMosaic.TcCoe Idealize.SL.Sem

namespace Cert.SguFwd

open Lift

theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The constant that the kernel's literal rounds. -/
theorem preserves : Cert.preserves_Kernel11_Kernel11Ideal :=
  ⟨rfl, fun _ => rfl, rfl⟩

/-- Finite arguments are arrays of real numbers. -/
theorem real (m : (ℓ : Loc Cert.Kernel11Ideal.nD Cert.Kernel11Ideal.τ Cert.Kernel11Ideal.sig) → Buf (Elt Ideal) ℓ)
    (h : Cert.Pre_Kernel11Ideal_finite11 m) (c : Dev Cert.Kernel11Ideal.nD) :
    ∃ z lg lb w b, m ((c.tc : Thread Cert.Kernel11Ideal.nD Cert.Kernel11Ideal.τ).loc Cert.Kernel11Ideal.main_arg0) = mat .f32 z
      ∧ m ((c.tc : Thread Cert.Kernel11Ideal.nD Cert.Kernel11Ideal.τ).loc Cert.Kernel11Ideal.main_arg1) = mat .f32 lg
      ∧ m ((c.tc : Thread Cert.Kernel11Ideal.nD Cert.Kernel11Ideal.τ).loc Cert.Kernel11Ideal.main_arg2) = mat .f32 lb
      ∧ m ((c.tc : Thread Cert.Kernel11Ideal.nD Cert.Kernel11Ideal.τ).loc Cert.Kernel11Ideal.main_arg3) = mat3 .f32 w
      ∧ m ((c.tc : Thread Cert.Kernel11Ideal.nD Cert.Kernel11Ideal.τ).loc Cert.Kernel11Ideal.main_arg4) = mat .f32 b := by
  have e := congrFun (h c) ix0
  unfold Cert.Pre_finite11.fn Cert.Pre_finite11.fn_part1 at e
  simp only [and_one] at e
  obtain ⟨⟨⟨⟨e0, e1⟩, e2⟩, e3⟩, e4⟩ := e
  exact ⟨_, _, _, _, _, mat_of_finite _ _ _ _ _ e0, mat_of_finite _ _ _ _ _ e1, mat_of_finite _ _ _ _ _ e2, mat3_of_finite _ _ _ _ _ e3,
    mat_of_finite _ _ _ _ _ e4⟩

theorem algebraic : Cert.algebraic_Kernel11Ideal_Reference11Ideal_pre_finite11 := by
  intro m ρ m' ρ' hpre hag
  choose z lg lb w b h0 h1 h2 h3 h4 using real m hpre
  refine ⟨_, Cert.Kernel11Ideal.SguFwd.run m ρ z lg lb w b h0 h1 h2 h3 h4, ?_⟩
  exact Cert.Reference11Ideal.SguFwd.run m' ρ' z lg lb w b (fun c => (hag c).1.trans (h0 c)) (fun c => (hag c).2.1.trans (h1 c)) (fun c => (hag c).2.2.1.trans (h2 c))
    (fun c => (hag c).2.2.2.1.trans (h3 c)) (fun c => (hag c).2.2.2.2.trans (h4 c))

end Cert.SguFwd

end
-- ==== Proof.AttnModel.lean ====
module

public import proofs.«01_k».proof.Proof.Lift

/-! Causal attention of 8 heads of 128 lanes over 8192 positions, its scores to the base 2, and the running sums in
which a row's keys are taken block by block: a row's sums are kept relative to a shift, which the quotients do not see. -/

@[expose] public section

noncomputable section

open Idealize.ShloMosaic Lift

namespace Model.Attn

/-- An entry of an array, zero outside. -/
def ent (x : Fin 8192 → Fin 1024 → ℝ) (r c : ℕ) : ℝ := if h : r < 8192 ∧ c < 1024 then x ⟨r, h.1⟩ ⟨c, h.2⟩ else 0

theorem ent_fin (x : Fin 8192 → Fin 1024 → ℝ) (r : Fin 8192) (c : Fin 1024) : ent x r.val c.val = x r c := dif_pos ⟨r.isLt, c.isLt⟩

variable (q k v : Fin 8192 → Fin 1024 → ℝ)

/-- The score of key `x` for query `i` of head `h`. -/
def score (h i x : ℕ) : ℝ := ∑ d : Fin 128, ent q i (h * 128 + d.val) * ent k x (h * 128 + d.val)

/-- The weighted sum of lane `l` of the values over query `i`'s keys below `n`. -/
def acc (h i n l : ℕ) : ℝ := ∑ x ∈ Finset.range n, if x ≤ i then (2 : ℝ) ^ score q k h i x * ent v x (h * 128 + l) else 0

/-- The sum of query `i`'s weights. -/
def tot (h i : ℕ) : ℝ := ∑ x ∈ Finset.range 8192, if x ≤ i then (2 : ℝ) ^ score q k h i x else 0

def out (i : Fin 8192) (j : Fin 1024) : ℝ := acc q k v (j.val / 128) i.val 8192 (j.val % 128) / tot q k (j.val / 128) i.val
def lse (i : Fin 8192) (j : Fin 1024) : ℝ := Real.log (tot q k (j.val / 128) i.val) / Real.log 2

theorem tot_pos (h i : ℕ) (hi : i < 8192) : 0 < tot q k h i := by
  refine Finset.sum_pos' (fun x _ => ?_) ⟨i, Finset.mem_range.2 hi, ?_⟩
  · split
    · exact (Real.rpow_pos_of_pos two_pos _).le
    · exact le_rfl
  · rw [if_pos le_rfl]
    exact Real.rpow_pos_of_pos two_pos _

theorem acc_zero (h i l : ℕ) : acc q k v h i 0 l = 0 := rfl

/-- Keys after the query add nothing. -/
theorem acc_all (h i n l : ℕ) (hi : i < n) (hn : n ≤ 8192) : acc q k v h i n l = acc q k v h i 8192 l := by
  refine Finset.sum_subset (Finset.range_mono hn) fun x _ hx => if_neg ?_
  rw [Finset.mem_range] at hx
  omega

/-- What one block of keys adds to a row's sums. -/
def gain {n : ℕ} (keep : Fin n → Prop) [DecidablePred keep] (r : Fin n → ℝ) (w : Fin n → Fin 128 → ℝ) (l : Fin 128) : ℝ :=
  ∑ x, if keep x then (2 : ℝ) ^ r x * w x l else 0

theorem acc_add (h i b n : ℕ) (l : Fin 128) (keep : Fin n → Prop) [DecidablePred keep] (hk : ∀ x, keep x ↔ b + x.val ≤ i)
    (r : Fin n → ℝ) (hr : ∀ x, r x = score q k h i (b + x.val)) (w : Fin n → Fin 128 → ℝ) (hw : ∀ x l, w x l = ent v (b + x.val) (h * 128 + l.val)) :
    acc q k v h i b l.val + gain keep r w l = acc q k v h i (b + n) l.val := by
  unfold acc gain
  rw [Finset.sum_range_add, Finset.sum_range (n := n)]
  refine congrArg (_ + ·) (Finset.sum_congr rfl fun x _ => ?_)
  rw [hr, hw]
  exact if_congr (hk x) rfl rfl

/-- The lane of the values that holds one sums the weights. -/
theorem acc_ones (h i : ℕ) (hh : h < 8) (hv : ∀ x j : ℕ, x < 8192 → j < 8 → ent v x (j * 128 + 64) = 1) : acc q k v h i 8192 64 = tot q k h i := by
  refine Finset.sum_congr rfl fun x hx => ?_
  rw [hv x h (Finset.mem_range.1 hx) hh, mul_one]

/-! ### The running sums -/

/-- What a row carries between blocks of keys: its shift and its sums `A` relative to the shift, or nothing yet. -/
def Carry (m : EReal) (a : Fin 128 → EReal) (A : Fin 128 → ℝ) : Prop :=
  (m = ⊥ ∧ (∀ l, a l = 0) ∧ ∀ l, A l = 0) ∨ ∃ M : ℝ, m = (M : EReal) ∧ ∀ l, a l = (((2 : ℝ) ^ (-M) * A l : ℝ) : EReal)

theorem exp2_sub (r M : ℝ) : Ideal.exp2 ((r : EReal) - (M : EReal)) = (((2 : ℝ) ^ (-M) * (2 : ℝ) ^ r : ℝ) : EReal) := by
  rw [← EReal.coe_sub, Ideal.exp2_coe]
  refine congrArg Real.toEReal ?_
  rw [← Real.rpow_add two_pos, neg_add_eq_sub]
  rfl

theorem exp2_bot_sub (M : ℝ) : Ideal.exp2 ((⊥ : EReal) - (M : EReal)) = ((0 : ℝ) : EReal) := by
  rw [EReal.bot_sub, Ideal.exp2_bot]
  rfl

theorem fold_real {n : ℕ} (keep : Fin n → Prop) [DecidablePred keep] (r : Fin n → ℝ) (hk : ∃ x, keep x) :
    ∃ R : ℝ, Finset.univ.fold max ⊥ (fun x => if keep x then ((r x : ℝ) : EReal) else ⊥) = (R : EReal) := by
  obtain ⟨x, hx⟩ := hk
  have lt : Finset.univ.fold max ⊥ (fun x => if keep x then ((r x : ℝ) : EReal) else ⊥) < ⊤ :=
    Finset.fold_max_lt _ |>.2 ⟨bot_lt_top, fun m _ => by split; exacts [EReal.coe_lt_top _, bot_lt_top]⟩
  have le : ((r x : ℝ) : EReal) ≤ Finset.univ.fold max ⊥ (fun x => if keep x then ((r x : ℝ) : EReal) else ⊥) :=
    Finset.le_fold_max _ |>.2 (Or.inr ⟨x, Finset.mem_univ x, by rw [if_pos hx]⟩)
  exact ⟨_, (EReal.coe_toReal lt.ne (ne_bot_of_le_ne_bot (EReal.coe_ne_bot _) le)).symm⟩

/-- One block of keys: the shift stays real, and the sums gain the block's. -/
theorem carry_step {n : ℕ} (keep : Fin n → Prop) [DecidablePred keep] (r : Fin n → ℝ) (w : Fin n → Fin 128 → ℝ) (hk : ∃ x, keep x)
    {m : EReal} {a : Fin 128 → EReal} {A : Fin 128 → ℝ} (hc : Carry m a A) :
    ∃ M : ℝ, max m (Finset.univ.fold max ⊥ (fun x => if keep x then ((r x : ℝ) : EReal) else ⊥)) = (M : EReal)
      ∧ ∀ l, Ideal.exp2 (m - (M : EReal)) * a l + ∑ x, Ideal.exp2 ((if keep x then ((r x : ℝ) : EReal) else ⊥) - (M : EReal)) * ((w x l : ℝ) : EReal)
        = (((2 : ℝ) ^ (-M) * (A l + gain keep r w l) : ℝ) : EReal) := by
  obtain ⟨R, hR⟩ := fold_real keep r hk
  rw [hR]
  have sum : ∀ (M : ℝ) (l : Fin 128), ∑ x, Ideal.exp2 ((if keep x then ((r x : ℝ) : EReal) else ⊥) - (M : EReal)) * ((w x l : ℝ) : EReal)
      = (((2 : ℝ) ^ (-M) * gain keep r w l : ℝ) : EReal) := by
    intro M l
    unfold gain
    rw [Finset.mul_sum, ← coe_sum]
    refine Finset.sum_congr rfl fun x _ => ?_
    split
    · rw [exp2_sub, ← EReal.coe_mul, mul_assoc]
    · rw [exp2_bot_sub, ← EReal.coe_mul, zero_mul, mul_zero]
  rcases hc with ⟨rfl, ha, hA⟩ | ⟨M0, rfl, ha⟩
  · refine ⟨R, max_eq_right bot_le, fun l => ?_⟩
    rw [sum, ha, hA, mul_zero, zero_add, zero_add]
  · refine ⟨max M0 R, (EReal.coe_strictMono.monotone.map_max).symm, fun l => ?_⟩
    rw [sum, ha, exp2_sub, ← EReal.coe_mul, ← EReal.coe_add, mul_add]
    refine congrArg Real.toEReal (congrArg (· + _) ?_)
    rw [mul_assoc, ← mul_assoc ((2 : ℝ) ^ M0), ← Real.rpow_add two_pos, add_neg_cancel, Real.rpow_zero, one_mul]

/-- The quotient does not see the shift. -/
theorem quot_shift (M A L : ℝ) (hL : 0 < L) : Ideal.div (((2 : ℝ) ^ (-M) * A : ℝ) : EReal) (((2 : ℝ) ^ (-M) * L : ℝ) : EReal) = ((A / L : ℝ) : EReal) := by
  have p : 0 < (2 : ℝ) ^ (-M) := Real.rpow_pos_of_pos two_pos _
  rw [div_ne (mul_pos p hL).ne', mul_div_mul_left _ _ p.ne']

/-- The shift and the logarithm of the shifted sum make the logarithm of the sum. -/
theorem log_shift (M L : ℝ) (hL : 0 < L) : (M : EReal) + Ideal.log (((2 : ℝ) ^ (-M) * L : ℝ) : EReal) * (((Real.log 2)⁻¹ : ℝ) : EReal)
    = ((Real.log L / Real.log 2 : ℝ) : EReal) := by
  have p : 0 < (2 : ℝ) ^ (-M) := Real.rpow_pos_of_pos two_pos _
  rw [Ideal.log_coe, if_neg (not_le.2 (mul_pos p hL)), ← EReal.coe_mul, ← EReal.coe_add]
  refine congrArg Real.toEReal ?_
  rw [Real.log_mul p.ne' hL.ne', Real.log_rpow two_pos]
  have n : Real.log 2 ≠ 0 := (Real.log_pos one_lt_two).ne'
  field_simp
  ring

end Model.Attn

end
-- ==== Proof.AttnTiles.lean ====
module

public import proofs.«01_k».proof.Proof.Gen.Kernel12Ideal.Skeleton
public import proofs.«01_k».proof.Proof.AttnModel

@[expose] public section

set_option maxRecDepth 16384

noncomputable section

open Idealize.ShloMosaic Idealize.ShloMosaic.TcCoe Idealize.SL.Sem

namespace Cert.Kernel12Ideal.Attn

open Cert.Kernel12Ideal Cert.Kernel12Ideal.Gen Lift
open Model.Attn

/-- The mask compares a key with its query: block `b` of 2048 keys against block `a` of 512 queries. -/
theorem keep_word {a b i x : ℕ} (ha : a < 16) (hb : b < 4) (hi : i < 512) (hx : x < 2048) :
    IntOp.cmpi .sle (IntOp.subi (BitVec.ofNat 32 x) (BitVec.ofNat 32 i)) (Scalar.subi (Scalar.muli (BitVec.ofNat 32 a) 512#32) (Scalar.muli (BitVec.ofNat 32 b) 2048#32))
      = if b * 2048 + x ≤ a * 512 + i then 1#1 else 0#1 := by
  have e : ∀ m n : ℕ, m < 8192 → n < 8192 → ((BitVec.ofNat 32 m) - (BitVec.ofNat 32 n)).toInt = (m : ℤ) - n := by
    intro m n hm hn
    rw [BitVec.toInt_sub, BitVec.toInt_ofNat', BitVec.toInt_ofNat']
    simp only [Int.bmod]
    omega
  have p : (IntOp.subi (BitVec.ofNat 32 x) (BitVec.ofNat 32 i)).toInt = (x : ℤ) - i := e x i (by omega) (by omega)
  have r : (Scalar.subi (Scalar.muli (BitVec.ofNat 32 a) 512#32) (Scalar.muli (BitVec.ofNat 32 b) 2048#32)).toInt = (a * 512 : ℕ) - ((b * 2048 : ℕ) : ℤ) := by
    rw [← e (a * 512) (b * 2048) (by omega) (by omega), BitVec.ofNat_mul, BitVec.ofNat_mul]
    rfl
  show BitVec.ofBool (BitVec.sle _ _) = _
  rw [BitVec.sle, p, r]
  split
  · rw [decide_eq_true (by omega)]; rfl
  · rw [decide_eq_false (by omega)]; rfl

theorem sel_keep {p : Prop} [Decidable p] (r : EReal) :
    Scalar.select (α := EReal) (if p then 1#1 else 0#1) r (Named.named (F := Ideal) κ "mask" (φ := .f32) 0xF149F2CA#32) = if p then r else ⊥ := by
  split <;> rfl

theorem w_neginf : Ideal.ofBits .f32 0xFF800000#32 = ⊥ := by simp [Ideal.ofBits, Ideal.ieee]

theorem lane_eq (x : Fin 128) : IntOp.cmpi .eq (BitVec.ofNat 32 x.val) 64#32 = if x = 64 then 1#1 else 0#1 := by
  revert x; decide +kernel

theorem sum_lane (f : Fin 128 → EReal) : ∑ x : Fin 128, Scalar.select (α := EReal) (IntOp.cmpi .eq (BitVec.ofNat 32 x.val) 64#32) (f x) 0 = f 64 := by
  rw [Finset.sum_eq_single (64 : Fin 128)]
  · rw [lane_eq, if_pos rfl]; rfl
  · intro x _ hx
    rw [lane_eq, if_neg hx]; rfl
  · intro h; exact absurd (Finset.mem_univ _) h

theorem n_log2e : Named.named (F := Ideal) κ "log2e" (φ := .f32) 0x3FB8AA3B#32 = (((Real.log 2)⁻¹ : ℝ) : EReal) := rfl

variable (q : Fin 512 → Fin 128 → ℝ) (mp : FVec Ideal S512x1 .f32) (ac : FVec Ideal S512x128 .f32) (i : Fin 512) {A : Fin 128 → ℝ}

/-- A block of 2048 keys before the query. -/
theorem full_at (k v : Fin 2048 → Fin 128 → ℝ) (hc : Carry (mp (ix2 i 0)) (fun l => ac (ix2 i l)) A) :
    ∃ M : ℝ, k0_pay1 (F := Ideal) (k0_pay9 (mat .bf16 q) (mat .bf16 k)) mp (ix2 i 0) = (M : EReal)
      ∧ ∀ l, k0_pay2 (F := Ideal) (k0_pay9 (mat .bf16 q) (mat .bf16 k)) mp ac (mat .bf16 v) (ix2 i l)
        = (((2 : ℝ) ^ (-M) * (A l + gain (fun _ => True) (fun x => ∑ d, q i d * k x d) v l) : ℝ) : EReal) := by
  have hs : ∀ x, k0_pay9 (F := Ideal) (mat .bf16 q) (mat .bf16 k) (ix2 i x) = if True then ((∑ d, q i d * k x d : ℝ) : EReal) else ⊥ := by
    intro x
    pointwise [k0_pay9]
    simp only [mat_at, ← EReal.coe_mul, coe_sum, if_true]
  obtain ⟨M, e, h⟩ := carry_step (fun _ => True) (fun x => ∑ d, q i d * k x d) v ⟨0, trivial⟩ hc
  have hm : k0_pay1 (F := Ideal) (k0_pay9 (mat .bf16 q) (mat .bf16 k)) mp (ix2 i 0) = (M : EReal) := by
    pointwise [k0_pay1]
    simp only [hs, w_neginf]
    exact e
  refine ⟨M, hm, fun l => ?_⟩
  pointwise [k0_pay2]
  rw [hm]
  simp only [hs]
  exact h l

/-- A row's results after its last block of keys, from the lines that make them: its scores `s`, new shift `m`, new sums
`t`, the sum `u` of its lane of ones, and the two results. -/
theorem last_of {n : ℕ} (q : Fin 128 → ℝ) (k v : Fin n → Fin 128 → ℝ) {b r : ℕ} (hn : 0 < n) (hb : b ≤ r) {mp : EReal} {ac : Fin 128 → EReal} {A : Fin 128 → ℝ} (hc : Carry mp ac A)
    (B : Fin 128 → ℝ) (hB : ∀ l, A l + gain (fun x : Fin n => b + x.val ≤ r) (fun x => ∑ d, q d * k x d) v l = B l) (hp : 0 < B 64) (l : Fin 128)
    {s : Fin n → EReal} (hs : ∀ x, s x = if b + x.val ≤ r then ((∑ d, q d * k x d : ℝ) : EReal) else ⊥)
    {m : EReal} (hm : m = max mp (Finset.univ.fold max ⊥ s))
    {t : Fin 128 → EReal} (ht : ∀ l, t l = Ideal.exp2 (mp - m) * ac l + ∑ x, Ideal.exp2 (s x - m) * ((v x l : ℝ) : EReal))
    {u : EReal} (hu : u = ∑ x : Fin 128, Scalar.select (α := EReal) (IntOp.cmpi .eq (BitVec.ofNat 32 x.val) 64#32) (t x) 0)
    {y z : EReal} (hy : y = Ideal.div (t l) u) (hz : z = m + Ideal.log u * Named.named (F := Ideal) κ "log2e" (φ := .f32) 0x3FB8AA3B#32) :
    y = ((B l / B 64 : ℝ) : EReal) ∧ z = ((Real.log (B 64) / Real.log 2 : ℝ) : EReal) := by
  obtain ⟨M, e, h⟩ := carry_step (fun x : Fin n => b + x.val ≤ r) (fun x => ∑ d, q d * k x d) v ⟨⟨0, hn⟩, hb⟩ hc
  simp only [hs] at hm ht
  rw [e] at hm
  simp only [hm, h, hB] at ht
  rw [sum_lane, ht] at hu
  rw [hy, hz, ht, hm, hu, n_log2e]
  exact ⟨quot_shift M _ _ hp, log_shift M _ hp⟩

theorem last_512 (k v : Fin 512 → Fin 128 → ℝ) {a b : ℕ} (ha : a < 16) (hb : b < 4) (hab : b * 2048 ≤ a * 512 + i.val) (hc : Carry (mp (ix2 i 0)) (fun l => ac (ix2 i l)) A)
    (B : Fin 128 → ℝ) (hB : ∀ l, A l + gain (fun x : Fin 512 => b * 2048 + x.val ≤ a * 512 + i.val) (fun x => ∑ d, q i d * k x d) v l = B l) (hp : 0 < B 64) (l : Fin 128)
    {s : FVec Ideal S512x512 .f32} (hs : s = k0_pay54 (BitVec.ofNat 32 a) (BitVec.ofNat 32 b) (k0_pay29 (mat .bf16 q) (mat .bf16 k))) :
    k0_pay150 (F := Ideal) k0_pay143 s mp ac (mat .bf16 v) (ix2 i l) = ((B l / B 64 : ℝ) : EReal)
    ∧ k0_pay151 (F := Ideal) k0_pay143 s mp ac (mat .bf16 v) (ix2 i l) = ((Real.log (B 64) / Real.log 2 : ℝ) : EReal) := by
  refine last_of (q i) k v (by norm_num) hab hc B hB hp l (s := fun x => s (ix2 i x)) (m := k0_pay147 s mp (ix2 i 0)) (t := fun l => k0_pay148 s mp ac (mat .bf16 v) (ix2 i l))
    (u := k0_pay149 k0_pay143 s mp ac (mat .bf16 v) (ix2 i 0)) (fun x => ?_) ?_ (fun l => ?_) ?_ ?_ ?_
  · subst hs
    pointwise [k0_pay54, k0_pay29]
    simp only [mat_at, ← EReal.coe_mul, coe_sum]
    rw [keep_word ha hb i.isLt (by omega)]
    exact sel_keep _
  all_goals pointwise [k0_pay147, k0_pay148, k0_pay149, k0_pay150, k0_pay151, k0_pay143, w_neginf]
  rfl

theorem last_1024 (k v : Fin 1024 → Fin 128 → ℝ) {a b : ℕ} (ha : a < 16) (hb : b < 4) (hab : b * 2048 ≤ a * 512 + i.val) (hc : Carry (mp (ix2 i 0)) (fun l => ac (ix2 i l)) A)
    (B : Fin 128 → ℝ) (hB : ∀ l, A l + gain (fun x : Fin 1024 => b * 2048 + x.val ≤ a * 512 + i.val) (fun x => ∑ d, q i d * k x d) v l = B l) (hp : 0 < B 64) (l : Fin 128)
    {s : FVec Ideal S512x1024 .f32} (hs : s = k0_pay83 (BitVec.ofNat 32 a) (BitVec.ofNat 32 b) (k0_pay58 (mat .bf16 q) (mat .bf16 k))) :
    k0_pay155 (F := Ideal) k0_pay143 s mp ac (mat .bf16 v) (ix2 i l) = ((B l / B 64 : ℝ) : EReal)
    ∧ k0_pay156 (F := Ideal) k0_pay143 s mp ac (mat .bf16 v) (ix2 i l) = ((Real.log (B 64) / Real.log 2 : ℝ) : EReal) := by
  refine last_of (q i) k v (by norm_num) hab hc B hB hp l (s := fun x => s (ix2 i x)) (m := k0_pay152 s mp (ix2 i 0)) (t := fun l => k0_pay153 s mp ac (mat .bf16 v) (ix2 i l))
    (u := k0_pay154 k0_pay143 s mp ac (mat .bf16 v) (ix2 i 0)) (fun x => ?_) ?_ (fun l => ?_) ?_ ?_ ?_
  · subst hs
    pointwise [k0_pay83, k0_pay58]
    simp only [mat_at, ← EReal.coe_mul, coe_sum]
    rw [keep_word ha hb i.isLt (by omega)]
    exact sel_keep _
  all_goals pointwise [k0_pay152, k0_pay153, k0_pay154, k0_pay155, k0_pay156, k0_pay143, w_neginf]
  rfl

theorem last_1536 (k v : Fin 1536 → Fin 128 → ℝ) {a b : ℕ} (ha : a < 16) (hb : b < 4) (hab : b * 2048 ≤ a * 512 + i.val) (hc : Carry (mp (ix2 i 0)) (fun l => ac (ix2 i l)) A)
    (B : Fin 128 → ℝ) (hB : ∀ l, A l + gain (fun x : Fin 1536 => b * 2048 + x.val ≤ a * 512 + i.val) (fun x => ∑ d, q i d * k x d) v l = B l) (hp : 0 < B 64) (l : Fin 128)
    {s : FVec Ideal S512x1536 .f32} (hs : s = k0_pay112 (BitVec.ofNat 32 a) (BitVec.ofNat 32 b) (k0_pay87 (mat .bf16 q) (mat .bf16 k))) :
    k0_pay160 (F := Ideal) k0_pay143 s mp ac (mat .bf16 v) (ix2 i l) = ((B l / B 64 : ℝ) : EReal)
    ∧ k0_pay161 (F := Ideal) k0_pay143 s mp ac (mat .bf16 v) (ix2 i l) = ((Real.log (B 64) / Real.log 2 : ℝ) : EReal) := by
  refine last_of (q i) k v (by norm_num) hab hc B hB hp l (s := fun x => s (ix2 i x)) (m := k0_pay157 s mp (ix2 i 0)) (t := fun l => k0_pay158 s mp ac (mat .bf16 v) (ix2 i l))
    (u := k0_pay159 k0_pay143 s mp ac (mat .bf16 v) (ix2 i 0)) (fun x => ?_) ?_ (fun l => ?_) ?_ ?_ ?_
  · subst hs
    pointwise [k0_pay112, k0_pay87]
    simp only [mat_at, ← EReal.coe_mul, coe_sum]
    rw [keep_word ha hb i.isLt (by omega)]
    exact sel_keep _
  all_goals pointwise [k0_pay157, k0_pay158, k0_pay159, k0_pay160, k0_pay161, k0_pay143, w_neginf]
  rfl

theorem last_2048 (k v : Fin 2048 → Fin 128 → ℝ) {a b : ℕ} (ha : a < 16) (hb : b < 4) (hab : b * 2048 ≤ a * 512 + i.val) (hc : Carry (mp (ix2 i 0)) (fun l => ac (ix2 i l)) A)
    (B : Fin 128 → ℝ) (hB : ∀ l, A l + gain (fun x : Fin 2048 => b * 2048 + x.val ≤ a * 512 + i.val) (fun x => ∑ d, q i d * k x d) v l = B l) (hp : 0 < B 64) (l : Fin 128)
    {s : FVec Ideal S512x2048 .f32} (hs : s = k0_pay141 (BitVec.ofNat 32 a) (BitVec.ofNat 32 b) (k0_pay116 (mat .bf16 q) (mat .bf16 k))) :
    k0_pay4 (F := Ideal) k0_pay143 s mp ac (mat .bf16 v) (ix2 i l) = ((B l / B 64 : ℝ) : EReal)
    ∧ k0_pay5 (F := Ideal) k0_pay143 s mp ac (mat .bf16 v) (ix2 i l) = ((Real.log (B 64) / Real.log 2 : ℝ) : EReal) := by
  refine last_of (q i) k v (by norm_num) hab hc B hB hp l (s := fun x => s (ix2 i x)) (m := k0_pay1 s mp (ix2 i 0)) (t := fun l => k0_pay2 s mp ac (mat .bf16 v) (ix2 i l))
    (u := k0_pay3 k0_pay143 s mp ac (mat .bf16 v) (ix2 i 0)) (fun x => ?_) ?_ (fun l => ?_) ?_ ?_ ?_
  · subst hs
    pointwise [k0_pay141, k0_pay116]
    simp only [mat_at, ← EReal.coe_mul, coe_sum]
    rw [keep_word ha hb i.isLt (by omega)]
    exact sel_keep _
  all_goals pointwise [k0_pay1, k0_pay2, k0_pay3, k0_pay4, k0_pay5, k0_pay143, w_neginf]
  rfl

end Cert.Kernel12Ideal.Attn

end
-- ==== Proof.AttnSteps.lean ====
module

public import proofs.«01_k».proof.Proof.Gen.Kernel12Ideal.Flash
public import proofs.«01_k».proof.Proof.AttnTiles
public import Idealize.ShloMosaic.Lib.Pipeline.ReadBack

@[expose] public section

set_option maxRecDepth 16384
set_option maxHeartbeats 40000000

noncomputable section

open Idealize.ShloMosaic Idealize.ShloMosaic.TcCoe Idealize.SL.Sem

namespace Cert.Kernel12Ideal.Attn

open Cert.Kernel12Ideal Cert.Kernel12Ideal.Gen Lift
open Model.Attn

/-- Of stores into one leading index each, the last one there decides. -/
theorem canon_lead {Val : EltTy → Type} [∀ e, Nonempty (Val e)] {e : EltTy} {o : ℕ}
    (inb : ∀ k, (![o, 0, 0] : Fin 3 → ℕ) k + (![1, 512, 1] : Fin 3 → ℕ) k ≤ S4x512x1.size k)
    (w : S1x512x1.Idx → Val e) (L : List (View.Piece Val S4x512x1 e)) (h : Fin 4) (i : Fin 512) :
    View.canon ((⟨Rect.unit (s := S4x512x1) ![o, 0, 0] ![1, 512, 1] inb, w⟩ : View.Piece Val S4x512x1 e) :: L) (ix3 h i 0)
      = if h.val = o then w (ix3 0 i 0) else View.canon L (ix3 h i 0) := by
  split
  · next e =>
    have hj : (ix3 h i 0 : S4x512x1.Idx) = (Rect.unit (s := S4x512x1) ![o, 0, 0] ![1, 512, 1] inb).emb (ix3 0 i 0 : S1x512x1.Idx) := by
      funext k
      refine Fin.ext ?_
      match k with
      | ⟨0, _⟩ => show h.val = o + 1 * 0; omega
      | ⟨1, _⟩ => show i.val = 0 + 1 * i.val; omega
      | ⟨2, _⟩ => rfl
    rw [hj]
    exact View.canon_cons_emb (Rect.unit (s := S4x512x1) ![o, 0, 0] ![1, 512, 1] inb) w L _
  · next e =>
    refine View.canon_cons_of_not_mem _ L fun hm => e ?_
    have h1 := (Rect.mem_set_unit (inb := inb)).1 hm 0
    have h2 : o ≤ h.val ∧ h.val < o + 1 := h1
    omega

/-- A load of one leading index, its axes merged. -/
theorem lead_at {o : ℕ} (s : S4x512x1.Idx → EReal) (inb : ∀ k, (![o, 0, 0] : Fin 3 → ℕ) k + (![1, 512, 1] : Fin 3 → ℕ) k ≤ S4x512x1.size k)
    (hc : S1x512x1.ShapeCasts S512x1) (ho : o < 4) (i : Fin 512) :
    shapeCast S512x1 (View.ld (Val := Elt Ideal) (e' := .f32) s (Rect.unit (s := S4x512x1) ![o, 0, 0] ![1, 512, 1] inb)) hc (ix2 i 0) = s (ix3 ⟨o, ho⟩ i 0) := by
  pointwise []

/-- A load of a head's columns, and of stores into a head's columns the last one there decides. -/
theorem head_at {o : ℕ} (s : S512x512.Idx → EReal) (inb : ∀ k, (![0, o] : Fin 2 → ℕ) k + (![512, 128] : Fin 2 → ℕ) k ≤ S512x512.size k)
    {h : Fin 4} (ho : o = h.val * 128) (i : Fin 512) (l : Fin 128) :
    View.ld (Val := Elt Ideal) (e' := .f32) s (Rect.unit (s := S512x512) ![0, o] ![512, 128] inb) (ix2 i l) = s (ix2 i ⟨h.val * 128 + l.val, by omega⟩) := by
  subst ho
  exact ld_cols (Val := Elt Ideal) (e := .f32) s inb i l (by omega)

theorem canon_head {Val : EltTy → Type} [∀ e, Nonempty (Val e)] {e : EltTy} {o : ℕ}
    (inb : ∀ k, (![0, o] : Fin 2 → ℕ) k + (![512, 128] : Fin 2 → ℕ) k ≤ S512x512.size k)
    (w : S512x128.Idx → Val e) (L : List (View.Piece Val S512x512 e)) (h : Fin 4) (i : Fin 512) (l : Fin 128) (hl : h.val * 128 + l.val < 512) (ho : o % 128 = 0) :
    View.canon ((⟨Rect.unit (s := S512x512) ![0, o] ![512, 128] inb, w⟩ : View.Piece Val S512x512 e) :: L) (ix2 i ⟨h.val * 128 + l.val, hl⟩)
      = if o = h.val * 128 then w (ix2 i l) else View.canon L (ix2 i ⟨h.val * 128 + l.val, hl⟩) := by
  rw [canon_cols]
  by_cases e : o = h.val * 128
  · rw [if_pos e, dif_pos (by constructor <;> dsimp only <;> omega)]
    exact congrArg (fun l => w (ix2 i l)) (Fin.ext (by dsimp only; omega))
  · rw [if_neg e, dif_neg (by dsimp only; omega)]

/-- A head's columns of the first rows. -/
def hd {a b : ℕ} (r o : ℕ) (z : Fin a → Fin b → ℝ) (x : Fin r) (d : Fin 128) : ℝ := if h : x.val < a ∧ o + d.val < b then z ⟨x.val, h.1⟩ ⟨o + d.val, h.2⟩ else 0

theorem ld_hd {a b r o : ℕ} (z : Fin a → Fin b → ℝ) (inb : ∀ k, (![0, o] : Fin 2 → ℕ) k + (![r, 128] : Fin 2 → ℕ) k ≤ (⟨2, ![a, b]⟩ : Shape).size k) :
    View.ld (Val := Elt Ideal) (e' := .bf16) (mat .bf16 z) (Rect.unit (s := ⟨2, ![a, b]⟩) ![0, o] ![r, 128] inb) = mat .bf16 (hd r o z) := by
  have h0 : 0 + r ≤ a := inb 0
  have h1 : o + 128 ≤ b := inb 1
  funext i
  have l0 : (i 0).val < r := (i 0).isLt
  have l1 : (i 1).val < 128 := (i 1).isLt
  have e : hd r o z (i 0) (i 1) = z ⟨(i 0).val, by omega⟩ ⟨o + (i 1).val, by omega⟩ := dif_pos (show (i 0).val < a ∧ o + (i 1).val < b by omega)
  refine congrArg Real.toEReal (Eq.trans (congrArg₂ z (Fin.ext ?_) (Fin.ext ?_)) e.symm)
  · show 0 + 1 * (i 0).val = (i 0).val; omega
  · show o + 1 * (i 1).val = o + (i 1).val; omega

/-- What the loads of a head's shifts and sums carry. -/
theorem loads (s0 : S4x512x1.Idx → EReal) (s1 : S512x512.Idx → EReal) {h : Fin 4} {i : Fin 512} {A : Fin 128 → ℝ}
    (i0 : ∀ k, (![h.val, 0, 0] : Fin 3 → ℕ) k + (![1, 512, 1] : Fin 3 → ℕ) k ≤ S4x512x1.size k) (iq : ∀ k, (![0, h.val * 128] : Fin 2 → ℕ) k + (![512, 128] : Fin 2 → ℕ) k ≤ S512x512.size k)
    (hs : S1x512x1.ShapeCasts S512x1) (hc : Carry (s0 (ix3 h i 0)) (fun l => s1 (ix2 i ⟨h.val * 128 + l.val, by omega⟩)) A) :
    Carry (shapeCast S512x1 (View.ld (Val := Elt Ideal) (e' := .f32) s0 (Rect.unit (s := S4x512x1) ![h.val, 0, 0] ![1, 512, 1] i0)) hs (ix2 i 0))
      (fun l => View.ld (Val := Elt Ideal) (e' := .f32) s1 (Rect.unit (s := S512x512) ![0, h.val * 128] ![512, 128] iq) (ix2 i l)) A := by
  rw [lead_at s0 i0 hs h.isLt]
  simp only [head_at s1 iq rfl]
  exact hc

/-- A block of keys before the query, read from the heads' columns. -/
theorem head_full {o : ℕ} (q : Fin 512 → Fin 512 → ℝ) (k v : Fin 2048 → Fin 512 → ℝ) (s0 : S4x512x1.Idx → EReal) (s1 : S512x512.Idx → EReal)
    (iq : ∀ k, (![0, o] : Fin 2 → ℕ) k + (![512, 128] : Fin 2 → ℕ) k ≤ S512x512.size k) (ik : ∀ k, (![0, o] : Fin 2 → ℕ) k + (![2048, 128] : Fin 2 → ℕ) k ≤ S2048x512.size k)
    {h : Fin 4} (i0 : ∀ k, (![h.val, 0, 0] : Fin 3 → ℕ) k + (![1, 512, 1] : Fin 3 → ℕ) k ≤ S4x512x1.size k) (hc : S1x512x1.ShapeCasts S512x1) (hc' : S512x1.ShapeCasts S1x512x1) (hs : S512x128.ShapeCasts S512x128)
    (ho : o = h.val * 128) (i : Fin 512) (A : Fin 128 → ℝ) (c : Carry (s0 (ix3 h i 0)) (fun l => s1 (ix2 i ⟨h.val * 128 + l.val, by omega⟩)) A) :
    Carry (shapeCast S1x512x1 (k0_pay1 (F := Ideal) (k0_pay9 (View.ld (Val := Elt Ideal) (e' := .bf16) (mat .bf16 q) (Rect.unit (s := S512x512) ![0, o] ![512, 128] iq))
          (View.ld (Val := Elt Ideal) (e' := .bf16) (mat .bf16 k) (Rect.unit (s := S2048x512) ![0, o] ![2048, 128] ik)))
          (shapeCast S512x1 (View.ld (Val := Elt Ideal) (e' := .f32) s0 (Rect.unit (s := S4x512x1) ![h.val, 0, 0] ![1, 512, 1] i0)) hc)) hc' (ix3 0 i 0))
      (fun l => shapeCast S512x128 (k0_pay2 (F := Ideal) (k0_pay9 (View.ld (Val := Elt Ideal) (e' := .bf16) (mat .bf16 q) (Rect.unit (s := S512x512) ![0, o] ![512, 128] iq))
          (View.ld (Val := Elt Ideal) (e' := .bf16) (mat .bf16 k) (Rect.unit (s := S2048x512) ![0, o] ![2048, 128] ik)))
          (shapeCast S512x1 (View.ld (Val := Elt Ideal) (e' := .f32) s0 (Rect.unit (s := S4x512x1) ![h.val, 0, 0] ![1, 512, 1] i0)) hc)
          (View.ld (Val := Elt Ideal) (e' := .f32) s1 (Rect.unit (s := S512x512) ![0, o] ![512, 128] iq))
          (View.ld (Val := Elt Ideal) (e' := .bf16) (mat .bf16 v) (Rect.unit (s := S2048x512) ![0, o] ![2048, 128] ik))) hs (ix2 i l))
      (fun l => A l + gain (fun _ => True) (fun x => ∑ d, hd 512 (h.val * 128) q i d * hd 2048 (h.val * 128) k x d) (hd 2048 (h.val * 128) v) l) := by
  subst ho
  rw [ld_hd q iq, ld_hd k ik, ld_hd v ik]
  obtain ⟨M, hm, ha⟩ := full_at (hd 512 (h.val * 128) q) _ _ i (hd 2048 (h.val * 128) k) (hd 2048 (h.val * 128) v) (loads s0 s1 i0 iq hc c)
  refine Or.inr ⟨M, Eq.trans ?_ hm, fun l => Eq.trans ?_ (ha l)⟩
  · generalize k0_pay1 (F := Ideal) _ _ = z
    pointwise []
  · generalize k0_pay2 (F := Ideal) _ _ _ _ = z
    pointwise []

/-- The query and key blocks of a point. -/
def qi (t : ℕ) : ℕ := [0, 1, 2, 3, 4, 4, 5, 5, 6, 6, 7, 7, 8, 8, 8, 9, 9, 9, 10, 10, 10, 11, 11, 11, 12, 12, 12, 12, 13, 13, 13, 13, 14, 14, 14, 14, 15, 15, 15, 15].getD (t % 40) 0
def kj (t : ℕ) : ℕ := [0, 0, 0, 0, 0, 1, 0, 1, 0, 1, 0, 1, 0, 1, 2, 0, 1, 2, 0, 1, 2, 0, 1, 2, 0, 1, 2, 3, 0, 1, 2, 3, 0, 1, 2, 3, 0, 1, 2, 3].getD (t % 40) 0

theorem word0 : ∀ (ch : Fin 1) (t : Fin (cfgA ch).N), (@View.ld (Elt Ideal) S40 .i32 (@View.read sig (Elt Ideal) .tc .smem S40 .i32 (View.whole main_arg0) (pinT_0 ch))
    (Rect.unit (s := S40) (k0_off1 (crd ch t)) ![1] (k0_off1_inb (crd ch t))) (Shape.Idx.first (numel1_S1.symm ▸ Nat.one_pos)) : BitVec 32) = BitVec.ofNat 32 (qi t.val) := by
  decide +kernel
theorem word1 : ∀ (ch : Fin 1) (t : Fin (cfgA ch).N), (@View.ld (Elt Ideal) S40 .i32 (@View.read sig (Elt Ideal) .tc .smem S40 .i32 (View.whole main_arg1) (pinT_1 ch))
    (Rect.unit (s := S40) (k0_off1 (crd ch t)) ![1] (k0_off1_inb (crd ch t))) (Shape.Idx.first (numel1_S1.symm ▸ Nat.one_pos)) : BitVec 32) = BitVec.ofNat 32 (kj t.val) := by
  decide +kernel
theorem small : ∀ (ch : Fin 1) (t : Fin (cfgA ch).N), qi t.val < 16 ∧ kj t.val < 4 ∧ kj t.val * 2048 ≤ qi t.val * 512 := by decide +kernel

variable (ch : Fin 1) (m : (ℓ : Loc nD τ sig) → Buf (Elt Ideal) ℓ) (ρ : Dev nD → PrngReg)

/-- The scratch buffers: the rows' shifts, and their sums. -/
def shifts {c : Dev nD} (p : (S512x512.Idx → Elt Ideal .bf16) × (S512x512.Idx → Elt Ideal .f32) × Buf (Elt Ideal) ((c : Thread nD τ).loc cc0_scratch0) × Buf (Elt Ideal) ((c : Thread nD τ).loc cc0_scratch1)) : S4x512x1.Idx → EReal :=
  (View.whole cc0_scratch0).read (Elt Ideal) p.2.2.1
def sums {c : Dev nD} (p : (S512x512.Idx → Elt Ideal .bf16) × (S512x512.Idx → Elt Ideal .f32) × Buf (Elt Ideal) ((c : Thread nD τ).loc cc0_scratch0) × Buf (Elt Ideal) ((c : Thread nD τ).loc cc0_scratch1)) : S512x512.Idx → EReal :=
  (View.whole cc0_scratch1).read (Elt Ideal) p.2.2.2

theorem fits (w : ℕ) (hw : w < 4) : (∀ k, (![w, 0, 0] : Fin 3 → ℕ) k + (![1, 512, 1] : Fin 3 → ℕ) k ≤ S4x512x1.size k) ∧ ∀ k, (![0, w * 128] : Fin 2 → ℕ) k + (![512, 128] : Fin 2 → ℕ) k ≤ S512x512.size k := by
  rcases (by omega : w = 0 ∨ w = 1 ∨ w = 2 ∨ w = 3) with rfl | rfl | rfl | rfl <;> decide

/-- A row's two results. -/
def Gives {c : Dev nD} (p : (S512x512.Idx → Elt Ideal .bf16) × (S512x512.Idx → Elt Ideal .f32) × Buf (Elt Ideal) ((c : Thread nD τ).loc cc0_scratch0) × Buf (Elt Ideal) ((c : Thread nD τ).loc cc0_scratch1))
    (h : Fin 4) (i : Fin 512) (B : Fin 128 → ℝ) : Prop :=
  ∀ l : Fin 128, p.1 (ix2 i ⟨h.val * 128 + l.val, by omega⟩) = ((B l / B 64 : ℝ) : EReal)
    ∧ p.2.1 (ix2 i ⟨h.val * 128 + l.val, by omega⟩) = ((Real.log (B 64) / Real.log 2 : ℝ) : EReal)

theorem carry_init (h : Fin 4) (i : Fin 512) : Carry (k0_pay144 (F := Ideal) (ix3 h i 0)) (fun l : Fin 128 => k0_pay145 (F := Ideal) (ix2 i ⟨h.val * 128 + l.val, by omega⟩)) fun _ => 0 := by
  refine Or.inl ⟨?_, fun l => ?_, fun _ => rfl⟩
  · pointwise [k0_pay144]
    rfl
  · pointwise [k0_pay145]

/-- What a row carries into a point: nothing yet at its first block of keys. -/
def Into {c : Dev nD} (t : Fin (cfgA ch).N) (p : (S512x512.Idx → Elt Ideal .bf16) × (S512x512.Idx → Elt Ideal .f32) × Buf (Elt Ideal) ((c : Thread nD τ).loc cc0_scratch0) × Buf (Elt Ideal) ((c : Thread nD τ).loc cc0_scratch1))
    (h : Fin 4) (i : Fin 512) (A : Fin 128 → ℝ) : Prop :=
  (P0_0 ch t → Carry (k0_pay144 (F := Ideal) (ix3 h i 0)) (fun l : Fin 128 => k0_pay145 (F := Ideal) (ix2 i ⟨h.val * 128 + l.val, by omega⟩)) A)
  ∧ (¬P0_0 ch t → Carry (shifts p (ix3 h i 0)) (fun l => sums p (ix2 i ⟨h.val * 128 + l.val, by omega⟩)) A)

/-- A block of keys before the query. -/
theorem step_full (c : Dev nD) (t : Fin (cfgA ch).N) (prev) (q1 : P0_1 ch t) (q : Fin 512 → Fin 512 → ℝ) (k v : Fin 2048 → Fin 512 → ℝ)
    (e0 : iblk ch m ρ c (0 : Fin 5) t = mat .bf16 q) (e1 : iblk ch m ρ c (1 : Fin 5) t = mat .bf16 k) (e2 : iblk ch m ρ c (2 : Fin 5) t = mat .bf16 v)
    (h : Fin 4) (i : Fin 512) (A : Fin 128 → ℝ) (hc : Into ch t prev h i A) :
    Carry (shifts (step0 ch m ρ c t prev) (ix3 h i 0)) (fun l => sums (step0 ch m ρ c t prev) (ix2 i ⟨h.val * 128 + l.val, by omega⟩))
      (fun l => A l + gain (fun _ => True) (fun x => ∑ d, hd 512 (h.val * 128) q i d * hd 2048 (h.val * 128) k x d) (hd 2048 (h.val * 128) v) l) := by
  unfold Into shifts sums at *
  by_cases q0 : P0_0 ch t
  on_goal 1 =>
    replace hc := hc.1 q0
    generalize hs0 : k0_pay144 (F := Ideal) = s0 at hc
    generalize hs1 : k0_pay145 (F := Ideal) = s1 at hc
    rw [step0_E _ _ _ _ _ _ q0 q1]
    unfold kernelRun0_E
  on_goal 2 =>
    replace hc := hc.2 q0
    generalize hs0 : (View.whole cc0_scratch0).read (Elt Ideal) prev.2.2.1 = s0 at hc
    generalize hs1 : (View.whole cc0_scratch1).read (Elt Ideal) prev.2.2.2 = s1 at hc
    rw [step0_J _ _ _ _ _ _ q0 q1]
    unfold kernelRun0_J
  all_goals
    rw [e0, e1, e2]
    frame_open
    simp (disch := decide) only [↓ View.readCov_skip, ↓ View.readCov_cons_toLoadRect, ↓ View.readCov_fill]
    frame_out
    simp (disch := decide) only [View.read_rep, canon_lead, canon_head]
    obtain ⟨n, hn⟩ := h
    rcases (by omega : n = 0 ∨ n = 1 ∨ n = 2 ∨ n = 3) with rfl | rfl | rfl | rfl
    all_goals
      simp only [↓reduceIte, Nat.reduceMul, Nat.reduceEqDiff, OfNat.ofNat_ne_zero, OfNat.zero_ne_ofNat, OfNat.ofNat_ne_one, OfNat.one_ne_ofNat, hs0, hs1]
      exact head_full q k v s0 s1 _ _ _ _ _ _ rfl i A hc

/-- The number of keys that a row's last block takes. -/
def Width (t : Fin (cfgA ch).N) (n : ℕ) : Prop :=
  n = 512 ∧ P0_2 ch t ∨ n = 1024 ∧ ¬P0_2 ch t ∧ P0_3 ch t ∨ n = 1536 ∧ ¬P0_2 ch t ∧ ¬P0_3 ch t ∧ P0_4 ch t ∨ n = 2048 ∧ ¬P0_2 ch t ∧ ¬P0_3 ch t ∧ ¬P0_4 ch t

/-- A row's last block of keys. -/
theorem step_last (c : Dev nD) (t : Fin (cfgA ch).N) (prev) (q1 : ¬P0_1 ch t) (n : ℕ) (hn : Width ch t n) (q : Fin 512 → Fin 512 → ℝ) (k v : Fin 2048 → Fin 512 → ℝ)
    (e0 : iblk ch m ρ c (0 : Fin 5) t = mat .bf16 q) (e1 : iblk ch m ρ c (1 : Fin 5) t = mat .bf16 k) (e2 : iblk ch m ρ c (2 : Fin 5) t = mat .bf16 v)
    (h : Fin 4) (i : Fin 512) (A : Fin 128 → ℝ) (hc : Into ch t prev h i A) (B : Fin 128 → ℝ)
    (hB : ∀ l, A l + gain (fun x : Fin n => kj t.val * 2048 + x.val ≤ qi t.val * 512 + i.val) (fun x => ∑ d, hd 512 (h.val * 128) q i d * hd n (h.val * 128) k x d) (hd n (h.val * 128) v) l = B l) (hp : 0 < B 64) :
    Gives (step0 ch m ρ c t prev) h i B := by
  intro l
  obtain ⟨hi, hj, hij⟩ := small ch t
  obtain ⟨i0, iq⟩ := fits h.val h.isLt
  have first := fun q0 => loads (k0_pay144 (F := Ideal)) (k0_pay145 (F := Ideal)) i0 iq shapeCasts_S1x512x1_S512x1 (hc.1 q0)
  have later := fun q0 => loads (@View.read sig (Elt Ideal) .tc .vmem S4x512x1 .f32 (View.whole cc0_scratch0) prev.2.2.1) (@View.read sig (Elt Ideal) .tc .vmem S512x512 .f32 (View.whole cc0_scratch1) prev.2.2.2)
    i0 iq shapeCasts_S1x512x1_S512x1 (hc.2 q0)
  obtain ⟨rfl, q2⟩ | ⟨rfl, q2, q3⟩ | ⟨rfl, q2, q3, q4⟩ | ⟨rfl, q2, q3, q4⟩ := hn
  on_goal 1 => have key := fun mp ac (ld : Carry (mp (ix2 i 0)) (fun l => ac (ix2 i l)) A) => last_512 _ mp ac i _ _ hi hj (by omega) ld B hB hp l rfl
  on_goal 2 => have key := fun mp ac (ld : Carry (mp (ix2 i 0)) (fun l => ac (ix2 i l)) A) => last_1024 _ mp ac i _ _ hi hj (by omega) ld B hB hp l rfl
  on_goal 3 => have key := fun mp ac (ld : Carry (mp (ix2 i 0)) (fun l => ac (ix2 i l)) A) => last_1536 _ mp ac i _ _ hi hj (by omega) ld B hB hp l rfl
  on_goal 4 => have key := fun mp ac (ld : Carry (mp (ix2 i 0)) (fun l => ac (ix2 i l)) A) => last_2048 _ mp ac i _ _ hi hj (by omega) ld B hB hp l rfl
  all_goals by_cases q0 : P0_0 ch t
  on_goal 1 => rw [step0_A _ _ _ _ _ _ q0 q1 q2]; dsimp only; unfold out0_A_3 out0_A_4 kernelRun0_A; replace key := key _ _ (first q0)
  on_goal 2 => rw [step0_F _ _ _ _ _ _ q0 q1 q2]; dsimp only; unfold out0_F_3 out0_F_4 kernelRun0_F; replace key := key _ _ (later q0)
  on_goal 3 => rw [step0_B _ _ _ _ _ _ q0 q1 q2 q3]; dsimp only; unfold out0_B_3 out0_B_4 kernelRun0_B; replace key := key _ _ (first q0)
  on_goal 4 => rw [step0_G _ _ _ _ _ _ q0 q1 q2 q3]; dsimp only; unfold out0_G_3 out0_G_4 kernelRun0_G; replace key := key _ _ (later q0)
  on_goal 5 => rw [step0_C _ _ _ _ _ _ q0 q1 q2 q3 q4]; dsimp only; unfold out0_C_3 out0_C_4 kernelRun0_C; replace key := key _ _ (first q0)
  on_goal 6 => rw [step0_H _ _ _ _ _ _ q0 q1 q2 q3 q4]; dsimp only; unfold out0_H_3 out0_H_4 kernelRun0_H; replace key := key _ _ (later q0)
  on_goal 7 => rw [step0_D _ _ _ _ _ _ q0 q1 q2 q3 q4]; dsimp only; unfold out0_D_3 out0_D_4 kernelRun0_D; replace key := key _ _ (first q0)
  on_goal 8 => rw [step0_I _ _ _ _ _ _ q0 q1 q2 q3 q4]; dsimp only; unfold out0_I_3 out0_I_4 kernelRun0_I; replace key := key _ _ (later q0)
  all_goals
    rw [e0, e1, e2]
    clear first later
    frame_open
    simp (disch := decide) only [↓ View.readCov_skip, ↓ View.readCov_cons_toLoadRect, ↓ View.readCov_fill]
    frame_out
    simp (disch := decide) only [View.read_rep, canon_lead, canon_head, ld_hd]
    obtain ⟨w, hw⟩ := h
    rcases (by omega : w = 0 ∨ w = 1 ∨ w = 2 ∨ w = 3) with rfl | rfl | rfl | rfl
    all_goals
      simp only [↓reduceIte, Nat.reduceMul, Nat.reduceEqDiff, OfNat.ofNat_ne_zero, OfNat.zero_ne_ofNat, OfNat.ofNat_ne_one, OfNat.one_ne_ofNat,
        k0_pay1, k0_pay2, k0_pay3, k0_pay4, k0_pay5, k0_pay6, k0_pay7, k0_pay8, k0_pay27, k0_pay28, k0_pay29, k0_pay30,
        k0_pay31, k0_pay32, k0_pay33, k0_pay34, k0_pay35, k0_pay36, k0_pay37, k0_pay38, k0_pay39, k0_pay40, k0_pay41, k0_pay42,
        k0_pay43, k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65, k0_pay66,
        k0_pay67, k0_pay68, k0_pay69, k0_pay70, k0_pay71, k0_pay72, k0_pay73, k0_pay74, k0_pay75, k0_pay76, k0_pay77, k0_pay78,
        k0_pay79, k0_pay80, k0_pay81, k0_pay82, k0_pay83, k0_pay84, k0_pay85, k0_pay86, k0_pay87, k0_pay88, k0_pay89, k0_pay90,
        k0_pay91, k0_pay92, k0_pay93, k0_pay94, k0_pay95, k0_pay96, k0_pay97, k0_pay98, k0_pay99, k0_pay100, k0_pay101, k0_pay102,
        k0_pay103, k0_pay104, k0_pay105, k0_pay106, k0_pay107, k0_pay108, k0_pay109, k0_pay110, k0_pay111, k0_pay112, k0_pay113, k0_pay114,
        k0_pay115, k0_pay116, k0_pay117, k0_pay118, k0_pay119, k0_pay120, k0_pay121, k0_pay122, k0_pay123, k0_pay124, k0_pay125, k0_pay126,
        k0_pay127, k0_pay128, k0_pay129, k0_pay130, k0_pay131, k0_pay132, k0_pay133, k0_pay134, k0_pay135, k0_pay136, k0_pay137, k0_pay138,
        k0_pay139, k0_pay140, k0_pay141, k0_pay142, k0_pay146, k0_pay147, k0_pay148, k0_pay149, k0_pay150, k0_pay151, k0_pay152, k0_pay153,
        k0_pay154, k0_pay155, k0_pay156, k0_pay157, k0_pay158, k0_pay159, k0_pay160, k0_pay161] at key ⊢
      rw [word0, word1]
      exact key

end Cert.Kernel12Ideal.Attn

end
-- ==== Proof.AttnFwd.lean ====
module

public import proofs.«01_k».proof.Proof.AttnSteps

/-! Causal attention over its schedule: each row of queries keeps its sums from one block of keys to the next, and the
last block's results are the model's. -/

@[expose] public section

set_option maxRecDepth 16384

noncomputable section

open Idealize.ShloMosaic Idealize.ShloMosaic.TcCoe Idealize.SL.Sem
open Idealize.ShloMosaic.Pipeline (Dat)

namespace Cert.Kernel12Ideal.Attn

open Cert.Kernel12Ideal Cert.Kernel12Ideal.Gen Lift
open Model.Attn

theorem count (ch : Fin 1) : (cfgA ch).N = 80 := (by decide +kernel : ∀ ch, (cfgA ch).N = 80) ch

theorem idx : ∀ (ch : Fin 1) (t : Fin (cfgA ch).N), ((cfgA ch).win (0 : Fin 5)).index t = ![qi t.val, t.val / 40] ∧ ((cfgA ch).win (1 : Fin 5)).index t = ![kj t.val, t.val / 40]
    ∧ ((cfgA ch).win (2 : Fin 5)).index t = ![kj t.val, t.val / 40] ∧ ((cfgA ch).win (3 : Fin 5)).index t = ![qi t.val, t.val / 40]
    ∧ ((cfgA ch).win (4 : Fin 5)).index t = ![qi t.val, t.val / 40] := by decide +kernel

/-- Which of the body's branches a point takes. -/
theorem paths : ∀ (ch : Fin 1) (t : Fin (cfgA ch).N), (P0_0 ch t ↔ kj t.val = 0) ∧ (P0_1 ch t ↔ (kj t.val + 1) * 2048 ≤ qi t.val * 512)
    ∧ (¬P0_1 ch t → kj t.val = qi t.val / 4 ∧ (P0_2 ch t ↔ qi t.val % 4 = 0) ∧ (P0_3 ch t ↔ qi t.val % 4 = 1) ∧ (P0_4 ch t ↔ qi t.val % 4 = 2)) := by decide +kernel

/-- A row's blocks of keys come one after the other. -/
theorem follows : ∀ n : Fin 80, kj n.val ≠ 0 → n.val ≠ 0 ∧ qi (n.val - 1) = qi n.val ∧ (n.val - 1) / 40 = n.val / 40 ∧ kj (n.val - 1) + 1 = kj n.val := by decide +kernel

theorem flushed : ∀ (ch : Fin 1) (t : Fin (cfgA ch).N), (((cfgA ch).win (3 : Fin 5)).flush t = true → ¬P0_1 ch t) ∧ (((cfgA ch).win (4 : Fin 5)).flush t = true → ¬P0_1 ch t) := by decide +kernel

theorem covers (ch : Fin 1) : ((cfgA ch).win (3 : Fin 5)).Covers ∧ ((cfgA ch).win (4 : Fin 5)).Covers :=
  (by decide +kernel : ∀ ch, ((cfgA ch).win (3 : Fin 5)).Covers ∧ ((cfgA ch).win (4 : Fin 5)).Covers) ch

section
variable (q k v : Fin 8192 → Fin 1024 → ℝ) (t : ℕ)

/-- The blocks of the queries and of the keys at a point. -/
def qb (i : Fin 512) (j : Fin 512) : ℝ := ent q (qi t * 512 + i.val) (t / 40 * 512 + j.val)
def kb (i : Fin 2048) (j : Fin 512) : ℝ := ent k (kj t * 2048 + i.val) (t / 40 * 512 + j.val)

/-- What a block of keys adds to a row's sums. -/
theorem block (n : ℕ) (hn : n ≤ 2048) (h : Fin 4) (i : Fin 512) (keep : Fin n → Prop) [DecidablePred keep] (hk : ∀ x, keep x ↔ kj t * 2048 + x.val ≤ qi t * 512 + i.val)
    (l : Fin 128) : acc q k v (t / 40 * 4 + h.val) (qi t * 512 + i.val) (kj t * 2048) l.val
      + gain keep (fun x => ∑ d, hd 512 (h.val * 128) (qb q t) i d * hd n (h.val * 128) (kb k t) x d) (hd n (h.val * 128) (kb v t)) l
      = acc q k v (t / 40 * 4 + h.val) (qi t * 512 + i.val) (kj t * 2048 + n) l.val := by
  have key : ∀ (z : Fin 8192 → Fin 1024 → ℝ) (x : Fin n) (d : Fin 128), hd n (h.val * 128) (kb z t) x d = ent z (kj t * 2048 + x.val) ((t / 40 * 4 + h.val) * 128 + d.val) := fun z x d =>
    (dif_pos ⟨by omega, by omega⟩).trans (congrArg (ent z _) (by dsimp only; omega))
  refine acc_add q k v _ _ _ _ l keep hk _ (fun x => Finset.sum_congr rfl fun d _ => ?_) _ (fun x l => key v x l)
  rw [key]
  exact congrArg (· * _) ((dif_pos ⟨by omega, by omega⟩).trans (congrArg (ent q _) (by dsimp only; omega)))

end

section
variable (ch : Fin 1) (m : (ℓ : Loc nD τ sig) → Buf (Elt Ideal) ℓ) (ρ : Dev nD → PrngReg) (c : Dev nD)
  (q k v : Fin 8192 → Fin 1024 → ℝ)
  (h2 : m ((c : Thread nD τ).loc main_arg2) = mat .bf16 q) (h3 : m ((c : Thread nD τ).loc main_arg3) = mat .bf16 k) (h4 : m ((c : Thread nD τ).loc main_arg4) = mat .bf16 v)

theorem ent_at (z : Fin 8192 → Fin 1024 → ℝ) (r s : ℕ) (y : (⟨2, ![8192, 1024]⟩ : Shape).Idx) (e0 : (y 0).val = r) (e1 : (y 1).val = s) : mat .bf16 z y = ((ent z r s : ℝ) : EReal) := by
  subst e0 e1
  exact congrArg Real.toEReal (ent_fin z (y 0) (y 1)).symm

include h2 h3 h4 in
theorem blocks (t : Fin (cfgA ch).N) : iblk ch m ρ c (0 : Fin 5) t = mat .bf16 (qb q t.val) ∧ iblk ch m ρ c (1 : Fin 5) t = mat .bf16 (kb k t.val) ∧ iblk ch m ρ c (2 : Fin 5) t = mat .bf16 (kb v t.val) := by
  refine ⟨?_, ?_, ?_⟩
  all_goals
    funext i
    idx_vars i
    blk_simp [iblk]
    rw [mat_at]
  · exact (congrFun h2 _).trans (ent_at q _ _ _ (by blk_simp [idx ch t]) (by blk_simp [idx ch t]))
  · exact (congrFun h3 _).trans (ent_at k _ _ _ (by blk_simp [idx ch t]) (by blk_simp [idx ch t]))
  · exact (congrFun h4 _).trans (ent_at v _ _ _ (by blk_simp [idx ch t]) (by blk_simp [idx ch t]))

/-- What a row carries into a point, from what it carries out of the point before. -/
theorem enters (t : Fin (cfgA ch).N) (h : Fin 4) (i : Fin 512)
    (ih : ∀ n (hn : n < (cfgA ch).N), n + 1 = t.val → (kj n + 1) * 2048 ≤ qi n * 512 →
      Carry (shifts (traj0 ch m ρ c n hn) (ix3 h i 0)) (fun l => sums (traj0 ch m ρ c n hn) (ix2 i ⟨h.val * 128 + l.val, by omega⟩))
        (fun l => acc q k v (n / 40 * 4 + h.val) (qi n * 512 + i.val) (kj n * 2048 + 2048) l.val)) :
    Into ch t (prev0 ch m ρ c t) h i (fun l => acc q k v (t.val / 40 * 4 + h.val) (qi t.val * 512 + i.val) (kj t.val * 2048) l.val) := by
  obtain ⟨p0, -, -⟩ := paths ch t
  obtain ⟨-, -, hij⟩ := small ch t
  refine ⟨fun q0 => ?_, fun q0 => ?_⟩
  · rw [p0.1 q0]
    exact carry_init h i
  · obtain ⟨f0, f1, f2, f3⟩ := follows ⟨t.val, lt_of_lt_of_eq t.isLt (count ch)⟩ fun e => q0 (p0.2 e)
    dsimp only at f0 f1 f2 f3
    have := ih (t.val - 1) (by omega) (by omega) (by rw [f1, f3]; omega)
    rw [f1, f2, show kj (t.val - 1) * 2048 + 2048 = kj t.val * 2048 by omega] at this
    rw [show prev0 ch m ρ c t = traj0 ch m ρ c (t.val - 1) (by omega) from dif_neg f0]
    exact this

include h2 h3 h4 in
/-- After a block of keys before the query a row carries its sums over the keys so far. -/
theorem held (n : ℕ) (hn : n < (cfgA ch).N) (hk : (kj n + 1) * 2048 ≤ qi n * 512) (h : Fin 4) (i : Fin 512) :
    Carry (shifts (traj0 ch m ρ c n hn) (ix3 h i 0)) (fun l => sums (traj0 ch m ρ c n hn) (ix2 i ⟨h.val * 128 + l.val, by omega⟩))
      (fun l => acc q k v (n / 40 * 4 + h.val) (qi n * 512 + i.val) (kj n * 2048 + 2048) l.val) := by
  induction n using Nat.strong_induction_on with
  | _ n ih =>
    obtain ⟨b0, b1, b2⟩ := blocks ch m ρ c q k v h2 h3 h4 ⟨n, hn⟩
    obtain ⟨-, p1, -⟩ := paths ch ⟨n, hn⟩
    have add := fun l => block q k v n 2048 le_rfl h i (fun _ => True) (fun x => iff_of_true trivial (by omega)) l
    rw [← funext add, show traj0 ch m ρ c n hn = step0 ch m ρ c ⟨n, hn⟩ (prev0 ch m ρ c ⟨n, hn⟩) from traj0_eq ch m ρ c ⟨n, hn⟩]
    exact step_full ch m ρ c ⟨n, hn⟩ _ (p1.2 hk) _ _ _ b0 b1 b2 h i _ (enters ch m ρ c q k v ⟨n, hn⟩ h i fun n' hn' e hk' => ih n' (by dsimp only at e; omega) hn' hk')

variable (hv : ∀ x j : ℕ, x < 8192 → j < 8 → ent v x (j * 128 + 64) = 1)

include h2 h3 h4 hv in
/-- After a row's last block of keys it has its results. -/
theorem given (t : Fin (cfgA ch).N) (q1 : ¬P0_1 ch t) (h : Fin 4) (i : Fin 512) :
    Gives (traj0 ch m ρ c t.val t.isLt) h i (fun l => acc q k v (t.val / 40 * 4 + h.val) (qi t.val * 512 + i.val) 8192 l.val) := by
  have lt : t.val < 80 := lt_of_lt_of_eq t.isLt (count ch)
  obtain ⟨b0, b1, b2⟩ := blocks ch m ρ c q k v h2 h3 h4 t
  obtain ⟨-, -, p2⟩ := paths ch t
  obtain ⟨hj, r0, r1, r2⟩ := p2 q1
  obtain ⟨hi, -, -⟩ := small ch t
  have pos : 0 < acc q k v (t.val / 40 * 4 + h.val) (qi t.val * 512 + i.val) 8192 64 := by
    rw [acc_ones q k v _ _ (by omega) hv]
    exact tot_pos q k _ _ (by omega)
  rw [traj0_eq]
  refine step_last ch m ρ c t _ q1 ((qi t.val % 4 + 1) * 512) ?_ _ _ _ b0 b1 b2 h i _ (enters ch m ρ c q k v t h i fun n hn _ hk => held ch m ρ c q k v h2 h3 h4 n hn hk h i) _
    (fun l => (block q k v t.val _ (by omega) h i _ (fun _ => Iff.rfl) l).trans (acc_all q k v _ _ _ _ (by omega) (by omega))) pos
  unfold Width
  rw [r0, r1, r2]
  omega

include h2 h3 h4 hv in
/-- A point's results, at their places in the arrays. -/
theorem placed (t : Fin (cfgA ch).N) (q1 : ¬P0_1 ch t) (i j : Fin 512) (r : Fin 8192) (s : Fin 1024) (hr : r.val = qi t.val * 512 + i.val) (hs : s.val = t.val / 40 * 512 + j.val) :
    (traj0 ch m ρ c t.val t.isLt).1 (ix2 i j) = ((out q k v r s : ℝ) : EReal) ∧ (traj0 ch m ρ c t.val t.isLt).2.1 (ix2 i j) = ((lse q k r s : ℝ) : EReal) := by
  have lt : t.val < 80 := lt_of_lt_of_eq t.isLt (count ch)
  have g := given ch m ρ c q k v h2 h3 h4 hv t q1 ⟨j.val / 128, by omega⟩ i ⟨j.val % 128, Nat.mod_lt _ (by norm_num)⟩
  have ej : (⟨j.val / 128 * 128 + j.val % 128, by omega⟩ : Fin 512) = j := Fin.ext (by dsimp only; omega)
  have e1 : t.val / 40 * 4 + j.val / 128 = s.val / 128 := by omega
  have e2 : j.val % 128 = s.val % 128 := by omega
  have e3 : acc q k v (s.val / 128) r.val 8192 64 = tot q k (s.val / 128) r.val := acc_ones q k v _ _ (by omega) hv
  dsimp only at g
  rw [ej, e1, e2, ← hr] at g
  rw [out, lse, ← e3]
  exact g

include h2 h3 h4 hv in
theorem out_final : (dats ch m ρ 0 c).arrAt (3 : Fin 5) (cfgA ch).N = mat .bf16 (out q k v) := by
  refine (dats ch m ρ 0 c).arrAt_eq_of_covers (3 : Fin 5) _ (covers ch).1 fun t hf y => ?_
  have lt : t.val < 80 := lt_of_lt_of_eq t.isLt (count ch)
  obtain ⟨hi, -, -⟩ := small ch t
  blk_simp
  rw [after0_3]
  idx_vars y
  refine (placed ch m ρ c q k v h2 h3 h4 hv t ((flushed ch t).1 hf) y0 y1 ⟨qi t.val * 512 + y0.val, by omega⟩ ⟨t.val / 40 * 512 + y1.val, by omega⟩ rfl rfl).1.trans ?_
  exact (mat_whole _ ⟨qi t.val * 512 + y0.val, by omega⟩ ⟨t.val / 40 * 512 + y1.val, by omega⟩ _ (by blk_simp [idx ch t]) (by blk_simp [idx ch t])).symm

include h2 h3 h4 hv in
theorem lse_final : (dats ch m ρ 0 c).arrAt (4 : Fin 5) (cfgA ch).N = mat .f32 (lse q k) := by
  refine (dats ch m ρ 0 c).arrAt_eq_of_covers (4 : Fin 5) _ (covers ch).2 fun t hf y => ?_
  have lt : t.val < 80 := lt_of_lt_of_eq t.isLt (count ch)
  obtain ⟨hi, -, -⟩ := small ch t
  blk_simp
  rw [after0_4]
  idx_vars y
  refine (placed ch m ρ c q k v h2 h3 h4 hv t ((flushed ch t).2 hf) y0 y1 ⟨qi t.val * 512 + y0.val, by omega⟩ ⟨t.val / 40 * 512 + y1.val, by omega⟩ rfl rfl).2.trans ?_
  exact (mat_whole _ ⟨qi t.val * 512 + y0.val, by omega⟩ ⟨t.val / 40 * 512 + y1.val, by omega⟩ _ (by blk_simp [idx ch t]) (by blk_simp [idx ch t])).symm

end

/-- The call's results are the model's, for finite arguments whose values hold one in lane 64 of each head. -/
theorem run (ch : Fin 1) (m : (ℓ : Loc nD τ sig) → Buf (Elt Ideal) ℓ) (ρ : Dev nD → PrngReg) (hp : Pinned ch m) (q k v : Dev nD → Fin 8192 → Fin 1024 → ℝ)
    (h2 : ∀ c : Dev nD, m ((c : Thread nD τ).loc main_arg2) = mat .bf16 (q c)) (h3 : ∀ c : Dev nD, m ((c : Thread nD τ).loc main_arg3) = mat .bf16 (k c))
    (h4 : ∀ c : Dev nD, m ((c : Thread nD τ).loc main_arg4) = mat .bf16 (v c)) (hv : ∀ c, ∀ x j : ℕ, x < 8192 → j < 8 → ent (v c) x (j * 128 + 64) = 1) :
    θ_run defs (onTc (τ := τ) (main (F := Ideal))) ⟨m, fun _ => 0, ρ⟩ fun r => ∀ c : Dev nD,
      r.2.mem ((c : Thread nD τ).loc main_v0_0) = mat .bf16 (out (q c) (k c) (v c))
      ∧ r.2.mem ((c : Thread nD τ).loc main_v0_1) = mat .f32 (lse (q c) (k c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 (3 : Fin 5)).trans (out_final ch m ρ c _ _ _ (h2 c) (h3 c) (h4 c) (hv c)),
    ((h c).1 (4 : Fin 5)).trans (lse_final ch m ρ c _ _ _ (h2 c) (h3 c) (h4 c) (hv c)),
    ((h c).2 0).trans (hp.1 c).symm, ((h c).2 1).trans (hp.2 c).symm,
    ((h c).1 (0 : Fin 5)).trans ((dats ch m ρ 0 c).arrAt_in (0 : Fin 5) rfl _),
    ((h c).1 (1 : Fin 5)).trans ((dats ch m ρ 0 c).arrAt_in (1 : Fin 5) rfl _),
    ((h c).1 (2 : Fin 5)).trans ((dats ch m ρ 0 c).arrAt_in (2 : Fin 5) rfl _)⟩) (run_main ch m ρ hp)

end Cert.Kernel12Ideal.Attn

end
-- ==== Proof.AttnFwdRef.lean ====
module

public import proofs.«01_k».proof.Proof.Gen.Reference12Ideal.Run
public import proofs.«01_k».proof.Proof.AttnModel

/-! Causal attention's plain forward computes the model's values. -/

@[expose] public section

set_option maxRecDepth 16384

noncomputable section

open Idealize.ShloMosaic Idealize.ShloMosaic.TcCoe Idealize.SL.Sem

namespace Cert.Reference12Ideal.Attn

open Cert.Reference12Ideal Cert.Reference12Ideal.Gen Lift
open Model.Attn

variable (q k v : Fin 8192 → Fin 1024 → ℝ)

/-- An array's heads side by side. -/
def split (z : Fin 8192 → Fin 1024 → ℝ) (i : Fin 8192) (h : Fin 8) (l : Fin 128) : ℝ := ent z i.val (h.val * 128 + l.val)

/-- A query's weights. -/
def weight (h : Fin 8) (i x : Fin 8192) : ℝ := if x.val ≤ i.val then (2 : ℝ) ^ score q k h.val i.val x.val else 0

theorem tot_eq (h : Fin 8) (i : Fin 8192) : ∑ x, weight q k h i x = tot q k h.val i.val := by
  rw [tot, Finset.sum_range]
  rfl

theorem tot_ne (h : Fin 8) (i : Fin 8192) : tot q k h.val i.val ≠ 0 := (tot_pos q k _ _ i.isLt).ne'

theorem acc_eq (h : Fin 8) (i : Fin 8192) (l : Fin 128) : ∑ x, weight q k h i x * split v x h l = acc q k v h.val i.val 8192 l.val := by
  rw [acc, Finset.sum_range]
  refine Finset.sum_congr rfl fun x _ => ?_
  rw [weight, ite_mul, zero_mul]
  rfl

theorem split_at (z : Fin 8192 → Fin 1024 → ℝ) : shapeCast S8192x8x128 (extf .f32 (mat .bf16 z) bitsLt_bf16_f32) shapeCasts_S8192x1024_S8192x8x128 = mat3 .f32 (split z) := by
  funext i
  idx_vars i
  pointwise []
  rw [mat3_at, split, ent, dif_pos ⟨i0.isLt, by omega⟩]
  exact mat_whole _ _ _ _ rfl rfl

theorem w_two : Ideal.ofBits .f32 0x40000000#32 = ((2 : ℝ) : EReal) := by
  simp [Ideal.ofBits, Ideal.ieee, -EReal.coe_mul, -EReal.coe_neg]; norm_num

theorem log_two : Ideal.log ((2 : ℝ) : EReal) = ((Real.log 2 : ℝ) : EReal) := by
  rw [Ideal.log_coe, if_neg (by norm_num)]

theorem keep_at (i x : Fin 8192) : IntOp.cmpi .sle (BitVec.ofNat 32 x.val) (BitVec.ofNat 32 i.val) = if x.val ≤ i.val then 1#1 else 0#1 := by
  have e : ∀ n : Fin 8192, (BitVec.ofNat 32 n.val).toInt = n.val := fun n => by
    rw [BitVec.toInt_ofNat']
    exact Int.bmod_eq_of_le (by omega) (by omega)
  show BitVec.ofBool (BitVec.sle _ _) = _
  rw [BitVec.sle, e, e]
  split <;> simp [*]

theorem weight_at : select (broadcastInDim S8x8192x8192 ![0, 1, 2] bcast_S1x8192x8192_S8x8192x8192_0_1_2 (broadcastInDim S1x8192x8192 ![1, 2] bcast_S8192x8192_S1x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0))))))
      (Host.exp (F := Ideal) (mulf (Host.dotGeneral dot_S8192x8x128_S8192x8x128_S8x8192x8192_2_2_0_0_1_1 none (mat3 .f32 (split q)) (mat3 .f32 (split k)))
        (broadcastInDim S8x8192x8192 ![] bcast_S_S8x8192x8192 (Host.log (constant S_ .f32 0x40000000#32)))))
      (broadcastInDim S8x8192x8192 ![] bcast_S_S8x8192x8192 (id (constant S_ .f32 0x00000000#32))) = mat3 .f32 (weight q k) := by
  funext i
  idx_vars i
  pointwise [id]
  simp only [mat3_at, ← EReal.coe_mul, coe_sum, w_two, log_two, Ideal.exp_coe]
  rw [keep_at, mul_comm, ← Real.rpow_def_of_pos two_pos, weight]
  split <;> rfl

theorem sums_at : Host.reduceAdd (F := Ideal) (mat3 .f32 (weight q k)) (constant S_ .f32 0x00000000#32) reducesTo_S8x8192x8192_S8x8192_d2 h_S_ = mat .f32 fun h i => tot q k h.val i.val := by
  funext i
  idx_vars i
  pointwise []
  simp only [mat3_at, coe_sum, tot_eq, mat_at]

theorem out_at : shapeCast S8192x1024 (transpose S8192x8x128 [1, 0, 2] (Host.divf (F := Ideal) (Host.dotGeneral dot_S8x8192x8192_S8192x8x128_S8x8192x128_2_0_1_2_0_1 none (mat3 .f32 (weight q k)) (mat3 .f32 (split v)))
      (broadcastInDim S8x8192x128 ![0, 1, 2] bcast_S8x8192x1_S8x8192x128_0_1_2 (broadcastInDim S8x8192x1 ![0, 1] bcast_S8x8192_S8x8192x1_0_1 (mat .f32 fun h i => tot q k h.val i.val))))
      transposes_S8x8192x128_S8192x8x128_1_0_2) shapeCasts_S8192x8x128_S8192x1024 = mat .f32 (out q k v) := by
  funext i
  idx_vars i
  pointwise []
  simp only [mat3_at, mat_at, ← EReal.coe_mul, coe_sum, acc_eq]
  exact div_ne (tot_ne q k ⟨i1.val / 128, by omega⟩ i0)

theorem lse_at : shapeCast S8192x1024 (broadcastInDim S8192x8x128 ![0, 1, 2] bcast_S8192x8x1_S8192x8x128_0_1_2 (broadcastInDim S8192x8x1 ![0, 1] bcast_S8192x8_S8192x8x1_0_1
      (transpose S8192x8 [1, 0] (Host.divf (F := Ideal) (Host.log (mat .f32 fun h i => tot q k h.val i.val)) (broadcastInDim S8x8192 ![] bcast_S_S8x8192 (Host.log (constant S_ .f32 0x40000000#32))))
        transposes_S8x8192_S8192x8_1_0))) shapeCasts_S8192x8x128_S8192x1024 = mat .f32 (lse q k) := by
  funext i
  idx_vars i
  pointwise []
  have ne : Real.log 2 ≠ 0 := (Real.log_pos one_lt_two).ne'
  simp only [mat_at, w_two, log_two]
  rw [Ideal.log_coe, if_neg (not_le.2 (tot_pos q k _ _ (by omega))), div_ne ne]
  rfl

/-- The reference's results are the model's, for finite arguments. -/
theorem run (m : (ℓ : Loc nD τ sig) → Buf (Elt Ideal) ℓ) (ρ : Dev nD → PrngReg) (q k v : Dev nD → Fin 8192 → Fin 1024 → ℝ)
    (h2 : ∀ c : Dev nD, m ((c : Thread nD τ).loc main_arg2) = mat .bf16 (q c)) (h3 : ∀ c : Dev nD, m ((c : Thread nD τ).loc main_arg3) = mat .bf16 (k c))
    (h4 : ∀ c : Dev nD, m ((c : Thread nD τ).loc main_arg4) = mat .bf16 (v c)) :
    θ_run defs (onTc (τ := τ) (main (F := Ideal))) ⟨m, fun _ => 0, ρ⟩ fun r => ∀ c : Dev nD,
      r.2.mem ((c : Thread nD τ).loc main_v31) = mat .bf16 (out (q c) (k c) (v c))
      ∧ r.2.mem ((c : Thread nD τ).loc main_v35) = mat .f32 (lse (q c) (k c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Value.run m ρ)
  obtain ⟨e0, e1, hargs⟩ := h c
  refine ⟨e0.trans ?_, e1.trans ?_, hargs⟩
  · rw [h2, h3, h4]
    clean_types
    rw [split_at, split_at, split_at]
    erw [weight_at]
    rw [sums_at, out_at]
    rfl
  · rw [h2, h3]
    clean_types
    rw [split_at, split_at]
    erw [weight_at]
    rw [sums_at, lse_at]

end Cert.Reference12Ideal.Attn

end
-- ==== Proof.AttnFwdClaim.lean ====
module

public import proofs.«01_k».proof.Defs
public import proofs.«01_k».proof.Proof.Gen.Pre_causal12
public import proofs.«01_k».proof.Proof.Gen.Kernel12.Flash
public import proofs.«01_k».proof.Proof.Finite
public import proofs.«01_k».proof.Proof.AttnFwd
public import proofs.«01_k».proof.Proof.AttnFwdRef

/-! Causal attention's forward call: the frames, and equal values where the tables list the causal blocks, the arguments
are finite and the values hold one in lane 64 of each head. -/

@[expose] public section

set_option maxRecDepth 16384

noncomputable section

open Idealize.ShloMosaic Idealize.ShloMosaic.TcCoe Idealize.SL.Sem

namespace Cert.AttnFwd

open Lift Model.Attn

theorem frame_reference : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

theorem same_word {x y : BitVec 32} (h : IntOp.cmpi .eq x y = 1#1) : x = y := by
  have h : BitVec.ofBool (x == y) = 1#1 := h
  by_contra hn
  simp [beq_eq_false_iff_ne.2 hn] at h

/-- The tables the test compares with are the schedule's. -/
theorem table {x : IVec (⟨1, ![40]⟩ : Shape) 32} {f : Fin 40 → BitVec 32} {l : List (BitVec 32)} (hl : ∀ n : Fin 40, f n = l.getD n.val 0#32)
    (h : cmpi .eq x (fun i => f ((⟨1, ![40]⟩ : Shape).rowMajor i)) = fun _ => 1#1) : x = fun i => l.getD (i 0).val 0#32 := by
  funext i
  have r : (⟨1, ![40]⟩ : Shape).rowMajor i = (⟨(i 0).val, (i 0).isLt⟩ : Fin 40) := Fin.ext (Shape.rowMajor_val_one i)
  exact (same_word (congrFun h i)).trans ((congrArg f r).trans (hl _))

theorem pinned_bits (m : (ℓ : Loc Cert.Kernel12.nD Cert.Kernel12.τ Cert.Kernel12.sig) → Buf (Elt Bits) ℓ) (h : Cert.Pre_Kernel12 m) : Cert.Kernel12.Gen.Pinned 0 m :=
  ⟨fun c => table (f := Cert.Pre_causal12.lit0) (by decide +kernel) (h c).1, fun c => table (f := Cert.Pre_causal12.lit1) (by decide +kernel) (h c).2.1⟩

theorem pinned (m : (ℓ : Loc Cert.Kernel12Ideal.nD Cert.Kernel12Ideal.τ Cert.Kernel12Ideal.sig) → Buf (Elt Ideal) ℓ) (h : Cert.Pre_Kernel12Ideal m) : Cert.Kernel12Ideal.Gen.Pinned 0 m :=
  ⟨fun c => table (f := Cert.Pre_causal12.lit0) (by decide +kernel) (h c).1, fun c => table (f := Cert.Pre_causal12.lit1) (by decide +kernel) (h c).2.1⟩

theorem mat_of_test {a b : ℕ} {t : Shape} (x : FVec Ideal ⟨2, ![a, b]⟩ .bf16) {d : Fin t.rank → Fin 2} (hl : FTy.bits .bf16 < FTy.bits .f32) (hb : t.BroadcastsInDim ⟨2, ![a, b]⟩ d)
    (h : cmpf .olt (Host.absf (extf .f32 x hl)) (broadcastInDim ⟨2, ![a, b]⟩ d hb (constant t .f32 0x7F800000#32)) = fun _ => 1#1) :
    x = mat .bf16 fun i k => (x (ix2 i k)).toReal := by
  funext i
  obtain ⟨i0, i1, rfl⟩ : ∃ i0 i1, i = ix2 i0 i1 := ⟨i 0, i 1, eq_ix2 i⟩
  refine (coe_toReal_of_abs_lt ?_).symm
  have e : Ideal.cmp .olt (max (x (ix2 i0 i1)) (-(x (ix2 i0 i1)))) (Ideal.ofBits .f32 0x7F800000#32) = 1#1 := congrFun h (ix2 i0 i1)
  rw [w_inf] at e
  by_contra hn
  simp [Ideal.cmp, hn] at e

/-- Finite arguments are arrays of real numbers; lane 64 of the values' heads holds one. -/
theorem real (m : (ℓ : Loc Cert.Kernel12Ideal.nD Cert.Kernel12Ideal.τ Cert.Kernel12Ideal.sig) → Buf (Elt Ideal) ℓ) (h : Cert.Pre_Kernel12Ideal m) (c : Dev Cert.Kernel12Ideal.nD) :
    ∃ q k v, m ((c.tc : Thread Cert.Kernel12Ideal.nD Cert.Kernel12Ideal.τ).loc Cert.Kernel12Ideal.main_arg2) = mat .bf16 q
      ∧ m ((c.tc : Thread Cert.Kernel12Ideal.nD Cert.Kernel12Ideal.τ).loc Cert.Kernel12Ideal.main_arg3) = mat .bf16 k
      ∧ m ((c.tc : Thread Cert.Kernel12Ideal.nD Cert.Kernel12Ideal.τ).loc Cert.Kernel12Ideal.main_arg4) = mat .bf16 v
      ∧ ∀ x j : ℕ, x < 8192 → j < 8 → ent v x (j * 128 + 64) = 1 := by
  obtain ⟨-, -, e2, e3, e4, e5⟩ := h c
  have r4 := mat_of_test _ _ _ e4
  refine ⟨_, _, _, mat_of_test _ _ _ e2, mat_of_test _ _ _ e3, r4, fun x j hx hj => ?_⟩
  rw [r4] at e5
  have e := congrFun e5 (ix2 ⟨x, hx⟩ ⟨j, hj⟩)
  unfold Cert.Pre_causal12.fn Cert.Pre_causal12.fn_part1 at e
  dsimp only at e
  pointwise [] at e
  rw [mat_at] at e
  rw [ent, dif_pos ⟨hx, by omega⟩]
  by_contra hn
  simp [hn] at e

/-- The mask's word stands for −∞, the factor's for 1/log 2. -/
theorem preserves : Cert.preserves_Kernel12_Kernel12Ideal := ⟨⟨rfl, fun _ => rfl, rfl⟩, ⟨rfl, fun _ => rfl, rfl⟩⟩

theorem algebraic : Cert.algebraic_Kernel12Ideal_Reference12Ideal := by
  intro m ρ m' ρ' hpre hag
  choose q k v h2 h3 h4 hv using real m hpre
  refine ⟨_, _, Cert.Kernel12Ideal.Attn.run 0 m ρ (pinned m hpre) q k v h2 h3 h4 hv, ?_⟩
  exact Cert.Reference12Ideal.Attn.run m' ρ' q k v (fun c => (hag c).2.2.1.trans (h2 c)) (fun c => (hag c).2.2.2.1.trans (h3 c)) (fun c => (hag c).2.2.2.2.trans (h4 c))

end Cert.AttnFwd

end
-- ==== Proof.FfnFwdModel.lean ====
module

public import proofs.«01_k».proof.Proof.FfnGateModel

/-! The gated feed-forward's forward call over the real numbers, with the next layer's norm: `x` the rows, `g` the
norm's gain, `w` the up projection, `wd` the down projection, `g2` the next norm's gain. -/

@[expose] public section

noncomputable section

open Idealize.ShloMosaic Idealize.ShloMosaic.TcCoe

namespace Model.FfnFwd

open Lift Model.FfnGate

variable (x : Fin 8192 → Fin 1024 → ℝ) (g : Fin 1 → Fin 1024 → ℝ) (w : Fin 1024 → Fin 5632 → ℝ) (wd : Fin 2816 → Fin 1024 → ℝ)
  (g2 : Fin 1 → Fin 1024 → ℝ)

/-- What half `s` of the columns adds to the down projection. -/
def part (s : Fin 2) (i : Fin 8192) (k : Fin 1024) : ℝ := ∑ l, act x g w i (half s l) * wd (half s l) k

/-- The rows with half of the down projection added. -/
def out (i : Fin 8192) (k : Fin 1024) : ℝ := x i k + 1 / 2 * ∑ j, act x g w i j * wd j k

/-- The next layer's normalised rows. -/
abbrev next : Fin 8192 → Fin 1024 → ℝ := xn (out x g w wd) g2

/-- The halves' terms are the whole projection. -/
theorem out_parts (i : Fin 8192) (k : Fin 1024) : x i k + 1 / 2 * (part x g w wd 0 i k + part x g w wd 1 i k) = out x g w wd i k := by
  unfold out part
  rw [← Fin.sum_univ_two (fun s => ∑ l, act x g w i (half s l) * wd (half s l) k),
    sum_tile (fun j => act x g w i j * wd j k) (fun s l => act x g w i (half s l) * wd (half s l) k) rfl fun _ _ _ => rfl]

end Model.FfnFwd

end
-- ==== Proof.FfnFwd.lean ====
module

public import proofs.«01_k».proof.Proof.Gen.Kernel13Ideal.Value
public import proofs.«01_k».proof.Proof.FfnFwdModel
public import Idealize.ShloMosaic.Lib.Pipeline.ReadBack

/-! The gated feed-forward's forward call computes the model's values. -/

@[expose] public section

set_option maxRecDepth 16384

noncomputable section

open Idealize.ShloMosaic Idealize.ShloMosaic.TcCoe Idealize.SL.Sem
open Idealize.ShloMosaic.Pipeline (Dat)

namespace Cert.Kernel13Ideal.FfnFwd

open Cert.Kernel13Ideal Cert.Kernel13Ideal.Gen Lift
open Model.FfnGate (xn z h u act half)
open Model.FfnFwd (part out next out_parts)

theorem idx : ∀ t : Fin cfg0.N, win0_0.index t = ![t.val / 2, 0] ∧ win0_1.index t = ![0, 0] ∧ win0_2.index t = ![t.val % 2, 0, 0]
    ∧ win0_3.index t = ![t.val % 2 + 2, 0, 0] ∧ win0_4.index t = ![t.val % 2, 0, 0] ∧ win0_5.index t = ![0, 0] ∧ win0_6.index t = ![t.val / 2, 0]
    ∧ win0_7.index t = ![t.val / 2, t.val % 2] ∧ win0_8.index t = ![t.val / 2, t.val % 2] ∧ win0_9.index t = ![t.val / 2, 0] :=
  (by decide +kernel : ∀ t : Fin grid0.N, _)

/-- Row `i` of block `b` of the rows. -/
abbrev row (b : Fin 16) (i : Fin 512) : Fin 8192 := ⟨b.val * 512 + i.val, by omega⟩

section
variable (x : Fin 8192 → Fin 1024 → ℝ) (g : Fin 1 → Fin 1024 → ℝ) (w : Fin 1024 → Fin 5632 → ℝ) (wd : Fin 2816 → Fin 1024 → ℝ)
  (g2 : Fin 1 → Fin 1024 → ℝ) (b : Fin 16) (s : Fin 2)

/-- A block of the rows. -/
abbrev xB : FVec Ideal S512x1024 .f32 := mat .f32 fun i k => x (row b i) k

/-- A block of the normalised rows. -/
abbrev xnB : FVec Ideal S512x1024 .bf16 := mat .bf16 fun i k => xn x g (row b i) k

/-- The gate's weights of a half. -/
abbrev wgB : FVec Ideal S1x1024x1408 .bf16 := mat3 .bf16 fun (_ : Fin 1) k l => cols 0 2816 (by omega) w k (half s l)

/-- The other branch's weights of a half. -/
abbrev wuB : FVec Ideal S1x1024x1408 .bf16 := mat3 .bf16 fun (_ : Fin 1) k l => cols 2816 2816 (by omega) w k (half s l)

/-- The down projection's weights of a half. -/
abbrev wdB : FVec Ideal S1x1408x1024 .bf16 := mat3 .bf16 fun (_ : Fin 1) l k => wd (half s l) k

theorem xn_at : k0_pay3 (F := Ideal) (xB x b) (mat .f32 g) = xnB x g b := by
  funext i
  idx_vars i
  pointwise [k0_pay3]
  simp (disch := norm_num) only [mat_at, ← EReal.coe_mul, ← EReal.coe_add, coe_sum, w_eps, w_inv1024, ← div_eq_mul_inv, rsqrt_ms, xn]

theorem h_at : k0_pay5 (F := Ideal) (xnB x g b) (wgB w s) = mat .f32 fun i l => h x g w (row b i) (half s l) := by
  funext i
  idx_vars i
  pointwise [k0_pay5]
  simp only [mat_at, mat3_at, ← EReal.coe_mul, coe_sum, cols, z]

theorem u_at : k0_pay6 (F := Ideal) (xnB x g b) (wuB w s) = mat .f32 fun i l => u x g w (row b i) (half s l) := by
  funext i
  idx_vars i
  pointwise [k0_pay6]
  simp only [mat_at, mat3_at, ← EReal.coe_mul, coe_sum, cols, z]

theorem sig_at (a : Fin 512 → Fin 1408 → ℝ) : logistic (F := Ideal) (mat .f32 a) = mat .f32 fun i l => Model.FfnGate.sig (a i l) := by
  funext i
  exact Ideal.logistic_coe _

/-- A half's term is added to what the scratch held. -/
theorem part_at (r : Fin 512 → Fin 1024 → ℝ) : k0_pay9 (F := Ideal) (xnB x g b) (wgB w s) (wuB w s) (mat .f32 r) (wdB wd s)
    = mat .f32 fun i k => r i k + part x g w wd s (row b i) k := by
  funext i
  idx_vars i
  unfold k0_pay9
  rw [h_at, u_at, sig_at]
  pointwise []
  simp only [mat_at, mat3_at, ← EReal.coe_mul, ← EReal.coe_add, coe_sum, part, act]

theorem zero_at : k0_pay4 (F := Ideal) = mat .f32 fun _ _ => 0 := by
  funext i
  idx_vars i
  pointwise [k0_pay4]
  exact EReal.coe_zero.symm

theorem w_half : Ideal.ofBits .f32 0x3F000000#32 = ((1 / 2 : ℝ) : EReal) := by
  simp [Ideal.ofBits, Ideal.ieee, -EReal.coe_mul, -EReal.coe_neg]; norm_num

/-- The second scratch after both halves. -/
abbrev sumB : FVec Ideal S512x1024 .f32 := mat .f32 fun i k => part x g w wd 0 (row b i) k + part x g w wd 1 (row b i) k

theorem out_at : k0_pay1 (F := Ideal) (xB x b) (sumB x g w wd b) = mat .f32 fun i k => out x g w wd (row b i) k := by
  funext i
  idx_vars i
  pointwise [k0_pay1]
  simp only [mat_at, w_half, ← EReal.coe_mul, ← EReal.coe_add, out_parts]

theorem next_at : k0_pay2 (F := Ideal) (xB x b) (sumB x g w wd b) (mat .f32 g2) = mat .bf16 fun i k => next x g w wd g2 (row b i) k := by
  funext i
  idx_vars i
  unfold k0_pay2
  rw [out_at]
  pointwise []
  simp (disch := norm_num) only [mat_at, ← EReal.coe_mul, ← EReal.coe_add, coe_sum, w_eps, w_inv1024, ← div_eq_mul_inv, rsqrt_ms, xn]

end

section
variable (m : (ℓ : Loc nD τ sig) → Buf (Elt Ideal) ℓ) (c : Dev nD)
  (x : Fin 8192 → Fin 1024 → ℝ) (g : Fin 1 → Fin 1024 → ℝ) (w : Fin 1024 → Fin 5632 → ℝ) (wd : Fin 2816 → Fin 1024 → ℝ)
  (g2 : Fin 1 → Fin 1024 → ℝ)
  (h0 : m ((c : Thread nD τ).loc main_arg0) = mat .f32 x) (h1 : m ((c : Thread nD τ).loc main_arg1) = mat .f32 g)
  (h2 : m ((c : Thread nD τ).loc main_arg2) = mat .f32 w) (h3 : m ((c : Thread nD τ).loc main_arg3) = mat .f32 wd)
  (h4 : m ((c : Thread nD τ).loc main_arg4) = mat .f32 g2)

include h2 in
theorem V_wgu : V m c main_v2 = mat3 .bf16 fun (q : Fin 4) k (l : Fin 1408) => w k ⟨q.val * 1408 + l.val, by omega⟩ := by
  unfold V hostOps0
  after_results
  rw [h2]
  clean_types
  funext i
  idx_vars i
  pointwise []
  exact mat_whole _ _ _ _ rfl rfl

theorem wd_halves : shapeCast S2x1408x1024 (mat .bf16 wd) shapeCasts_S2816x1024_S2x1408x1024
    = mat3 .bf16 fun (q : Fin 2) (l : Fin 1408) k => wd (half q l) k := by
  funext i
  idx_vars i
  pointwise []
  exact mat_whole _ _ _ _ rfl rfl

include h3 in
theorem V_wd : V m c main_v4 = mat3 .bf16 fun (q : Fin 2) (l : Fin 1408) k => wd (half q l) k := by
  refine Eq.trans ?_ (wd_halves wd)
  unfold V hostOps0
  after_results
  rw [h3]
  rfl

variable (t : Fin cfg0.N)

/-- The point's block of rows. -/
abbrev blk (t : Fin cfg0.N) : Fin 16 := ⟨t.val / 2, by have := lt_of_lt_of_eq t.isLt N_0; omega⟩

include h0 h1 h4 in
theorem b_rows : iblk m c 0 t = xB x (blk t) ∧ iblk m c 1 t = mat .f32 g ∧ iblk m c 5 t = mat .f32 g2 := by
  refine ⟨?_, ?_, ?_⟩
  all_goals
    funext i
    idx_vars i
    blk_simp [iblk, idx t]
  · rw [V_main_arg0, h0]; exact mat_whole _ (row (blk t) i0) i1 _ (by blk_simp [idx t]) (by blk_simp [idx t])
  · rw [V_main_arg1, h1]; exact mat_whole _ i0 i1 _ (by blk_simp [idx t]) (by blk_simp [idx t])
  · rw [V_main_arg4, h4]; exact mat_whole _ i0 i1 _ (by blk_simp [idx t]) (by blk_simp [idx t])

include h2 h3 in
theorem b_w (s : Fin 2) (e : t.val % 2 = s.val) : iblk m c 2 t = wgB w s ∧ iblk m c 3 t = wuB w s ∧ iblk m c 4 t = wdB wd s := by
  refine ⟨?_, ?_, ?_⟩
  all_goals
    funext i
    idx_vars i
    blk_simp [iblk, idx t]
  · rw [V_wgu m c w h2]
    refine (mat3_whole _ ⟨s.val, by omega⟩ i1 i2 _ (by blk_simp [idx t]; omega) (by blk_simp [idx t]) (by blk_simp [idx t])).trans ?_
    exact congrArg Real.toEReal (congrArg (w i1) (Fin.ext (by show s.val * 1408 + i2.val = 0 + (s.val * 1408 + i2.val); omega)))
  · rw [V_wgu m c w h2]
    refine (mat3_whole _ ⟨s.val + 2, by omega⟩ i1 i2 _ (by blk_simp [idx t]; dsimp only; omega) (by blk_simp [idx t]) (by blk_simp [idx t])).trans ?_
    exact congrArg Real.toEReal (congrArg (w i1) (Fin.ext (by show (s.val + 2) * 1408 + i2.val = 2816 + (s.val * 1408 + i2.val); omega)))
  · rw [V_wd m c wd h3]
    exact mat3_whole _ s i1 i2 _ (by blk_simp [idx t]; omega) (by blk_simp [idx t]) (by blk_simp [idx t])

include h0 h1 h2 h3 h4

/-- What the first half's point leaves. -/
theorem first (e : t.val % 2 = 0) :
    (outsAt0 m c t.val t.isLt).2.1 = mat .bf16 (fun i l => h x g w (row (blk t) i) (half 0 l))
    ∧ (outsAt0 m c t.val t.isLt).2.2.1 = mat .bf16 (fun i l => u x g w (row (blk t) i) (half 0 l))
    ∧ (outsAt0 m c t.val t.isLt).2.2.2.2.1 = xnB x g (blk t)
    ∧ (outsAt0 m c t.val t.isLt).2.2.2.2.2 = mat .f32 (fun i k => part x g w wd 0 (row (blk t) i) k) := by
  obtain ⟨b0, b1, b5⟩ := b_rows m c x g g2 h0 h1 h4 t
  obtain ⟨b2, b3, b4⟩ := b_w m c w wd h2 h3 t 0 e
  rw [outsAt0_A m c t e (by omega)]
  refine ⟨?_, ?_, ?_, ?_⟩
  all_goals
    frame_out
    rw [b0, b1, xn_at]
  · unfold k0_pay7
    rw [b2, h_at, trunc_at]
  · unfold k0_pay8
    rw [b3, u_at, trunc_at]
  · rw [b2, b3, b4, zero_at, part_at]
    simp only [zero_add]

/-- What the second half's point leaves. -/
theorem second (e : t.val % 2 = 1) :
    (outsAt0 m c t.val t.isLt).1 = mat .f32 (fun i k => out x g w wd (row (blk t) i) k)
    ∧ (outsAt0 m c t.val t.isLt).2.1 = mat .bf16 (fun i l => h x g w (row (blk t) i) (half 1 l))
    ∧ (outsAt0 m c t.val t.isLt).2.2.1 = mat .bf16 (fun i l => u x g w (row (blk t) i) (half 1 l))
    ∧ (outsAt0 m c t.val t.isLt).2.2.2.1 = mat .bf16 (fun i k => next x g w wd g2 (row (blk t) i) k) := by
  obtain ⟨b0, b1, b5⟩ := b_rows m c x g g2 h0 h1 h4 t
  obtain ⟨b2, b3, b4⟩ := b_w m c w wd h2 h3 t 1 e
  have lt : t.val - 1 < cfg0.N := by omega
  obtain ⟨-, -, s0, s1⟩ := first m c x g w wd g2 h0 h1 h2 h3 h4 ⟨t.val - 1, lt⟩ (by dsimp only; omega)
  rw [show blk ⟨t.val - 1, lt⟩ = blk t from Fin.ext (by show (t.val - 1) / 2 = t.val / 2; omega)] at s0 s1
  rw [outsAt0_B m c t (by omega) e]
  refine ⟨?_, ?_, ?_, ?_⟩
  all_goals
    frame_out
    rw [s0, read_unread_whole]
  · rw [s1, read_unread_whole, b0, b2, b3, b4, part_at, out_at]
  · unfold k0_pay7
    rw [b2, h_at, trunc_at]
  · unfold k0_pay8
    rw [b3, u_at, trunc_at]
  · rw [s1, read_unread_whole, b0, b2, b3, b4, b5, part_at, next_at]

/-- The two results both points write. -/
theorem ups (s : Fin 2) (e : t.val % 2 = s.val) : (outsAt0 m c t.val t.isLt).2.1 = mat .bf16 (fun i l => h x g w (row (blk t) i) (half s l))
    ∧ (outsAt0 m c t.val t.isLt).2.2.1 = mat .bf16 (fun i l => u x g w (row (blk t) i) (half s l)) := by
  match s with
  | ⟨0, _⟩ => exact ⟨(first m c x g w wd g2 h0 h1 h2 h3 h4 t e).1, (first m c x g w wd g2 h0 h1 h2 h3 h4 t e).2.1⟩
  | ⟨1, _⟩ => exact ⟨(second m c x g w wd g2 h0 h1 h2 h3 h4 t e).2.1, (second m c x g w wd g2 h0 h1 h2 h3 h4 t e).2.2.1⟩

omit h0 h1 h2 h3 h4 in
/-- The rows' results are written back after the second half. -/
theorem odd : ∀ t : Fin cfg0.N, ((cfg0.win 6).flush t = true → t.val % 2 = 1) ∧ ((cfg0.win 9).flush t = true → t.val % 2 = 1) :=
  (by decide +kernel : ∀ t : Fin grid0.N, _)

theorem out_final : (dats m 0 c).arrAt 6 cfg0.N = mat .f32 (out x g w wd) := by
  refine (dats m 0 c).arrAt_eq_of_covers 6 _ (by decide +kernel) fun t hf y => ?_
  have e := (odd t).1 hf
  blk_simp
  rw [after0_6, (second m c x g w wd g2 h0 h1 h2 h3 h4 t e).1]
  idx_vars y
  exact (mat_whole _ (row (blk t) y0) y1 _ (by blk_simp [idx t]) (by blk_simp [idx t])).symm

theorem h_final : (dats m 0 c).arrAt 7 cfg0.N = mat .bf16 (h x g w) := by
  refine (dats m 0 c).arrAt_eq_of_covers 7 _ (by decide +kernel) fun t hf y => ?_
  blk_simp
  rw [after0_7, (ups m c x g w wd g2 h0 h1 h2 h3 h4 t ⟨t.val % 2, by omega⟩ rfl).1]
  idx_vars y
  exact (mat_whole _ (row (blk t) y0) (half ⟨t.val % 2, by omega⟩ y1) _ (by blk_simp [idx t]) (by blk_simp [idx t])).symm

theorem u_final : (dats m 0 c).arrAt 8 cfg0.N = mat .bf16 (u x g w) := by
  refine (dats m 0 c).arrAt_eq_of_covers 8 _ (by decide +kernel) fun t hf y => ?_
  blk_simp
  rw [after0_8, (ups m c x g w wd g2 h0 h1 h2 h3 h4 t ⟨t.val % 2, by omega⟩ rfl).2]
  idx_vars y
  exact (mat_whole _ (row (blk t) y0) (half ⟨t.val % 2, by omega⟩ y1) _ (by blk_simp [idx t]) (by blk_simp [idx t])).symm

theorem next_final : (dats m 0 c).arrAt 9 cfg0.N = mat .bf16 (next x g w wd g2) := by
  refine (dats m 0 c).arrAt_eq_of_covers 9 _ (by decide +kernel) fun t hf y => ?_
  have e := (odd t).2 hf
  blk_simp
  rw [after0_9, (second m c x g w wd g2 h0 h1 h2 h3 h4 t e).2.2.2]
  idx_vars y
  exact (mat_whole _ (row (blk t) y0) y1 _ (by blk_simp [idx t]) (by blk_simp [idx t])).symm

end

/-- The kernel's four results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5632 → ℝ)
    (wd : Dev nD → Fin 2816 → Fin 1024 → ℝ) (g2 : Dev nD → Fin 1 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (wd c))
    (h4 : ∀ c : Dev nD, m ((c : Thread nD τ).loc main_arg4) = mat .f32 (g2 c)) :
    θ_run defs (onTc (τ := τ) (main (F := Ideal))) ⟨m, fun _ => 0, ρ⟩ fun r => ∀ c : Dev nD,
      r.2.mem ((c : Thread nD τ).loc main_v5_0) = mat .f32 (out (x c) (g c) (w c) (wd c))
      ∧ r.2.mem ((c : Thread nD τ).loc main_v5_1) = mat .bf16 (h (x c) (g c) (w c))
      ∧ r.2.mem ((c : Thread nD τ).loc main_v5_2) = mat .bf16 (u (x c) (g c) (w c))
      ∧ r.2.mem ((c : Thread nD τ).loc main_v5_3) = mat .bf16 (next (x c) (g c) (w c) (wd c) (g2 c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Kernel13Ideal.Value.run_blocks m ρ)
  obtain ⟨e0, e1, e2, e3, hargs⟩ := h c
  exact ⟨e0.trans (out_final m c _ _ _ _ _ (h0 c) (h1 c) (h2 c) (h3 c) (h4 c)), e1.trans (h_final m c _ _ _ _ _ (h0 c) (h1 c) (h2 c) (h3 c) (h4 c)),
    e2.trans (u_final m c _ _ _ _ _ (h0 c) (h1 c) (h2 c) (h3 c) (h4 c)), e3.trans (next_final m c _ _ _ _ _ (h0 c) (h1 c) (h2 c) (h3 c) (h4 c)), hargs⟩

end Cert.Kernel13Ideal.FfnFwd

end
-- ==== Proof.FfnFwdRef.lean ====
module

public import proofs.«01_k».proof.Proof.Gen.Reference13Ideal.Run
public import proofs.«01_k».proof.Proof.FfnFwdModel

/-! The forward call's reference computes the model's values. -/

@[expose] public section

set_option maxRecDepth 16384

noncomputable section

open Idealize.ShloMosaic Idealize.ShloMosaic.TcCoe Idealize.SL.Sem

namespace Cert.Reference13Ideal.FfnFwd

open Cert.Reference13Ideal Cert.Reference13Ideal.Gen Lift
open Model.FfnGate (xn z h u act)
open Model.FfnFwd (out next)

section
variable (x : Fin 8192 → Fin 1024 → ℝ) (g : Fin 1 → Fin 1024 → ℝ) (w : Fin 1024 → Fin 5632 → ℝ) (wd : Fin 2816 → Fin 1024 → ℝ)

theorem norm_at : mulf (F := Ideal) (mulf (mat .f32 x) (broadcastInDim S8192x1024 ![0, 1] bcast_S8192x1_S8192x1024_0_1 (Host.rsqrt (addf
        (Host.divf (broadcastInDim S8192x1 ![0] bcast_S8192_S8192x1_0 (Host.reduceAdd (mulf (mat .f32 x) (mat .f32 x)) (constant S_ .f32 0x00000000#32) reducesTo_S8192x1024_S8192_d1 h_S_))
          (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (mat .f32 g))
    = mat .f32 (xn x g) := by
  funext i
  idx_vars i
  pointwise []
  simp (disch := norm_num) only [mat_at, ← EReal.coe_mul, ← EReal.coe_add, coe_sum, w_eps, w_1024, div_ne, rsqrt_ms, xn]

theorem z_at : Host.dotGeneral (F := Ideal) dot_S8192x1024_S1024x5632_S8192x5632_1_0_0_1_n_n none (mat .f32 (xn x g)) (mat .f32 w)
    = mat .f32 (z x g w) := by
  funext i
  idx_vars i
  pointwise []
  simp only [mat_at, ← EReal.coe_mul, coe_sum, z]

/-- The gated product of the gate's columns and the other branch's. -/
theorem act_at : mulf (F := Ideal) (mulf (mat .f32 (h x g w)) (Host.divf (broadcastInDim S8192x2816 ![] bcast_S_S8192x2816 (constant S_ .f32 0x3F800000#32))
      (addf (broadcastInDim S8192x2816 ![] bcast_S_S8192x2816 (constant S_ .f32 0x3F800000#32)) (Host.exp (Host.negf (mat .f32 (h x g w))))))) (mat .f32 (u x g w))
    = mat .f32 (act x g w) := by
  funext i
  idx_vars i
  pointwise []
  simp only [mat_at, ← EReal.coe_neg, Ideal.exp_coe, ← EReal.coe_one, ← EReal.coe_add, div_ne (Model.FfnGate.sig_ne _), one_div, ← EReal.coe_mul, act, Model.FfnGate.sig]

theorem w_half : Ideal.ofBits .f32 0x3F000000#32 = ((1 / 2 : ℝ) : EReal) := by
  simp [Ideal.ofBits, Ideal.ieee, -EReal.coe_mul, -EReal.coe_neg]; norm_num

theorem out_at : addf (F := Ideal) (mat .f32 x) (mulf (broadcastInDim S8192x1024 ![] bcast_S_S8192x1024 (constant S_ .f32 0x3F000000#32))
      (Host.dotGeneral dot_S8192x2816_S2816x1024_S8192x1024_1_0_0_1_n_n none (mat .f32 (act x g w)) (mat .f32 wd))) = mat .f32 (out x g w wd) := by
  funext i
  idx_vars i
  pointwise []
  simp only [mat_at, w_half, ← EReal.coe_mul, ← EReal.coe_add, coe_sum, out]

end

/-- The reference's four results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5632 → ℝ)
    (wd : Dev nD → Fin 2816 → Fin 1024 → ℝ) (g2 : Dev nD → Fin 1 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (wd c))
    (h4 : ∀ c : Dev nD, m ((c : Thread nD τ).loc main_arg4) = mat .f32 (g2 c)) :
    θ_run defs (onTc (τ := τ) (main (F := Ideal))) ⟨m, fun _ => 0, ρ⟩ fun r => ∀ c : Dev nD,
      r.2.mem ((c : Thread nD τ).loc main_v20) = mat .f32 (out (x c) (g c) (w c) (wd c))
      ∧ r.2.mem ((c : Thread nD τ).loc main_v21) = mat .bf16 (h (x c) (g c) (w c))
      ∧ r.2.mem ((c : Thread nD τ).loc main_v22) = mat .bf16 (u (x c) (g c) (w c))
      ∧ r.2.mem ((c : Thread nD τ).loc main_v35) = mat .bf16 (next (x c) (g c) (w c) (wd c) (g2 c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Reference13Ideal.Value.run (F := Ideal) m ρ)
  obtain ⟨e0, e1, e2, e3, hargs⟩ := h c
  refine ⟨e0.trans ?_, e1.trans ?_, e2.trans ?_, e3.trans ?_, hargs⟩
  · rw [h0, h1, h2, h3]
    clean_types
    rw [norm_at, z_at, slice_at (hb := by omega), slice_at (hb := by omega), act_at, out_at]
  · rw [h0, h1, h2]
    clean_types
    rw [norm_at, z_at, slice_at (hb := by omega)]
    rfl
  · rw [h0, h1, h2]
    clean_types
    rw [norm_at, z_at, slice_at (hb := by omega)]
    rfl
  · unfold Value.res_main_v35
    rw [h0, h1, h2, h3, h4]
    clean_types
    rw [norm_at, z_at, slice_at (hb := by omega), slice_at (hb := by omega), act_at, out_at, norm_at]
    rfl

end Cert.Reference13Ideal.FfnFwd

end
-- ==== Proof.FfnFwdClaim.lean ====
module

public import proofs.«01_k».proof.Defs
public import proofs.«01_k».proof.Proof.Gen.Pre_finite13
public import proofs.«01_k».proof.Proof.Finite
public import proofs.«01_k».proof.Proof.FfnFwd
public import proofs.«01_k».proof.Proof.FfnFwdRef

/-! The claim of the gated feed-forward's forward call: the reference's frame, and equal values for finite arguments. -/

@[expose] public section

set_option maxRecDepth 16384

noncomputable section

open Idealize.ShloMosaic Idealize.ShloMosaic.TcCoe Idealize.SL.Sem

namespace Cert.FfnFwd

open Lift

theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- Finite arguments are arrays of real numbers. -/
theorem real (m : (ℓ : Loc Cert.Kernel13Ideal.nD Cert.Kernel13Ideal.τ Cert.Kernel13Ideal.sig) → Buf (Elt Ideal) ℓ)
    (h : Cert.Pre_Kernel13Ideal_finite13 m) (c : Dev Cert.Kernel13Ideal.nD) :
    ∃ x g w wd g2, m ((c.tc : Thread Cert.Kernel13Ideal.nD Cert.Kernel13Ideal.τ).loc Cert.Kernel13Ideal.main_arg0) = mat .f32 x
      ∧ m ((c.tc : Thread Cert.Kernel13Ideal.nD Cert.Kernel13Ideal.τ).loc Cert.Kernel13Ideal.main_arg1) = mat .f32 g
      ∧ m ((c.tc : Thread Cert.Kernel13Ideal.nD Cert.Kernel13Ideal.τ).loc Cert.Kernel13Ideal.main_arg2) = mat .f32 w
      ∧ m ((c.tc : Thread Cert.Kernel13Ideal.nD Cert.Kernel13Ideal.τ).loc Cert.Kernel13Ideal.main_arg3) = mat .f32 wd
      ∧ m ((c.tc : Thread Cert.Kernel13Ideal.nD Cert.Kernel13Ideal.τ).loc Cert.Kernel13Ideal.main_arg4) = mat .f32 g2 := by
  have e := congrFun (h c) ix0
  unfold Cert.Pre_finite13.fn Cert.Pre_finite13.fn_part1 at e
  simp only [and_one] at e
  obtain ⟨⟨⟨⟨e0, e1⟩, e2⟩, e3⟩, e4⟩ := e
  exact ⟨_, _, _, _, _, mat_of_finite _ _ _ _ _ e0, mat_of_finite _ _ _ _ _ e1, mat_of_finite _ _ _ _ _ e2, mat_of_finite _ _ _ _ _ e3,
    mat_of_finite _ _ _ _ _ e4⟩

theorem algebraic : Cert.algebraic_Kernel13Ideal_Reference13Ideal_pre_finite13 := by
  intro m ρ m' ρ' hpre hag
  choose x g w wd g2 h0 h1 h2 h3 h4 using real m hpre
  refine ⟨_, _, _, _, Cert.Kernel13Ideal.FfnFwd.run m ρ x g w wd g2 h0 h1 h2 h3 h4, ?_⟩
  exact Cert.Reference13Ideal.FfnFwd.run m' ρ' x g w wd g2 (fun c => (hag c).1.trans (h0 c)) (fun c => (hag c).2.1.trans (h1 c)) (fun c => (hag c).2.2.1.trans (h2 c))
    (fun c => (hag c).2.2.2.1.trans (h3 c)) (fun c => (hag c).2.2.2.2.trans (h4 c))

end Cert.FfnFwd

end
-- ==== Proof.FfnLossModel.lean ====
module

public import proofs.«01_k».proof.Proof.FfnFwdModel

/-! The last feed-forward layer and the loss over the real numbers: `x` the rows, `g` the norm's gain, `w` the up
projection, `wd` the down projection, `y` the targets. -/

@[expose] public section

noncomputable section

open Idealize.ShloMosaic Idealize.ShloMosaic.TcCoe

namespace Model.FfnLoss

open Lift Model.FfnGate Model.FfnFwd

variable (x : Fin 8192 → Fin 1024 → ℝ) (g : Fin 1 → Fin 1024 → ℝ) (w : Fin 1024 → Fin 5632 → ℝ) (wd : Fin 2816 → Fin 1024 → ℝ)
  (y : Fin 8192 → Fin 1024 → ℝ)

/-- The layer's rows less the targets. -/
def err (i : Fin 8192) (k : Fin 1024) : ℝ := out x g w wd i k - y i k

/-- The loss's gradient with respect to the layer's rows. -/
def dy (i : Fin 8192) (k : Fin 1024) : ℝ := err x g w wd y i k / 1024

/-- A row's mean square error. -/
def mse (i : Fin 8192) : ℝ := (∑ k, err x g w wd y i k * err x g w wd y i k) / 1024

/-- The loss, in a row of 128. -/
def loss (_ : Fin 1) (_ : Fin 128) : ℝ := 1 / 2 * ∑ i, mse x g w wd y i

/-- Row `i` of block `b` of the rows. -/
abbrev row (b : Fin 16) (i : Fin 512) : Fin 8192 := ⟨b.val * 512 + i.val, by omega⟩

/-- What a block of rows adds to the loss. -/
def lossPart (b : Fin 16) : ℝ := 1 / 2 * ∑ i, mse x g w wd y (row b i)

/-- What grid point `n` adds to the loss: the second of a block's two points adds the block's. -/
def lossAt (n : ℕ) : ℝ := if n % 2 = 1 then (if h : n / 2 < 16 then lossPart x g w wd y ⟨n / 2, h⟩ else 0) else 0

theorem loss_points (i : Fin 1) (j : Fin 128) : ∑ n : Fin 32, lossAt x g w wd y n.val = loss x g w wd y i j := by
  have e : ∑ b : Fin 16, ∑ s : Fin 2, (if s.val = 1 then lossPart x g w wd y b else 0) = ∑ n : Fin 32, lossAt x g w wd y n.val := by
    refine sum_tile _ _ rfl fun b s hl => ?_
    unfold lossAt
    dsimp only
    have e1 : (b.val * 2 + s.val) % 2 = s.val := by omega
    have e2 : (b.val * 2 + s.val) / 2 = b.val := by omega
    simp only [e1, e2, b.isLt, dif_pos]
  rw [← e]
  simp only [Fin.sum_univ_two, Fin.val_zero, Fin.val_one, zero_ne_one, if_false, if_true, zero_add]
  unfold lossPart loss
  rw [← Finset.mul_sum, sum_tile (mse x g w wd y) (fun b i => mse x g w wd y (row b i)) rfl fun _ _ _ => rfl]

end Model.FfnLoss

end
-- ==== Proof.FfnLoss.lean ====
module

public import proofs.«01_k».proof.Proof.Gen.Kernel14Ideal.Value
public import proofs.«01_k».proof.Proof.FfnLossModel
public import Idealize.ShloMosaic.Lib.Pipeline.ReadBack

/-! The feed-forward layer with the loss computes the model's values. -/

@[expose] public section

set_option maxRecDepth 16384

noncomputable section

open Idealize.ShloMosaic Idealize.ShloMosaic.TcCoe Idealize.SL.Sem
open Idealize.ShloMosaic.Pipeline (Dat)

namespace Cert.Kernel14Ideal.FfnLoss

open Cert.Kernel14Ideal Cert.Kernel14Ideal.Gen Lift
open Model.FfnGate (xn z h u act half)
open Model.FfnFwd (part out out_parts)
open Model.FfnLoss (err dy mse loss row lossPart lossAt loss_points)

theorem idx : ∀ t : Fin cfg0.N, win0_0.index t = ![t.val / 2, 0] ∧ win0_1.index t = ![0, 0] ∧ win0_2.index t = ![t.val % 2, 0, 0]
    ∧ win0_3.index t = ![t.val % 2 + 2, 0, 0] ∧ win0_4.index t = ![t.val % 2, 0, 0] ∧ win0_5.index t = ![t.val / 2, 0] ∧ win0_6.index t = ![t.val / 2, 0]
    ∧ win0_7.index t = ![0, 0] ∧ win0_8.index t = ![t.val / 2, t.val % 2] ∧ win0_9.index t = ![t.val / 2, t.val % 2] :=
  (by decide +kernel : ∀ t : Fin grid0.N, _)

section
variable (x : Fin 8192 → Fin 1024 → ℝ) (g : Fin 1 → Fin 1024 → ℝ) (w : Fin 1024 → Fin 5632 → ℝ) (wd : Fin 2816 → Fin 1024 → ℝ)
  (y : Fin 8192 → Fin 1024 → ℝ) (b : Fin 16) (s : Fin 2)

/-- A block of the rows. -/
abbrev xB : FVec Ideal S512x1024 .f32 := mat .f32 fun i k => x (row b i) k

/-- A block of the normalised rows. -/
abbrev xnB : FVec Ideal S512x1024 .bf16 := mat .bf16 fun i k => xn x g (row b i) k

/-- The gate's weights of a half. -/
abbrev wgB : FVec Ideal S1x1024x1408 .bf16 := mat3 .bf16 fun (_ : Fin 1) k l => cols 0 2816 (by omega) w k (half s l)

/-- The other branch's weights of a half. -/
abbrev wuB : FVec Ideal S1x1024x1408 .bf16 := mat3 .bf16 fun (_ : Fin 1) k l => cols 2816 2816 (by omega) w k (half s l)

/-- The down projection's weights of a half. -/
abbrev wdB : FVec Ideal S1x1408x1024 .bf16 := mat3 .bf16 fun (_ : Fin 1) l k => wd (half s l) k

theorem xn_at : k0_pay5 (F := Ideal) (xB x b) (mat .f32 g) = xnB x g b := by
  funext i
  idx_vars i
  pointwise [k0_pay5]
  simp (disch := norm_num) only [mat_at, ← EReal.coe_mul, ← EReal.coe_add, coe_sum, w_eps, w_inv1024, ← div_eq_mul_inv, rsqrt_ms, xn]

theorem h_at : k0_pay8 (F := Ideal) (xnB x g b) (wgB w s) = mat .f32 fun i l => h x g w (row b i) (half s l) := by
  funext i
  idx_vars i
  pointwise [k0_pay8]
  simp only [mat_at, mat3_at, ← EReal.coe_mul, coe_sum, cols, z]

theorem u_at : k0_pay9 (F := Ideal) (xnB x g b) (wuB w s) = mat .f32 fun i l => u x g w (row b i) (half s l) := by
  funext i
  idx_vars i
  pointwise [k0_pay9]
  simp only [mat_at, mat3_at, ← EReal.coe_mul, coe_sum, cols, z]

theorem sig_at (a : Fin 512 → Fin 1408 → ℝ) : logistic (F := Ideal) (mat .f32 a) = mat .f32 fun i l => Model.FfnGate.sig (a i l) := by
  funext i
  exact Ideal.logistic_coe _

/-- A half's term is added to what the scratch held. -/
theorem part_at (r : Fin 512 → Fin 1024 → ℝ) : k0_pay12 (F := Ideal) (xnB x g b) (wgB w s) (wuB w s) (mat .f32 r) (wdB wd s)
    = mat .f32 fun i k => r i k + part x g w wd s (row b i) k := by
  funext i
  idx_vars i
  unfold k0_pay12
  rw [h_at, u_at, sig_at]
  pointwise []
  simp only [mat_at, mat3_at, ← EReal.coe_mul, ← EReal.coe_add, coe_sum, part, act]

theorem same_at (v : FVec Ideal S512x1024 .f32) : k0_pay1 v = v := shapeCast_self _ _

theorem zero_at : k0_pay6 (F := Ideal) = mat .f32 fun _ _ => 0 := by
  funext i
  idx_vars i
  pointwise [k0_pay6]
  exact EReal.coe_zero.symm

theorem w_half : Ideal.ofBits .f32 0x3F000000#32 = ((1 / 2 : ℝ) : EReal) := by
  simp [Ideal.ofBits, Ideal.ieee, -EReal.coe_mul, -EReal.coe_neg]; norm_num

/-- The second scratch after both halves. -/
abbrev sumB : FVec Ideal S512x1024 .f32 := mat .f32 fun i k => part x g w wd 0 (row b i) k + part x g w wd 1 (row b i) k

theorem err_at : k0_pay2 (F := Ideal) (xB x b) (sumB x g w wd b) (xB y b) = mat .f32 fun i k => err x g w wd y (row b i) k := by
  funext i
  idx_vars i
  pointwise [k0_pay2]
  simp only [mat_at, w_half, ← EReal.coe_mul, ← EReal.coe_add, ← EReal.coe_sub, out_parts, err]

theorem dy_at : k0_pay3 (F := Ideal) (xB x b) (sumB x g w wd b) (xB y b) = mat .f32 fun i k => dy x g w wd y (row b i) k := by
  funext i
  idx_vars i
  unfold k0_pay3
  rw [err_at]
  pointwise []
  simp only [mat_at, w_inv1024, ← EReal.coe_mul, ← div_eq_mul_inv, dy]

/-- The mean squares of a block's rows. -/
theorem rows_at (e : Fin 512 → Fin 1024 → ℝ) : mulf (F := Ideal) (shapeCast S512x1 (multiReduction .add [1] S512 (mulf (mat .f32 e) (mat .f32 e)) 0x00000000#32
      reduces_S512x1024_S512 (.inl rfl) rfl) shapeCasts_S512_S512x1) (broadcast S512x1 (Scalar.ofBits .f32 0x3A800000#32))
    = mat .f32 fun i (_ : Fin 1) => (∑ k, e i k * e i k) / 1024 := by
  funext i
  idx_vars i
  pointwise []
  simp only [mat_at, w_inv1024, ← EReal.coe_mul, coe_sum, ← div_eq_mul_inv]

/-- Half the sum of a column. -/
theorem col_at (r : Fin 512 → Fin 1 → ℝ) : mulf (F := Ideal) (broadcast S1x1 (Scalar.ofBits .f32 0x3F000000#32)) (shapeCast S1x1 (multiReduction .add [0] S1 (mat .f32 r) 0x00000000#32
      reduces_S512x1_S1 (.inl rfl) rfl) shapeCasts_S1_S1x1)
    = mat .f32 fun (_ _ : Fin 1) => 1 / 2 * ∑ i, r i 0 := by
  funext i
  idx_vars i
  pointwise []
  simp only [mat_at, w_half, ← EReal.coe_mul, coe_sum]

theorem add_at (a : FVec Ideal S1x128 .f32) (q : ℝ) (i : Fin 1) (j : Fin 128) : addf (F := Ideal) (shapeCast S1x128 a shapeCasts_S1x128_S1x128)
      (broadcastTo S1x128 (shapeCast S1x1 (mat .f32 fun (_ _ : Fin 1) => q) shapeCasts_S1x1_S1x1) broadcasts_S1x1_S1x128) (ix2 i j)
    = a (ix2 i j) + (q : EReal) := by
  rw [shapeCast_self, shapeCast_self]
  rfl

/-- A block's loss is added to what the accumulator held. -/
theorem loss_at (a : FVec Ideal S1x128 .f32) (i : Fin 1) (j : Fin 128) : k0_pay4 (F := Ideal) (xB x b) (sumB x g w wd b) (xB y b) a (ix2 i j)
    = a (ix2 i j) + ((lossPart x g w wd y b : ℝ) : EReal) := by
  unfold k0_pay4
  rw [err_at]
  dsimp only
  rw [rows_at, col_at, add_at]
  rfl

theorem acc_zero_at (i : S1x128.Idx) : k0_pay7 (F := Ideal) i = 0 := by
  idx_vars i
  pointwise [k0_pay7]

end

section
variable (m : (ℓ : Loc nD τ sig) → Buf (Elt Ideal) ℓ) (c : Dev nD)
  (x : Fin 8192 → Fin 1024 → ℝ) (g : Fin 1 → Fin 1024 → ℝ) (w : Fin 1024 → Fin 5632 → ℝ) (wd : Fin 2816 → Fin 1024 → ℝ)
  (y : Fin 8192 → Fin 1024 → ℝ)
  (h0 : m ((c : Thread nD τ).loc main_arg0) = mat .f32 x) (h1 : m ((c : Thread nD τ).loc main_arg1) = mat .f32 g)
  (h2 : m ((c : Thread nD τ).loc main_arg2) = mat .f32 w) (h3 : m ((c : Thread nD τ).loc main_arg3) = mat .f32 wd)
  (h4 : m ((c : Thread nD τ).loc main_arg4) = mat .f32 y)

include h2 in
theorem V_wgu : V m c main_v2 = mat3 .bf16 fun (q : Fin 4) k (l : Fin 1408) => w k ⟨q.val * 1408 + l.val, by omega⟩ := by
  unfold V hostOps0
  after_results
  rw [h2]
  clean_types
  funext i
  idx_vars i
  pointwise []
  exact mat_whole _ _ _ _ rfl rfl

theorem wd_halves : shapeCast S2x1408x1024 (mat .bf16 wd) shapeCasts_S2816x1024_S2x1408x1024
    = mat3 .bf16 fun (q : Fin 2) (l : Fin 1408) k => wd (half q l) k := by
  funext i
  idx_vars i
  pointwise []
  exact mat_whole _ _ _ _ rfl rfl

include h3 in
theorem V_wd : V m c main_v4 = mat3 .bf16 fun (q : Fin 2) (l : Fin 1408) k => wd (half q l) k := by
  refine Eq.trans ?_ (wd_halves wd)
  unfold V hostOps0
  after_results
  rw [h3]
  rfl

variable (t : Fin cfg0.N)

/-- The point's block of rows. -/
abbrev blk (t : Fin cfg0.N) : Fin 16 := ⟨t.val / 2, by have := lt_of_lt_of_eq t.isLt N_0; omega⟩

include h0 h1 h4 in
theorem b_rows : iblk m c 0 t = xB x (blk t) ∧ iblk m c 1 t = mat .f32 g ∧ iblk m c 5 t = xB y (blk t) := by
  refine ⟨?_, ?_, ?_⟩
  all_goals
    funext i
    idx_vars i
    blk_simp [iblk, idx t]
  · rw [V_main_arg0, h0]; exact mat_whole _ (row (blk t) i0) i1 _ (by blk_simp [idx t]) (by blk_simp [idx t])
  · rw [V_main_arg1, h1]; exact mat_whole _ i0 i1 _ (by blk_simp [idx t]) (by blk_simp [idx t])
  · rw [V_main_arg4, h4]; exact mat_whole _ (row (blk t) i0) i1 _ (by blk_simp [idx t]) (by blk_simp [idx t])

include h2 h3 in
theorem b_w (s : Fin 2) (e : t.val % 2 = s.val) : iblk m c 2 t = wgB w s ∧ iblk m c 3 t = wuB w s ∧ iblk m c 4 t = wdB wd s := by
  refine ⟨?_, ?_, ?_⟩
  all_goals
    funext i
    idx_vars i
    blk_simp [iblk, idx t]
  · rw [V_wgu m c w h2]
    refine (mat3_whole _ ⟨s.val, by omega⟩ i1 i2 _ (by blk_simp [idx t]; omega) (by blk_simp [idx t]) (by blk_simp [idx t])).trans ?_
    exact congrArg Real.toEReal (congrArg (w i1) (Fin.ext (by show s.val * 1408 + i2.val = 0 + (s.val * 1408 + i2.val); omega)))
  · rw [V_wgu m c w h2]
    refine (mat3_whole _ ⟨s.val + 2, by omega⟩ i1 i2 _ (by blk_simp [idx t]; dsimp only; omega) (by blk_simp [idx t]) (by blk_simp [idx t])).trans ?_
    exact congrArg Real.toEReal (congrArg (w i1) (Fin.ext (by show (s.val + 2) * 1408 + i2.val = 2816 + (s.val * 1408 + i2.val); omega)))
  · rw [V_wd m c wd h3]
    exact mat3_whole _ s i1 i2 _ (by blk_simp [idx t]; omega) (by blk_simp [idx t]) (by blk_simp [idx t])

include h0 h1 h2 h3 h4

/-- What the first half's point leaves. -/
theorem first (e : t.val % 2 = 0) :
    (outsAt0 m c t.val t.isLt).2.2.1 = mat .bf16 (fun i l => h x g w (row (blk t) i) (half 0 l))
    ∧ (outsAt0 m c t.val t.isLt).2.2.2.1 = mat .bf16 (fun i l => u x g w (row (blk t) i) (half 0 l))
    ∧ (outsAt0 m c t.val t.isLt).2.2.2.2.1 = xnB x g (blk t)
    ∧ (outsAt0 m c t.val t.isLt).2.2.2.2.2 = mat .f32 (fun i k => part x g w wd 0 (row (blk t) i) k) := by
  obtain ⟨b0, b1, b5⟩ := b_rows m c x g y h0 h1 h4 t
  obtain ⟨b2, b3, b4⟩ := b_w m c w wd h2 h3 t 0 e
  by_cases z : t.val % 32 = 0
  · rw [outsAt0_A m c t e z (by omega)]
    refine ⟨?_, ?_, ?_, ?_⟩
    all_goals
      frame_out
      rw [b0, b1, xn_at]
    · unfold k0_pay10
      rw [b2, h_at, trunc_at]
    · unfold k0_pay11
      rw [b3, u_at, trunc_at]
    · rw [b2, b3, b4, zero_at, part_at, same_at]
      simp only [zero_add]
  · rw [outsAt0_C m c t e z (by omega)]
    refine ⟨?_, ?_, ?_, ?_⟩
    all_goals
      frame_out
      rw [b0, b1, xn_at]
    · unfold k0_pay10
      rw [b2, h_at, trunc_at]
    · unfold k0_pay11
      rw [b3, u_at, trunc_at]
    · rw [b2, b3, b4, zero_at, part_at, same_at]
      simp only [zero_add]

/-- What the second half's point leaves. -/
theorem second (e : t.val % 2 = 1) :
    (outsAt0 m c t.val t.isLt).1 = mat .f32 (fun i k => dy x g w wd y (row (blk t) i) k)
    ∧ (∀ j : S1x128.Idx, (outsAt0 m c t.val t.isLt).2.1 j
      = (outsAt0 m c (t.val - 1) (Nat.lt_of_le_of_lt (Nat.sub_le _ _) t.isLt)).2.1 j + ((lossPart x g w wd y (blk t) : ℝ) : EReal))
    ∧ (outsAt0 m c t.val t.isLt).2.2.1 = mat .bf16 (fun i l => h x g w (row (blk t) i) (half 1 l))
    ∧ (outsAt0 m c t.val t.isLt).2.2.2.1 = mat .bf16 (fun i l => u x g w (row (blk t) i) (half 1 l)) := by
  obtain ⟨b0, b1, b5⟩ := b_rows m c x g y h0 h1 h4 t
  obtain ⟨b2, b3, b4⟩ := b_w m c w wd h2 h3 t 1 e
  have lt : t.val - 1 < cfg0.N := by omega
  obtain ⟨-, -, s0, s1⟩ := first m c x g w wd y h0 h1 h2 h3 h4 ⟨t.val - 1, lt⟩ (by dsimp only; omega)
  rw [show blk ⟨t.val - 1, lt⟩ = blk t from Fin.ext (by show (t.val - 1) / 2 = t.val / 2; omega)] at s0 s1
  rw [outsAt0_B m c t (by omega) (by omega) e]
  refine ⟨?_, fun j => ?_, ?_, ?_⟩
  · frame_out
    rw [s0, read_unread_whole, s1, read_unread_whole, b0, b2, b3, b4, b5, part_at, same_at, dy_at]
  · frame_out
    rw [s0, read_unread_whole, s1, read_unread_whole, b0, b2, b3, b4, b5, part_at, same_at]
    idx_vars j
    exact loss_at x g w wd y _ _ _ _
  · frame_out
    rw [s0, read_unread_whole]
    unfold k0_pay10
    rw [b2, h_at, trunc_at]
  · frame_out
    rw [s0, read_unread_whole]
    unfold k0_pay11
    rw [b3, u_at, trunc_at]

/-- The two results both points write. -/
theorem ups (s : Fin 2) (e : t.val % 2 = s.val) : (outsAt0 m c t.val t.isLt).2.2.1 = mat .bf16 (fun i l => h x g w (row (blk t) i) (half s l))
    ∧ (outsAt0 m c t.val t.isLt).2.2.2.1 = mat .bf16 (fun i l => u x g w (row (blk t) i) (half s l)) := by
  match s with
  | ⟨0, _⟩ => exact ⟨(first m c x g w wd y h0 h1 h2 h3 h4 t e).1, (first m c x g w wd y h0 h1 h2 h3 h4 t e).2.1⟩
  | ⟨1, _⟩ => exact ⟨(second m c x g w wd y h0 h1 h2 h3 h4 t e).2.2.1, (second m c x g w wd y h0 h1 h2 h3 h4 t e).2.2.2⟩

omit h0 h1 h2 h3 h4 in
/-- The first point leaves no loss. -/
theorem loss_first (e : t.val % 32 = 0) (j : S1x128.Idx) : (outsAt0 m c t.val t.isLt).2.1 j = 0 + ((lossAt x g w wd y t.val : ℝ) : EReal) := by
  rw [outsAt0_A m c t (by omega) e (by omega)]
  frame_out
  rw [acc_zero_at, lossAt, if_neg (by omega), EReal.coe_zero, add_zero]

/-- Every later point adds its part of the loss. -/
theorem loss_next (e : ¬t.val % 32 = 0) (j : S1x128.Idx) : (outsAt0 m c t.val t.isLt).2.1 j
    = (outsAt0 m c (t.val - 1) (Nat.lt_of_le_of_lt (Nat.sub_le _ _) t.isLt)).2.1 j + ((lossAt x g w wd y t.val : ℝ) : EReal) := by
  have lt : t.val < 32 := lt_of_lt_of_eq t.isLt N_0
  by_cases z : t.val % 2 = 0
  · rw [outsAt0_C m c t z e (by omega), lossAt, if_neg (by omega), EReal.coe_zero, add_zero]
    unfold out0_C_7
    rfl
  · rw [(second m c x g w wd y h0 h1 h2 h3 h4 t (by omega)).2.1 j, lossAt, if_pos (by omega), dif_pos (by omega)]

omit h0 h1 h2 h3 h4 in
/-- The rows' result is written back after the second half. -/
theorem odd : ∀ t : Fin cfg0.N, (cfg0.win 6).flush t = true → t.val % 2 = 1 :=
  (by decide +kernel : ∀ t : Fin grid0.N, _)

theorem dy_final : (dats m 0 c).arrAt 6 cfg0.N = mat .f32 (dy x g w wd y) := by
  refine (dats m 0 c).arrAt_eq_of_covers 6 _ (by decide +kernel) fun t hf j => ?_
  have e := odd t hf
  blk_simp
  rw [after0_6, (second m c x g w wd y h0 h1 h2 h3 h4 t e).1]
  idx_vars j
  exact (mat_whole _ (row (blk t) j0) j1 _ (by blk_simp [idx t]) (by blk_simp [idx t])).symm

theorem loss_final : (dats m 0 c).arrAt 7 cfg0.N = mat .f32 (loss x g w wd y) := by
  refine (dats m 0 c).arrAt_eq_of_covers 7 _ (by decide +kernel) fun t hf j => ?_
  blk_simp
  rw [after0_7, Pipeline.eq_sum_fin_of_reset_step_apply_of_flush (fun n h => (outsAt0 m c n h).2.1) 32 (fun _ => 0)
    (fun n _ => ((lossAt x g w wd y n.val : ℝ) : EReal))
    (fun t h j => loss_first m c x g w wd y t h j) (fun t h j => loss_next m c x g w wd y h0 h1 h2 h3 h4 t h j)
    t ((flush0_7 t).mp hf) _, zero_add]
  have lt : t.val < 32 := lt_of_lt_of_eq t.isLt N_0
  idx_vars j
  show (∑ s : Fin 32, _ : EReal) = _
  rw [coe_sum]
  have e (s : Fin 32) : 32 * (t.val / 32) + s.val = s.val := by omega
  simp only [e]
  rw [loss_points x g w wd y j0 j1]
  exact (mat_whole (loss x g w wd y) j0 j1 _ (by blk_simp [idx t]) (by blk_simp [idx t])).symm

theorem h_final : (dats m 0 c).arrAt 8 cfg0.N = mat .bf16 (h x g w) := by
  refine (dats m 0 c).arrAt_eq_of_covers 8 _ (by decide +kernel) fun t hf j => ?_
  blk_simp
  rw [after0_8, (ups m c x g w wd y h0 h1 h2 h3 h4 t ⟨t.val % 2, by omega⟩ rfl).1]
  idx_vars j
  exact (mat_whole _ (row (blk t) j0) (half ⟨t.val % 2, by omega⟩ j1) _ (by blk_simp [idx t]) (by blk_simp [idx t])).symm

theorem u_final : (dats m 0 c).arrAt 9 cfg0.N = mat .bf16 (u x g w) := by
  refine (dats m 0 c).arrAt_eq_of_covers 9 _ (by decide +kernel) fun t hf j => ?_
  blk_simp
  rw [after0_9, (ups m c x g w wd y h0 h1 h2 h3 h4 t ⟨t.val % 2, by omega⟩ rfl).2]
  idx_vars j
  exact (mat_whole _ (row (blk t) j0) (half ⟨t.val % 2, by omega⟩ j1) _ (by blk_simp [idx t]) (by blk_simp [idx t])).symm

end

/-- The kernel's four results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5632 → ℝ)
    (wd : Dev nD → Fin 2816 → Fin 1024 → ℝ) (y : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (wd c))
    (h4 : ∀ c : Dev nD, m ((c : Thread nD τ).loc main_arg4) = mat .f32 (y c)) :
    θ_run defs (onTc (τ := τ) (main (F := Ideal))) ⟨m, fun _ => 0, ρ⟩ fun r => ∀ c : Dev nD,
      r.2.mem ((c : Thread nD τ).loc main_v5_0) = mat .f32 (dy (x c) (g c) (w c) (wd c) (y c))
      ∧ r.2.mem ((c : Thread nD τ).loc main_v5_1) = mat .f32 (loss (x c) (g c) (w c) (wd c) (y c))
      ∧ r.2.mem ((c : Thread nD τ).loc main_v5_2) = mat .bf16 (h (x c) (g c) (w c))
      ∧ r.2.mem ((c : Thread nD τ).loc main_v5_3) = mat .bf16 (u (x c) (g c) (w c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Kernel14Ideal.Value.run_blocks m ρ)
  obtain ⟨e0, e1, e2, e3, hargs⟩ := h c
  exact ⟨e0.trans (dy_final m c _ _ _ _ _ (h0 c) (h1 c) (h2 c) (h3 c) (h4 c)), e1.trans (loss_final m c _ _ _ _ _ (h0 c) (h1 c) (h2 c) (h3 c) (h4 c)),
    e2.trans (h_final m c _ _ _ _ _ (h0 c) (h1 c) (h2 c) (h3 c) (h4 c)), e3.trans (u_final m c _ _ _ _ _ (h0 c) (h1 c) (h2 c) (h3 c) (h4 c)), hargs⟩

end Cert.Kernel14Ideal.FfnLoss

end
-- ==== Proof.FfnLossRef.lean ====
module

public import proofs.«01_k».proof.Proof.Gen.Reference14Ideal.Run
public import proofs.«01_k».proof.Proof.FfnLossModel

/-! The reference of the feed-forward layer with the loss computes the model's values. -/

@[expose] public section

set_option maxRecDepth 16384

noncomputable section

open Idealize.ShloMosaic Idealize.ShloMosaic.TcCoe Idealize.SL.Sem

namespace Cert.Reference14Ideal.FfnLoss

open Cert.Reference14Ideal Cert.Reference14Ideal.Gen Lift
open Model.FfnGate (xn z h u act)
open Model.FfnFwd (out)
open Model.FfnLoss (err dy mse loss)

section
variable (x : Fin 8192 → Fin 1024 → ℝ) (g : Fin 1 → Fin 1024 → ℝ) (w : Fin 1024 → Fin 5632 → ℝ) (wd : Fin 2816 → Fin 1024 → ℝ)

theorem norm_at : mulf (F := Ideal) (mulf (mat .f32 x) (broadcastInDim S8192x1024 ![0, 1] bcast_S8192x1_S8192x1024_0_1 (Host.rsqrt (addf
        (Host.divf (broadcastInDim S8192x1 ![0] bcast_S8192_S8192x1_0 (Host.reduceAdd (mulf (mat .f32 x) (mat .f32 x)) (constant S_ .f32 0x00000000#32) reducesTo_S8192x1024_S8192_d1 h_S_))
          (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (mat .f32 g))
    = mat .f32 (xn x g) := by
  funext i
  idx_vars i
  pointwise []
  simp (disch := norm_num) only [mat_at, ← EReal.coe_mul, ← EReal.coe_add, coe_sum, w_eps, w_1024, div_ne, rsqrt_ms, xn]

theorem z_at : Host.dotGeneral (F := Ideal) dot_S8192x1024_S1024x5632_S8192x5632_1_0_0_1_n_n none (mat .f32 (xn x g)) (mat .f32 w)
    = mat .f32 (z x g w) := by
  funext i
  idx_vars i
  pointwise []
  simp only [mat_at, ← EReal.coe_mul, coe_sum, z]

/-- The gated product of the gate's columns and the other branch's. -/
theorem act_at : mulf (F := Ideal) (mulf (mat .f32 (h x g w)) (Host.divf (broadcastInDim S8192x2816 ![] bcast_S_S8192x2816 (constant S_ .f32 0x3F800000#32))
      (addf (broadcastInDim S8192x2816 ![] bcast_S_S8192x2816 (constant S_ .f32 0x3F800000#32)) (Host.exp (Host.negf (mat .f32 (h x g w))))))) (mat .f32 (u x g w))
    = mat .f32 (act x g w) := by
  funext i
  idx_vars i
  pointwise []
  simp only [mat_at, ← EReal.coe_neg, Ideal.exp_coe, ← EReal.coe_one, ← EReal.coe_add, div_ne (Model.FfnGate.sig_ne _), one_div, ← EReal.coe_mul, act, Model.FfnGate.sig]

theorem w_half : Ideal.ofBits .f32 0x3F000000#32 = ((1 / 2 : ℝ) : EReal) := by
  simp [Ideal.ofBits, Ideal.ieee, -EReal.coe_mul, -EReal.coe_neg]; norm_num

theorem out_at : addf (F := Ideal) (mat .f32 x) (mulf (broadcastInDim S8192x1024 ![] bcast_S_S8192x1024 (constant S_ .f32 0x3F000000#32))
      (Host.dotGeneral dot_S8192x2816_S2816x1024_S8192x1024_1_0_0_1_n_n none (mat .f32 (act x g w)) (mat .f32 wd))) = mat .f32 (out x g w wd) := by
  funext i
  idx_vars i
  pointwise []
  simp only [mat_at, w_half, ← EReal.coe_mul, ← EReal.coe_add, coe_sum, out]

variable (y : Fin 8192 → Fin 1024 → ℝ)

theorem err_at : subf (F := Ideal) (mat .f32 (out x g w wd)) (mat .f32 y) = mat .f32 (err x g w wd y) := by
  funext i
  idx_vars i
  pointwise []
  simp only [mat_at, ← EReal.coe_sub, err]

theorem w_two : Ideal.ofBits .f32 0x40000000#32 = ((2 : ℝ) : EReal) := by
  simp [Ideal.ofBits, Ideal.ieee, -EReal.coe_mul, -EReal.coe_neg]; norm_num

theorem dy_at : mulf (F := Ideal) (broadcastInDim S8192x1024 ![0] bcast_S8192_S8192x1024_0 (Host.divf (broadcastInDim S8192 ![] bcast_S_S8192
        (mulf (constant S_ .f32 0x3F000000#32) (constant S_ .f32 0x3F800000#32))) (broadcastInDim S8192 ![] bcast_S_S8192 (constant S_ .f32 0x44800000#32))))
      (mulf (broadcastInDim S8192x1024 ![] bcast_S_S8192x1024 (constant S_ .f32 0x40000000#32)) (mat .f32 (err x g w wd y)))
    = mat .f32 (dy x g w wd y) := by
  funext i
  idx_vars i
  pointwise []
  simp (disch := norm_num) only [mat_at, w_half, w_two, w_1024, ← EReal.coe_one, ← EReal.coe_mul, div_ne, dy]
  congr 1
  ring

theorem loss_at : broadcastInDim S1x128 ![] bcast_S_S1x128 (mulf (F := Ideal) (constant S_ .f32 0x3F000000#32) (Host.reduceAdd (Host.divf
        (Host.reduceAdd (mulf (mat .f32 (err x g w wd y)) (mat .f32 (err x g w wd y))) (constant S_ .f32 0x00000000#32) reducesTo_S8192x1024_S8192_d1 h_S_)
        (broadcastInDim S8192 ![] bcast_S_S8192 (constant S_ .f32 0x44800000#32))) (constant S_ .f32 0x00000000#32) reducesTo_S8192_S_d0 h_S_))
    = mat .f32 (loss x g w wd y) := by
  funext i
  idx_vars i
  pointwise []
  simp (disch := norm_num) only [mat_at, w_half, w_1024, ← EReal.coe_mul, coe_sum, div_ne, loss, mse]

end

/-- The reference's four results are the model's, for finite arguments. -/
theorem run (m : (ℓ : Loc nD τ sig) → Buf (Elt Ideal) ℓ) (ρ : Dev nD → PrngReg)
    (x : Dev nD → Fin 8192 → Fin 1024 → ℝ) (g : Dev nD → Fin 1 → Fin 1024 → ℝ) (w : Dev nD → Fin 1024 → Fin 5632 → ℝ)
    (wd : Dev nD → Fin 2816 → Fin 1024 → ℝ) (y : Dev nD → Fin 8192 → Fin 1024 → ℝ)
    (h0 : ∀ c : Dev nD, m ((c : Thread nD τ).loc main_arg0) = mat .f32 (x c)) (h1 : ∀ c : Dev nD, m ((c : Thread nD τ).loc main_arg1) = mat .f32 (g c))
    (h2 : ∀ c : Dev nD, m ((c : Thread nD τ).loc main_arg2) = mat .f32 (w c)) (h3 : ∀ c : Dev nD, m ((c : Thread nD τ).loc main_arg3) = mat .f32 (wd c))
    (h4 : ∀ c : Dev nD, m ((c : Thread nD τ).loc main_arg4) = mat .f32 (y c)) :
    θ_run defs (onTc (τ := τ) (main (F := Ideal))) ⟨m, fun _ => 0, ρ⟩ fun r => ∀ c : Dev nD,
      r.2.mem ((c : Thread nD τ).loc main_v35) = mat .f32 (dy (x c) (g c) (w c) (wd c) (y c))
      ∧ r.2.mem ((c : Thread nD τ).loc main_v36) = mat .f32 (loss (x c) (g c) (w c) (wd c) (y c))
      ∧ r.2.mem ((c : Thread nD τ).loc main_v37) = mat .bf16 (h (x c) (g c) (w c))
      ∧ r.2.mem ((c : Thread nD τ).loc main_v38) = mat .bf16 (u (x c) (g c) (w c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (Cert.Reference14Ideal.Value.run (F := Ideal) m ρ)
  obtain ⟨e0, e1, e2, e3, hargs⟩ := h c
  refine ⟨e0.trans ?_, e1.trans ?_, e2.trans ?_, e3.trans ?_, hargs⟩
  · rw [h0, h1, h2, h3, h4]
    clean_types
    rw [norm_at, z_at, slice_at (hb := by omega), slice_at (hb := by omega), act_at, out_at, err_at, dy_at]
  · unfold Value.res_main_v36
    rw [h0, h1, h2, h3, h4]
    clean_types
    rw [norm_at, z_at, slice_at (hb := by omega), slice_at (hb := by omega), act_at, out_at, err_at, loss_at]
  · rw [h0, h1, h2]
    clean_types
    rw [norm_at, z_at, slice_at (hb := by omega)]
    rfl
  · rw [h0, h1, h2]
    clean_types
    rw [norm_at, z_at, slice_at (hb := by omega)]
    rfl

end Cert.Reference14Ideal.FfnLoss

end
-- ==== Proof.FfnLossClaim.lean ====
module

public import proofs.«01_k».proof.Defs
public import proofs.«01_k».proof.Proof.Gen.Pre_finite14
public import proofs.«01_k».proof.Proof.Finite
public import proofs.«01_k».proof.Proof.FfnLoss
public import proofs.«01_k».proof.Proof.FfnLossRef

/-! The claim of the feed-forward layer with the loss: the reference's frame, and equal values for finite arguments. -/

@[expose] public section

set_option maxRecDepth 16384

noncomputable section

open Idealize.ShloMosaic Idealize.ShloMosaic.TcCoe Idealize.SL.Sem

namespace Cert.FfnLoss

open Lift

theorem frame_reference : Cert.quiescent_Reference14Ideal := fun m ρ _ =>
  (θ_run Cert.Reference14Ideal.defs _ _).mono (fun r h => ⟨fun c => (h c).2.2.2.2, sem_eq_zero_of_no_sems (by decide) r.2⟩)
    (Cert.Reference14Ideal.Value.run (F := Ideal) m ρ)

/-- Finite arguments are arrays of real numbers. -/
theorem real (m : (ℓ : Loc Cert.Kernel14Ideal.nD Cert.Kernel14Ideal.τ Cert.Kernel14Ideal.sig) → Buf (Elt Ideal) ℓ)
    (h : Cert.Pre_Kernel14Ideal_finite14 m) (c : Dev Cert.Kernel14Ideal.nD) :
    ∃ x g w wd y, m ((c.tc : Thread Cert.Kernel14Ideal.nD Cert.Kernel14Ideal.τ).loc Cert.Kernel14Ideal.main_arg0) = mat .f32 x
      ∧ m ((c.tc : Thread Cert.Kernel14Ideal.nD Cert.Kernel14Ideal.τ).loc Cert.Kernel14Ideal.main_arg1) = mat .f32 g
      ∧ m ((c.tc : Thread Cert.Kernel14Ideal.nD Cert.Kernel14Ideal.τ).loc Cert.Kernel14Ideal.main_arg2) = mat .f32 w
      ∧ m ((c.tc : Thread Cert.Kernel14Ideal.nD Cert.Kernel14Ideal.τ).loc Cert.Kernel14Ideal.main_arg3) = mat .f32 wd
      ∧ m ((c.tc : Thread Cert.Kernel14Ideal.nD Cert.Kernel14Ideal.τ).loc Cert.Kernel14Ideal.main_arg4) = mat .f32 y := by
  have e := congrFun (h c) ix0
  unfold Cert.Pre_finite14.fn Cert.Pre_finite14.fn_part1 at e
  simp only [and_one] at e
  obtain ⟨⟨⟨⟨e0, e1⟩, e2⟩, e3⟩, e4⟩ := e
  exact ⟨_, _, _, _, _, mat_of_finite _ _ _ _ _ e0, mat_of_finite _ _ _ _ _ e1, mat_of_finite _ _ _ _ _ e2, mat_of_finite _ _ _ _ _ e3,
    mat_of_finite _ _ _ _ _ e4⟩

theorem algebraic : Cert.algebraic_Kernel14Ideal_Reference14Ideal_pre_finite14 := by
  intro m ρ m' ρ' hpre hag
  choose x g w wd y h0 h1 h2 h3 h4 using real m hpre
  refine ⟨_, _, _, _, Cert.Kernel14Ideal.FfnLoss.run m ρ x g w wd y h0 h1 h2 h3 h4, ?_⟩
  exact Cert.Reference14Ideal.FfnLoss.run m' ρ' x g w wd y (fun c => (hag c).1.trans (h0 c)) (fun c => (hag c).2.1.trans (h1 c)) (fun c => (hag c).2.2.1.trans (h2 c))
    (fun c => (hag c).2.2.2.1.trans (h3 c)) (fun c => (hag c).2.2.2.2.trans (h4 c))

end Cert.FfnLoss

end
-- ==== Proof.MlaPrepModel.lean ====
module

public import proofs.«01_k».proof.Proof.Lift

/-! The latent projections of the attention over the real numbers: `x` the rows of one latent, `g` their norm's gain, `w` the
projection to keys and values. -/

@[expose] public section

noncomputable section

open Idealize.ShloMosaic Idealize.ShloMosaic.TcCoe

namespace Model.MlaPrep

open Lift

/-- The normalised rows. -/
def nrm {R n : ℕ} (c : ℝ) (x : Fin R → Fin n → ℝ) (g : Fin 1 → Fin n → ℝ) (i : Fin R) (k : Fin n) : ℝ := x i k * rstd c (x i) * g 0 k

/-- The values' columns of the projection, 64 for each head of 128, and zeros. -/
def wv (w : Fin 256 → Fin 1024 → ℝ) (k : Fin 256) (j : Fin 1024) : ℝ := if h : j.val % 128 < 64 then w k ⟨j.val + 64, by omega⟩ else 0

/-- The values: 64 columns for each head, then a one, then zeros. -/
def vals {R : ℕ} (x : Fin R → Fin 256 → ℝ) (g : Fin 1 → Fin 256 → ℝ) (w : Fin 256 → Fin 1024 → ℝ) (i : Fin R) (j : Fin 1024) : ℝ :=
  if j.val % 128 = 64 then 1 else ∑ k, nrm 256 x g i k * wv w k j

theorem vals_of_lt {R : ℕ} (x : Fin R → Fin 256 → ℝ) (g : Fin 1 → Fin 256 → ℝ) (w : Fin 256 → Fin 1024 → ℝ) (i : Fin R) (j : Fin 1024) (h : j.val % 128 < 64) :
    vals x g w i j = ∑ k, nrm 256 x g i k * w k ⟨j.val + 64, by omega⟩ := by
  rw [vals, if_neg (by omega)]
  exact Finset.sum_congr rfl fun k _ => by rw [wv, dif_pos h]

theorem vals_of_eq {R : ℕ} (x : Fin R → Fin 256 → ℝ) (g : Fin 1 → Fin 256 → ℝ) (w : Fin 256 → Fin 1024 → ℝ) (i : Fin R) (j : Fin 1024) (h : j.val % 128 = 64) :
    vals x g w i j = 1 := if_pos h

theorem vals_of_gt {R : ℕ} (x : Fin R → Fin 256 → ℝ) (g : Fin 1 → Fin 256 → ℝ) (w : Fin 256 → Fin 1024 → ℝ) (i : Fin R) (j : Fin 1024) (h : 64 < j.val % 128) :
    vals x g w i j = 0 := by
  rw [vals, if_neg (by omega)]
  exact Finset.sum_eq_zero fun k _ => by rw [wv, dif_neg (by omega), mul_zero]

/-- Zero columns put after each group of 64. -/
theorem wv_at (w : Fin 256 → Fin 1024 → ℝ) (i0 : Fin 256) (i1 : Fin 1024) (h : Shape.Pads ⟨3, ![256, 8, 64]⟩ ![0, 0, 0] ![0, 0, 64] ![0, 0, 0] ⟨3, ![256, 8, 128]⟩)
    (hu : 0 < (⟨0, ![]⟩ : Shape).numel) (l0 l1) (l2 : ∀ i : (⟨3, ![256, 8, 64]⟩ : Shape).Idx, ((i 1).val * 64 + (i 2).val) / 64 * 128 + 64 + ((i 1).val * 64 + (i 2).val) % 64 < 1024) :
    pad ⟨3, ![256, 8, 128]⟩ ![0, 0, 0] ![0, 0, 64] ![0, 0, 0]
      (fun i : (⟨3, ![256, 8, 64]⟩ : Shape).Idx => mat .f32 w (ix2 (i 0) ⟨((i 1).val * 64 + (i 2).val) / 64 * 128 + 64 + ((i 1).val * 64 + (i 2).val) % 64, l2 i⟩))
      (sitofp (F := Ideal) .bf16 (constantI ⟨0, ![]⟩ 32 0#32)) h hu (ix3 i0 ⟨i1.val / 128, l0⟩ ⟨i1.val % 128, l1⟩) = ((wv w i0 i1 : ℝ) : EReal) := by
  have e : (sitofp (F := Ideal) .bf16 (constantI ⟨0, ![]⟩ 32 0#32)) (Shape.Idx.first hu) = ((0 : ℝ) : EReal) := by
    show (((0#32 : BitVec 32).toInt : ℝ) : EReal) = _
    simp
  rw [pad_apply, e]
  pointwise []
  simp only [wv]
  by_cases h : i1.val % 128 < 64
  · rw [dif_pos h, dif_pos ⟨l0, h⟩, mat_at]
    exact congrArg (fun j => ((w i0 j : ℝ) : EReal)) (Fin.ext (by dsimp only; omega))
  · rw [dif_neg h, dif_neg fun g => h g.2]

theorem w_384 : Ideal.ofBits .f32 0x43C00000#32 = ((384 : ℝ) : EReal) := by
  simp [Ideal.ofBits, Ideal.ieee, -EReal.coe_mul, -EReal.coe_neg]; norm_num
theorem w_256 : Ideal.ofBits .f32 0x43800000#32 = ((256 : ℝ) : EReal) := by
  simp [Ideal.ofBits, Ideal.ieee, -EReal.coe_mul, -EReal.coe_neg]; norm_num
theorem w_inv256 : Ideal.ofBits .f32 0x3B800000#32 = ((256⁻¹ : ℝ) : EReal) := by
  simp [Ideal.ofBits, Ideal.ieee, -EReal.coe_mul, -EReal.coe_neg]; norm_num
theorem w_one : Ideal.ofBits .f32 0x3F800000#32 = ((1 : ℝ) : EReal) := by
  simp [Ideal.ofBits, Ideal.ieee, -EReal.coe_mul, -EReal.coe_neg]; norm_num
theorem w_zero : Ideal.ofBits .f32 0x00000000#32 = ((0 : ℝ) : EReal) := by
  simp [Ideal.ofBits, Ideal.ieee]

end Model.MlaPrep

end
-- ==== Proof.MlaHeadsModel.lean ====
module

public import proofs.«01_k».proof.Proof.MlaPrepModel

/-! The queries and the keys over the real numbers: the norm of a head's 96 columns and the rotary embedding of its last 32,
once on rows of 96 and once, as the call computes them, on rows of 128 with zeros at the end. -/

@[expose] public section

noncomputable section

open Idealize.ShloMosaic Idealize.ShloMosaic.TcCoe

namespace Model.MlaPrep

open Lift

/-- The angle of the pair of columns `j` at the position `p`. -/
def ang (p : ℝ) (j : ℕ) : ℝ := p * (10000 : ℝ) ^ (-(j : ℝ) / 16)

/-- A head's normalised row. -/
def hn (u g : Fin 96 → ℝ) (k : Fin 96) : ℝ := u k * rstd 96 u * g k

/-- A head's normalised row with its last 32 columns turned by the position, and 32 zeros. -/
def turned (u g : Fin 96 → ℝ) (p : ℝ) (l : Fin 128) : ℝ :=
  if h : l.val < 96 then
    if h' : l.val < 64 then hn u g ⟨l.val, h⟩
    else if h'' : l.val - 64 < 16 then
      hn u g ⟨64 + (l.val - 64), by omega⟩ * Real.cos (ang p (l.val - 64)) - hn u g ⟨64 + (16 + (l.val - 64)), by omega⟩ * Real.sin (ang p (l.val - 64))
    else
      hn u g ⟨64 + (16 + (l.val - 64 - 16)), by omega⟩ * Real.cos (ang p (l.val - 64 - 16))
        + hn u g ⟨64 + (l.val - 64 - 16), by omega⟩ * Real.sin (ang p (l.val - 64 - 16))
  else 0

/-- The tables of the rotary embedding. -/
def tabC (p : ℝ) (l : Fin 128) : ℝ :=
  if l.val < 64 then 1 else if l.val - 64 < 16 then Real.cos (ang p (l.val - 64)) else if l.val - 64 - 16 < 16 then Real.cos (ang p (l.val - 64 - 16)) else 0
def tabL (p : ℝ) (l : Fin 128) : ℝ := if l.val < 64 then 0 else if l.val - 64 < 16 then -Real.sin (ang p (l.val - 64)) else 0
def tabR (p : ℝ) (l : Fin 128) : ℝ := if l.val < 80 then 0 else if l.val - 80 < 16 then Real.sin (ang p (l.val - 80)) else 0

/-- The norm and the rotary embedding of a row of 128 columns by three tables. -/
def turn (z G C L R : Fin 128 → ℝ) (l : Fin 128) : ℝ :=
  z l * rstd 96 z * G l * C l
    + z ⟨(l.val + 128 - 112) % 128, Nat.mod_lt _ (by decide)⟩ * rstd 96 z * G ⟨(l.val + 128 - 112) % 128, Nat.mod_lt _ (by decide)⟩ * L l
    + z ⟨(l.val + 128 - 16) % 128, Nat.mod_lt _ (by decide)⟩ * rstd 96 z * G ⟨(l.val + 128 - 16) % 128, Nat.mod_lt _ (by decide)⟩ * R l

/-- A row of 96 columns and 32 zeros. -/
def wide (u : Fin 96 → ℝ) (l : Fin 128) : ℝ := if h : l.val < 96 then u ⟨l.val, h⟩ else 0

theorem wide_at (u : Fin 96 → ℝ) (l : Fin 128) (k : Fin 96) (h : l.val = k.val) : wide u l = u k := by
  rw [wide, dif_pos (by omega)]
  exact congrArg u (Fin.ext h)

theorem rstd_wide (u : Fin 96 → ℝ) : rstd 96 (wide u) = rstd 96 u := by
  have e : ∑ k, wide u k * wide u k = ∑ k, u k * u k := by
    refine (Fin.sum_univ_add (a := 96) (b := 32) fun k : Fin (96 + 32) => wide u k * wide u k).trans ?_
    rw [Finset.sum_eq_zero (s := Finset.univ) (f := fun i : Fin 32 => wide u (Fin.natAdd 96 i) * wide u (Fin.natAdd 96 i)) fun i _ => ?_, add_zero]
    · exact Finset.sum_congr rfl fun i _ => by rw [wide_at u (Fin.castAdd 32 i) i rfl]
    · rw [wide, dif_neg (by simp [Fin.natAdd]), zero_mul]
  rw [rstd, rstd, e]

theorem turn_eq (u g : Fin 96 → ℝ) (p : ℝ) (l : Fin 128) : turn (wide u) (wide g) (tabC p) (tabL p) (tabR p) l = turned u g p l := by
  have lt := l.isLt
  simp only [turn, rstd_wide, turned, hn]
  by_cases a : l.val < 64
  · have b : l.val < 96 := by omega
    have c : l.val < 80 := by omega
    simp only [tabC, tabL, tabR, a, b, c, if_true, dif_pos, mul_zero, add_zero, mul_one]
    rw [wide_at u l ⟨l.val, b⟩ rfl, wide_at g l ⟨l.val, b⟩ rfl]
  by_cases b : l.val < 80
  · have c : l.val < 96 := by omega
    have d : l.val - 64 < 16 := by omega
    simp only [tabC, tabL, tabR, a, b, c, d, if_true, if_false, dif_pos, dif_neg, not_false_eq_true, mul_zero, add_zero]
    rw [wide_at u l ⟨64 + (l.val - 64), by omega⟩ (by dsimp only; omega), wide_at g l ⟨64 + (l.val - 64), by omega⟩ (by dsimp only; omega),
      wide_at u _ ⟨64 + (16 + (l.val - 64)), by omega⟩ (by dsimp only; omega), wide_at g _ ⟨64 + (16 + (l.val - 64)), by omega⟩ (by dsimp only; omega)]
    ring
  by_cases c : l.val < 96
  · have d : ¬ l.val - 64 < 16 := by omega
    have e : l.val - 64 - 16 < 16 := by omega
    have e' : l.val - 80 < 16 := by omega
    have e'' : l.val - 80 = l.val - 64 - 16 := by omega
    simp only [tabC, tabL, tabR, a, b, c, d, e, e', if_true, if_false, dif_pos, dif_neg, not_false_eq_true, mul_zero, add_zero]
    rw [wide_at u l ⟨64 + (16 + (l.val - 64 - 16)), by omega⟩ (by dsimp only; omega), wide_at g l ⟨64 + (16 + (l.val - 64 - 16)), by omega⟩ (by dsimp only; omega),
      wide_at u _ ⟨64 + (l.val - 64 - 16), by omega⟩ (by dsimp only; omega), wide_at g _ ⟨64 + (l.val - 64 - 16), by omega⟩ (by dsimp only; omega), e'']
  · have d : ¬ l.val - 64 < 16 := by omega
    have e : ¬ l.val - 64 - 16 < 16 := by omega
    have e' : ¬ l.val - 80 < 16 := by omega
    simp only [tabC, tabL, tabR, a, b, c, d, e, e', if_false, dif_neg, not_false_eq_true, mul_zero, add_zero]

/-- The queries' projection with 32 zero columns after each head, the keys' with 64. -/
def wq (w : Fin 384 → Fin 768 → ℝ) (k : Fin 384) (j : Fin 1024) : ℝ := if h : j.val % 128 < 96 then w k ⟨j.val / 128 * 96 + j.val % 128, by omega⟩ else 0
def wk (w : Fin 256 → Fin 1024 → ℝ) (k : Fin 256) (j : Fin 1024) : ℝ := if j.val % 128 < 64 then w k j else 0

/-- The rotary key between 64 and 32 zero columns. -/
def kr {R : ℕ} (r : Fin R → Fin 32 → ℝ) (i : Fin R) (l : Fin 128) : ℝ := if h : 64 ≤ l.val ∧ l.val - 64 < 32 then r i ⟨l.val - 64, h.2⟩ else 0

/-- A head's row of the queries, and of the keys with the rotary key at the end. -/
def qrow {R : ℕ} (x : Fin R → Fin 384 → ℝ) (g : Fin 1 → Fin 384 → ℝ) (w : Fin 384 → Fin 768 → ℝ) (i : Fin R) (h : Fin 8) (k : Fin 96) : ℝ :=
  ∑ e, nrm 384 x g i e * w e ⟨h.val * 96 + k.val, by omega⟩
def krow {R : ℕ} (y : Fin R → Fin 256 → ℝ) (f : Fin 1 → Fin 256 → ℝ) (w : Fin 256 → Fin 1024 → ℝ) (r : Fin R → Fin 32 → ℝ) (i : Fin R) (h : Fin 8) (k : Fin 96) : ℝ :=
  if p : k.val < 64 then ∑ e, nrm 256 y f i e * w e ⟨h.val * 128 + k.val, by omega⟩ else r i ⟨k.val - 64, by omega⟩

def queries {R : ℕ} (x : Fin R → Fin 384 → ℝ) (g : Fin 1 → Fin 384 → ℝ) (w : Fin 384 → Fin 768 → ℝ) (a : Fin 1 → Fin 96 → ℝ) (p : Fin R → ℝ) (i : Fin R) (j : Fin 1024) : ℝ :=
  turned (qrow x g w i ⟨j.val / 128, by omega⟩) (a 0) (p i) ⟨j.val % 128, by omega⟩ * (√96 * Real.log 2)⁻¹
def keys {R : ℕ} (y : Fin R → Fin 256 → ℝ) (f : Fin 1 → Fin 256 → ℝ) (w : Fin 256 → Fin 1024 → ℝ) (r : Fin R → Fin 32 → ℝ) (a : Fin 1 → Fin 96 → ℝ) (p : Fin R → ℝ)
    (i : Fin R) (j : Fin 1024) : ℝ :=
  turned (krow y f w r i ⟨j.val / 128, by omega⟩) (a 0) (p i) ⟨j.val % 128, by omega⟩

/-- The queries and keys by the padded projections and the tables. -/
def qpad {R : ℕ} (x : Fin R → Fin 384 → ℝ) (g : Fin 1 → Fin 384 → ℝ) (W : Fin 384 → Fin 1024 → ℝ) (G : Fin 1 → Fin 128 → ℝ) (C L T : Fin R → Fin 128 → ℝ) :
    Fin R → Fin 1024 → ℝ :=
  join (N := 8) rfl fun h i l => turn (cols (h.val * 128) 128 (by omega) (fun i j => ∑ e, nrm 384 x g i e * W e j) i) (G 0) (C i) (L i) (T i) l * (√96 * Real.log 2)⁻¹
def kpad {R : ℕ} (y : Fin R → Fin 256 → ℝ) (f : Fin 1 → Fin 256 → ℝ) (W : Fin 256 → Fin 1024 → ℝ) (r : Fin R → Fin 128 → ℝ) (G : Fin 1 → Fin 128 → ℝ)
    (C L T : Fin R → Fin 128 → ℝ) : Fin R → Fin 1024 → ℝ :=
  join (N := 8) rfl fun h i l =>
    turn (fun l => cols (h.val * 128) 128 (by omega) (fun i j => ∑ e, nrm 256 y f i e * W e j) i l + r i l) (G 0) (C i) (L i) (T i) l

theorem qpad_eq {R : ℕ} (x : Fin R → Fin 384 → ℝ) (g : Fin 1 → Fin 384 → ℝ) (w : Fin 384 → Fin 768 → ℝ) (a : Fin 1 → Fin 96 → ℝ) (p : Fin R → ℝ) (i : Fin R) (j : Fin 1024) :
    qpad x g (wq w) (fun i => wide (a i)) (fun i => tabC (p i)) (fun i => tabL (p i)) (fun i => tabR (p i)) i j = queries x g w a p i j := by
  rw [qpad, join, queries, ← turn_eq]
  refine congrArg (fun z => turn z _ _ _ _ _ * _) (funext fun l => ?_)
  have lt := l.isLt
  unfold cols wide qrow wq
  by_cases h : l.val < 96
  · rw [dif_pos h]
    refine Finset.sum_congr rfl fun e _ => ?_
    rw [dif_pos (by dsimp only; omega)]
    exact congrArg (fun k => _ * w e k) (Fin.ext (by dsimp only; omega))
  · rw [dif_neg h]
    exact Finset.sum_eq_zero fun e _ => by rw [dif_neg (by dsimp only; omega), mul_zero]

theorem kpad_eq {R : ℕ} (y : Fin R → Fin 256 → ℝ) (f : Fin 1 → Fin 256 → ℝ) (w : Fin 256 → Fin 1024 → ℝ) (r : Fin R → Fin 32 → ℝ) (a : Fin 1 → Fin 96 → ℝ) (p : Fin R → ℝ)
    (i : Fin R) (j : Fin 1024) :
    kpad y f (wk w) (kr r) (fun i => wide (a i)) (fun i => tabC (p i)) (fun i => tabL (p i)) (fun i => tabR (p i)) i j = keys y f w r a p i j := by
  rw [kpad, join, keys, ← turn_eq]
  refine congrArg (fun z => turn z _ _ _ _ _) (funext fun l => ?_)
  have lt := l.isLt
  unfold cols wide krow wk kr
  by_cases h : l.val < 64
  · rw [dif_pos (by omega : l.val < 96), dif_pos h, dif_neg (by omega), add_zero]
    refine Finset.sum_congr rfl fun e _ => ?_
    rw [if_pos (by dsimp only; omega)]
  · dsimp only
    rw [Finset.sum_eq_zero fun e _ => by rw [if_neg (by omega), mul_zero], zero_add]
    by_cases h' : l.val < 96
    · rw [dif_pos h', dif_pos ⟨by omega, by omega⟩, dif_neg h]
    · rw [dif_neg h', dif_neg (by omega)]

/-- Eight stores of one head's columns each, read back. -/
theorem canon_heads8 {Val : EltTy → Type} [∀ e, Nonempty (Val e)] {e : EltTy} {a : ℕ} (D : Fin a → Fin 1024 → Val e)
    (w0 w1 w2 w3 w4 w5 w6 w7 : (⟨2, ![a, 128]⟩ : Shape).Idx → Val e) (L : List (View.Piece Val ⟨2, ![a, 1024]⟩ e)) (b0 b1 b2 b3 b4 b5 b6 b7)
    (e0 : ∀ i l h, w0 (ix2 i l) = D i ⟨0 + l.val, h⟩) (e1 : ∀ i l h, w1 (ix2 i l) = D i ⟨128 + l.val, h⟩)
    (e2 : ∀ i l h, w2 (ix2 i l) = D i ⟨256 + l.val, h⟩) (e3 : ∀ i l h, w3 (ix2 i l) = D i ⟨384 + l.val, h⟩)
    (e4 : ∀ i l h, w4 (ix2 i l) = D i ⟨512 + l.val, h⟩) (e5 : ∀ i l h, w5 (ix2 i l) = D i ⟨640 + l.val, h⟩)
    (e6 : ∀ i l h, w6 (ix2 i l) = D i ⟨768 + l.val, h⟩) (e7 : ∀ i l h, w7 (ix2 i l) = D i ⟨896 + l.val, h⟩) (i : Fin a) (j : Fin 1024) :
    View.canon (s := ⟨2, ![a, 1024]⟩) (⟨Rect.unit ![0, 896] ![a, 128] b7, w7⟩ :: ⟨Rect.unit ![0, 768] ![a, 128] b6, w6⟩
      :: ⟨Rect.unit ![0, 640] ![a, 128] b5, w5⟩ :: ⟨Rect.unit ![0, 512] ![a, 128] b4, w4⟩
      :: ⟨Rect.unit ![0, 384] ![a, 128] b3, w3⟩ :: ⟨Rect.unit ![0, 256] ![a, 128] b2, w2⟩
      :: ⟨Rect.unit ![0, 128] ![a, 128] b1, w1⟩ :: ⟨Rect.unit ![0, 0] ![a, 128] b0, w0⟩ :: L) (ix2 i j) = D i j := by
  have lt := j.isLt
  simp only [canon_cols]
  split_ifs
  · rw [e7 _ _ (by dsimp only; omega)]; exact congrArg (D i) (Fin.ext (by dsimp only; omega))
  · rw [e6 _ _ (by dsimp only; omega)]; exact congrArg (D i) (Fin.ext (by dsimp only; omega))
  · rw [e5 _ _ (by dsimp only; omega)]; exact congrArg (D i) (Fin.ext (by dsimp only; omega))
  · rw [e4 _ _ (by dsimp only; omega)]; exact congrArg (D i) (Fin.ext (by dsimp only; omega))
  · rw [e3 _ _ (by dsimp only; omega)]; exact congrArg (D i) (Fin.ext (by dsimp only; omega))
  · rw [e2 _ _ (by dsimp only; omega)]; exact congrArg (D i) (Fin.ext (by dsimp only; omega))
  · rw [e1 _ _ (by dsimp only; omega)]; exact congrArg (D i) (Fin.ext (by dsimp only; omega))
  · rw [e0 _ _ (by dsimp only; omega)]; exact congrArg (D i) (Fin.ext (by dsimp only; omega))
  · omega

/-- The programs' cosines and sines. -/
theorem w_16 : Ideal.ofBits .f32 0x41800000#32 = ((16 : ℝ) : EReal) := by
  simp [Ideal.ofBits, Ideal.ieee, -EReal.coe_mul, -EReal.coe_neg]; norm_num
theorem w_96 : Ideal.ofBits .f32 0x42C00000#32 = ((96 : ℝ) : EReal) := by
  simp [Ideal.ofBits, Ideal.ieee, -EReal.coe_mul, -EReal.coe_neg]; norm_num
theorem w_two : Ideal.ofBits .f32 0x40000000#32 = ((2 : ℝ) : EReal) := by
  simp [Ideal.ofBits, Ideal.ieee, -EReal.coe_mul, -EReal.coe_neg]; norm_num
theorem w_base : Ideal.ofBits .f32 0x461C4000#32 = ((10000 : ℝ) : EReal) := by
  simp [Ideal.ofBits, Ideal.ieee, -EReal.coe_mul, -EReal.coe_neg]; norm_num

theorem ang_at (b : BitVec 32) (k : ℕ) (hk : k < 128) : (FloatOps.sitofp .f32 b : Ideal .f32) * Ideal.pow (Ideal.ofBits .f32 0x461C4000#32)
    (Ideal.div (-(FloatOps.sitofp .f32 (BitVec.ofNat 32 k) : Ideal .f32)) (Ideal.ofBits .f32 0x41800000#32)) = ((ang (b.toInt : ℝ) k : ℝ) : EReal) := by
  have e : (FloatOps.sitofp .f32 (BitVec.ofNat 32 k) : Ideal .f32) = (((k : ℝ)) : EReal) := by
    show ((((BitVec.ofNat 32 k).toInt : ℝ)) : EReal) = _
    have h : (BitVec.ofNat 32 k).toInt = (k : ℤ) := (by decide +kernel : ∀ k : Fin 128, (BitVec.ofNat 32 k.val).toInt = (k.val : ℤ)) ⟨k, hk⟩
    rw [h, Int.cast_natCast]
  rw [e, w_16, w_base, ← EReal.coe_neg, div_ne (by norm_num)]
  show (((b.toInt : ℝ)) : EReal) * Ideal.pow ((10000 : ℝ) : EReal) ((-(k : ℝ) / 16 : ℝ) : EReal) = _
  rw [Ideal.pow_coe_coe, ← EReal.coe_mul]
  rfl

end Model.MlaPrep

end
-- ==== Proof.MlaHeads.lean ====
module

public import proofs.«01_k».proof.Proof.Gen.Kernel15Ideal.Value
public import proofs.«01_k».proof.Proof.MlaHeadsModel

/-! The call that prepares the attention: the queries' and keys' blocks. -/

@[expose] public section

set_option maxRecDepth 16384

noncomputable section

open Idealize.ShloMosaic Idealize.ShloMosaic.TcCoe Idealize.SL.Sem

namespace Cert.Kernel15Ideal.MlaPrep

open Cert.Kernel15Ideal Cert.Kernel15Ideal.Gen Lift
open Model.MlaPrep

theorem inv384 : Named.named (F := Ideal) κ "inv384" (φ := .f32) 0x3B2AAAAB#32 = ((384⁻¹ : ℝ) : EReal) := by
  show (((1 / 384 : ℝ)) : EReal) = _
  norm_num

theorem inv96 : Named.named (F := Ideal) κ "inv96" (φ := .f32) 0x3C2AAAAB#32 = ((96⁻¹ : ℝ) : EReal) := by
  show (((1 / 96 : ℝ)) : EReal) = _
  norm_num

theorem scale : Named.named (F := Ideal) κ "scale" (φ := .f32) 0x3E16C740#32 = (((√96 * Real.log 2)⁻¹ : ℝ) : EReal) := rfl

theorem q_at (x : Fin 256 → Fin 384 → ℝ) (g : Fin 1 → Fin 384 → ℝ) : k0_pay5 (F := Ideal) (mat .f32 x) (mat .f32 g) = mat .bf16 (nrm 384 x g) := by
  funext i
  idx_vars i
  pointwise [k0_pay5]
  simp (disch := norm_num) only [mat_at, ← EReal.coe_mul, ← EReal.coe_add, coe_sum, w_eps, inv384, ← div_eq_mul_inv, rsqrt_ms, nrm]

theorem kv_at (x : Fin 256 → Fin 256 → ℝ) (g : Fin 1 → Fin 256 → ℝ) :
    k0_pay8 (F := Ideal) (mat .f32 x) (k0_pay7 (mat .f32 x)) (mat .f32 g) = mat .bf16 (nrm 256 x g) := by
  funext i
  idx_vars i
  pointwise [k0_pay7, k0_pay8]
  simp (disch := norm_num) only [mat_at, ← EReal.coe_mul, ← EReal.coe_add, coe_sum, w_eps, w_inv256, ← div_eq_mul_inv, rsqrt_ms, nrm]

theorem ql_at (x : Fin 256 → Fin 384 → ℝ) (g : Fin 1 → Fin 384 → ℝ) (W : Fin 384 → Fin 1024 → ℝ) :
    k0_pay6 (F := Ideal) (mat .f32 x) (mat .f32 g) (mat .bf16 W) = mat .f32 fun i j => ∑ e, nrm 384 x g i e * W e j := by
  funext i
  idx_vars i
  unfold k0_pay6
  rw [q_at]
  pointwise []
  simp only [mat_at, ← EReal.coe_mul, coe_sum]

theorem kl_at (y : Fin 256 → Fin 256 → ℝ) (f : Fin 1 → Fin 256 → ℝ) (W : Fin 256 → Fin 1024 → ℝ) :
    k0_pay9 (F := Ideal) (mat .f32 y) (k0_pay7 (mat .f32 y)) (mat .f32 f) (mat .bf16 W) = mat .f32 fun i j => ∑ e, nrm 256 y f i e * W e j := by
  funext i
  idx_vars i
  unfold k0_pay9
  rw [kv_at]
  pointwise []
  simp only [mat_at, ← EReal.coe_mul, coe_sum]

theorem id2 (v : Vec Ideal S256x128 .f32) : k0_pay2 (F := Ideal) v = v := by
  funext i
  idx_vars i
  pointwise [k0_pay2]
theorem id3 (v : Vec Ideal S256x128 .f32) : k0_pay3 (F := Ideal) v = v := by
  funext i
  idx_vars i
  pointwise [k0_pay3]
theorem id4 (v : Vec Ideal S256x128 .f32) : k0_pay4 (F := Ideal) v = v := by
  funext i
  idx_vars i
  pointwise [k0_pay4]
theorem id11 (v : Vec Ideal S256x128 .f32) : k0_pay11 (F := Ideal) v = v := by
  funext i
  idx_vars i
  pointwise [k0_pay11]

section
variable (C L T : Fin 256 → Fin 128 → ℝ) (z : Fin 256 → Fin 1024 → ℝ) (r : Fin 256 → Fin 128 → ℝ) (g : Fin 1 → Fin 128 → ℝ) (i : Fin 256) (l : Fin 128)

theorem q0 : k0_pay12 (F := Ideal) (mat .f32 C) (mat .f32 L) (mat .f32 T) (mat .f32 z) (mat .f32 g) (ix2 i l)
    = ((turn (cols 0 128 (by decide) z i) (g 0) (C i) (L i) (T i) l * (√96 * Real.log 2)⁻¹ : ℝ) : EReal) := by
  unfold k0_pay12
  simp only [slice_at (φ := .f32) (o := 0) (n := 128) z _ (by decide)]
  pointwise []
  simp (disch := norm_num) only [mat_at, ← EReal.coe_mul, ← EReal.coe_add, coe_sum, w_eps, inv96, scale, ← div_eq_mul_inv, rsqrt_ms]
  rfl

theorem q1 : k0_pay16 (F := Ideal) (mat .f32 C) (mat .f32 L) (mat .f32 T) (mat .f32 z) (mat .f32 g) (ix2 i l)
    = ((turn (cols 128 128 (by decide) z i) (g 0) (C i) (L i) (T i) l * (√96 * Real.log 2)⁻¹ : ℝ) : EReal) := by
  unfold k0_pay16
  simp only [slice_at (φ := .f32) (o := 128) (n := 128) z _ (by decide)]
  pointwise []
  simp (disch := norm_num) only [mat_at, ← EReal.coe_mul, ← EReal.coe_add, coe_sum, w_eps, inv96, scale, ← div_eq_mul_inv, rsqrt_ms]
  rfl

theorem q2 : k0_pay20 (F := Ideal) (mat .f32 C) (mat .f32 L) (mat .f32 T) (mat .f32 z) (mat .f32 g) (ix2 i l)
    = ((turn (cols 256 128 (by decide) z i) (g 0) (C i) (L i) (T i) l * (√96 * Real.log 2)⁻¹ : ℝ) : EReal) := by
  unfold k0_pay20
  simp only [slice_at (φ := .f32) (o := 256) (n := 128) z _ (by decide)]
  pointwise []
  simp (disch := norm_num) only [mat_at, ← EReal.coe_mul, ← EReal.coe_add, coe_sum, w_eps, inv96, scale, ← div_eq_mul_inv, rsqrt_ms]
  rfl

theorem q3 : k0_pay25 (F := Ideal) (mat .f32 L) (mat .f32 T) (k0_pay22 (mat .f32 z) (mat .f32 g)) (k0_pay23 (mat .f32 C) (mat .f32 z) (mat .f32 g)) (k0_pay24 (mat .f32 z) (mat .f32 g)) (ix2 i l)
    = ((turn (cols 384 128 (by decide) z i) (g 0) (C i) (L i) (T i) l * (√96 * Real.log 2)⁻¹ : ℝ) : EReal) := by
  unfold k0_pay25 k0_pay24 k0_pay23 k0_pay22
  simp only [slice_at (φ := .f32) (o := 384) (n := 128) z _ (by decide)]
  pointwise []
  simp (disch := norm_num) only [mat_at, ← EReal.coe_mul, ← EReal.coe_add, coe_sum, w_eps, inv96, scale, ← div_eq_mul_inv, rsqrt_ms]
  rfl

theorem q4 : k0_pay29 (F := Ideal) (mat .f32 C) (mat .f32 L) (mat .f32 T) (k0_pay27 (mat .f32 z)) (k0_pay28 (mat .f32 z)) (mat .f32 g) (ix2 i l)
    = ((turn (cols 512 128 (by decide) z i) (g 0) (C i) (L i) (T i) l * (√96 * Real.log 2)⁻¹ : ℝ) : EReal) := by
  unfold k0_pay29 k0_pay28 k0_pay27
  simp only [slice_at (φ := .f32) (o := 512) (n := 128) z _ (by decide)]
  pointwise []
  simp (disch := norm_num) only [mat_at, ← EReal.coe_mul, ← EReal.coe_add, coe_sum, w_eps, inv96, scale, ← div_eq_mul_inv, rsqrt_ms]
  rfl

theorem q5 : k0_pay31 (F := Ideal) (mat .f32 C) (mat .f32 L) (mat .f32 T) (mat .f32 z) (mat .f32 g) (ix2 i l)
    = ((turn (cols 640 128 (by decide) z i) (g 0) (C i) (L i) (T i) l * (√96 * Real.log 2)⁻¹ : ℝ) : EReal) := by
  unfold k0_pay31
  simp only [slice_at (φ := .f32) (o := 640) (n := 128) z _ (by decide)]
  pointwise []
  simp (disch := norm_num) only [mat_at, ← EReal.coe_mul, ← EReal.coe_add, coe_sum, w_eps, inv96, scale, ← div_eq_mul_inv, rsqrt_ms]
  rfl

theorem q6 : k0_pay35 (F := Ideal) (mat .f32 C) (mat .f32 L) (mat .f32 T) (mat .f32 z) (mat .f32 g) (ix2 i l)
    = ((turn (cols 768 128 (by decide) z i) (g 0) (C i) (L i) (T i) l * (√96 * Real.log 2)⁻¹ : ℝ) : EReal) := by
  unfold k0_pay35
  simp only [slice_at (φ := .f32) (o := 768) (n := 128) z _ (by decide)]
  pointwise []
  simp (disch := norm_num) only [mat_at, ← EReal.coe_mul, ← EReal.coe_add, coe_sum, w_eps, inv96, scale, ← div_eq_mul_inv, rsqrt_ms]
  rfl

theorem q7 : k0_pay39 (F := Ideal) (mat .f32 C) (mat .f32 L) (mat .f32 T) (mat .f32 z) (mat .f32 g) (ix2 i l)
    = ((turn (cols 896 128 (by decide) z i) (g 0) (C i) (L i) (T i) l * (√96 * Real.log 2)⁻¹ : ℝ) : EReal) := by
  unfold k0_pay39
  simp only [slice_at (φ := .f32) (o := 896) (n := 128) z _ (by decide)]
  pointwise []
  simp (disch := norm_num) only [mat_at, ← EReal.coe_mul, ← EReal.coe_add, coe_sum, w_eps, inv96, scale, ← div_eq_mul_inv, rsqrt_ms]
  rfl

theorem k0 : k0_pay15 (F := Ideal) (mat .f32 L) (mat .f32 T) (k0_pay13 (mat .f32 z) (mat .f32 r) (mat .f32 g)) (k0_pay14 (mat .f32 C) (mat .f32 z) (mat .f32 r) (mat .f32 g)) (ix2 i l)
    = ((turn (fun l => cols 0 128 (by decide) z i l + r i l) (g 0) (C i) (L i) (T i) l : ℝ) : EReal) := by
  unfold k0_pay15 k0_pay14 k0_pay13
  rw [id11]
  simp only [slice_at (φ := .f32) (o := 0) (n := 128) z _ (by decide)]
  pointwise []
  simp (disch := norm_num) only [mat_at, ← EReal.coe_mul, ← EReal.coe_add, coe_sum, w_eps, inv96, scale, ← div_eq_mul_inv, rsqrt_ms]
  rfl

theorem k1 : k0_pay19 (F := Ideal) (mat .f32 C) (mat .f32 L) (mat .f32 T) (k0_pay17 (mat .f32 z) (mat .f32 r)) (k0_pay18 (mat .f32 z) (mat .f32 r)) (Scalar.ofBits .f32 0x358637BD#32) (mat .f32 g) (ix2 i l)
    = ((turn (fun l => cols 128 128 (by decide) z i l + r i l) (g 0) (C i) (L i) (T i) l : ℝ) : EReal) := by
  unfold k0_pay19 k0_pay18 k0_pay17
  simp only [slice_at (φ := .f32) (o := 128) (n := 128) z _ (by decide)]
  pointwise []
  simp (disch := norm_num) only [mat_at, ← EReal.coe_mul, ← EReal.coe_add, coe_sum, w_eps, inv96, scale, ← div_eq_mul_inv, rsqrt_ms]
  rfl

theorem k2 : k0_pay21 (F := Ideal) (mat .f32 C) (mat .f32 L) (mat .f32 T) (mat .f32 z) (mat .f32 r) (mat .f32 g) (ix2 i l)
    = ((turn (fun l => cols 256 128 (by decide) z i l + r i l) (g 0) (C i) (L i) (T i) l : ℝ) : EReal) := by
  unfold k0_pay21
  simp only [slice_at (φ := .f32) (o := 256) (n := 128) z _ (by decide)]
  pointwise []
  simp (disch := norm_num) only [mat_at, ← EReal.coe_mul, ← EReal.coe_add, coe_sum, w_eps, inv96, scale, ← div_eq_mul_inv, rsqrt_ms]
  rfl

theorem k3 : k0_pay26 (F := Ideal) (mat .f32 C) (mat .f32 L) (mat .f32 T) (mat .f32 z) (mat .f32 r) (mat .f32 g) (ix2 i l)
    = ((turn (fun l => cols 384 128 (by decide) z i l + r i l) (g 0) (C i) (L i) (T i) l : ℝ) : EReal) := by
  unfold k0_pay26
  simp only [slice_at (φ := .f32) (o := 384) (n := 128) z _ (by decide)]
  pointwise []
  simp (disch := norm_num) only [mat_at, ← EReal.coe_mul, ← EReal.coe_add, coe_sum, w_eps, inv96, scale, ← div_eq_mul_inv, rsqrt_ms]
  rfl

theorem k4 : k0_pay30 (F := Ideal) (mat .f32 C) (mat .f32 L) (mat .f32 T) (mat .f32 z) (mat .f32 r) (mat .f32 g) (ix2 i l)
    = ((turn (fun l => cols 512 128 (by decide) z i l + r i l) (g 0) (C i) (L i) (T i) l : ℝ) : EReal) := by
  unfold k0_pay30
  simp only [slice_at (φ := .f32) (o := 512) (n := 128) z _ (by decide)]
  pointwise []
  simp (disch := norm_num) only [mat_at, ← EReal.coe_mul, ← EReal.coe_add, coe_sum, w_eps, inv96, scale, ← div_eq_mul_inv, rsqrt_ms]
  rfl

theorem k5 : k0_pay34 (F := Ideal) (mat .f32 L) (mat .f32 T) (k0_pay32 (mat .f32 z) (mat .f32 r) (mat .f32 g)) (k0_pay33 (mat .f32 C) (mat .f32 z) (mat .f32 r) (mat .f32 g)) (ix2 i l)
    = ((turn (fun l => cols 640 128 (by decide) z i l + r i l) (g 0) (C i) (L i) (T i) l : ℝ) : EReal) := by
  unfold k0_pay34 k0_pay33 k0_pay32
  simp only [slice_at (φ := .f32) (o := 640) (n := 128) z _ (by decide)]
  pointwise []
  simp (disch := norm_num) only [mat_at, ← EReal.coe_mul, ← EReal.coe_add, coe_sum, w_eps, inv96, scale, ← div_eq_mul_inv, rsqrt_ms]
  rfl

theorem k6 : k0_pay38 (F := Ideal) (mat .f32 C) (mat .f32 L) (mat .f32 T) (k0_pay36 (mat .f32 z) (mat .f32 r)) (k0_pay37 (mat .f32 z) (mat .f32 r)) (Scalar.ofBits .f32 0x358637BD#32) (mat .f32 g) (ix2 i l)
    = ((turn (fun l => cols 768 128 (by decide) z i l + r i l) (g 0) (C i) (L i) (T i) l : ℝ) : EReal) := by
  unfold k0_pay38 k0_pay37 k0_pay36
  simp only [slice_at (φ := .f32) (o := 768) (n := 128) z _ (by decide)]
  pointwise []
  simp (disch := norm_num) only [mat_at, ← EReal.coe_mul, ← EReal.coe_add, coe_sum, w_eps, inv96, scale, ← div_eq_mul_inv, rsqrt_ms]
  rfl

theorem k7 : k0_pay1 (F := Ideal) (mat .f32 C) (mat .f32 L) (mat .f32 T) (mat .f32 z) (mat .f32 r) (mat .f32 g) (ix2 i l)
    = ((turn (fun l => cols 896 128 (by decide) z i l + r i l) (g 0) (C i) (L i) (T i) l : ℝ) : EReal) := by
  unfold k0_pay1
  simp only [slice_at (φ := .f32) (o := 896) (n := 128) z _ (by decide)]
  pointwise []
  simp (disch := norm_num) only [mat_at, ← EReal.coe_mul, ← EReal.coe_add, coe_sum, w_eps, inv96, scale, ← div_eq_mul_inv, rsqrt_ms]
  rfl

end

section
variable (x : Fin 256 → Fin 384 → ℝ) (y : Fin 256 → Fin 256 → ℝ) (r : Fin 256 → Fin 128 → ℝ) (g : Fin 1 → Fin 384 → ℝ) (f : Fin 1 → Fin 256 → ℝ)
  (a b : Fin 1 → Fin 128 → ℝ) (W : Fin 384 → Fin 1024 → ℝ) (X : Fin 256 → Fin 1024 → ℝ) (x9 : Vec Ideal S256x1024 .bf16) (C L T : Fin 256 → Fin 128 → ℝ)

theorem queries_out : out0_13 (F := Ideal) (mat .f32 x) (mat .f32 y) (mat .f32 r) (mat .f32 g) (mat .f32 f) (mat .f32 a) (mat .f32 b) (mat .bf16 W) (mat .bf16 X) x9
    (mat .f32 C) (mat .f32 L) (mat .f32 T) = mat .bf16 (qpad x g W a C L T) := by
  unfold_out out0_13
  simp only [id2, id3, id4]
  frame_out
  rw [ql_at]
  funext i
  idx_vars i
  rw [mat_at]
  refine canon_heads8 (Val := Elt Ideal) (e := .bf16) (fun i j => ((qpad x g W a C L T i j : ℝ) : EReal)) _ _ _ _ _ _ _ _ _ _ _ _ _ _ _ _ _ ?_ ?_ ?_ ?_ ?_ ?_ ?_ ?_ _ _
  · intro i l p; beta_reduce; rw [q0, qpad, join_at (N := 8) rfl _ 0 (by decide)]; rfl
  · intro i l p; beta_reduce; rw [q1, qpad, join_at (N := 8) rfl _ 1 (by decide)]; rfl
  · intro i l p; beta_reduce; rw [q2, qpad, join_at (N := 8) rfl _ 2 (by decide)]; rfl
  · intro i l p; beta_reduce; rw [q3, qpad, join_at (N := 8) rfl _ 3 (by decide)]; rfl
  · intro i l p; beta_reduce; rw [q4, qpad, join_at (N := 8) rfl _ 4 (by decide)]; rfl
  · intro i l p; beta_reduce; rw [q5, qpad, join_at (N := 8) rfl _ 5 (by decide)]; rfl
  · intro i l p; beta_reduce; rw [q6, qpad, join_at (N := 8) rfl _ 6 (by decide)]; rfl
  · intro i l p; beta_reduce; rw [q7, qpad, join_at (N := 8) rfl _ 7 (by decide)]; rfl

theorem keys_out : out0_14 (F := Ideal) (mat .f32 x) (mat .f32 y) (mat .f32 r) (mat .f32 g) (mat .f32 f) (mat .f32 a) (mat .f32 b) (mat .bf16 W) (mat .bf16 X) x9
    (mat .f32 C) (mat .f32 L) (mat .f32 T) = mat .bf16 (kpad y f X r b C L T) := by
  unfold_out out0_14
  simp only [id2, id3, id4, id11]
  frame_out
  rw [kl_at]
  funext i
  idx_vars i
  rw [mat_at]
  refine canon_heads8 (Val := Elt Ideal) (e := .bf16) (fun i j => ((kpad y f X r b C L T i j : ℝ) : EReal)) _ _ _ _ _ _ _ _ _ _ _ _ _ _ _ _ _ ?_ ?_ ?_ ?_ ?_ ?_ ?_ ?_ _ _
  · intro i l p; beta_reduce; rw [k0, kpad, join_at (N := 8) rfl _ 0 (by decide)]; rfl
  · intro i l p; beta_reduce; rw [k1, kpad, join_at (N := 8) rfl _ 1 (by decide)]; rfl
  · intro i l p; beta_reduce; rw [k2, kpad, join_at (N := 8) rfl _ 2 (by decide)]; rfl
  · intro i l p; beta_reduce; rw [k3, kpad, join_at (N := 8) rfl _ 3 (by decide)]; rfl
  · intro i l p; beta_reduce; rw [k4, kpad, join_at (N := 8) rfl _ 4 (by decide)]; rfl
  · intro i l p; beta_reduce; rw [k5, kpad, join_at (N := 8) rfl _ 5 (by decide)]; rfl
  · intro i l p; beta_reduce; rw [k6, kpad, join_at (N := 8) rfl _ 6 (by decide)]; rfl
  · intro i l p; beta_reduce; rw [k7, kpad, join_at (N := 8) rfl _ 7 (by decide)]; rfl

end

end Cert.Kernel15Ideal.MlaPrep

end
-- ==== Proof.MlaHost.lean ====
module

public import proofs.«01_k».proof.Proof.Gen.Kernel15Ideal.Value
public import proofs.«01_k».proof.Proof.MlaHeadsModel

/-! The call that prepares the attention: what the host computes before it. -/

@[expose] public section

set_option maxRecDepth 16384

noncomputable section

open Idealize.ShloMosaic Idealize.ShloMosaic.TcCoe Idealize.SL.Sem

namespace Cert.Kernel15Ideal.MlaPrep

open Cert.Kernel15Ideal Cert.Kernel15Ideal.Gen Lift
open Model.MlaPrep

theorem zero_at (φ : FTy) (hu : 0 < S_.numel) : (sitofp (F := Ideal) φ (constantI S_ 32 0#32)) (Shape.Idx.first hu) = ((0 : ℝ) : EReal) := by
  show (((0#32 : BitVec 32).toInt : ℝ) : EReal) = _
  simp

/-- Zero columns put after each group of 96, and of 64. -/
theorem wq_at (w : Fin 384 → Fin 768 → ℝ) (i0 : Fin 384) (i1 : Fin 1024) (h : Shape.Pads ⟨3, ![384, 8, 96]⟩ ![0, 0, 0] ![0, 0, 32] ![0, 0, 0] ⟨3, ![384, 8, 128]⟩)
    (hu : 0 < (⟨0, ![]⟩ : Shape).numel) (l0 l1) (l2 : ∀ i : (⟨3, ![384, 8, 96]⟩ : Shape).Idx, (i 1).val * 96 + (i 2).val < 768) :
    pad ⟨3, ![384, 8, 128]⟩ ![0, 0, 0] ![0, 0, 32] ![0, 0, 0]
      (fun i : (⟨3, ![384, 8, 96]⟩ : Shape).Idx => mat .f32 w (ix2 (i 0) ⟨(i 1).val * 96 + (i 2).val, l2 i⟩))
      (sitofp (F := Ideal) .bf16 (constantI ⟨0, ![]⟩ 32 0#32)) h hu (ix3 i0 ⟨i1.val / 128, l0⟩ ⟨i1.val % 128, l1⟩) = ((wq w i0 i1 : ℝ) : EReal) := by
  have e : (sitofp (F := Ideal) .bf16 (constantI ⟨0, ![]⟩ 32 0#32)) (Shape.Idx.first hu) = ((0 : ℝ) : EReal) := by
    show (((0#32 : BitVec 32).toInt : ℝ) : EReal) = _
    simp
  rw [pad_apply, e]
  pointwise []
  simp only [wq]
  by_cases h : i1.val % 128 < 96
  · rw [dif_pos h, dif_pos ⟨l0, h⟩, mat_at]
  · rw [dif_neg h, dif_neg fun g => h g.2]

theorem wk_at (w : Fin 256 → Fin 1024 → ℝ) (i0 : Fin 256) (i1 : Fin 1024) (h : Shape.Pads ⟨3, ![256, 8, 64]⟩ ![0, 0, 0] ![0, 0, 64] ![0, 0, 0] ⟨3, ![256, 8, 128]⟩)
    (hu : 0 < (⟨0, ![]⟩ : Shape).numel) (l0 l1) (l2 : ∀ i : (⟨3, ![256, 8, 64]⟩ : Shape).Idx, ((i 1).val * 64 + (i 2).val) / 64 * 128 + ((i 1).val * 64 + (i 2).val) % 64 < 1024) :
    pad ⟨3, ![256, 8, 128]⟩ ![0, 0, 0] ![0, 0, 64] ![0, 0, 0]
      (fun i : (⟨3, ![256, 8, 64]⟩ : Shape).Idx => mat .f32 w (ix2 (i 0) ⟨((i 1).val * 64 + (i 2).val) / 64 * 128 + ((i 1).val * 64 + (i 2).val) % 64, l2 i⟩))
      (sitofp (F := Ideal) .bf16 (constantI ⟨0, ![]⟩ 32 0#32)) h hu (ix3 i0 ⟨i1.val / 128, l0⟩ ⟨i1.val % 128, l1⟩) = ((wk w i0 i1 : ℝ) : EReal) := by
  have e : (sitofp (F := Ideal) .bf16 (constantI ⟨0, ![]⟩ 32 0#32)) (Shape.Idx.first hu) = ((0 : ℝ) : EReal) := by
    show (((0#32 : BitVec 32).toInt : ℝ) : EReal) = _
    simp
  rw [pad_apply, e]
  pointwise []
  simp only [wk]
  by_cases h : i1.val % 128 < 64
  · rw [if_pos h, dif_pos ⟨l0, h⟩, mat_at]
    exact congrArg (fun j => ((w i0 j : ℝ) : EReal)) (Fin.ext (by dsimp only; omega))
  · rw [if_neg h, dif_neg fun g => h g.2]

variable (m : (ℓ : Loc nD τ sig) → Buf (Elt Ideal) ℓ) (c : Dev nD)

theorem V_wq (w : Fin 384 → Fin 768 → ℝ) (h : m ((c : Thread nD τ).loc main_arg5) = mat .f32 w) : V m c main_v3 = mat .bf16 (wq w) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  rw [h]
  try simp only [StableHlo.TRef.toBuf, StableHlo.TRef.ofBuf]
  clean_types
  funext i
  idx_vars i
  pointwise []
  try simp only [cast_eq]
  have l2 (i : (⟨3, ![384, 8, 96]⟩ : Shape).Idx) : (i 1).val * 96 + (i 2).val < 768 := by
    have a : (i 1).val < 8 := (i 1).isLt
    have b : (i 2).val < 96 := (i 2).isLt
    omega
  exact wq_at w i0 i1 pads_S384x8x96_S384x8x128_000_000_0320 h_S_ (by omega) (by omega) l2

theorem V_wk (w : Fin 256 → Fin 1024 → ℝ) (h : m ((c : Thread nD τ).loc main_arg7) = mat .f32 w) : V m c main_v11 = mat .bf16 (wk w) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  rw [h]
  try simp only [StableHlo.TRef.toBuf, StableHlo.TRef.ofBuf]
  clean_types
  funext i
  idx_vars i
  pointwise []
  try simp only [cast_eq]
  have l2 (i : (⟨3, ![256, 8, 64]⟩ : Shape).Idx) : ((i 1).val * 64 + (i 2).val) / 64 * 128 + ((i 1).val * 64 + (i 2).val) % 64 < 1024 := by
    have a : (i 1).val < 8 := (i 1).isLt
    have b : (i 2).val < 64 := (i 2).isLt
    omega
  exact wk_at w i0 i1 pads_S256x8x64_S256x8x128_000_000_0640 h_S_ (by omega) (by omega) l2

theorem V_qg (w : Fin 1 → Fin 96 → ℝ) (h : m ((c : Thread nD τ).loc main_arg8) = mat .f32 w) : V m c main_v18 = mat .f32 (fun i => wide (w i)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  rw [h]
  try simp only [StableHlo.TRef.toBuf, StableHlo.TRef.ofBuf]
  clean_types
  funext i
  idx_vars i
  obtain rfl : i0 = 0 := Subsingleton.elim _ _
  pointwise []
  try simp only [cast_eq]
  rw [mat_at]
  rw [pad_apply, zero_at]
  pointwise []
  simp only [wide]
  by_cases p : i1.val < 96
  · rw [dif_pos p, dif_pos p, mat_at]
  · rw [dif_neg p, dif_neg p]

theorem V_kg (w : Fin 1 → Fin 96 → ℝ) (h : m ((c : Thread nD τ).loc main_arg9) = mat .f32 w) : V m c main_v19 = mat .f32 (fun i => wide (w i)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  rw [h]
  try simp only [StableHlo.TRef.toBuf, StableHlo.TRef.ofBuf]
  clean_types
  funext i
  idx_vars i
  obtain rfl : i0 = 0 := Subsingleton.elim _ _
  pointwise []
  try simp only [cast_eq]
  rw [mat_at]
  rw [pad_apply, zero_at]
  pointwise []
  simp only [wide]
  by_cases p : i1.val < 96
  · rw [dif_pos p, dif_pos p, mat_at]
  · rw [dif_neg p, dif_neg p]

theorem V_kr (w : Fin 8192 → Fin 32 → ℝ) (h : m ((c : Thread nD τ).loc main_arg2) = mat .f32 w) : V m c main_v20 = mat .f32 (kr w) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  rw [h]
  try simp only [StableHlo.TRef.toBuf, StableHlo.TRef.ofBuf]
  clean_types
  funext i
  idx_vars i
  pointwise []
  try simp only [cast_eq]
  rw [mat_at]
  rw [pad_apply, zero_at]
  pointwise []
  simp only [kr]
  by_cases p : 64 ≤ i1.val ∧ i1.val - 64 < 32
  · rw [dif_pos p, dif_pos p, mat_at]
  · rw [dif_neg p, dif_neg p]

/-- The positions. -/
def pos (i : Fin 8192) : ℝ := ((m ((c : Thread nD τ).loc main_arg3) (ix1 i) : BitVec 32).toInt : ℝ)

theorem V_c : V m c main_v37 = mat .f32 (fun i => tabC (pos m c i)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  dsimp only [Matrix.cons_val_zero, Matrix.cons_val_one, Matrix.cons_val]
  simp -beta -eta -iota -proj -zeta -decide only [↓ StableHlo.readResult, ↓ StableHlo.readPieces, -eq_self]
  try simp only [StableHlo.TRef.toBuf, StableHlo.TRef.ofBuf]
  clean_types
  funext i
  idx_vars i
  rw [mat_at]
  pointwise []
  try simp only [cast_eq]
  simp only [tabC]
  by_cases a : i1.val < 64
  · rw [dif_pos a, if_pos a]
    exact EReal.coe_one.symm
  rw [dif_neg a, if_neg a]
  by_cases b : i1.val - 64 < 16
  · rw [dif_pos b, if_pos b, ang_at _ _ (by omega)]
    rfl
  rw [dif_neg b, if_neg b]
  by_cases d : i1.val - 64 - 16 < 16
  · rw [dif_pos d, if_pos d, ang_at _ _ (by omega)]
    rfl
  · rw [dif_neg d, if_neg d]
    exact EReal.coe_zero.symm

theorem V_l : V m c main_v41 = mat .f32 (fun i => tabL (pos m c i)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  dsimp only [Matrix.cons_val_zero, Matrix.cons_val_one, Matrix.cons_val]
  simp -beta -eta -iota -proj -zeta -decide only [↓ StableHlo.readResult, ↓ StableHlo.readPieces, -eq_self]
  try simp only [StableHlo.TRef.toBuf, StableHlo.TRef.ofBuf]
  clean_types
  funext i
  idx_vars i
  rw [mat_at]
  pointwise []
  try simp only [cast_eq]
  simp only [tabL]
  by_cases a : i1.val < 64
  · rw [dif_pos a, if_pos a]
    exact EReal.coe_zero.symm
  rw [dif_neg a, if_neg a]
  by_cases b : i1.val - 64 < 16
  · rw [dif_pos b, if_pos b, ang_at _ _ (by omega)]
    rfl
  · rw [dif_neg b, if_neg b]
    exact EReal.coe_zero.symm

theorem V_r : V m c main_v44 = mat .f32 (fun i => tabR (pos m c i)) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  dsimp only [Matrix.cons_val_zero, Matrix.cons_val_one, Matrix.cons_val]
  simp -beta -eta -iota -proj -zeta -decide only [↓ StableHlo.readResult, ↓ StableHlo.readPieces, -eq_self]
  try simp only [StableHlo.TRef.toBuf, StableHlo.TRef.ofBuf]
  clean_types
  funext i
  idx_vars i
  rw [mat_at]
  pointwise []
  try simp only [cast_eq]
  simp only [tabR]
  by_cases a : i1.val < 80
  · rw [dif_pos a, if_pos a]
    exact EReal.coe_zero.symm
  rw [dif_neg a, if_neg a]
  by_cases b : i1.val - 80 < 16
  · rw [dif_pos b, if_pos b, ang_at _ _ (by omega)]
    rfl
  · rw [dif_neg b, if_neg b]
    exact EReal.coe_zero.symm

end Cert.Kernel15Ideal.MlaPrep

end
-- ==== Proof.MlaPrep.lean ====
module

public import proofs.«01_k».proof.Proof.MlaHeads
public import proofs.«01_k».proof.Proof.MlaHost

/-! The call that prepares the attention: its five results. -/

@[expose] public section

set_option maxRecDepth 16384

noncomputable section

open Idealize.ShloMosaic Idealize.ShloMosaic.TcCoe Idealize.SL.Sem
open Idealize.ShloMosaic.Pipeline (Dat)

namespace Cert.Kernel15Ideal.MlaPrep

open Cert.Kernel15Ideal Cert.Kernel15Ideal.Gen Lift
open Model.MlaPrep

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0] :=
  (by decide +kernel : ∀ t : Fin grid0.N, _)

/-- The body's test for lane 64 of a head. -/
theorem lane : ∀ j : Fin 1024, (IntOp.cmpi CmpIPredicate.eq
        (Scalar.select
          (IntOp.andi
            (IntOp.xori
              (IntOp.cmpi CmpIPredicate.slt
                (IntOp.remsi ArithUnit.vector (BitVec.ofNat 32 j.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 j.val)
                (Scalar.select (Scalar.cmpi CmpIPredicate.eq 128#32 0#32) 1#32 128#32))
              0#32))
          (IntOp.addi
            (IntOp.remsi ArithUnit.vector (BitVec.ofNat 32 j.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 j.val)
            (Scalar.select (Scalar.cmpi CmpIPredicate.eq 128#32 0#32) 1#32 128#32)))
        64#32) = if j.val % 128 = 64 then 1#1 else 0#1 := by
  decide +kernel

theorem v_at (x : Fin 256 → Fin 256 → ℝ) (g : Fin 1 → Fin 256 → ℝ) (w : Fin 256 → Fin 1024 → ℝ) :
    k0_pay10 (F := Ideal) (mat .f32 x) (k0_pay7 (mat .f32 x)) (mat .f32 g) (mat .bf16 (wv w)) = mat .bf16 (vals x g w) := by
  funext i
  idx_vars i
  unfold k0_pay10
  rw [kv_at]
  pointwise []
  rw [lane]
  simp only [mat_at, ← EReal.coe_mul, coe_sum, vals, ← coe_ite]
  unfold Scalar.select
  split_ifs <;> first | rfl | omega | contradiction

section
variable (x : Fin 256 → Fin 384 → ℝ) (y : Fin 256 → Fin 256 → ℝ) (g : Fin 1 → Fin 384 → ℝ) (f : Fin 1 → Fin 256 → ℝ) (w : Fin 256 → Fin 1024 → ℝ)
  (x2 : Vec Ideal S256x128 .f32) (x5 x6 : Vec Ideal S1x128 .f32) (x7 : Vec Ideal S384x1024 .bf16) (x8 : Vec Ideal S256x1024 .bf16)
  (x10 x11 x12 : Vec Ideal S256x128 .f32)

theorem v_out : out0_15 (F := Ideal) (mat .f32 x) (mat .f32 y) x2 (mat .f32 g) (mat .f32 f) x5 x6 x7 x8 (mat .bf16 (wv w)) x10 x11 x12 = mat .bf16 (vals y f w) := by
  unfold_out out0_15
  frame_out
  rw [v_at]

theorem q_out : out0_16 (F := Ideal) (mat .f32 x) (mat .f32 y) x2 (mat .f32 g) (mat .f32 f) x5 x6 x7 x8 (mat .bf16 (wv w)) x10 x11 x12 = mat .bf16 (nrm 384 x g) := by
  unfold_out out0_16
  frame_out
  rw [q_at]

theorem kv_out : out0_17 (F := Ideal) (mat .f32 x) (mat .f32 y) x2 (mat .f32 g) (mat .f32 f) x5 x6 x7 x8 (mat .bf16 (wv w)) x10 x11 x12 = mat .bf16 (nrm 256 y f) := by
  unfold_out out0_17
  frame_out
  rw [kv_at]

end

section
variable (m : (ℓ : Loc nD τ sig) → Buf (Elt Ideal) ℓ) (c : Dev nD) (w : Fin 256 → Fin 1024 → ℝ)
  (h7 : m ((c : Thread nD τ).loc main_arg7) = mat .f32 w)

include h7 in
theorem V_w : V m c main_v17 = mat .bf16 (wv w) := by
  unfold V hostOps0 hostOps0_1 hostOps0_2 hostOps0_3 hostOps0_4 hostOps0_5 hostOps0_6 hostOps0_7 hostOps0_8 hostOps0_9 hostOps0_10 hostOps0_11 hostOps0_12
  simp only [List.flatten_cons, List.flatten_nil, List.cons_append, List.nil_append]
  after_results
  rw [h7]
  try simp only [StableHlo.TRef.toBuf, StableHlo.TRef.ofBuf]
  clean_types
  funext i
  idx_vars i
  pointwise []
  have l2 (i : (⟨3, ![256, 8, 64]⟩ : Shape).Idx) : ((i 1).val * 64 + (i 2).val) / 64 * 128 + 64 + ((i 1).val * 64 + (i 2).val) % 64 < 1024 := by
    have a : (i 1).val < 8 := (i 1).isLt
    have b : (i 2).val < 64 := (i 2).isLt
    omega
  simp only [cast_eq]
  exact wv_at w i0 i1 pads_S256x8x64_S256x8x128_000_000_0640 h_S_ (by omega) (by omega) l2

variable (x : Fin 8192 → Fin 384 → ℝ) (y : Fin 8192 → Fin 256 → ℝ) (r : Fin 8192 → Fin 32 → ℝ) (g : Fin 1 → Fin 384 → ℝ) (u : Fin 384 → Fin 768 → ℝ)
  (f : Fin 1 → Fin 256 → ℝ) (a b : Fin 1 → Fin 96 → ℝ)
  (h0 : m ((c : Thread nD τ).loc main_arg0) = mat .f32 x) (h1 : m ((c : Thread nD τ).loc main_arg1) = mat .f32 y)
  (h2 : m ((c : Thread nD τ).loc main_arg2) = mat .f32 r) (h4 : m ((c : Thread nD τ).loc main_arg4) = mat .f32 g)
  (h5 : m ((c : Thread nD τ).loc main_arg5) = mat .f32 u) (h6 : m ((c : Thread nD τ).loc main_arg6) = mat .f32 f)
  (h8 : m ((c : Thread nD τ).loc main_arg8) = mat .f32 a) (h9 : m ((c : Thread nD τ).loc main_arg9) = mat .f32 b)

include h0 h1 h2 h4 h5 h6 h7 h8 h9 in
set_option maxHeartbeats 4000000 in
/-- The blocks that the body reads, as the model's. -/
theorem blocks (t : Fin cfg0.N) : iblk m c 0 t = mat .f32 (tile 256 x t.val) ∧ iblk m c 1 t = mat .f32 (tile 256 y t.val)
    ∧ iblk m c 2 t = mat .f32 (tile 256 (kr r) t.val) ∧ iblk m c 3 t = mat .f32 g ∧ iblk m c 4 t = mat .f32 f
    ∧ iblk m c 5 t = mat .f32 (fun i => wide (a i)) ∧ iblk m c 6 t = mat .f32 (fun i => wide (b i))
    ∧ iblk m c 7 t = mat .bf16 (wq u) ∧ iblk m c 8 t = mat .bf16 (wk w) ∧ iblk m c 9 t = mat .bf16 (wv w)
    ∧ iblk m c 10 t = mat .f32 (tile 256 (fun i => tabC (pos m c i)) t.val) ∧ iblk m c 11 t = mat .f32 (tile 256 (fun i => tabL (pos m c i)) t.val)
    ∧ iblk m c 12 t = mat .f32 (tile 256 (fun i => tabR (pos m c i)) t.val) := by
  have v := V_w m c w h7
  refine ⟨?_, ?_, ?_, ?_, ?_, ?_, ?_, ?_, ?_, ?_, ?_, ?_, ?_⟩
  all_goals
    funext i
    idx_vars i
    blk_simp [iblk, idx t]
  · rw [V_main_arg0, h0]; exact mat_tile _ _ _ _ _ (by blk_simp [idx t]) (by blk_simp [idx t])
  · rw [V_main_arg1, h1]; exact mat_tile _ _ _ _ _ (by blk_simp [idx t]) (by blk_simp [idx t])
  · rw [V_kr m c r h2]; exact mat_tile _ _ _ _ _ (by blk_simp [idx t]) (by blk_simp [idx t])
  · rw [V_main_arg4, h4]; exact mat_whole _ _ _ _ (by blk_simp [idx t]) (by blk_simp [idx t])
  · rw [V_main_arg6, h6]; exact mat_whole _ _ _ _ (by blk_simp [idx t]) (by blk_simp [idx t])
  · rw [V_qg m c a h8]; exact mat_whole _ _ _ _ (by blk_simp [idx t]) (by blk_simp [idx t])
  · rw [V_kg m c b h9]; exact mat_whole _ _ _ _ (by blk_simp [idx t]) (by blk_simp [idx t])
  · rw [V_wq m c u h5]; exact mat_whole _ _ _ _ (by blk_simp [idx t]) (by blk_simp [idx t])
  · rw [V_wk m c w h7]; exact mat_whole _ _ _ _ (by blk_simp [idx t]) (by blk_simp [idx t])
  · rw [v]; exact mat_whole _ _ _ _ (by blk_simp [idx t]) (by blk_simp [idx t])
  · rw [V_c]; exact mat_tile _ _ _ _ _ (by blk_simp [idx t]) (by blk_simp [idx t])
  · rw [V_l]; exact mat_tile _ _ _ _ _ (by blk_simp [idx t]) (by blk_simp [idx t])
  · rw [V_r]; exact mat_tile _ _ _ _ _ (by blk_simp [idx t]) (by blk_simp [idx t])

end

theorem nrm_tile {n : ℕ} (r : ℝ) (x : Fin 8192 → Fin n → ℝ) (g : Fin 1 → Fin n → ℝ) (t : ℕ) (i : Fin 256) (k : Fin n) (h : t * 256 + i.val < 8192) :
    nrm r (tile 256 x t) g i k = nrm r x g ⟨t * 256 + i.val, h⟩ k := by
  rw [nrm, nrm, tile_row x h]

theorem vals_tile (y : Fin 8192 → Fin 256 → ℝ) (f : Fin 1 → Fin 256 → ℝ) (w : Fin 256 → Fin 1024 → ℝ) (t : ℕ) (i : Fin 256) (j : Fin 1024) (h : t * 256 + i.val < 8192) :
    vals (tile 256 y t) f w i j = vals y f w ⟨t * 256 + i.val, h⟩ j := by
  simp only [vals, nrm_tile _ y f t i _ h]

theorem qpad_tile (x : Fin 8192 → Fin 384 → ℝ) (g : Fin 1 → Fin 384 → ℝ) (W : Fin 384 → Fin 1024 → ℝ) (G : Fin 1 → Fin 128 → ℝ) (C L T : Fin 8192 → Fin 128 → ℝ)
    (t : ℕ) (i : Fin 256) (j : Fin 1024) (h : t * 256 + i.val < 8192) :
    qpad (tile 256 x t) g W G (tile 256 C t) (tile 256 L t) (tile 256 T t) i j = qpad x g W G C L T ⟨t * 256 + i.val, h⟩ j := by
  unfold qpad join cols
  simp only [nrm_tile _ x g t i _ h, tile_row C h, tile_row L h, tile_row T h]

theorem kpad_tile (y : Fin 8192 → Fin 256 → ℝ) (f : Fin 1 → Fin 256 → ℝ) (W : Fin 256 → Fin 1024 → ℝ) (r : Fin 8192 → Fin 128 → ℝ) (G : Fin 1 → Fin 128 → ℝ)
    (C L T : Fin 8192 → Fin 128 → ℝ) (t : ℕ) (i : Fin 256) (j : Fin 1024) (h : t * 256 + i.val < 8192) :
    kpad (tile 256 y t) f W (tile 256 r t) G (tile 256 C t) (tile 256 L t) (tile 256 T t) i j = kpad y f W r G C L T ⟨t * 256 + i.val, h⟩ j := by
  unfold kpad join cols
  simp only [nrm_tile _ y f t i _ h, tile_row r h, tile_row C h, tile_row L h, tile_row T h]

set_option maxHeartbeats 1000000 in
/-- The call's results are the model's, for finite arguments. -/
theorem run (m : (ℓ : Loc nD τ sig) → Buf (Elt Ideal) ℓ) (ρ : Dev nD → PrngReg)
    (x : Dev nD → Fin 8192 → Fin 384 → ℝ) (y : Dev nD → Fin 8192 → Fin 256 → ℝ) (r : Dev nD → Fin 8192 → Fin 32 → ℝ) (g : Dev nD → Fin 1 → Fin 384 → ℝ)
    (u : Dev nD → Fin 384 → Fin 768 → ℝ) (f : Dev nD → Fin 1 → Fin 256 → ℝ) (w : Dev nD → Fin 256 → Fin 1024 → ℝ) (a b : Dev nD → Fin 1 → Fin 96 → ℝ)
    (h0 : ∀ c : Dev nD, m ((c : Thread nD τ).loc main_arg0) = mat .f32 (x c))
    (h1 : ∀ c : Dev nD, m ((c : Thread nD τ).loc main_arg1) = mat .f32 (y c))
    (h2 : ∀ c : Dev nD, m ((c : Thread nD τ).loc main_arg2) = mat .f32 (r c))
    (h4 : ∀ c : Dev nD, m ((c : Thread nD τ).loc main_arg4) = mat .f32 (g c))
    (h5 : ∀ c : Dev nD, m ((c : Thread nD τ).loc main_arg5) = mat .f32 (u c))
    (h6 : ∀ c : Dev nD, m ((c : Thread nD τ).loc main_arg6) = mat .f32 (f c))
    (h7 : ∀ c : Dev nD, m ((c : Thread nD τ).loc main_arg7) = mat .f32 (w c))
    (h8 : ∀ c : Dev nD, m ((c : Thread nD τ).loc main_arg8) = mat .f32 (a c))
    (h9 : ∀ c : Dev nD, m ((c : Thread nD τ).loc main_arg9) = mat .f32 (b c)) :
    θ_run defs (onTc (τ := τ) (main (F := Ideal))) ⟨m, fun _ => 0, ρ⟩ fun z => ∀ c : Dev nD,
      z.2.mem ((c : Thread nD τ).loc main_v45_0) = mat .bf16 (queries (x c) (g c) (u c) (a c) (pos m c))
      ∧ z.2.mem ((c : Thread nD τ).loc main_v45_1) = mat .bf16 (keys (y c) (f c) (w c) (r c) (b c) (pos m c))
      ∧ z.2.mem ((c : Thread nD τ).loc main_v45_2) = mat .bf16 (vals (y c) (f c) (w c))
      ∧ z.2.mem ((c : Thread nD τ).loc main_v45_3) = mat .bf16 (nrm 384 (x c) (g c))
      ∧ z.2.mem ((c : Thread nD τ).loc main_v45_4) = mat .bf16 (nrm 256 (y c) (f c))
      ∧ z.2.mem ((c : Thread nD τ).loc main_arg0) = m ((c : Thread nD τ).loc main_arg0)
      ∧ z.2.mem ((c : Thread nD τ).loc main_arg1) = m ((c : Thread nD τ).loc main_arg1)
      ∧ z.2.mem ((c : Thread nD τ).loc main_arg2) = m ((c : Thread nD τ).loc main_arg2)
      ∧ z.2.mem ((c : Thread nD τ).loc main_arg3) = m ((c : Thread nD τ).loc main_arg3)
      ∧ z.2.mem ((c : Thread nD τ).loc main_arg4) = m ((c : Thread nD τ).loc main_arg4)
      ∧ z.2.mem ((c : Thread nD τ).loc main_arg5) = m ((c : Thread nD τ).loc main_arg5)
      ∧ z.2.mem ((c : Thread nD τ).loc main_arg6) = m ((c : Thread nD τ).loc main_arg6)
      ∧ z.2.mem ((c : Thread nD τ).loc main_arg7) = m ((c : Thread nD τ).loc main_arg7)
      ∧ z.2.mem ((c : Thread nD τ).loc main_arg8) = m ((c : Thread nD τ).loc main_arg8)
      ∧ z.2.mem ((c : Thread nD τ).loc main_arg9) = m ((c : Thread nD τ).loc main_arg9) := by
  refine (θ_run defs _ _).mono (fun z h c => ?_) (Cert.Kernel15Ideal.Value.run_blocks m ρ)
  obtain ⟨e0, e1, e2, e3, e4, hargs⟩ := h c
  have B := blocks m c (w c) (h7 c) (x c) (y c) (r c) (g c) (u c) (f c) (a c) (b c) (h0 c) (h1 c) (h2 c) (h4 c) (h5 c) (h6 c) (h8 c) (h9 c)
  refine ⟨e0.trans ?_, e1.trans ?_, e2.trans ?_, e3.trans ?_, e4.trans ?_, hargs⟩
  · refine (dats m 0 c).arrAt_eq_of_covers 13 _ (by decide +kernel) fun t hf z => ?_
    obtain ⟨b0, b1, b2, b3, b4, b5, b6, b7, b8, b9, b10, b11, b12⟩ := B t
    blk_simp
    rw [after0_13, b0, b1, b2, b3, b4, b5, b6, b7, b8, b9, b10, b11, b12, queries_out]
    idx_vars z
    have lt : t.val < 32 := lt_of_lt_of_eq t.isLt N_0
    rw [mat_at, qpad_tile _ _ _ _ _ _ _ _ _ _ (by omega), qpad_eq]
    exact (mat_whole _ ⟨t.val * 256 + z0.val, by omega⟩ z1 _ (by blk_simp [idx t]) (by blk_simp [idx t])).symm
  · refine (dats m 0 c).arrAt_eq_of_covers 14 _ (by decide +kernel) fun t hf z => ?_
    obtain ⟨b0, b1, b2, b3, b4, b5, b6, b7, b8, b9, b10, b11, b12⟩ := B t
    blk_simp
    rw [after0_14, b0, b1, b2, b3, b4, b5, b6, b7, b8, b9, b10, b11, b12, keys_out]
    idx_vars z
    have lt : t.val < 32 := lt_of_lt_of_eq t.isLt N_0
    rw [mat_at, kpad_tile _ _ _ _ _ _ _ _ _ _ _ (by omega), kpad_eq]
    exact (mat_whole _ ⟨t.val * 256 + z0.val, by omega⟩ z1 _ (by blk_simp [idx t]) (by blk_simp [idx t])).symm
  · refine (dats m 0 c).arrAt_eq_of_covers 15 _ (by decide +kernel) fun t hf z => ?_
    obtain ⟨b0, b1, b2, b3, b4, b5, b6, b7, b8, b9, b10, b11, b12⟩ := B t
    blk_simp
    rw [after0_15, b0, b1, b2, b3, b4, b5, b6, b7, b8, b9, b10, b11, b12, v_out]
    idx_vars z
    have lt : t.val < 32 := lt_of_lt_of_eq t.isLt N_0
    rw [mat_at, vals_tile _ _ _ _ _ _ (by omega)]
    exact (mat_whole _ ⟨t.val * 256 + z0.val, by omega⟩ z1 _ (by blk_simp [idx t]) (by blk_simp [idx t])).symm
  · refine (dats m 0 c).arrAt_eq_of_covers 16 _ (by decide +kernel) fun t hf z => ?_
    obtain ⟨b0, b1, b2, b3, b4, b5, b6, b7, b8, b9, b10, b11, b12⟩ := B t
    blk_simp
    rw [after0_16, b0, b1, b2, b3, b4, b5, b6, b7, b8, b9, b10, b11, b12, q_out]
    idx_vars z
    have lt : t.val < 32 := lt_of_lt_of_eq t.isLt N_0
    rw [mat_at, nrm_tile _ _ _ _ _ _ (by omega)]
    exact (mat_whole _ ⟨t.val * 256 + z0.val, by omega⟩ z1 _ (by blk_simp [idx t]) (by blk_simp [idx t])).symm
  · refine (dats m 0 c).arrAt_eq_of_covers 17 _ (by decide +kernel) fun t hf z => ?_
    obtain ⟨b0, b1, b2, b3, b4, b5, b6, b7, b8, b9, b10, b11, b12⟩ := B t
    blk_simp
    rw [after0_17, b0, b1, b2, b3, b4, b5, b6, b7, b8, b9, b10, b11, b12, kv_out]
    idx_vars z
    have lt : t.val < 32 := lt_of_lt_of_eq t.isLt N_0
    rw [mat_at, nrm_tile _ _ _ _ _ _ (by omega)]
    exact (mat_whole _ ⟨t.val * 256 + z0.val, by omega⟩ z1 _ (by blk_simp [idx t]) (by blk_simp [idx t])).symm

end Cert.Kernel15Ideal.MlaPrep

end
-- ==== Proof.MlaPrepRef.lean ====
module

public import proofs.«01_k».proof.Proof.Gen.Reference15Ideal.Run
public import proofs.«01_k».proof.Proof.MlaHeadsModel

@[expose] public section

set_option maxRecDepth 16384

noncomputable section

open Idealize.ShloMosaic Idealize.ShloMosaic.TcCoe Idealize.SL.Sem

namespace Cert.Reference15Ideal.MlaPrep

open Cert.Reference15Ideal Cert.Reference15Ideal.Gen Lift
open Model.MlaPrep

theorem cos_at (r : ℝ) : Ideal.cos ((r : ℝ) : EReal) = ((Real.cos r : ℝ) : EReal) := rfl
theorem sin_at (r : ℝ) : Ideal.sin ((r : ℝ) : EReal) = ((Real.sin r : ℝ) : EReal) := rfl

theorem scale_at (z : ℝ) : Ideal.div (Ideal.div ((z : ℝ) : EReal) (id (Host.sqrt (F := Ideal) (constant S_ FTy.f32 0x42C00000#32)) ix0))
    (id (Host.log (F := Ideal) (constant S_ FTy.f32 0x40000000#32)) ix0) = ((z * (√96 * Real.log 2)⁻¹ : ℝ) : EReal) := by
  have s : id (Host.sqrt (F := Ideal) (constant S_ FTy.f32 0x42C00000#32)) ix0 = ((√96 : ℝ) : EReal) := by
    show Ideal.sqrt (Ideal.ofBits .f32 0x42C00000#32) = _
    rw [w_96]
    rw [Ideal.sqrt_coe, if_neg (by norm_num)]
  have l : id (Host.log (F := Ideal) (constant S_ FTy.f32 0x40000000#32)) ix0 = ((Real.log 2 : ℝ) : EReal) := by
    show Ideal.log (Ideal.ofBits .f32 0x40000000#32) = _
    rw [w_two]
    rw [Ideal.log_coe, if_neg (by norm_num)]
  rw [s, l, div_ne (by positivity), div_ne (Real.log_pos (by norm_num)).ne']
  rw [mul_inv, div_div, div_eq_mul_inv, mul_inv]

theorem turned_of_lt (u g : Fin 96 → ℝ) (p : ℝ) (l : ℕ) (hl : l < 128) (h : l < 96) : turned u g p ⟨l, hl⟩ =
    if h' : l < 64 then hn u g ⟨l, h⟩
    else if h'' : l - 64 < 16 then
      hn u g ⟨64 + (l - 64), by omega⟩ * Real.cos (ang p (l - 64)) - hn u g ⟨64 + (16 + (l - 64)), by omega⟩ * Real.sin (ang p (l - 64))
    else
      hn u g ⟨64 + (16 + (l - 64 - 16)), by omega⟩ * Real.cos (ang p (l - 64 - 16))
        + hn u g ⟨64 + (l - 64 - 16), by omega⟩ * Real.sin (ang p (l - 64 - 16)) := dif_pos h

theorem queries_of_lt {R : ℕ} (x : Fin R → Fin 384 → ℝ) (g : Fin 1 → Fin 384 → ℝ) (w : Fin 384 → Fin 768 → ℝ) (a : Fin 1 → Fin 96 → ℝ) (p : Fin R → ℝ) (i : Fin R) (j : Fin 1024)
    (hj : j.val % 128 < 96) :
    queries x g w a p i j = (if h' : j.val % 128 < 64 then hn (qrow x g w i ⟨j.val / 128, by omega⟩) (a 0) ⟨j.val % 128, hj⟩
      else if h'' : j.val % 128 - 64 < 16 then
        hn (qrow x g w i ⟨j.val / 128, by omega⟩) (a 0) ⟨64 + (j.val % 128 - 64), by omega⟩ * Real.cos (ang (p i) (j.val % 128 - 64))
          - hn (qrow x g w i ⟨j.val / 128, by omega⟩) (a 0) ⟨64 + (16 + (j.val % 128 - 64)), by omega⟩ * Real.sin (ang (p i) (j.val % 128 - 64))
      else
        hn (qrow x g w i ⟨j.val / 128, by omega⟩) (a 0) ⟨64 + (16 + (j.val % 128 - 64 - 16)), by omega⟩ * Real.cos (ang (p i) (j.val % 128 - 64 - 16))
          + hn (qrow x g w i ⟨j.val / 128, by omega⟩) (a 0) ⟨64 + (j.val % 128 - 64 - 16), by omega⟩ * Real.sin (ang (p i) (j.val % 128 - 64 - 16))) * (√96 * Real.log 2)⁻¹ :=
  congrArg (· * (√96 * Real.log 2)⁻¹) (turned_of_lt _ _ _ _ _ hj)

theorem keys_of_lt {R : ℕ} (y : Fin R → Fin 256 → ℝ) (f : Fin 1 → Fin 256 → ℝ) (w : Fin 256 → Fin 1024 → ℝ) (r : Fin R → Fin 32 → ℝ) (a : Fin 1 → Fin 96 → ℝ) (p : Fin R → ℝ)
    (i : Fin R) (j : Fin 1024) (hj : j.val % 128 < 96) :
    keys y f w r a p i j = if h' : j.val % 128 < 64 then hn (krow y f w r i ⟨j.val / 128, by omega⟩) (a 0) ⟨j.val % 128, hj⟩
      else if h'' : j.val % 128 - 64 < 16 then
        hn (krow y f w r i ⟨j.val / 128, by omega⟩) (a 0) ⟨64 + (j.val % 128 - 64), by omega⟩ * Real.cos (ang (p i) (j.val % 128 - 64))
          - hn (krow y f w r i ⟨j.val / 128, by omega⟩) (a 0) ⟨64 + (16 + (j.val % 128 - 64)), by omega⟩ * Real.sin (ang (p i) (j.val % 128 - 64))
      else
        hn (krow y f w r i ⟨j.val / 128, by omega⟩) (a 0) ⟨64 + (16 + (j.val % 128 - 64 - 16)), by omega⟩ * Real.cos (ang (p i) (j.val % 128 - 64 - 16))
          + hn (krow y f w r i ⟨j.val / 128, by omega⟩) (a 0) ⟨64 + (j.val % 128 - 64 - 16), by omega⟩ * Real.sin (ang (p i) (j.val % 128 - 64 - 16)) :=
  turned_of_lt _ _ _ _ _ hj

theorem krow_ge {R : ℕ} (y : Fin R → Fin 256 → ℝ) (f : Fin 1 → Fin 256 → ℝ) (w : Fin 256 → Fin 1024 → ℝ) (r : Fin R → Fin 32 → ℝ) (i : Fin R) (h : Fin 8) (k : ℕ) (hk : 64 + k < 96) :
    krow y f w r i h ⟨64 + k, hk⟩ = r i ⟨k, by omega⟩ := by
  rw [krow, dif_neg (by dsimp only; omega)]
  exact congrArg (r i) (Fin.ext (by dsimp only; omega))

theorem krow_at {R : ℕ} (y : Fin R → Fin 256 → ℝ) (f : Fin 1 → Fin 256 → ℝ) (w : Fin 256 → Fin 1024 → ℝ) (r : Fin R → Fin 32 → ℝ) (i : Fin R) (j : Fin 1024) (hj : j.val % 128 < 64) :
    krow y f w r i ⟨j.val / 128, by omega⟩ ⟨j.val % 128, by omega⟩ = ∑ e, y i e * rstd 256 (y i) * f 0 e * w e j := by
  rw [krow, dif_pos (by exact hj)]
  refine Finset.sum_congr rfl fun e _ => ?_
  exact congrArg (fun k => nrm 256 y f i e * w e k) (Fin.ext (by dsimp only; omega))

theorem krow_rs {R : ℕ} (y : Fin R → Fin 256 → ℝ) (f : Fin 1 → Fin 256 → ℝ) (w : Fin 256 → Fin 1024 → ℝ) (r : Fin R → Fin 32 → ℝ) (i : Fin R) (n : ℕ) (h : n < 8)
    (hl : ∀ k : Fin 64, n * 128 + k.val < 1024) :
    Ideal.rsqrt (((∑ k : Fin 64, (∑ e, y i e * rstd 256 (y i) * f 0 e * w e ⟨n * 128 + k.val, hl k⟩) * (∑ e, y i e * rstd 256 (y i) * f 0 e * w e ⟨n * 128 + k.val, hl k⟩)
      + ∑ k : Fin 32, r i k * r i k) / 96 + eps : ℝ) : EReal) = ((rstd 96 (krow y f w r i ⟨n, h⟩) : ℝ) : EReal) := by
  rw [← rsqrt_ms (by norm_num)]
  refine congrArg (fun s : ℝ => Ideal.rsqrt ((s / 96 + eps : ℝ) : EReal)) ?_
  refine Eq.symm ((Fin.sum_univ_add (a := 64) (b := 32) fun k : Fin (64 + 32) => krow y f w r i ⟨n, h⟩ k * krow y f w r i ⟨n, h⟩ k).trans ?_)
  refine congrArg₂ (· + ·) (Finset.sum_congr rfl fun k _ => ?_) (Finset.sum_congr rfl fun k _ => ?_)
  · have e : krow y f w r i ⟨n, h⟩ (Fin.castAdd 32 k) = ∑ e, y i e * rstd 256 (y i) * f 0 e * w e ⟨n * 128 + k.val, hl k⟩ := dif_pos k.isLt
    rw [e]
  · have e : krow y f w r i ⟨n, h⟩ (Fin.natAdd 64 k) = r i k := krow_ge y f w r i ⟨n, h⟩ k.val _
    rw [e]

set_option maxHeartbeats 2000000 in
theorem q_ref (m : (ℓ : Loc nD τ sig) → Buf (Elt Ideal) ℓ) (c : Dev nD) (x : Fin 8192 → Fin 384 → ℝ) (g : Fin 1 → Fin 384 → ℝ) (w : Fin 384 → Fin 768 → ℝ) (a : Fin 1 → Fin 96 → ℝ)
    (h0 : m ((c : Thread nD τ).loc main_arg0) = mat .f32 x) (h4 : m ((c : Thread nD τ).loc main_arg4) = mat .f32 g)
    (h5 : m ((c : Thread nD τ).loc main_arg5) = mat .f32 w) (h8 : m ((c : Thread nD τ).loc main_arg8) = mat .f32 a) :
    Value.res_main_v139 m c = mat .bf16 (queries x g w a fun i => ((m ((c : Thread nD τ).loc main_arg3) (ix1 i) : BitVec 32).toInt : ℝ)) := by
  unfold Value.res_main_v139
  rw [h0, h4, h5, h8]
  clean_types
  funext i
  idx_vars i
  rw [mat_at]
  pointwise []
  clear h0 h4 h5 h8
  by_cases p : i1.val % 128 < 96
  · refine (dif_pos p).trans ?_
    simp (disch := first | omega | norm_num) only [mat_at, ← EReal.coe_mul, ← EReal.coe_add, ← EReal.coe_sub, coe_sum, w_eps, w_384, w_96, div_ne, rsqrt_ms, ang_at, cos_at, sin_at, coe_dite, scale_at]
    have e := queries_of_lt x g w a (fun i => ((m ((c : Thread nD τ).loc main_arg3) (ix1 i) : BitVec 32).toInt : ℝ)) i0 i1 p
    simp only [hn, qrow, nrm] at e
    exact congrArg Real.toEReal e.symm
  · refine (dif_neg p).trans ?_
    rw [queries, turned, dif_neg p, zero_mul]
    exact EReal.coe_zero.symm

set_option maxHeartbeats 2000000 in
theorem k_ref (m : (ℓ : Loc nD τ sig) → Buf (Elt Ideal) ℓ) (c : Dev nD) (y : Fin 8192 → Fin 256 → ℝ) (f : Fin 1 → Fin 256 → ℝ) (w : Fin 256 → Fin 1024 → ℝ) (r : Fin 8192 → Fin 32 → ℝ)
    (a : Fin 1 → Fin 96 → ℝ)
    (h1 : m ((c : Thread nD τ).loc main_arg1) = mat .f32 y) (h2 : m ((c : Thread nD τ).loc main_arg2) = mat .f32 r) (h6 : m ((c : Thread nD τ).loc main_arg6) = mat .f32 f)
    (h7 : m ((c : Thread nD τ).loc main_arg7) = mat .f32 w) (h9 : m ((c : Thread nD τ).loc main_arg9) = mat .f32 a) :
    Value.res_main_v143 m c = mat .bf16 (keys y f w r a fun i => ((m ((c : Thread nD τ).loc main_arg3) (ix1 i) : BitVec 32).toInt : ℝ)) := by
  unfold Value.res_main_v143
  rw [h1, h2, h6, h7, h9]
  clean_types
  funext i
  idx_vars i
  rw [mat_at]
  pointwise []
  clear h1 h2 h6 h7 h9
  by_cases p : i1.val % 128 < 96
  · refine (dif_pos p).trans ?_
    simp (disch := first | omega | norm_num) only [mat_at, ← EReal.coe_mul, ← EReal.coe_add, ← EReal.coe_sub, coe_sum, w_eps, w_256, w_96, div_ne, rsqrt_ms, ang_at, cos_at, sin_at, coe_dite, krow_rs]
    have e := keys_of_lt y f w r a (fun i => ((m ((c : Thread nD τ).loc main_arg3) (ix1 i) : BitVec 32).toInt : ℝ)) i0 i1 p
    simp only [hn, krow_ge] at e
    refine congrArg Real.toEReal (Eq.trans ?_ e.symm)
    by_cases b : i1.val % 128 < 64
    · simp only [dif_pos b, krow_at _ _ _ _ _ i1 b]
    · simp only [dif_neg b]
  · refine (dif_neg p).trans ?_
    rw [keys, turned, dif_neg p]
    exact EReal.coe_zero.symm

set_option maxHeartbeats 1000000 in
/-- The reference's results are the model's, for finite arguments. -/
theorem run (m : (ℓ : Loc nD τ sig) → Buf (Elt Ideal) ℓ) (ρ : Dev nD → PrngReg)
    (x : Dev nD → Fin 8192 → Fin 384 → ℝ) (y : Dev nD → Fin 8192 → Fin 256 → ℝ) (r : Dev nD → Fin 8192 → Fin 32 → ℝ) (g : Dev nD → Fin 1 → Fin 384 → ℝ)
    (u : Dev nD → Fin 384 → Fin 768 → ℝ) (f : Dev nD → Fin 1 → Fin 256 → ℝ) (w : Dev nD → Fin 256 → Fin 1024 → ℝ) (a b : Dev nD → Fin 1 → Fin 96 → ℝ)
    (p : Dev nD → Fin 8192 → ℝ)
    (h0 : ∀ c : Dev nD, m ((c : Thread nD τ).loc main_arg0) = mat .f32 (x c))
    (h1 : ∀ c : Dev nD, m ((c : Thread nD τ).loc main_arg1) = mat .f32 (y c))
    (h2 : ∀ c : Dev nD, m ((c : Thread nD τ).loc main_arg2) = mat .f32 (r c))
    (h4 : ∀ c : Dev nD, m ((c : Thread nD τ).loc main_arg4) = mat .f32 (g c))
    (h5 : ∀ c : Dev nD, m ((c : Thread nD τ).loc main_arg5) = mat .f32 (u c))
    (h6 : ∀ c : Dev nD, m ((c : Thread nD τ).loc main_arg6) = mat .f32 (f c))
    (h7 : ∀ c : Dev nD, m ((c : Thread nD τ).loc main_arg7) = mat .f32 (w c))
    (h8 : ∀ c : Dev nD, m ((c : Thread nD τ).loc main_arg8) = mat .f32 (a c))
    (h9 : ∀ c : Dev nD, m ((c : Thread nD τ).loc main_arg9) = mat .f32 (b c))
    (h3 : ∀ c : Dev nD, (fun i => ((m ((c : Thread nD τ).loc main_arg3) (ix1 i) : BitVec 32).toInt : ℝ)) = p c) :
    θ_run defs (onTc (τ := τ) (main (F := Ideal))) ⟨m, fun _ => 0, ρ⟩ fun z => ∀ c : Dev nD,
      z.2.mem ((c : Thread nD τ).loc main_v139) = mat .bf16 (queries (x c) (g c) (u c) (a c) (p c))
      ∧ z.2.mem ((c : Thread nD τ).loc main_v143) = mat .bf16 (keys (y c) (f c) (w c) (r c) (b c) (p c))
      ∧ z.2.mem ((c : Thread nD τ).loc main_v145) = mat .bf16 (vals (y c) (f c) (w c))
      ∧ z.2.mem ((c : Thread nD τ).loc main_v146) = mat .bf16 (nrm 384 (x c) (g c))
      ∧ z.2.mem ((c : Thread nD τ).loc main_v147) = mat .bf16 (nrm 256 (y c) (f c))
      ∧ z.2.mem ((c : Thread nD τ).loc main_arg0) = m ((c : Thread nD τ).loc main_arg0)
      ∧ z.2.mem ((c : Thread nD τ).loc main_arg1) = m ((c : Thread nD τ).loc main_arg1)
      ∧ z.2.mem ((c : Thread nD τ).loc main_arg2) = m ((c : Thread nD τ).loc main_arg2)
      ∧ z.2.mem ((c : Thread nD τ).loc main_arg3) = m ((c : Thread nD τ).loc main_arg3)
      ∧ z.2.mem ((c : Thread nD τ).loc main_arg4) = m ((c : Thread nD τ).loc main_arg4)
      ∧ z.2.mem ((c : Thread nD τ).loc main_arg5) = m ((c : Thread nD τ).loc main_arg5)
      ∧ z.2.mem ((c : Thread nD τ).loc main_arg6) = m ((c : Thread nD τ).loc main_arg6)
      ∧ z.2.mem ((c : Thread nD τ).loc main_arg7) = m ((c : Thread nD τ).loc main_arg7)
      ∧ z.2.mem ((c : Thread nD τ).loc main_arg8) = m ((c : Thread nD τ).loc main_arg8)
      ∧ z.2.mem ((c : Thread nD τ).loc main_arg9) = m ((c : Thread nD τ).loc main_arg9) := by
  refine (θ_run defs _ _).mono (fun z h c => ?_) (Value.run m ρ)
  obtain ⟨e0, e1, e2, e3, e4, hargs⟩ := h c
  refine ⟨e0.trans ?_, e1.trans ?_, e2.trans ?_, e3.trans ?_, e4.trans ?_, hargs⟩
  · exact (q_ref m c _ _ _ _ (h0 c) (h4 c) (h5 c) (h8 c)).trans (congrArg (fun p => mat .bf16 (queries (x c) (g c) (u c) (a c) p)) (h3 c))
  · exact (k_ref m c _ _ _ _ _ (h1 c) (h2 c) (h6 c) (h7 c) (h9 c)).trans (congrArg (fun p => mat .bf16 (keys (y c) (f c) (w c) (r c) (b c) p)) (h3 c))
  · rw [h1, h6, h7]
    clean_types
    funext i
    idx_vars i
    pointwise []
    simp (disch := norm_num) only [mat_at, ← EReal.coe_mul, ← EReal.coe_add, coe_sum, w_eps, w_256, div_ne, rsqrt_ms]
    by_cases p : i1.val % 128 < 64
    · rw [vals_of_lt _ _ _ _ i1 p]
      have e : (⟨i1.val / 128 * 128 + (64 + i1.val % 128), by omega⟩ : Fin 1024) = ⟨i1.val + 64, by omega⟩ := Fin.ext (by dsimp only; omega)
      exact (dif_pos p).trans (by rw [e]; rfl)
    · refine (dif_neg p).trans ?_
      by_cases q : i1.val % 128 - 64 < 1
      · rw [vals_of_eq _ _ _ _ i1 (by omega)]
        exact (dif_pos q).trans EReal.coe_one.symm
      · rw [vals_of_gt _ _ _ _ i1 (by omega)]
        exact (dif_neg q).trans EReal.coe_zero.symm
  · rw [h0, h4]
    clean_types
    funext i
    idx_vars i
    pointwise []
    simp (disch := norm_num) only [mat_at, ← EReal.coe_mul, ← EReal.coe_add, coe_sum, w_eps, w_384, div_ne, rsqrt_ms]
    rfl
  · rw [h1, h6]
    clean_types
    funext i
    idx_vars i
    pointwise []
    simp (disch := norm_num) only [mat_at, ← EReal.coe_mul, ← EReal.coe_add, coe_sum, w_eps, w_256, div_ne, rsqrt_ms]
    rfl

end Cert.Reference15Ideal.MlaPrep

end
-- ==== Proof.MlaPrepClaim.lean ====
module

public import proofs.«01_k».proof.Defs
public import proofs.«01_k».proof.Proof.Gen.Pre_finite15
public import proofs.«01_k».proof.Proof.Finite
public import proofs.«01_k».proof.Proof.MlaPrep
public import proofs.«01_k».proof.Proof.MlaPrepRef

/-! The call that prepares the attention: the reference's frame, and equal values for finite arguments. -/

@[expose] public section

set_option maxRecDepth 16384

noncomputable section

open Idealize.ShloMosaic Idealize.ShloMosaic.TcCoe Idealize.SL.Sem

namespace Cert.MlaPrep

open Lift

theorem frame_reference : Cert.quiescent_Reference15Ideal := fun m ρ _ =>
  (θ_run Cert.Reference15Ideal.defs _ _).mono (fun r h => ⟨fun c => (h c).2.2.2.2.2, sem_eq_zero_of_no_sems (by decide) r.2⟩)
    (Cert.Reference15Ideal.Value.run (F := Ideal) m ρ)

/-- Finite arguments are arrays of real numbers. -/
theorem real (m : (ℓ : Loc Cert.Kernel15Ideal.nD Cert.Kernel15Ideal.τ Cert.Kernel15Ideal.sig) → Buf (Elt Ideal) ℓ)
    (h : Cert.Pre_Kernel15Ideal_finite15 m) (c : Dev Cert.Kernel15Ideal.nD) :
    ∃ x y r g u f w a b, m ((c.tc : Thread Cert.Kernel15Ideal.nD Cert.Kernel15Ideal.τ).loc Cert.Kernel15Ideal.main_arg0) = mat .f32 x
      ∧ m ((c.tc : Thread Cert.Kernel15Ideal.nD Cert.Kernel15Ideal.τ).loc Cert.Kernel15Ideal.main_arg1) = mat .f32 y
      ∧ m ((c.tc : Thread Cert.Kernel15Ideal.nD Cert.Kernel15Ideal.τ).loc Cert.Kernel15Ideal.main_arg2) = mat .f32 r
      ∧ m ((c.tc : Thread Cert.Kernel15Ideal.nD Cert.Kernel15Ideal.τ).loc Cert.Kernel15Ideal.main_arg4) = mat .f32 g
      ∧ m ((c.tc : Thread Cert.Kernel15Ideal.nD Cert.Kernel15Ideal.τ).loc Cert.Kernel15Ideal.main_arg5) = mat .f32 u
      ∧ m ((c.tc : Thread Cert.Kernel15Ideal.nD Cert.Kernel15Ideal.τ).loc Cert.Kernel15Ideal.main_arg6) = mat .f32 f
      ∧ m ((c.tc : Thread Cert.Kernel15Ideal.nD Cert.Kernel15Ideal.τ).loc Cert.Kernel15Ideal.main_arg7) = mat .f32 w
      ∧ m ((c.tc : Thread Cert.Kernel15Ideal.nD Cert.Kernel15Ideal.τ).loc Cert.Kernel15Ideal.main_arg8) = mat .f32 a
      ∧ m ((c.tc : Thread Cert.Kernel15Ideal.nD Cert.Kernel15Ideal.τ).loc Cert.Kernel15Ideal.main_arg9) = mat .f32 b := by
  have e := congrFun (h c) ix0
  unfold Cert.Pre_finite15.fn Cert.Pre_finite15.fn_part1 Cert.Pre_finite15.fn_part2 at e
  simp only [and_one] at e
  obtain ⟨⟨⟨⟨⟨⟨⟨⟨e0, e1⟩, e2⟩, e3⟩, e4⟩, e5⟩, e6⟩, e7⟩, e8⟩ := e
  exact ⟨_, _, _, _, _, _, _, _, _, mat_of_finite _ _ _ _ _ e0, mat_of_finite _ _ _ _ _ e1, mat_of_finite _ _ _ _ _ e2, mat_of_finite _ _ _ _ _ e3, mat_of_finite _ _ _ _ _ e4, mat_of_finite _ _ _ _ _ e5, mat_of_finite _ _ _ _ _ e6, mat_of_finite _ _ _ _ _ e7, mat_of_finite _ _ _ _ _ e8⟩

theorem preserves : Cert.preserves_Kernel15_Kernel15Ideal :=
  ⟨⟨rfl, fun _ => rfl, rfl⟩, ⟨rfl, fun _ => rfl, rfl⟩, rfl, fun _ => rfl, rfl⟩

theorem algebraic : Cert.algebraic_Kernel15Ideal_Reference15Ideal_pre_finite15 := by
  intro m ρ m' ρ' hpre hag
  choose x y r g u f w a b h0 h1 h2 h4 h5 h6 h7 h8 h9 using real m hpre
  refine ⟨_, _, _, _, _, Cert.Kernel15Ideal.MlaPrep.run m ρ x y r g u f w a b h0 h1 h2 h4 h5 h6 h7 h8 h9, ?_⟩
  exact Cert.Reference15Ideal.MlaPrep.run m' ρ' x y r g u f w a b (Cert.Kernel15Ideal.MlaPrep.pos m)
    (fun c => (hag c).1.trans (h0 c))
    (fun c => (hag c).2.1.trans (h1 c))
    (fun c => (hag c).2.2.1.trans (h2 c))
    (fun c => (hag c).2.2.2.2.1.trans (h4 c))
    (fun c => (hag c).2.2.2.2.2.1.trans (h5 c))
    (fun c => (hag c).2.2.2.2.2.2.1.trans (h6 c))
    (fun c => (hag c).2.2.2.2.2.2.2.1.trans (h7 c))
    (fun c => (hag c).2.2.2.2.2.2.2.2.1.trans (h8 c))
    (fun c => (hag c).2.2.2.2.2.2.2.2.2.trans (h9 c))
    (fun c => funext fun i => congrArg (fun v => ((v (ix1 i) : BitVec 32).toInt : ℝ)) (hag c).2.2.2.1)

end Cert.MlaPrep

end
-- ==== Proof.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite4
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite5
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite7
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite8
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite9
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_finite10
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Pre_finite11
public import proofs.«01_k».proof.Proof.Gen.Kernel12
public import proofs.«01_k».proof.Proof.Gen.Kernel12.Skeleton
public import proofs.«01_k».proof.Proof.Gen.Kernel12.Launch
public import proofs.«01_k».proof.Proof.Gen.Kernel12.Flash
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Flash
public import proofs.«01_k».proof.Proof.Gen.Reference12Ideal
public import proofs.«01_k».proof.Proof.Gen.Reference12Ideal.Run
public import proofs.«01_k».proof.Proof.Gen.Pre_causal12
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Pre_finite13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Pre_finite14
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Pre_finite15
public import proofs.«01_k».proof.Defs
public import proofs.«01_k».proof.Proof.MemKvClaim
public import proofs.«01_k».proof.Proof.MemAttnClaim
public import proofs.«01_k».proof.Proof.MergeClaim
public import proofs.«01_k».proof.Proof.ProjNormClaim
public import proofs.«01_k».proof.Proof.FfnGateClaim
public import proofs.«01_k».proof.Proof.FfnNormClaim
public import proofs.«01_k».proof.Proof.SguClaim
public import proofs.«01_k».proof.Proof.MemKvFwdClaim
public import proofs.«01_k».proof.Proof.MemAttnFwdClaim
public import proofs.«01_k».proof.Proof.MergeFwdClaim
public import proofs.«01_k».proof.Proof.SguFwdClaim
public import proofs.«01_k».proof.Proof.AttnFwdClaim
public import proofs.«01_k».proof.Proof.FfnFwdClaim
public import proofs.«01_k».proof.Proof.FfnLossClaim
public import proofs.«01_k».proof.Proof.MlaPrepClaim
public import Idealize.ShloMosaic.Adequacy
public import Idealize.ShloMosaic.Init

@[expose] public section

noncomputable section

namespace Cert.Proof

open Idealize.ShloMosaic Idealize.SL.Sem Cert.Kernel

/-- Every claim of the certificate: the facts of the programs, then each call's frames, then each call's equation. -/
theorem claim : Cert.Claim :=
  ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel2.Gen.facts, Cert.Kernel2Ideal.Gen.facts, Cert.Reference2Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite.Gen.facts, Cert.Pre_finite3.Gen.facts, Cert.Pre_finite4.Gen.facts, Cert.Pre_finite5.Gen.facts, Cert.Pre_finite6.Gen.facts, Cert.Pre_finite7.Gen.facts, Cert.Pre_finite2.Gen.facts, Cert.Pre_finite8.Gen.facts, Cert.Pre_finite9.Gen.facts, Cert.Pre_finite10.Gen.facts, Cert.Pre_finite11.Gen.facts, Cert.Pre_causal12.Gen.facts, Cert.Pre_finite13.Gen.facts, Cert.Pre_finite14.Gen.facts, Cert.Pre_finite15.Gen.facts,
  fun m ρ _ => Cert.Kernel.Gen.frame m ρ, fun m ρ _ => Cert.KernelIdeal.Gen.frame m ρ, fun m ρ _ => Cert.KernelIdeal.Gen.frame m ρ,
  Cert.MemKv.frame_reference, fun m ρ _ => Cert.MemKv.frame_reference m ρ trivial,
  fun m ρ _ => Cert.Kernel3.Gen.frame m ρ, fun m ρ _ => Cert.Kernel3Ideal.Gen.frame m ρ, fun m ρ _ => Cert.Kernel3Ideal.Gen.frame m ρ,
  Cert.MemAttn.frame_reference, fun m ρ _ => Cert.MemAttn.frame_reference m ρ trivial,
  fun m ρ _ => Cert.Kernel4.Gen.frame m ρ, fun m ρ _ => Cert.Kernel4Ideal.Gen.frame m ρ, fun m ρ _ => Cert.Kernel4Ideal.Gen.frame m ρ,
  Cert.Merge.frame_reference, fun m ρ _ => Cert.Merge.frame_reference m ρ trivial,
  fun m ρ _ => Cert.Kernel5.Gen.frame m ρ, fun m ρ _ => Cert.Kernel5Ideal.Gen.frame m ρ, fun m ρ _ => Cert.Kernel5Ideal.Gen.frame m ρ,
  Cert.ProjNorm.frame_reference, fun m ρ _ => Cert.ProjNorm.frame_reference m ρ trivial,
  fun m ρ _ => Cert.Kernel6.Gen.frame m ρ, fun m ρ _ => Cert.Kernel6Ideal.Gen.frame m ρ, fun m ρ _ => Cert.Kernel6Ideal.Gen.frame m ρ,
  Cert.FfnGate.frame_reference, fun m ρ _ => Cert.FfnGate.frame_reference m ρ trivial,
  fun m ρ _ => Cert.Kernel7.Gen.frame m ρ, fun m ρ _ => Cert.Kernel7Ideal.Gen.frame m ρ, fun m ρ _ => Cert.Kernel7Ideal.Gen.frame m ρ,
  Cert.FfnNorm.frame_reference, fun m ρ _ => Cert.FfnNorm.frame_reference m ρ trivial,
  fun m ρ _ => Cert.Kernel2.Gen.frame m ρ, fun m ρ _ => Cert.Kernel2Ideal.Gen.frame m ρ, fun m ρ _ => Cert.Kernel2Ideal.Gen.frame m ρ,
  Cert.Sgu.frame_reference, fun m ρ _ => Cert.Sgu.frame_reference m ρ trivial,
  fun m ρ _ => Cert.Kernel8.Gen.frame m ρ, fun m ρ _ => Cert.Kernel8Ideal.Gen.frame m ρ, fun m ρ _ => Cert.Kernel8Ideal.Gen.frame m ρ,
  Cert.MemKvFwd.frame_reference, fun m ρ _ => Cert.MemKvFwd.frame_reference m ρ trivial,
  fun m ρ _ => Cert.Kernel9.Gen.frame m ρ, fun m ρ _ => Cert.Kernel9Ideal.Gen.frame m ρ, fun m ρ _ => Cert.Kernel9Ideal.Gen.frame m ρ,
  Cert.MemAttnFwd.frame_reference, fun m ρ _ => Cert.MemAttnFwd.frame_reference m ρ trivial,
  fun m ρ _ => Cert.Kernel10.Gen.frame m ρ, fun m ρ _ => Cert.Kernel10Ideal.Gen.frame m ρ, fun m ρ _ => Cert.Kernel10Ideal.Gen.frame m ρ,
  Cert.MergeFwd.frame_reference, fun m ρ _ => Cert.MergeFwd.frame_reference m ρ trivial,
  fun m ρ _ => Cert.Kernel11.Gen.frame m ρ, fun m ρ _ => Cert.Kernel11Ideal.Gen.frame m ρ, fun m ρ _ => Cert.Kernel11Ideal.Gen.frame m ρ,
  Cert.SguFwd.frame_reference, fun m ρ _ => Cert.SguFwd.frame_reference m ρ trivial,
  fun m ρ h => Cert.Kernel12.Gen.frame 0 m ρ (Cert.AttnFwd.pinned_bits m h), fun m ρ h => Cert.Kernel12Ideal.Gen.frame 0 m ρ (Cert.AttnFwd.pinned m h),
  Cert.AttnFwd.frame_reference, fun m ρ _ => Cert.AttnFwd.frame_reference m ρ trivial,
  fun m ρ _ => Cert.Kernel13.Gen.frame m ρ, fun m ρ _ => Cert.Kernel13Ideal.Gen.frame m ρ, fun m ρ _ => Cert.Kernel13Ideal.Gen.frame m ρ,
  Cert.FfnFwd.frame_reference, fun m ρ _ => Cert.FfnFwd.frame_reference m ρ trivial,
  fun m ρ _ => Cert.Kernel14.Gen.frame m ρ, fun m ρ _ => Cert.Kernel14Ideal.Gen.frame m ρ, fun m ρ _ => Cert.Kernel14Ideal.Gen.frame m ρ,
  Cert.FfnLoss.frame_reference, fun m ρ _ => Cert.FfnLoss.frame_reference m ρ trivial,
  fun m ρ _ => Cert.Kernel15.Gen.frame m ρ, fun m ρ _ => Cert.Kernel15Ideal.Gen.frame m ρ, fun m ρ _ => Cert.Kernel15Ideal.Gen.frame m ρ,
  Cert.MlaPrep.frame_reference, fun m ρ _ => Cert.MlaPrep.frame_reference m ρ trivial,
  trivial, Cert.MemKv.algebraic,
  trivial, Cert.MemAttn.algebraic,
  trivial, Cert.Merge.algebraic,
  trivial, Cert.ProjNorm.algebraic,
  trivial, Cert.FfnGate.algebraic,
  trivial, Cert.FfnNorm.algebraic,
  Cert.Sgu.preserves, Cert.Sgu.algebraic,
  trivial, Cert.MemKvFwd.algebraic,
  trivial, Cert.MemAttnFwd.algebraic,
  trivial, Cert.MergeFwd.algebraic,
  Cert.SguFwd.preserves, Cert.SguFwd.algebraic,
  Cert.AttnFwd.preserves, Cert.AttnFwd.algebraic,
  trivial, Cert.FfnFwd.algebraic,
  trivial, Cert.FfnLoss.algebraic,
  Cert.MlaPrep.preserves, Cert.MlaPrep.algebraic⟩

end Cert.Proof

end
